-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_FfOne (m : (ℓ : Loc Cert.FfOne.nD Cert.FfOne.τ Cert.FfOne.sig) → Buf (Elt Bits) ℓ) : Prop :=
  True

def Pre_FfOneIdeal (m : (ℓ : Loc Cert.FfOneIdeal.nD Cert.FfOneIdeal.τ Cert.FfOneIdeal.sig) → Buf (Elt Ideal) ℓ) : Prop :=
  True

def Pre_FfOneReferenceIdeal (m : (ℓ : Loc Cert.FfOneReferenceIdeal.nD Cert.FfOneReferenceIdeal.τ Cert.FfOneReferenceIdeal.sig) → Buf (Elt Ideal) ℓ) : Prop :=
  True

def Pre_FfTwo (m : (ℓ : Loc Cert.FfTwo.nD Cert.FfTwo.τ Cert.FfTwo.sig) → Buf (Elt Bits) ℓ) : Prop :=
  True

def Pre_FfTwoIdeal (m : (ℓ : Loc Cert.FfTwoIdeal.nD Cert.FfTwoIdeal.τ Cert.FfTwoIdeal.sig) → Buf (Elt Ideal) ℓ) : Prop :=
  True

def Pre_FfTwoReferenceIdeal (m : (ℓ : Loc Cert.FfTwoReferenceIdeal.nD Cert.FfTwoReferenceIdeal.τ Cert.FfTwoReferenceIdeal.sig) → Buf (Elt Ideal) ℓ) : Prop :=
  True

def Pre_FfTwoDx (m : (ℓ : Loc Cert.FfTwoDx.nD Cert.FfTwoDx.τ Cert.FfTwoDx.sig) → Buf (Elt Bits) ℓ) : Prop :=
  True

def Pre_FfTwoDxIdeal (m : (ℓ : Loc Cert.FfTwoDxIdeal.nD Cert.FfTwoDxIdeal.τ Cert.FfTwoDxIdeal.sig) → Buf (Elt Ideal) ℓ) : Prop :=
  True

def Pre_FfTwoDxReferenceIdeal (m : (ℓ : Loc Cert.FfTwoDxReferenceIdeal.nD Cert.FfTwoDxReferenceIdeal.τ Cert.FfTwoDxReferenceIdeal.sig) → Buf (Elt Ideal) ℓ) : Prop :=
  True

def Pre_FfTwoDw (m : (ℓ : Loc Cert.FfTwoDw.nD Cert.FfTwoDw.τ Cert.FfTwoDw.sig) → Buf (Elt Bits) ℓ) : Prop :=
  True

def Pre_FfTwoDwIdeal (m : (ℓ : Loc Cert.FfTwoDwIdeal.nD Cert.FfTwoDwIdeal.τ Cert.FfTwoDwIdeal.sig) → Buf (Elt Ideal) ℓ) : Prop :=
  True

def Pre_FfTwoDwReferenceIdeal (m : (ℓ : Loc Cert.FfTwoDwReferenceIdeal.nD Cert.FfTwoDwReferenceIdeal.τ Cert.FfTwoDwReferenceIdeal.sig) → Buf (Elt Ideal) ℓ) : Prop :=
  True

def Pre_FfOneDw (m : (ℓ : Loc Cert.FfOneDw.nD Cert.FfOneDw.τ Cert.FfOneDw.sig) → Buf (Elt Bits) ℓ) : Prop :=
  True

def Pre_FfOneDwIdeal (m : (ℓ : Loc Cert.FfOneDwIdeal.nD Cert.FfOneDwIdeal.τ Cert.FfOneDwIdeal.sig) → Buf (Elt Ideal) ℓ) : Prop :=
  True

def Pre_FfOneDwReferenceIdeal (m : (ℓ : Loc Cert.FfOneDwReferenceIdeal.nD Cert.FfOneDwReferenceIdeal.τ Cert.FfOneDwReferenceIdeal.sig) → Buf (Elt Ideal) ℓ) : Prop :=
  True

def Pre_FfOneDx (m : (ℓ : Loc Cert.FfOneDx.nD Cert.FfOneDx.τ Cert.FfOneDx.sig) → Buf (Elt Bits) ℓ) : Prop :=
  True

def Pre_FfOneDxIdeal (m : (ℓ : Loc Cert.FfOneDxIdeal.nD Cert.FfOneDxIdeal.τ Cert.FfOneDxIdeal.sig) → Buf (Elt Ideal) ℓ) : Prop :=
  True

def Pre_FfOneDxReferenceIdeal (m : (ℓ : Loc Cert.FfOneDxReferenceIdeal.nD Cert.FfOneDxReferenceIdeal.τ Cert.FfOneDxReferenceIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwReferenceIdeal (m : (ℓ : Loc Cert.InDwReferenceIdeal.nD Cert.InDwReferenceIdeal.τ Cert.InDwReferenceIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxReferenceIdeal (m : (ℓ : Loc Cert.InDxReferenceIdeal.nD Cert.InDxReferenceIdeal.τ Cert.InDxReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamFfOne (m : (ℓ : Loc Cert.AdamFfOne.nD Cert.AdamFfOne.τ Cert.AdamFfOne.sig) → Buf (Elt Bits) ℓ) : Prop :=
  True

def Pre_AdamFfOneIdeal (m : (ℓ : Loc Cert.AdamFfOneIdeal.nD Cert.AdamFfOneIdeal.τ Cert.AdamFfOneIdeal.sig) → Buf (Elt Ideal) ℓ) : Prop :=
  True

def Pre_AdamFfOneReferenceIdeal (m : (ℓ : Loc Cert.AdamFfOneReferenceIdeal.nD Cert.AdamFfOneReferenceIdeal.τ Cert.AdamFfOneReferenceIdeal.sig) → Buf (Elt Ideal) ℓ) : Prop :=
  True

def Pre_AdamFfTwo (m : (ℓ : Loc Cert.AdamFfTwo.nD Cert.AdamFfTwo.τ Cert.AdamFfTwo.sig) → Buf (Elt Bits) ℓ) : Prop :=
  True

def Pre_AdamFfTwoIdeal (m : (ℓ : Loc Cert.AdamFfTwoIdeal.nD Cert.AdamFfTwoIdeal.τ Cert.AdamFfTwoIdeal.sig) → Buf (Elt Ideal) ℓ) : Prop :=
  True

def Pre_AdamFfTwoReferenceIdeal (m : (ℓ : Loc Cert.AdamFfTwoReferenceIdeal.nD Cert.AdamFfTwoReferenceIdeal.τ Cert.AdamFfTwoReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamMix (m : (ℓ : Loc Cert.AdamMix.nD Cert.AdamMix.τ Cert.AdamMix.sig) → Buf (Elt Bits) ℓ) : Prop :=
  True

def Pre_AdamMixIdeal (m : (ℓ : Loc Cert.AdamMixIdeal.nD Cert.AdamMixIdeal.τ Cert.AdamMixIdeal.sig) → Buf (Elt Ideal) ℓ) : Prop :=
  True

def Pre_AdamMixReferenceIdeal (m : (ℓ : Loc Cert.AdamMixReferenceIdeal.nD Cert.AdamMixReferenceIdeal.τ Cert.AdamMixReferenceIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaReferenceIdeal (m : (ℓ : Loc Cert.AdamAdaReferenceIdeal.nD Cert.AdamAdaReferenceIdeal.τ Cert.AdamAdaReferenceIdeal.sig) → Buf (Elt Ideal) ℓ) : Prop :=
  True

def Pre_AdamLate (m : (ℓ : Loc Cert.AdamLate.nD Cert.AdamLate.τ Cert.AdamLate.sig) → Buf (Elt Bits) ℓ) : Prop :=
  True

def Pre_AdamLateIdeal (m : (ℓ : Loc Cert.AdamLateIdeal.nD Cert.AdamLateIdeal.τ Cert.AdamLateIdeal.sig) → Buf (Elt Ideal) ℓ) : Prop :=
  True

def Pre_AdamLateReferenceIdeal (m : (ℓ : Loc Cert.AdamLateReferenceIdeal.nD Cert.AdamLateReferenceIdeal.τ Cert.AdamLateReferenceIdeal.sig) → Buf (Elt Ideal) ℓ) : Prop :=
  True

def Pre_ScanIdeal (m : (ℓ : Loc Cert.ScanIdeal.nD Cert.ScanIdeal.τ Cert.ScanIdeal.sig) → Buf (Elt Ideal) ℓ) : Prop :=
  True

def Pre_ScanIdeal_finite [hPre_finite : Cert.Pre_finite.Facts] (m : (ℓ : Loc Cert.ScanIdeal.nD Cert.ScanIdeal.τ Cert.ScanIdeal.sig) → Buf (Elt Ideal) ℓ) : Prop :=
  ∀ c : Dev Cert.ScanIdeal.nD,
    (Cert.Pre_finite.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6)) (m ((c.tc : Thread Cert.ScanIdeal.nD Cert.ScanIdeal.τ).loc Cert.ScanIdeal.main_arg7)) (m ((c.tc : Thread Cert.ScanIdeal.nD Cert.ScanIdeal.τ).loc Cert.ScanIdeal.main_arg8)) (m ((c.tc : Thread Cert.ScanIdeal.nD Cert.ScanIdeal.τ).loc Cert.ScanIdeal.main_arg9)) (m ((c.tc : Thread Cert.ScanIdeal.nD Cert.ScanIdeal.τ).loc Cert.ScanIdeal.main_arg10)) (m ((c.tc : Thread Cert.ScanIdeal.nD Cert.ScanIdeal.τ).loc Cert.ScanIdeal.main_arg11)) (m ((c.tc : Thread Cert.ScanIdeal.nD Cert.ScanIdeal.τ).loc Cert.ScanIdeal.main_arg12))) = (fun _ => 1#1)

def Pre_ScanReferenceIdeal (m : (ℓ : Loc Cert.ScanReferenceIdeal.nD Cert.ScanReferenceIdeal.τ Cert.ScanReferenceIdeal.sig) → Buf (Elt Ideal) ℓ) : Prop :=
  True

def Pre_ScanReferenceIdeal_finite [hPre_finite : Cert.Pre_finite.Facts] (m : (ℓ : Loc Cert.ScanReferenceIdeal.nD Cert.ScanReferenceIdeal.τ Cert.ScanReferenceIdeal.sig) → Buf (Elt Ideal) ℓ) : Prop :=
  ∀ c : Dev Cert.ScanReferenceIdeal.nD,
    (Cert.Pre_finite.fn (F := Ideal) (m ((c.tc : Thread Cert.ScanReferenceIdeal.nD Cert.ScanReferenceIdeal.τ).loc Cert.ScanReferenceIdeal.main_arg0)) (m ((c.tc : Thread Cert.ScanReferenceIdeal.nD Cert.ScanReferenceIdeal.τ).loc Cert.ScanReferenceIdeal.main_arg1)) (m ((c.tc : Thread Cert.ScanReferenceIdeal.nD Cert.ScanReferenceIdeal.τ).loc Cert.ScanReferenceIdeal.main_arg2)) (m ((c.tc : Thread Cert.ScanReferenceIdeal.nD Cert.ScanReferenceIdeal.τ).loc Cert.ScanReferenceIdeal.main_arg3)) (m ((c.tc : Thread Cert.ScanReferenceIdeal.nD Cert.ScanReferenceIdeal.τ).loc Cert.ScanReferenceIdeal.main_arg4)) (m ((c.tc : Thread Cert.ScanReferenceIdeal.nD Cert.ScanReferenceIdeal.τ).loc Cert.ScanReferenceIdeal.main_arg5)) (m ((c.tc : Thread Cert.ScanReferenceIdeal.nD Cert.ScanReferenceIdeal.τ).loc Cert.ScanReferenceIdeal.main_arg6)) (m ((c.tc : Thread Cert.ScanReferenceIdeal.nD Cert.ScanReferenceIdeal.τ).loc Cert.ScanReferenceIdeal.main_arg7)) (m ((c.tc : Thread Cert.ScanReferenceIdeal.nD Cert.ScanReferenceIdeal.τ).loc Cert.ScanReferenceIdeal.main_arg8)) (m ((c.tc : Thread Cert.ScanReferenceIdeal.nD Cert.ScanReferenceIdeal.τ).loc Cert.ScanReferenceIdeal.main_arg9)) (m ((c.tc : Thread Cert.ScanReferenceIdeal.nD Cert.ScanReferenceIdeal.τ).loc Cert.ScanReferenceIdeal.main_arg10)) (m ((c.tc : Thread Cert.ScanReferenceIdeal.nD Cert.ScanReferenceIdeal.τ).loc Cert.ScanReferenceIdeal.main_arg11)) (m ((c.tc : Thread Cert.ScanReferenceIdeal.nD Cert.ScanReferenceIdeal.τ).loc Cert.ScanReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_FfOne [hFfOne : Cert.FfOne.Facts] : Prop :=
  ∀ (m : (ℓ : Loc Cert.FfOne.nD Cert.FfOne.τ Cert.FfOne.sig) → Buf (Elt Bits) ℓ) (g : Dev Cert.FfOne.nD → PrngReg), Pre_FfOne m →
    θ_run (Cert.FfOne.defs (F := Bits)) (onTc (τ := Cert.FfOne.τ) (Cert.FfOne.main (F := Bits))) ⟨m, fun _ => 0, g⟩ (fun r => (∀ c : Dev Cert.FfOne.nD,
      r.2.mem ((c.tc : Thread Cert.FfOne.nD Cert.FfOne.τ).loc Cert.FfOne.main_arg0) = m ((c.tc : Thread Cert.FfOne.nD Cert.FfOne.τ).loc Cert.FfOne.main_arg0)
      ∧ r.2.mem ((c.tc : Thread Cert.FfOne.nD Cert.FfOne.τ).loc Cert.FfOne.main_arg1) = m ((c.tc : Thread Cert.FfOne.nD Cert.FfOne.τ).loc Cert.FfOne.main_arg1))
      ∧ r.2.sem = fun _ => 0)

def quiescent_FfOneIdeal [hFfOneIdeal : Cert.FfOneIdeal.Facts] : Prop :=
  ∀ (m : (ℓ : Loc Cert.FfOneIdeal.nD Cert.FfOneIdeal.τ Cert.FfOneIdeal.sig) → Buf (Elt Ideal) ℓ) (g : Dev Cert.FfOneIdeal.nD → PrngReg), Pre_FfOneIdeal m →
    θ_run (Cert.FfOneIdeal.defs (F := Ideal)) (onTc (τ := Cert.FfOneIdeal.τ) (Cert.FfOneIdeal.main (F := Ideal))) ⟨m, fun _ => 0, g⟩ (fun r => (∀ c : Dev Cert.FfOneIdeal.nD,
      r.2.mem ((c.tc : Thread Cert.FfOneIdeal.nD Cert.FfOneIdeal.τ).loc Cert.FfOneIdeal.main_arg0) = m ((c.tc : Thread Cert.FfOneIdeal.nD Cert.FfOneIdeal.τ).loc Cert.FfOneIdeal.main_arg0)
      ∧ r.2.mem ((c.tc : Thread Cert.FfOneIdeal.nD Cert.FfOneIdeal.τ).loc Cert.FfOneIdeal.main_arg1) = m ((c.tc : Thread Cert.FfOneIdeal.nD Cert.FfOneIdeal.τ).loc Cert.FfOneIdeal.main_arg1))
      ∧ r.2.sem = fun _ => 0)

def quiescent_FfOneReferenceIdeal [hFfOneReferenceIdeal : Cert.FfOneReferenceIdeal.Facts] : Prop :=
  ∀ (m : (ℓ : Loc Cert.FfOneReferenceIdeal.nD Cert.FfOneReferenceIdeal.τ Cert.FfOneReferenceIdeal.sig) → Buf (Elt Ideal) ℓ) (g : Dev Cert.FfOneReferenceIdeal.nD → PrngReg), Pre_FfOneReferenceIdeal m →
    θ_run (Cert.FfOneReferenceIdeal.defs (F := Ideal)) (onTc (τ := Cert.FfOneReferenceIdeal.τ) (Cert.FfOneReferenceIdeal.main (F := Ideal))) ⟨m, fun _ => 0, g⟩ (fun r => (∀ c : Dev Cert.FfOneReferenceIdeal.nD,
      r.2.mem ((c.tc : Thread Cert.FfOneReferenceIdeal.nD Cert.FfOneReferenceIdeal.τ).loc Cert.FfOneReferenceIdeal.main_arg0) = m ((c.tc : Thread Cert.FfOneReferenceIdeal.nD Cert.FfOneReferenceIdeal.τ).loc Cert.FfOneReferenceIdeal.main_arg0)
      ∧ r.2.mem ((c.tc : Thread Cert.FfOneReferenceIdeal.nD Cert.FfOneReferenceIdeal.τ).loc Cert.FfOneReferenceIdeal.main_arg1) = m ((c.tc : Thread Cert.FfOneReferenceIdeal.nD Cert.FfOneReferenceIdeal.τ).loc Cert.FfOneReferenceIdeal.main_arg1))
      ∧ r.2.sem = fun _ => 0)

def quiescent_FfTwo [hFfTwo : Cert.FfTwo.Facts] : Prop :=
  ∀ (m : (ℓ : Loc Cert.FfTwo.nD Cert.FfTwo.τ Cert.FfTwo.sig) → Buf (Elt Bits) ℓ) (g : Dev Cert.FfTwo.nD → PrngReg), Pre_FfTwo m →
    θ_run (Cert.FfTwo.defs (F := Bits)) (onTc (τ := Cert.FfTwo.τ) (Cert.FfTwo.main (F := Bits))) ⟨m, fun _ => 0, g⟩ (fun r => (∀ c : Dev Cert.FfTwo.nD,
      r.2.mem ((c.tc : Thread Cert.FfTwo.nD Cert.FfTwo.τ).loc Cert.FfTwo.main_arg0) = m ((c.tc : Thread Cert.FfTwo.nD Cert.FfTwo.τ).loc Cert.FfTwo.main_arg0)
      ∧ r.2.mem ((c.tc : Thread Cert.FfTwo.nD Cert.FfTwo.τ).loc Cert.FfTwo.main_arg1) = m ((c.tc : Thread Cert.FfTwo.nD Cert.FfTwo.τ).loc Cert.FfTwo.main_arg1))
      ∧ r.2.sem = fun _ => 0)

def quiescent_FfTwoIdeal [hFfTwoIdeal : Cert.FfTwoIdeal.Facts] : Prop :=
  ∀ (m : (ℓ : Loc Cert.FfTwoIdeal.nD Cert.FfTwoIdeal.τ Cert.FfTwoIdeal.sig) → Buf (Elt Ideal) ℓ) (g : Dev Cert.FfTwoIdeal.nD → PrngReg), Pre_FfTwoIdeal m →
    θ_run (Cert.FfTwoIdeal.defs (F := Ideal)) (onTc (τ := Cert.FfTwoIdeal.τ) (Cert.FfTwoIdeal.main (F := Ideal))) ⟨m, fun _ => 0, g⟩ (fun r => (∀ c : Dev Cert.FfTwoIdeal.nD,
      r.2.mem ((c.tc : Thread Cert.FfTwoIdeal.nD Cert.FfTwoIdeal.τ).loc Cert.FfTwoIdeal.main_arg0) = m ((c.tc : Thread Cert.FfTwoIdeal.nD Cert.FfTwoIdeal.τ).loc Cert.FfTwoIdeal.main_arg0)
      ∧ r.2.mem ((c.tc : Thread Cert.FfTwoIdeal.nD Cert.FfTwoIdeal.τ).loc Cert.FfTwoIdeal.main_arg1) = m ((c.tc : Thread Cert.FfTwoIdeal.nD Cert.FfTwoIdeal.τ).loc Cert.FfTwoIdeal.main_arg1))
      ∧ r.2.sem = fun _ => 0)

def quiescent_FfTwoReferenceIdeal [hFfTwoReferenceIdeal : Cert.FfTwoReferenceIdeal.Facts] : Prop :=
  ∀ (m : (ℓ : Loc Cert.FfTwoReferenceIdeal.nD Cert.FfTwoReferenceIdeal.τ Cert.FfTwoReferenceIdeal.sig) → Buf (Elt Ideal) ℓ) (g : Dev Cert.FfTwoReferenceIdeal.nD → PrngReg), Pre_FfTwoReferenceIdeal m →
    θ_run (Cert.FfTwoReferenceIdeal.defs (F := Ideal)) (onTc (τ := Cert.FfTwoReferenceIdeal.τ) (Cert.FfTwoReferenceIdeal.main (F := Ideal))) ⟨m, fun _ => 0, g⟩ (fun r => (∀ c : Dev Cert.FfTwoReferenceIdeal.nD,
      r.2.mem ((c.tc : Thread Cert.FfTwoReferenceIdeal.nD Cert.FfTwoReferenceIdeal.τ).loc Cert.FfTwoReferenceIdeal.main_arg0) = m ((c.tc : Thread Cert.FfTwoReferenceIdeal.nD Cert.FfTwoReferenceIdeal.τ).loc Cert.FfTwoReferenceIdeal.main_arg0)
      ∧ r.2.mem ((c.tc : Thread Cert.FfTwoReferenceIdeal.nD Cert.FfTwoReferenceIdeal.τ).loc Cert.FfTwoReferenceIdeal.main_arg1) = m ((c.tc : Thread Cert.FfTwoReferenceIdeal.nD Cert.FfTwoReferenceIdeal.τ).loc Cert.FfTwoReferenceIdeal.main_arg1))
      ∧ r.2.sem = fun _ => 0)

def quiescent_FfTwoDx [hFfTwoDx : Cert.FfTwoDx.Facts] : Prop :=
  ∀ (m : (ℓ : Loc Cert.FfTwoDx.nD Cert.FfTwoDx.τ Cert.FfTwoDx.sig) → Buf (Elt Bits) ℓ) (g : Dev Cert.FfTwoDx.nD → PrngReg), Pre_FfTwoDx m →
    θ_run (Cert.FfTwoDx.defs (F := Bits)) (onTc (τ := Cert.FfTwoDx.τ) (Cert.FfTwoDx.main (F := Bits))) ⟨m, fun _ => 0, g⟩ (fun r => (∀ c : Dev Cert.FfTwoDx.nD,
      r.2.mem ((c.tc : Thread Cert.FfTwoDx.nD Cert.FfTwoDx.τ).loc Cert.FfTwoDx.main_arg0) = m ((c.tc : Thread Cert.FfTwoDx.nD Cert.FfTwoDx.τ).loc Cert.FfTwoDx.main_arg0)
      ∧ r.2.mem ((c.tc : Thread Cert.FfTwoDx.nD Cert.FfTwoDx.τ).loc Cert.FfTwoDx.main_arg1) = m ((c.tc : Thread Cert.FfTwoDx.nD Cert.FfTwoDx.τ).loc Cert.FfTwoDx.main_arg1)
      ∧ r.2.mem ((c.tc : Thread Cert.FfTwoDx.nD Cert.FfTwoDx.τ).loc Cert.FfTwoDx.main_arg2) = m ((c.tc : Thread Cert.FfTwoDx.nD Cert.FfTwoDx.τ).loc Cert.FfTwoDx.main_arg2))
      ∧ r.2.sem = fun _ => 0)

def quiescent_FfTwoDxIdeal [hFfTwoDxIdeal : Cert.FfTwoDxIdeal.Facts] : Prop :=
  ∀ (m : (ℓ : Loc Cert.FfTwoDxIdeal.nD Cert.FfTwoDxIdeal.τ Cert.FfTwoDxIdeal.sig) → Buf (Elt Ideal) ℓ) (g : Dev Cert.FfTwoDxIdeal.nD → PrngReg), Pre_FfTwoDxIdeal m →
    θ_run (Cert.FfTwoDxIdeal.defs (F := Ideal)) (onTc (τ := Cert.FfTwoDxIdeal.τ) (Cert.FfTwoDxIdeal.main (F := Ideal))) ⟨m, fun _ => 0, g⟩ (fun r => (∀ c : Dev Cert.FfTwoDxIdeal.nD,
      r.2.mem ((c.tc : Thread Cert.FfTwoDxIdeal.nD Cert.FfTwoDxIdeal.τ).loc Cert.FfTwoDxIdeal.main_arg0) = m ((c.tc : Thread Cert.FfTwoDxIdeal.nD Cert.FfTwoDxIdeal.τ).loc Cert.FfTwoDxIdeal.main_arg0)
      ∧ r.2.mem ((c.tc : Thread Cert.FfTwoDxIdeal.nD Cert.FfTwoDxIdeal.τ).loc Cert.FfTwoDxIdeal.main_arg1) = m ((c.tc : Thread Cert.FfTwoDxIdeal.nD Cert.FfTwoDxIdeal.τ).loc Cert.FfTwoDxIdeal.main_arg1)
      ∧ r.2.mem ((c.tc : Thread Cert.FfTwoDxIdeal.nD Cert.FfTwoDxIdeal.τ).loc Cert.FfTwoDxIdeal.main_arg2) = m ((c.tc : Thread Cert.FfTwoDxIdeal.nD Cert.FfTwoDxIdeal.τ).loc Cert.FfTwoDxIdeal.main_arg2))
      ∧ r.2.sem = fun _ => 0)

def quiescent_FfTwoDxReferenceIdeal [hFfTwoDxReferenceIdeal : Cert.FfTwoDxReferenceIdeal.Facts] : Prop :=
  ∀ (m : (ℓ : Loc Cert.FfTwoDxReferenceIdeal.nD Cert.FfTwoDxReferenceIdeal.τ Cert.FfTwoDxReferenceIdeal.sig) → Buf (Elt Ideal) ℓ) (g : Dev Cert.FfTwoDxReferenceIdeal.nD → PrngReg), Pre_FfTwoDxReferenceIdeal m →
    θ_run (Cert.FfTwoDxReferenceIdeal.defs (F := Ideal)) (onTc (τ := Cert.FfTwoDxReferenceIdeal.τ) (Cert.FfTwoDxReferenceIdeal.main (F := Ideal))) ⟨m, fun _ => 0, g⟩ (fun r => (∀ c : Dev Cert.FfTwoDxReferenceIdeal.nD,
      r.2.mem ((c.tc : Thread Cert.FfTwoDxReferenceIdeal.nD Cert.FfTwoDxReferenceIdeal.τ).loc Cert.FfTwoDxReferenceIdeal.main_arg0) = m ((c.tc : Thread Cert.FfTwoDxReferenceIdeal.nD Cert.FfTwoDxReferenceIdeal.τ).loc Cert.FfTwoDxReferenceIdeal.main_arg0)
      ∧ r.2.mem ((c.tc : Thread Cert.FfTwoDxReferenceIdeal.nD Cert.FfTwoDxReferenceIdeal.τ).loc Cert.FfTwoDxReferenceIdeal.main_arg1) = m ((c.tc : Thread Cert.FfTwoDxReferenceIdeal.nD Cert.FfTwoDxReferenceIdeal.τ).loc Cert.FfTwoDxReferenceIdeal.main_arg1)
      ∧ r.2.mem ((c.tc : Thread Cert.FfTwoDxReferenceIdeal.nD Cert.FfTwoDxReferenceIdeal.τ).loc Cert.FfTwoDxReferenceIdeal.main_arg2) = m ((c.tc : Thread Cert.FfTwoDxReferenceIdeal.nD Cert.FfTwoDxReferenceIdeal.τ).loc Cert.FfTwoDxReferenceIdeal.main_arg2))
      ∧ r.2.sem = fun _ => 0)

def quiescent_FfTwoDw [hFfTwoDw : Cert.FfTwoDw.Facts] : Prop :=
  ∀ (m : (ℓ : Loc Cert.FfTwoDw.nD Cert.FfTwoDw.τ Cert.FfTwoDw.sig) → Buf (Elt Bits) ℓ) (g : Dev Cert.FfTwoDw.nD → PrngReg), Pre_FfTwoDw m →
    θ_run (Cert.FfTwoDw.defs (F := Bits)) (onTc (τ := Cert.FfTwoDw.τ) (Cert.FfTwoDw.main (F := Bits))) ⟨m, fun _ => 0, g⟩ (fun r => (∀ c : Dev Cert.FfTwoDw.nD,
      r.2.mem ((c.tc : Thread Cert.FfTwoDw.nD Cert.FfTwoDw.τ).loc Cert.FfTwoDw.main_arg0) = m ((c.tc : Thread Cert.FfTwoDw.nD Cert.FfTwoDw.τ).loc Cert.FfTwoDw.main_arg0)
      ∧ r.2.mem ((c.tc : Thread Cert.FfTwoDw.nD Cert.FfTwoDw.τ).loc Cert.FfTwoDw.main_arg1) = m ((c.tc : Thread Cert.FfTwoDw.nD Cert.FfTwoDw.τ).loc Cert.FfTwoDw.main_arg1))
      ∧ r.2.sem = fun _ => 0)

def quiescent_FfTwoDwIdeal [hFfTwoDwIdeal : Cert.FfTwoDwIdeal.Facts] : Prop :=
  ∀ (m : (ℓ : Loc Cert.FfTwoDwIdeal.nD Cert.FfTwoDwIdeal.τ Cert.FfTwoDwIdeal.sig) → Buf (Elt Ideal) ℓ) (g : Dev Cert.FfTwoDwIdeal.nD → PrngReg), Pre_FfTwoDwIdeal m →
    θ_run (Cert.FfTwoDwIdeal.defs (F := Ideal)) (onTc (τ := Cert.FfTwoDwIdeal.τ) (Cert.FfTwoDwIdeal.main (F := Ideal))) ⟨m, fun _ => 0, g⟩ (fun r => (∀ c : Dev Cert.FfTwoDwIdeal.nD,
      r.2.mem ((c.tc : Thread Cert.FfTwoDwIdeal.nD Cert.FfTwoDwIdeal.τ).loc Cert.FfTwoDwIdeal.main_arg0) = m ((c.tc : Thread Cert.FfTwoDwIdeal.nD Cert.FfTwoDwIdeal.τ).loc Cert.FfTwoDwIdeal.main_arg0)
      ∧ r.2.mem ((c.tc : Thread Cert.FfTwoDwIdeal.nD Cert.FfTwoDwIdeal.τ).loc Cert.FfTwoDwIdeal.main_arg1) = m ((c.tc : Thread Cert.FfTwoDwIdeal.nD Cert.FfTwoDwIdeal.τ).loc Cert.FfTwoDwIdeal.main_arg1))
      ∧ r.2.sem = fun _ => 0)

def quiescent_FfTwoDwReferenceIdeal [hFfTwoDwReferenceIdeal : Cert.FfTwoDwReferenceIdeal.Facts] : Prop :=
  ∀ (m : (ℓ : Loc Cert.FfTwoDwReferenceIdeal.nD Cert.FfTwoDwReferenceIdeal.τ Cert.FfTwoDwReferenceIdeal.sig) → Buf (Elt Ideal) ℓ) (g : Dev Cert.FfTwoDwReferenceIdeal.nD → PrngReg), Pre_FfTwoDwReferenceIdeal m →
    θ_run (Cert.FfTwoDwReferenceIdeal.defs (F := Ideal)) (onTc (τ := Cert.FfTwoDwReferenceIdeal.τ) (Cert.FfTwoDwReferenceIdeal.main (F := Ideal))) ⟨m, fun _ => 0, g⟩ (fun r => (∀ c : Dev Cert.FfTwoDwReferenceIdeal.nD,
      r.2.mem ((c.tc : Thread Cert.FfTwoDwReferenceIdeal.nD Cert.FfTwoDwReferenceIdeal.τ).loc Cert.FfTwoDwReferenceIdeal.main_arg0) = m ((c.tc : Thread Cert.FfTwoDwReferenceIdeal.nD Cert.FfTwoDwReferenceIdeal.τ).loc Cert.FfTwoDwReferenceIdeal.main_arg0)
      ∧ r.2.mem ((c.tc : Thread Cert.FfTwoDwReferenceIdeal.nD Cert.FfTwoDwReferenceIdeal.τ).loc Cert.FfTwoDwReferenceIdeal.main_arg1) = m ((c.tc : Thread Cert.FfTwoDwReferenceIdeal.nD Cert.FfTwoDwReferenceIdeal.τ).loc Cert.FfTwoDwReferenceIdeal.main_arg1))
      ∧ r.2.sem = fun _ => 0)

def quiescent_FfOneDw [hFfOneDw : Cert.FfOneDw.Facts] : Prop :=
  ∀ (m : (ℓ : Loc Cert.FfOneDw.nD Cert.FfOneDw.τ Cert.FfOneDw.sig) → Buf (Elt Bits) ℓ) (g : Dev Cert.FfOneDw.nD → PrngReg), Pre_FfOneDw m →
    θ_run (Cert.FfOneDw.defs (F := Bits)) (onTc (τ := Cert.FfOneDw.τ) (Cert.FfOneDw.main (F := Bits))) ⟨m, fun _ => 0, g⟩ (fun r => (∀ c : Dev Cert.FfOneDw.nD,
      r.2.mem ((c.tc : Thread Cert.FfOneDw.nD Cert.FfOneDw.τ).loc Cert.FfOneDw.main_arg0) = m ((c.tc : Thread Cert.FfOneDw.nD Cert.FfOneDw.τ).loc Cert.FfOneDw.main_arg0)
      ∧ r.2.mem ((c.tc : Thread Cert.FfOneDw.nD Cert.FfOneDw.τ).loc Cert.FfOneDw.main_arg1) = m ((c.tc : Thread Cert.FfOneDw.nD Cert.FfOneDw.τ).loc Cert.FfOneDw.main_arg1))
      ∧ r.2.sem = fun _ => 0)

def quiescent_FfOneDwIdeal [hFfOneDwIdeal : Cert.FfOneDwIdeal.Facts] : Prop :=
  ∀ (m : (ℓ : Loc Cert.FfOneDwIdeal.nD Cert.FfOneDwIdeal.τ Cert.FfOneDwIdeal.sig) → Buf (Elt Ideal) ℓ) (g : Dev Cert.FfOneDwIdeal.nD → PrngReg), Pre_FfOneDwIdeal m →
    θ_run (Cert.FfOneDwIdeal.defs (F := Ideal)) (onTc (τ := Cert.FfOneDwIdeal.τ) (Cert.FfOneDwIdeal.main (F := Ideal))) ⟨m, fun _ => 0, g⟩ (fun r => (∀ c : Dev Cert.FfOneDwIdeal.nD,
      r.2.mem ((c.tc : Thread Cert.FfOneDwIdeal.nD Cert.FfOneDwIdeal.τ).loc Cert.FfOneDwIdeal.main_arg0) = m ((c.tc : Thread Cert.FfOneDwIdeal.nD Cert.FfOneDwIdeal.τ).loc Cert.FfOneDwIdeal.main_arg0)
      ∧ r.2.mem ((c.tc : Thread Cert.FfOneDwIdeal.nD Cert.FfOneDwIdeal.τ).loc Cert.FfOneDwIdeal.main_arg1) = m ((c.tc : Thread Cert.FfOneDwIdeal.nD Cert.FfOneDwIdeal.τ).loc Cert.FfOneDwIdeal.main_arg1))
      ∧ r.2.sem = fun _ => 0)

def quiescent_FfOneDwReferenceIdeal [hFfOneDwReferenceIdeal : Cert.FfOneDwReferenceIdeal.Facts] : Prop :=
  ∀ (m : (ℓ : Loc Cert.FfOneDwReferenceIdeal.nD Cert.FfOneDwReferenceIdeal.τ Cert.FfOneDwReferenceIdeal.sig) → Buf (Elt Ideal) ℓ) (g : Dev Cert.FfOneDwReferenceIdeal.nD → PrngReg), Pre_FfOneDwReferenceIdeal m →
    θ_run (Cert.FfOneDwReferenceIdeal.defs (F := Ideal)) (onTc (τ := Cert.FfOneDwReferenceIdeal.τ) (Cert.FfOneDwReferenceIdeal.main (F := Ideal))) ⟨m, fun _ => 0, g⟩ (fun r => (∀ c : Dev Cert.FfOneDwReferenceIdeal.nD,
      r.2.mem ((c.tc : Thread Cert.FfOneDwReferenceIdeal.nD Cert.FfOneDwReferenceIdeal.τ).loc Cert.FfOneDwReferenceIdeal.main_arg0) = m ((c.tc : Thread Cert.FfOneDwReferenceIdeal.nD Cert.FfOneDwReferenceIdeal.τ).loc Cert.FfOneDwReferenceIdeal.main_arg0)
      ∧ r.2.mem ((c.tc : Thread Cert.FfOneDwReferenceIdeal.nD Cert.FfOneDwReferenceIdeal.τ).loc Cert.FfOneDwReferenceIdeal.main_arg1) = m ((c.tc : Thread Cert.FfOneDwReferenceIdeal.nD Cert.FfOneDwReferenceIdeal.τ).loc Cert.FfOneDwReferenceIdeal.main_arg1))
      ∧ r.2.sem = fun _ => 0)

def quiescent_FfOneDx [hFfOneDx : Cert.FfOneDx.Facts] : Prop :=
  ∀ (m : (ℓ : Loc Cert.FfOneDx.nD Cert.FfOneDx.τ Cert.FfOneDx.sig) → Buf (Elt Bits) ℓ) (g : Dev Cert.FfOneDx.nD → PrngReg), Pre_FfOneDx m →
    θ_run (Cert.FfOneDx.defs (F := Bits)) (onTc (τ := Cert.FfOneDx.τ) (Cert.FfOneDx.main (F := Bits))) ⟨m, fun _ => 0, g⟩ (fun r => (∀ c : Dev Cert.FfOneDx.nD,
      r.2.mem ((c.tc : Thread Cert.FfOneDx.nD Cert.FfOneDx.τ).loc Cert.FfOneDx.main_arg0) = m ((c.tc : Thread Cert.FfOneDx.nD Cert.FfOneDx.τ).loc Cert.FfOneDx.main_arg0)
      ∧ r.2.mem ((c.tc : Thread Cert.FfOneDx.nD Cert.FfOneDx.τ).loc Cert.FfOneDx.main_arg1) = m ((c.tc : Thread Cert.FfOneDx.nD Cert.FfOneDx.τ).loc Cert.FfOneDx.main_arg1))
      ∧ r.2.sem = fun _ => 0)

def quiescent_FfOneDxIdeal [hFfOneDxIdeal : Cert.FfOneDxIdeal.Facts] : Prop :=
  ∀ (m : (ℓ : Loc Cert.FfOneDxIdeal.nD Cert.FfOneDxIdeal.τ Cert.FfOneDxIdeal.sig) → Buf (Elt Ideal) ℓ) (g : Dev Cert.FfOneDxIdeal.nD → PrngReg), Pre_FfOneDxIdeal m →
    θ_run (Cert.FfOneDxIdeal.defs (F := Ideal)) (onTc (τ := Cert.FfOneDxIdeal.τ) (Cert.FfOneDxIdeal.main (F := Ideal))) ⟨m, fun _ => 0, g⟩ (fun r => (∀ c : Dev Cert.FfOneDxIdeal.nD,
      r.2.mem ((c.tc : Thread Cert.FfOneDxIdeal.nD Cert.FfOneDxIdeal.τ).loc Cert.FfOneDxIdeal.main_arg0) = m ((c.tc : Thread Cert.FfOneDxIdeal.nD Cert.FfOneDxIdeal.τ).loc Cert.FfOneDxIdeal.main_arg0)
      ∧ r.2.mem ((c.tc : Thread Cert.FfOneDxIdeal.nD Cert.FfOneDxIdeal.τ).loc Cert.FfOneDxIdeal.main_arg1) = m ((c.tc : Thread Cert.FfOneDxIdeal.nD Cert.FfOneDxIdeal.τ).loc Cert.FfOneDxIdeal.main_arg1))
      ∧ r.2.sem = fun _ => 0)

def quiescent_FfOneDxReferenceIdeal [hFfOneDxReferenceIdeal : Cert.FfOneDxReferenceIdeal.Facts] : Prop :=
  ∀ (m : (ℓ : Loc Cert.FfOneDxReferenceIdeal.nD Cert.FfOneDxReferenceIdeal.τ Cert.FfOneDxReferenceIdeal.sig) → Buf (Elt Ideal) ℓ) (g : Dev Cert.FfOneDxReferenceIdeal.nD → PrngReg), Pre_FfOneDxReferenceIdeal m →
    θ_run (Cert.FfOneDxReferenceIdeal.defs (F := Ideal)) (onTc (τ := Cert.FfOneDxReferenceIdeal.τ) (Cert.FfOneDxReferenceIdeal.main (F := Ideal))) ⟨m, fun _ => 0, g⟩ (fun r => (∀ c : Dev Cert.FfOneDxReferenceIdeal.nD,
      r.2.mem ((c.tc : Thread Cert.FfOneDxReferenceIdeal.nD Cert.FfOneDxReferenceIdeal.τ).loc Cert.FfOneDxReferenceIdeal.main_arg0) = m ((c.tc : Thread Cert.FfOneDxReferenceIdeal.nD Cert.FfOneDxReferenceIdeal.τ).loc Cert.FfOneDxReferenceIdeal.main_arg0)
      ∧ r.2.mem ((c.tc : Thread Cert.FfOneDxReferenceIdeal.nD Cert.FfOneDxReferenceIdeal.τ).loc Cert.FfOneDxReferenceIdeal.main_arg1) = m ((c.tc : Thread Cert.FfOneDxReferenceIdeal.nD Cert.FfOneDxReferenceIdeal.τ).loc Cert.FfOneDxReferenceIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwReferenceIdeal [hInDwReferenceIdeal : Cert.InDwReferenceIdeal.Facts] : Prop :=
  ∀ (m : (ℓ : Loc Cert.InDwReferenceIdeal.nD Cert.InDwReferenceIdeal.τ Cert.InDwReferenceIdeal.sig) → Buf (Elt Ideal) ℓ) (g : Dev Cert.InDwReferenceIdeal.nD → PrngReg), Pre_InDwReferenceIdeal m →
    θ_run (Cert.InDwReferenceIdeal.defs (F := Ideal)) (onTc (τ := Cert.InDwReferenceIdeal.τ) (Cert.InDwReferenceIdeal.main (F := Ideal))) ⟨m, fun _ => 0, g⟩ (fun r => (∀ c : Dev Cert.InDwReferenceIdeal.nD,
      r.2.mem ((c.tc : Thread Cert.InDwReferenceIdeal.nD Cert.InDwReferenceIdeal.τ).loc Cert.InDwReferenceIdeal.main_arg0) = m ((c.tc : Thread Cert.InDwReferenceIdeal.nD Cert.InDwReferenceIdeal.τ).loc Cert.InDwReferenceIdeal.main_arg0)
      ∧ r.2.mem ((c.tc : Thread Cert.InDwReferenceIdeal.nD Cert.InDwReferenceIdeal.τ).loc Cert.InDwReferenceIdeal.main_arg1) = m ((c.tc : Thread Cert.InDwReferenceIdeal.nD Cert.InDwReferenceIdeal.τ).loc Cert.InDwReferenceIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxReferenceIdeal [hInDxReferenceIdeal : Cert.InDxReferenceIdeal.Facts] : Prop :=
  ∀ (m : (ℓ : Loc Cert.InDxReferenceIdeal.nD Cert.InDxReferenceIdeal.τ Cert.InDxReferenceIdeal.sig) → Buf (Elt Ideal) ℓ) (g : Dev Cert.InDxReferenceIdeal.nD → PrngReg), Pre_InDxReferenceIdeal m →
    θ_run (Cert.InDxReferenceIdeal.defs (F := Ideal)) (onTc (τ := Cert.InDxReferenceIdeal.τ) (Cert.InDxReferenceIdeal.main (F := Ideal))) ⟨m, fun _ => 0, g⟩ (fun r => (∀ c : Dev Cert.InDxReferenceIdeal.nD,
      r.2.mem ((c.tc : Thread Cert.InDxReferenceIdeal.nD Cert.InDxReferenceIdeal.τ).loc Cert.InDxReferenceIdeal.main_arg0) = m ((c.tc : Thread Cert.InDxReferenceIdeal.nD Cert.InDxReferenceIdeal.τ).loc Cert.InDxReferenceIdeal.main_arg0)
      ∧ r.2.mem ((c.tc : Thread Cert.InDxReferenceIdeal.nD Cert.InDxReferenceIdeal.τ).loc Cert.InDxReferenceIdeal.main_arg1) = m ((c.tc : Thread Cert.InDxReferenceIdeal.nD Cert.InDxReferenceIdeal.τ).loc Cert.InDxReferenceIdeal.main_arg1))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3))
      ∧ r.2.sem = fun _ => 0)

def quiescent_AdamFfOne [hAdamFfOne : Cert.AdamFfOne.Facts] : Prop :=
  ∀ (m : (ℓ : Loc Cert.AdamFfOne.nD Cert.AdamFfOne.τ Cert.AdamFfOne.sig) → Buf (Elt Bits) ℓ) (g : Dev Cert.AdamFfOne.nD → PrngReg), Pre_AdamFfOne m →
    θ_run (Cert.AdamFfOne.defs (F := Bits)) (onTc (τ := Cert.AdamFfOne.τ) (Cert.AdamFfOne.main (F := Bits))) ⟨m, fun _ => 0, g⟩ (fun r => (∀ c : Dev Cert.AdamFfOne.nD,
      r.2.mem ((c.tc : Thread Cert.AdamFfOne.nD Cert.AdamFfOne.τ).loc Cert.AdamFfOne.main_arg0) = m ((c.tc : Thread Cert.AdamFfOne.nD Cert.AdamFfOne.τ).loc Cert.AdamFfOne.main_arg0)
      ∧ r.2.mem ((c.tc : Thread Cert.AdamFfOne.nD Cert.AdamFfOne.τ).loc Cert.AdamFfOne.main_arg1) = m ((c.tc : Thread Cert.AdamFfOne.nD Cert.AdamFfOne.τ).loc Cert.AdamFfOne.main_arg1)
      ∧ r.2.mem ((c.tc : Thread Cert.AdamFfOne.nD Cert.AdamFfOne.τ).loc Cert.AdamFfOne.main_arg2) = m ((c.tc : Thread Cert.AdamFfOne.nD Cert.AdamFfOne.τ).loc Cert.AdamFfOne.main_arg2)
      ∧ r.2.mem ((c.tc : Thread Cert.AdamFfOne.nD Cert.AdamFfOne.τ).loc Cert.AdamFfOne.main_arg3) = m ((c.tc : Thread Cert.AdamFfOne.nD Cert.AdamFfOne.τ).loc Cert.AdamFfOne.main_arg3))
      ∧ r.2.sem = fun _ => 0)

def quiescent_AdamFfOneIdeal [hAdamFfOneIdeal : Cert.AdamFfOneIdeal.Facts] : Prop :=
  ∀ (m : (ℓ : Loc Cert.AdamFfOneIdeal.nD Cert.AdamFfOneIdeal.τ Cert.AdamFfOneIdeal.sig) → Buf (Elt Ideal) ℓ) (g : Dev Cert.AdamFfOneIdeal.nD → PrngReg), Pre_AdamFfOneIdeal m →
    θ_run (Cert.AdamFfOneIdeal.defs (F := Ideal)) (onTc (τ := Cert.AdamFfOneIdeal.τ) (Cert.AdamFfOneIdeal.main (F := Ideal))) ⟨m, fun _ => 0, g⟩ (fun r => (∀ c : Dev Cert.AdamFfOneIdeal.nD,
      r.2.mem ((c.tc : Thread Cert.AdamFfOneIdeal.nD Cert.AdamFfOneIdeal.τ).loc Cert.AdamFfOneIdeal.main_arg0) = m ((c.tc : Thread Cert.AdamFfOneIdeal.nD Cert.AdamFfOneIdeal.τ).loc Cert.AdamFfOneIdeal.main_arg0)
      ∧ r.2.mem ((c.tc : Thread Cert.AdamFfOneIdeal.nD Cert.AdamFfOneIdeal.τ).loc Cert.AdamFfOneIdeal.main_arg1) = m ((c.tc : Thread Cert.AdamFfOneIdeal.nD Cert.AdamFfOneIdeal.τ).loc Cert.AdamFfOneIdeal.main_arg1)
      ∧ r.2.mem ((c.tc : Thread Cert.AdamFfOneIdeal.nD Cert.AdamFfOneIdeal.τ).loc Cert.AdamFfOneIdeal.main_arg2) = m ((c.tc : Thread Cert.AdamFfOneIdeal.nD Cert.AdamFfOneIdeal.τ).loc Cert.AdamFfOneIdeal.main_arg2)
      ∧ r.2.mem ((c.tc : Thread Cert.AdamFfOneIdeal.nD Cert.AdamFfOneIdeal.τ).loc Cert.AdamFfOneIdeal.main_arg3) = m ((c.tc : Thread Cert.AdamFfOneIdeal.nD Cert.AdamFfOneIdeal.τ).loc Cert.AdamFfOneIdeal.main_arg3))
      ∧ r.2.sem = fun _ => 0)

def quiescent_AdamFfOneReferenceIdeal [hAdamFfOneReferenceIdeal : Cert.AdamFfOneReferenceIdeal.Facts] : Prop :=
  ∀ (m : (ℓ : Loc Cert.AdamFfOneReferenceIdeal.nD Cert.AdamFfOneReferenceIdeal.τ Cert.AdamFfOneReferenceIdeal.sig) → Buf (Elt Ideal) ℓ) (g : Dev Cert.AdamFfOneReferenceIdeal.nD → PrngReg), Pre_AdamFfOneReferenceIdeal m →
    θ_run (Cert.AdamFfOneReferenceIdeal.defs (F := Ideal)) (onTc (τ := Cert.AdamFfOneReferenceIdeal.τ) (Cert.AdamFfOneReferenceIdeal.main (F := Ideal))) ⟨m, fun _ => 0, g⟩ (fun r => (∀ c : Dev Cert.AdamFfOneReferenceIdeal.nD,
      r.2.mem ((c.tc : Thread Cert.AdamFfOneReferenceIdeal.nD Cert.AdamFfOneReferenceIdeal.τ).loc Cert.AdamFfOneReferenceIdeal.main_arg0) = m ((c.tc : Thread Cert.AdamFfOneReferenceIdeal.nD Cert.AdamFfOneReferenceIdeal.τ).loc Cert.AdamFfOneReferenceIdeal.main_arg0)
      ∧ r.2.mem ((c.tc : Thread Cert.AdamFfOneReferenceIdeal.nD Cert.AdamFfOneReferenceIdeal.τ).loc Cert.AdamFfOneReferenceIdeal.main_arg1) = m ((c.tc : Thread Cert.AdamFfOneReferenceIdeal.nD Cert.AdamFfOneReferenceIdeal.τ).loc Cert.AdamFfOneReferenceIdeal.main_arg1)
      ∧ r.2.mem ((c.tc : Thread Cert.AdamFfOneReferenceIdeal.nD Cert.AdamFfOneReferenceIdeal.τ).loc Cert.AdamFfOneReferenceIdeal.main_arg2) = m ((c.tc : Thread Cert.AdamFfOneReferenceIdeal.nD Cert.AdamFfOneReferenceIdeal.τ).loc Cert.AdamFfOneReferenceIdeal.main_arg2)
      ∧ r.2.mem ((c.tc : Thread Cert.AdamFfOneReferenceIdeal.nD Cert.AdamFfOneReferenceIdeal.τ).loc Cert.AdamFfOneReferenceIdeal.main_arg3) = m ((c.tc : Thread Cert.AdamFfOneReferenceIdeal.nD Cert.AdamFfOneReferenceIdeal.τ).loc Cert.AdamFfOneReferenceIdeal.main_arg3))
      ∧ r.2.sem = fun _ => 0)

def quiescent_AdamFfTwo [hAdamFfTwo : Cert.AdamFfTwo.Facts] : Prop :=
  ∀ (m : (ℓ : Loc Cert.AdamFfTwo.nD Cert.AdamFfTwo.τ Cert.AdamFfTwo.sig) → Buf (Elt Bits) ℓ) (g : Dev Cert.AdamFfTwo.nD → PrngReg), Pre_AdamFfTwo m →
    θ_run (Cert.AdamFfTwo.defs (F := Bits)) (onTc (τ := Cert.AdamFfTwo.τ) (Cert.AdamFfTwo.main (F := Bits))) ⟨m, fun _ => 0, g⟩ (fun r => (∀ c : Dev Cert.AdamFfTwo.nD,
      r.2.mem ((c.tc : Thread Cert.AdamFfTwo.nD Cert.AdamFfTwo.τ).loc Cert.AdamFfTwo.main_arg0) = m ((c.tc : Thread Cert.AdamFfTwo.nD Cert.AdamFfTwo.τ).loc Cert.AdamFfTwo.main_arg0)
      ∧ r.2.mem ((c.tc : Thread Cert.AdamFfTwo.nD Cert.AdamFfTwo.τ).loc Cert.AdamFfTwo.main_arg1) = m ((c.tc : Thread Cert.AdamFfTwo.nD Cert.AdamFfTwo.τ).loc Cert.AdamFfTwo.main_arg1)
      ∧ r.2.mem ((c.tc : Thread Cert.AdamFfTwo.nD Cert.AdamFfTwo.τ).loc Cert.AdamFfTwo.main_arg2) = m ((c.tc : Thread Cert.AdamFfTwo.nD Cert.AdamFfTwo.τ).loc Cert.AdamFfTwo.main_arg2)
      ∧ r.2.mem ((c.tc : Thread Cert.AdamFfTwo.nD Cert.AdamFfTwo.τ).loc Cert.AdamFfTwo.main_arg3) = m ((c.tc : Thread Cert.AdamFfTwo.nD Cert.AdamFfTwo.τ).loc Cert.AdamFfTwo.main_arg3))
      ∧ r.2.sem = fun _ => 0)

def quiescent_AdamFfTwoIdeal [hAdamFfTwoIdeal : Cert.AdamFfTwoIdeal.Facts] : Prop :=
  ∀ (m : (ℓ : Loc Cert.AdamFfTwoIdeal.nD Cert.AdamFfTwoIdeal.τ Cert.AdamFfTwoIdeal.sig) → Buf (Elt Ideal) ℓ) (g : Dev Cert.AdamFfTwoIdeal.nD → PrngReg), Pre_AdamFfTwoIdeal m →
    θ_run (Cert.AdamFfTwoIdeal.defs (F := Ideal)) (onTc (τ := Cert.AdamFfTwoIdeal.τ) (Cert.AdamFfTwoIdeal.main (F := Ideal))) ⟨m, fun _ => 0, g⟩ (fun r => (∀ c : Dev Cert.AdamFfTwoIdeal.nD,
      r.2.mem ((c.tc : Thread Cert.AdamFfTwoIdeal.nD Cert.AdamFfTwoIdeal.τ).loc Cert.AdamFfTwoIdeal.main_arg0) = m ((c.tc : Thread Cert.AdamFfTwoIdeal.nD Cert.AdamFfTwoIdeal.τ).loc Cert.AdamFfTwoIdeal.main_arg0)
      ∧ r.2.mem ((c.tc : Thread Cert.AdamFfTwoIdeal.nD Cert.AdamFfTwoIdeal.τ).loc Cert.AdamFfTwoIdeal.main_arg1) = m ((c.tc : Thread Cert.AdamFfTwoIdeal.nD Cert.AdamFfTwoIdeal.τ).loc Cert.AdamFfTwoIdeal.main_arg1)
      ∧ r.2.mem ((c.tc : Thread Cert.AdamFfTwoIdeal.nD Cert.AdamFfTwoIdeal.τ).loc Cert.AdamFfTwoIdeal.main_arg2) = m ((c.tc : Thread Cert.AdamFfTwoIdeal.nD Cert.AdamFfTwoIdeal.τ).loc Cert.AdamFfTwoIdeal.main_arg2)
      ∧ r.2.mem ((c.tc : Thread Cert.AdamFfTwoIdeal.nD Cert.AdamFfTwoIdeal.τ).loc Cert.AdamFfTwoIdeal.main_arg3) = m ((c.tc : Thread Cert.AdamFfTwoIdeal.nD Cert.AdamFfTwoIdeal.τ).loc Cert.AdamFfTwoIdeal.main_arg3))
      ∧ r.2.sem = fun _ => 0)

def quiescent_AdamFfTwoReferenceIdeal [hAdamFfTwoReferenceIdeal : Cert.AdamFfTwoReferenceIdeal.Facts] : Prop :=
  ∀ (m : (ℓ : Loc Cert.AdamFfTwoReferenceIdeal.nD Cert.AdamFfTwoReferenceIdeal.τ Cert.AdamFfTwoReferenceIdeal.sig) → Buf (Elt Ideal) ℓ) (g : Dev Cert.AdamFfTwoReferenceIdeal.nD → PrngReg), Pre_AdamFfTwoReferenceIdeal m →
    θ_run (Cert.AdamFfTwoReferenceIdeal.defs (F := Ideal)) (onTc (τ := Cert.AdamFfTwoReferenceIdeal.τ) (Cert.AdamFfTwoReferenceIdeal.main (F := Ideal))) ⟨m, fun _ => 0, g⟩ (fun r => (∀ c : Dev Cert.AdamFfTwoReferenceIdeal.nD,
      r.2.mem ((c.tc : Thread Cert.AdamFfTwoReferenceIdeal.nD Cert.AdamFfTwoReferenceIdeal.τ).loc Cert.AdamFfTwoReferenceIdeal.main_arg0) = m ((c.tc : Thread Cert.AdamFfTwoReferenceIdeal.nD Cert.AdamFfTwoReferenceIdeal.τ).loc Cert.AdamFfTwoReferenceIdeal.main_arg0)
      ∧ r.2.mem ((c.tc : Thread Cert.AdamFfTwoReferenceIdeal.nD Cert.AdamFfTwoReferenceIdeal.τ).loc Cert.AdamFfTwoReferenceIdeal.main_arg1) = m ((c.tc : Thread Cert.AdamFfTwoReferenceIdeal.nD Cert.AdamFfTwoReferenceIdeal.τ).loc Cert.AdamFfTwoReferenceIdeal.main_arg1)
      ∧ r.2.mem ((c.tc : Thread Cert.AdamFfTwoReferenceIdeal.nD Cert.AdamFfTwoReferenceIdeal.τ).loc Cert.AdamFfTwoReferenceIdeal.main_arg2) = m ((c.tc : Thread Cert.AdamFfTwoReferenceIdeal.nD Cert.AdamFfTwoReferenceIdeal.τ).loc Cert.AdamFfTwoReferenceIdeal.main_arg2)
      ∧ r.2.mem ((c.tc : Thread Cert.AdamFfTwoReferenceIdeal.nD Cert.AdamFfTwoReferenceIdeal.τ).loc Cert.AdamFfTwoReferenceIdeal.main_arg3) = m ((c.tc : Thread Cert.AdamFfTwoReferenceIdeal.nD Cert.AdamFfTwoReferenceIdeal.τ).loc Cert.AdamFfTwoReferenceIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3))
      ∧ r.2.sem = fun _ => 0)

def quiescent_AdamMix [hAdamMix : Cert.AdamMix.Facts] : Prop :=
  ∀ (m : (ℓ : Loc Cert.AdamMix.nD Cert.AdamMix.τ Cert.AdamMix.sig) → Buf (Elt Bits) ℓ) (g : Dev Cert.AdamMix.nD → PrngReg), Pre_AdamMix m →
    θ_run (Cert.AdamMix.defs (F := Bits)) (onTc (τ := Cert.AdamMix.τ) (Cert.AdamMix.main (F := Bits))) ⟨m, fun _ => 0, g⟩ (fun r => (∀ c : Dev Cert.AdamMix.nD,
      r.2.mem ((c.tc : Thread Cert.AdamMix.nD Cert.AdamMix.τ).loc Cert.AdamMix.main_arg0) = m ((c.tc : Thread Cert.AdamMix.nD Cert.AdamMix.τ).loc Cert.AdamMix.main_arg0)
      ∧ r.2.mem ((c.tc : Thread Cert.AdamMix.nD Cert.AdamMix.τ).loc Cert.AdamMix.main_arg1) = m ((c.tc : Thread Cert.AdamMix.nD Cert.AdamMix.τ).loc Cert.AdamMix.main_arg1)
      ∧ r.2.mem ((c.tc : Thread Cert.AdamMix.nD Cert.AdamMix.τ).loc Cert.AdamMix.main_arg2) = m ((c.tc : Thread Cert.AdamMix.nD Cert.AdamMix.τ).loc Cert.AdamMix.main_arg2)
      ∧ r.2.mem ((c.tc : Thread Cert.AdamMix.nD Cert.AdamMix.τ).loc Cert.AdamMix.main_arg3) = m ((c.tc : Thread Cert.AdamMix.nD Cert.AdamMix.τ).loc Cert.AdamMix.main_arg3))
      ∧ r.2.sem = fun _ => 0)

def quiescent_AdamMixIdeal [hAdamMixIdeal : Cert.AdamMixIdeal.Facts] : Prop :=
  ∀ (m : (ℓ : Loc Cert.AdamMixIdeal.nD Cert.AdamMixIdeal.τ Cert.AdamMixIdeal.sig) → Buf (Elt Ideal) ℓ) (g : Dev Cert.AdamMixIdeal.nD → PrngReg), Pre_AdamMixIdeal m →
    θ_run (Cert.AdamMixIdeal.defs (F := Ideal)) (onTc (τ := Cert.AdamMixIdeal.τ) (Cert.AdamMixIdeal.main (F := Ideal))) ⟨m, fun _ => 0, g⟩ (fun r => (∀ c : Dev Cert.AdamMixIdeal.nD,
      r.2.mem ((c.tc : Thread Cert.AdamMixIdeal.nD Cert.AdamMixIdeal.τ).loc Cert.AdamMixIdeal.main_arg0) = m ((c.tc : Thread Cert.AdamMixIdeal.nD Cert.AdamMixIdeal.τ).loc Cert.AdamMixIdeal.main_arg0)
      ∧ r.2.mem ((c.tc : Thread Cert.AdamMixIdeal.nD Cert.AdamMixIdeal.τ).loc Cert.AdamMixIdeal.main_arg1) = m ((c.tc : Thread Cert.AdamMixIdeal.nD Cert.AdamMixIdeal.τ).loc Cert.AdamMixIdeal.main_arg1)
      ∧ r.2.mem ((c.tc : Thread Cert.AdamMixIdeal.nD Cert.AdamMixIdeal.τ).loc Cert.AdamMixIdeal.main_arg2) = m ((c.tc : Thread Cert.AdamMixIdeal.nD Cert.AdamMixIdeal.τ).loc Cert.AdamMixIdeal.main_arg2)
      ∧ r.2.mem ((c.tc : Thread Cert.AdamMixIdeal.nD Cert.AdamMixIdeal.τ).loc Cert.AdamMixIdeal.main_arg3) = m ((c.tc : Thread Cert.AdamMixIdeal.nD Cert.AdamMixIdeal.τ).loc Cert.AdamMixIdeal.main_arg3))
      ∧ r.2.sem = fun _ => 0)

def quiescent_AdamMixReferenceIdeal [hAdamMixReferenceIdeal : Cert.AdamMixReferenceIdeal.Facts] : Prop :=
  ∀ (m : (ℓ : Loc Cert.AdamMixReferenceIdeal.nD Cert.AdamMixReferenceIdeal.τ Cert.AdamMixReferenceIdeal.sig) → Buf (Elt Ideal) ℓ) (g : Dev Cert.AdamMixReferenceIdeal.nD → PrngReg), Pre_AdamMixReferenceIdeal m →
    θ_run (Cert.AdamMixReferenceIdeal.defs (F := Ideal)) (onTc (τ := Cert.AdamMixReferenceIdeal.τ) (Cert.AdamMixReferenceIdeal.main (F := Ideal))) ⟨m, fun _ => 0, g⟩ (fun r => (∀ c : Dev Cert.AdamMixReferenceIdeal.nD,
      r.2.mem ((c.tc : Thread Cert.AdamMixReferenceIdeal.nD Cert.AdamMixReferenceIdeal.τ).loc Cert.AdamMixReferenceIdeal.main_arg0) = m ((c.tc : Thread Cert.AdamMixReferenceIdeal.nD Cert.AdamMixReferenceIdeal.τ).loc Cert.AdamMixReferenceIdeal.main_arg0)
      ∧ r.2.mem ((c.tc : Thread Cert.AdamMixReferenceIdeal.nD Cert.AdamMixReferenceIdeal.τ).loc Cert.AdamMixReferenceIdeal.main_arg1) = m ((c.tc : Thread Cert.AdamMixReferenceIdeal.nD Cert.AdamMixReferenceIdeal.τ).loc Cert.AdamMixReferenceIdeal.main_arg1)
      ∧ r.2.mem ((c.tc : Thread Cert.AdamMixReferenceIdeal.nD Cert.AdamMixReferenceIdeal.τ).loc Cert.AdamMixReferenceIdeal.main_arg2) = m ((c.tc : Thread Cert.AdamMixReferenceIdeal.nD Cert.AdamMixReferenceIdeal.τ).loc Cert.AdamMixReferenceIdeal.main_arg2)
      ∧ r.2.mem ((c.tc : Thread Cert.AdamMixReferenceIdeal.nD Cert.AdamMixReferenceIdeal.τ).loc Cert.AdamMixReferenceIdeal.main_arg3) = m ((c.tc : Thread Cert.AdamMixReferenceIdeal.nD Cert.AdamMixReferenceIdeal.τ).loc Cert.AdamMixReferenceIdeal.main_arg3))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3)
      ∧ r.2.mem ((c.tc : Thread Cert.AdamAda.nD Cert.AdamAda.τ).loc Cert.AdamAda.main_arg4) = m ((c.tc : Thread Cert.AdamAda.nD Cert.AdamAda.τ).loc Cert.AdamAda.main_arg4))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3)
      ∧ r.2.mem ((c.tc : Thread Cert.AdamAdaIdeal.nD Cert.AdamAdaIdeal.τ).loc Cert.AdamAdaIdeal.main_arg4) = m ((c.tc : Thread Cert.AdamAdaIdeal.nD Cert.AdamAdaIdeal.τ).loc Cert.AdamAdaIdeal.main_arg4))
      ∧ r.2.sem = fun _ => 0)

def quiescent_AdamAdaReferenceIdeal [hAdamAdaReferenceIdeal : Cert.AdamAdaReferenceIdeal.Facts] : Prop :=
  ∀ (m : (ℓ : Loc Cert.AdamAdaReferenceIdeal.nD Cert.AdamAdaReferenceIdeal.τ Cert.AdamAdaReferenceIdeal.sig) → Buf (Elt Ideal) ℓ) (g : Dev Cert.AdamAdaReferenceIdeal.nD → PrngReg), Pre_AdamAdaReferenceIdeal m →
    θ_run (Cert.AdamAdaReferenceIdeal.defs (F := Ideal)) (onTc (τ := Cert.AdamAdaReferenceIdeal.τ) (Cert.AdamAdaReferenceIdeal.main (F := Ideal))) ⟨m, fun _ => 0, g⟩ (fun r => (∀ c : Dev Cert.AdamAdaReferenceIdeal.nD,
      r.2.mem ((c.tc : Thread Cert.AdamAdaReferenceIdeal.nD Cert.AdamAdaReferenceIdeal.τ).loc Cert.AdamAdaReferenceIdeal.main_arg0) = m ((c.tc : Thread Cert.AdamAdaReferenceIdeal.nD Cert.AdamAdaReferenceIdeal.τ).loc Cert.AdamAdaReferenceIdeal.main_arg0)
      ∧ r.2.mem ((c.tc : Thread Cert.AdamAdaReferenceIdeal.nD Cert.AdamAdaReferenceIdeal.τ).loc Cert.AdamAdaReferenceIdeal.main_arg1) = m ((c.tc : Thread Cert.AdamAdaReferenceIdeal.nD Cert.AdamAdaReferenceIdeal.τ).loc Cert.AdamAdaReferenceIdeal.main_arg1)
      ∧ r.2.mem ((c.tc : Thread Cert.AdamAdaReferenceIdeal.nD Cert.AdamAdaReferenceIdeal.τ).loc Cert.AdamAdaReferenceIdeal.main_arg2) = m ((c.tc : Thread Cert.AdamAdaReferenceIdeal.nD Cert.AdamAdaReferenceIdeal.τ).loc Cert.AdamAdaReferenceIdeal.main_arg2)
      ∧ r.2.mem ((c.tc : Thread Cert.AdamAdaReferenceIdeal.nD Cert.AdamAdaReferenceIdeal.τ).loc Cert.AdamAdaReferenceIdeal.main_arg3) = m ((c.tc : Thread Cert.AdamAdaReferenceIdeal.nD Cert.AdamAdaReferenceIdeal.τ).loc Cert.AdamAdaReferenceIdeal.main_arg3)
      ∧ r.2.mem ((c.tc : Thread Cert.AdamAdaReferenceIdeal.nD Cert.AdamAdaReferenceIdeal.τ).loc Cert.AdamAdaReferenceIdeal.main_arg4) = m ((c.tc : Thread Cert.AdamAdaReferenceIdeal.nD Cert.AdamAdaReferenceIdeal.τ).loc Cert.AdamAdaReferenceIdeal.main_arg4))
      ∧ r.2.sem = fun _ => 0)

def quiescent_AdamLate [hAdamLate : Cert.AdamLate.Facts] : Prop :=
  ∀ (m : (ℓ : Loc Cert.AdamLate.nD Cert.AdamLate.τ Cert.AdamLate.sig) → Buf (Elt Bits) ℓ) (g : Dev Cert.AdamLate.nD → PrngReg), Pre_AdamLate m →
    θ_run (Cert.AdamLate.defs (F := Bits)) (onTc (τ := Cert.AdamLate.τ) (Cert.AdamLate.main (F := Bits))) ⟨m, fun _ => 0, g⟩ (fun r => (∀ c : Dev Cert.AdamLate.nD,
      r.2.mem ((c.tc : Thread Cert.AdamLate.nD Cert.AdamLate.τ).loc Cert.AdamLate.main_arg0) = m ((c.tc : Thread Cert.AdamLate.nD Cert.AdamLate.τ).loc Cert.AdamLate.main_arg0)
      ∧ r.2.mem ((c.tc : Thread Cert.AdamLate.nD Cert.AdamLate.τ).loc Cert.AdamLate.main_arg1) = m ((c.tc : Thread Cert.AdamLate.nD Cert.AdamLate.τ).loc Cert.AdamLate.main_arg1)
      ∧ r.2.mem ((c.tc : Thread Cert.AdamLate.nD Cert.AdamLate.τ).loc Cert.AdamLate.main_arg2) = m ((c.tc : Thread Cert.AdamLate.nD Cert.AdamLate.τ).loc Cert.AdamLate.main_arg2)
      ∧ r.2.mem ((c.tc : Thread Cert.AdamLate.nD Cert.AdamLate.τ).loc Cert.AdamLate.main_arg3) = m ((c.tc : Thread Cert.AdamLate.nD Cert.AdamLate.τ).loc Cert.AdamLate.main_arg3)
      ∧ r.2.mem ((c.tc : Thread Cert.AdamLate.nD Cert.AdamLate.τ).loc Cert.AdamLate.main_arg4) = m ((c.tc : Thread Cert.AdamLate.nD Cert.AdamLate.τ).loc Cert.AdamLate.main_arg4)
      ∧ r.2.mem ((c.tc : Thread Cert.AdamLate.nD Cert.AdamLate.τ).loc Cert.AdamLate.main_arg5) = m ((c.tc : Thread Cert.AdamLate.nD Cert.AdamLate.τ).loc Cert.AdamLate.main_arg5)
      ∧ r.2.mem ((c.tc : Thread Cert.AdamLate.nD Cert.AdamLate.τ).loc Cert.AdamLate.main_arg6) = m ((c.tc : Thread Cert.AdamLate.nD Cert.AdamLate.τ).loc Cert.AdamLate.main_arg6)
      ∧ r.2.mem ((c.tc : Thread Cert.AdamLate.nD Cert.AdamLate.τ).loc Cert.AdamLate.main_arg7) = m ((c.tc : Thread Cert.AdamLate.nD Cert.AdamLate.τ).loc Cert.AdamLate.main_arg7))
      ∧ r.2.sem = fun _ => 0)

def quiescent_AdamLateIdeal [hAdamLateIdeal : Cert.AdamLateIdeal.Facts] : Prop :=
  ∀ (m : (ℓ : Loc Cert.AdamLateIdeal.nD Cert.AdamLateIdeal.τ Cert.AdamLateIdeal.sig) → Buf (Elt Ideal) ℓ) (g : Dev Cert.AdamLateIdeal.nD → PrngReg), Pre_AdamLateIdeal m →
    θ_run (Cert.AdamLateIdeal.defs (F := Ideal)) (onTc (τ := Cert.AdamLateIdeal.τ) (Cert.AdamLateIdeal.main (F := Ideal))) ⟨m, fun _ => 0, g⟩ (fun r => (∀ c : Dev Cert.AdamLateIdeal.nD,
      r.2.mem ((c.tc : Thread Cert.AdamLateIdeal.nD Cert.AdamLateIdeal.τ).loc Cert.AdamLateIdeal.main_arg0) = m ((c.tc : Thread Cert.AdamLateIdeal.nD Cert.AdamLateIdeal.τ).loc Cert.AdamLateIdeal.main_arg0)
      ∧ r.2.mem ((c.tc : Thread Cert.AdamLateIdeal.nD Cert.AdamLateIdeal.τ).loc Cert.AdamLateIdeal.main_arg1) = m ((c.tc : Thread Cert.AdamLateIdeal.nD Cert.AdamLateIdeal.τ).loc Cert.AdamLateIdeal.main_arg1)
      ∧ r.2.mem ((c.tc : Thread Cert.AdamLateIdeal.nD Cert.AdamLateIdeal.τ).loc Cert.AdamLateIdeal.main_arg2) = m ((c.tc : Thread Cert.AdamLateIdeal.nD Cert.AdamLateIdeal.τ).loc Cert.AdamLateIdeal.main_arg2)
      ∧ r.2.mem ((c.tc : Thread Cert.AdamLateIdeal.nD Cert.AdamLateIdeal.τ).loc Cert.AdamLateIdeal.main_arg3) = m ((c.tc : Thread Cert.AdamLateIdeal.nD Cert.AdamLateIdeal.τ).loc Cert.AdamLateIdeal.main_arg3)
      ∧ r.2.mem ((c.tc : Thread Cert.AdamLateIdeal.nD Cert.AdamLateIdeal.τ).loc Cert.AdamLateIdeal.main_arg4) = m ((c.tc : Thread Cert.AdamLateIdeal.nD Cert.AdamLateIdeal.τ).loc Cert.AdamLateIdeal.main_arg4)
      ∧ r.2.mem ((c.tc : Thread Cert.AdamLateIdeal.nD Cert.AdamLateIdeal.τ).loc Cert.AdamLateIdeal.main_arg5) = m ((c.tc : Thread Cert.AdamLateIdeal.nD Cert.AdamLateIdeal.τ).loc Cert.AdamLateIdeal.main_arg5)
      ∧ r.2.mem ((c.tc : Thread Cert.AdamLateIdeal.nD Cert.AdamLateIdeal.τ).loc Cert.AdamLateIdeal.main_arg6) = m ((c.tc : Thread Cert.AdamLateIdeal.nD Cert.AdamLateIdeal.τ).loc Cert.AdamLateIdeal.main_arg6)
      ∧ r.2.mem ((c.tc : Thread Cert.AdamLateIdeal.nD Cert.AdamLateIdeal.τ).loc Cert.AdamLateIdeal.main_arg7) = m ((c.tc : Thread Cert.AdamLateIdeal.nD Cert.AdamLateIdeal.τ).loc Cert.AdamLateIdeal.main_arg7))
      ∧ r.2.sem = fun _ => 0)

def quiescent_AdamLateReferenceIdeal [hAdamLateReferenceIdeal : Cert.AdamLateReferenceIdeal.Facts] : Prop :=
  ∀ (m : (ℓ : Loc Cert.AdamLateReferenceIdeal.nD Cert.AdamLateReferenceIdeal.τ Cert.AdamLateReferenceIdeal.sig) → Buf (Elt Ideal) ℓ) (g : Dev Cert.AdamLateReferenceIdeal.nD → PrngReg), Pre_AdamLateReferenceIdeal m →
    θ_run (Cert.AdamLateReferenceIdeal.defs (F := Ideal)) (onTc (τ := Cert.AdamLateReferenceIdeal.τ) (Cert.AdamLateReferenceIdeal.main (F := Ideal))) ⟨m, fun _ => 0, g⟩ (fun r => (∀ c : Dev Cert.AdamLateReferenceIdeal.nD,
      r.2.mem ((c.tc : Thread Cert.AdamLateReferenceIdeal.nD Cert.AdamLateReferenceIdeal.τ).loc Cert.AdamLateReferenceIdeal.main_arg0) = m ((c.tc : Thread Cert.AdamLateReferenceIdeal.nD Cert.AdamLateReferenceIdeal.τ).loc Cert.AdamLateReferenceIdeal.main_arg0)
      ∧ r.2.mem ((c.tc : Thread Cert.AdamLateReferenceIdeal.nD Cert.AdamLateReferenceIdeal.τ).loc Cert.AdamLateReferenceIdeal.main_arg1) = m ((c.tc : Thread Cert.AdamLateReferenceIdeal.nD Cert.AdamLateReferenceIdeal.τ).loc Cert.AdamLateReferenceIdeal.main_arg1)
      ∧ r.2.mem ((c.tc : Thread Cert.AdamLateReferenceIdeal.nD Cert.AdamLateReferenceIdeal.τ).loc Cert.AdamLateReferenceIdeal.main_arg2) = m ((c.tc : Thread Cert.AdamLateReferenceIdeal.nD Cert.AdamLateReferenceIdeal.τ).loc Cert.AdamLateReferenceIdeal.main_arg2)
      ∧ r.2.mem ((c.tc : Thread Cert.AdamLateReferenceIdeal.nD Cert.AdamLateReferenceIdeal.τ).loc Cert.AdamLateReferenceIdeal.main_arg3) = m ((c.tc : Thread Cert.AdamLateReferenceIdeal.nD Cert.AdamLateReferenceIdeal.τ).loc Cert.AdamLateReferenceIdeal.main_arg3)
      ∧ r.2.mem ((c.tc : Thread Cert.AdamLateReferenceIdeal.nD Cert.AdamLateReferenceIdeal.τ).loc Cert.AdamLateReferenceIdeal.main_arg4) = m ((c.tc : Thread Cert.AdamLateReferenceIdeal.nD Cert.AdamLateReferenceIdeal.τ).loc Cert.AdamLateReferenceIdeal.main_arg4)
      ∧ r.2.mem ((c.tc : Thread Cert.AdamLateReferenceIdeal.nD Cert.AdamLateReferenceIdeal.τ).loc Cert.AdamLateReferenceIdeal.main_arg5) = m ((c.tc : Thread Cert.AdamLateReferenceIdeal.nD Cert.AdamLateReferenceIdeal.τ).loc Cert.AdamLateReferenceIdeal.main_arg5)
      ∧ r.2.mem ((c.tc : Thread Cert.AdamLateReferenceIdeal.nD Cert.AdamLateReferenceIdeal.τ).loc Cert.AdamLateReferenceIdeal.main_arg6) = m ((c.tc : Thread Cert.AdamLateReferenceIdeal.nD Cert.AdamLateReferenceIdeal.τ).loc Cert.AdamLateReferenceIdeal.main_arg6)
      ∧ r.2.mem ((c.tc : Thread Cert.AdamLateReferenceIdeal.nD Cert.AdamLateReferenceIdeal.τ).loc Cert.AdamLateReferenceIdeal.main_arg7) = m ((c.tc : Thread Cert.AdamLateReferenceIdeal.nD Cert.AdamLateReferenceIdeal.τ).loc Cert.AdamLateReferenceIdeal.main_arg7))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
      ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
      ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8)
      ∧ r.2.mem ((c.tc : Thread Cert.ScanIdeal.nD Cert.ScanIdeal.τ).loc Cert.ScanIdeal.main_arg9) = m ((c.tc : Thread Cert.ScanIdeal.nD Cert.ScanIdeal.τ).loc Cert.ScanIdeal.main_arg9)
      ∧ r.2.mem ((c.tc : Thread Cert.ScanIdeal.nD Cert.ScanIdeal.τ).loc Cert.ScanIdeal.main_arg10) = m ((c.tc : Thread Cert.ScanIdeal.nD Cert.ScanIdeal.τ).loc Cert.ScanIdeal.main_arg10)
      ∧ r.2.mem ((c.tc : Thread Cert.ScanIdeal.nD Cert.ScanIdeal.τ).loc Cert.ScanIdeal.main_arg11) = m ((c.tc : Thread Cert.ScanIdeal.nD Cert.ScanIdeal.τ).loc Cert.ScanIdeal.main_arg11)
      ∧ r.2.mem ((c.tc : Thread Cert.ScanIdeal.nD Cert.ScanIdeal.τ).loc Cert.ScanIdeal.main_arg12) = m ((c.tc : Thread Cert.ScanIdeal.nD Cert.ScanIdeal.τ).loc Cert.ScanIdeal.main_arg12))
      ∧ r.2.sem = fun _ => 0)

def quiescent_ScanIdeal_pre_finite [hScanIdeal : Cert.ScanIdeal.Facts] [hPre_finite : Cert.Pre_finite.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal_finite m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
      ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
      ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8)
      ∧ r.2.mem ((c.tc : Thread Cert.ScanIdeal.nD Cert.ScanIdeal.τ).loc Cert.ScanIdeal.main_arg9) = m ((c.tc : Thread Cert.ScanIdeal.nD Cert.ScanIdeal.τ).loc Cert.ScanIdeal.main_arg9)
      ∧ r.2.mem ((c.tc : Thread Cert.ScanIdeal.nD Cert.ScanIdeal.τ).loc Cert.ScanIdeal.main_arg10) = m ((c.tc : Thread Cert.ScanIdeal.nD Cert.ScanIdeal.τ).loc Cert.ScanIdeal.main_arg10)
      ∧ r.2.mem ((c.tc : Thread Cert.ScanIdeal.nD Cert.ScanIdeal.τ).loc Cert.ScanIdeal.main_arg11) = m ((c.tc : Thread Cert.ScanIdeal.nD Cert.ScanIdeal.τ).loc Cert.ScanIdeal.main_arg11)
      ∧ r.2.mem ((c.tc : Thread Cert.ScanIdeal.nD Cert.ScanIdeal.τ).loc Cert.ScanIdeal.main_arg12) = m ((c.tc : Thread Cert.ScanIdeal.nD Cert.ScanIdeal.τ).loc Cert.ScanIdeal.main_arg12))
      ∧ r.2.sem = fun _ => 0)

def quiescent_ScanReferenceIdeal [hScanReferenceIdeal : Cert.ScanReferenceIdeal.Facts] : Prop :=
  ∀ (m : (ℓ : Loc Cert.ScanReferenceIdeal.nD Cert.ScanReferenceIdeal.τ Cert.ScanReferenceIdeal.sig) → Buf (Elt Ideal) ℓ) (g : Dev Cert.ScanReferenceIdeal.nD → PrngReg), Pre_ScanReferenceIdeal m →
    θ_run (Cert.ScanReferenceIdeal.defs (F := Ideal)) (onTc (τ := Cert.ScanReferenceIdeal.τ) (Cert.ScanReferenceIdeal.main (F := Ideal))) ⟨m, fun _ => 0, g⟩ (fun r => (∀ c : Dev Cert.ScanReferenceIdeal.nD,
      r.2.mem ((c.tc : Thread Cert.ScanReferenceIdeal.nD Cert.ScanReferenceIdeal.τ).loc Cert.ScanReferenceIdeal.main_arg0) = m ((c.tc : Thread Cert.ScanReferenceIdeal.nD Cert.ScanReferenceIdeal.τ).loc Cert.ScanReferenceIdeal.main_arg0)
      ∧ r.2.mem ((c.tc : Thread Cert.ScanReferenceIdeal.nD Cert.ScanReferenceIdeal.τ).loc Cert.ScanReferenceIdeal.main_arg1) = m ((c.tc : Thread Cert.ScanReferenceIdeal.nD Cert.ScanReferenceIdeal.τ).loc Cert.ScanReferenceIdeal.main_arg1)
      ∧ r.2.mem ((c.tc : Thread Cert.ScanReferenceIdeal.nD Cert.ScanReferenceIdeal.τ).loc Cert.ScanReferenceIdeal.main_arg2) = m ((c.tc : Thread Cert.ScanReferenceIdeal.nD Cert.ScanReferenceIdeal.τ).loc Cert.ScanReferenceIdeal.main_arg2)
      ∧ r.2.mem ((c.tc : Thread Cert.ScanReferenceIdeal.nD Cert.ScanReferenceIdeal.τ).loc Cert.ScanReferenceIdeal.main_arg3) = m ((c.tc : Thread Cert.ScanReferenceIdeal.nD Cert.ScanReferenceIdeal.τ).loc Cert.ScanReferenceIdeal.main_arg3)
      ∧ r.2.mem ((c.tc : Thread Cert.ScanReferenceIdeal.nD Cert.ScanReferenceIdeal.τ).loc Cert.ScanReferenceIdeal.main_arg4) = m ((c.tc : Thread Cert.ScanReferenceIdeal.nD Cert.ScanReferenceIdeal.τ).loc Cert.ScanReferenceIdeal.main_arg4)
      ∧ r.2.mem ((c.tc : Thread Cert.ScanReferenceIdeal.nD Cert.ScanReferenceIdeal.τ).loc Cert.ScanReferenceIdeal.main_arg5) = m ((c.tc : Thread Cert.ScanReferenceIdeal.nD Cert.ScanReferenceIdeal.τ).loc Cert.ScanReferenceIdeal.main_arg5)
      ∧ r.2.mem ((c.tc : Thread Cert.ScanReferenceIdeal.nD Cert.ScanReferenceIdeal.τ).loc Cert.ScanReferenceIdeal.main_arg6) = m ((c.tc : Thread Cert.ScanReferenceIdeal.nD Cert.ScanReferenceIdeal.τ).loc Cert.ScanReferenceIdeal.main_arg6)
      ∧ r.2.mem ((c.tc : Thread Cert.ScanReferenceIdeal.nD Cert.ScanReferenceIdeal.τ).loc Cert.ScanReferenceIdeal.main_arg7) = m ((c.tc : Thread Cert.ScanReferenceIdeal.nD Cert.ScanReferenceIdeal.τ).loc Cert.ScanReferenceIdeal.main_arg7)
      ∧ r.2.mem ((c.tc : Thread Cert.ScanReferenceIdeal.nD Cert.ScanReferenceIdeal.τ).loc Cert.ScanReferenceIdeal.main_arg8) = m ((c.tc : Thread Cert.ScanReferenceIdeal.nD Cert.ScanReferenceIdeal.τ).loc Cert.ScanReferenceIdeal.main_arg8)
      ∧ r.2.mem ((c.tc : Thread Cert.ScanReferenceIdeal.nD Cert.ScanReferenceIdeal.τ).loc Cert.ScanReferenceIdeal.main_arg9) = m ((c.tc : Thread Cert.ScanReferenceIdeal.nD Cert.ScanReferenceIdeal.τ).loc Cert.ScanReferenceIdeal.main_arg9)
      ∧ r.2.mem ((c.tc : Thread Cert.ScanReferenceIdeal.nD Cert.ScanReferenceIdeal.τ).loc Cert.ScanReferenceIdeal.main_arg10) = m ((c.tc : Thread Cert.ScanReferenceIdeal.nD Cert.ScanReferenceIdeal.τ).loc Cert.ScanReferenceIdeal.main_arg10)
      ∧ r.2.mem ((c.tc : Thread Cert.ScanReferenceIdeal.nD Cert.ScanReferenceIdeal.τ).loc Cert.ScanReferenceIdeal.main_arg11) = m ((c.tc : Thread Cert.ScanReferenceIdeal.nD Cert.ScanReferenceIdeal.τ).loc Cert.ScanReferenceIdeal.main_arg11)
      ∧ r.2.mem ((c.tc : Thread Cert.ScanReferenceIdeal.nD Cert.ScanReferenceIdeal.τ).loc Cert.ScanReferenceIdeal.main_arg12) = m ((c.tc : Thread Cert.ScanReferenceIdeal.nD Cert.ScanReferenceIdeal.τ).loc Cert.ScanReferenceIdeal.main_arg12))
      ∧ r.2.sem = fun _ => 0)

def quiescent_ScanReferenceIdeal_pre_finite [hScanReferenceIdeal : Cert.ScanReferenceIdeal.Facts] [hPre_finite : Cert.Pre_finite.Facts] : Prop :=
  ∀ (m : (ℓ : Loc Cert.ScanReferenceIdeal.nD Cert.ScanReferenceIdeal.τ Cert.ScanReferenceIdeal.sig) → Buf (Elt Ideal) ℓ) (g : Dev Cert.ScanReferenceIdeal.nD → PrngReg), Pre_ScanReferenceIdeal_finite m →
    θ_run (Cert.ScanReferenceIdeal.defs (F := Ideal)) (onTc (τ := Cert.ScanReferenceIdeal.τ) (Cert.ScanReferenceIdeal.main (F := Ideal))) ⟨m, fun _ => 0, g⟩ (fun r => (∀ c : Dev Cert.ScanReferenceIdeal.nD,
      r.2.mem ((c.tc : Thread Cert.ScanReferenceIdeal.nD Cert.ScanReferenceIdeal.τ).loc Cert.ScanReferenceIdeal.main_arg0) = m ((c.tc : Thread Cert.ScanReferenceIdeal.nD Cert.ScanReferenceIdeal.τ).loc Cert.ScanReferenceIdeal.main_arg0)
      ∧ r.2.mem ((c.tc : Thread Cert.ScanReferenceIdeal.nD Cert.ScanReferenceIdeal.τ).loc Cert.ScanReferenceIdeal.main_arg1) = m ((c.tc : Thread Cert.ScanReferenceIdeal.nD Cert.ScanReferenceIdeal.τ).loc Cert.ScanReferenceIdeal.main_arg1)
      ∧ r.2.mem ((c.tc : Thread Cert.ScanReferenceIdeal.nD Cert.ScanReferenceIdeal.τ).loc Cert.ScanReferenceIdeal.main_arg2) = m ((c.tc : Thread Cert.ScanReferenceIdeal.nD Cert.ScanReferenceIdeal.τ).loc Cert.ScanReferenceIdeal.main_arg2)
      ∧ r.2.mem ((c.tc : Thread Cert.ScanReferenceIdeal.nD Cert.ScanReferenceIdeal.τ).loc Cert.ScanReferenceIdeal.main_arg3) = m ((c.tc : Thread Cert.ScanReferenceIdeal.nD Cert.ScanReferenceIdeal.τ).loc Cert.ScanReferenceIdeal.main_arg3)
      ∧ r.2.mem ((c.tc : Thread Cert.ScanReferenceIdeal.nD Cert.ScanReferenceIdeal.τ).loc Cert.ScanReferenceIdeal.main_arg4) = m ((c.tc : Thread Cert.ScanReferenceIdeal.nD Cert.ScanReferenceIdeal.τ).loc Cert.ScanReferenceIdeal.main_arg4)
      ∧ r.2.mem ((c.tc : Thread Cert.ScanReferenceIdeal.nD Cert.ScanReferenceIdeal.τ).loc Cert.ScanReferenceIdeal.main_arg5) = m ((c.tc : Thread Cert.ScanReferenceIdeal.nD Cert.ScanReferenceIdeal.τ).loc Cert.ScanReferenceIdeal.main_arg5)
      ∧ r.2.mem ((c.tc : Thread Cert.ScanReferenceIdeal.nD Cert.ScanReferenceIdeal.τ).loc Cert.ScanReferenceIdeal.main_arg6) = m ((c.tc : Thread Cert.ScanReferenceIdeal.nD Cert.ScanReferenceIdeal.τ).loc Cert.ScanReferenceIdeal.main_arg6)
      ∧ r.2.mem ((c.tc : Thread Cert.ScanReferenceIdeal.nD Cert.ScanReferenceIdeal.τ).loc Cert.ScanReferenceIdeal.main_arg7) = m ((c.tc : Thread Cert.ScanReferenceIdeal.nD Cert.ScanReferenceIdeal.τ).loc Cert.ScanReferenceIdeal.main_arg7)
      ∧ r.2.mem ((c.tc : Thread Cert.ScanReferenceIdeal.nD Cert.ScanReferenceIdeal.τ).loc Cert.ScanReferenceIdeal.main_arg8) = m ((c.tc : Thread Cert.ScanReferenceIdeal.nD Cert.ScanReferenceIdeal.τ).loc Cert.ScanReferenceIdeal.main_arg8)
      ∧ r.2.mem ((c.tc : Thread Cert.ScanReferenceIdeal.nD Cert.ScanReferenceIdeal.τ).loc Cert.ScanReferenceIdeal.main_arg9) = m ((c.tc : Thread Cert.ScanReferenceIdeal.nD Cert.ScanReferenceIdeal.τ).loc Cert.ScanReferenceIdeal.main_arg9)
      ∧ r.2.mem ((c.tc : Thread Cert.ScanReferenceIdeal.nD Cert.ScanReferenceIdeal.τ).loc Cert.ScanReferenceIdeal.main_arg10) = m ((c.tc : Thread Cert.ScanReferenceIdeal.nD Cert.ScanReferenceIdeal.τ).loc Cert.ScanReferenceIdeal.main_arg10)
      ∧ r.2.mem ((c.tc : Thread Cert.ScanReferenceIdeal.nD Cert.ScanReferenceIdeal.τ).loc Cert.ScanReferenceIdeal.main_arg11) = m ((c.tc : Thread Cert.ScanReferenceIdeal.nD Cert.ScanReferenceIdeal.τ).loc Cert.ScanReferenceIdeal.main_arg11)
      ∧ r.2.mem ((c.tc : Thread Cert.ScanReferenceIdeal.nD Cert.ScanReferenceIdeal.τ).loc Cert.ScanReferenceIdeal.main_arg12) = m ((c.tc : Thread Cert.ScanReferenceIdeal.nD Cert.ScanReferenceIdeal.τ).loc Cert.ScanReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_v50) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v4) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_FfOne_FfOneIdeal : Prop :=
  True

def algebraic_FfOneIdeal_FfOneReferenceIdeal [hFfOneIdeal : Cert.FfOneIdeal.Facts] [hFfOneReferenceIdeal : Cert.FfOneReferenceIdeal.Facts] : Prop :=
  ∀ (m : (ℓ : Loc Cert.FfOneIdeal.nD Cert.FfOneIdeal.τ Cert.FfOneIdeal.sig) → Buf (Elt Ideal) ℓ) (g : Dev Cert.FfOneIdeal.nD → PrngReg)
    (m' : (ℓ : Loc Cert.FfOneReferenceIdeal.nD Cert.FfOneReferenceIdeal.τ Cert.FfOneReferenceIdeal.sig) → Buf (Elt Ideal) ℓ) (g' : Dev Cert.FfOneReferenceIdeal.nD → PrngReg), Pre_FfOneIdeal m →
    (∀ c : Dev Cert.FfOneIdeal.nD,
      m' ((c.tc : Thread Cert.FfOneReferenceIdeal.nD Cert.FfOneReferenceIdeal.τ).loc Cert.FfOneReferenceIdeal.main_arg0) = m ((c.tc : Thread Cert.FfOneIdeal.nD Cert.FfOneIdeal.τ).loc Cert.FfOneIdeal.main_arg0)
      ∧ m' ((c.tc : Thread Cert.FfOneReferenceIdeal.nD Cert.FfOneReferenceIdeal.τ).loc Cert.FfOneReferenceIdeal.main_arg1) = m ((c.tc : Thread Cert.FfOneIdeal.nD Cert.FfOneIdeal.τ).loc Cert.FfOneIdeal.main_arg1)) →
    ∃ (v0 : (c : Dev Cert.FfOneIdeal.nD) → Buf (Elt Ideal) ((c.tc : Thread Cert.FfOneIdeal.nD Cert.FfOneIdeal.τ).loc Cert.FfOneIdeal.main_v0)),
      θ_run (Cert.FfOneIdeal.defs (F := Ideal)) (onTc (τ := Cert.FfOneIdeal.τ) (Cert.FfOneIdeal.main (F := Ideal))) ⟨m, fun _ => 0, g⟩ (fun r => ∀ c : Dev Cert.FfOneIdeal.nD,
          r.2.mem ((c.tc : Thread Cert.FfOneIdeal.nD Cert.FfOneIdeal.τ).loc Cert.FfOneIdeal.main_v0) = v0 c
          ∧ r.2.mem ((c.tc : Thread Cert.FfOneIdeal.nD Cert.FfOneIdeal.τ).loc Cert.FfOneIdeal.main_arg0) = m ((c.tc : Thread Cert.FfOneIdeal.nD Cert.FfOneIdeal.τ).loc Cert.FfOneIdeal.main_arg0)
          ∧ r.2.mem ((c.tc : Thread Cert.FfOneIdeal.nD Cert.FfOneIdeal.τ).loc Cert.FfOneIdeal.main_arg1) = m ((c.tc : Thread Cert.FfOneIdeal.nD Cert.FfOneIdeal.τ).loc Cert.FfOneIdeal.main_arg1))
      ∧ θ_run (Cert.FfOneReferenceIdeal.defs (F := Ideal)) (onTc (τ := Cert.FfOneReferenceIdeal.τ) (Cert.FfOneReferenceIdeal.main (F := Ideal))) ⟨m', fun _ => 0, g'⟩ (fun r => ∀ c : Dev Cert.FfOneReferenceIdeal.nD,
          r.2.mem ((c.tc : Thread Cert.FfOneReferenceIdeal.nD Cert.FfOneReferenceIdeal.τ).loc Cert.FfOneReferenceIdeal.main_v7) = v0 c
          ∧ r.2.mem ((c.tc : Thread Cert.FfOneReferenceIdeal.nD Cert.FfOneReferenceIdeal.τ).loc Cert.FfOneReferenceIdeal.main_arg0) = m' ((c.tc : Thread Cert.FfOneReferenceIdeal.nD Cert.FfOneReferenceIdeal.τ).loc Cert.FfOneReferenceIdeal.main_arg0)
          ∧ r.2.mem ((c.tc : Thread Cert.FfOneReferenceIdeal.nD Cert.FfOneReferenceIdeal.τ).loc Cert.FfOneReferenceIdeal.main_arg1) = m' ((c.tc : Thread Cert.FfOneReferenceIdeal.nD Cert.FfOneReferenceIdeal.τ).loc Cert.FfOneReferenceIdeal.main_arg1))

def preserves_FfTwo_FfTwoIdeal : Prop :=
  True

def algebraic_FfTwoIdeal_FfTwoReferenceIdeal [hFfTwoIdeal : Cert.FfTwoIdeal.Facts] [hFfTwoReferenceIdeal : Cert.FfTwoReferenceIdeal.Facts] : Prop :=
  ∀ (m : (ℓ : Loc Cert.FfTwoIdeal.nD Cert.FfTwoIdeal.τ Cert.FfTwoIdeal.sig) → Buf (Elt Ideal) ℓ) (g : Dev Cert.FfTwoIdeal.nD → PrngReg)
    (m' : (ℓ : Loc Cert.FfTwoReferenceIdeal.nD Cert.FfTwoReferenceIdeal.τ Cert.FfTwoReferenceIdeal.sig) → Buf (Elt Ideal) ℓ) (g' : Dev Cert.FfTwoReferenceIdeal.nD → PrngReg), Pre_FfTwoIdeal m →
    (∀ c : Dev Cert.FfTwoIdeal.nD,
      m' ((c.tc : Thread Cert.FfTwoReferenceIdeal.nD Cert.FfTwoReferenceIdeal.τ).loc Cert.FfTwoReferenceIdeal.main_arg0) = m ((c.tc : Thread Cert.FfTwoIdeal.nD Cert.FfTwoIdeal.τ).loc Cert.FfTwoIdeal.main_arg0)
      ∧ m' ((c.tc : Thread Cert.FfTwoReferenceIdeal.nD Cert.FfTwoReferenceIdeal.τ).loc Cert.FfTwoReferenceIdeal.main_arg1) = m ((c.tc : Thread Cert.FfTwoIdeal.nD Cert.FfTwoIdeal.τ).loc Cert.FfTwoIdeal.main_arg1)) →
    ∃ (v0 : (c : Dev Cert.FfTwoIdeal.nD) → Buf (Elt Ideal) ((c.tc : Thread Cert.FfTwoIdeal.nD Cert.FfTwoIdeal.τ).loc Cert.FfTwoIdeal.main_v0)),
      θ_run (Cert.FfTwoIdeal.defs (F := Ideal)) (onTc (τ := Cert.FfTwoIdeal.τ) (Cert.FfTwoIdeal.main (F := Ideal))) ⟨m, fun _ => 0, g⟩ (fun r => ∀ c : Dev Cert.FfTwoIdeal.nD,
          r.2.mem ((c.tc : Thread Cert.FfTwoIdeal.nD Cert.FfTwoIdeal.τ).loc Cert.FfTwoIdeal.main_v0) = v0 c
          ∧ r.2.mem ((c.tc : Thread Cert.FfTwoIdeal.nD Cert.FfTwoIdeal.τ).loc Cert.FfTwoIdeal.main_arg0) = m ((c.tc : Thread Cert.FfTwoIdeal.nD Cert.FfTwoIdeal.τ).loc Cert.FfTwoIdeal.main_arg0)
          ∧ r.2.mem ((c.tc : Thread Cert.FfTwoIdeal.nD Cert.FfTwoIdeal.τ).loc Cert.FfTwoIdeal.main_arg1) = m ((c.tc : Thread Cert.FfTwoIdeal.nD Cert.FfTwoIdeal.τ).loc Cert.FfTwoIdeal.main_arg1))
      ∧ θ_run (Cert.FfTwoReferenceIdeal.defs (F := Ideal)) (onTc (τ := Cert.FfTwoReferenceIdeal.τ) (Cert.FfTwoReferenceIdeal.main (F := Ideal))) ⟨m', fun _ => 0, g'⟩ (fun r => ∀ c : Dev Cert.FfTwoReferenceIdeal.nD,
          r.2.mem ((c.tc : Thread Cert.FfTwoReferenceIdeal.nD Cert.FfTwoReferenceIdeal.τ).loc Cert.FfTwoReferenceIdeal.main_v3) = v0 c
          ∧ r.2.mem ((c.tc : Thread Cert.FfTwoReferenceIdeal.nD Cert.FfTwoReferenceIdeal.τ).loc Cert.FfTwoReferenceIdeal.main_arg0) = m' ((c.tc : Thread Cert.FfTwoReferenceIdeal.nD Cert.FfTwoReferenceIdeal.τ).loc Cert.FfTwoReferenceIdeal.main_arg0)
          ∧ r.2.mem ((c.tc : Thread Cert.FfTwoReferenceIdeal.nD Cert.FfTwoReferenceIdeal.τ).loc Cert.FfTwoReferenceIdeal.main_arg1) = m' ((c.tc : Thread Cert.FfTwoReferenceIdeal.nD Cert.FfTwoReferenceIdeal.τ).loc Cert.FfTwoReferenceIdeal.main_arg1))

def preserves_FfTwoDx_FfTwoDxIdeal : Prop :=
  True

def algebraic_FfTwoDxIdeal_FfTwoDxReferenceIdeal [hFfTwoDxIdeal : Cert.FfTwoDxIdeal.Facts] [hFfTwoDxReferenceIdeal : Cert.FfTwoDxReferenceIdeal.Facts] : Prop :=
  ∀ (m : (ℓ : Loc Cert.FfTwoDxIdeal.nD Cert.FfTwoDxIdeal.τ Cert.FfTwoDxIdeal.sig) → Buf (Elt Ideal) ℓ) (g : Dev Cert.FfTwoDxIdeal.nD → PrngReg)
    (m' : (ℓ : Loc Cert.FfTwoDxReferenceIdeal.nD Cert.FfTwoDxReferenceIdeal.τ Cert.FfTwoDxReferenceIdeal.sig) → Buf (Elt Ideal) ℓ) (g' : Dev Cert.FfTwoDxReferenceIdeal.nD → PrngReg), Pre_FfTwoDxIdeal m →
    (∀ c : Dev Cert.FfTwoDxIdeal.nD,
      m' ((c.tc : Thread Cert.FfTwoDxReferenceIdeal.nD Cert.FfTwoDxReferenceIdeal.τ).loc Cert.FfTwoDxReferenceIdeal.main_arg0) = m ((c.tc : Thread Cert.FfTwoDxIdeal.nD Cert.FfTwoDxIdeal.τ).loc Cert.FfTwoDxIdeal.main_arg0)
      ∧ m' ((c.tc : Thread Cert.FfTwoDxReferenceIdeal.nD Cert.FfTwoDxReferenceIdeal.τ).loc Cert.FfTwoDxReferenceIdeal.main_arg1) = m ((c.tc : Thread Cert.FfTwoDxIdeal.nD Cert.FfTwoDxIdeal.τ).loc Cert.FfTwoDxIdeal.main_arg1)
      ∧ m' ((c.tc : Thread Cert.FfTwoDxReferenceIdeal.nD Cert.FfTwoDxReferenceIdeal.τ).loc Cert.FfTwoDxReferenceIdeal.main_arg2) = m ((c.tc : Thread Cert.FfTwoDxIdeal.nD Cert.FfTwoDxIdeal.τ).loc Cert.FfTwoDxIdeal.main_arg2)) →
    ∃ (v0 : (c : Dev Cert.FfTwoDxIdeal.nD) → Buf (Elt Ideal) ((c.tc : Thread Cert.FfTwoDxIdeal.nD Cert.FfTwoDxIdeal.τ).loc Cert.FfTwoDxIdeal.main_v3)),
      θ_run (Cert.FfTwoDxIdeal.defs (F := Ideal)) (onTc (τ := Cert.FfTwoDxIdeal.τ) (Cert.FfTwoDxIdeal.main (F := Ideal))) ⟨m, fun _ => 0, g⟩ (fun r => ∀ c : Dev Cert.FfTwoDxIdeal.nD,
          r.2.mem ((c.tc : Thread Cert.FfTwoDxIdeal.nD Cert.FfTwoDxIdeal.τ).loc Cert.FfTwoDxIdeal.main_v3) = v0 c
          ∧ r.2.mem ((c.tc : Thread Cert.FfTwoDxIdeal.nD Cert.FfTwoDxIdeal.τ).loc Cert.FfTwoDxIdeal.main_arg0) = m ((c.tc : Thread Cert.FfTwoDxIdeal.nD Cert.FfTwoDxIdeal.τ).loc Cert.FfTwoDxIdeal.main_arg0)
          ∧ r.2.mem ((c.tc : Thread Cert.FfTwoDxIdeal.nD Cert.FfTwoDxIdeal.τ).loc Cert.FfTwoDxIdeal.main_arg1) = m ((c.tc : Thread Cert.FfTwoDxIdeal.nD Cert.FfTwoDxIdeal.τ).loc Cert.FfTwoDxIdeal.main_arg1)
          ∧ r.2.mem ((c.tc : Thread Cert.FfTwoDxIdeal.nD Cert.FfTwoDxIdeal.τ).loc Cert.FfTwoDxIdeal.main_arg2) = m ((c.tc : Thread Cert.FfTwoDxIdeal.nD Cert.FfTwoDxIdeal.τ).loc Cert.FfTwoDxIdeal.main_arg2))
      ∧ θ_run (Cert.FfTwoDxReferenceIdeal.defs (F := Ideal)) (onTc (τ := Cert.FfTwoDxReferenceIdeal.τ) (Cert.FfTwoDxReferenceIdeal.main (F := Ideal))) ⟨m', fun _ => 0, g'⟩ (fun r => ∀ c : Dev Cert.FfTwoDxReferenceIdeal.nD,
          r.2.mem ((c.tc : Thread Cert.FfTwoDxReferenceIdeal.nD Cert.FfTwoDxReferenceIdeal.τ).loc Cert.FfTwoDxReferenceIdeal.main_v15) = v0 c
          ∧ r.2.mem ((c.tc : Thread Cert.FfTwoDxReferenceIdeal.nD Cert.FfTwoDxReferenceIdeal.τ).loc Cert.FfTwoDxReferenceIdeal.main_arg0) = m' ((c.tc : Thread Cert.FfTwoDxReferenceIdeal.nD Cert.FfTwoDxReferenceIdeal.τ).loc Cert.FfTwoDxReferenceIdeal.main_arg0)
          ∧ r.2.mem ((c.tc : Thread Cert.FfTwoDxReferenceIdeal.nD Cert.FfTwoDxReferenceIdeal.τ).loc Cert.FfTwoDxReferenceIdeal.main_arg1) = m' ((c.tc : Thread Cert.FfTwoDxReferenceIdeal.nD Cert.FfTwoDxReferenceIdeal.τ).loc Cert.FfTwoDxReferenceIdeal.main_arg1)
          ∧ r.2.mem ((c.tc : Thread Cert.FfTwoDxReferenceIdeal.nD Cert.FfTwoDxReferenceIdeal.τ).loc Cert.FfTwoDxReferenceIdeal.main_arg2) = m' ((c.tc : Thread Cert.FfTwoDxReferenceIdeal.nD Cert.FfTwoDxReferenceIdeal.τ).loc Cert.FfTwoDxReferenceIdeal.main_arg2))

def preserves_FfTwoDw_FfTwoDwIdeal : Prop :=
  True

def algebraic_FfTwoDwIdeal_FfTwoDwReferenceIdeal [hFfTwoDwIdeal : Cert.FfTwoDwIdeal.Facts] [hFfTwoDwReferenceIdeal : Cert.FfTwoDwReferenceIdeal.Facts] : Prop :=
  ∀ (m : (ℓ : Loc Cert.FfTwoDwIdeal.nD Cert.FfTwoDwIdeal.τ Cert.FfTwoDwIdeal.sig) → Buf (Elt Ideal) ℓ) (g : Dev Cert.FfTwoDwIdeal.nD → PrngReg)
    (m' : (ℓ : Loc Cert.FfTwoDwReferenceIdeal.nD Cert.FfTwoDwReferenceIdeal.τ Cert.FfTwoDwReferenceIdeal.sig) → Buf (Elt Ideal) ℓ) (g' : Dev Cert.FfTwoDwReferenceIdeal.nD → PrngReg), Pre_FfTwoDwIdeal m →
    (∀ c : Dev Cert.FfTwoDwIdeal.nD,
      m' ((c.tc : Thread Cert.FfTwoDwReferenceIdeal.nD Cert.FfTwoDwReferenceIdeal.τ).loc Cert.FfTwoDwReferenceIdeal.main_arg0) = m ((c.tc : Thread Cert.FfTwoDwIdeal.nD Cert.FfTwoDwIdeal.τ).loc Cert.FfTwoDwIdeal.main_arg0)
      ∧ m' ((c.tc : Thread Cert.FfTwoDwReferenceIdeal.nD Cert.FfTwoDwReferenceIdeal.τ).loc Cert.FfTwoDwReferenceIdeal.main_arg1) = m ((c.tc : Thread Cert.FfTwoDwIdeal.nD Cert.FfTwoDwIdeal.τ).loc Cert.FfTwoDwIdeal.main_arg1)) →
    ∃ (v0 : (c : Dev Cert.FfTwoDwIdeal.nD) → Buf (Elt Ideal) ((c.tc : Thread Cert.FfTwoDwIdeal.nD Cert.FfTwoDwIdeal.τ).loc Cert.FfTwoDwIdeal.main_v0)),
      θ_run (Cert.FfTwoDwIdeal.defs (F := Ideal)) (onTc (τ := Cert.FfTwoDwIdeal.τ) (Cert.FfTwoDwIdeal.main (F := Ideal))) ⟨m, fun _ => 0, g⟩ (fun r => ∀ c : Dev Cert.FfTwoDwIdeal.nD,
          r.2.mem ((c.tc : Thread Cert.FfTwoDwIdeal.nD Cert.FfTwoDwIdeal.τ).loc Cert.FfTwoDwIdeal.main_v0) = v0 c
          ∧ r.2.mem ((c.tc : Thread Cert.FfTwoDwIdeal.nD Cert.FfTwoDwIdeal.τ).loc Cert.FfTwoDwIdeal.main_arg0) = m ((c.tc : Thread Cert.FfTwoDwIdeal.nD Cert.FfTwoDwIdeal.τ).loc Cert.FfTwoDwIdeal.main_arg0)
          ∧ r.2.mem ((c.tc : Thread Cert.FfTwoDwIdeal.nD Cert.FfTwoDwIdeal.τ).loc Cert.FfTwoDwIdeal.main_arg1) = m ((c.tc : Thread Cert.FfTwoDwIdeal.nD Cert.FfTwoDwIdeal.τ).loc Cert.FfTwoDwIdeal.main_arg1))
      ∧ θ_run (Cert.FfTwoDwReferenceIdeal.defs (F := Ideal)) (onTc (τ := Cert.FfTwoDwReferenceIdeal.τ) (Cert.FfTwoDwReferenceIdeal.main (F := Ideal))) ⟨m', fun _ => 0, g'⟩ (fun r => ∀ c : Dev Cert.FfTwoDwReferenceIdeal.nD,
          r.2.mem ((c.tc : Thread Cert.FfTwoDwReferenceIdeal.nD Cert.FfTwoDwReferenceIdeal.τ).loc Cert.FfTwoDwReferenceIdeal.main_v8) = v0 c
          ∧ r.2.mem ((c.tc : Thread Cert.FfTwoDwReferenceIdeal.nD Cert.FfTwoDwReferenceIdeal.τ).loc Cert.FfTwoDwReferenceIdeal.main_arg0) = m' ((c.tc : Thread Cert.FfTwoDwReferenceIdeal.nD Cert.FfTwoDwReferenceIdeal.τ).loc Cert.FfTwoDwReferenceIdeal.main_arg0)
          ∧ r.2.mem ((c.tc : Thread Cert.FfTwoDwReferenceIdeal.nD Cert.FfTwoDwReferenceIdeal.τ).loc Cert.FfTwoDwReferenceIdeal.main_arg1) = m' ((c.tc : Thread Cert.FfTwoDwReferenceIdeal.nD Cert.FfTwoDwReferenceIdeal.τ).loc Cert.FfTwoDwReferenceIdeal.main_arg1))

def preserves_FfOneDw_FfOneDwIdeal : Prop :=
  True

def algebraic_FfOneDwIdeal_FfOneDwReferenceIdeal [hFfOneDwIdeal : Cert.FfOneDwIdeal.Facts] [hFfOneDwReferenceIdeal : Cert.FfOneDwReferenceIdeal.Facts] : Prop :=
  ∀ (m : (ℓ : Loc Cert.FfOneDwIdeal.nD Cert.FfOneDwIdeal.τ Cert.FfOneDwIdeal.sig) → Buf (Elt Ideal) ℓ) (g : Dev Cert.FfOneDwIdeal.nD → PrngReg)
    (m' : (ℓ : Loc Cert.FfOneDwReferenceIdeal.nD Cert.FfOneDwReferenceIdeal.τ Cert.FfOneDwReferenceIdeal.sig) → Buf (Elt Ideal) ℓ) (g' : Dev Cert.FfOneDwReferenceIdeal.nD → PrngReg), Pre_FfOneDwIdeal m →
    (∀ c : Dev Cert.FfOneDwIdeal.nD,
      m' ((c.tc : Thread Cert.FfOneDwReferenceIdeal.nD Cert.FfOneDwReferenceIdeal.τ).loc Cert.FfOneDwReferenceIdeal.main_arg0) = m ((c.tc : Thread Cert.FfOneDwIdeal.nD Cert.FfOneDwIdeal.τ).loc Cert.FfOneDwIdeal.main_arg0)
      ∧ m' ((c.tc : Thread Cert.FfOneDwReferenceIdeal.nD Cert.FfOneDwReferenceIdeal.τ).loc Cert.FfOneDwReferenceIdeal.main_arg1) = m ((c.tc : Thread Cert.FfOneDwIdeal.nD Cert.FfOneDwIdeal.τ).loc Cert.FfOneDwIdeal.main_arg1)) →
    ∃ (v0 : (c : Dev Cert.FfOneDwIdeal.nD) → Buf (Elt Ideal) ((c.tc : Thread Cert.FfOneDwIdeal.nD Cert.FfOneDwIdeal.τ).loc Cert.FfOneDwIdeal.main_v0)),
      θ_run (Cert.FfOneDwIdeal.defs (F := Ideal)) (onTc (τ := Cert.FfOneDwIdeal.τ) (Cert.FfOneDwIdeal.main (F := Ideal))) ⟨m, fun _ => 0, g⟩ (fun r => ∀ c : Dev Cert.FfOneDwIdeal.nD,
          r.2.mem ((c.tc : Thread Cert.FfOneDwIdeal.nD Cert.FfOneDwIdeal.τ).loc Cert.FfOneDwIdeal.main_v0) = v0 c
          ∧ r.2.mem ((c.tc : Thread Cert.FfOneDwIdeal.nD Cert.FfOneDwIdeal.τ).loc Cert.FfOneDwIdeal.main_arg0) = m ((c.tc : Thread Cert.FfOneDwIdeal.nD Cert.FfOneDwIdeal.τ).loc Cert.FfOneDwIdeal.main_arg0)
          ∧ r.2.mem ((c.tc : Thread Cert.FfOneDwIdeal.nD Cert.FfOneDwIdeal.τ).loc Cert.FfOneDwIdeal.main_arg1) = m ((c.tc : Thread Cert.FfOneDwIdeal.nD Cert.FfOneDwIdeal.τ).loc Cert.FfOneDwIdeal.main_arg1))
      ∧ θ_run (Cert.FfOneDwReferenceIdeal.defs (F := Ideal)) (onTc (τ := Cert.FfOneDwReferenceIdeal.τ) (Cert.FfOneDwReferenceIdeal.main (F := Ideal))) ⟨m', fun _ => 0, g'⟩ (fun r => ∀ c : Dev Cert.FfOneDwReferenceIdeal.nD,
          r.2.mem ((c.tc : Thread Cert.FfOneDwReferenceIdeal.nD Cert.FfOneDwReferenceIdeal.τ).loc Cert.FfOneDwReferenceIdeal.main_v10) = v0 c
          ∧ r.2.mem ((c.tc : Thread Cert.FfOneDwReferenceIdeal.nD Cert.FfOneDwReferenceIdeal.τ).loc Cert.FfOneDwReferenceIdeal.main_arg0) = m' ((c.tc : Thread Cert.FfOneDwReferenceIdeal.nD Cert.FfOneDwReferenceIdeal.τ).loc Cert.FfOneDwReferenceIdeal.main_arg0)
          ∧ r.2.mem ((c.tc : Thread Cert.FfOneDwReferenceIdeal.nD Cert.FfOneDwReferenceIdeal.τ).loc Cert.FfOneDwReferenceIdeal.main_arg1) = m' ((c.tc : Thread Cert.FfOneDwReferenceIdeal.nD Cert.FfOneDwReferenceIdeal.τ).loc Cert.FfOneDwReferenceIdeal.main_arg1))

def preserves_FfOneDx_FfOneDxIdeal : Prop :=
  True

def algebraic_FfOneDxIdeal_FfOneDxReferenceIdeal [hFfOneDxIdeal : Cert.FfOneDxIdeal.Facts] [hFfOneDxReferenceIdeal : Cert.FfOneDxReferenceIdeal.Facts] : Prop :=
  ∀ (m : (ℓ : Loc Cert.FfOneDxIdeal.nD Cert.FfOneDxIdeal.τ Cert.FfOneDxIdeal.sig) → Buf (Elt Ideal) ℓ) (g : Dev Cert.FfOneDxIdeal.nD → PrngReg)
    (m' : (ℓ : Loc Cert.FfOneDxReferenceIdeal.nD Cert.FfOneDxReferenceIdeal.τ Cert.FfOneDxReferenceIdeal.sig) → Buf (Elt Ideal) ℓ) (g' : Dev Cert.FfOneDxReferenceIdeal.nD → PrngReg), Pre_FfOneDxIdeal m →
    (∀ c : Dev Cert.FfOneDxIdeal.nD,
      m' ((c.tc : Thread Cert.FfOneDxReferenceIdeal.nD Cert.FfOneDxReferenceIdeal.τ).loc Cert.FfOneDxReferenceIdeal.main_arg0) = m ((c.tc : Thread Cert.FfOneDxIdeal.nD Cert.FfOneDxIdeal.τ).loc Cert.FfOneDxIdeal.main_arg0)
      ∧ m' ((c.tc : Thread Cert.FfOneDxReferenceIdeal.nD Cert.FfOneDxReferenceIdeal.τ).loc Cert.FfOneDxReferenceIdeal.main_arg1) = m ((c.tc : Thread Cert.FfOneDxIdeal.nD Cert.FfOneDxIdeal.τ).loc Cert.FfOneDxIdeal.main_arg1)) →
    ∃ (v0 : (c : Dev Cert.FfOneDxIdeal.nD) → Buf (Elt Ideal) ((c.tc : Thread Cert.FfOneDxIdeal.nD Cert.FfOneDxIdeal.τ).loc Cert.FfOneDxIdeal.main_v0)),
      θ_run (Cert.FfOneDxIdeal.defs (F := Ideal)) (onTc (τ := Cert.FfOneDxIdeal.τ) (Cert.FfOneDxIdeal.main (F := Ideal))) ⟨m, fun _ => 0, g⟩ (fun r => ∀ c : Dev Cert.FfOneDxIdeal.nD,
          r.2.mem ((c.tc : Thread Cert.FfOneDxIdeal.nD Cert.FfOneDxIdeal.τ).loc Cert.FfOneDxIdeal.main_v0) = v0 c
          ∧ r.2.mem ((c.tc : Thread Cert.FfOneDxIdeal.nD Cert.FfOneDxIdeal.τ).loc Cert.FfOneDxIdeal.main_arg0) = m ((c.tc : Thread Cert.FfOneDxIdeal.nD Cert.FfOneDxIdeal.τ).loc Cert.FfOneDxIdeal.main_arg0)
          ∧ r.2.mem ((c.tc : Thread Cert.FfOneDxIdeal.nD Cert.FfOneDxIdeal.τ).loc Cert.FfOneDxIdeal.main_arg1) = m ((c.tc : Thread Cert.FfOneDxIdeal.nD Cert.FfOneDxIdeal.τ).loc Cert.FfOneDxIdeal.main_arg1))
      ∧ θ_run (Cert.FfOneDxReferenceIdeal.defs (F := Ideal)) (onTc (τ := Cert.FfOneDxReferenceIdeal.τ) (Cert.FfOneDxReferenceIdeal.main (F := Ideal))) ⟨m', fun _ => 0, g'⟩ (fun r => ∀ c : Dev Cert.FfOneDxReferenceIdeal.nD,
          r.2.mem ((c.tc : Thread Cert.FfOneDxReferenceIdeal.nD Cert.FfOneDxReferenceIdeal.τ).loc Cert.FfOneDxReferenceIdeal.main_v7) = v0 c
          ∧ r.2.mem ((c.tc : Thread Cert.FfOneDxReferenceIdeal.nD Cert.FfOneDxReferenceIdeal.τ).loc Cert.FfOneDxReferenceIdeal.main_arg0) = m' ((c.tc : Thread Cert.FfOneDxReferenceIdeal.nD Cert.FfOneDxReferenceIdeal.τ).loc Cert.FfOneDxReferenceIdeal.main_arg0)
          ∧ r.2.mem ((c.tc : Thread Cert.FfOneDxReferenceIdeal.nD Cert.FfOneDxReferenceIdeal.τ).loc Cert.FfOneDxReferenceIdeal.main_arg1) = m' ((c.tc : Thread Cert.FfOneDxReferenceIdeal.nD Cert.FfOneDxReferenceIdeal.τ).loc Cert.FfOneDxReferenceIdeal.main_arg1))

def preserves_InDw_InDwIdeal : Prop :=
  True

def algebraic_InDwIdeal_InDwReferenceIdeal [hInDwIdeal : Cert.InDwIdeal.Facts] [hInDwReferenceIdeal : Cert.InDwReferenceIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwReferenceIdeal.nD Cert.InDwReferenceIdeal.τ Cert.InDwReferenceIdeal.sig) → Buf (Elt Ideal) ℓ) (g' : Dev Cert.InDwReferenceIdeal.nD → PrngReg), Pre_InDwIdeal m →
    (∀ c : Dev Cert.InDwIdeal.nD,
      m' ((c.tc : Thread Cert.InDwReferenceIdeal.nD Cert.InDwReferenceIdeal.τ).loc Cert.InDwReferenceIdeal.main_arg0) = m ((c.tc : Thread Cert.InDwIdeal.nD Cert.InDwIdeal.τ).loc Cert.InDwIdeal.main_arg0)
      ∧ m' ((c.tc : Thread Cert.InDwReferenceIdeal.nD Cert.InDwReferenceIdeal.τ).loc Cert.InDwReferenceIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwReferenceIdeal.defs (F := Ideal)) (onTc (τ := Cert.InDwReferenceIdeal.τ) (Cert.InDwReferenceIdeal.main (F := Ideal))) ⟨m', fun _ => 0, g'⟩ (fun r => ∀ c : Dev Cert.InDwReferenceIdeal.nD,
          r.2.mem ((c.tc : Thread Cert.InDwReferenceIdeal.nD Cert.InDwReferenceIdeal.τ).loc Cert.InDwReferenceIdeal.main_v10) = v0 c
          ∧ r.2.mem ((c.tc : Thread Cert.InDwReferenceIdeal.nD Cert.InDwReferenceIdeal.τ).loc Cert.InDwReferenceIdeal.main_arg0) = m' ((c.tc : Thread Cert.InDwReferenceIdeal.nD Cert.InDwReferenceIdeal.τ).loc Cert.InDwReferenceIdeal.main_arg0)
          ∧ r.2.mem ((c.tc : Thread Cert.InDwReferenceIdeal.nD Cert.InDwReferenceIdeal.τ).loc Cert.InDwReferenceIdeal.main_arg1) = m' ((c.tc : Thread Cert.InDwReferenceIdeal.nD Cert.InDwReferenceIdeal.τ).loc Cert.InDwReferenceIdeal.main_arg1))

def preserves_InDx_InDxIdeal : Prop :=
  True

def algebraic_InDxIdeal_InDxReferenceIdeal [hInDxIdeal : Cert.InDxIdeal.Facts] [hInDxReferenceIdeal : Cert.InDxReferenceIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxReferenceIdeal.nD Cert.InDxReferenceIdeal.τ Cert.InDxReferenceIdeal.sig) → Buf (Elt Ideal) ℓ) (g' : Dev Cert.InDxReferenceIdeal.nD → PrngReg), Pre_InDxIdeal m →
    (∀ c : Dev Cert.InDxIdeal.nD,
      m' ((c.tc : Thread Cert.InDxReferenceIdeal.nD Cert.InDxReferenceIdeal.τ).loc Cert.InDxReferenceIdeal.main_arg0) = m ((c.tc : Thread Cert.InDxIdeal.nD Cert.InDxIdeal.τ).loc Cert.InDxIdeal.main_arg0)
      ∧ m' ((c.tc : Thread Cert.InDxReferenceIdeal.nD Cert.InDxReferenceIdeal.τ).loc Cert.InDxReferenceIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxReferenceIdeal.defs (F := Ideal)) (onTc (τ := Cert.InDxReferenceIdeal.τ) (Cert.InDxReferenceIdeal.main (F := Ideal))) ⟨m', fun _ => 0, g'⟩ (fun r => ∀ c : Dev Cert.InDxReferenceIdeal.nD,
          r.2.mem ((c.tc : Thread Cert.InDxReferenceIdeal.nD Cert.InDxReferenceIdeal.τ).loc Cert.InDxReferenceIdeal.main_v7) = v0 c
          ∧ r.2.mem ((c.tc : Thread Cert.InDxReferenceIdeal.nD Cert.InDxReferenceIdeal.τ).loc Cert.InDxReferenceIdeal.main_arg0) = m' ((c.tc : Thread Cert.InDxReferenceIdeal.nD Cert.InDxReferenceIdeal.τ).loc Cert.InDxReferenceIdeal.main_arg0)
          ∧ r.2.mem ((c.tc : Thread Cert.InDxReferenceIdeal.nD Cert.InDxReferenceIdeal.τ).loc Cert.InDxReferenceIdeal.main_arg1) = m' ((c.tc : Thread Cert.InDxReferenceIdeal.nD Cert.InDxReferenceIdeal.τ).loc Cert.InDxReferenceIdeal.main_arg1))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v1) = v0 c
          ∧ r.2.mem ((c.tc : Thread Cert.AdamInReferenceIdeal.nD Cert.AdamInReferenceIdeal.τ).loc Cert.AdamInReferenceIdeal.main_v25) = v1 c
          ∧ r.2.mem ((c.tc : Thread Cert.AdamInReferenceIdeal.nD Cert.AdamInReferenceIdeal.τ).loc Cert.AdamInReferenceIdeal.main_v6) = v2 c
          ∧ r.2.mem ((c.tc : Thread Cert.AdamInReferenceIdeal.nD Cert.AdamInReferenceIdeal.τ).loc Cert.AdamInReferenceIdeal.main_v12) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3))

def preserves_AdamFfOne_AdamFfOneIdeal : Prop :=
  True

def algebraic_AdamFfOneIdeal_AdamFfOneReferenceIdeal [hAdamFfOneIdeal : Cert.AdamFfOneIdeal.Facts] [hAdamFfOneReferenceIdeal : Cert.AdamFfOneReferenceIdeal.Facts] : Prop :=
  ∀ (m : (ℓ : Loc Cert.AdamFfOneIdeal.nD Cert.AdamFfOneIdeal.τ Cert.AdamFfOneIdeal.sig) → Buf (Elt Ideal) ℓ) (g : Dev Cert.AdamFfOneIdeal.nD → PrngReg)
    (m' : (ℓ : Loc Cert.AdamFfOneReferenceIdeal.nD Cert.AdamFfOneReferenceIdeal.τ Cert.AdamFfOneReferenceIdeal.sig) → Buf (Elt Ideal) ℓ) (g' : Dev Cert.AdamFfOneReferenceIdeal.nD → PrngReg), Pre_AdamFfOneIdeal m →
    (∀ c : Dev Cert.AdamFfOneIdeal.nD,
      m' ((c.tc : Thread Cert.AdamFfOneReferenceIdeal.nD Cert.AdamFfOneReferenceIdeal.τ).loc Cert.AdamFfOneReferenceIdeal.main_arg0) = m ((c.tc : Thread Cert.AdamFfOneIdeal.nD Cert.AdamFfOneIdeal.τ).loc Cert.AdamFfOneIdeal.main_arg0)
      ∧ m' ((c.tc : Thread Cert.AdamFfOneReferenceIdeal.nD Cert.AdamFfOneReferenceIdeal.τ).loc Cert.AdamFfOneReferenceIdeal.main_arg1) = m ((c.tc : Thread Cert.AdamFfOneIdeal.nD Cert.AdamFfOneIdeal.τ).loc Cert.AdamFfOneIdeal.main_arg1)
      ∧ m' ((c.tc : Thread Cert.AdamFfOneReferenceIdeal.nD Cert.AdamFfOneReferenceIdeal.τ).loc Cert.AdamFfOneReferenceIdeal.main_arg2) = m ((c.tc : Thread Cert.AdamFfOneIdeal.nD Cert.AdamFfOneIdeal.τ).loc Cert.AdamFfOneIdeal.main_arg2)
      ∧ m' ((c.tc : Thread Cert.AdamFfOneReferenceIdeal.nD Cert.AdamFfOneReferenceIdeal.τ).loc Cert.AdamFfOneReferenceIdeal.main_arg3) = m ((c.tc : Thread Cert.AdamFfOneIdeal.nD Cert.AdamFfOneIdeal.τ).loc Cert.AdamFfOneIdeal.main_arg3)) →
    ∃ (v0 : (c : Dev Cert.AdamFfOneIdeal.nD) → Buf (Elt Ideal) ((c.tc : Thread Cert.AdamFfOneIdeal.nD Cert.AdamFfOneIdeal.τ).loc Cert.AdamFfOneIdeal.main_v0_0)) (v1 : (c : Dev Cert.AdamFfOneIdeal.nD) → Buf (Elt Ideal) ((c.tc : Thread Cert.AdamFfOneIdeal.nD Cert.AdamFfOneIdeal.τ).loc Cert.AdamFfOneIdeal.main_v0_1)) (v2 : (c : Dev Cert.AdamFfOneIdeal.nD) → Buf (Elt Ideal) ((c.tc : Thread Cert.AdamFfOneIdeal.nD Cert.AdamFfOneIdeal.τ).loc Cert.AdamFfOneIdeal.main_v0_2)) (v3 : (c : Dev Cert.AdamFfOneIdeal.nD) → Buf (Elt Ideal) ((c.tc : Thread Cert.AdamFfOneIdeal.nD Cert.AdamFfOneIdeal.τ).loc Cert.AdamFfOneIdeal.main_v0_3)),
      θ_run (Cert.AdamFfOneIdeal.defs (F := Ideal)) (onTc (τ := Cert.AdamFfOneIdeal.τ) (Cert.AdamFfOneIdeal.main (F := Ideal))) ⟨m, fun _ => 0, g⟩ (fun r => ∀ c : Dev Cert.AdamFfOneIdeal.nD,
          r.2.mem ((c.tc : Thread Cert.AdamFfOneIdeal.nD Cert.AdamFfOneIdeal.τ).loc Cert.AdamFfOneIdeal.main_v0_0) = v0 c
          ∧ r.2.mem ((c.tc : Thread Cert.AdamFfOneIdeal.nD Cert.AdamFfOneIdeal.τ).loc Cert.AdamFfOneIdeal.main_v0_1) = v1 c
          ∧ r.2.mem ((c.tc : Thread Cert.AdamFfOneIdeal.nD Cert.AdamFfOneIdeal.τ).loc Cert.AdamFfOneIdeal.main_v0_2) = v2 c
          ∧ r.2.mem ((c.tc : Thread Cert.AdamFfOneIdeal.nD Cert.AdamFfOneIdeal.τ).loc Cert.AdamFfOneIdeal.main_v0_3) = v3 c
          ∧ r.2.mem ((c.tc : Thread Cert.AdamFfOneIdeal.nD Cert.AdamFfOneIdeal.τ).loc Cert.AdamFfOneIdeal.main_arg0) = m ((c.tc : Thread Cert.AdamFfOneIdeal.nD Cert.AdamFfOneIdeal.τ).loc Cert.AdamFfOneIdeal.main_arg0)
          ∧ r.2.mem ((c.tc : Thread Cert.AdamFfOneIdeal.nD Cert.AdamFfOneIdeal.τ).loc Cert.AdamFfOneIdeal.main_arg1) = m ((c.tc : Thread Cert.AdamFfOneIdeal.nD Cert.AdamFfOneIdeal.τ).loc Cert.AdamFfOneIdeal.main_arg1)
          ∧ r.2.mem ((c.tc : Thread Cert.AdamFfOneIdeal.nD Cert.AdamFfOneIdeal.τ).loc Cert.AdamFfOneIdeal.main_arg2) = m ((c.tc : Thread Cert.AdamFfOneIdeal.nD Cert.AdamFfOneIdeal.τ).loc Cert.AdamFfOneIdeal.main_arg2)
          ∧ r.2.mem ((c.tc : Thread Cert.AdamFfOneIdeal.nD Cert.AdamFfOneIdeal.τ).loc Cert.AdamFfOneIdeal.main_arg3) = m ((c.tc : Thread Cert.AdamFfOneIdeal.nD Cert.AdamFfOneIdeal.τ).loc Cert.AdamFfOneIdeal.main_arg3))
      ∧ θ_run (Cert.AdamFfOneReferenceIdeal.defs (F := Ideal)) (onTc (τ := Cert.AdamFfOneReferenceIdeal.τ) (Cert.AdamFfOneReferenceIdeal.main (F := Ideal))) ⟨m', fun _ => 0, g'⟩ (fun r => ∀ c : Dev Cert.AdamFfOneReferenceIdeal.nD,
          r.2.mem ((c.tc : Thread Cert.AdamFfOneReferenceIdeal.nD Cert.AdamFfOneReferenceIdeal.τ).loc Cert.AdamFfOneReferenceIdeal.main_v1) = v0 c
          ∧ r.2.mem ((c.tc : Thread Cert.AdamFfOneReferenceIdeal.nD Cert.AdamFfOneReferenceIdeal.τ).loc Cert.AdamFfOneReferenceIdeal.main_v25) = v1 c
          ∧ r.2.mem ((c.tc : Thread Cert.AdamFfOneReferenceIdeal.nD Cert.AdamFfOneReferenceIdeal.τ).loc Cert.AdamFfOneReferenceIdeal.main_v6) = v2 c
          ∧ r.2.mem ((c.tc : Thread Cert.AdamFfOneReferenceIdeal.nD Cert.AdamFfOneReferenceIdeal.τ).loc Cert.AdamFfOneReferenceIdeal.main_v12) = v3 c
          ∧ r.2.mem ((c.tc : Thread Cert.AdamFfOneReferenceIdeal.nD Cert.AdamFfOneReferenceIdeal.τ).loc Cert.AdamFfOneReferenceIdeal.main_arg0) = m' ((c.tc : Thread Cert.AdamFfOneReferenceIdeal.nD Cert.AdamFfOneReferenceIdeal.τ).loc Cert.AdamFfOneReferenceIdeal.main_arg0)
          ∧ r.2.mem ((c.tc : Thread Cert.AdamFfOneReferenceIdeal.nD Cert.AdamFfOneReferenceIdeal.τ).loc Cert.AdamFfOneReferenceIdeal.main_arg1) = m' ((c.tc : Thread Cert.AdamFfOneReferenceIdeal.nD Cert.AdamFfOneReferenceIdeal.τ).loc Cert.AdamFfOneReferenceIdeal.main_arg1)
          ∧ r.2.mem ((c.tc : Thread Cert.AdamFfOneReferenceIdeal.nD Cert.AdamFfOneReferenceIdeal.τ).loc Cert.AdamFfOneReferenceIdeal.main_arg2) = m' ((c.tc : Thread Cert.AdamFfOneReferenceIdeal.nD Cert.AdamFfOneReferenceIdeal.τ).loc Cert.AdamFfOneReferenceIdeal.main_arg2)
          ∧ r.2.mem ((c.tc : Thread Cert.AdamFfOneReferenceIdeal.nD Cert.AdamFfOneReferenceIdeal.τ).loc Cert.AdamFfOneReferenceIdeal.main_arg3) = m' ((c.tc : Thread Cert.AdamFfOneReferenceIdeal.nD Cert.AdamFfOneReferenceIdeal.τ).loc Cert.AdamFfOneReferenceIdeal.main_arg3))

def preserves_AdamFfTwo_AdamFfTwoIdeal : Prop :=
  True

def algebraic_AdamFfTwoIdeal_AdamFfTwoReferenceIdeal [hAdamFfTwoIdeal : Cert.AdamFfTwoIdeal.Facts] [hAdamFfTwoReferenceIdeal : Cert.AdamFfTwoReferenceIdeal.Facts] : Prop :=
  ∀ (m : (ℓ : Loc Cert.AdamFfTwoIdeal.nD Cert.AdamFfTwoIdeal.τ Cert.AdamFfTwoIdeal.sig) → Buf (Elt Ideal) ℓ) (g : Dev Cert.AdamFfTwoIdeal.nD → PrngReg)
    (m' : (ℓ : Loc Cert.AdamFfTwoReferenceIdeal.nD Cert.AdamFfTwoReferenceIdeal.τ Cert.AdamFfTwoReferenceIdeal.sig) → Buf (Elt Ideal) ℓ) (g' : Dev Cert.AdamFfTwoReferenceIdeal.nD → PrngReg), Pre_AdamFfTwoIdeal m →
    (∀ c : Dev Cert.AdamFfTwoIdeal.nD,
      m' ((c.tc : Thread Cert.AdamFfTwoReferenceIdeal.nD Cert.AdamFfTwoReferenceIdeal.τ).loc Cert.AdamFfTwoReferenceIdeal.main_arg0) = m ((c.tc : Thread Cert.AdamFfTwoIdeal.nD Cert.AdamFfTwoIdeal.τ).loc Cert.AdamFfTwoIdeal.main_arg0)
      ∧ m' ((c.tc : Thread Cert.AdamFfTwoReferenceIdeal.nD Cert.AdamFfTwoReferenceIdeal.τ).loc Cert.AdamFfTwoReferenceIdeal.main_arg1) = m ((c.tc : Thread Cert.AdamFfTwoIdeal.nD Cert.AdamFfTwoIdeal.τ).loc Cert.AdamFfTwoIdeal.main_arg1)
      ∧ m' ((c.tc : Thread Cert.AdamFfTwoReferenceIdeal.nD Cert.AdamFfTwoReferenceIdeal.τ).loc Cert.AdamFfTwoReferenceIdeal.main_arg2) = m ((c.tc : Thread Cert.AdamFfTwoIdeal.nD Cert.AdamFfTwoIdeal.τ).loc Cert.AdamFfTwoIdeal.main_arg2)
      ∧ m' ((c.tc : Thread Cert.AdamFfTwoReferenceIdeal.nD Cert.AdamFfTwoReferenceIdeal.τ).loc Cert.AdamFfTwoReferenceIdeal.main_arg3) = m ((c.tc : Thread Cert.AdamFfTwoIdeal.nD Cert.AdamFfTwoIdeal.τ).loc Cert.AdamFfTwoIdeal.main_arg3)) →
    ∃ (v0 : (c : Dev Cert.AdamFfTwoIdeal.nD) → Buf (Elt Ideal) ((c.tc : Thread Cert.AdamFfTwoIdeal.nD Cert.AdamFfTwoIdeal.τ).loc Cert.AdamFfTwoIdeal.main_v0_0)) (v1 : (c : Dev Cert.AdamFfTwoIdeal.nD) → Buf (Elt Ideal) ((c.tc : Thread Cert.AdamFfTwoIdeal.nD Cert.AdamFfTwoIdeal.τ).loc Cert.AdamFfTwoIdeal.main_v0_1)) (v2 : (c : Dev Cert.AdamFfTwoIdeal.nD) → Buf (Elt Ideal) ((c.tc : Thread Cert.AdamFfTwoIdeal.nD Cert.AdamFfTwoIdeal.τ).loc Cert.AdamFfTwoIdeal.main_v0_2)) (v3 : (c : Dev Cert.AdamFfTwoIdeal.nD) → Buf (Elt Ideal) ((c.tc : Thread Cert.AdamFfTwoIdeal.nD Cert.AdamFfTwoIdeal.τ).loc Cert.AdamFfTwoIdeal.main_v0_3)),
      θ_run (Cert.AdamFfTwoIdeal.defs (F := Ideal)) (onTc (τ := Cert.AdamFfTwoIdeal.τ) (Cert.AdamFfTwoIdeal.main (F := Ideal))) ⟨m, fun _ => 0, g⟩ (fun r => ∀ c : Dev Cert.AdamFfTwoIdeal.nD,
          r.2.mem ((c.tc : Thread Cert.AdamFfTwoIdeal.nD Cert.AdamFfTwoIdeal.τ).loc Cert.AdamFfTwoIdeal.main_v0_0) = v0 c
          ∧ r.2.mem ((c.tc : Thread Cert.AdamFfTwoIdeal.nD Cert.AdamFfTwoIdeal.τ).loc Cert.AdamFfTwoIdeal.main_v0_1) = v1 c
          ∧ r.2.mem ((c.tc : Thread Cert.AdamFfTwoIdeal.nD Cert.AdamFfTwoIdeal.τ).loc Cert.AdamFfTwoIdeal.main_v0_2) = v2 c
          ∧ r.2.mem ((c.tc : Thread Cert.AdamFfTwoIdeal.nD Cert.AdamFfTwoIdeal.τ).loc Cert.AdamFfTwoIdeal.main_v0_3) = v3 c
          ∧ r.2.mem ((c.tc : Thread Cert.AdamFfTwoIdeal.nD Cert.AdamFfTwoIdeal.τ).loc Cert.AdamFfTwoIdeal.main_arg0) = m ((c.tc : Thread Cert.AdamFfTwoIdeal.nD Cert.AdamFfTwoIdeal.τ).loc Cert.AdamFfTwoIdeal.main_arg0)
          ∧ r.2.mem ((c.tc : Thread Cert.AdamFfTwoIdeal.nD Cert.AdamFfTwoIdeal.τ).loc Cert.AdamFfTwoIdeal.main_arg1) = m ((c.tc : Thread Cert.AdamFfTwoIdeal.nD Cert.AdamFfTwoIdeal.τ).loc Cert.AdamFfTwoIdeal.main_arg1)
          ∧ r.2.mem ((c.tc : Thread Cert.AdamFfTwoIdeal.nD Cert.AdamFfTwoIdeal.τ).loc Cert.AdamFfTwoIdeal.main_arg2) = m ((c.tc : Thread Cert.AdamFfTwoIdeal.nD Cert.AdamFfTwoIdeal.τ).loc Cert.AdamFfTwoIdeal.main_arg2)
          ∧ r.2.mem ((c.tc : Thread Cert.AdamFfTwoIdeal.nD Cert.AdamFfTwoIdeal.τ).loc Cert.AdamFfTwoIdeal.main_arg3) = m ((c.tc : Thread Cert.AdamFfTwoIdeal.nD Cert.AdamFfTwoIdeal.τ).loc Cert.AdamFfTwoIdeal.main_arg3))
      ∧ θ_run (Cert.AdamFfTwoReferenceIdeal.defs (F := Ideal)) (onTc (τ := Cert.AdamFfTwoReferenceIdeal.τ) (Cert.AdamFfTwoReferenceIdeal.main (F := Ideal))) ⟨m', fun _ => 0, g'⟩ (fun r => ∀ c : Dev Cert.AdamFfTwoReferenceIdeal.nD,
          r.2.mem ((c.tc : Thread Cert.AdamFfTwoReferenceIdeal.nD Cert.AdamFfTwoReferenceIdeal.τ).loc Cert.AdamFfTwoReferenceIdeal.main_v1) = v0 c
          ∧ r.2.mem ((c.tc : Thread Cert.AdamFfTwoReferenceIdeal.nD Cert.AdamFfTwoReferenceIdeal.τ).loc Cert.AdamFfTwoReferenceIdeal.main_v25) = v1 c
          ∧ r.2.mem ((c.tc : Thread Cert.AdamFfTwoReferenceIdeal.nD Cert.AdamFfTwoReferenceIdeal.τ).loc Cert.AdamFfTwoReferenceIdeal.main_v6) = v2 c
          ∧ r.2.mem ((c.tc : Thread Cert.AdamFfTwoReferenceIdeal.nD Cert.AdamFfTwoReferenceIdeal.τ).loc Cert.AdamFfTwoReferenceIdeal.main_v12) = v3 c
          ∧ r.2.mem ((c.tc : Thread Cert.AdamFfTwoReferenceIdeal.nD Cert.AdamFfTwoReferenceIdeal.τ).loc Cert.AdamFfTwoReferenceIdeal.main_arg0) = m' ((c.tc : Thread Cert.AdamFfTwoReferenceIdeal.nD Cert.AdamFfTwoReferenceIdeal.τ).loc Cert.AdamFfTwoReferenceIdeal.main_arg0)
          ∧ r.2.mem ((c.tc : Thread Cert.AdamFfTwoReferenceIdeal.nD Cert.AdamFfTwoReferenceIdeal.τ).loc Cert.AdamFfTwoReferenceIdeal.main_arg1) = m' ((c.tc : Thread Cert.AdamFfTwoReferenceIdeal.nD Cert.AdamFfTwoReferenceIdeal.τ).loc Cert.AdamFfTwoReferenceIdeal.main_arg1)
          ∧ r.2.mem ((c.tc : Thread Cert.AdamFfTwoReferenceIdeal.nD Cert.AdamFfTwoReferenceIdeal.τ).loc Cert.AdamFfTwoReferenceIdeal.main_arg2) = m' ((c.tc : Thread Cert.AdamFfTwoReferenceIdeal.nD Cert.AdamFfTwoReferenceIdeal.τ).loc Cert.AdamFfTwoReferenceIdeal.main_arg2)
          ∧ r.2.mem ((c.tc : Thread Cert.AdamFfTwoReferenceIdeal.nD Cert.AdamFfTwoReferenceIdeal.τ).loc Cert.AdamFfTwoReferenceIdeal.main_arg3) = m' ((c.tc : Thread Cert.AdamFfTwoReferenceIdeal.nD Cert.AdamFfTwoReferenceIdeal.τ).loc Cert.AdamFfTwoReferenceIdeal.main_arg3))

def preserves_AdamOut_AdamOutIdeal : Prop :=
  True

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v1) = v0 c
          ∧ r.2.mem ((c.tc : Thread Cert.AdamOutReferenceIdeal.nD Cert.AdamOutReferenceIdeal.τ).loc Cert.AdamOutReferenceIdeal.main_v25) = v1 c
          ∧ r.2.mem ((c.tc : Thread Cert.AdamOutReferenceIdeal.nD Cert.AdamOutReferenceIdeal.τ).loc Cert.AdamOutReferenceIdeal.main_v6) = v2 c
          ∧ r.2.mem ((c.tc : Thread Cert.AdamOutReferenceIdeal.nD Cert.AdamOutReferenceIdeal.τ).loc Cert.AdamOutReferenceIdeal.main_v12) = v3 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3))

def preserves_AdamMix_AdamMixIdeal : Prop :=
  True

def algebraic_AdamMixIdeal_AdamMixReferenceIdeal [hAdamMixIdeal : Cert.AdamMixIdeal.Facts] [hAdamMixReferenceIdeal : Cert.AdamMixReferenceIdeal.Facts] : Prop :=
  ∀ (m : (ℓ : Loc Cert.AdamMixIdeal.nD Cert.AdamMixIdeal.τ Cert.AdamMixIdeal.sig) → Buf (Elt Ideal) ℓ) (g : Dev Cert.AdamMixIdeal.nD → PrngReg)
    (m' : (ℓ : Loc Cert.AdamMixReferenceIdeal.nD Cert.AdamMixReferenceIdeal.τ Cert.AdamMixReferenceIdeal.sig) → Buf (Elt Ideal) ℓ) (g' : Dev Cert.AdamMixReferenceIdeal.nD → PrngReg), Pre_AdamMixIdeal m →
    (∀ c : Dev Cert.AdamMixIdeal.nD,
      m' ((c.tc : Thread Cert.AdamMixReferenceIdeal.nD Cert.AdamMixReferenceIdeal.τ).loc Cert.AdamMixReferenceIdeal.main_arg0) = m ((c.tc : Thread Cert.AdamMixIdeal.nD Cert.AdamMixIdeal.τ).loc Cert.AdamMixIdeal.main_arg0)
      ∧ m' ((c.tc : Thread Cert.AdamMixReferenceIdeal.nD Cert.AdamMixReferenceIdeal.τ).loc Cert.AdamMixReferenceIdeal.main_arg1) = m ((c.tc : Thread Cert.AdamMixIdeal.nD Cert.AdamMixIdeal.τ).loc Cert.AdamMixIdeal.main_arg1)
      ∧ m' ((c.tc : Thread Cert.AdamMixReferenceIdeal.nD Cert.AdamMixReferenceIdeal.τ).loc Cert.AdamMixReferenceIdeal.main_arg2) = m ((c.tc : Thread Cert.AdamMixIdeal.nD Cert.AdamMixIdeal.τ).loc Cert.AdamMixIdeal.main_arg2)
      ∧ m' ((c.tc : Thread Cert.AdamMixReferenceIdeal.nD Cert.AdamMixReferenceIdeal.τ).loc Cert.AdamMixReferenceIdeal.main_arg3) = m ((c.tc : Thread Cert.AdamMixIdeal.nD Cert.AdamMixIdeal.τ).loc Cert.AdamMixIdeal.main_arg3)) →
    ∃ (v0 : (c : Dev Cert.AdamMixIdeal.nD) → Buf (Elt Ideal) ((c.tc : Thread Cert.AdamMixIdeal.nD Cert.AdamMixIdeal.τ).loc Cert.AdamMixIdeal.main_v0_0)) (v1 : (c : Dev Cert.AdamMixIdeal.nD) → Buf (Elt Ideal) ((c.tc : Thread Cert.AdamMixIdeal.nD Cert.AdamMixIdeal.τ).loc Cert.AdamMixIdeal.main_v0_1)) (v2 : (c : Dev Cert.AdamMixIdeal.nD) → Buf (Elt Ideal) ((c.tc : Thread Cert.AdamMixIdeal.nD Cert.AdamMixIdeal.τ).loc Cert.AdamMixIdeal.main_v0_2)) (v3 : (c : Dev Cert.AdamMixIdeal.nD) → Buf (Elt Ideal) ((c.tc : Thread Cert.AdamMixIdeal.nD Cert.AdamMixIdeal.τ).loc Cert.AdamMixIdeal.main_v0_3)),
      θ_run (Cert.AdamMixIdeal.defs (F := Ideal)) (onTc (τ := Cert.AdamMixIdeal.τ) (Cert.AdamMixIdeal.main (F := Ideal))) ⟨m, fun _ => 0, g⟩ (fun r => ∀ c : Dev Cert.AdamMixIdeal.nD,
          r.2.mem ((c.tc : Thread Cert.AdamMixIdeal.nD Cert.AdamMixIdeal.τ).loc Cert.AdamMixIdeal.main_v0_0) = v0 c
          ∧ r.2.mem ((c.tc : Thread Cert.AdamMixIdeal.nD Cert.AdamMixIdeal.τ).loc Cert.AdamMixIdeal.main_v0_1) = v1 c
          ∧ r.2.mem ((c.tc : Thread Cert.AdamMixIdeal.nD Cert.AdamMixIdeal.τ).loc Cert.AdamMixIdeal.main_v0_2) = v2 c
          ∧ r.2.mem ((c.tc : Thread Cert.AdamMixIdeal.nD Cert.AdamMixIdeal.τ).loc Cert.AdamMixIdeal.main_v0_3) = v3 c
          ∧ r.2.mem ((c.tc : Thread Cert.AdamMixIdeal.nD Cert.AdamMixIdeal.τ).loc Cert.AdamMixIdeal.main_arg0) = m ((c.tc : Thread Cert.AdamMixIdeal.nD Cert.AdamMixIdeal.τ).loc Cert.AdamMixIdeal.main_arg0)
          ∧ r.2.mem ((c.tc : Thread Cert.AdamMixIdeal.nD Cert.AdamMixIdeal.τ).loc Cert.AdamMixIdeal.main_arg1) = m ((c.tc : Thread Cert.AdamMixIdeal.nD Cert.AdamMixIdeal.τ).loc Cert.AdamMixIdeal.main_arg1)
          ∧ r.2.mem ((c.tc : Thread Cert.AdamMixIdeal.nD Cert.AdamMixIdeal.τ).loc Cert.AdamMixIdeal.main_arg2) = m ((c.tc : Thread Cert.AdamMixIdeal.nD Cert.AdamMixIdeal.τ).loc Cert.AdamMixIdeal.main_arg2)
          ∧ r.2.mem ((c.tc : Thread Cert.AdamMixIdeal.nD Cert.AdamMixIdeal.τ).loc Cert.AdamMixIdeal.main_arg3) = m ((c.tc : Thread Cert.AdamMixIdeal.nD Cert.AdamMixIdeal.τ).loc Cert.AdamMixIdeal.main_arg3))
      ∧ θ_run (Cert.AdamMixReferenceIdeal.defs (F := Ideal)) (onTc (τ := Cert.AdamMixReferenceIdeal.τ) (Cert.AdamMixReferenceIdeal.main (F := Ideal))) ⟨m', fun _ => 0, g'⟩ (fun r => ∀ c : Dev Cert.AdamMixReferenceIdeal.nD,
          r.2.mem ((c.tc : Thread Cert.AdamMixReferenceIdeal.nD Cert.AdamMixReferenceIdeal.τ).loc Cert.AdamMixReferenceIdeal.main_v1) = v0 c
          ∧ r.2.mem ((c.tc : Thread Cert.AdamMixReferenceIdeal.nD Cert.AdamMixReferenceIdeal.τ).loc Cert.AdamMixReferenceIdeal.main_v25) = v1 c
          ∧ r.2.mem ((c.tc : Thread Cert.AdamMixReferenceIdeal.nD Cert.AdamMixReferenceIdeal.τ).loc Cert.AdamMixReferenceIdeal.main_v6) = v2 c
          ∧ r.2.mem ((c.tc : Thread Cert.AdamMixReferenceIdeal.nD Cert.AdamMixReferenceIdeal.τ).loc Cert.AdamMixReferenceIdeal.main_v12) = v3 c
          ∧ r.2.mem ((c.tc : Thread Cert.AdamMixReferenceIdeal.nD Cert.AdamMixReferenceIdeal.τ).loc Cert.AdamMixReferenceIdeal.main_arg0) = m' ((c.tc : Thread Cert.AdamMixReferenceIdeal.nD Cert.AdamMixReferenceIdeal.τ).loc Cert.AdamMixReferenceIdeal.main_arg0)
          ∧ r.2.mem ((c.tc : Thread Cert.AdamMixReferenceIdeal.nD Cert.AdamMixReferenceIdeal.τ).loc Cert.AdamMixReferenceIdeal.main_arg1) = m' ((c.tc : Thread Cert.AdamMixReferenceIdeal.nD Cert.AdamMixReferenceIdeal.τ).loc Cert.AdamMixReferenceIdeal.main_arg1)
          ∧ r.2.mem ((c.tc : Thread Cert.AdamMixReferenceIdeal.nD Cert.AdamMixReferenceIdeal.τ).loc Cert.AdamMixReferenceIdeal.main_arg2) = m' ((c.tc : Thread Cert.AdamMixReferenceIdeal.nD Cert.AdamMixReferenceIdeal.τ).loc Cert.AdamMixReferenceIdeal.main_arg2)
          ∧ r.2.mem ((c.tc : Thread Cert.AdamMixReferenceIdeal.nD Cert.AdamMixReferenceIdeal.τ).loc Cert.AdamMixReferenceIdeal.main_arg3) = m' ((c.tc : Thread Cert.AdamMixReferenceIdeal.nD Cert.AdamMixReferenceIdeal.τ).loc Cert.AdamMixReferenceIdeal.main_arg3))

def preserves_AdamAda_AdamAdaIdeal : Prop :=
  True

def algebraic_AdamAdaIdeal_AdamAdaReferenceIdeal [hAdamAdaIdeal : Cert.AdamAdaIdeal.Facts] [hAdamAdaReferenceIdeal : Cert.AdamAdaReferenceIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaReferenceIdeal.nD Cert.AdamAdaReferenceIdeal.τ Cert.AdamAdaReferenceIdeal.sig) → Buf (Elt Ideal) ℓ) (g' : Dev Cert.AdamAdaReferenceIdeal.nD → PrngReg), Pre_AdamAdaIdeal m →
    (∀ c : Dev Cert.AdamAdaIdeal.nD,
      m' ((c.tc : Thread Cert.AdamAdaReferenceIdeal.nD Cert.AdamAdaReferenceIdeal.τ).loc Cert.AdamAdaReferenceIdeal.main_arg0) = m ((c.tc : Thread Cert.AdamAdaIdeal.nD Cert.AdamAdaIdeal.τ).loc Cert.AdamAdaIdeal.main_arg0)
      ∧ m' ((c.tc : Thread Cert.AdamAdaReferenceIdeal.nD Cert.AdamAdaReferenceIdeal.τ).loc Cert.AdamAdaReferenceIdeal.main_arg1) = m ((c.tc : Thread Cert.AdamAdaIdeal.nD Cert.AdamAdaIdeal.τ).loc Cert.AdamAdaIdeal.main_arg1)
      ∧ m' ((c.tc : Thread Cert.AdamAdaReferenceIdeal.nD Cert.AdamAdaReferenceIdeal.τ).loc Cert.AdamAdaReferenceIdeal.main_arg2) = m ((c.tc : Thread Cert.AdamAdaIdeal.nD Cert.AdamAdaIdeal.τ).loc Cert.AdamAdaIdeal.main_arg2)
      ∧ m' ((c.tc : Thread Cert.AdamAdaReferenceIdeal.nD Cert.AdamAdaReferenceIdeal.τ).loc Cert.AdamAdaReferenceIdeal.main_arg3) = m ((c.tc : Thread Cert.AdamAdaIdeal.nD Cert.AdamAdaIdeal.τ).loc Cert.AdamAdaIdeal.main_arg3)
      ∧ m' ((c.tc : Thread Cert.AdamAdaReferenceIdeal.nD Cert.AdamAdaReferenceIdeal.τ).loc Cert.AdamAdaReferenceIdeal.main_arg4) = m ((c.tc : Thread Cert.AdamAdaIdeal.nD Cert.AdamAdaIdeal.τ).loc Cert.AdamAdaIdeal.main_arg4)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)) (v3 : (c : Dev Cert.AdamAdaIdeal.nD) → Buf (Elt Ideal) ((c.tc : Thread Cert.AdamAdaIdeal.nD Cert.AdamAdaIdeal.τ).loc Cert.AdamAdaIdeal.main_v0_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_v0_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3)
          ∧ r.2.mem ((c.tc : Thread Cert.AdamAdaIdeal.nD Cert.AdamAdaIdeal.τ).loc Cert.AdamAdaIdeal.main_arg4) = m ((c.tc : Thread Cert.AdamAdaIdeal.nD Cert.AdamAdaIdeal.τ).loc Cert.AdamAdaIdeal.main_arg4))
      ∧ θ_run (Cert.AdamAdaReferenceIdeal.defs (F := Ideal)) (onTc (τ := Cert.AdamAdaReferenceIdeal.τ) (Cert.AdamAdaReferenceIdeal.main (F := Ideal))) ⟨m', fun _ => 0, g'⟩ (fun r => ∀ c : Dev Cert.AdamAdaReferenceIdeal.nD,
          r.2.mem ((c.tc : Thread Cert.AdamAdaReferenceIdeal.nD Cert.AdamAdaReferenceIdeal.τ).loc Cert.AdamAdaReferenceIdeal.main_v2) = v0 c
          ∧ r.2.mem ((c.tc : Thread Cert.AdamAdaReferenceIdeal.nD Cert.AdamAdaReferenceIdeal.τ).loc Cert.AdamAdaReferenceIdeal.main_v26) = v1 c
          ∧ r.2.mem ((c.tc : Thread Cert.AdamAdaReferenceIdeal.nD Cert.AdamAdaReferenceIdeal.τ).loc Cert.AdamAdaReferenceIdeal.main_v7) = v2 c
          ∧ r.2.mem ((c.tc : Thread Cert.AdamAdaReferenceIdeal.nD Cert.AdamAdaReferenceIdeal.τ).loc Cert.AdamAdaReferenceIdeal.main_v13) = v3 c
          ∧ r.2.mem ((c.tc : Thread Cert.AdamAdaReferenceIdeal.nD Cert.AdamAdaReferenceIdeal.τ).loc Cert.AdamAdaReferenceIdeal.main_arg0) = m' ((c.tc : Thread Cert.AdamAdaReferenceIdeal.nD Cert.AdamAdaReferenceIdeal.τ).loc Cert.AdamAdaReferenceIdeal.main_arg0)
          ∧ r.2.mem ((c.tc : Thread Cert.AdamAdaReferenceIdeal.nD Cert.AdamAdaReferenceIdeal.τ).loc Cert.AdamAdaReferenceIdeal.main_arg1) = m' ((c.tc : Thread Cert.AdamAdaReferenceIdeal.nD Cert.AdamAdaReferenceIdeal.τ).loc Cert.AdamAdaReferenceIdeal.main_arg1)
          ∧ r.2.mem ((c.tc : Thread Cert.AdamAdaReferenceIdeal.nD Cert.AdamAdaReferenceIdeal.τ).loc Cert.AdamAdaReferenceIdeal.main_arg2) = m' ((c.tc : Thread Cert.AdamAdaReferenceIdeal.nD Cert.AdamAdaReferenceIdeal.τ).loc Cert.AdamAdaReferenceIdeal.main_arg2)
          ∧ r.2.mem ((c.tc : Thread Cert.AdamAdaReferenceIdeal.nD Cert.AdamAdaReferenceIdeal.τ).loc Cert.AdamAdaReferenceIdeal.main_arg3) = m' ((c.tc : Thread Cert.AdamAdaReferenceIdeal.nD Cert.AdamAdaReferenceIdeal.τ).loc Cert.AdamAdaReferenceIdeal.main_arg3)
          ∧ r.2.mem ((c.tc : Thread Cert.AdamAdaReferenceIdeal.nD Cert.AdamAdaReferenceIdeal.τ).loc Cert.AdamAdaReferenceIdeal.main_arg4) = m' ((c.tc : Thread Cert.AdamAdaReferenceIdeal.nD Cert.AdamAdaReferenceIdeal.τ).loc Cert.AdamAdaReferenceIdeal.main_arg4))

def preserves_AdamLate_AdamLateIdeal : Prop :=
  True

def algebraic_AdamLateIdeal_AdamLateReferenceIdeal [hAdamLateIdeal : Cert.AdamLateIdeal.Facts] [hAdamLateReferenceIdeal : Cert.AdamLateReferenceIdeal.Facts] : Prop :=
  ∀ (m : (ℓ : Loc Cert.AdamLateIdeal.nD Cert.AdamLateIdeal.τ Cert.AdamLateIdeal.sig) → Buf (Elt Ideal) ℓ) (g : Dev Cert.AdamLateIdeal.nD → PrngReg)
    (m' : (ℓ : Loc Cert.AdamLateReferenceIdeal.nD Cert.AdamLateReferenceIdeal.τ Cert.AdamLateReferenceIdeal.sig) → Buf (Elt Ideal) ℓ) (g' : Dev Cert.AdamLateReferenceIdeal.nD → PrngReg), Pre_AdamLateIdeal m →
    (∀ c : Dev Cert.AdamLateIdeal.nD,
      m' ((c.tc : Thread Cert.AdamLateReferenceIdeal.nD Cert.AdamLateReferenceIdeal.τ).loc Cert.AdamLateReferenceIdeal.main_arg0) = m ((c.tc : Thread Cert.AdamLateIdeal.nD Cert.AdamLateIdeal.τ).loc Cert.AdamLateIdeal.main_arg0)
      ∧ m' ((c.tc : Thread Cert.AdamLateReferenceIdeal.nD Cert.AdamLateReferenceIdeal.τ).loc Cert.AdamLateReferenceIdeal.main_arg1) = m ((c.tc : Thread Cert.AdamLateIdeal.nD Cert.AdamLateIdeal.τ).loc Cert.AdamLateIdeal.main_arg1)
      ∧ m' ((c.tc : Thread Cert.AdamLateReferenceIdeal.nD Cert.AdamLateReferenceIdeal.τ).loc Cert.AdamLateReferenceIdeal.main_arg2) = m ((c.tc : Thread Cert.AdamLateIdeal.nD Cert.AdamLateIdeal.τ).loc Cert.AdamLateIdeal.main_arg2)
      ∧ m' ((c.tc : Thread Cert.AdamLateReferenceIdeal.nD Cert.AdamLateReferenceIdeal.τ).loc Cert.AdamLateReferenceIdeal.main_arg3) = m ((c.tc : Thread Cert.AdamLateIdeal.nD Cert.AdamLateIdeal.τ).loc Cert.AdamLateIdeal.main_arg3)
      ∧ m' ((c.tc : Thread Cert.AdamLateReferenceIdeal.nD Cert.AdamLateReferenceIdeal.τ).loc Cert.AdamLateReferenceIdeal.main_arg4) = m ((c.tc : Thread Cert.AdamLateIdeal.nD Cert.AdamLateIdeal.τ).loc Cert.AdamLateIdeal.main_arg4)
      ∧ m' ((c.tc : Thread Cert.AdamLateReferenceIdeal.nD Cert.AdamLateReferenceIdeal.τ).loc Cert.AdamLateReferenceIdeal.main_arg5) = m ((c.tc : Thread Cert.AdamLateIdeal.nD Cert.AdamLateIdeal.τ).loc Cert.AdamLateIdeal.main_arg5)
      ∧ m' ((c.tc : Thread Cert.AdamLateReferenceIdeal.nD Cert.AdamLateReferenceIdeal.τ).loc Cert.AdamLateReferenceIdeal.main_arg6) = m ((c.tc : Thread Cert.AdamLateIdeal.nD Cert.AdamLateIdeal.τ).loc Cert.AdamLateIdeal.main_arg6)
      ∧ m' ((c.tc : Thread Cert.AdamLateReferenceIdeal.nD Cert.AdamLateReferenceIdeal.τ).loc Cert.AdamLateReferenceIdeal.main_arg7) = m ((c.tc : Thread Cert.AdamLateIdeal.nD Cert.AdamLateIdeal.τ).loc Cert.AdamLateIdeal.main_arg7)) →
    ∃ (v0 : (c : Dev Cert.AdamLateIdeal.nD) → Buf (Elt Ideal) ((c.tc : Thread Cert.AdamLateIdeal.nD Cert.AdamLateIdeal.τ).loc Cert.AdamLateIdeal.main_v0_0)) (v1 : (c : Dev Cert.AdamLateIdeal.nD) → Buf (Elt Ideal) ((c.tc : Thread Cert.AdamLateIdeal.nD Cert.AdamLateIdeal.τ).loc Cert.AdamLateIdeal.main_v0_1)) (v2 : (c : Dev Cert.AdamLateIdeal.nD) → Buf (Elt Ideal) ((c.tc : Thread Cert.AdamLateIdeal.nD Cert.AdamLateIdeal.τ).loc Cert.AdamLateIdeal.main_v0_2)) (v3 : (c : Dev Cert.AdamLateIdeal.nD) → Buf (Elt Ideal) ((c.tc : Thread Cert.AdamLateIdeal.nD Cert.AdamLateIdeal.τ).loc Cert.AdamLateIdeal.main_v0_3)) (v4 : (c : Dev Cert.AdamLateIdeal.nD) → Buf (Elt Ideal) ((c.tc : Thread Cert.AdamLateIdeal.nD Cert.AdamLateIdeal.τ).loc Cert.AdamLateIdeal.main_v0_4)) (v5 : (c : Dev Cert.AdamLateIdeal.nD) → Buf (Elt Ideal) ((c.tc : Thread Cert.AdamLateIdeal.nD Cert.AdamLateIdeal.τ).loc Cert.AdamLateIdeal.main_v0_5)),
      θ_run (Cert.AdamLateIdeal.defs (F := Ideal)) (onTc (τ := Cert.AdamLateIdeal.τ) (Cert.AdamLateIdeal.main (F := Ideal))) ⟨m, fun _ => 0, g⟩ (fun r => ∀ c : Dev Cert.AdamLateIdeal.nD,
          r.2.mem ((c.tc : Thread Cert.AdamLateIdeal.nD Cert.AdamLateIdeal.τ).loc Cert.AdamLateIdeal.main_v0_0) = v0 c
          ∧ r.2.mem ((c.tc : Thread Cert.AdamLateIdeal.nD Cert.AdamLateIdeal.τ).loc Cert.AdamLateIdeal.main_v0_1) = v1 c
          ∧ r.2.mem ((c.tc : Thread Cert.AdamLateIdeal.nD Cert.AdamLateIdeal.τ).loc Cert.AdamLateIdeal.main_v0_2) = v2 c
          ∧ r.2.mem ((c.tc : Thread Cert.AdamLateIdeal.nD Cert.AdamLateIdeal.τ).loc Cert.AdamLateIdeal.main_v0_3) = v3 c
          ∧ r.2.mem ((c.tc : Thread Cert.AdamLateIdeal.nD Cert.AdamLateIdeal.τ).loc Cert.AdamLateIdeal.main_v0_4) = v4 c
          ∧ r.2.mem ((c.tc : Thread Cert.AdamLateIdeal.nD Cert.AdamLateIdeal.τ).loc Cert.AdamLateIdeal.main_v0_5) = v5 c
          ∧ r.2.mem ((c.tc : Thread Cert.AdamLateIdeal.nD Cert.AdamLateIdeal.τ).loc Cert.AdamLateIdeal.main_arg0) = m ((c.tc : Thread Cert.AdamLateIdeal.nD Cert.AdamLateIdeal.τ).loc Cert.AdamLateIdeal.main_arg0)
          ∧ r.2.mem ((c.tc : Thread Cert.AdamLateIdeal.nD Cert.AdamLateIdeal.τ).loc Cert.AdamLateIdeal.main_arg1) = m ((c.tc : Thread Cert.AdamLateIdeal.nD Cert.AdamLateIdeal.τ).loc Cert.AdamLateIdeal.main_arg1)
          ∧ r.2.mem ((c.tc : Thread Cert.AdamLateIdeal.nD Cert.AdamLateIdeal.τ).loc Cert.AdamLateIdeal.main_arg2) = m ((c.tc : Thread Cert.AdamLateIdeal.nD Cert.AdamLateIdeal.τ).loc Cert.AdamLateIdeal.main_arg2)
          ∧ r.2.mem ((c.tc : Thread Cert.AdamLateIdeal.nD Cert.AdamLateIdeal.τ).loc Cert.AdamLateIdeal.main_arg3) = m ((c.tc : Thread Cert.AdamLateIdeal.nD Cert.AdamLateIdeal.τ).loc Cert.AdamLateIdeal.main_arg3)
          ∧ r.2.mem ((c.tc : Thread Cert.AdamLateIdeal.nD Cert.AdamLateIdeal.τ).loc Cert.AdamLateIdeal.main_arg4) = m ((c.tc : Thread Cert.AdamLateIdeal.nD Cert.AdamLateIdeal.τ).loc Cert.AdamLateIdeal.main_arg4)
          ∧ r.2.mem ((c.tc : Thread Cert.AdamLateIdeal.nD Cert.AdamLateIdeal.τ).loc Cert.AdamLateIdeal.main_arg5) = m ((c.tc : Thread Cert.AdamLateIdeal.nD Cert.AdamLateIdeal.τ).loc Cert.AdamLateIdeal.main_arg5)
          ∧ r.2.mem ((c.tc : Thread Cert.AdamLateIdeal.nD Cert.AdamLateIdeal.τ).loc Cert.AdamLateIdeal.main_arg6) = m ((c.tc : Thread Cert.AdamLateIdeal.nD Cert.AdamLateIdeal.τ).loc Cert.AdamLateIdeal.main_arg6)
          ∧ r.2.mem ((c.tc : Thread Cert.AdamLateIdeal.nD Cert.AdamLateIdeal.τ).loc Cert.AdamLateIdeal.main_arg7) = m ((c.tc : Thread Cert.AdamLateIdeal.nD Cert.AdamLateIdeal.τ).loc Cert.AdamLateIdeal.main_arg7))
      ∧ θ_run (Cert.AdamLateReferenceIdeal.defs (F := Ideal)) (onTc (τ := Cert.AdamLateReferenceIdeal.τ) (Cert.AdamLateReferenceIdeal.main (F := Ideal))) ⟨m', fun _ => 0, g'⟩ (fun r => ∀ c : Dev Cert.AdamLateReferenceIdeal.nD,
          r.2.mem ((c.tc : Thread Cert.AdamLateReferenceIdeal.nD Cert.AdamLateReferenceIdeal.τ).loc Cert.AdamLateReferenceIdeal.main_v23) = v0 c
          ∧ r.2.mem ((c.tc : Thread Cert.AdamLateReferenceIdeal.nD Cert.AdamLateReferenceIdeal.τ).loc Cert.AdamLateReferenceIdeal.main_v4) = v1 c
          ∧ r.2.mem ((c.tc : Thread Cert.AdamLateReferenceIdeal.nD Cert.AdamLateReferenceIdeal.τ).loc Cert.AdamLateReferenceIdeal.main_v10) = v2 c
          ∧ r.2.mem ((c.tc : Thread Cert.AdamLateReferenceIdeal.nD Cert.AdamLateReferenceIdeal.τ).loc Cert.AdamLateReferenceIdeal.main_v47) = v3 c
          ∧ r.2.mem ((c.tc : Thread Cert.AdamLateReferenceIdeal.nD Cert.AdamLateReferenceIdeal.τ).loc Cert.AdamLateReferenceIdeal.main_v28) = v4 c
          ∧ r.2.mem ((c.tc : Thread Cert.AdamLateReferenceIdeal.nD Cert.AdamLateReferenceIdeal.τ).loc Cert.AdamLateReferenceIdeal.main_v34) = v5 c
          ∧ r.2.mem ((c.tc : Thread Cert.AdamLateReferenceIdeal.nD Cert.AdamLateReferenceIdeal.τ).loc Cert.AdamLateReferenceIdeal.main_arg0) = m' ((c.tc : Thread Cert.AdamLateReferenceIdeal.nD Cert.AdamLateReferenceIdeal.τ).loc Cert.AdamLateReferenceIdeal.main_arg0)
          ∧ r.2.mem ((c.tc : Thread Cert.AdamLateReferenceIdeal.nD Cert.AdamLateReferenceIdeal.τ).loc Cert.AdamLateReferenceIdeal.main_arg1) = m' ((c.tc : Thread Cert.AdamLateReferenceIdeal.nD Cert.AdamLateReferenceIdeal.τ).loc Cert.AdamLateReferenceIdeal.main_arg1)
          ∧ r.2.mem ((c.tc : Thread Cert.AdamLateReferenceIdeal.nD Cert.AdamLateReferenceIdeal.τ).loc Cert.AdamLateReferenceIdeal.main_arg2) = m' ((c.tc : Thread Cert.AdamLateReferenceIdeal.nD Cert.AdamLateReferenceIdeal.τ).loc Cert.AdamLateReferenceIdeal.main_arg2)
          ∧ r.2.mem ((c.tc : Thread Cert.AdamLateReferenceIdeal.nD Cert.AdamLateReferenceIdeal.τ).loc Cert.AdamLateReferenceIdeal.main_arg3) = m' ((c.tc : Thread Cert.AdamLateReferenceIdeal.nD Cert.AdamLateReferenceIdeal.τ).loc Cert.AdamLateReferenceIdeal.main_arg3)
          ∧ r.2.mem ((c.tc : Thread Cert.AdamLateReferenceIdeal.nD Cert.AdamLateReferenceIdeal.τ).loc Cert.AdamLateReferenceIdeal.main_arg4) = m' ((c.tc : Thread Cert.AdamLateReferenceIdeal.nD Cert.AdamLateReferenceIdeal.τ).loc Cert.AdamLateReferenceIdeal.main_arg4)
          ∧ r.2.mem ((c.tc : Thread Cert.AdamLateReferenceIdeal.nD Cert.AdamLateReferenceIdeal.τ).loc Cert.AdamLateReferenceIdeal.main_arg5) = m' ((c.tc : Thread Cert.AdamLateReferenceIdeal.nD Cert.AdamLateReferenceIdeal.τ).loc Cert.AdamLateReferenceIdeal.main_arg5)
          ∧ r.2.mem ((c.tc : Thread Cert.AdamLateReferenceIdeal.nD Cert.AdamLateReferenceIdeal.τ).loc Cert.AdamLateReferenceIdeal.main_arg6) = m' ((c.tc : Thread Cert.AdamLateReferenceIdeal.nD Cert.AdamLateReferenceIdeal.τ).loc Cert.AdamLateReferenceIdeal.main_arg6)
          ∧ r.2.mem ((c.tc : Thread Cert.AdamLateReferenceIdeal.nD Cert.AdamLateReferenceIdeal.τ).loc Cert.AdamLateReferenceIdeal.main_arg7) = m' ((c.tc : Thread Cert.AdamLateReferenceIdeal.nD Cert.AdamLateReferenceIdeal.τ).loc Cert.AdamLateReferenceIdeal.main_arg7))

def algebraic_ScanIdeal_ScanReferenceIdeal_pre_finite [hScanIdeal : Cert.ScanIdeal.Facts] [hScanReferenceIdeal : Cert.ScanReferenceIdeal.Facts] [hPre_finite : Cert.Pre_finite.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanReferenceIdeal.nD Cert.ScanReferenceIdeal.τ Cert.ScanReferenceIdeal.sig) → Buf (Elt Ideal) ℓ) (g' : Dev Cert.ScanReferenceIdeal.nD → PrngReg), Pre_ScanIdeal_finite m →
    (∀ c : Dev Cert.ScanIdeal.nD,
      m' ((c.tc : Thread Cert.ScanReferenceIdeal.nD Cert.ScanReferenceIdeal.τ).loc Cert.ScanReferenceIdeal.main_arg0) = m ((c.tc : Thread Cert.ScanIdeal.nD Cert.ScanIdeal.τ).loc Cert.ScanIdeal.main_arg0)
      ∧ m' ((c.tc : Thread Cert.ScanReferenceIdeal.nD Cert.ScanReferenceIdeal.τ).loc Cert.ScanReferenceIdeal.main_arg1) = m ((c.tc : Thread Cert.ScanIdeal.nD Cert.ScanIdeal.τ).loc Cert.ScanIdeal.main_arg1)
      ∧ m' ((c.tc : Thread Cert.ScanReferenceIdeal.nD Cert.ScanReferenceIdeal.τ).loc Cert.ScanReferenceIdeal.main_arg2) = m ((c.tc : Thread Cert.ScanIdeal.nD Cert.ScanIdeal.τ).loc Cert.ScanIdeal.main_arg2)
      ∧ m' ((c.tc : Thread Cert.ScanReferenceIdeal.nD Cert.ScanReferenceIdeal.τ).loc Cert.ScanReferenceIdeal.main_arg3) = m ((c.tc : Thread Cert.ScanIdeal.nD Cert.ScanIdeal.τ).loc Cert.ScanIdeal.main_arg3)
      ∧ m' ((c.tc : Thread Cert.ScanReferenceIdeal.nD Cert.ScanReferenceIdeal.τ).loc Cert.ScanReferenceIdeal.main_arg4) = m ((c.tc : Thread Cert.ScanIdeal.nD Cert.ScanIdeal.τ).loc Cert.ScanIdeal.main_arg4)
      ∧ m' ((c.tc : Thread Cert.ScanReferenceIdeal.nD Cert.ScanReferenceIdeal.τ).loc Cert.ScanReferenceIdeal.main_arg5) = m ((c.tc : Thread Cert.ScanIdeal.nD Cert.ScanIdeal.τ).loc Cert.ScanIdeal.main_arg5)
      ∧ m' ((c.tc : Thread Cert.ScanReferenceIdeal.nD Cert.ScanReferenceIdeal.τ).loc Cert.ScanReferenceIdeal.main_arg6) = m ((c.tc : Thread Cert.ScanIdeal.nD Cert.ScanIdeal.τ).loc Cert.ScanIdeal.main_arg6)
      ∧ m' ((c.tc : Thread Cert.ScanReferenceIdeal.nD Cert.ScanReferenceIdeal.τ).loc Cert.ScanReferenceIdeal.main_arg7) = m ((c.tc : Thread Cert.ScanIdeal.nD Cert.ScanIdeal.τ).loc Cert.ScanIdeal.main_arg7)
      ∧ m' ((c.tc : Thread Cert.ScanReferenceIdeal.nD Cert.ScanReferenceIdeal.τ).loc Cert.ScanReferenceIdeal.main_arg8) = m ((c.tc : Thread Cert.ScanIdeal.nD Cert.ScanIdeal.τ).loc Cert.ScanIdeal.main_arg8)
      ∧ m' ((c.tc : Thread Cert.ScanReferenceIdeal.nD Cert.ScanReferenceIdeal.τ).loc Cert.ScanReferenceIdeal.main_arg9) = m ((c.tc : Thread Cert.ScanIdeal.nD Cert.ScanIdeal.τ).loc Cert.ScanIdeal.main_arg9)
      ∧ m' ((c.tc : Thread Cert.ScanReferenceIdeal.nD Cert.ScanReferenceIdeal.τ).loc Cert.ScanReferenceIdeal.main_arg10) = m ((c.tc : Thread Cert.ScanIdeal.nD Cert.ScanIdeal.τ).loc Cert.ScanIdeal.main_arg10)
      ∧ m' ((c.tc : Thread Cert.ScanReferenceIdeal.nD Cert.ScanReferenceIdeal.τ).loc Cert.ScanReferenceIdeal.main_arg11) = m ((c.tc : Thread Cert.ScanIdeal.nD Cert.ScanIdeal.τ).loc Cert.ScanIdeal.main_arg11)
      ∧ m' ((c.tc : Thread Cert.ScanReferenceIdeal.nD Cert.ScanReferenceIdeal.τ).loc Cert.ScanReferenceIdeal.main_arg12) = m ((c.tc : Thread Cert.ScanIdeal.nD Cert.ScanIdeal.τ).loc Cert.ScanIdeal.main_arg12)) →
    ∃ (v0 : (c : Dev Cert.ScanIdeal.nD) → Buf (Elt Ideal) ((c.tc : Thread Cert.ScanIdeal.nD Cert.ScanIdeal.τ).loc Cert.ScanIdeal.main_v182_0)) (v1 : (c : Dev Cert.ScanIdeal.nD) → Buf (Elt Ideal) ((c.tc : Thread Cert.ScanIdeal.nD Cert.ScanIdeal.τ).loc Cert.ScanIdeal.main_v182_1)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v182_0) = v0 c
          ∧ r.2.mem ((c.tc : Thread Cert.ScanIdeal.nD Cert.ScanIdeal.τ).loc Cert.ScanIdeal.main_v182_1) = v1 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
          ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
          ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
          ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
          ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8)
          ∧ r.2.mem ((c.tc : Thread Cert.ScanIdeal.nD Cert.ScanIdeal.τ).loc Cert.ScanIdeal.main_arg9) = m ((c.tc : Thread Cert.ScanIdeal.nD Cert.ScanIdeal.τ).loc Cert.ScanIdeal.main_arg9)
          ∧ r.2.mem ((c.tc : Thread Cert.ScanIdeal.nD Cert.ScanIdeal.τ).loc Cert.ScanIdeal.main_arg10) = m ((c.tc : Thread Cert.ScanIdeal.nD Cert.ScanIdeal.τ).loc Cert.ScanIdeal.main_arg10)
          ∧ r.2.mem ((c.tc : Thread Cert.ScanIdeal.nD Cert.ScanIdeal.τ).loc Cert.ScanIdeal.main_arg11) = m ((c.tc : Thread Cert.ScanIdeal.nD Cert.ScanIdeal.τ).loc Cert.ScanIdeal.main_arg11)
          ∧ r.2.mem ((c.tc : Thread Cert.ScanIdeal.nD Cert.ScanIdeal.τ).loc Cert.ScanIdeal.main_arg12) = m ((c.tc : Thread Cert.ScanIdeal.nD Cert.ScanIdeal.τ).loc Cert.ScanIdeal.main_arg12))
      ∧ θ_run (Cert.ScanReferenceIdeal.defs (F := Ideal)) (onTc (τ := Cert.ScanReferenceIdeal.τ) (Cert.ScanReferenceIdeal.main (F := Ideal))) ⟨m', fun _ => 0, g'⟩ (fun r => ∀ c : Dev Cert.ScanReferenceIdeal.nD,
          r.2.mem ((c.tc : Thread Cert.ScanReferenceIdeal.nD Cert.ScanReferenceIdeal.τ).loc Cert.ScanReferenceIdeal.main_v83) = v0 c
          ∧ r.2.mem ((c.tc : Thread Cert.ScanReferenceIdeal.nD Cert.ScanReferenceIdeal.τ).loc Cert.ScanReferenceIdeal.main_v53) = v1 c
          ∧ r.2.mem ((c.tc : Thread Cert.ScanReferenceIdeal.nD Cert.ScanReferenceIdeal.τ).loc Cert.ScanReferenceIdeal.main_arg0) = m' ((c.tc : Thread Cert.ScanReferenceIdeal.nD Cert.ScanReferenceIdeal.τ).loc Cert.ScanReferenceIdeal.main_arg0)
          ∧ r.2.mem ((c.tc : Thread Cert.ScanReferenceIdeal.nD Cert.ScanReferenceIdeal.τ).loc Cert.ScanReferenceIdeal.main_arg1) = m' ((c.tc : Thread Cert.ScanReferenceIdeal.nD Cert.ScanReferenceIdeal.τ).loc Cert.ScanReferenceIdeal.main_arg1)
          ∧ r.2.mem ((c.tc : Thread Cert.ScanReferenceIdeal.nD Cert.ScanReferenceIdeal.τ).loc Cert.ScanReferenceIdeal.main_arg2) = m' ((c.tc : Thread Cert.ScanReferenceIdeal.nD Cert.ScanReferenceIdeal.τ).loc Cert.ScanReferenceIdeal.main_arg2)
          ∧ r.2.mem ((c.tc : Thread Cert.ScanReferenceIdeal.nD Cert.ScanReferenceIdeal.τ).loc Cert.ScanReferenceIdeal.main_arg3) = m' ((c.tc : Thread Cert.ScanReferenceIdeal.nD Cert.ScanReferenceIdeal.τ).loc Cert.ScanReferenceIdeal.main_arg3)
          ∧ r.2.mem ((c.tc : Thread Cert.ScanReferenceIdeal.nD Cert.ScanReferenceIdeal.τ).loc Cert.ScanReferenceIdeal.main_arg4) = m' ((c.tc : Thread Cert.ScanReferenceIdeal.nD Cert.ScanReferenceIdeal.τ).loc Cert.ScanReferenceIdeal.main_arg4)
          ∧ r.2.mem ((c.tc : Thread Cert.ScanReferenceIdeal.nD Cert.ScanReferenceIdeal.τ).loc Cert.ScanReferenceIdeal.main_arg5) = m' ((c.tc : Thread Cert.ScanReferenceIdeal.nD Cert.ScanReferenceIdeal.τ).loc Cert.ScanReferenceIdeal.main_arg5)
          ∧ r.2.mem ((c.tc : Thread Cert.ScanReferenceIdeal.nD Cert.ScanReferenceIdeal.τ).loc Cert.ScanReferenceIdeal.main_arg6) = m' ((c.tc : Thread Cert.ScanReferenceIdeal.nD Cert.ScanReferenceIdeal.τ).loc Cert.ScanReferenceIdeal.main_arg6)
          ∧ r.2.mem ((c.tc : Thread Cert.ScanReferenceIdeal.nD Cert.ScanReferenceIdeal.τ).loc Cert.ScanReferenceIdeal.main_arg7) = m' ((c.tc : Thread Cert.ScanReferenceIdeal.nD Cert.ScanReferenceIdeal.τ).loc Cert.ScanReferenceIdeal.main_arg7)
          ∧ r.2.mem ((c.tc : Thread Cert.ScanReferenceIdeal.nD Cert.ScanReferenceIdeal.τ).loc Cert.ScanReferenceIdeal.main_arg8) = m' ((c.tc : Thread Cert.ScanReferenceIdeal.nD Cert.ScanReferenceIdeal.τ).loc Cert.ScanReferenceIdeal.main_arg8)
          ∧ r.2.mem ((c.tc : Thread Cert.ScanReferenceIdeal.nD Cert.ScanReferenceIdeal.τ).loc Cert.ScanReferenceIdeal.main_arg9) = m' ((c.tc : Thread Cert.ScanReferenceIdeal.nD Cert.ScanReferenceIdeal.τ).loc Cert.ScanReferenceIdeal.main_arg9)
          ∧ r.2.mem ((c.tc : Thread Cert.ScanReferenceIdeal.nD Cert.ScanReferenceIdeal.τ).loc Cert.ScanReferenceIdeal.main_arg10) = m' ((c.tc : Thread Cert.ScanReferenceIdeal.nD Cert.ScanReferenceIdeal.τ).loc Cert.ScanReferenceIdeal.main_arg10)
          ∧ r.2.mem ((c.tc : Thread Cert.ScanReferenceIdeal.nD Cert.ScanReferenceIdeal.τ).loc Cert.ScanReferenceIdeal.main_arg11) = m' ((c.tc : Thread Cert.ScanReferenceIdeal.nD Cert.ScanReferenceIdeal.τ).loc Cert.ScanReferenceIdeal.main_arg11)
          ∧ r.2.mem ((c.tc : Thread Cert.ScanReferenceIdeal.nD Cert.ScanReferenceIdeal.τ).loc Cert.ScanReferenceIdeal.main_arg12) = m' ((c.tc : Thread Cert.ScanReferenceIdeal.nD Cert.ScanReferenceIdeal.τ).loc Cert.ScanReferenceIdeal.main_arg12))

def Claim : Prop :=
  ∃ (hKernel : Cert.Kernel.Facts) (hKernelIdeal : Cert.KernelIdeal.Facts) (hReferenceIdeal : Cert.ReferenceIdeal.Facts) (hIn : Cert.In.Facts) (hInIdeal : Cert.InIdeal.Facts) (hInReferenceIdeal : Cert.InReferenceIdeal.Facts) (hFfOne : Cert.FfOne.Facts) (hFfOneIdeal : Cert.FfOneIdeal.Facts) (hFfOneReferenceIdeal : Cert.FfOneReferenceIdeal.Facts) (hFfTwo : Cert.FfTwo.Facts) (hFfTwoIdeal : Cert.FfTwoIdeal.Facts) (hFfTwoReferenceIdeal : Cert.FfTwoReferenceIdeal.Facts) (hFfTwoDx : Cert.FfTwoDx.Facts) (hFfTwoDxIdeal : Cert.FfTwoDxIdeal.Facts) (hFfTwoDxReferenceIdeal : Cert.FfTwoDxReferenceIdeal.Facts) (hFfTwoDw : Cert.FfTwoDw.Facts) (hFfTwoDwIdeal : Cert.FfTwoDwIdeal.Facts) (hFfTwoDwReferenceIdeal : Cert.FfTwoDwReferenceIdeal.Facts) (hFfOneDw : Cert.FfOneDw.Facts) (hFfOneDwIdeal : Cert.FfOneDwIdeal.Facts) (hFfOneDwReferenceIdeal : Cert.FfOneDwReferenceIdeal.Facts) (hFfOneDx : Cert.FfOneDx.Facts) (hFfOneDxIdeal : Cert.FfOneDxIdeal.Facts) (hFfOneDxReferenceIdeal : Cert.FfOneDxReferenceIdeal.Facts) (hInDw : Cert.InDw.Facts) (hInDwIdeal : Cert.InDwIdeal.Facts) (hInDwReferenceIdeal : Cert.InDwReferenceIdeal.Facts) (hInDx : Cert.InDx.Facts) (hInDxIdeal : Cert.InDxIdeal.Facts) (hInDxReferenceIdeal : Cert.InDxReferenceIdeal.Facts) (hAdamIn : Cert.AdamIn.Facts) (hAdamInIdeal : Cert.AdamInIdeal.Facts) (hAdamInReferenceIdeal : Cert.AdamInReferenceIdeal.Facts) (hAdamFfOne : Cert.AdamFfOne.Facts) (hAdamFfOneIdeal : Cert.AdamFfOneIdeal.Facts) (hAdamFfOneReferenceIdeal : Cert.AdamFfOneReferenceIdeal.Facts) (hAdamFfTwo : Cert.AdamFfTwo.Facts) (hAdamFfTwoIdeal : Cert.AdamFfTwoIdeal.Facts) (hAdamFfTwoReferenceIdeal : Cert.AdamFfTwoReferenceIdeal.Facts) (hAdamOut : Cert.AdamOut.Facts) (hAdamOutIdeal : Cert.AdamOutIdeal.Facts) (hAdamOutReferenceIdeal : Cert.AdamOutReferenceIdeal.Facts) (hAdamMix : Cert.AdamMix.Facts) (hAdamMixIdeal : Cert.AdamMixIdeal.Facts) (hAdamMixReferenceIdeal : Cert.AdamMixReferenceIdeal.Facts) (hAdamAda : Cert.AdamAda.Facts) (hAdamAdaIdeal : Cert.AdamAdaIdeal.Facts) (hAdamAdaReferenceIdeal : Cert.AdamAdaReferenceIdeal.Facts) (hAdamLate : Cert.AdamLate.Facts) (hAdamLateIdeal : Cert.AdamLateIdeal.Facts) (hAdamLateReferenceIdeal : Cert.AdamLateReferenceIdeal.Facts) (hScanIdeal : Cert.ScanIdeal.Facts) (hScanReferenceIdeal : Cert.ScanReferenceIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_In (hIn := hIn)
    ∧ quiescent_InIdeal (hInIdeal := hInIdeal)
    ∧ quiescent_InReferenceIdeal (hInReferenceIdeal := hInReferenceIdeal)
    ∧ quiescent_FfOne (hFfOne := hFfOne)
    ∧ quiescent_FfOneIdeal (hFfOneIdeal := hFfOneIdeal)
    ∧ quiescent_FfOneReferenceIdeal (hFfOneReferenceIdeal := hFfOneReferenceIdeal)
    ∧ quiescent_FfTwo (hFfTwo := hFfTwo)
    ∧ quiescent_FfTwoIdeal (hFfTwoIdeal := hFfTwoIdeal)
    ∧ quiescent_FfTwoReferenceIdeal (hFfTwoReferenceIdeal := hFfTwoReferenceIdeal)
    ∧ quiescent_FfTwoDx (hFfTwoDx := hFfTwoDx)
    ∧ quiescent_FfTwoDxIdeal (hFfTwoDxIdeal := hFfTwoDxIdeal)
    ∧ quiescent_FfTwoDxReferenceIdeal (hFfTwoDxReferenceIdeal := hFfTwoDxReferenceIdeal)
    ∧ quiescent_FfTwoDw (hFfTwoDw := hFfTwoDw)
    ∧ quiescent_FfTwoDwIdeal (hFfTwoDwIdeal := hFfTwoDwIdeal)
    ∧ quiescent_FfTwoDwReferenceIdeal (hFfTwoDwReferenceIdeal := hFfTwoDwReferenceIdeal)
    ∧ quiescent_FfOneDw (hFfOneDw := hFfOneDw)
    ∧ quiescent_FfOneDwIdeal (hFfOneDwIdeal := hFfOneDwIdeal)
    ∧ quiescent_FfOneDwReferenceIdeal (hFfOneDwReferenceIdeal := hFfOneDwReferenceIdeal)
    ∧ quiescent_FfOneDx (hFfOneDx := hFfOneDx)
    ∧ quiescent_FfOneDxIdeal (hFfOneDxIdeal := hFfOneDxIdeal)
    ∧ quiescent_FfOneDxReferenceIdeal (hFfOneDxReferenceIdeal := hFfOneDxReferenceIdeal)
    ∧ quiescent_InDw (hInDw := hInDw)
    ∧ quiescent_InDwIdeal (hInDwIdeal := hInDwIdeal)
    ∧ quiescent_InDwReferenceIdeal (hInDwReferenceIdeal := hInDwReferenceIdeal)
    ∧ quiescent_InDx (hInDx := hInDx)
    ∧ quiescent_InDxIdeal (hInDxIdeal := hInDxIdeal)
    ∧ quiescent_InDxReferenceIdeal (hInDxReferenceIdeal := hInDxReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamFfOne (hAdamFfOne := hAdamFfOne)
    ∧ quiescent_AdamFfOneIdeal (hAdamFfOneIdeal := hAdamFfOneIdeal)
    ∧ quiescent_AdamFfOneReferenceIdeal (hAdamFfOneReferenceIdeal := hAdamFfOneReferenceIdeal)
    ∧ quiescent_AdamFfTwo (hAdamFfTwo := hAdamFfTwo)
    ∧ quiescent_AdamFfTwoIdeal (hAdamFfTwoIdeal := hAdamFfTwoIdeal)
    ∧ quiescent_AdamFfTwoReferenceIdeal (hAdamFfTwoReferenceIdeal := hAdamFfTwoReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamMix (hAdamMix := hAdamMix)
    ∧ quiescent_AdamMixIdeal (hAdamMixIdeal := hAdamMixIdeal)
    ∧ quiescent_AdamMixReferenceIdeal (hAdamMixReferenceIdeal := hAdamMixReferenceIdeal)
    ∧ quiescent_AdamAda (hAdamAda := hAdamAda)
    ∧ quiescent_AdamAdaIdeal (hAdamAdaIdeal := hAdamAdaIdeal)
    ∧ quiescent_AdamAdaReferenceIdeal (hAdamAdaReferenceIdeal := hAdamAdaReferenceIdeal)
    ∧ quiescent_AdamLate (hAdamLate := hAdamLate)
    ∧ quiescent_AdamLateIdeal (hAdamLateIdeal := hAdamLateIdeal)
    ∧ quiescent_AdamLateReferenceIdeal (hAdamLateReferenceIdeal := hAdamLateReferenceIdeal)
    ∧ quiescent_ScanIdeal (hScanIdeal := hScanIdeal)
    ∧ quiescent_ScanIdeal_pre_finite (hScanIdeal := hScanIdeal) (hPre_finite := hPre_finite)
    ∧ quiescent_ScanReferenceIdeal (hScanReferenceIdeal := hScanReferenceIdeal)
    ∧ quiescent_ScanReferenceIdeal_pre_finite (hScanReferenceIdeal := hScanReferenceIdeal) (hPre_finite := hPre_finite)
    ∧ preserves_Kernel_KernelIdeal
    ∧ algebraic_KernelIdeal_ReferenceIdeal (hKernelIdeal := hKernelIdeal) (hReferenceIdeal := hReferenceIdeal)
    ∧ preserves_In_InIdeal
    ∧ algebraic_InIdeal_InReferenceIdeal (hInIdeal := hInIdeal) (hInReferenceIdeal := hInReferenceIdeal)
    ∧ preserves_FfOne_FfOneIdeal
    ∧ algebraic_FfOneIdeal_FfOneReferenceIdeal (hFfOneIdeal := hFfOneIdeal) (hFfOneReferenceIdeal := hFfOneReferenceIdeal)
    ∧ preserves_FfTwo_FfTwoIdeal
    ∧ algebraic_FfTwoIdeal_FfTwoReferenceIdeal (hFfTwoIdeal := hFfTwoIdeal) (hFfTwoReferenceIdeal := hFfTwoReferenceIdeal)
    ∧ preserves_FfTwoDx_FfTwoDxIdeal
    ∧ algebraic_FfTwoDxIdeal_FfTwoDxReferenceIdeal (hFfTwoDxIdeal := hFfTwoDxIdeal) (hFfTwoDxReferenceIdeal := hFfTwoDxReferenceIdeal)
    ∧ preserves_FfTwoDw_FfTwoDwIdeal
    ∧ algebraic_FfTwoDwIdeal_FfTwoDwReferenceIdeal (hFfTwoDwIdeal := hFfTwoDwIdeal) (hFfTwoDwReferenceIdeal := hFfTwoDwReferenceIdeal)
    ∧ preserves_FfOneDw_FfOneDwIdeal
    ∧ algebraic_FfOneDwIdeal_FfOneDwReferenceIdeal (hFfOneDwIdeal := hFfOneDwIdeal) (hFfOneDwReferenceIdeal := hFfOneDwReferenceIdeal)
    ∧ preserves_FfOneDx_FfOneDxIdeal
    ∧ algebraic_FfOneDxIdeal_FfOneDxReferenceIdeal (hFfOneDxIdeal := hFfOneDxIdeal) (hFfOneDxReferenceIdeal := hFfOneDxReferenceIdeal)
    ∧ preserves_InDw_InDwIdeal
    ∧ algebraic_InDwIdeal_InDwReferenceIdeal (hInDwIdeal := hInDwIdeal) (hInDwReferenceIdeal := hInDwReferenceIdeal)
    ∧ preserves_InDx_InDxIdeal
    ∧ algebraic_InDxIdeal_InDxReferenceIdeal (hInDxIdeal := hInDxIdeal) (hInDxReferenceIdeal := hInDxReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_AdamFfOne_AdamFfOneIdeal
    ∧ algebraic_AdamFfOneIdeal_AdamFfOneReferenceIdeal (hAdamFfOneIdeal := hAdamFfOneIdeal) (hAdamFfOneReferenceIdeal := hAdamFfOneReferenceIdeal)
    ∧ preserves_AdamFfTwo_AdamFfTwoIdeal
    ∧ algebraic_AdamFfTwoIdeal_AdamFfTwoReferenceIdeal (hAdamFfTwoIdeal := hAdamFfTwoIdeal) (hAdamFfTwoReferenceIdeal := hAdamFfTwoReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamMix_AdamMixIdeal
    ∧ algebraic_AdamMixIdeal_AdamMixReferenceIdeal (hAdamMixIdeal := hAdamMixIdeal) (hAdamMixReferenceIdeal := hAdamMixReferenceIdeal)
    ∧ preserves_AdamAda_AdamAdaIdeal
    ∧ algebraic_AdamAdaIdeal_AdamAdaReferenceIdeal (hAdamAdaIdeal := hAdamAdaIdeal) (hAdamAdaReferenceIdeal := hAdamAdaReferenceIdeal)
    ∧ preserves_AdamLate_AdamLateIdeal
    ∧ algebraic_AdamLateIdeal_AdamLateReferenceIdeal (hAdamLateIdeal := hAdamLateIdeal) (hAdamLateReferenceIdeal := hAdamLateReferenceIdeal)
    ∧ algebraic_ScanIdeal_ScanReferenceIdeal_pre_finite (hScanIdeal := hScanIdeal) (hScanReferenceIdeal := hScanReferenceIdeal) (hPre_finite := hPre_finite)
-- ==== Pre_finite.lean ====
abbrev S4096x1024 : Shape := ⟨2, ![4096, 1024]⟩
abbrev S4096x7168 : Shape := ⟨2, ![4096, 7168]⟩
abbrev S4096x4096 : Shape := ⟨2, ![4096, 4096]⟩
abbrev S64x64x16 : Shape := ⟨3, ![64, 64, 16]⟩
abbrev S64x16x64 : Shape := ⟨3, ![64, 16, 64]⟩
abbrev S64x64 : Shape := ⟨2, ![64, 64]⟩
abbrev S1x1024 : Shape := ⟨2, ![1, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S64x16x64 : S_.BroadcastsInDim S64x16x64 (![] : Fin 0 → Fin S64x16x64.rank)
  reducesTo_S64x16x64_S_d0_1_2 : S64x16x64.ReducesTo [0, 1, 2] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_v31 : IVec S_ 1) (main_v32 : FVec F S64x64 .f32) (main_v33 : FVec F S64x64 .f32) : IVec S_ 1 :=
  let main_v34 : IVec S64x64 1 := cmpf .oeq main_v32 main_v33
  let main_c_12 : IVec S_ 1 := constantI S_ 1 1#1
  let main_v35 : IVec S_ 1 := (fun x v => Host.reduce IntOp.andi x v reducesTo_S64x64_S_d0_1 h_S_) main_v34 main_c_12
  let main_v36 : IVec S_ 1 := andi main_v31 main_v35
  main_v36

def fn_part1 {F : FTy → Type} [FloatOps F] (main_arg8 : FVec F S64x16x64 .f32) (main_arg9 : FVec F S64x16x64 .f32) (main_arg10 : FVec F S64x64 .f32) (main_arg11 : FVec F S64x64 .f32) (main_v16 : IVec S_ 1) : IVec S_ 1 :=
  let main_v17 : FVec F S64x16x64 .f32 := subf main_arg8 main_arg8
  let main_cst_5 : FVec F S_ .f32 := constant S_ .f32 0x00000000#32
  let main_v18 : FVec F S64x16x64 .f32 := broadcastInDim S64x16x64 ![] bcast_S_S64x16x64 main_cst_5
  let main_v19 : IVec S64x16x64 1 := cmpf .oeq main_v17 main_v18
  let main_c_6 : IVec S_ 1 := constantI S_ 1 1#1
  let main_v20 : IVec S_ 1 := (fun x v => Host.reduce IntOp.andi x v reducesTo_S64x16x64_S_d0_1_2 h_S_) main_v19 main_c_6
  let main_v21 : IVec S_ 1 := andi main_v16 main_v20
  let main_v22 : FVec F S64x16x64 .f32 := subf main_arg9 main_arg9
  let main_cst_7 : FVec F S_ .f32 := constant S_ .f32 0x00000000#32
  let main_v23 : FVec F S64x16x64 .f32 := broadcastInDim S64x16x64 ![] bcast_S_S64x16x64 main_cst_7
  let main_v24 : IVec S64x16x64 1 := cmpf .oeq main_v22 main_v23
  let main_c_8 : IVec S_ 1 := constantI S_ 1 1#1
  let main_v25 : IVec S_ 1 := (fun x v => Host.reduce IntOp.andi x v reducesTo_S64x16x64_S_d0_1_2 h_S_) main_v24 main_c_8
  let main_v26 : IVec S_ 1 := andi main_v21 main_v25
  let main_v27 : FVec F S64x64 .f32 := subf main_arg10 main_arg10
  let main_cst_9 : FVec F S_ .f32 := constant S_ .f32 0x00000000#32
  let main_v28 : FVec F S64x64 .f32 := broadcastInDim S64x64 ![] bcast_S_S64x64 main_cst_9
  let main_v29 : IVec S64x64 1 := cmpf .oeq main_v27 main_v28
  let main_c_10 : IVec S_ 1 := constantI S_ 1 1#1
  let main_v30 : IVec S_ 1 := (fun x v => Host.reduce IntOp.andi x v reducesTo_S64x64_S_d0_1 h_S_) main_v29 main_c_10
  let main_v31 : IVec S_ 1 := andi main_v26 main_v30
  let main_v32 : FVec F S64x64 .f32 := subf main_arg11 main_arg11
  let main_cst_11 : FVec F S_ .f32 := constant S_ .f32 0x00000000#32
  let main_v33 : FVec F S64x64 .f32 := broadcastInDim S64x64 ![] bcast_S_S64x64 main_cst_11
  fn_part2 (F := F) main_v31 main_v32 main_v33

def fn {F : FTy → Type} [FloatOps F] (main_arg0 : FVec F S4096x1024 .bf16) (main_arg1 : FVec F S4096x1024 .bf16) (main_arg2 : FVec F S4096x1024 .f32) (main_arg3 : FVec F S4096x7168 .f32) (main_arg4 : FVec F S4096x4096 .f32) (main_arg5 : FVec F S4096x4096 .f32) (main_arg6 : FVec F S64x64x16 .f32) (main_arg7 : FVec F S64x64x16 .f32) (main_arg8 : FVec F S64x16x64 .f32) (main_arg9 : FVec F S64x16x64 .f32) (main_arg10 : FVec F S64x64 .f32) (main_arg11 : FVec F S64x64 .f32) (main_arg12 : FVec F S1x1024 .f32) : IVec S_ 1 :=
  let main_v0 : FVec F S4096x1024 .f32 := (extf .f32 · bitsLt_bf16_f32) main_arg0
  let main_v1 : FVec F S4096x1024 .f32 := subf main_v0 main_v0
  let main_cst : FVec F S_ .f32 := constant S_ .f32 0x00000000#32
  let main_v2 : FVec F S4096x1024 .f32 := broadcastInDim S4096x1024 ![] bcast_S_S4096x1024 main_cst
  let main_v3 : IVec S4096x1024 1 := cmpf .oeq main_v1 main_v2
  let main_c : IVec S_ 1 := constantI S_ 1 1#1
  let main_v4 : IVec S_ 1 := (fun x v => Host.reduce IntOp.andi x v reducesTo_S4096x1024_S_d0_1 h_S_) main_v3 main_c
  let main_c_0 : IVec S_ 1 := constantI S_ 1 1#1
  let main_v5 : IVec S_ 1 := andi main_c_0 main_v4
  let main_v6 : FVec F S4096x1024 .f32 := (extf .f32 · bitsLt_bf16_f32) main_arg1
  let main_v7 : FVec F S4096x1024 .f32 := subf main_v6 main_v6
  let main_cst_1 : FVec F S_ .f32 := constant S_ .f32 0x00000000#32
  let main_v8 : FVec F S4096x1024 .f32 := broadcastInDim S4096x1024 ![] bcast_S_S4096x1024 main_cst_1
  let main_v9 : IVec S4096x1024 1 := cmpf .oeq main_v7 main_v8
  let main_c_2 : IVec S_ 1 := constantI S_ 1 1#1
  let main_v10 : IVec S_ 1 := (fun x v => Host.reduce IntOp.andi x v reducesTo_S4096x1024_S_d0_1 h_S_) main_v9 main_c_2
  let main_v11 : IVec S_ 1 := andi main_v5 main_v10
  let main_v12 : FVec F S4096x1024 .f32 := subf main_arg2 main_arg2
  let main_cst_3 : FVec F S_ .f32 := constant S_ .f32 0x00000000#32
  let main_v13 : FVec F S4096x1024 .f32 := broadcastInDim S4096x1024 ![] bcast_S_S4096x1024 main_cst_3
  let main_v14 : IVec S4096x1024 1 := cmpf .oeq main_v12 main_v13
  let main_c_4 : IVec S_ 1 := constantI S_ 1 1#1
  let main_v15 : IVec S_ 1 := (fun x v => Host.reduce IntOp.andi x v reducesTo_S4096x1024_S_d0_1 h_S_) main_v14 main_c_4
  let main_v16 : IVec S_ 1 := andi main_v11 main_v15
  fn_part1 (F := F) main_arg8 main_arg9 main_arg10 main_arg11 main_v16
-- ==== Kernel.lean ====
abbrev S4096x2048 : Shape := ⟨2, ![4096, 2048]⟩
abbrev S4096x7168 : Shape := ⟨2, ![4096, 7168]⟩
abbrev S4096x4096 : Shape := ⟨2, ![4096, 4096]⟩
abbrev S256x2048 : Shape := ⟨2, ![256, 2048]⟩
abbrev S256x1024 : Shape := ⟨2, ![256, 1024]⟩
abbrev S256x4096 : Shape := ⟨2, ![256, 4096]⟩

abbrev nBuf : Space → Nat
  | .hbm => 9
  | .vmem => 24
  | .smem => 0
  | _ => 0

abbrev bufTy : (tb : Table) → Fin (tcTables nBuf tb) → BufTy
  | .hbm, ⟨0, _⟩ => ⟨S4096x2048, .bf16⟩
  | .hbm, ⟨1, _⟩ => ⟨S4096x7168, .f32⟩
  | .hbm, ⟨2, _⟩ => ⟨S4096x2048, .bf16⟩
  | .hbm, ⟨3, _⟩ => ⟨S4096x2048, .bf16⟩
  | .hbm, ⟨4, _⟩ => ⟨S4096x2048, .bf16⟩
  | .hbm, ⟨5, _⟩ => ⟨S4096x2048, .bf16⟩
  | .hbm, ⟨6, _⟩ => ⟨S4096x2048, .bf16⟩
  | .hbm, ⟨7, _⟩ => ⟨S4096x2048, .bf16⟩
  | .hbm, ⟨8, _⟩ => ⟨S4096x4096, .bf16⟩
  | .local _ .vmem, ⟨0, _⟩ => ⟨S256x2048, .bf16⟩
  | .local _ .vmem, ⟨1, _⟩ => ⟨S256x2048, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S256x4096, .bf16⟩
  | .local _ .vmem, ⟨23, _⟩ => ⟨S256x4096, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S4096x2048 : Shape := ⟨2, ![4096, 2048]⟩
abbrev S4096x7168 : Shape := ⟨2, ![4096, 7168]⟩
abbrev S_ : Shape := ⟨0, ![]⟩
abbrev S4096x4096 : Shape := ⟨2, ![4096, 4096]⟩

abbrev nBuf : Space → Nat
  | .hbm => 65
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x7168, .f32⟩
  | .hbm, ⟨2, _⟩ => ⟨S4096x2048, .bf16⟩
  | .hbm, ⟨3, _⟩ => ⟨S4096x2048, .bf16⟩
  | .hbm, ⟨4, _⟩ => ⟨S4096x2048, .bf16⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x4096, .f32⟩
  | .hbm, ⟨61, _⟩ => ⟨S4096x2048, .bf16⟩
  | .hbm, ⟨62, _⟩ => ⟨S4096x2048, .bf16⟩
  | .hbm, ⟨63, _⟩ => ⟨S4096x2048, .bf16⟩
  | .hbm, ⟨64, _⟩ => ⟨S4096x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== In.lean ====
abbrev S4096x2048 : Shape := ⟨2, ![4096, 2048]⟩
abbrev S8x2048x896 : Shape := ⟨3, ![8, 2048, 896]⟩
abbrev S4096x7168 : Shape := ⟨2, ![4096, 7168]⟩
abbrev S1024x2048 : Shape := ⟨2, ![1024, 2048]⟩
abbrev S1x2048x896 : Shape := ⟨3, ![1, 2048, 896]⟩
abbrev S1024x896 : Shape := ⟨2, ![1024, 896]⟩
abbrev S2048x896 : Shape := ⟨2, ![2048, 896]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S8x2048x896, .bf16⟩
  | .hbm, ⟨2, _⟩ => ⟨S4096x7168, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x896, .bf16⟩
  | .local _ .vmem, ⟨3, _⟩ => ⟨S1x2048x896, .bf16⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InReferenceIdeal.lean ====
abbrev S4096x2048 : Shape := ⟨2, ![4096, 2048]⟩
abbrev S8x2048x896 : Shape := ⟨3, ![8, 2048, 896]⟩
abbrev S2048x8x896 : Shape := ⟨3, ![2048, 8, 896]⟩
abbrev S2048x7168 : Shape := ⟨2, ![2048, 7168]⟩
abbrev S4096x7168 : Shape := ⟨2, ![4096, 7168]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x896, .bf16⟩
  | .hbm, ⟨2, _⟩ => ⟨S4096x2048, .f32⟩
  | .hbm, ⟨3, _⟩ => ⟨S8x2048x896, .f32⟩
  | .hbm, ⟨4, _⟩ => ⟨S2048x8x896, .f32⟩
  | .hbm, ⟨5, _⟩ => ⟨S2048x7168, .f32⟩
  | .hbm, ⟨6, _⟩ => ⟨S4096x7168, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FfOne.lean ====
abbrev S4096x2048 : Shape := ⟨2, ![4096, 2048]⟩
abbrev S8x2048x1024 : Shape := ⟨3, ![8, 2048, 1024]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfOneReferenceIdeal.lean ====
abbrev S4096x2048 : Shape := ⟨2, ![4096, 2048]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S4096x8192 : Shape := ⟨2, ![4096, 8192]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S4096x2048, .f32⟩
  | .hbm, ⟨3, _⟩ => ⟨S8x2048x1024, .f32⟩
  | .hbm, ⟨4, _⟩ => ⟨S2048x8x1024, .f32⟩
  | .hbm, ⟨5, _⟩ => ⟨S2048x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== FfTwo.lean ====
abbrev S4096x8192 : Shape := ⟨2, ![4096, 8192]⟩
abbrev S1x8192x2048 : Shape := ⟨3, ![1, 8192, 2048]⟩
abbrev S4096x2048 : Shape := ⟨2, ![4096, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S1x8192x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfTwoReferenceIdeal.lean ====
abbrev S4096x8192 : Shape := ⟨2, ![4096, 8192]⟩
abbrev S1x8192x2048 : Shape := ⟨3, ![1, 8192, 2048]⟩
abbrev S8192x2048 : Shape := ⟨2, ![8192, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S1x8192x2048, .bf16⟩
  | .hbm, ⟨2, _⟩ => ⟨S4096x8192, .f32⟩
  | .hbm, ⟨3, _⟩ => ⟨S1x8192x2048, .f32⟩
  | .hbm, ⟨4, _⟩ => ⟨S8192x2048, .f32⟩
  | .hbm, ⟨5, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfTwoDx.lean ====
abbrev S4096x2048 : Shape := ⟨2, ![4096, 2048]⟩
abbrev S1x8192x2048 : Shape := ⟨3, ![1, 8192, 2048]⟩
abbrev S4096x8192 : Shape := ⟨2, ![4096, 8192]⟩
abbrev S_ : Shape := ⟨0, ![]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 9
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S1x8192x2048, .bf16⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .bf16⟩
  | .hbm, ⟨8, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfTwoDxReferenceIdeal.lean ====
abbrev S4096x2048 : Shape := ⟨2, ![4096, 2048]⟩
abbrev S1x8192x2048 : Shape := ⟨3, ![1, 8192, 2048]⟩
abbrev S4096x8192 : Shape := ⟨2, ![4096, 8192]⟩
abbrev S_ : Shape := ⟨0, ![]⟩
abbrev S8192x2048 : Shape := ⟨2, ![8192, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x8192x2048, .bf16⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .i1⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S1x8192x2048, .f32⟩
  | .hbm, ⟨16, _⟩ => ⟨S8192x2048, .f32⟩
  | .hbm, ⟨17, _⟩ => ⟨S4096x2048, .f32⟩
  | .hbm, ⟨18, _⟩ => ⟨S4096x2048, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== FfTwoDw.lean ====
abbrev S4096x8192 : Shape := ⟨2, ![4096, 8192]⟩
abbrev S4096x2048 : Shape := ⟨2, ![4096, 2048]⟩
abbrev S1x8192x2048 : Shape := ⟨3, ![1, 8192, 2048]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S1x8192x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfTwoDwReferenceIdeal.lean ====
abbrev S4096x8192 : Shape := ⟨2, ![4096, 8192]⟩
abbrev S4096x2048 : Shape := ⟨2, ![4096, 2048]⟩
abbrev S_ : Shape := ⟨0, ![]⟩
abbrev S1x8192x2048 : Shape := ⟨3, ![1, 8192, 2048]⟩
abbrev S8192x2048 : Shape := ⟨2, ![8192, 2048]⟩
abbrev S2048x8192 : Shape := ⟨2, ![2048, 8192]⟩

abbrev nBuf : Space → Nat
  | .hbm => 12
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S_, .f32⟩
  | .hbm, ⟨3, _⟩ => ⟨S1x8192x2048, .f32⟩
  | .hbm, ⟨4, _⟩ => ⟨S4096x8192, .f32⟩
  | .hbm, ⟨5, _⟩ => ⟨S8192x2048, .f32⟩
  | .hbm, ⟨6, _⟩ => ⟨S4096x2048, .f32⟩
  | .hbm, ⟨7, _⟩ => ⟨S4096x2048, .f32⟩
  | .hbm, ⟨8, _⟩ => ⟨S2048x8192, .f32⟩
  | .hbm, ⟨9, _⟩ => ⟨S8192x2048, .f32⟩
  | .hbm, ⟨10, _⟩ => ⟨S1x8192x2048, .f32⟩
  | .hbm, ⟨11, _⟩ => ⟨S1x8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== FfOneDw.lean ====
abbrev S4096x2048 : Shape := ⟨2, ![4096, 2048]⟩
abbrev S4096x8192 : Shape := ⟨2, ![4096, 8192]⟩
abbrev S8x2048x1024 : Shape := ⟨3, ![8, 2048, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S8x2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfOneDwReferenceIdeal.lean ====
abbrev S4096x2048 : Shape := ⟨2, ![4096, 2048]⟩
abbrev S4096x8192 : Shape := ⟨2, ![4096, 8192]⟩
abbrev S_ : Shape := ⟨0, ![]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S8192x2048 : Shape := ⟨2, ![8192, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S8x2048x1024, .f32⟩
  | .hbm, ⟨4, _⟩ => ⟨S4096x2048, .f32⟩
  | .hbm, ⟨5, _⟩ => ⟨S2048x8x1024, .f32⟩
  | .hbm, ⟨6, _⟩ => ⟨S2048x8192, .f32⟩
  | .hbm, ⟨7, _⟩ => ⟨S4096x8192, .f32⟩
  | .hbm, ⟨8, _⟩ => ⟨S4096x8192, .f32⟩
  | .hbm, ⟨9, _⟩ => ⟨S8192x2048, .f32⟩
  | .hbm, ⟨10, _⟩ => ⟨S2048x8192, .f32⟩
  | .hbm, ⟨11, _⟩ => ⟨S2048x8x1024, .f32⟩
  | .hbm, ⟨12, _⟩ => ⟨S8x2048x1024, .f32⟩
  | .hbm, ⟨13, _⟩ => ⟨S8x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== FfOneDx.lean ====
abbrev S4096x8192 : Shape := ⟨2, ![4096, 8192]⟩
abbrev S8x2048x1024 : Shape := ⟨3, ![8, 2048, 1024]⟩
abbrev S4096x2048 : Shape := ⟨2, ![4096, 2048]⟩
abbrev S1024x4096 : Shape := ⟨2, ![1024, 4096]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8x2048x1024, .bf16⟩
  | .hbm, ⟨2, _⟩ => ⟨S4096x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4x1024x1024, .bf16⟩
  | .local _ .vmem, ⟨3, _⟩ => ⟨S4x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v25 : BitVec 1 := Scalar.cmpi .eq arg2 c1_i32
  let v26 : BitVec 32 := Scalar.extui v25
  let c0_i32_19 : BitVec 32 := 0#32
  let v27 : BitVec 1 := Scalar.cmpi .ne v26 c0_i32_19
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfOneDxReferenceIdeal.lean ====
abbrev S4096x8192 : Shape := ⟨2, ![4096, 8192]⟩
abbrev S8x2048x1024 : Shape := ⟨3, ![8, 2048, 1024]⟩
abbrev S_ : Shape := ⟨0, ![]⟩
abbrev S4096x2048 : Shape := ⟨2, ![4096, 2048]⟩
abbrev S2048x8x1024 : Shape := ⟨3, ![2048, 8, 1024]⟩
abbrev S2048x8192 : Shape := ⟨2, ![2048, 8192]⟩

abbrev nBuf : Space → Nat
  | .hbm => 11
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8x2048x1024, .bf16⟩
  | .hbm, ⟨2, _⟩ => ⟨S_, .f32⟩
  | .hbm, ⟨3, _⟩ => ⟨S4096x2048, .f32⟩
  | .hbm, ⟨4, _⟩ => ⟨S8x2048x1024, .f32⟩
  | .hbm, ⟨5, _⟩ => ⟨S2048x8x1024, .f32⟩
  | .hbm, ⟨6, _⟩ => ⟨S2048x8192, .f32⟩
  | .hbm, ⟨7, _⟩ => ⟨S4096x8192, .f32⟩
  | .hbm, ⟨8, _⟩ => ⟨S4096x8192, .f32⟩
  | .hbm, ⟨9, _⟩ => ⟨S4096x2048, .f32⟩
  | .hbm, ⟨10, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InDw.lean ====
abbrev S4096x2048 : Shape := ⟨2, ![4096, 2048]⟩
abbrev S4096x7168 : Shape := ⟨2, ![4096, 7168]⟩
abbrev S8x2048x896 : Shape := ⟨3, ![8, 2048, 896]⟩
abbrev S4096x1024 : Shape := ⟨2, ![4096, 1024]⟩
abbrev S4096x896 : Shape := ⟨2, ![4096, 896]⟩
abbrev S1x1024x896 : Shape := ⟨3, ![1, 1024, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x7168, .bf16⟩
  | .hbm, ⟨2, _⟩ => ⟨S8x2048x896, .bf16⟩
  | .local _ .vmem, ⟨0, _⟩ => ⟨S4096x1024, .bf16⟩
  | .local _ .vmem, ⟨1, _⟩ => ⟨S4096x1024, .bf16⟩
  | .local _ .vmem, ⟨2, _⟩ => ⟨S4096x896, .bf16⟩
  | .local _ .vmem, ⟨3, _⟩ => ⟨S4096x896, .bf16⟩
  | .local _ .vmem, ⟨4, _⟩ => ⟨S1x1024x896, .bf16⟩
  | .local _ .vmem, ⟨5, _⟩ => ⟨S1x1024x896, .bf16⟩
  | .local _ .vmem, ⟨6, _⟩ => ⟨S1024x896, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwReferenceIdeal.lean ====
abbrev S4096x2048 : Shape := ⟨2, ![4096, 2048]⟩
abbrev S4096x7168 : Shape := ⟨2, ![4096, 7168]⟩
abbrev S_ : Shape := ⟨0, ![]⟩
abbrev S8x2048x896 : Shape := ⟨3, ![8, 2048, 896]⟩
abbrev S2048x8x896 : Shape := ⟨3, ![2048, 8, 896]⟩
abbrev S2048x7168 : Shape := ⟨2, ![2048, 7168]⟩
abbrev S7168x2048 : Shape := ⟨2, ![7168, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x7168, .bf16⟩
  | .hbm, ⟨2, _⟩ => ⟨S_, .f32⟩
  | .hbm, ⟨3, _⟩ => ⟨S8x2048x896, .f32⟩
  | .hbm, ⟨4, _⟩ => ⟨S4096x2048, .f32⟩
  | .hbm, ⟨5, _⟩ => ⟨S2048x8x896, .f32⟩
  | .hbm, ⟨6, _⟩ => ⟨S2048x7168, .f32⟩
  | .hbm, ⟨7, _⟩ => ⟨S4096x7168, .f32⟩
  | .hbm, ⟨8, _⟩ => ⟨S4096x7168, .f32⟩
  | .hbm, ⟨9, _⟩ => ⟨S7168x2048, .f32⟩
  | .hbm, ⟨10, _⟩ => ⟨S2048x7168, .f32⟩
  | .hbm, ⟨11, _⟩ => ⟨S2048x8x896, .f32⟩
  | .hbm, ⟨12, _⟩ => ⟨S8x2048x896, .f32⟩
  | .hbm, ⟨13, _⟩ => ⟨S8x2048x896, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== InDx.lean ====
abbrev S4096x7168 : Shape := ⟨2, ![4096, 7168]⟩
abbrev S8x2048x896 : Shape := ⟨3, ![8, 2048, 896]⟩
abbrev S4096x2048 : Shape := ⟨2, ![4096, 2048]⟩
abbrev S1024x3584 : Shape := ⟨2, ![1024, 3584]⟩
abbrev S4x1024x896 : Shape := ⟨3, ![4, 1024, 896]⟩
abbrev S1024x1024 : Shape := ⟨2, ![1024, 1024]⟩
abbrev S1024x896 : Shape := ⟨2, ![1024, 896]⟩
abbrev S1x1024x896 : Shape := ⟨3, ![1, 1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S4096x7168, .bf16⟩
  | .hbm, ⟨1, _⟩ => ⟨S8x2048x896, .bf16⟩
  | .hbm, ⟨2, _⟩ => ⟨S4096x2048, .bf16⟩
  | .local _ .vmem, ⟨0, _⟩ => ⟨S1024x3584, .bf16⟩
  | .local _ .vmem, ⟨1, _⟩ => ⟨S1024x3584, .bf16⟩
  | .local _ .vmem, ⟨2, _⟩ => ⟨S4x1024x896, .bf16⟩
  | .local _ .vmem, ⟨3, _⟩ => ⟨S4x1024x896, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v25 : BitVec 1 := Scalar.cmpi .eq arg2 c1_i32
  let v26 : BitVec 32 := Scalar.extui v25
  let c0_i32_19 : BitVec 32 := 0#32
  let v27 : BitVec 1 := Scalar.cmpi .ne v26 c0_i32_19
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxReferenceIdeal.lean ====
abbrev S4096x7168 : Shape := ⟨2, ![4096, 7168]⟩
abbrev S8x2048x896 : Shape := ⟨3, ![8, 2048, 896]⟩
abbrev S_ : Shape := ⟨0, ![]⟩
abbrev S4096x2048 : Shape := ⟨2, ![4096, 2048]⟩
abbrev S2048x8x896 : Shape := ⟨3, ![2048, 8, 896]⟩
abbrev S2048x7168 : Shape := ⟨2, ![2048, 7168]⟩

abbrev nBuf : Space → Nat
  | .hbm => 11
  | .vmem => 0
  | .smem => 0
  | _ => 0

abbrev bufTy : (tb : Table) → Fin (tcTables nBuf tb) → BufTy
  | .hbm, ⟨0, _⟩ => ⟨S4096x7168, .bf16⟩
  | .hbm, ⟨1, _⟩ => ⟨S8x2048x896, .bf16⟩
  | .hbm, ⟨2, _⟩ => ⟨S_, .f32⟩
  | .hbm, ⟨3, _⟩ => ⟨S4096x2048, .f32⟩
  | .hbm, ⟨4, _⟩ => ⟨S8x2048x896, .f32⟩
  | .hbm, ⟨5, _⟩ => ⟨S2048x8x896, .f32⟩
  | .hbm, ⟨6, _⟩ => ⟨S2048x7168, .f32⟩
  | .hbm, ⟨7, _⟩ => ⟨S4096x7168, .f32⟩
  | .hbm, ⟨8, _⟩ => ⟨S4096x7168, .f32⟩
  | .hbm, ⟨9, _⟩ => ⟨S4096x2048, .f32⟩
  | .hbm, ⟨10, _⟩ => ⟨S4096x2048, .bf16⟩
  | _, _ => ⟨S4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== AdamIn.lean ====
abbrev S8x2048x896 : Shape := ⟨3, ![8, 2048, 896]⟩
abbrev S2048x896 : Shape := ⟨2, ![2048, 896]⟩
abbrev S8x128x896 : Shape := ⟨3, ![8, 128, 896]⟩
abbrev S128x896 : Shape := ⟨2, ![128, 896]⟩
abbrev S1x128x896 : Shape := ⟨3, ![1, 128, 896]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x896, .bf16⟩
  | .hbm, ⟨1, _⟩ => ⟨S2048x896, .f32⟩
  | .hbm, ⟨2, _⟩ => ⟨S2048x896, .f32⟩
  | .hbm, ⟨3, _⟩ => ⟨S2048x896, .f32⟩
  | .hbm, ⟨4, _⟩ => ⟨S2048x896, .f32⟩
  | .hbm, ⟨5, _⟩ => ⟨S2048x896, .f32⟩
  | .hbm, ⟨6, _⟩ => ⟨S2048x896, .f32⟩
  | .hbm, ⟨7, _⟩ => ⟨S2048x896, .f32⟩
  | .local _ .vmem, ⟨0, _⟩ => ⟨S8x128x896, .bf16⟩
  | .local _ .vmem, ⟨1, _⟩ => ⟨S8x128x896, .bf16⟩
  | .local _ .vmem, ⟨2, _⟩ => ⟨S128x896, .f32⟩
  | .local _ .vmem, ⟨3, _⟩ => ⟨S128x896, .f32⟩
  | .local _ .vmem, ⟨4, _⟩ => ⟨S128x896, .f32⟩
  | .local _ .vmem, ⟨5, _⟩ => ⟨S128x896, .f32⟩
  | .local _ .vmem, ⟨6, _⟩ => ⟨S128x896, .f32⟩
  | .local _ .vmem, ⟨7, _⟩ => ⟨S128x896, .f32⟩
  | .local _ .vmem, ⟨8, _⟩ => ⟨S128x896, .f32⟩
  | .local _ .vmem, ⟨9, _⟩ => ⟨S128x896, .f32⟩
  | .local _ .vmem, ⟨10, _⟩ => ⟨S128x896, .f32⟩
  | .local _ .vmem, ⟨11, _⟩ => ⟨S128x896, .f32⟩
  | .local _ .vmem, ⟨12, _⟩ => ⟨S128x896, .f32⟩
  | .local _ .vmem, ⟨13, _⟩ => ⟨S128x896, .f32⟩
  | .local _ .vmem, ⟨14, _⟩ => ⟨S128x896, .f32⟩
  | .local _ .vmem, ⟨15, _⟩ => ⟨S128x896, .f32⟩
  | _, _ => ⟨S8x2048x896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S8x2048x896 : Shape := ⟨3, ![8, 2048, 896]⟩
abbrev S2048x896 : Shape := ⟨2, ![2048, 896]⟩
abbrev S8x128x896 : Shape := ⟨3, ![8, 128, 896]⟩
abbrev S128x896 : Shape := ⟨2, ![128, 896]⟩
abbrev S1x128x896 : Shape := ⟨3, ![1, 128, 896]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x896, .bf16⟩
  | .hbm, ⟨1, _⟩ => ⟨S2048x896, .f32⟩
  | .hbm, ⟨2, _⟩ => ⟨S2048x896, .f32⟩
  | .hbm, ⟨3, _⟩ => ⟨S2048x896, .f32⟩
  | .hbm, ⟨4, _⟩ => ⟨S2048x896, .f32⟩
  | .hbm, ⟨5, _⟩ => ⟨S2048x896, .f32⟩
  | .hbm, ⟨6, _⟩ => ⟨S2048x896, .f32⟩
  | .hbm, ⟨7, _⟩ => ⟨S2048x896, .f32⟩
  | .local _ .vmem, ⟨0, _⟩ => ⟨S8x128x896, .bf16⟩
  | .local _ .vmem, ⟨1, _⟩ => ⟨S8x128x896, .bf16⟩
  | .local _ .vmem, ⟨2, _⟩ => ⟨S128x896, .f32⟩
  | .local _ .vmem, ⟨3, _⟩ => ⟨S128x896, .f32⟩
  | .local _ .vmem, ⟨4, _⟩ => ⟨S128x896, .f32⟩
  | .local _ .vmem, ⟨5, _⟩ => ⟨S128x896, .f32⟩
  | .local _ .vmem, ⟨6, _⟩ => ⟨S128x896, .f32⟩
  | .local _ .vmem, ⟨7, _⟩ => ⟨S128x896, .f32⟩
  | .local _ .vmem, ⟨8, _⟩ => ⟨S128x896, .f32⟩
  | .local _ .vmem, ⟨9, _⟩ => ⟨S128x896, .f32⟩
  | .local _ .vmem, ⟨10, _⟩ => ⟨S128x896, .f32⟩
  | .local _ .vmem, ⟨11, _⟩ => ⟨S128x896, .f32⟩
  | .local _ .vmem, ⟨12, _⟩ => ⟨S128x896, .f32⟩
  | .local _ .vmem, ⟨13, _⟩ => ⟨S128x896, .f32⟩
  | .local _ .vmem, ⟨14, _⟩ => ⟨S128x896, .f32⟩
  | .local _ .vmem, ⟨15, _⟩ => ⟨S128x896, .f32⟩
  | _, _ => ⟨S8x2048x896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInReferenceIdeal.lean ====
abbrev S8x2048x896 : Shape := ⟨3, ![8, 2048, 896]⟩
abbrev S2048x896 : Shape := ⟨2, ![2048, 896]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x896, .bf16⟩
  | .hbm, ⟨1, _⟩ => ⟨S2048x896, .f32⟩
  | .hbm, ⟨2, _⟩ => ⟨S2048x896, .f32⟩
  | .hbm, ⟨3, _⟩ => ⟨S2048x896, .f32⟩
  | .hbm, ⟨4, _⟩ => ⟨S8x2048x896, .f32⟩
  | .hbm, ⟨5, _⟩ => ⟨S_, .f32⟩
  | .hbm, ⟨6, _⟩ => ⟨S2048x896, .f32⟩
  | .hbm, ⟨7, _⟩ => ⟨S_, .f32⟩
  | .hbm, ⟨8, _⟩ => ⟨S2048x896, .f32⟩
  | .hbm, ⟨9, _⟩ => ⟨S2048x896, .f32⟩
  | .hbm, ⟨10, _⟩ => ⟨S_, .f32⟩
  | .hbm, ⟨11, _⟩ => ⟨S2048x896, .f32⟩
  | .hbm, ⟨12, _⟩ => ⟨S2048x896, .f32⟩
  | .hbm, ⟨13, _⟩ => ⟨S2048x896, .f32⟩
  | .hbm, ⟨14, _⟩ => ⟨S_, .f32⟩
  | .hbm, ⟨15, _⟩ => ⟨S2048x896, .f32⟩
  | .hbm, ⟨16, _⟩ => ⟨S2048x896, .f32⟩
  | .hbm, ⟨17, _⟩ => ⟨S2048x896, .f32⟩
  | .hbm, ⟨18, _⟩ => ⟨S_, .f32⟩
  | .hbm, ⟨19, _⟩ => ⟨S2048x896, .f32⟩
  | .hbm, ⟨20, _⟩ => ⟨S2048x896, .f32⟩
  | .hbm, ⟨21, _⟩ => ⟨S2048x896, .f32⟩
  | .hbm, ⟨22, _⟩ => ⟨S_, .f32⟩
  | .hbm, ⟨23, _⟩ => ⟨S2048x896, .f32⟩
  | .hbm, ⟨24, _⟩ => ⟨S2048x896, .f32⟩
  | .hbm, ⟨25, _⟩ => ⟨S_, .f32⟩
  | .hbm, ⟨26, _⟩ => ⟨S2048x896, .f32⟩
  | .hbm, ⟨27, _⟩ => ⟨S2048x896, .f32⟩
  | .hbm, ⟨28, _⟩ => ⟨S2048x896, .f32⟩
  | .hbm, ⟨29, _⟩ => ⟨S_, .f32⟩
  | .hbm, ⟨30, _⟩ => ⟨S2048x896, .f32⟩
  | .hbm, ⟨31, _⟩ => ⟨S2048x896, .f32⟩
  | .hbm, ⟨32, _⟩ => ⟨S2048x896, .f32⟩
  | .hbm, ⟨33, _⟩ => ⟨S_, .f32⟩
  | .hbm, ⟨34, _⟩ => ⟨S2048x896, .f32⟩
  | .hbm, ⟨35, _⟩ => ⟨S2048x896, .f32⟩
  | .hbm, ⟨36, _⟩ => ⟨S2048x896, .f32⟩
  | .hbm, ⟨37, _⟩ => ⟨S_, .f32⟩
  | .hbm, ⟨38, _⟩ => ⟨S2048x896, .f32⟩
  | .hbm, ⟨39, _⟩ => ⟨S2048x896, .f32⟩
  | _, _ => ⟨S8x2048x896, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamFfOne.lean ====
abbrev S8x2048x1024 : Shape := ⟨3, ![8, 2048, 1024]⟩
abbrev S2048x1024 : Shape := ⟨2, ![2048, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x1024, .bf16⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfOneIdeal.lean ====
abbrev S8x2048x1024 : Shape := ⟨3, ![8, 2048, 1024]⟩
abbrev S2048x1024 : Shape := ⟨2, ![2048, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x1024, .bf16⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfOneReferenceIdeal.lean ====
abbrev S8x2048x1024 : Shape := ⟨3, ![8, 2048, 1024]⟩
abbrev S2048x1024 : Shape := ⟨2, ![2048, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S8x2048x1024, .f32⟩
  | .hbm, ⟨5, _⟩ => ⟨S_, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamFfTwo.lean ====
abbrev S8x1024x2048 : Shape := ⟨3, ![8, 1024, 2048]⟩
abbrev S1024x2048 : Shape := ⟨2, ![1024, 2048]⟩
abbrev S8x64x2048 : Shape := ⟨3, ![8, 64, 2048]⟩
abbrev S64x2048 : Shape := ⟨2, ![64, 2048]⟩
abbrev S1x64x2048 : Shape := ⟨3, ![1, 64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x2048, .bf16⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S8x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfTwoIdeal.lean ====
abbrev S8x1024x2048 : Shape := ⟨3, ![8, 1024, 2048]⟩
abbrev S1024x2048 : Shape := ⟨2, ![1024, 2048]⟩
abbrev S8x64x2048 : Shape := ⟨3, ![8, 64, 2048]⟩
abbrev S64x2048 : Shape := ⟨2, ![64, 2048]⟩
abbrev S1x64x2048 : Shape := ⟨3, ![1, 64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x2048, .bf16⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S8x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfTwoReferenceIdeal.lean ====
abbrev S8x1024x2048 : Shape := ⟨3, ![8, 1024, 2048]⟩
abbrev S1024x2048 : Shape := ⟨2, ![1024, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x2048, .bf16⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S8x1024x2048, .f32⟩
  | .hbm, ⟨5, _⟩ => ⟨S_, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S_, .f32⟩
  | .hbm, ⟨11, _⟩ => ⟨S1024x2048, .f32⟩
  | .hbm, ⟨12, _⟩ => ⟨S1024x2048, .f32⟩
  | .hbm, ⟨13, _⟩ => ⟨S1024x2048, .f32⟩
  | .hbm, ⟨14, _⟩ => ⟨S_, .f32⟩
  | .hbm, ⟨15, _⟩ => ⟨S1024x2048, .f32⟩
  | .hbm, ⟨16, _⟩ => ⟨S1024x2048, .f32⟩
  | .hbm, ⟨17, _⟩ => ⟨S1024x2048, .f32⟩
  | .hbm, ⟨18, _⟩ => ⟨S_, .f32⟩
  | .hbm, ⟨19, _⟩ => ⟨S1024x2048, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S_, .f32⟩
  | .hbm, ⟨26, _⟩ => ⟨S1024x2048, .f32⟩
  | .hbm, ⟨27, _⟩ => ⟨S1024x2048, .f32⟩
  | .hbm, ⟨28, _⟩ => ⟨S1024x2048, .f32⟩
  | .hbm, ⟨29, _⟩ => ⟨S_, .f32⟩
  | .hbm, ⟨30, _⟩ => ⟨S1024x2048, .f32⟩
  | .hbm, ⟨31, _⟩ => ⟨S1024x2048, .f32⟩
  | .hbm, ⟨32, _⟩ => ⟨S1024x2048, .f32⟩
  | .hbm, ⟨33, _⟩ => ⟨S_, .f32⟩
  | .hbm, ⟨34, _⟩ => ⟨S1024x2048, .f32⟩
  | .hbm, ⟨35, _⟩ => ⟨S1024x2048, .f32⟩
  | .hbm, ⟨36, _⟩ => ⟨S1024x2048, .f32⟩
  | .hbm, ⟨37, _⟩ => ⟨S_, .f32⟩
  | .hbm, ⟨38, _⟩ => ⟨S1024x2048, .f32⟩
  | .hbm, ⟨39, _⟩ => ⟨S1024x2048, .f32⟩
  | _, _ => ⟨S8x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S8x256x2048 : Shape := ⟨3, ![8, 256, 2048]⟩
abbrev S256x2048 : Shape := ⟨2, ![256, 2048]⟩
abbrev S8x64x2048 : Shape := ⟨3, ![8, 64, 2048]⟩
abbrev S64x2048 : Shape := ⟨2, ![64, 2048]⟩
abbrev S1x64x2048 : Shape := ⟨3, ![1, 64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutIdeal.lean ====
abbrev S8x256x2048 : Shape := ⟨3, ![8, 256, 2048]⟩
abbrev S256x2048 : Shape := ⟨2, ![256, 2048]⟩
abbrev S8x64x2048 : Shape := ⟨3, ![8, 64, 2048]⟩
abbrev S64x2048 : Shape := ⟨2, ![64, 2048]⟩
abbrev S1x64x2048 : Shape := ⟨3, ![1, 64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutReferenceIdeal.lean ====
abbrev S8x256x2048 : Shape := ⟨3, ![8, 256, 2048]⟩
abbrev S256x2048 : Shape := ⟨2, ![256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamMix.lean ====
abbrev S8x1024x256 : Shape := ⟨3, ![8, 1024, 256]⟩
abbrev S1024x256 : Shape := ⟨2, ![1024, 256]⟩
abbrev S8x512x256 : Shape := ⟨3, ![8, 512, 256]⟩
abbrev S512x256 : Shape := ⟨2, ![512, 256]⟩
abbrev S1x512x256 : Shape := ⟨3, ![1, 512, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S8x512x256, .bf16⟩
  | .local _ .vmem, ⟨1, _⟩ => ⟨S8x512x256, .bf16⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamMixReferenceIdeal.lean ====
abbrev S8x1024x256 : Shape := ⟨3, ![8, 1024, 256]⟩
abbrev S1024x256 : Shape := ⟨2, ![1024, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S8x1024x256, .f32⟩
  | .hbm, ⟨5, _⟩ => ⟨S_, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S_, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | _, _ => ⟨S8x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamAda.lean ====
abbrev S8x2048 : Shape := ⟨2, ![8, 2048]⟩
abbrev S8x1536 : Shape := ⟨2, ![8, 1536]⟩
abbrev S2048x1536 : Shape := ⟨2, ![2048, 1536]⟩
abbrev S8x256 : Shape := ⟨2, ![8, 256]⟩
abbrev S2048x256 : Shape := ⟨2, ![2048, 256]⟩

abbrev nBuf : Space → Nat
  | .hbm => 9
  | .vmem => 17
  | .smem => 0
  | _ => 0

abbrev bufTy : (tb : Table) → Fin (tcTables nBuf tb) → BufTy
  | .hbm, ⟨0, _⟩ => ⟨S8x2048, .f32⟩
  | .hbm, ⟨1, _⟩ => ⟨S8x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .hbm, ⟨8, _⟩ => ⟨S2048x1536, .f32⟩
  | .local _ .vmem, ⟨0, _⟩ => ⟨S8x2048, .f32⟩
  | .local _ .vmem, ⟨1, _⟩ => ⟨S8x256, .f32⟩
  | .local _ .vmem, ⟨2, _⟩ => ⟨S8x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S2048x256, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamAdaReferenceIdeal.lean ====
abbrev S8x2048 : Shape := ⟨2, ![8, 2048]⟩
abbrev S8x1536 : Shape := ⟨2, ![8, 1536]⟩
abbrev S2048x1536 : Shape := ⟨2, ![2048, 1536]⟩
abbrev S1536x2048 : Shape := ⟨2, ![1536, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S8x1536, .f32⟩
  | .hbm, ⟨6, _⟩ => ⟨S1536x2048, .f32⟩
  | .hbm, ⟨7, _⟩ => ⟨S2048x1536, .f32⟩
  | .hbm, ⟨8, _⟩ => ⟨S_, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S2048x1536, .f32⟩
  | .hbm, ⟨23, _⟩ => ⟨S_, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | .hbm, ⟨37, _⟩ => ⟨S2048x1536, .f32⟩
  | .hbm, ⟨38, _⟩ => ⟨S_, .f32⟩
  | .hbm, ⟨39, _⟩ => ⟨S2048x1536, .f32⟩
  | .hbm, ⟨40, _⟩ => ⟨S2048x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamLate.lean ====
abbrev S1x12288 : Shape := ⟨2, ![1, 12288]⟩
abbrev S1x2048 : Shape := ⟨2, ![1, 2048]⟩

abbrev nBuf : Space → Nat
  | .hbm => 14
  | .vmem => 14
  | .smem => 0
  | _ => 0

abbrev bufTy : (tb : Table) → Fin (tcTables nBuf tb) → BufTy
  | .hbm, ⟨0, _⟩ => ⟨S1x12288, .f32⟩
  | .hbm, ⟨1, _⟩ => ⟨S1x12288, .f32⟩
  | .hbm, ⟨2, _⟩ => ⟨S1x12288, .f32⟩
  | .hbm, ⟨3, _⟩ => ⟨S1x12288, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x12288, .f32⟩
  | .hbm, ⟨9, _⟩ => ⟨S1x12288, .f32⟩
  | .hbm, ⟨10, _⟩ => ⟨S1x12288, .f32⟩
  | .hbm, ⟨11, _⟩ => ⟨S1x2048, .f32⟩
  | .hbm, ⟨12, _⟩ => ⟨S1x2048, .f32⟩
  | .hbm, ⟨13, _⟩ => ⟨S1x2048, .f32⟩
  | .local _ .vmem, ⟨0, _⟩ => ⟨S1x12288, .f32⟩
  | .local _ .vmem, ⟨1, _⟩ => ⟨S1x12288, .f32⟩
  | .local _ .vmem, ⟨2, _⟩ => ⟨S1x12288, .f32⟩
  | .local _ .vmem, ⟨3, _⟩ => ⟨S1x12288, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x12288, .f32⟩
  | .local _ .vmem, ⟨9, _⟩ => ⟨S1x12288, .f32⟩
  | .local _ .vmem, ⟨10, _⟩ => ⟨S1x12288, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S1x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S1x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x12288 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x12288 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x12288 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== AdamLateReferenceIdeal.lean ====
abbrev S1x12288 : Shape := ⟨2, ![1, 12288]⟩
abbrev S1x2048 : Shape := ⟨2, ![1, 2048]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S1x12288, .f32⟩
  | .hbm, ⟨1, _⟩ => ⟨S1x12288, .f32⟩
  | .hbm, ⟨2, _⟩ => ⟨S1x12288, .f32⟩
  | .hbm, ⟨3, _⟩ => ⟨S1x12288, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S_, .f32⟩
  | .hbm, ⟨9, _⟩ => ⟨S1x12288, .f32⟩
  | .hbm, ⟨10, _⟩ => ⟨S1x12288, .f32⟩
  | .hbm, ⟨11, _⟩ => ⟨S_, .f32⟩
  | .hbm, ⟨12, _⟩ => ⟨S1x12288, .f32⟩
  | .hbm, ⟨13, _⟩ => ⟨S1x12288, .f32⟩
  | .hbm, ⟨14, _⟩ => ⟨S1x12288, .f32⟩
  | .hbm, ⟨15, _⟩ => ⟨S_, .f32⟩
  | .hbm, ⟨16, _⟩ => ⟨S1x12288, .f32⟩
  | .hbm, ⟨17, _⟩ => ⟨S1x12288, .f32⟩
  | .hbm, ⟨18, _⟩ => ⟨S1x12288, .f32⟩
  | .hbm, ⟨19, _⟩ => ⟨S_, .f32⟩
  | .hbm, ⟨20, _⟩ => ⟨S1x12288, .f32⟩
  | .hbm, ⟨21, _⟩ => ⟨S1x12288, .f32⟩
  | .hbm, ⟨22, _⟩ => ⟨S1x12288, .f32⟩
  | .hbm, ⟨23, _⟩ => ⟨S_, .f32⟩
  | .hbm, ⟨24, _⟩ => ⟨S1x12288, .f32⟩
  | .hbm, ⟨25, _⟩ => ⟨S1x12288, .f32⟩
  | .hbm, ⟨26, _⟩ => ⟨S_, .f32⟩
  | .hbm, ⟨27, _⟩ => ⟨S1x12288, .f32⟩
  | .hbm, ⟨28, _⟩ => ⟨S1x12288, .f32⟩
  | .hbm, ⟨29, _⟩ => ⟨S1x12288, .f32⟩
  | .hbm, ⟨30, _⟩ => ⟨S_, .f32⟩
  | .hbm, ⟨31, _⟩ => ⟨S1x12288, .f32⟩
  | .hbm, ⟨32, _⟩ => ⟨S1x12288, .f32⟩
  | .hbm, ⟨33, _⟩ => ⟨S1x12288, .f32⟩
  | .hbm, ⟨34, _⟩ => ⟨S_, .f32⟩
  | .hbm, ⟨35, _⟩ => ⟨S1x12288, .f32⟩
  | .hbm, ⟨36, _⟩ => ⟨S1x12288, .f32⟩
  | .hbm, ⟨37, _⟩ => ⟨S1x12288, .f32⟩
  | .hbm, ⟨38, _⟩ => ⟨S_, .f32⟩
  | .hbm, ⟨39, _⟩ => ⟨S1x12288, .f32⟩
  | .hbm, ⟨40, _⟩ => ⟨S1x12288, .f32⟩
  | .hbm, ⟨41, _⟩ => ⟨S_, .f32⟩
  | .hbm, ⟨42, _⟩ => ⟨S1x2048, .f32⟩
  | .hbm, ⟨43, _⟩ => ⟨S1x2048, .f32⟩
  | .hbm, ⟨44, _⟩ => ⟨S_, .f32⟩
  | .hbm, ⟨45, _⟩ => ⟨S1x2048, .f32⟩
  | .hbm, ⟨46, _⟩ => ⟨S1x2048, .f32⟩
  | .hbm, ⟨47, _⟩ => ⟨S1x2048, .f32⟩
  | .hbm, ⟨48, _⟩ => ⟨S_, .f32⟩
  | .hbm, ⟨49, _⟩ => ⟨S1x2048, .f32⟩
  | .hbm, ⟨50, _⟩ => ⟨S1x2048, .f32⟩
  | .hbm, ⟨51, _⟩ => ⟨S1x2048, .f32⟩
  | .hbm, ⟨52, _⟩ => ⟨S_, .f32⟩
  | .hbm, ⟨53, _⟩ => ⟨S1x2048, .f32⟩
  | .hbm, ⟨54, _⟩ => ⟨S1x2048, .f32⟩
  | .hbm, ⟨55, _⟩ => ⟨S1x2048, .f32⟩
  | .hbm, ⟨56, _⟩ => ⟨S_, .f32⟩
  | .hbm, ⟨57, _⟩ => ⟨S1x2048, .f32⟩
  | .hbm, ⟨58, _⟩ => ⟨S1x2048, .f32⟩
  | .hbm, ⟨59, _⟩ => ⟨S_, .f32⟩
  | .hbm, ⟨60, _⟩ => ⟨S1x2048, .f32⟩
  | .hbm, ⟨61, _⟩ => ⟨S1x2048, .f32⟩
  | .hbm, ⟨62, _⟩ => ⟨S1x2048, .f32⟩
  | .hbm, ⟨63, _⟩ => ⟨S_, .f32⟩
  | .hbm, ⟨64, _⟩ => ⟨S1x2048, .f32⟩
  | .hbm, ⟨65, _⟩ => ⟨S1x2048, .f32⟩
  | .hbm, ⟨66, _⟩ => ⟨S1x2048, .f32⟩
  | .hbm, ⟨67, _⟩ => ⟨S_, .f32⟩
  | .hbm, ⟨68, _⟩ => ⟨S1x2048, .f32⟩
  | .hbm, ⟨69, _⟩ => ⟨S1x2048, .f32⟩
  | .hbm, ⟨70, _⟩ => ⟨S1x2048, .f32⟩
  | .hbm, ⟨71, _⟩ => ⟨S_, .f32⟩
  | .hbm, ⟨72, _⟩ => ⟨S1x2048, .f32⟩
  | .hbm, ⟨73, _⟩ => ⟨S1x2048, .f32⟩
  | _, _ => ⟨S1x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== ScanIdeal.lean ====
abbrev S4096x1024 : Shape := ⟨2, ![4096, 1024]⟩
abbrev S4096x7168 : Shape := ⟨2, ![4096, 7168]⟩
abbrev S4096x4096 : Shape := ⟨2, ![4096, 4096]⟩
abbrev S64x64x16 : Shape := ⟨3, ![64, 64, 16]⟩
abbrev S64x16x64 : Shape := ⟨3, ![64, 16, 64]⟩
abbrev S64x64 : Shape := ⟨2, ![64, 64]⟩
abbrev S1x1024 : Shape := ⟨2, ![1, 1024]⟩
abbrev S1x4096 : Shape := ⟨2, ![1, 4096]⟩
abbrev S_ : Shape := ⟨0, ![]⟩
abbrev S7x4096 : Shape := ⟨2, ![7, 4096]⟩
abbrev S8x4096 : Shape := ⟨2, ![8, 4096]⟩
abbrev S2x4096 : Shape := ⟨2, ![2, 4096]⟩
abbrev S6x4096 : Shape := ⟨2, ![6, 4096]⟩
abbrev S4x4096 : Shape := ⟨2, ![4, 4096]⟩
abbrev S1x8x4096 : Shape := ⟨3, ![1, 8, 4096]⟩
abbrev S16x8x4096 : Shape := ⟨3, ![16, 8, 4096]⟩
abbrev S8x8x16x64 : Shape := ⟨4, ![8, 8, 16, 64]⟩
abbrev S8x8 : Shape := ⟨2, ![8, 8]⟩
abbrev S8x8x16x1x64 : Shape := ⟨5, ![8, 8, 16, 1, 64]⟩
abbrev S1x8x1x8x1 : Shape := ⟨5, ![1, 8, 1, 8, 1]⟩
abbrev S8x8x16x8x64 : Shape := ⟨5, ![8, 8, 16, 8, 64]⟩
abbrev S8x128x512 : Shape := ⟨3, ![8, 128, 512]⟩
abbrev S8x8x64x16 : Shape := ⟨4, ![8, 8, 64, 16]⟩
abbrev S8x8x64x1x16 : Shape := ⟨5, ![8, 8, 64, 1, 16]⟩
abbrev S8x8x64x8x16 : Shape := ⟨5, ![8, 8, 64, 8, 16]⟩
abbrev S8x512x128 : Shape := ⟨3, ![8, 512, 128]⟩
abbrev S8x1024x128 : Shape := ⟨3, ![8, 1024, 128]⟩
abbrev S8x384x512 : Shape := ⟨3, ![8, 384, 512]⟩
abbrev S2048x128 : Shape := ⟨2, ![2048, 128]⟩
abbrev S2048x512 : Shape := ⟨2, ![2048, 512]⟩
abbrev S8x512 : Shape := ⟨2, ![8, 512]⟩
abbrev S1x1024x128 : Shape := ⟨3, ![1, 1024, 128]⟩
abbrev S1x384x512 : Shape := ⟨3, ![1, 384, 512]⟩
abbrev S16x8x512 : Shape := ⟨3, ![16, 8, 512]⟩
abbrev S1x128 : Shape := ⟨2, ![1, 128]⟩
abbrev S1x128x512 : Shape := ⟨3, ![1, 128, 512]⟩
abbrev S2056x512 : Shape := ⟨2, ![2056, 512]⟩
abbrev S2048x384 : Shape := ⟨2, ![2048, 384]⟩
abbrev S384x512 : Shape := ⟨2, ![384, 512]⟩
abbrev S1x512 : Shape := ⟨2, ![1, 512]⟩
abbrev S1x8x512 : Shape := ⟨3, ![1, 8, 512]⟩
abbrev S2048x1024 : Shape := ⟨2, ![2048, 1024]⟩
abbrev S1024x128 : Shape := ⟨2, ![1024, 128]⟩
abbrev S128 : Shape := ⟨1, ![128]⟩
abbrev S128x512 : Shape := ⟨2, ![128, 512]⟩

abbrev nBuf : Space → Nat
  | .hbm => 219
  | .vmem => 47
  | .smem => 0
  | _ => 0

abbrev hbmTy0_0 (i : Nat) : BufTy := match i % 128 with
  | 0 => ⟨S4096x1024, .bf16⟩
  | 1 => ⟨S4096x1024, .bf16⟩
  | 2 => ⟨S4096x1024, .f32⟩
  | 3 => ⟨S4096x7168, .f32⟩
  | 4 => ⟨S4096x4096, .f32⟩
  | 5 => ⟨S4096x4096, .f32⟩
  | 6 => ⟨S64x64x16, .f32⟩
  | 7 => ⟨S64x64x16, .f32⟩
  | 8 => ⟨S64x16x64, .f32⟩
  | 9 => ⟨S64x16x64, .f32⟩
  | 10 => ⟨S64x64, .f32⟩
  | 11 => ⟨S64x64, .f32⟩
  | 12 => ⟨S1x1024, .f32⟩
  | 13 => ⟨S1x4096, .f32⟩
  | 14 => ⟨S1x4096, .f32⟩
  | 15 => ⟨S1x4096, .f32⟩
  | 16 => ⟨S1x4096, .f32⟩
  | 17 => ⟨S1x4096, .f32⟩
  | 18 => ⟨S1x4096, .f32⟩
  | 19 => ⟨S1x4096, .f32⟩
  | 20 => ⟨S1x4096, .f32⟩
  | 21 => ⟨S1x4096, .f32⟩
  | 22 => ⟨S1x4096, .f32⟩
  | 23 => ⟨S1x4096, .f32⟩
  | 24 => ⟨S1x4096, .f32⟩
  | 25 => ⟨S1x4096, .f32⟩
  | 26 => ⟨S1x4096, .f32⟩
  | 27 => ⟨S1x4096, .f32⟩
  | 28 => ⟨S1x4096, .f32⟩
  | 29 => ⟨S1x4096, .f32⟩
  | 30 => ⟨S1x4096, .f32⟩
  | 31 => ⟨S1x4096, .f32⟩
  | 32 => ⟨S1x4096, .f32⟩
  | 33 => ⟨S1x4096, .f32⟩
  | 34 => ⟨S1x4096, .f32⟩
  | 35 => ⟨S1x4096, .f32⟩
  | 36 => ⟨S1x4096, .f32⟩
  | 37 => ⟨S1x4096, .f32⟩
  | 38 => ⟨S1x4096, .f32⟩
  | 39 => ⟨S1x4096, .f32⟩
  | 40 => ⟨S1x4096, .f32⟩
  | 41 => ⟨S1x4096, .f32⟩
  | 42 => ⟨S1x4096, .f32⟩
  | 43 => ⟨S1x4096, .f32⟩
  | 44 => ⟨S1x4096, .f32⟩
  | 45 => ⟨S1x4096, .f32⟩
  | 46 => ⟨S1x4096, .f32⟩
  | 47 => ⟨S1x4096, .f32⟩
  | 48 => ⟨S1x4096, .f32⟩
  | 49 => ⟨S1x4096, .f32⟩
  | 50 => ⟨S1x4096, .f32⟩
  | 51 => ⟨S1x4096, .f32⟩
  | 52 => ⟨S1x4096, .f32⟩
  | 53 => ⟨S1x4096, .f32⟩
  | 54 => ⟨S1x4096, .f32⟩
  | 55 => ⟨S1x4096, .f32⟩
  | 56 => ⟨S1x4096, .f32⟩
  | 57 => ⟨S_, .f32⟩
  | 58 => ⟨S1x4096, .f32⟩
  | 59 => ⟨S7x4096, .f32⟩
  | 60 => ⟨S8x4096, .f32⟩
  | 61 => ⟨S_, .f32⟩
  | 62 => ⟨S1x4096, .f32⟩
  | 63 => ⟨S7x4096, .f32⟩
  | 64 => ⟨S8x4096, .f32⟩
  | 65 => ⟨S_, .f32⟩
  | 66 => ⟨S2x4096, .f32⟩
  | 67 => ⟨S6x4096, .f32⟩
  | 68 => ⟨S8x4096, .f32⟩
  | 69 => ⟨S_, .f32⟩
  | 70 => ⟨S2x4096, .f32⟩
  | 71 => ⟨S6x4096, .f32⟩
  | 72 => ⟨S8x4096, .f32⟩
  | 73 => ⟨S_, .f32⟩
  | 74 => ⟨S4x4096, .f32⟩
  | 75 => ⟨S4x4096, .f32⟩
  | 76 => ⟨S8x4096, .f32⟩
  | 77 => ⟨S_, .f32⟩
  | 78 => ⟨S4x4096, .f32⟩
  | 79 => ⟨S4x4096, .f32⟩
  | 80 => ⟨S8x4096, .f32⟩
  | 81 => ⟨S8x4096, .f32⟩
  | 82 => ⟨S8x4096, .f32⟩
  | 83 => ⟨S1x4096, .f32⟩
  | 84 => ⟨S1x4096, .f32⟩
  | 85 => ⟨S1x4096, .f32⟩
  | 86 => ⟨S1x4096, .f32⟩
  | 87 => ⟨S1x4096, .f32⟩
  | 88 => ⟨S1x4096, .f32⟩
  | 89 => ⟨S1x4096, .f32⟩
  | 90 => ⟨S1x4096, .f32⟩
  | 91 => ⟨S_, .f32⟩
  | 92 => ⟨S1x4096, .f32⟩
  | 93 => ⟨S7x4096, .f32⟩
  | 94 => ⟨S8x4096, .f32⟩
  | 95 => ⟨S_, .f32⟩
  | 96 => ⟨S1x4096, .f32⟩
  | 97 => ⟨S7x4096, .f32⟩
  | 98 => ⟨S8x4096, .f32⟩
  | 99 => ⟨S_, .f32⟩
  | 100 => ⟨S2x4096, .f32⟩
  | 101 => ⟨S6x4096, .f32⟩
  | 102 => ⟨S8x4096, .f32⟩
  | 103 => ⟨S_, .f32⟩
  | 104 => ⟨S2x4096, .f32⟩
  | 105 => ⟨S6x4096, .f32⟩
  | 106 => ⟨S8x4096, .f32⟩
  | 107 => ⟨S_, .f32⟩
  | 108 => ⟨S4x4096, .f32⟩
  | 109 => ⟨S4x4096, .f32⟩
  | 110 => ⟨S8x4096, .f32⟩
  | 111 => ⟨S_, .f32⟩
  | 112 => ⟨S4x4096, .f32⟩
  | 113 => ⟨S4x4096, .f32⟩
  | 114 => ⟨S8x4096, .f32⟩
  | 115 => ⟨S8x4096, .f32⟩
  | 116 => ⟨S8x4096, .f32⟩
  | 117 => ⟨S1x8x4096, .f32⟩
  | 118 => ⟨S1x8x4096, .f32⟩
  | 119 => ⟨S1x8x4096, .f32⟩
  | 120 => ⟨S1x8x4096, .f32⟩
  | 121 => ⟨S1x8x4096, .f32⟩
  | 122 => ⟨S1x8x4096, .f32⟩
  | 123 => ⟨S1x8x4096, .f32⟩
  | 124 => ⟨S1x8x4096, .f32⟩
  | 125 => ⟨S1x8x4096, .f32⟩
  | 126 => ⟨S1x8x4096, .f32⟩
  | 127 => ⟨S1x8x4096, .f32⟩
  | _ => ⟨S4096x1024, .bf16⟩

abbrev hbmTy0_1 (i : Nat) : BufTy := match i % 128 with
  | 0 => ⟨S1x8x4096, .f32⟩
  | 1 => ⟨S1x8x4096, .f32⟩
  | 2 => ⟨S1x8x4096, .f32⟩
  | 3 => ⟨S1x8x4096, .f32⟩
  | 4 => ⟨S1x8x4096, .f32⟩
  | 5 => ⟨S16x8x4096, .f32⟩
  | 6 => ⟨S64x16x64, .f32⟩
  | 7 => ⟨S8x8x16x64, .f32⟩
  | 8 => ⟨S8x8, .i32⟩
  | 9 => ⟨S8x8, .i32⟩
  | 10 => ⟨S_, .i32⟩
  | 11 => ⟨S8x8, .i32⟩
  | 12 => ⟨S8x8, .i32⟩
  | 13 => ⟨S8x8, .i1⟩
  | 14 => ⟨S8x8, .f32⟩
  | 15 => ⟨S8x8x16x1x64, .f32⟩
  | 16 => ⟨S1x8x1x8x1, .f32⟩
  | 17 => ⟨S8x8x16x8x64, .f32⟩
  | 18 => ⟨S8x8x16x8x64, .f32⟩
  | 19 => ⟨S8x8x16x8x64, .f32⟩
  | 20 => ⟨S8x128x512, .f32⟩
  | 21 => ⟨S64x16x64, .f32⟩
  | 22 => ⟨S8x8x16x64, .f32⟩
  | 23 => ⟨S8x8, .i32⟩
  | 24 => ⟨S8x8, .i32⟩
  | 25 => ⟨S_, .i32⟩
  | 26 => ⟨S8x8, .i32⟩
  | 27 => ⟨S8x8, .i32⟩
  | 28 => ⟨S8x8, .i1⟩
  | 29 => ⟨S8x8, .f32⟩
  | 30 => ⟨S8x8x16x1x64, .f32⟩
  | 31 => ⟨S1x8x1x8x1, .f32⟩
  | 32 => ⟨S8x8x16x8x64, .f32⟩
  | 33 => ⟨S8x8x16x8x64, .f32⟩
  | 34 => ⟨S8x8x16x8x64, .f32⟩
  | 35 => ⟨S8x128x512, .f32⟩
  | 36 => ⟨S64x64x16, .f32⟩
  | 37 => ⟨S8x8x64x16, .f32⟩
  | 38 => ⟨S8x8, .i32⟩
  | 39 => ⟨S8x8, .i32⟩
  | 40 => ⟨S_, .i32⟩
  | 41 => ⟨S8x8, .i32⟩
  | 42 => ⟨S8x8, .i32⟩
  | 43 => ⟨S8x8, .i1⟩
  | 44 => ⟨S8x8, .f32⟩
  | 45 => ⟨S8x8x64x1x16, .f32⟩
  | 46 => ⟨S1x8x1x8x1, .f32⟩
  | 47 => ⟨S8x8x64x8x16, .f32⟩
  | 48 => ⟨S8x8x64x8x16, .f32⟩
  | 49 => ⟨S8x8x64x8x16, .f32⟩
  | 50 => ⟨S8x512x128, .f32⟩
  | 51 => ⟨S64x64x16, .f32⟩
  | 52 => ⟨S8x8x64x16, .f32⟩
  | 53 => ⟨S8x8, .i32⟩
  | 54 => ⟨S8x8, .i32⟩
  | 55 => ⟨S_, .i32⟩
  | 56 => ⟨S8x8, .i32⟩
  | 57 => ⟨S8x8, .i32⟩
  | 58 => ⟨S8x8, .i1⟩
  | 59 => ⟨S8x8, .f32⟩
  | 60 => ⟨S8x8x64x1x16, .f32⟩
  | 61 => ⟨S1x8x1x8x1, .f32⟩
  | 62 => ⟨S8x8x64x8x16, .f32⟩
  | 63 => ⟨S8x8x64x8x16, .f32⟩
  | 64 => ⟨S8x8x64x8x16, .f32⟩
  | 65 => ⟨S8x512x128, .f32⟩
  | 66 => ⟨S8x512x128, .f32⟩
  | 67 => ⟨S8x512x128, .f32⟩
  | 68 => ⟨S8x1024x128, .f32⟩
  | 69 => ⟨S8x1024x128, .bf16⟩
  | 70 => ⟨S8x128x512, .f32⟩
  | 71 => ⟨S8x128x512, .bf16⟩
  | 72 => ⟨S8x128x512, .f32⟩
  | 73 => ⟨S8x128x512, .f32⟩
  | 74 => ⟨S8x128x512, .bf16⟩
  | 75 => ⟨S8x384x512, .bf16⟩
  | 76 => ⟨S8x128x512, .f32⟩
  | 77 => ⟨S8x128x512, .f32⟩
  | 78 => ⟨S8x128x512, .bf16⟩
  | 79 => ⟨S8x128x512, .f32⟩
  | 80 => ⟨S8x128x512, .f32⟩
  | 81 => ⟨S8x128x512, .bf16⟩
  | 82 => ⟨S8x384x512, .bf16⟩
  | 83 => ⟨S4096x1024, .bf16⟩
  | 84 => ⟨S1x1024, .f32⟩
  | 85 => ⟨S8x128x512, .f32⟩
  | 86 => ⟨S8x128x512, .f32⟩
  | 87 => ⟨S8x128x512, .f32⟩
  | 88 => ⟨S8x128x512, .f32⟩
  | 89 => ⟨S8x4096, .f32⟩
  | 90 => ⟨S8x4096, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x512, .f32⟩
  | .local _ .vmem, ⟨9, _⟩ => ⟨S2048x512, .f32⟩
  | .local _ .vmem, ⟨10, _⟩ => ⟨S2048x512, .f32⟩
  | .local _ .vmem, ⟨11, _⟩ => ⟨S2048x512, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S8x512, .f32⟩
  | .local _ .vmem, ⟨16, _⟩ => ⟨S1x1024x128, .bf16⟩
  | .local _ .vmem, ⟨17, _⟩ => ⟨S1x1024x128, .bf16⟩
  | .local _ .vmem, ⟨18, _⟩ => ⟨S1x384x512, .bf16⟩
  | .local _ .vmem, ⟨19, _⟩ => ⟨S1x384x512, .bf16⟩
  | .local _ .vmem, ⟨20, _⟩ => ⟨S1x384x512, .bf16⟩
  | .local _ .vmem, ⟨21, _⟩ => ⟨S1x384x512, .bf16⟩
  | .local _ .vmem, ⟨22, _⟩ => ⟨S16x8x512, .f32⟩
  | .local _ .vmem, ⟨23, _⟩ => ⟨S16x8x512, .f32⟩
  | .local _ .vmem, ⟨24, _⟩ => ⟨S1x128, .f32⟩
  | .local _ .vmem, ⟨25, _⟩ => ⟨S1x128, .f32⟩
  | .local _ .vmem, ⟨26, _⟩ => ⟨S2048x128, .bf16⟩
  | .local _ .vmem, ⟨27, _⟩ => ⟨S2048x128, .bf16⟩
  | .local _ .vmem, ⟨28, _⟩ => ⟨S1x128, .f32⟩
  | .local _ .vmem, ⟨29, _⟩ => ⟨S1x128, .f32⟩
  | .local _ .vmem, ⟨30, _⟩ => ⟨S1x128x512, .f32⟩
  | .local _ .vmem, ⟨31, _⟩ => ⟨S1x128x512, .f32⟩
  | .local _ .vmem, ⟨32, _⟩ => ⟨S1x128x512, .f32⟩
  | .local _ .vmem, ⟨33, _⟩ => ⟨S1x128x512, .f32⟩
  | .local _ .vmem, ⟨34, _⟩ => ⟨S1x128x512, .f32⟩
  | .local _ .vmem, ⟨35, _⟩ => ⟨S1x128x512, .f32⟩
  | .local _ .vmem, ⟨36, _⟩ => ⟨S1x128x512, .f32⟩
  | .local _ .vmem, ⟨37, _⟩ => ⟨S1x128x512, .f32⟩
  | .local _ .vmem, ⟨38, _⟩ => ⟨S8x512, .f32⟩
  | .local _ .vmem, ⟨39, _⟩ => ⟨S8x512, .f32⟩
  | .local _ .vmem, ⟨40, _⟩ => ⟨S8x512, .f32⟩
  | .local _ .vmem, ⟨41, _⟩ => ⟨S8x512, .f32⟩
  | .local _ .vmem, ⟨42, _⟩ => ⟨S2048x512, .f32⟩
  | .local _ .vmem, ⟨43, _⟩ => ⟨S2048x512, .f32⟩
  | .local _ .vmem, ⟨44, _⟩ => ⟨S2056x512, .f32⟩
  | .local _ .vmem, ⟨45, _⟩ => ⟨S2056x512, .f32⟩
  | .local _ .vmem, ⟨46, _⟩ => ⟨S8x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_0 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_1 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_2 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_3 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_4 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_5 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_6 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_7 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_8 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_9 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_10 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_c : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_c_11 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_c_12 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_c_13 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182_0 : Ref sig .tc := ⟨.hbm, 211, rfl⟩
abbrev main_v182_1 : Ref sig .tc := ⟨.hbm, 212, rfl⟩
abbrev main_v182_2 : Ref sig .tc := ⟨.hbm, 213, rfl⟩
abbrev main_v182_3 : Ref sig .tc := ⟨.hbm, 214, rfl⟩
abbrev main_v182_4 : Ref sig .tc := ⟨.hbm, 215, rfl⟩
abbrev main_v182_5 : Ref sig .tc := ⟨.hbm, 216, rfl⟩
abbrev main_v182_6 : Ref sig .tc := ⟨.hbm, 217, rfl⟩
abbrev main_v182_7 : Ref sig .tc := ⟨.hbm, 218, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_scratch0 : Ref sig .tc := ⟨.vmem, 42, rfl⟩
abbrev cc0_scratch1 : Ref sig .tc := ⟨.vmem, 43, rfl⟩
abbrev cc0_scratch2 : Ref sig .tc := ⟨.vmem, 44, rfl⟩
abbrev cc0_scratch3 : Ref sig .tc := ⟨.vmem, 45, rfl⟩
abbrev cc0_scratch4 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F] [Named F]

def κ : String → Option EReal := fun
  | "cubic" => some ((8943 / 200000 : ℝ) : EReal)
  | "cubic3" => some ((26829 / 200000 : ℝ) : EReal)
  | _ => none

abbrev grid0 : Pipeline.Grid := ⟨2, ![8, 2], ![false, false]⟩

@[reducible] def k0_t1_loop : Scf.Loop 32 :=
  let c0_i32_49 : BitVec 32 := 0#32
  let c128_i32 : BitVec 32 := 128#32
  let v81 : BitVec 32 := Scalar.addi c0_i32_49 c128_i32
  let c1_i32_50 : BitVec 32 := 1#32
  ⟨c0_i32_49, v81, c1_i32_50⟩
def k0_mult1 (k0_t1 : Fin k0_t1_loop.trips) : BitVec 32 :=
  let c127_i32 : BitVec 32 := 127#32
  let c0_i32_49 : BitVec 32 := 0#32
  let c1_i32_50 : BitVec 32 := 1#32
  let arg28 : BitVec 32 := Scf.iv c0_i32_49 c1_i32_50 k0_t1
  let v176 : BitVec 32 := Scalar.subi c127_i32 arg28
  let c16_i32 : BitVec 32 := 16#32
  let v177 : BitVec 32 := Scalar.muli v176 c16_i32
  v177
def k0_off1 (k0_t1 : Fin k0_t1_loop.trips) : Fin 2 → Nat :=
  let c127_i32 : BitVec 32 := 127#32
  let c0_i32_49 : BitVec 32 := 0#32
  let c1_i32_50 : BitVec 32 := 1#32
  let arg28 : BitVec 32 := Scf.iv c0_i32_49 c1_i32_50 k0_t1
  let v176 : BitVec 32 := Scalar.subi c127_i32 arg28
  let c16_i32 : BitVec 32 := 16#32
  let v177 : BitVec 32 := Scalar.muli v176 c16_i32
  let v178 : BitVec 32 := v177
  let c8_i32 : BitVec 32 := 8#32
  let v179 : BitVec 32 := Scalar.addi v178 c8_i32
  let v180 : Index := Scalar.indexCast v179
  let c0_123 : Index := 0#32
  ![v180.toNat, 0]
def k0_off2 (k0_t1 : Fin k0_t1_loop.trips) : Fin 2 → Nat :=
  let c127_i32 : BitVec 32 := 127#32
  let c0_i32_49 : BitVec 32 := 0#32
  let c1_i32_50 : BitVec 32 := 1#32
  let arg28 : BitVec 32 := Scf.iv c0_i32_49 c1_i32_50 k0_t1
  let v176 : BitVec 32 := Scalar.subi c127_i32 arg28
  let c16_i32 : BitVec 32 := 16#32
  let v177 : BitVec 32 := Scalar.muli v176 c16_i32
  let v178 : BitVec 32 := v177
  let v214 : Index := Scalar.indexCast v178
  let c0_128 : Index := 0#32
  ![v214.toNat, 0]
def k0_off3 (k0_t1 : Fin k0_t1_loop.trips) (c0_i32_140 : BitVec 32) : Fin 2 → Nat :=
  let c127_i32 : BitVec 32 := 127#32
  let c0_i32_49 : BitVec 32 := 0#32
  let c1_i32_50 : BitVec 32 := 1#32
  let arg28 : BitVec 32 := Scf.iv c0_i32_49 c1_i32_50 k0_t1
  let v176 : BitVec 32 := Scalar.subi c127_i32 arg28
  let c16_i32 : BitVec 32 := 16#32
  let v177 : BitVec 32 := Scalar.muli v176 c16_i32
  let v178 : BitVec 32 := v177
  let v290 : BitVec 32 := Scalar.addi v178 c0_i32_140
  let v291 : Index := Scalar.indexCast v290
  let c0_141 : Index := 0#32
  ![v291.toNat, 0]
def k0_cond2 (i : grid0.Coords) : BitVec 1 :=
  let arg1 : BitVec 32 := BitVec.ofNat 32 (i 1).val
  let c0_i32_69 : BitVec 32 := 0#32
  let v108 : BitVec 1 := Scalar.cmpi .eq arg1 c0_i32_69
  let v109 : BitVec 32 := Scalar.extui v108
  let c0_i32_70 : BitVec 32 := 0#32
  let v110 : BitVec 1 := Scalar.cmpi .ne v109 c0_i32_70
  v110

def k0_cond3 (i : grid0.Coords) : BitVec 1 :=
  let arg1 : BitVec 32 := BitVec.ofNat 32 (i 1).val
  let c0_i32_71 : BitVec 32 := 0#32
  let v111 : BitVec 1 := Scalar.cmpi .sgt arg1 c0_i32_71
  let v112 : BitVec 32 := Scalar.extui v111
  let c0_i32_72 : BitVec 32 := 0#32
  let v113 : BitVec 1 := Scalar.cmpi .ne v112 c0_i32_72
  v113

def k0_cond4 (i : grid0.Coords) : BitVec 1 :=
  let arg1 : BitVec 32 := BitVec.ofNat 32 (i 1).val
  let c0_i32_76 : BitVec 32 := 0#32
  let v117 : BitVec 1 := Scalar.cmpi .eq arg1 c0_i32_76
  let v118 : BitVec 32 := Scalar.extui v117
  let c0_i32_77 : BitVec 32 := 0#32
  let v119 : BitVec 1 := Scalar.cmpi .ne v118 c0_i32_77
  v119

def k0_cond5 (i : grid0.Coords) : BitVec 1 :=
  let arg1 : BitVec 32 := BitVec.ofNat 32 (i 1).val
  let c0_i32_78 : BitVec 32 := 0#32
  let v120 : BitVec 1 := Scalar.cmpi .sgt arg1 c0_i32_78
  let v121 : BitVec 32 := Scalar.extui v120
  let c0_i32_79 : BitVec 32 := 0#32
  let v122 : BitVec 1 := Scalar.cmpi .ne v121 c0_i32_79
  v122

def k0_cond6 (i : grid0.Coords) : BitVec 1 :=
  let arg1 : BitVec 32 := BitVec.ofNat 32 (i 1).val
  let c0_i32_84 : BitVec 32 := 0#32
  let v128 : BitVec 1 := Scalar.cmpi .eq arg1 c0_i32_84
  let v129 : BitVec 32 := Scalar.extui v128
  let c0_i32_85 : BitVec 32 := 0#32
  let v130 : BitVec 1 := Scalar.cmpi .ne v129 c0_i32_85
  v130

def k0_cond7 (i : grid0.Coords) : BitVec 1 :=
  let arg1 : BitVec 32 := BitVec.ofNat 32 (i 1).val
  let c0_i32_86 : BitVec 32 := 0#32
  let v131 : BitVec 1 := Scalar.cmpi .sgt arg1 c0_i32_86
  let v132 : BitVec 32 := Scalar.extui v131
  let c0_i32_87 : BitVec 32 := 0#32
  let v133 : BitVec 1 := Scalar.cmpi .ne v132 c0_i32_87
  v133

def k0_cond8 (i : grid0.Coords) : BitVec 1 :=
  let arg1 : BitVec 32 := BitVec.ofNat 32 (i 1).val
  let c0_i32_89 : BitVec 32 := 0#32
  let v135 : BitVec 1 := Scalar.cmpi .eq arg1 c0_i32_89
  let v136 : BitVec 32 := Scalar.extui v135
  let c0_i32_90 : BitVec 32 := 0#32
  let v137 : BitVec 1 := Scalar.cmpi .ne v136 c0_i32_90
  v137

def k0_cond9 (i : grid0.Coords) : BitVec 1 :=
  let arg1 : BitVec 32 := BitVec.ofNat 32 (i 1).val
  let c0_i32_91 : BitVec 32 := 0#32
  let v138 : BitVec 1 := Scalar.cmpi .sgt arg1 c0_i32_91
  let v139 : BitVec 32 := Scalar.extui v138
  let c0_i32_92 : BitVec 32 := 0#32
  let v140 : BitVec 1 := Scalar.cmpi .ne v139 c0_i32_92
  v140

def k0_cond10 (i : grid0.Coords) : BitVec 1 :=
  let arg1 : BitVec 32 := BitVec.ofNat 32 (i 1).val
  let c0_i32_94 : BitVec 32 := 0#32
  let v142 : BitVec 1 := Scalar.cmpi .eq arg1 c0_i32_94
  let v143 : BitVec 32 := Scalar.extui v142
  let c0_i32_95 : BitVec 32 := 0#32
  let v144 : BitVec 1 := Scalar.cmpi .ne v143 c0_i32_95
  v144

def k0_cond11 (i : grid0.Coords) : BitVec 1 :=
  let arg1 : BitVec 32 := BitVec.ofNat 32 (i 1).val
  let c0_i32_96 : BitVec 32 := 0#32
  let v145 : BitVec 1 := Scalar.cmpi .sgt arg1 c0_i32_96
  let v146 : BitVec 32 := Scalar.extui v145
  let c0_i32_97 : BitVec 32 := 0#32
  let v147 : BitVec 1 := Scalar.cmpi .ne v146 c0_i32_97
  v147

def k0_cond12 (i : grid0.Coords) : BitVec 1 :=
  let arg1 : BitVec 32 := BitVec.ofNat 32 (i 1).val
  let c0_i32_98 : BitVec 32 := 0#32
  let v148 : BitVec 1 := Scalar.cmpi .eq arg1 c0_i32_98
  let v149 : BitVec 32 := Scalar.extui v148
  let c0_i32_99 : BitVec 32 := 0#32
  let v150 : BitVec 1 := Scalar.cmpi .ne v149 c0_i32_99
  v150

def k0_cond13 (i : grid0.Coords) : BitVec 1 :=
  let arg1 : BitVec 32 := BitVec.ofNat 32 (i 1).val
  let c0_i32_100 : BitVec 32 := 0#32
  let v151 : BitVec 1 := Scalar.cmpi .sgt arg1 c0_i32_100
  let v152 : BitVec 32 := Scalar.extui v151
  let c0_i32_101 : BitVec 32 := 0#32
  let v153 : BitVec 1 := Scalar.cmpi .ne v152 c0_i32_101
  v153

def k0_cond14 (i : grid0.Coords) : BitVec 1 :=
  let arg1 : BitVec 32 := BitVec.ofNat 32 (i 1).val
  let c0_i32_102 : BitVec 32 := 0#32
  let v154 : BitVec 1 := Scalar.cmpi .eq arg1 c0_i32_102
  let v155 : BitVec 32 := Scalar.extui v154
  let c0_i32_103 : BitVec 32 := 0#32
  let v156 : BitVec 1 := Scalar.cmpi .ne v155 c0_i32_103
  v156

def k0_cond15 (i : grid0.Coords) : BitVec 1 :=
  let arg1 : BitVec 32 := BitVec.ofNat 32 (i 1).val
  let c0_i32_104 : BitVec 32 := 0#32
  let v157 : BitVec 1 := Scalar.cmpi .sgt arg1 c0_i32_104
  let v158 : BitVec 32 := Scalar.extui v157
  let c0_i32_105 : BitVec 32 := 0#32
  let v159 : BitVec 1 := Scalar.cmpi .ne v158 c0_i32_105
  v159

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let v1 : BitVec 32 := Scalar.addi c0_i32 arg0
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let v1 : BitVec 32 := Scalar.addi c0_i32 arg0
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c16_i32 : BitVec 32 := 16#32
  let v1 : BitVec 32 := Scalar.addi c16_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let v1 : BitVec 32 := Scalar.addi c0_i32 arg0
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let v1 : BitVec 32 := Scalar.addi c0_i32 arg0
  let c0_i32_0 : BitVec 32 := 0#32
  ![v0.toNat, v1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c256_i32 : BitVec 32 := 256#32
  let v1 : BitVec 32 := Scalar.muli v0 c256_i32
  let c1_i32_0 : BitVec 32 := 1#32
  let v2 : BitVec 32 := Scalar.subi v1 c1_i32_0
  let c0_i32 : BitVec 32 := 0#32
  let v3 : BitVec 32 := Scalar.maxsi v2 c0_i32
  let c0_i32_1 : BitVec 32 := 0#32
  ![v3.toNat, arg0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c256_i32 : BitVec 32 := 256#32
  let v1 : BitVec 32 := Scalar.muli v0 c256_i32
  let c1_i32_0 : BitVec 32 := 1#32
  let v2 : BitVec 32 := Scalar.subi v1 c1_i32_0
  let c0_i32 : BitVec 32 := 0#32
  let v3 : BitVec 32 := Scalar.maxsi v2 c0_i32
  let c0_i32_1 : BitVec 32 := 0#32
  ![v3.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let v1 : BitVec 32 := Scalar.addi c0_i32 arg0
  let c0_i32_0 : BitVec 32 := 0#32
  ![v0.toNat, v1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x384x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x384x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S16x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S2048x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x128x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x128x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x128x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x128x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S8x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S8x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]
-- ==== ScanReferenceIdeal.lean ====
abbrev S4096x1024 : Shape := ⟨2, ![4096, 1024]⟩
abbrev S4096x7168 : Shape := ⟨2, ![4096, 7168]⟩
abbrev S4096x4096 : Shape := ⟨2, ![4096, 4096]⟩
abbrev S64x64x16 : Shape := ⟨3, ![64, 64, 16]⟩
abbrev S64x16x64 : Shape := ⟨3, ![64, 16, 64]⟩
abbrev S64x64 : Shape := ⟨2, ![64, 64]⟩
abbrev S1x1024 : Shape := ⟨2, ![1, 1024]⟩
abbrev S4096x64x64 : Shape := ⟨3, ![4096, 64, 64]⟩
abbrev S_ : Shape := ⟨0, ![]⟩
abbrev S64x16x4096 : Shape := ⟨3, ![64, 16, 4096]⟩
abbrev S4096x64x16 : Shape := ⟨3, ![4096, 64, 16]⟩
abbrev S1024 : Shape := ⟨1, ![1024]⟩
abbrev S64x4096x64 : Shape := ⟨3, ![64, 4096, 64]⟩
abbrev S1x64x64 : Shape := ⟨3, ![1, 64, 64]⟩
abbrev S64x64x4096 : Shape := ⟨3, ![64, 64, 4096]⟩
abbrev S64x4096x16 : Shape := ⟨3, ![64, 4096, 16]⟩

abbrev nBuf : Space → Nat
  | .hbm => 156
  | .vmem => 0
  | .smem => 0
  | _ => 0

abbrev hbmTy0_0 (i : Nat) : BufTy := match i % 128 with
  | 0 => ⟨S4096x1024, .bf16⟩
  | 1 => ⟨S4096x1024, .bf16⟩
  | 2 => ⟨S4096x1024, .f32⟩
  | 3 => ⟨S4096x7168, .f32⟩
  | 4 => ⟨S4096x4096, .f32⟩
  | 5 => ⟨S4096x4096, .f32⟩
  | 6 => ⟨S64x64x16, .f32⟩
  | 7 => ⟨S64x64x16, .f32⟩
  | 8 => ⟨S64x16x64, .f32⟩
  | 9 => ⟨S64x16x64, .f32⟩
  | 10 => ⟨S64x64, .f32⟩
  | 11 => ⟨S64x64, .f32⟩
  | 12 => ⟨S1x1024, .f32⟩
  | 13 => ⟨S4096x1024, .f32⟩
  | 14 => ⟨S4096x64x64, .f32⟩
  | 15 => ⟨S4096x64x64, .f32⟩
  | 16 => ⟨S_, .f32⟩
  | 17 => ⟨S_, .f32⟩
  | 18 => ⟨S_, .f32⟩
  | 19 => ⟨S4096x1024, .f32⟩
  | 20 => ⟨S4096x1024, .f32⟩
  | 21 => ⟨S4096x1024, .f32⟩
  | 22 => ⟨S_, .f32⟩
  | 23 => ⟨S4096x1024, .f32⟩
  | 24 => ⟨S4096x1024, .f32⟩
  | 25 => ⟨S4096x1024, .f32⟩
  | 26 => ⟨S4096x1024, .f32⟩
  | 27 => ⟨S4096x1024, .f32⟩
  | 28 => ⟨S_, .f32⟩
  | 29 => ⟨S4096x1024, .f32⟩
  | 30 => ⟨S4096x1024, .f32⟩
  | 31 => ⟨S4096x1024, .f32⟩
  | 32 => ⟨S_, .f32⟩
  | 33 => ⟨S4096x1024, .f32⟩
  | 34 => ⟨S4096x1024, .f32⟩
  | 35 => ⟨S_, .f32⟩
  | 36 => ⟨S4096x1024, .f32⟩
  | 37 => ⟨S4096x1024, .f32⟩
  | 38 => ⟨S4096x1024, .f32⟩
  | 39 => ⟨S_, .f32⟩
  | 40 => ⟨S4096x1024, .f32⟩
  | 41 => ⟨S4096x1024, .f32⟩
  | 42 => ⟨S_, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S4096x1024, .f32⟩
  | 51 => ⟨S_, .f32⟩
  | 52 => ⟨S4096x1024, .f32⟩
  | 53 => ⟨S4096x1024, .f32⟩
  | 54 => ⟨S4096x1024, .f32⟩
  | 55 => ⟨S_, .f32⟩
  | 56 => ⟨S4096x1024, .f32⟩
  | 57 => ⟨S4096x1024, .f32⟩
  | 58 => ⟨S4096x1024, .f32⟩
  | 59 => ⟨S4096x1024, .f32⟩
  | 60 => ⟨S4096x1024, .f32⟩
  | 61 => ⟨S4096x1024, .f32⟩
  | 62 => ⟨S4096x1024, .f32⟩
  | 63 => ⟨S64x16x4096, .f32⟩
  | 64 => ⟨S4096x64x16, .f32⟩
  | 65 => ⟨S64x16x4096, .f32⟩
  | 66 => ⟨S4096x64x16, .f32⟩
  | 67 => ⟨S4096x64x16, .f32⟩
  | 68 => ⟨S4096x1024, .f32⟩
  | 69 => ⟨S4096x1024, .f32⟩
  | 70 => ⟨S4096x1024, .f32⟩
  | 71 => ⟨S4096x1024, .f32⟩
  | 72 => ⟨S4096x1024, .f32⟩
  | 73 => ⟨S4096x1024, .f32⟩
  | 74 => ⟨S4096x1024, .f32⟩
  | 75 => ⟨S_, .f32⟩
  | 76 => ⟨S1024, .f32⟩
  | 77 => ⟨S1x1024, .f32⟩
  | 78 => ⟨S4096x64x16, .f32⟩
  | 79 => ⟨S4096x64x16, .f32⟩
  | 80 => ⟨S64x16x4096, .f32⟩
  | 81 => ⟨S64x4096x64, .f32⟩
  | 82 => ⟨S4096x64x64, .f32⟩
  | 83 => ⟨S64x16x4096, .f32⟩
  | 84 => ⟨S64x4096x64, .f32⟩
  | 85 => ⟨S4096x64x64, .f32⟩
  | 86 => ⟨S_, .f32⟩
  | 87 => ⟨S64x64, .f32⟩
  | 88 => ⟨S_, .f32⟩
  | 89 => ⟨S64x64, .f32⟩
  | 90 => ⟨S_, .f32⟩
  | 91 => ⟨S64x64, .f32⟩
  | 92 => ⟨S_, .f32⟩
  | 93 => ⟨S64x64, .f32⟩
  | 94 => ⟨S_, .f32⟩
  | 95 => ⟨S4096x64x64, .f32⟩
  | 96 => ⟨S_, .f32⟩
  | 97 => ⟨S4096x64x64, .f32⟩
  | 98 => ⟨S_, .i32⟩
  | 99 => ⟨S4096x64x64, .f32⟩
  | 100 => ⟨S4096x64x64, .f32⟩
  | 101 => ⟨S64x64, .f32⟩
  | 102 => ⟨S64x64, .f32⟩
  | 103 => ⟨S_, .i32⟩
  | 104 => ⟨S64x64, .f32⟩
  | 105 => ⟨S64x64, .f32⟩
  | 106 => ⟨S4096x64x64, .f32⟩
  | 107 => ⟨S4096x64x64, .f32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S1x64x64, .f32⟩
  | 117 => ⟨S64x64, .f32⟩
  | 118 => ⟨S_, .i32⟩
  | 119 => ⟨S_, .i32⟩
  | 120 => ⟨S1x64x64, .f32⟩
  | 121 => ⟨S64x64, .f32⟩
  | 122 => ⟨S64x64, .f32⟩
  | 123 => ⟨S64x64, .f32⟩
  | 124 => ⟨S64x64, .f32⟩
  | 125 => ⟨S64x64, .f32⟩
  | 126 => ⟨S64x64, .f32⟩
  | 127 => ⟨S64x64, .f32⟩
  | _ => ⟨S4096x1024, .bf16⟩

abbrev hbmTy0_1 (i : Nat) : BufTy := match i % 128 with
  | 0 => ⟨S64x64, .f32⟩
  | 1 => ⟨S64x64, .f32⟩
  | 2 => ⟨S64x64, .f32⟩
  | 3 => ⟨S1x64x64, .f32⟩
  | 4 => ⟨S_, .i32⟩
  | 5 => ⟨S_, .i32⟩
  | 6 => ⟨S4096x64x64, .f32⟩
  | 7 => ⟨S1x64x64, .f32⟩
  | 8 => ⟨S_, .i32⟩
  | 9 => ⟨S_, .i32⟩
  | 10 => ⟨S4096x64x64, .f32⟩
  | 11 => ⟨S_, .i32⟩
  | 12 => ⟨S_, .i32⟩
  | 13 => ⟨S4096x64x16, .f32⟩
  | 14 => ⟨S64x64x4096, .f32⟩
  | 15 => ⟨S4096x64x64, .f32⟩
  | 16 => ⟨S64x64x4096, .f32⟩
  | 17 => ⟨S4096x64x64, .f32⟩
  | 18 => ⟨S64x64x4096, .f32⟩
  | 19 => ⟨S64x4096x16, .f32⟩
  | 20 => ⟨S4096x64x16, .f32⟩
  | 21 => ⟨S64x64x4096, .f32⟩
  | 22 => ⟨S64x4096x16, .f32⟩
  | 23 => ⟨S4096x64x16, .f32⟩
  | 24 => ⟨S4096x64x16, .f32⟩
  | 25 => ⟨S4096x1024, .f32⟩
  | 26 => ⟨S4096x1024, .f32⟩
  | 27 => ⟨S4096x1024, .bf16⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_cst_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_10 : Ref sig .tc := ⟨.hbm, 86, rfl⟩
abbrev main_v62 : Ref sig .tc := ⟨.hbm, 87, rfl⟩
abbrev main_cst_11 : Ref sig .tc := ⟨.hbm, 88, rfl⟩
abbrev main_v63 : Ref sig .tc := ⟨.hbm, 89, rfl⟩
abbrev main_cst_12 : Ref sig .tc := ⟨.hbm, 90, rfl⟩
abbrev main_v64 : Ref sig .tc := ⟨.hbm, 91, rfl⟩
abbrev main_cst_13 : Ref sig .tc := ⟨.hbm, 92, rfl⟩
abbrev main_v65 : Ref sig .tc := ⟨.hbm, 93, rfl⟩
abbrev main_cst_14 : Ref sig .tc := ⟨.hbm, 94, rfl⟩
abbrev main_v66 : Ref sig .tc := ⟨.hbm, 95, rfl⟩
abbrev main_cst_15 : Ref sig .tc := ⟨.hbm, 96, rfl⟩
abbrev main_v67 : Ref sig .tc := ⟨.hbm, 97, rfl⟩
abbrev main_c : Ref sig .tc := ⟨.hbm, 98, rfl⟩
abbrev main_v68_0 : Ref sig .tc := ⟨.hbm, 99, rfl⟩
abbrev main_v68_1 : Ref sig .tc := ⟨.hbm, 100, rfl⟩
abbrev main_v68_2 : Ref sig .tc := ⟨.hbm, 101, rfl⟩
abbrev main_v68_3 : Ref sig .tc := ⟨.hbm, 102, rfl⟩
abbrev main_v68_4 : Ref sig .tc := ⟨.hbm, 103, rfl⟩
abbrev main_v68_5 : Ref sig .tc := ⟨.hbm, 104, rfl⟩
abbrev main_v68_6 : Ref sig .tc := ⟨.hbm, 105, rfl⟩
abbrev main_v68_7 : Ref sig .tc := ⟨.hbm, 106, rfl⟩
abbrev main_v68_8 : Ref sig .tc := ⟨.hbm, 107, rfl⟩
abbrev main_while0c_c_24 : Ref sig .tc := ⟨.hbm, 108, rfl⟩
abbrev main_while0c_v84 : Ref sig .tc := ⟨.hbm, 109, rfl⟩
abbrev main_while0b_c_24 : Ref sig .tc := ⟨.hbm, 110, rfl⟩
abbrev main_while0b_v84 : Ref sig .tc := ⟨.hbm, 111, rfl⟩
abbrev main_while0b_c_25 : Ref sig .tc := ⟨.hbm, 112, rfl⟩
abbrev main_while0b_v85 : Ref sig .tc := ⟨.hbm, 113, rfl⟩
abbrev main_while0b_call0_c : Ref sig .tc := ⟨.hbm, 114, rfl⟩
abbrev main_while0b_call0_c_0 : Ref sig .tc := ⟨.hbm, 115, rfl⟩
abbrev main_while0b_call0_v0 : Ref sig .tc := ⟨.hbm, 116, rfl⟩
abbrev main_while0b_v86 : Ref sig .tc := ⟨.hbm, 117, rfl⟩
abbrev main_while0b_call1_c : Ref sig .tc := ⟨.hbm, 118, rfl⟩
abbrev main_while0b_call1_c_0 : Ref sig .tc := ⟨.hbm, 119, rfl⟩
abbrev main_while0b_call1_v0 : Ref sig .tc := ⟨.hbm, 120, rfl⟩
abbrev main_while0b_v87 : Ref sig .tc := ⟨.hbm, 121, rfl⟩
abbrev main_while0b_v88 : Ref sig .tc := ⟨.hbm, 122, rfl⟩
abbrev main_while0b_v89 : Ref sig .tc := ⟨.hbm, 123, rfl⟩
abbrev main_while0b_v90 : Ref sig .tc := ⟨.hbm, 124, rfl⟩
abbrev main_while0b_v91 : Ref sig .tc := ⟨.hbm, 125, rfl⟩
abbrev main_while0b_v92 : Ref sig .tc := ⟨.hbm, 126, rfl⟩
abbrev main_while0b_v93 : Ref sig .tc := ⟨.hbm, 127, rfl⟩
abbrev main_while0b_v94 : Ref sig .tc := ⟨.hbm, 128, rfl⟩
abbrev main_while0b_v95 : Ref sig .tc := ⟨.hbm, 129, rfl⟩
abbrev main_while0b_v96 : Ref sig .tc := ⟨.hbm, 130, rfl⟩
abbrev main_while0b_call2_v0 : Ref sig .tc := ⟨.hbm, 131, rfl⟩
abbrev main_while0b_call2_c : Ref sig .tc := ⟨.hbm, 132, rfl⟩
abbrev main_while0b_call2_c_0 : Ref sig .tc := ⟨.hbm, 133, rfl⟩
abbrev main_while0b_v97 : Ref sig .tc := ⟨.hbm, 134, rfl⟩
abbrev main_while0b_call3_v0 : Ref sig .tc := ⟨.hbm, 135, rfl⟩
abbrev main_while0b_call3_c : Ref sig .tc := ⟨.hbm, 136, rfl⟩
abbrev main_while0b_call3_c_0 : Ref sig .tc := ⟨.hbm, 137, rfl⟩
abbrev main_while0b_v98 : Ref sig .tc := ⟨.hbm, 138, rfl⟩
abbrev main_while0b_c_26 : Ref sig .tc := ⟨.hbm, 139, rfl⟩
abbrev main_while0b_v99 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩

abbrev nD : Nat := 1
abbrev τ : Topo := Topo.v7x

variable {F : FTy → Type} [FloatOps F]

abbrev main_while0_count : Scf.Loop 32 := ⟨0#32, 4096#32, 1#32⟩
-- ==== Proof.MergeValue.lean ====
/- The gate's gradient: what the kernel's four result arrays hold, index by index, over the extended reals. -/
module

public import proofs.«01_k».proof.Proof.Gen.KernelIdeal.Value
public import proofs.«01_k».proof.Proof.Gen.ReferenceIdeal.Read
public import Idealize.ShloMosaic.PureOps.Ideal
public import Idealize.ShloMosaic.Lib.IdealHost
public import Idealize.ShloMosaic.Lib.Pipeline.ValueKit
public import Idealize.ShloMosaic.Lib.UnfoldOut
public import Idealize.ShloMosaic.Lib.Claim

@[expose] public section

noncomputable section

namespace Cert.Proof.Merge

open Idealize.ShloMosaic Idealize.ShloMosaic.TcCoe Idealize.SL.Sem Cert.KernelIdeal Cert.KernelIdeal.Gen
open Idealize.ShloMosaic.Pipeline (Dat)

/-- The logistic function as both programs spell it. -/
def sg (x : EReal) : EReal := Ideal.div 1 (1 + Ideal.exp (-x))

/-- The literal zero minus a number is its negative. -/
theorem zero_sub' (x : EReal) : (0 : EReal) - x = -x := zero_sub x

/-- The two gates' columns of the projection: `gc` the convolution branch's, `gs` the state-space branch's. -/
abbrev gc (p : S4096x7168.Idx → EReal) (i : S4096x2048.Idx) : EReal := p (Cert.ReferenceIdeal.Read.idx_main_v0 i)
abbrev gs (p : S4096x7168.Idx → EReal) (i : S4096x2048.Idx) : EReal := p (Cert.ReferenceIdeal.Read.idx_main_v1 i)

/-- The gradient of the convolution branch's output: the cotangent through the convolution gate. -/
def G8 (dm : S4096x2048.Idx → EReal) (p : S4096x7168.Idx → EReal) (i : S4096x2048.Idx) : EReal := dm i * sg (gc p i)

/-- The gradient of the state-space branch's value half: the cotangent through both of its gates. -/
def G9 (dm : S4096x2048.Idx → EReal) (p : S4096x7168.Idx → EReal) (b : S4096x2048.Idx → EReal) (i : S4096x2048.Idx) : EReal :=
  dm i * sg (gs p i) * sg (b i)

/-- The gradient of the state-space branch's gate half. -/
def G10 (dm : S4096x2048.Idx → EReal) (p : S4096x7168.Idx → EReal) (a b : S4096x2048.Idx → EReal) (i : S4096x2048.Idx) : EReal :=
  dm i * sg (gs p i) * a i * sg (b i) * (1 - sg (b i))

/-- The gradient of the convolution gate's argument. -/
def Gc (dm : S4096x2048.Idx → EReal) (p : S4096x7168.Idx → EReal) (y : S4096x2048.Idx → EReal) (i : S4096x2048.Idx) : EReal :=
  dm i * y i * sg (gc p i) * (1 - sg (gc p i))

/-- The gradient of the state-space gate's argument. -/
def Gs (dm : S4096x2048.Idx → EReal) (p : S4096x7168.Idx → EReal) (a b : S4096x2048.Idx → EReal) (i : S4096x2048.Idx) : EReal :=
  dm i * a i * sg (b i) * sg (gs p i) * (1 - sg (gs p i))

/-- The left and the right half of a row of `4096` columns, as an index of one half. -/
abbrev lo (i : S4096x4096.Idx) (h : (i 1).val < 2048) : S4096x2048.Idx := fun a => match a with
  | ⟨0, _⟩ => ⟨(i 0).val, (i 0).isLt⟩
  | ⟨1, _⟩ => ⟨(i 1).val, h⟩
abbrev hi (i : S4096x4096.Idx) : S4096x2048.Idx := fun a => match a with
  | ⟨0, _⟩ => ⟨(i 0).val, (i 0).isLt⟩
  | ⟨1, _⟩ => ⟨(i 1).val - 2048, by have h1 : (i 1).val < 4096 := (i 1).isLt; show (i 1).val - 2048 < 2048; omega⟩

/-- The two gates' gradients side by side. -/
def G11 (dm : S4096x2048.Idx → EReal) (p : S4096x7168.Idx → EReal) (y a b : S4096x2048.Idx → EReal) (i : S4096x4096.Idx) : EReal :=
  if h : (i 1).val < 2048 then Gc dm p y (lo i h) else Gs dm p a b (hi i)

theorem G11_lo {dm p y a b} (i : S4096x4096.Idx) (j : S4096x2048.Idx) (h0 : (i 0).val = (j 0).val) (h1 : (i 1).val = (j 1).val) :
    G11 dm p y a b i = Gc dm p y j := by
  have hj : (j 1).val < 2048 := (j 1).isLt
  have hl : (i 1).val < 2048 := by omega
  rw [G11, dif_pos hl]
  congr 1; funext a; apply Fin.ext
  match a with
  | ⟨0, _⟩ => exact h0
  | ⟨1, _⟩ => exact h1

theorem G11_hi {dm p y a b} (i : S4096x4096.Idx) (j : S4096x2048.Idx) (h0 : (i 0).val = (j 0).val) (h1 : (i 1).val = 2048 + (j 1).val) :
    G11 dm p y a b i = Gs dm p a b j := by
  rw [G11, dif_neg (by omega)]
  congr 1; funext a; apply Fin.ext
  match a with
  | ⟨0, _⟩ => exact h0
  | ⟨1, _⟩ => show (i 1).val - 2048 = (j 1).val; omega

variable (m : (ℓ : Loc nD τ sig) → Buf (Elt Ideal) ℓ)

/-! ## Each window's block index at a grid point -/

theorem e0 : ∀ t : Fin cfg0.N, win0_0.index t = ![t.val, 0] := (by decide +kernel : ∀ t : Fin grid0.N, _)
theorem e1 : ∀ t : Fin cfg0.N, win0_1.index t = ![t.val, 3] := (by decide +kernel : ∀ t : Fin grid0.N, _)
theorem e2 : ∀ t : Fin cfg0.N, win0_2.index t = ![t.val, 4] := (by decide +kernel : ∀ t : Fin grid0.N, _)
theorem e3 : ∀ t : Fin cfg0.N, win0_3.index t = ![t.val, 5] := (by decide +kernel : ∀ t : Fin grid0.N, _)
theorem e4 : ∀ t : Fin cfg0.N, win0_4.index t = ![t.val, 6] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![t.val, 0] := (by decide +kernel : ∀ t : Fin grid0.N, _)
theorem e8 : ∀ t : Fin cfg0.N, win0_8.index t = ![t.val, 0] := (by decide +kernel : ∀ t : Fin grid0.N, _)
theorem e9 : ∀ t : Fin cfg0.N, win0_9.index t = ![t.val, 0] := (by decide +kernel : ∀ t : Fin grid0.N, _)
theorem e10 : ∀ t : Fin cfg0.N, win0_10.index t = ![t.val, 0] := (by decide +kernel : ∀ t : Fin grid0.N, _)
theorem e11 : ∀ t : Fin cfg0.N, win0_11.index t = ![t.val, 0] := (by decide +kernel : ∀ t : Fin grid0.N, _)

/-! ## The four result arrays -/

/-- The gradient of the convolution branch's output, whole. -/
theorem final8 (c : Dev nD) : (dats m 0 c).arrAt 8 cfg0.N = G8 (m ((c : Thread nD τ).loc main_arg0)) (m ((c : Thread nD τ).loc main_arg1)) := by
  refine (dats m 0 c).arrAt_eq_of_covers 8 _ (by decide +kernel) fun t hf y => ?_
  blk_simp
  rw [after0_8]
  unfold_out out0_8
  refine View.canon_apply_of_pieces (Val := Elt Ideal) (e := .bf16) (fun y => G8 (m ((c : Thread nD τ).loc main_arg0)) (m ((c : Thread nD τ).loc main_arg1)) ((win0_8.blk t).view.emb y)) _ ?_ y (cover0_8 _ _ y)
  intro p hp x
  simp only [List.mem_cons, List.mem_singleton, List.not_mem_nil, or_false] at hp
  rcases hp with rfl | rfl
  · dsimp only
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23,
        truncf, mulf, divf, exp, subf, addf, extf, broadcast, Scalar.ofBits, Ideal.ofBits_def, Ideal.truncf_def, Ideal.mulf_def, Ideal.divf_def,
        Ideal.addf_def, Ideal.subf_def, Ideal.exp_def, Ideal.extf_def, Ideal.ofBits_zero_f32, Ideal.ofBits_one_f32, zero_sub']
    have h0 : View.ld (iblk m c 0 t) r0_4 x = (m ((c : Thread nD τ).loc main_arg0)) ((win0_8.blk t).view.emb (r0_4.emb x)) := congrArg (m ((c : Thread nD τ).loc main_arg0)) (by
      show (win0_0.blk t).view.emb (r0_4.emb x) = _
      blk_ext [e0 t, e8 t])
    have h1 : View.ld (iblk m c 2 t) r0_1 x = (m ((c : Thread nD τ).loc main_arg1)) (Cert.ReferenceIdeal.Read.idx_main_v0 ((win0_8.blk t).view.emb (r0_4.emb x))) := congrArg (m ((c : Thread nD τ).loc main_arg1)) (by
      show (win0_2.blk t).view.emb (r0_1.emb x) = _
      blk_ext [e2 t, e8 t])
    rw [h0, h1]
    rfl
  · dsimp only
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23,
        truncf, mulf, divf, exp, subf, addf, extf, broadcast, Scalar.ofBits, Ideal.ofBits_def, Ideal.truncf_def, Ideal.mulf_def, Ideal.divf_def,
        Ideal.addf_def, Ideal.subf_def, Ideal.exp_def, Ideal.extf_def, Ideal.ofBits_zero_f32, Ideal.ofBits_one_f32, zero_sub']
    have h0 : View.ld (iblk m c 0 t) r0_0 x = (m ((c : Thread nD τ).loc main_arg0)) ((win0_8.blk t).view.emb (r0_0.emb x)) := congrArg (m ((c : Thread nD τ).loc main_arg0)) (by
      show (win0_0.blk t).view.emb (r0_0.emb x) = _
      blk_ext [e0 t, e8 t])
    have h1 : View.ld (iblk m c 1 t) r0_1 x = (m ((c : Thread nD τ).loc main_arg1)) (Cert.ReferenceIdeal.Read.idx_main_v0 ((win0_8.blk t).view.emb (r0_0.emb x))) := congrArg (m ((c : Thread nD τ).loc main_arg1)) (by
      show (win0_1.blk t).view.emb (r0_1.emb x) = _
      blk_ext [e1 t, e8 t])
    rw [h0, h1]
    rfl

/-- The gradient of the state-space branch's value half, whole. -/
theorem final9 (c : Dev nD) : (dats m 0 c).arrAt 9 cfg0.N = G9 (m ((c : Thread nD τ).loc main_arg0)) (m ((c : Thread nD τ).loc main_arg1)) (m ((c : Thread nD τ).loc main_arg4)) := by
  refine (dats m 0 c).arrAt_eq_of_covers 9 _ (by decide +kernel) fun t hf y => ?_
  blk_simp
  rw [after0_9]
  unfold_out out0_9
  refine View.canon_apply_of_pieces (Val := Elt Ideal) (e := .bf16) (fun y => G9 (m ((c : Thread nD τ).loc main_arg0)) (m ((c : Thread nD τ).loc main_arg1)) (m ((c : Thread nD τ).loc main_arg4)) ((win0_9.blk t).view.emb y)) _ ?_ y (cover0_9 _ _ y)
  intro p hp x
  simp only [List.mem_cons, List.mem_singleton, List.not_mem_nil, or_false] at hp
  rcases hp with rfl | rfl
  · dsimp only
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23,
        truncf, mulf, divf, exp, subf, addf, extf, broadcast, Scalar.ofBits, Ideal.ofBits_def, Ideal.truncf_def, Ideal.mulf_def, Ideal.divf_def,
        Ideal.addf_def, Ideal.subf_def, Ideal.exp_def, Ideal.extf_def, Ideal.ofBits_zero_f32, Ideal.ofBits_one_f32, zero_sub']
    have h0 : View.ld (iblk m c 0 t) r0_4 x = (m ((c : Thread nD τ).loc main_arg0)) ((win0_9.blk t).view.emb (r0_4.emb x)) := congrArg (m ((c : Thread nD τ).loc main_arg0)) (by
      show (win0_0.blk t).view.emb (r0_4.emb x) = _
      blk_ext [e0 t, e9 t])
    have h1 : View.ld (iblk m c 4 t) r0_1 x = (m ((c : Thread nD τ).loc main_arg1)) (Cert.ReferenceIdeal.Read.idx_main_v1 ((win0_9.blk t).view.emb (r0_4.emb x))) := congrArg (m ((c : Thread nD τ).loc main_arg1)) (by
      show (win0_4.blk t).view.emb (r0_1.emb x) = _
      blk_ext [e4 t, e9 t])
    have h2 : View.ld (iblk m c 7 t) r0_4 x = (m ((c : Thread nD τ).loc main_arg4)) ((win0_9.blk t).view.emb (r0_4.emb x)) := congrArg (m ((c : Thread nD τ).loc main_arg4)) (by
      show (win0_7.blk t).view.emb (r0_4.emb x) = _
      blk_ext [e7 t, e9 t])
    rw [h0, h1, h2]
    rfl
  · dsimp only
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23,
        truncf, mulf, divf, exp, subf, addf, extf, broadcast, Scalar.ofBits, Ideal.ofBits_def, Ideal.truncf_def, Ideal.mulf_def, Ideal.divf_def,
        Ideal.addf_def, Ideal.subf_def, Ideal.exp_def, Ideal.extf_def, Ideal.ofBits_zero_f32, Ideal.ofBits_one_f32, zero_sub']
    have h0 : View.ld (iblk m c 0 t) r0_0 x = (m ((c : Thread nD τ).loc main_arg0)) ((win0_9.blk t).view.emb (r0_0.emb x)) := congrArg (m ((c : Thread nD τ).loc main_arg0)) (by
      show (win0_0.blk t).view.emb (r0_0.emb x) = _
      blk_ext [e0 t, e9 t])
    have h1 : View.ld (iblk m c 3 t) r0_1 x = (m ((c : Thread nD τ).loc main_arg1)) (Cert.ReferenceIdeal.Read.idx_main_v1 ((win0_9.blk t).view.emb (r0_0.emb x))) := congrArg (m ((c : Thread nD τ).loc main_arg1)) (by
      show (win0_3.blk t).view.emb (r0_1.emb x) = _
      blk_ext [e3 t, e9 t])
    have h2 : View.ld (iblk m c 7 t) r0_0 x = (m ((c : Thread nD τ).loc main_arg4)) ((win0_9.blk t).view.emb (r0_0.emb x)) := congrArg (m ((c : Thread nD τ).loc main_arg4)) (by
      show (win0_7.blk t).view.emb (r0_0.emb x) = _
      blk_ext [e7 t, e9 t])
    rw [h0, h1, h2]
    rfl

/-- The gradient of the state-space branch's gate half, whole. -/
theorem final10 (c : Dev nD) : (dats m 0 c).arrAt 10 cfg0.N = G10 (m ((c : Thread nD τ).loc main_arg0)) (m ((c : Thread nD τ).loc main_arg1)) (m ((c : Thread nD τ).loc main_arg3)) (m ((c : Thread nD τ).loc main_arg4)) := by
  refine (dats m 0 c).arrAt_eq_of_covers 10 _ (by decide +kernel) fun t hf y => ?_
  blk_simp
  rw [after0_10]
  unfold_out out0_10
  refine View.canon_apply_of_pieces (Val := Elt Ideal) (e := .bf16) (fun y => G10 (m ((c : Thread nD τ).loc main_arg0)) (m ((c : Thread nD τ).loc main_arg1)) (m ((c : Thread nD τ).loc main_arg3)) (m ((c : Thread nD τ).loc main_arg4)) ((win0_10.blk t).view.emb y)) _ ?_ y (cover0_10 _ _ y)
  intro p hp x
  simp only [List.mem_cons, List.mem_singleton, List.not_mem_nil, or_false] at hp
  rcases hp with rfl | rfl
  · dsimp only
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23,
        truncf, mulf, divf, exp, subf, addf, extf, broadcast, Scalar.ofBits, Ideal.ofBits_def, Ideal.truncf_def, Ideal.mulf_def, Ideal.divf_def,
        Ideal.addf_def, Ideal.subf_def, Ideal.exp_def, Ideal.extf_def, Ideal.ofBits_zero_f32, Ideal.ofBits_one_f32, zero_sub']
    have h0 : View.ld (iblk m c 0 t) r0_4 x = (m ((c : Thread nD τ).loc main_arg0)) ((win0_10.blk t).view.emb (r0_4.emb x)) := congrArg (m ((c : Thread nD τ).loc main_arg0)) (by
      show (win0_0.blk t).view.emb (r0_4.emb x) = _
      blk_ext [e0 t, e10 t])
    have h1 : View.ld (iblk m c 4 t) r0_1 x = (m ((c : Thread nD τ).loc main_arg1)) (Cert.ReferenceIdeal.Read.idx_main_v1 ((win0_10.blk t).view.emb (r0_4.emb x))) := congrArg (m ((c : Thread nD τ).loc main_arg1)) (by
      show (win0_4.blk t).view.emb (r0_1.emb x) = _
      blk_ext [e4 t, e10 t])
    have h2 : View.ld (iblk m c 6 t) r0_4 x = (m ((c : Thread nD τ).loc main_arg3)) ((win0_10.blk t).view.emb (r0_4.emb x)) := congrArg (m ((c : Thread nD τ).loc main_arg3)) (by
      show (win0_6.blk t).view.emb (r0_4.emb x) = _
      blk_ext [e6 t, e10 t])
    have h3 : View.ld (iblk m c 7 t) r0_4 x = (m ((c : Thread nD τ).loc main_arg4)) ((win0_10.blk t).view.emb (r0_4.emb x)) := congrArg (m ((c : Thread nD τ).loc main_arg4)) (by
      show (win0_7.blk t).view.emb (r0_4.emb x) = _
      blk_ext [e7 t, e10 t])
    rw [h0, h1, h2, h3]
    rfl
  · dsimp only
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23,
        truncf, mulf, divf, exp, subf, addf, extf, broadcast, Scalar.ofBits, Ideal.ofBits_def, Ideal.truncf_def, Ideal.mulf_def, Ideal.divf_def,
        Ideal.addf_def, Ideal.subf_def, Ideal.exp_def, Ideal.extf_def, Ideal.ofBits_zero_f32, Ideal.ofBits_one_f32, zero_sub']
    have h0 : View.ld (iblk m c 0 t) r0_0 x = (m ((c : Thread nD τ).loc main_arg0)) ((win0_10.blk t).view.emb (r0_0.emb x)) := congrArg (m ((c : Thread nD τ).loc main_arg0)) (by
      show (win0_0.blk t).view.emb (r0_0.emb x) = _
      blk_ext [e0 t, e10 t])
    have h1 : View.ld (iblk m c 3 t) r0_1 x = (m ((c : Thread nD τ).loc main_arg1)) (Cert.ReferenceIdeal.Read.idx_main_v1 ((win0_10.blk t).view.emb (r0_0.emb x))) := congrArg (m ((c : Thread nD τ).loc main_arg1)) (by
      show (win0_3.blk t).view.emb (r0_1.emb x) = _
      blk_ext [e3 t, e10 t])
    have h2 : View.ld (iblk m c 6 t) r0_0 x = (m ((c : Thread nD τ).loc main_arg3)) ((win0_10.blk t).view.emb (r0_0.emb x)) := congrArg (m ((c : Thread nD τ).loc main_arg3)) (by
      show (win0_6.blk t).view.emb (r0_0.emb x) = _
      blk_ext [e6 t, e10 t])
    have h3 : View.ld (iblk m c 7 t) r0_0 x = (m ((c : Thread nD τ).loc main_arg4)) ((win0_10.blk t).view.emb (r0_0.emb x)) := congrArg (m ((c : Thread nD τ).loc main_arg4)) (by
      show (win0_7.blk t).view.emb (r0_0.emb x) = _
      blk_ext [e7 t, e10 t])
    rw [h0, h1, h2, h3]
    rfl

set_option maxHeartbeats 2000000 in
/-- The two gates' gradients, whole. -/
theorem final11 (c : Dev nD) : (dats m 0 c).arrAt 11 cfg0.N = G11 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 11 _ (by decide +kernel) fun t hf y => ?_
  blk_simp
  rw [after0_11]
  unfold_out out0_11
  refine View.canon_apply_of_pieces (Val := Elt Ideal) (e := .bf16) (fun y => G11 (m ((c : Thread nD τ).loc main_arg0)) (m ((c : Thread nD τ).loc main_arg1)) (m ((c : Thread nD τ).loc main_arg2)) (m ((c : Thread nD τ).loc main_arg3)) (m ((c : Thread nD τ).loc main_arg4)) ((win0_11.blk t).view.emb y)) _ ?_ y (cover0_11 _ _ _ _ y)
  intro p hp x
  simp only [List.mem_cons, List.mem_singleton, List.not_mem_nil, or_false] at hp
  rcases hp with rfl | rfl | rfl | rfl
  · dsimp only
    rw [G11_hi ((win0_11.blk t).view.emb (r0_6.emb x)) ((win0_0.blk t).view.emb (r0_4.emb x)) (by blk_simp [e0 t, e11 t]) (by blk_simp [e0 t, e11 t] <;> omega)]
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23,
        truncf, mulf, divf, exp, subf, addf, extf, broadcast, Scalar.ofBits, Ideal.ofBits_def, Ideal.truncf_def, Ideal.mulf_def, Ideal.divf_def,
        Ideal.addf_def, Ideal.subf_def, Ideal.exp_def, Ideal.extf_def, Ideal.ofBits_zero_f32, Ideal.ofBits_one_f32, zero_sub']
    have h0 : View.ld (iblk m c 0 t) r0_4 x = (m ((c : Thread nD τ).loc main_arg0)) ((win0_0.blk t).view.emb (r0_4.emb x)) := congrArg (m ((c : Thread nD τ).loc main_arg0)) (by
      show (win0_0.blk t).view.emb (r0_4.emb x) = _
      blk_ext [e0 t, e0 t])
    have h1 : View.ld (iblk m c 4 t) r0_1 x = (m ((c : Thread nD τ).loc main_arg1)) (Cert.ReferenceIdeal.Read.idx_main_v1 ((win0_0.blk t).view.emb (r0_4.emb x))) := congrArg (m ((c : Thread nD τ).loc main_arg1)) (by
      show (win0_4.blk t).view.emb (r0_1.emb x) = _
      blk_ext [e4 t, e0 t])
    have h2 : View.ld (iblk m c 6 t) r0_4 x = (m ((c : Thread nD τ).loc main_arg3)) ((win0_0.blk t).view.emb (r0_4.emb x)) := congrArg (m ((c : Thread nD τ).loc main_arg3)) (by
      show (win0_6.blk t).view.emb (r0_4.emb x) = _
      blk_ext [e6 t, e0 t])
    have h3 : View.ld (iblk m c 7 t) r0_4 x = (m ((c : Thread nD τ).loc main_arg4)) ((win0_0.blk t).view.emb (r0_4.emb x)) := congrArg (m ((c : Thread nD τ).loc main_arg4)) (by
      show (win0_7.blk t).view.emb (r0_4.emb x) = _
      blk_ext [e7 t, e0 t])
    rw [h0, h1, h2, h3]
    rfl
  · dsimp only
    rw [G11_lo ((win0_11.blk t).view.emb (r0_5.emb x)) ((win0_0.blk t).view.emb (r0_4.emb x)) (by blk_simp [e0 t, e11 t]) (by blk_simp [e0 t, e11 t] <;> omega)]
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23,
        truncf, mulf, divf, exp, subf, addf, extf, broadcast, Scalar.ofBits, Ideal.ofBits_def, Ideal.truncf_def, Ideal.mulf_def, Ideal.divf_def,
        Ideal.addf_def, Ideal.subf_def, Ideal.exp_def, Ideal.extf_def, Ideal.ofBits_zero_f32, Ideal.ofBits_one_f32, zero_sub']
    have h0 : View.ld (iblk m c 0 t) r0_4 x = (m ((c : Thread nD τ).loc main_arg0)) ((win0_0.blk t).view.emb (r0_4.emb x)) := congrArg (m ((c : Thread nD τ).loc main_arg0)) (by
      show (win0_0.blk t).view.emb (r0_4.emb x) = _
      blk_ext [e0 t, e0 t])
    have h1 : View.ld (iblk m c 2 t) r0_1 x = (m ((c : Thread nD τ).loc main_arg1)) (Cert.ReferenceIdeal.Read.idx_main_v0 ((win0_0.blk t).view.emb (r0_4.emb x))) := congrArg (m ((c : Thread nD τ).loc main_arg1)) (by
      show (win0_2.blk t).view.emb (r0_1.emb x) = _
      blk_ext [e2 t, e0 t])
    have h2 : View.ld (iblk m c 5 t) r0_4 x = (m ((c : Thread nD τ).loc main_arg2)) ((win0_0.blk t).view.emb (r0_4.emb x)) := congrArg (m ((c : Thread nD τ).loc main_arg2)) (by
      show (win0_5.blk t).view.emb (r0_4.emb x) = _
      blk_ext [e5 t, e0 t])
    rw [h0, h1, h2]
    rfl
  · dsimp only
    rw [G11_hi ((win0_11.blk t).view.emb (r0_3.emb x)) ((win0_0.blk t).view.emb (r0_0.emb x)) (by blk_simp [e0 t, e11 t]) (by blk_simp [e0 t, e11 t] <;> omega)]
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23,
        truncf, mulf, divf, exp, subf, addf, extf, broadcast, Scalar.ofBits, Ideal.ofBits_def, Ideal.truncf_def, Ideal.mulf_def, Ideal.divf_def,
        Ideal.addf_def, Ideal.subf_def, Ideal.exp_def, Ideal.extf_def, Ideal.ofBits_zero_f32, Ideal.ofBits_one_f32, zero_sub']
    have h0 : View.ld (iblk m c 0 t) r0_0 x = (m ((c : Thread nD τ).loc main_arg0)) ((win0_0.blk t).view.emb (r0_0.emb x)) := congrArg (m ((c : Thread nD τ).loc main_arg0)) (by
      show (win0_0.blk t).view.emb (r0_0.emb x) = _
      blk_ext [e0 t, e0 t])
    have h1 : View.ld (iblk m c 3 t) r0_1 x = (m ((c : Thread nD τ).loc main_arg1)) (Cert.ReferenceIdeal.Read.idx_main_v1 ((win0_0.blk t).view.emb (r0_0.emb x))) := congrArg (m ((c : Thread nD τ).loc main_arg1)) (by
      show (win0_3.blk t).view.emb (r0_1.emb x) = _
      blk_ext [e3 t, e0 t])
    have h2 : View.ld (iblk m c 6 t) r0_0 x = (m ((c : Thread nD τ).loc main_arg3)) ((win0_0.blk t).view.emb (r0_0.emb x)) := congrArg (m ((c : Thread nD τ).loc main_arg3)) (by
      show (win0_6.blk t).view.emb (r0_0.emb x) = _
      blk_ext [e6 t, e0 t])
    have h3 : View.ld (iblk m c 7 t) r0_0 x = (m ((c : Thread nD τ).loc main_arg4)) ((win0_0.blk t).view.emb (r0_0.emb x)) := congrArg (m ((c : Thread nD τ).loc main_arg4)) (by
      show (win0_7.blk t).view.emb (r0_0.emb x) = _
      blk_ext [e7 t, e0 t])
    rw [h0, h1, h2, h3]
    rfl
  · dsimp only
    rw [G11_lo ((win0_11.blk t).view.emb (r0_2.emb x)) ((win0_0.blk t).view.emb (r0_0.emb x)) (by blk_simp [e0 t, e11 t]) (by blk_simp [e0 t, e11 t] <;> omega)]
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23,
        truncf, mulf, divf, exp, subf, addf, extf, broadcast, Scalar.ofBits, Ideal.ofBits_def, Ideal.truncf_def, Ideal.mulf_def, Ideal.divf_def,
        Ideal.addf_def, Ideal.subf_def, Ideal.exp_def, Ideal.extf_def, Ideal.ofBits_zero_f32, Ideal.ofBits_one_f32, zero_sub']
    have h0 : View.ld (iblk m c 0 t) r0_0 x = (m ((c : Thread nD τ).loc main_arg0)) ((win0_0.blk t).view.emb (r0_0.emb x)) := congrArg (m ((c : Thread nD τ).loc main_arg0)) (by
      show (win0_0.blk t).view.emb (r0_0.emb x) = _
      blk_ext [e0 t, e0 t])
    have h1 : View.ld (iblk m c 1 t) r0_1 x = (m ((c : Thread nD τ).loc main_arg1)) (Cert.ReferenceIdeal.Read.idx_main_v0 ((win0_0.blk t).view.emb (r0_0.emb x))) := congrArg (m ((c : Thread nD τ).loc main_arg1)) (by
      show (win0_1.blk t).view.emb (r0_1.emb x) = _
      blk_ext [e1 t, e0 t])
    have h2 : View.ld (iblk m c 5 t) r0_0 x = (m ((c : Thread nD τ).loc main_arg2)) ((win0_0.blk t).view.emb (r0_0.emb x)) := congrArg (m ((c : Thread nD τ).loc main_arg2)) (by
      show (win0_5.blk t).view.emb (r0_0.emb x) = _
      blk_ext [e5 t, e0 t])
    rw [h0, h1, h2]
    rfl

end Cert.Proof.Merge

end
-- ==== Proof.MergeRef.lean ====
/- The gate's gradient on the reference's side: each result, index by index, is the closed form of `MergeValue`. -/
module

public import proofs.«01_k».proof.Proof.MergeValue

@[expose] public section

noncomputable section

namespace Cert.Proof.Merge

open Idealize.ShloMosaic Idealize.ShloMosaic.TcCoe Idealize.SL.Sem Cert.ReferenceIdeal Cert.ReferenceIdeal.Gen Cert.ReferenceIdeal.Read

variable (x0 x2 x3 x4 : S4096x2048.Idx → EReal) (x1 : S4096x7168.Idx → EReal)

theorem sg_eq (x : EReal) : Ideal.div 1 (1 + Ideal.exp (-x)) = sg x := rfl

/-- The convolution branch's gradient. -/
theorem ref8 : val_main_v47 (F := Ideal) x0 x1 = G8 x0 x1 := by
  funext i
  simp only [val_main_v0_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v47_apply, val_main_v48_apply, val_main_v49_apply, val_main_v50_apply, val_main_cst_apply, val_main_cst_0_apply, val_main_cst_1_apply, val_main_cst_2_apply, val_main_cst_3_apply, val_main_cst_4_apply, val_main_cst_5_apply, val_main_cst_6_apply, val_main_cst_7_apply, Ideal.ofBits_one_f32, Ideal.truncf_def, Ideal.extf_def, Ideal.mulf_def, Ideal.hostDivf_def, Ideal.addf_def, Ideal.subf_def, Ideal.hostUnary_exp_def, Ideal.hostNegf_def, Ideal.ofBits_def, Ideal.negf_def, Ideal.ofBits_one_f32, sg_eq]
  exact (fun (a b : EReal) => mul_comm a b) _ _

/-- The state-space branch's value half. -/
theorem ref9 : val_main_v48 (F := Ideal) x0 x1 x4 = G9 x0 x1 x4 := by
  funext i
  simp only [val_main_v0_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v47_apply, val_main_v48_apply, val_main_v49_apply, val_main_v50_apply, val_main_cst_apply, val_main_cst_0_apply, val_main_cst_1_apply, val_main_cst_2_apply, val_main_cst_3_apply, val_main_cst_4_apply, val_main_cst_5_apply, val_main_cst_6_apply, val_main_cst_7_apply, Ideal.ofBits_one_f32, Ideal.truncf_def, Ideal.extf_def, Ideal.mulf_def, Ideal.hostDivf_def, Ideal.addf_def, Ideal.subf_def, Ideal.hostUnary_exp_def, Ideal.hostNegf_def, Ideal.ofBits_def, Ideal.negf_def, Ideal.ofBits_one_f32, sg_eq]
  exact (fun (a b c : EReal) => (by ac_rfl : b * a * c = a * b * c)) _ _ _

/-- The state-space branch's gate half. -/
theorem ref10 : val_main_v49 (F := Ideal) x0 x1 x3 x4 = G10 x0 x1 x3 x4 := by
  funext i
  simp only [val_main_v0_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v47_apply, val_main_v48_apply, val_main_v49_apply, val_main_v50_apply, val_main_cst_apply, val_main_cst_0_apply, val_main_cst_1_apply, val_main_cst_2_apply, val_main_cst_3_apply, val_main_cst_4_apply, val_main_cst_5_apply, val_main_cst_6_apply, val_main_cst_7_apply, Ideal.ofBits_one_f32, Ideal.truncf_def, Ideal.extf_def, Ideal.mulf_def, Ideal.hostDivf_def, Ideal.addf_def, Ideal.subf_def, Ideal.hostUnary_exp_def, Ideal.hostNegf_def, Ideal.ofBits_def, Ideal.negf_def, Ideal.ofBits_one_f32, sg_eq]
  exact (fun (d s a b k : EReal) => (by ac_rfl : a * (s * d) * (b * k) = d * s * a * b * k)) _ _ _ _ _

/-- The convolution gate's argument. -/
theorem refc (i : S4096x2048.Idx) : val_main_v42 (F := Ideal) x0 x1 x2 i = Gc x0 x1 x2 i := by
  simp only [val_main_v0_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v47_apply, val_main_v48_apply, val_main_v49_apply, val_main_v50_apply, val_main_cst_apply, val_main_cst_0_apply, val_main_cst_1_apply, val_main_cst_2_apply, val_main_cst_3_apply, val_main_cst_4_apply, val_main_cst_5_apply, val_main_cst_6_apply, val_main_cst_7_apply, Ideal.ofBits_one_f32, Ideal.truncf_def, Ideal.extf_def, Ideal.mulf_def, Ideal.hostDivf_def, Ideal.addf_def, Ideal.subf_def, Ideal.hostUnary_exp_def, Ideal.hostNegf_def, Ideal.ofBits_def, Ideal.negf_def, Ideal.ofBits_one_f32, sg_eq]
  exact (fun (d y s k : EReal) => (by ac_rfl : d * y * (s * k) = d * y * s * k)) _ _ _ _

/-- The state-space gate's argument. -/
theorem refs (i : S4096x2048.Idx) : val_main_v39 (F := Ideal) x0 x1 x3 x4 i = Gs x0 x1 x3 x4 i := by
  simp only [val_main_v0_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v47_apply, val_main_v48_apply, val_main_v49_apply, val_main_v50_apply, val_main_cst_apply, val_main_cst_0_apply, val_main_cst_1_apply, val_main_cst_2_apply, val_main_cst_3_apply, val_main_cst_4_apply, val_main_cst_5_apply, val_main_cst_6_apply, val_main_cst_7_apply, Ideal.ofBits_one_f32, Ideal.truncf_def, Ideal.extf_def, Ideal.mulf_def, Ideal.hostDivf_def, Ideal.addf_def, Ideal.subf_def, Ideal.hostUnary_exp_def, Ideal.hostNegf_def, Ideal.ofBits_def, Ideal.negf_def, Ideal.ofBits_one_f32, sg_eq]
  exact (fun (d a b s k : EReal) => (by ac_rfl : d * (a * b) * (s * k) = d * a * b * s * k)) _ _ _ _ _

/-- Both gates' arguments, side by side. -/
theorem ref11 : val_main_v50 (F := Ideal) x0 x1 x2 x3 x4 = G11 x0 x1 x2 x3 x4 := by
  funext i
  show val_main_v46 (F := Ideal) x0 x1 x2 x3 x4 i = _
  unfold val_main_v46 G11
  by_cases h : (i 1).val < 2048
  · rw [dif_pos h, ← refc]
    refine concatenate_pair_apply_left (s₁ := S4096x2048) (s₂ := S4096x2048) _ _ _ _ i rfl (lo i h) fun b => ?_
    match b with
    | ⟨0, _⟩ => rfl
    | ⟨1, _⟩ => rfl
  · rw [dif_neg h, ← refs]
    refine concatenate_pair_apply_right (s₁ := S4096x2048) (s₂ := S4096x2048) _ _ _ _ i rfl rfl (hi i) ?_ ?_
    · intro b hb
      match b, hb with
      | ⟨0, _⟩, _ => rfl
      | ⟨1, _⟩, hb => exact absurd rfl hb
    · show (i 1).val - 2048 + 2048 = (i 1).val
      omega

end Cert.Proof.Merge

end
-- ==== Proof.MergeClaim.lean ====
/- The gate's gradient: both programs leave the same four arrays. -/
module

public import proofs.«01_k».proof.Defs
public import proofs.«01_k».proof.Proof.MergeRef
public import proofs.«01_k».proof.Proof.Gen.ReferenceIdeal.Run

@[expose] public section

noncomputable section

namespace Cert.Proof.Merge

open Idealize.ShloMosaic Idealize.SL.Sem

/-- The reference runs to its end, keeps its arguments and leaves every counter at zero. -/
theorem frame_reference : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run m ρ)

/-- From equal arguments the kernel and the reference leave the same four arrays, and keep their arguments. -/
theorem algebraic : Cert.algebraic_KernelIdeal_ReferenceIdeal := by
  intro m ρ m' ρ' _ hagree
  refine ⟨fun c => G8 (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => G9 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)),
    fun c => G10 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => G11 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.Value.run_blocks m ρ)
    obtain ⟨h8, h9, h10, h11, hk⟩ := h c
    exact ⟨h8.trans (final8 m c), h9.trans (final9 m c), h10.trans (final10 m c), h11.trans (final11 m c), hk⟩
  · refine (θ_run Cert.ReferenceIdeal.defs _ _).mono (fun r h c => ?_) (Cert.ReferenceIdeal.Value.run m' ρ')
    obtain ⟨h8, h9, h10, h11, hk⟩ := h c
    obtain ⟨a0, a1, a2, a3, a4⟩ := hagree c
    refine ⟨h8.trans ?_, h9.trans ?_, h10.trans ?_, h11.trans ?_, hk⟩
    · rw [Cert.ReferenceIdeal.Read.val_main_v47_eq, ref8, a0, a1]
    · rw [Cert.ReferenceIdeal.Read.val_main_v48_eq, ref9, a0, a1, a4]
    · rw [Cert.ReferenceIdeal.Read.val_main_v49_eq, ref10, a0, a1, a3, a4]
    · rw [Cert.ReferenceIdeal.Read.val_main_v50_eq, ref11, a0, a1, a2, a3, a4]

end Cert.Proof.Merge

end
-- ==== Proof.InProduct.lean ====
/- The input projection: the kernel's result array and the reference's, index by index. -/
module

public import proofs.«01_k».proof.Defs
public import proofs.«01_k».proof.Proof.Gen.InIdeal.Value
public import proofs.«01_k».proof.Proof.Gen.InReferenceIdeal.Run
public import proofs.«01_k».proof.Proof.Gen.InReferenceIdeal.Read
public import Idealize.ShloMosaic.PureOps.Ideal
public import Idealize.ShloMosaic.Lib.Pipeline.ValueKit
public import Idealize.ShloMosaic.Lib.IdealHost
public import Idealize.ShloMosaic.Lib.Pointwise
public import Idealize.ShloMosaic.Lib.Claim

@[expose] public section

noncomputable section

namespace Cert.Proof.In

open Idealize.ShloMosaic Idealize.ShloMosaic.TcCoe Idealize.SL.Sem Cert.InIdeal Cert.InIdeal.Gen
open Idealize.ShloMosaic.Pipeline (Dat)

/-- The product, entry by entry: a row of the input against a column of the matrix, which the shards hold side by side. -/
def G (a : S4096x2048.Idx → EReal) (w : S8x2048x896.Idx → EReal) (i : S4096x7168.Idx) : EReal :=
  ∑ k : Fin 2048, a (ix2 (i 0) k) * w (ix3 (⟨(i 1).val / 896, by have h1 : (i 1).val < 7168 := (i 1).isLt; omega⟩) k (⟨(i 1).val % 896, by omega⟩))

variable (m : (ℓ : Loc nD τ sig) → Buf (Elt Ideal) ℓ)

/-! ## Each window's block index at a grid point -/

theorem e0 : ∀ t : Fin cfg0.N, win0_0.index t = ![t.val / 8, 0] := (by decide +kernel : ∀ t : Fin grid0.N, _)
theorem e1 : ∀ t : Fin cfg0.N, win0_1.index t = ![t.val % 8, 0, 0] := (by decide +kernel : ∀ t : Fin grid0.N, _)
theorem e2 : ∀ t : Fin cfg0.N, win0_2.index t = ![t.val / 8, t.val % 8] := (by decide +kernel : ∀ t : Fin grid0.N, _)

/-! ## The kernel's side -/

/-- One block's entry. -/
theorem pay (v0 : S1024x2048.Idx → EReal) (v1 : S1x2048x896.Idx → EReal) (y : S1024x896.Idx) :
    k0_pay1 (F := Ideal) v0 v1 y = ∑ k : Fin 2048, v0 (ix2 (y 0) k) * v1 (ix3 0 k (y 1)) := by
  pointwise [k0_pay1]

/-- The result array, whole. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  refine (pay _ _ y).trans (Finset.sum_congr rfl fun k _ => ?_)
  refine congrArg₂ (fun a b : EReal => a * b) (congrArg (m ((c : Thread nD τ).loc main_arg0)) ?_) (congrArg (m ((c : Thread nD τ).loc main_arg1)) ?_)
  · show (win0_0.blk t).view.emb (ix2 (y 0) k) = _
    blk_ext [e0 t, e2 t]
  · show (win0_1.blk t).view.emb (ix3 0 k (y 1)) = _
    blk_ext [e1 t, e2 t]

/-! ## The reference's side -/

/-- The reference's result is the closed form. -/
theorem ref (x0 : S4096x2048.Idx → EReal) (x1 : S8x2048x896.Idx → EReal) : Cert.InReferenceIdeal.Read.val_main_v4 (F := Ideal) x0 x1 = G x0 x1 := by
  funext i
  have h1 : (i 1).val < 7168 := (i 1).isLt
  simp only [Cert.InReferenceIdeal.Read.val_main_v0_apply, Cert.InReferenceIdeal.Read.val_main_v1_apply, Cert.InReferenceIdeal.Read.val_main_v2_apply, Cert.InReferenceIdeal.Read.val_main_v3_apply, Cert.InReferenceIdeal.Read.val_main_v4_apply, Ideal.truncf_def, Ideal.extf_def, Ideal.mulf_def, Ideal.maximumf_def, Ideal.ofBits_def, Ideal.ofBits_zero_f32]
  refine (Finset.sum_congr rfl fun k _ => ?_)
  have hk : k.val < 2048 := k.isLt
  refine congrArg₂ (fun a b : EReal => a * b) (congrArg x0 (funext fun b => Fin.ext ?_)) (congrArg x1 (funext fun b => Fin.ext ?_))
  · match b with
    | ⟨0, _⟩ => rfl
    | ⟨1, _⟩ => rfl
  · match b with
    | ⟨0, _⟩ => simp; omega
    | ⟨1, _⟩ => simp; omega
    | ⟨2, _⟩ => simp; omega

/-! ## The claims -/

/-- The reference runs to its end, keeps its arguments and leaves every counter at zero. -/
theorem frame_reference : Cert.quiescent_InReferenceIdeal := fun m ρ _ =>
  (θ_run Cert.InReferenceIdeal.defs _ _).mono
    (fun r h => ⟨fun c => (h c).2, sem_eq_zero_of_no_sems (by decide) r.2⟩)
    (Cert.InReferenceIdeal.Value.run m ρ)

/-- From equal arguments the kernel and the reference leave the same array, and keep their arguments. -/
theorem algebraic : Cert.algebraic_InIdeal_InReferenceIdeal := by
  intro m ρ m' ρ' _ hagree
  refine ⟨fun c => G (m ((c.tc : Thread Cert.InIdeal.nD Cert.InIdeal.τ).loc Cert.InIdeal.main_arg0)) (m ((c.tc : Thread Cert.InIdeal.nD Cert.InIdeal.τ).loc Cert.InIdeal.main_arg1)), ?_, ?_⟩
  · refine (θ_run Cert.InIdeal.defs _ _).mono (fun r h c => ?_) (Cert.InIdeal.Value.run_blocks m ρ)
    obtain ⟨ho, hk⟩ := h c
    exact ⟨ho.trans (final m c), hk⟩
  · refine (θ_run Cert.InReferenceIdeal.defs _ _).mono (fun r h c => ?_) (Cert.InReferenceIdeal.Value.run m' ρ')
    obtain ⟨ho, hk⟩ := h c
    obtain ⟨a0, a1⟩ := hagree c
    refine ⟨ho.trans ?_, hk⟩
    rw [Cert.InReferenceIdeal.Read.val_main_v4_eq, ref, a0, a1]

end Cert.Proof.In

end
-- ==== Proof.FfOneProduct.lean ====
/- The first feed-forward product with its activation: the kernel's result array and the reference's, index by index. -/
module

public import proofs.«01_k».proof.Defs
public import proofs.«01_k».proof.Proof.Gen.FfOneIdeal.Value
public import proofs.«01_k».proof.Proof.Gen.FfOneReferenceIdeal.Run
public import proofs.«01_k».proof.Proof.Gen.FfOneReferenceIdeal.Read
public import Idealize.ShloMosaic.PureOps.Ideal
public import Idealize.ShloMosaic.Lib.Pipeline.ValueKit
public import Idealize.ShloMosaic.Lib.IdealHost
public import Idealize.ShloMosaic.Lib.Pointwise
public import Idealize.ShloMosaic.Lib.Claim

@[expose] public section

noncomputable section

namespace Cert.Proof.FfOne

open Idealize.ShloMosaic Idealize.ShloMosaic.TcCoe Idealize.SL.Sem Cert.FfOneIdeal Cert.FfOneIdeal.Gen
open Idealize.ShloMosaic.Pipeline (Dat)

/-- The activation: the positive part, squared. -/
def act (x : EReal) : EReal := max x 0 * max x 0

/-- The product, entry by entry: a row of the input against a column of the matrix, which the shards hold side by side. -/
def G (a : S4096x2048.Idx → EReal) (w : S8x2048x1024.Idx → EReal) (i : S4096x8192.Idx) : EReal :=
  act (∑ k : Fin 2048, a (ix2 (i 0) k) * w (ix3 (⟨(i 1).val / 1024, by have h1 : (i 1).val < 8192 := (i 1).isLt; omega⟩) k (⟨(i 1).val % 1024, by omega⟩)))

variable (m : (ℓ : Loc nD τ sig) → Buf (Elt Ideal) ℓ)

/-! ## Each window's block index at a grid point -/

theorem e0 : ∀ t : Fin cfg0.N, win0_0.index t = ![t.val / 8, 0] := (by decide +kernel : ∀ t : Fin grid0.N, _)
theorem e1 : ∀ t : Fin cfg0.N, win0_1.index t = ![t.val % 8, 0, 0] := (by decide +kernel : ∀ t : Fin grid0.N, _)
theorem e2 : ∀ t : Fin cfg0.N, win0_2.index t = ![t.val / 8, t.val % 8] := (by decide +kernel : ∀ t : Fin grid0.N, _)

/-! ## The kernel's side -/

/-- One block's entry. -/
theorem pay (v0 : S1024x2048.Idx → EReal) (v1 : S1x2048x1024.Idx → EReal) (y : S1024x1024.Idx) :
    k0_pay1 (F := Ideal) v0 v1 y = act (∑ k : Fin 2048, v0 (ix2 (y 0) k) * v1 (ix3 0 k (y 1))) := by
  pointwise [k0_pay1]
  rfl

/-- The result array, whole. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  refine (pay _ _ y).trans (congrArg act (Finset.sum_congr rfl fun k _ => ?_))
  refine congrArg₂ (fun a b : EReal => a * b) (congrArg (m ((c : Thread nD τ).loc main_arg0)) ?_) (congrArg (m ((c : Thread nD τ).loc main_arg1)) ?_)
  · show (win0_0.blk t).view.emb (ix2 (y 0) k) = _
    blk_ext [e0 t, e2 t]
  · show (win0_1.blk t).view.emb (ix3 0 k (y 1)) = _
    blk_ext [e1 t, e2 t]

/-! ## The reference's side -/

/-- The reference's result is the closed form. -/
theorem ref (x0 : S4096x2048.Idx → EReal) (x1 : S8x2048x1024.Idx → EReal) : Cert.FfOneReferenceIdeal.Read.val_main_v7 (F := Ideal) x0 x1 = G x0 x1 := by
  funext i
  have h1 : (i 1).val < 8192 := (i 1).isLt
  simp only [Cert.FfOneReferenceIdeal.Read.val_main_v0_apply, Cert.FfOneReferenceIdeal.Read.val_main_v1_apply, Cert.FfOneReferenceIdeal.Read.val_main_v2_apply, Cert.FfOneReferenceIdeal.Read.val_main_v3_apply, Cert.FfOneReferenceIdeal.Read.val_main_v4_apply, Cert.FfOneReferenceIdeal.Read.val_main_call0_cst_apply, Cert.FfOneReferenceIdeal.Read.val_main_call0_v0_apply, Cert.FfOneReferenceIdeal.Read.val_main_v5_apply, Cert.FfOneReferenceIdeal.Read.val_main_v6_apply, Cert.FfOneReferenceIdeal.Read.val_main_v7_apply, Ideal.truncf_def, Ideal.extf_def, Ideal.mulf_def, Ideal.maximumf_def, Ideal.ofBits_def, Ideal.ofBits_zero_f32]
  refine congrArg act (Finset.sum_congr rfl fun k _ => ?_)
  have hk : k.val < 2048 := k.isLt
  refine congrArg₂ (fun a b : EReal => a * b) (congrArg x0 (funext fun b => Fin.ext ?_)) (congrArg x1 (funext fun b => Fin.ext ?_))
  · match b with
    | ⟨0, _⟩ => rfl
    | ⟨1, _⟩ => rfl
  · match b with
    | ⟨0, _⟩ => simp; omega
    | ⟨1, _⟩ => simp; omega
    | ⟨2, _⟩ => simp; omega

/-! ## The claims -/

/-- The reference runs to its end, keeps its arguments and leaves every counter at zero. -/
theorem frame_reference : Cert.quiescent_FfOneReferenceIdeal := fun m ρ _ =>
  (θ_run Cert.FfOneReferenceIdeal.defs _ _).mono
    (fun r h => ⟨fun c => (h c).2, sem_eq_zero_of_no_sems (by decide) r.2⟩)
    (Cert.FfOneReferenceIdeal.Value.run m ρ)

/-- From equal arguments the kernel and the reference leave the same array, and keep their arguments. -/
theorem algebraic : Cert.algebraic_FfOneIdeal_FfOneReferenceIdeal := by
  intro m ρ m' ρ' _ hagree
  refine ⟨fun c => G (m ((c.tc : Thread Cert.FfOneIdeal.nD Cert.FfOneIdeal.τ).loc Cert.FfOneIdeal.main_arg0)) (m ((c.tc : Thread Cert.FfOneIdeal.nD Cert.FfOneIdeal.τ).loc Cert.FfOneIdeal.main_arg1)), ?_, ?_⟩
  · refine (θ_run Cert.FfOneIdeal.defs _ _).mono (fun r h c => ?_) (Cert.FfOneIdeal.Value.run_blocks m ρ)
    obtain ⟨ho, hk⟩ := h c
    exact ⟨ho.trans (final m c), hk⟩
  · refine (θ_run Cert.FfOneReferenceIdeal.defs _ _).mono (fun r h c => ?_) (Cert.FfOneReferenceIdeal.Value.run m' ρ')
    obtain ⟨ho, hk⟩ := h c
    obtain ⟨a0, a1⟩ := hagree c
    refine ⟨ho.trans ?_, hk⟩
    rw [Cert.FfOneReferenceIdeal.Read.val_main_v7_eq, ref, a0, a1]

end Cert.Proof.FfOne

end
-- ==== Proof.FfTwoProduct.lean ====
/- The second feed-forward product: the kernel's result array and the reference's, index by index. -/
module

public import proofs.«01_k».proof.Defs
public import proofs.«01_k».proof.Proof.Gen.FfTwoIdeal.Value
public import proofs.«01_k».proof.Proof.Gen.FfTwoReferenceIdeal.Run
public import proofs.«01_k».proof.Proof.Gen.FfTwoReferenceIdeal.Read
public import Idealize.ShloMosaic.PureOps.Ideal
public import Idealize.ShloMosaic.Lib.Pipeline.ValueKit
public import Idealize.ShloMosaic.Lib.IdealHost
public import Idealize.ShloMosaic.Lib.Pointwise
public import Idealize.ShloMosaic.Lib.Claim
public import Idealize.ShloMosaic.Lib.Pipeline.ReadBack
@[expose] public section

noncomputable section

namespace Cert.Proof.FfTwo

open Idealize.ShloMosaic Idealize.ShloMosaic.TcCoe Idealize.SL.Sem Cert.FfTwoIdeal Cert.FfTwoIdeal.Gen
open Idealize.ShloMosaic.Pipeline (Dat)

/-- The product, entry by entry: a row of the activation against a column of the matrix. -/
def G (a : S4096x8192.Idx → EReal) (w : S1x8192x2048.Idx → EReal) (i : S4096x2048.Idx) : EReal :=
  ∑ k : Fin 8192, a (ix2 (i 0) k) * w (ix3 0 k (i 1))

variable (m : (ℓ : Loc nD τ sig) → Buf (Elt Ideal) ℓ)

/-! ## Each window's block index at a grid point -/

theorem e0 : ∀ t : Fin cfg0.N, win0_0.index t = ![t.val / 8, t.val % 4] := (by decide +kernel : ∀ t : Fin grid0.N, _)
theorem e1 : ∀ t : Fin cfg0.N, win0_1.index t = ![0, t.val % 4, t.val / 4 % 2] := (by decide +kernel : ∀ t : Fin grid0.N, _)
theorem e2 : ∀ t : Fin cfg0.N, win0_2.index t = ![t.val / 8, t.val / 4 % 2] := (by decide +kernel : ∀ t : Fin grid0.N, _)

/-! ## The kernel's side -/

/-- What one grid point adds: its columns of the input against its rows of the matrix. -/
def part (x0 : S1024x2048.Idx → EReal) (x1 : S1x2048x1024.Idx → EReal) (y : S1024x1024.Idx) : EReal :=
  ∑ k : Fin 2048, x0 (ix2 (y 0) k) * x1 (ix3 0 k (y 1))

/-- The first point of a run stores its product. -/
theorem pay_first (x0 : S1024x2048.Idx → EReal) (x1 : S1x2048x1024.Idx → EReal) (y : S1024x1024.Idx) :
    k0_pay2 (F := Ideal) x0 x1 y = part x0 x1 y := by
  unfold part; pointwise [k0_pay2, k0_pay1]

/-- A later point adds its product. -/
theorem pay_next (x0 : S1024x2048.Idx → EReal) (x1 : S1x2048x1024.Idx → EReal) (a : S1024x1024.Idx → EReal) (y : S1024x1024.Idx) :
    k0_pay3 (F := Ideal) x0 x1 a y = a y + part x0 x1 y := by
  unfold part; pointwise [k0_pay3, k0_pay1]

/-- At the last point of a run the block written back is the running sum. -/
theorem out_eq (c : Dev nD) (t : Fin cfg0.N) (h : t.val % 4 = 4 - 1) :
    ((outsAt0 m c t.val t.isLt).1 : S1024x1024.Idx → EReal) = (outsAt0 m c t.val t.isLt).2 := by
  rw [outsAt0_C m c t (by omega) (by omega) (by omega)]
  frame_out

/-- The running sum at the last point of a run: the sum of the run's products. -/
theorem acc_eq (c : Dev nD) (t : Fin cfg0.N) (h : t.val % 4 = 4 - 1) (y : S1024x1024.Idx) :
    ((outsAt0 m c t.val t.isLt).2 : S1024x1024.Idx → EReal) y =
      ∑ s : Fin 4, part (iblk m c 0 ⟨4 * (t.val / 4) + s.val, Pipeline.run_point_lt_of_flush t h s⟩) (iblk m c 1 ⟨4 * (t.val / 4) + s.val, Pipeline.run_point_lt_of_flush t h s⟩) y := by
  refine (Pipeline.eq_sum_fin_of_reset_step_apply_of_flush (M := EReal) (fun n h => (outsAt0 m c n h).2) 4 (fun _ => (0 : EReal))
    (fun t y => part (iblk m c 0 t) (iblk m c 1 t) y) (fun t h j => ?_) (fun t h j => ?_) t h y).trans (zero_add _)
  · show (outsAt0 m c t.val t.isLt).2 j = _
    rw [outsAt0_A m c t (by omega) (by omega) (by omega)]
    frame_out
    exact (pay_first _ _ j).trans (zero_add _).symm
  · by_cases h3 : t.val % 4 = 3
    · show (outsAt0 m c t.val t.isLt).2 j = _
      rw [outsAt0_C m c t (by omega) (by omega) (by omega)]
      frame_out
      rw [read_unread_whole]
      exact pay_next _ _ _ j
    · show (outsAt0 m c t.val t.isLt).2 j = _
      rw [outsAt0_B m c t (by omega) (by omega) (by omega)]
      frame_out
      rw [read_unread_whole]
      exact pay_next _ _ _ j

/-- The result array, whole. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  have ht : t.val % 4 = 4 - 1 := (flush0_2 t).mp hf
  blk_simp
  rw [after0_2, out_eq m c t ht]
  refine (acc_eq m c t ht y).trans (Fin.sum_mul_add_congr fun s k hl => ?_)
  have hs : s.val < 4 := s.isLt
  have hk : k.val < 2048 := k.isLt
  have htt : t.val < 32 := t.isLt
  refine congrArg₂ (fun a b : EReal => a * b) (congrArg (m ((c : Thread nD τ).loc main_arg0)) ?_) (congrArg (m ((c : Thread nD τ).loc main_arg1)) ?_)
  · show (win0_0.blk _).view.emb (ix2 (y 0) k) = _
    blk_ext [e0 _, e2 t]
  · show (win0_1.blk _).view.emb (ix3 0 k (y 1)) = _
    blk_ext [e1 _, e2 t]

/-! ## The reference's side -/

/-- The reference's result is the closed form. -/
theorem ref (x0 : S4096x8192.Idx → EReal) (x1 : S1x8192x2048.Idx → EReal) : Cert.FfTwoReferenceIdeal.Read.val_main_v3 (F := Ideal) x0 x1 = G x0 x1 := by
  funext i
  have h1 : (i 1).val < 2048 := (i 1).isLt
  simp only [Cert.FfTwoReferenceIdeal.Read.val_main_v0_apply, Cert.FfTwoReferenceIdeal.Read.val_main_v1_apply, Cert.FfTwoReferenceIdeal.Read.val_main_v2_apply, Cert.FfTwoReferenceIdeal.Read.val_main_v3_apply, Ideal.truncf_def, Ideal.extf_def]
  refine Finset.sum_congr rfl fun k _ => ?_
  have hk : k.val < 8192 := k.isLt
  refine congrArg₂ (fun a b : EReal => a * b) (congrArg x0 (funext fun b => Fin.ext ?_)) (congrArg x1 (funext fun b => Fin.ext ?_))
  · match b with
    | ⟨0, _⟩ => rfl
    | ⟨1, _⟩ => rfl
  · match b with
    | ⟨0, _⟩ => rfl
    | ⟨1, _⟩ => simp; omega
    | ⟨2, _⟩ => simp; omega

/-! ## The claims -/

/-- The reference runs to its end, keeps its arguments and leaves every counter at zero. -/
theorem frame_reference : Cert.quiescent_FfTwoReferenceIdeal := fun m ρ _ =>
  (θ_run Cert.FfTwoReferenceIdeal.defs _ _).mono
    (fun r h => ⟨fun c => (h c).2, sem_eq_zero_of_no_sems (by decide) r.2⟩)
    (Cert.FfTwoReferenceIdeal.Value.run m ρ)

/-- From equal arguments the kernel and the reference leave the same array, and keep their arguments. -/
theorem algebraic : Cert.algebraic_FfTwoIdeal_FfTwoReferenceIdeal := by
  intro m ρ m' ρ' _ hagree
  refine ⟨fun c => G (m ((c.tc : Thread Cert.FfTwoIdeal.nD Cert.FfTwoIdeal.τ).loc Cert.FfTwoIdeal.main_arg0)) (m ((c.tc : Thread Cert.FfTwoIdeal.nD Cert.FfTwoIdeal.τ).loc Cert.FfTwoIdeal.main_arg1)), ?_, ?_⟩
  · refine (θ_run Cert.FfTwoIdeal.defs _ _).mono (fun r h c => ?_) (Cert.FfTwoIdeal.Value.run_blocks m ρ)
    obtain ⟨ho, hk⟩ := h c
    exact ⟨ho.trans (final m c), hk⟩
  · refine (θ_run Cert.FfTwoReferenceIdeal.defs _ _).mono (fun r h c => ?_) (Cert.FfTwoReferenceIdeal.Value.run m' ρ')
    obtain ⟨ho, hk⟩ := h c
    obtain ⟨a0, a1⟩ := hagree c
    refine ⟨ho.trans ?_, hk⟩
    rw [Cert.FfTwoReferenceIdeal.Read.val_main_v3_eq, ref, a0, a1]

end Cert.Proof.FfTwo

end
-- ==== Proof.FfTwoDxProduct.lean ====
/- The gradient of the first feed-forward product's output: the kernel's result array and the reference's, index by index. -/
module

public import proofs.«01_k».proof.Defs
public import proofs.«01_k».proof.Proof.Gen.FfTwoDxIdeal.Value
public import proofs.«01_k».proof.Proof.Gen.FfTwoDxReferenceIdeal.Run
public import proofs.«01_k».proof.Proof.Gen.FfTwoDxReferenceIdeal.Read
public import Idealize.ShloMosaic.PureOps.Ideal
public import Idealize.ShloMosaic.Lib.Pipeline.ValueKit
public import Idealize.ShloMosaic.Lib.IdealHost
public import Idealize.ShloMosaic.Lib.Pointwise
public import Idealize.ShloMosaic.Lib.Claim
public import Idealize.ShloMosaic.Lib.StableHlo.ReadAt
@[expose] public section

noncomputable section

namespace Cert.Proof.FfTwoDx

open Idealize.ShloMosaic Idealize.ShloMosaic.TcCoe Idealize.SL.Sem Cert.FfTwoDxIdeal Cert.FfTwoDxIdeal.Gen
open Idealize.ShloMosaic.Pipeline (Dat)

/-- The square root of a square of what is at least zero. -/
theorem sqrt_sq (x : EReal) : Ideal.sqrt (max x 0 * max x 0) = max x 0 := by
  induction x using EReal.rec with
  | bot => simp [show Ideal.sqrt 0 = 0 by rw [← EReal.coe_zero, Ideal.sqrt_coe]; simp]
  | top => simp
  | coe r =>
    have e : (max ((r : ℝ) : EReal) 0) = ((max r 0 : ℝ) : EReal) := by
      rw [← EReal.coe_zero]; exact (EReal.coe_strictMono.monotone.map_max).symm
    rw [e, ← EReal.coe_mul, Ideal.sqrt_coe, if_neg (not_lt.mpr (mul_self_nonneg _)), Real.sqrt_mul_self (le_max_right _ _)]

/-- The activation: the positive part, squared. -/
def act (h : S4096x8192.Idx → EReal) (i : S4096x8192.Idx) : EReal := max (h i) 0 * max (h i) 0

/-- The literal two. -/
abbrev two : EReal := Ideal.ofBits .f32 0x40000000#32

/-- The gradient of what the activation is taken of: a row of the cotangent against a row of the matrix, times the activation's slope. -/
def G (d : S4096x2048.Idx → EReal) (w : S1x8192x2048.Idx → EReal) (h : S4096x8192.Idx → EReal) (i : S4096x8192.Idx) : EReal :=
  (∑ k : Fin 2048, d (ix2 (i 0) k) * w (ix3 0 (i 1) k)) * (two * max (h i) 0)

variable (m : (ℓ : Loc nD τ sig) → Buf (Elt Ideal) ℓ)

/-! ## Each window's block index at a grid point -/

theorem e0 : ∀ t : Fin cfg0.N, win0_0.index t = ![t.val / 8, 0] := (by decide +kernel : ∀ t : Fin grid0.N, _)
theorem e1 : ∀ t : Fin cfg0.N, win0_1.index t = ![0, t.val % 8, 0] := (by decide +kernel : ∀ t : Fin grid0.N, _)
theorem e2 : ∀ t : Fin cfg0.N, win0_2.index t = ![t.val / 8, t.val % 8] := (by decide +kernel : ∀ t : Fin grid0.N, _)
theorem e3 : ∀ t : Fin cfg0.N, win0_3.index t = ![t.val / 8, t.val % 8] := (by decide +kernel : ∀ t : Fin grid0.N, _)

/-! ## The kernel's side -/

/-- The activation the host code computes before the kernel starts: the positive part, squared. -/
theorem act_entry (c : Dev nD) (i : S4096x8192.Idx) : V m c main_v2 i = act (m ((c : Thread nD τ).loc main_arg2)) i := by
  unfold act
  rw [← Ideal.ofBits_zero_f32]
  unfold V
  after_reads_at

/-- One block's entry. -/
theorem pay (v0 : S1024x2048.Idx → EReal) (v1 : S1x1024x2048.Idx → EReal) (v4 : S1024x1024.Idx → EReal) (y : S1024x1024.Idx) :
    k0_pay1 (F := Ideal) v0 v1 v4 y = (∑ k : Fin 2048, v0 (ix2 (y 0) k) * v1 (ix3 0 (y 1) k)) * (two * Ideal.sqrt (v4 y)) := by
  pointwise [k0_pay1]

/-- The result array, whole. -/
theorem final (c : Dev nD) : (dats m 0 c).arrAt 3 cfg0.N = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  refine (pay _ _ _ y).trans (congrArg₂ (fun a b : EReal => a * b) (Finset.sum_congr rfl fun k _ => ?_) (congrArg (fun b : EReal => two * b) ?_))
  · refine congrArg₂ (fun a b : EReal => a * b) (congrArg (m ((c : Thread nD τ).loc main_arg0)) ?_) (congrArg (m ((c : Thread nD τ).loc main_arg1)) ?_)
    · show (win0_0.blk t).view.emb (ix2 (y 0) k) = _
      blk_ext [e0 t, e3 t]
    · show (win0_1.blk t).view.emb (ix3 0 (y 1) k) = _
      blk_ext [e1 t, e3 t]
  · refine (congrArg Ideal.sqrt (act_entry m c ((win0_2.blk t).view.emb y))).trans ((sqrt_sq _).trans ?_)
    refine congrArg (fun b : EReal => max b 0) (congrArg (m ((c : Thread nD τ).loc main_arg2)) ?_)
    blk_ext [e2 t, e3 t]

/-! ## The reference's side -/

/-- Where the activation is flat its slope is zero, so choosing between the two sides changes nothing. -/
theorem choose (h p : EReal) : Scalar.select (Ideal.cmp .ogt h 0) (p * (two * max h 0)) (0 : EReal) = p * (two * max h 0) := by
  by_cases hp : 0 < h
  · have : Ideal.cmp .ogt h 0 = 1#1 := by simp [Ideal.cmp, hp]
    rw [this]; rfl
  · have : Ideal.cmp .ogt h 0 = 0#1 := by simp [Ideal.cmp, hp]
    rw [this, max_eq_right (not_lt.mp hp)]
    show (0 : EReal) = _
    simp

/-- The reference's result is the closed form. -/
theorem ref (x0 : S4096x2048.Idx → EReal) (x1 : S1x8192x2048.Idx → EReal) (x2 : S4096x8192.Idx → EReal) : Cert.FfTwoDxReferenceIdeal.Read.val_main_v15 (F := Ideal) x0 x1 x2 = G x0 x1 x2 := by
  funext i
  have h1 : (i 1).val < 8192 := (i 1).isLt
  simp only [Cert.FfTwoDxReferenceIdeal.Read.val_main_call0_cst_apply, Cert.FfTwoDxReferenceIdeal.Read.val_main_call0_v0_apply, Cert.FfTwoDxReferenceIdeal.Read.val_main_v0_apply, Cert.FfTwoDxReferenceIdeal.Read.val_main_cst_apply, Cert.FfTwoDxReferenceIdeal.Read.val_main_v1_apply, Cert.FfTwoDxReferenceIdeal.Read.val_main_v2_apply, Cert.FfTwoDxReferenceIdeal.Read.val_main_cst_0_apply, Cert.FfTwoDxReferenceIdeal.Read.val_main_v3_apply, Cert.FfTwoDxReferenceIdeal.Read.val_main_v4_apply, Cert.FfTwoDxReferenceIdeal.Read.val_main_cst_1_apply, Cert.FfTwoDxReferenceIdeal.Read.val_main_v5_apply, Cert.FfTwoDxReferenceIdeal.Read.val_main_v6_apply, Cert.FfTwoDxReferenceIdeal.Read.val_main_v7_apply, Cert.FfTwoDxReferenceIdeal.Read.val_main_v8_apply, Cert.FfTwoDxReferenceIdeal.Read.val_main_v9_apply, Cert.FfTwoDxReferenceIdeal.Read.val_main_v10_apply, Cert.FfTwoDxReferenceIdeal.Read.val_main_v11_apply, Cert.FfTwoDxReferenceIdeal.Read.val_main_v12_apply, Cert.FfTwoDxReferenceIdeal.Read.val_main_cst_2_apply, Cert.FfTwoDxReferenceIdeal.Read.val_main_v13_apply, Cert.FfTwoDxReferenceIdeal.Read.val_main_v14_apply, Cert.FfTwoDxReferenceIdeal.Read.val_main_v15_apply, Ideal.truncf_def, Ideal.extf_def, Ideal.mulf_def, Ideal.maximumf_def, Ideal.ofBits_def, Ideal.ofBits_zero_f32]
  refine (choose (x2 i) _).trans (congrArg (fun p : EReal => p * (two * max (x2 i) 0)) (Finset.sum_congr rfl fun k _ => ?_))
  have hk : k.val < 2048 := k.isLt
  refine congrArg₂ (fun a b : EReal => a * b) (congrArg x0 (funext fun b => Fin.ext ?_)) (congrArg x1 (funext fun b => Fin.ext ?_))
  · match b with
    | ⟨0, _⟩ => rfl
    | ⟨1, _⟩ => rfl
  · match b with
    | ⟨0, _⟩ => rfl
    | ⟨1, _⟩ => simp; omega
    | ⟨2, _⟩ => simp

/-! ## The claims -/

/-- The reference runs to its end, keeps its arguments and leaves every counter at zero. -/
theorem frame_reference : Cert.quiescent_FfTwoDxReferenceIdeal := fun m ρ _ =>
  (θ_run Cert.FfTwoDxReferenceIdeal.defs _ _).mono
    (fun r h => ⟨fun c => (h c).2, sem_eq_zero_of_no_sems (by decide) r.2⟩)
    (Cert.FfTwoDxReferenceIdeal.Value.run m ρ)

/-- From equal arguments the kernel and the reference leave the same array, and keep their arguments. -/
theorem algebraic : Cert.algebraic_FfTwoDxIdeal_FfTwoDxReferenceIdeal := by
  intro m ρ m' ρ' _ hagree
  refine ⟨fun c => G (m ((c.tc : Thread Cert.FfTwoDxIdeal.nD Cert.FfTwoDxIdeal.τ).loc Cert.FfTwoDxIdeal.main_arg0)) (m ((c.tc : Thread Cert.FfTwoDxIdeal.nD Cert.FfTwoDxIdeal.τ).loc Cert.FfTwoDxIdeal.main_arg1)) (m ((c.tc : Thread Cert.FfTwoDxIdeal.nD Cert.FfTwoDxIdeal.τ).loc Cert.FfTwoDxIdeal.main_arg2)), ?_, ?_⟩
  · refine (θ_run Cert.FfTwoDxIdeal.defs _ _).mono (fun r h c => ?_) (Cert.FfTwoDxIdeal.Value.run_blocks m ρ)
    obtain ⟨ho, hk⟩ := h c
    exact ⟨ho.trans (final m c), hk⟩
  · refine (θ_run Cert.FfTwoDxReferenceIdeal.defs _ _).mono (fun r h c => ?_) (Cert.FfTwoDxReferenceIdeal.Value.run m' ρ')
    obtain ⟨ho, hk⟩ := h c
    obtain ⟨a0, a1, a2⟩ := hagree c
    refine ⟨ho.trans ?_, hk⟩
    rw [Cert.FfTwoDxReferenceIdeal.Read.val_main_v15_eq, ref, a0, a1, a2]

end Cert.Proof.FfTwoDx

end
-- ==== Proof.FfTwoDwProduct.lean ====
/- The gradient of the second feed-forward matrix: the kernel's result array and the reference's, index by index. -/
module

public import proofs.«01_k».proof.Defs
public import proofs.«01_k».proof.Proof.Gen.FfTwoDwIdeal.Value
public import proofs.«01_k».proof.Proof.Gen.FfTwoDwReferenceIdeal.Run
public import proofs.«01_k».proof.Proof.Gen.FfTwoDwReferenceIdeal.Read
public import Idealize.ShloMosaic.PureOps.Ideal
public import Idealize.ShloMosaic.Lib.Pipeline.ValueKit
public import Idealize.ShloMosaic.Lib.IdealHost
public import Idealize.ShloMosaic.Lib.Pointwise
public import Idealize.ShloMosaic.Lib.Claim

@[expose] public section

noncomputable section

namespace Cert.Proof.FfTwoDw

open Idealize.ShloMosaic Idealize.ShloMosaic.TcCoe Idealize.SL.Sem Cert.FfTwoDwIdeal Cert.FfTwoDwIdeal.Gen
open Idealize.ShloMosaic.Pipeline (Dat)

/-- The gradient, entry by entry: a column of the product's input against a column of the cotangent. -/
def G (a : S4096x8192.Idx → EReal) (d : S4096x2048.Idx → EReal) (i : S1x8192x2048.Idx) : EReal :=
  ∑ k : Fin 4096, a (ix2 k (i 1)) * d (ix2 k ((i 2)))

variable (m : (ℓ : Loc nD τ sig) → Buf (Elt Ideal) ℓ)

/-! ## Each window's block index at a grid point -/

theorem e0 : ∀ t : Fin cfg0.N, win0_0.index t = ![0, t.val / 2] := (by decide +kernel : ∀ t : Fin grid0.N, _)
theorem e1 : ∀ t : Fin cfg0.N, win0_1.index t = ![0, t.val % 2] := (by decide +kernel : ∀ t : Fin grid0.N, _)
theorem e2 : ∀ t : Fin cfg0.N, win0_2.index t = ![0, t.val / 2, t.val % 2] := (by decide +kernel : ∀ t : Fin grid0.N, _)

/-! ## The kernel's side -/

/-- One block's entry. -/
theorem pay (v0 : S4096x1024.Idx → EReal) (v1 : S4096x1024.Idx → EReal) (y : S1x1024x1024.Idx) :
    k0_pay1 (F := Ideal) v0 v1 y = ∑ k : Fin 4096, v0 (ix2 k (y 1)) * v1 (ix2 k (y 2)) := by
  pointwise [k0_pay1]

/-- The result array, whole. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  refine (pay _ _ y).trans (Finset.sum_congr rfl fun k _ => ?_)
  refine congrArg₂ (fun a b : EReal => a * b) (congrArg (m ((c : Thread nD τ).loc main_arg0)) ?_) (congrArg (m ((c : Thread nD τ).loc main_arg1)) ?_)
  · show (win0_0.blk t).view.emb (ix2 k (y 1)) = _
    blk_ext [e0 t, e2 t]
  · show (win0_1.blk t).view.emb (ix2 k (y 2)) = _
    blk_ext [e1 t, e2 t]

/-! ## The reference's side -/

/-- The reference's result is the closed form. -/
theorem ref (x0 : S4096x8192.Idx → EReal) (x1 : S4096x2048.Idx → EReal) : Cert.FfTwoDwReferenceIdeal.Read.val_main_v8 (F := Ideal) x0 x1 = G x0 x1 := by
  funext i
  have h0 : (i 0).val < 1 := (i 0).isLt
  have h1 : (i 1).val < 8192 := (i 1).isLt
  have h2 : (i 2).val < 2048 := (i 2).isLt
  simp only [Cert.FfTwoDwReferenceIdeal.Read.val_main_cst_apply, Cert.FfTwoDwReferenceIdeal.Read.val_main_v0_apply, Cert.FfTwoDwReferenceIdeal.Read.val_main_v1_apply, Cert.FfTwoDwReferenceIdeal.Read.val_main_v2_apply, Cert.FfTwoDwReferenceIdeal.Read.val_main_v3_apply, Cert.FfTwoDwReferenceIdeal.Read.val_main_v4_apply, Cert.FfTwoDwReferenceIdeal.Read.val_main_v5_apply, Cert.FfTwoDwReferenceIdeal.Read.val_main_v6_apply, Cert.FfTwoDwReferenceIdeal.Read.val_main_v7_apply, Cert.FfTwoDwReferenceIdeal.Read.val_main_v8_apply, Ideal.truncf_def, Ideal.extf_def]
  refine Finset.sum_congr rfl fun k _ => ?_
  refine ((fun a b : EReal => mul_comm a b) _ _).trans ?_
  refine congrArg₂ (fun a b : EReal => a * b) (congrArg x0 (funext fun b => Fin.ext ?_)) (congrArg x1 (funext fun b => Fin.ext ?_))
  · match b with
    | ⟨0, _⟩ => rfl
    | ⟨1, _⟩ => show _ = (i 1).val; simp; omega
  · match b with
    | ⟨0, _⟩ => rfl
    | ⟨1, _⟩ => simp; omega

/-! ## The claims -/

/-- The reference runs to its end, keeps its arguments and leaves every counter at zero. -/
theorem frame_reference : Cert.quiescent_FfTwoDwReferenceIdeal := fun m ρ _ =>
  (θ_run Cert.FfTwoDwReferenceIdeal.defs _ _).mono
    (fun r h => ⟨fun c => (h c).2, sem_eq_zero_of_no_sems (by decide) r.2⟩)
    (Cert.FfTwoDwReferenceIdeal.Value.run m ρ)

/-- From equal arguments the kernel and the reference leave the same array, and keep their arguments. -/
theorem algebraic : Cert.algebraic_FfTwoDwIdeal_FfTwoDwReferenceIdeal := by
  intro m ρ m' ρ' _ hagree
  refine ⟨fun c => G (m ((c.tc : Thread Cert.FfTwoDwIdeal.nD Cert.FfTwoDwIdeal.τ).loc Cert.FfTwoDwIdeal.main_arg0)) (m ((c.tc : Thread Cert.FfTwoDwIdeal.nD Cert.FfTwoDwIdeal.τ).loc Cert.FfTwoDwIdeal.main_arg1)), ?_, ?_⟩
  · refine (θ_run Cert.FfTwoDwIdeal.defs _ _).mono (fun r h c => ?_) (Cert.FfTwoDwIdeal.Value.run_blocks m ρ)
    obtain ⟨ho, hk⟩ := h c
    exact ⟨ho.trans (final m c), hk⟩
  · refine (θ_run Cert.FfTwoDwReferenceIdeal.defs _ _).mono (fun r h c => ?_) (Cert.FfTwoDwReferenceIdeal.Value.run m' ρ')
    obtain ⟨ho, hk⟩ := h c
    obtain ⟨a0, a1⟩ := hagree c
    refine ⟨ho.trans ?_, hk⟩
    rw [Cert.FfTwoDwReferenceIdeal.Read.val_main_v8_eq, ref, a0, a1]

end Cert.Proof.FfTwoDw

end
-- ==== Proof.FfOneDwProduct.lean ====
/- The gradient of the first feed-forward matrix: the kernel's result array and the reference's, index by index. -/
module

public import proofs.«01_k».proof.Defs
public import proofs.«01_k».proof.Proof.Gen.FfOneDwIdeal.Value
public import proofs.«01_k».proof.Proof.Gen.FfOneDwReferenceIdeal.Run
public import proofs.«01_k».proof.Proof.Gen.FfOneDwReferenceIdeal.Read
public import Idealize.ShloMosaic.PureOps.Ideal
public import Idealize.ShloMosaic.Lib.Pipeline.ValueKit
public import Idealize.ShloMosaic.Lib.IdealHost
public import Idealize.ShloMosaic.Lib.Pointwise
public import Idealize.ShloMosaic.Lib.Claim

@[expose] public section

noncomputable section

namespace Cert.Proof.FfOneDw

open Idealize.ShloMosaic Idealize.ShloMosaic.TcCoe Idealize.SL.Sem Cert.FfOneDwIdeal Cert.FfOneDwIdeal.Gen
open Idealize.ShloMosaic.Pipeline (Dat)

/-- The gradient, entry by entry: a column of the product's input against a column of the cotangent. -/
def G (a : S4096x2048.Idx → EReal) (d : S4096x8192.Idx → EReal) (i : S8x2048x1024.Idx) : EReal :=
  ∑ k : Fin 4096, a (ix2 k (i 1)) * d (ix2 k (⟨(i 0).val * 1024 + (i 2).val, by have h0 : (i 0).val < 8 := (i 0).isLt; have h2 : (i 2).val < 1024 := (i 2).isLt; omega⟩))

variable (m : (ℓ : Loc nD τ sig) → Buf (Elt Ideal) ℓ)

/-! ## Each window's block index at a grid point -/

theorem e0 : ∀ t : Fin cfg0.N, win0_0.index t = ![0, t.val / 8] := (by decide +kernel : ∀ t : Fin grid0.N, _)
theorem e1 : ∀ t : Fin cfg0.N, win0_1.index t = ![0, t.val % 8] := (by decide +kernel : ∀ t : Fin grid0.N, _)
theorem e2 : ∀ t : Fin cfg0.N, win0_2.index t = ![t.val % 8, t.val / 8, 0] := (by decide +kernel : ∀ t : Fin grid0.N, _)

/-! ## The kernel's side -/

/-- One block's entry. -/
theorem pay (v0 : S4096x1024.Idx → EReal) (v1 : S4096x1024.Idx → EReal) (y : S1x1024x1024.Idx) :
    k0_pay1 (F := Ideal) v0 v1 y = ∑ k : Fin 4096, v0 (ix2 k (y 1)) * v1 (ix2 k (y 2)) := by
  pointwise [k0_pay1]

/-- The result array, whole. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  refine (pay _ _ y).trans (Finset.sum_congr rfl fun k _ => ?_)
  refine congrArg₂ (fun a b : EReal => a * b) (congrArg (m ((c : Thread nD τ).loc main_arg0)) ?_) (congrArg (m ((c : Thread nD τ).loc main_arg1)) ?_)
  · show (win0_0.blk t).view.emb (ix2 k (y 1)) = _
    blk_ext [e0 t, e2 t]
  · show (win0_1.blk t).view.emb (ix2 k (y 2)) = _
    blk_ext [e1 t, e2 t]

/-! ## The reference's side -/

/-- The reference's result is the closed form. -/
theorem ref (x0 : S4096x2048.Idx → EReal) (x1 : S4096x8192.Idx → EReal) : Cert.FfOneDwReferenceIdeal.Read.val_main_v10 (F := Ideal) x0 x1 = G x0 x1 := by
  funext i
  have h0 : (i 0).val < 8 := (i 0).isLt
  have h1 : (i 1).val < 2048 := (i 1).isLt
  have h2 : (i 2).val < 1024 := (i 2).isLt
  simp only [Cert.FfOneDwReferenceIdeal.Read.val_main_cst_apply, Cert.FfOneDwReferenceIdeal.Read.val_main_v0_apply, Cert.FfOneDwReferenceIdeal.Read.val_main_v1_apply, Cert.FfOneDwReferenceIdeal.Read.val_main_v2_apply, Cert.FfOneDwReferenceIdeal.Read.val_main_v3_apply, Cert.FfOneDwReferenceIdeal.Read.val_main_v4_apply, Cert.FfOneDwReferenceIdeal.Read.val_main_v5_apply, Cert.FfOneDwReferenceIdeal.Read.val_main_v6_apply, Cert.FfOneDwReferenceIdeal.Read.val_main_v7_apply, Cert.FfOneDwReferenceIdeal.Read.val_main_v8_apply, Cert.FfOneDwReferenceIdeal.Read.val_main_v9_apply, Cert.FfOneDwReferenceIdeal.Read.val_main_v10_apply, Ideal.truncf_def, Ideal.extf_def]
  refine Finset.sum_congr rfl fun k _ => ?_
  refine ((fun a b : EReal => mul_comm a b) _ _).trans ?_
  refine congrArg₂ (fun a b : EReal => a * b) (congrArg x0 (funext fun b => Fin.ext ?_)) (congrArg x1 (funext fun b => Fin.ext ?_))
  · match b with
    | ⟨0, _⟩ => rfl
    | ⟨1, _⟩ => show _ = (i 1).val; simp; omega
  · match b with
    | ⟨0, _⟩ => rfl
    | ⟨1, _⟩ => simp; omega

/-! ## The claims -/

/-- The reference runs to its end, keeps its arguments and leaves every counter at zero. -/
theorem frame_reference : Cert.quiescent_FfOneDwReferenceIdeal := fun m ρ _ =>
  (θ_run Cert.FfOneDwReferenceIdeal.defs _ _).mono
    (fun r h => ⟨fun c => (h c).2, sem_eq_zero_of_no_sems (by decide) r.2⟩)
    (Cert.FfOneDwReferenceIdeal.Value.run m ρ)

/-- From equal arguments the kernel and the reference leave the same array, and keep their arguments. -/
theorem algebraic : Cert.algebraic_FfOneDwIdeal_FfOneDwReferenceIdeal := by
  intro m ρ m' ρ' _ hagree
  refine ⟨fun c => G (m ((c.tc : Thread Cert.FfOneDwIdeal.nD Cert.FfOneDwIdeal.τ).loc Cert.FfOneDwIdeal.main_arg0)) (m ((c.tc : Thread Cert.FfOneDwIdeal.nD Cert.FfOneDwIdeal.τ).loc Cert.FfOneDwIdeal.main_arg1)), ?_, ?_⟩
  · refine (θ_run Cert.FfOneDwIdeal.defs _ _).mono (fun r h c => ?_) (Cert.FfOneDwIdeal.Value.run_blocks m ρ)
    obtain ⟨ho, hk⟩ := h c
    exact ⟨ho.trans (final m c), hk⟩
  · refine (θ_run Cert.FfOneDwReferenceIdeal.defs _ _).mono (fun r h c => ?_) (Cert.FfOneDwReferenceIdeal.Value.run m' ρ')
    obtain ⟨ho, hk⟩ := h c
    obtain ⟨a0, a1⟩ := hagree c
    refine ⟨ho.trans ?_, hk⟩
    rw [Cert.FfOneDwReferenceIdeal.Read.val_main_v10_eq, ref, a0, a1]

end Cert.Proof.FfOneDw

end
-- ==== Proof.FfOneDxProduct.lean ====
/- The gradient of the first feed-forward product's input: the kernel's result array and the reference's, index by index. -/
module

public import proofs.«01_k».proof.Defs
public import proofs.«01_k».proof.Proof.Gen.FfOneDxIdeal.Value
public import proofs.«01_k».proof.Proof.Gen.FfOneDxReferenceIdeal.Run
public import proofs.«01_k».proof.Proof.Gen.FfOneDxReferenceIdeal.Read
public import Idealize.ShloMosaic.PureOps.Ideal
public import Idealize.ShloMosaic.Lib.Pipeline.ValueKit
public import Idealize.ShloMosaic.Lib.IdealHost
public import Idealize.ShloMosaic.Lib.Pointwise
public import Idealize.ShloMosaic.Lib.Claim
public import Idealize.ShloMosaic.Lib.Pipeline.ReadBack
@[expose] public section

noncomputable section

namespace Cert.Proof.FfOneDx

open Idealize.ShloMosaic Idealize.ShloMosaic.TcCoe Idealize.SL.Sem Cert.FfOneDxIdeal Cert.FfOneDxIdeal.Gen
open Idealize.ShloMosaic.Pipeline (Dat)

/-- The gradient, entry by entry: a row of the cotangent against a row of the matrix, which the shards hold side by side. -/
def G (d : S4096x8192.Idx → EReal) (w : S8x2048x1024.Idx → EReal) (i : S4096x2048.Idx) : EReal :=
  ∑ k : Fin 8192, d (ix2 (i 0) k) * w (ix3 ⟨k.val / 1024, by omega⟩ (i 1) ⟨k.val % 1024, by omega⟩)

variable (m : (ℓ : Loc nD τ sig) → Buf (Elt Ideal) ℓ)

/-! ## Each window's block index at a grid point -/

theorem e0 : ∀ t : Fin cfg0.N, win0_0.index t = ![t.val / 4, t.val % 2] := (by decide +kernel : ∀ t : Fin grid0.N, _)
theorem e1 : ∀ t : Fin cfg0.N, win0_1.index t = ![t.val % 2, t.val / 2 % 2, 0] := (by decide +kernel : ∀ t : Fin grid0.N, _)
theorem e2 : ∀ t : Fin cfg0.N, win0_2.index t = ![t.val / 4, t.val / 2 % 2] := (by decide +kernel : ∀ t : Fin grid0.N, _)

/-! ## The kernel's side -/

/-- What one grid point adds: its four shards' columns of the cotangent against the same shards' columns of the matrix. -/
def part (x0 : S1024x4096.Idx → EReal) (x1 : S4x1024x1024.Idx → EReal) (y : S1024x1024.Idx) : EReal :=
  ∑ l : Fin 4096, x0 (ix2 (y 0) l) * x1 (ix3 ⟨l.val / 1024, by omega⟩ (y 1) ⟨l.val % 1024, by omega⟩)

/-- The four shards' products, added in turn, are the product over their columns side by side. -/
theorem pay_part (x0 : S1024x4096.Idx → EReal) (x1 : S4x1024x1024.Idx → EReal) (a0 a1 a2 a3 : S1024x1024.Idx → EReal) (b0 b1 b2 b3 : S1x1024x1024.Idx → EReal)
    (ha0 : ∀ r (k : Fin 1024), a0 (ix2 r k) = x0 (ix2 r ⟨0 * 1024 + k.val, by omega⟩)) (ha1 : ∀ r (k : Fin 1024), a1 (ix2 r k) = x0 (ix2 r ⟨1 * 1024 + k.val, by omega⟩))
    (ha2 : ∀ r (k : Fin 1024), a2 (ix2 r k) = x0 (ix2 r ⟨2 * 1024 + k.val, by omega⟩)) (ha3 : ∀ r (k : Fin 1024), a3 (ix2 r k) = x0 (ix2 r ⟨3 * 1024 + k.val, by omega⟩))
    (hb0 : ∀ r k, b0 (ix3 0 r k) = x1 (ix3 0 r k)) (hb1 : ∀ r k, b1 (ix3 0 r k) = x1 (ix3 1 r k))
    (hb2 : ∀ r k, b2 (ix3 0 r k) = x1 (ix3 2 r k)) (hb3 : ∀ r k, b3 (ix3 0 r k) = x1 (ix3 3 r k)) (y : S1024x1024.Idx) :
    k0_pay2 (F := Ideal) a0 b0 a1 b1 a2 b2 a3 b3 y = part x0 x1 y := by
  have hp : k0_pay2 (F := Ideal) a0 b0 a1 b1 a2 b2 a3 b3 y =
      (((∑ k : Fin 1024, a0 (ix2 (y 0) k) * b0 (ix3 0 (y 1) k)) + ∑ k : Fin 1024, a1 (ix2 (y 0) k) * b1 (ix3 0 (y 1) k))
        + ∑ k : Fin 1024, a2 (ix2 (y 0) k) * b2 (ix3 0 (y 1) k)) + ∑ k : Fin 1024, a3 (ix2 (y 0) k) * b3 (ix3 0 (y 1) k) := by
    pointwise [k0_pay2]
  rw [hp]
  unfold part
  refine Eq.trans ?_ (Fin.sum_mul_add_congr (S := 4) (n := 1024) (F := fun s k => x0 (ix2 (y 0) ⟨s.val * 1024 + k.val, by omega⟩) * x1 (ix3 s (y 1) k))
    (fun s k hl => ?_))
  · rw [Fin.sum_univ_four]
    refine congrArg₂ (· + ·) (congrArg₂ (· + ·) (congrArg₂ (· + ·) ?_ ?_) ?_) ?_ <;> refine Finset.sum_congr rfl fun k _ => ?_
    · exact congrArg₂ (fun a b : EReal => a * b) (ha0 (y 0) k) (hb0 (y 1) k)
    · exact congrArg₂ (fun a b : EReal => a * b) (ha1 (y 0) k) (hb1 (y 1) k)
    · exact congrArg₂ (fun a b : EReal => a * b) (ha2 (y 0) k) (hb2 (y 1) k)
    · exact congrArg₂ (fun a b : EReal => a * b) (ha3 (y 0) k) (hb3 (y 1) k)
  · have hs := s.isLt
    have hk := k.isLt
    refine congrArg (fun b : EReal => x0 (ix2 (y 0) ⟨s.val * 1024 + k.val, hl⟩) * b) (congrArg x1 ?_)
    funext b
    match b with
    | ⟨0, _⟩ => exact Fin.ext (show s.val = (s.val * 1024 + k.val) / 1024 by omega)
    | ⟨1, _⟩ => rfl
    | ⟨2, _⟩ => exact Fin.ext (show k.val = (s.val * 1024 + k.val) % 1024 by omega)

/-- The four shards' products at a grid point, off the parts of the two blocks the body loads. -/
theorem pay_ld (x0 : Vec Ideal S1024x4096 .bf16) (x1 : Vec Ideal S4x1024x1024 .bf16) (y : S1024x1024.Idx) :
    k0_pay2 (F := Ideal) (View.ld x0 (Rect.unit (s := S1024x4096) ![0, 0] S1024x1024.size inb_S1024x4096_S1024x1024_0_0)) (View.ld x1 (Rect.unit (s := S4x1024x1024) ![0, 0, 0] S1x1024x1024.size inb_S4x1024x1024_S1x1024x1024_0_0_0)) (View.ld x0 (Rect.unit (s := S1024x4096) ![0, 1024] S1024x1024.size inb_S1024x4096_S1024x1024_0_1024)) (View.ld x1 (Rect.unit (s := S4x1024x1024) ![1, 0, 0] S1x1024x1024.size inb_S4x1024x1024_S1x1024x1024_1_0_0)) (View.ld x0 (Rect.unit (s := S1024x4096) ![0, 2048] S1024x1024.size inb_S1024x4096_S1024x1024_0_2048)) (View.ld x1 (Rect.unit (s := S4x1024x1024) ![2, 0, 0] S1x1024x1024.size inb_S4x1024x1024_S1x1024x1024_2_0_0)) (View.ld x0 (Rect.unit (s := S1024x4096) ![0, 3072] S1024x1024.size inb_S1024x4096_S1024x1024_0_3072)) (View.ld x1 (Rect.unit (s := S4x1024x1024) ![3, 0, 0] S1x1024x1024.size inb_S4x1024x1024_S1x1024x1024_3_0_0)) y = part x0 x1 y :=
  pay_part x0 x1 _ _ _ _ _ _ _ _ (fun r k => congrArg x0 (funext fun b => Fin.ext (by match b with | ⟨0, _⟩ => exact (show 0 + 1 * r.val = r.val by omega) | ⟨1, _⟩ => exact (show 0 + 1 * k.val = 0 * 1024 + k.val by omega)))) (fun r k => congrArg x0 (funext fun b => Fin.ext (by match b with | ⟨0, _⟩ => exact (show 0 + 1 * r.val = r.val by omega) | ⟨1, _⟩ => exact (show 1024 + 1 * k.val = 1 * 1024 + k.val by omega)))) (fun r k => congrArg x0 (funext fun b => Fin.ext (by match b with | ⟨0, _⟩ => exact (show 0 + 1 * r.val = r.val by omega) | ⟨1, _⟩ => exact (show 2048 + 1 * k.val = 2 * 1024 + k.val by omega)))) (fun r k => congrArg x0 (funext fun b => Fin.ext (by match b with | ⟨0, _⟩ => exact (show 0 + 1 * r.val = r.val by omega) | ⟨1, _⟩ => exact (show 3072 + 1 * k.val = 3 * 1024 + k.val by omega)))) (fun r k => congrArg x1 (funext fun b => Fin.ext (by match b with | ⟨0, _⟩ => rfl | ⟨1, _⟩ => exact (show 0 + 1 * r.val = r.val by omega) | ⟨2, _⟩ => exact (show 0 + 1 * k.val = k.val by omega)))) (fun r k => congrArg x1 (funext fun b => Fin.ext (by match b with | ⟨0, _⟩ => rfl | ⟨1, _⟩ => exact (show 0 + 1 * r.val = r.val by omega) | ⟨2, _⟩ => exact (show 0 + 1 * k.val = k.val by omega)))) (fun r k => congrArg x1 (funext fun b => Fin.ext (by match b with | ⟨0, _⟩ => rfl | ⟨1, _⟩ => exact (show 0 + 1 * r.val = r.val by omega) | ⟨2, _⟩ => exact (show 0 + 1 * k.val = k.val by omega)))) (fun r k => congrArg x1 (funext fun b => Fin.ext (by match b with | ⟨0, _⟩ => rfl | ⟨1, _⟩ => exact (show 0 + 1 * r.val = r.val by omega) | ⟨2, _⟩ => exact (show 0 + 1 * k.val = k.val by omega)))) y

/-- The first point of a run stores its product. -/
theorem pay_first (x0 : Vec Ideal S1024x4096 .bf16) (x1 : Vec Ideal S4x1024x1024 .bf16) (y : S1024x1024.Idx) :
    k0_pay3 (F := Ideal) (View.ld x0 (Rect.unit (s := S1024x4096) ![0, 0] S1024x1024.size inb_S1024x4096_S1024x1024_0_0)) (View.ld x1 (Rect.unit (s := S4x1024x1024) ![0, 0, 0] S1x1024x1024.size inb_S4x1024x1024_S1x1024x1024_0_0_0)) (View.ld x0 (Rect.unit (s := S1024x4096) ![0, 1024] S1024x1024.size inb_S1024x4096_S1024x1024_0_1024)) (View.ld x1 (Rect.unit (s := S4x1024x1024) ![1, 0, 0] S1x1024x1024.size inb_S4x1024x1024_S1x1024x1024_1_0_0)) (View.ld x0 (Rect.unit (s := S1024x4096) ![0, 2048] S1024x1024.size inb_S1024x4096_S1024x1024_0_2048)) (View.ld x1 (Rect.unit (s := S4x1024x1024) ![2, 0, 0] S1x1024x1024.size inb_S4x1024x1024_S1x1024x1024_2_0_0)) (View.ld x0 (Rect.unit (s := S1024x4096) ![0, 3072] S1024x1024.size inb_S1024x4096_S1024x1024_0_3072)) (View.ld x1 (Rect.unit (s := S4x1024x1024) ![3, 0, 0] S1x1024x1024.size inb_S4x1024x1024_S1x1024x1024_3_0_0)) y = part x0 x1 y := by
  unfold k0_pay3
  rw [shapeCast_self]
  exact pay_ld x0 x1 y

/-- A later point adds its product. -/
theorem pay_next (x0 : Vec Ideal S1024x4096 .bf16) (x1 : Vec Ideal S4x1024x1024 .bf16) (a : S1024x1024.Idx → EReal) (y : S1024x1024.Idx) :
    k0_pay4 (F := Ideal) (View.ld x0 (Rect.unit (s := S1024x4096) ![0, 0] S1024x1024.size inb_S1024x4096_S1024x1024_0_0)) (View.ld x1 (Rect.unit (s := S4x1024x1024) ![0, 0, 0] S1x1024x1024.size inb_S4x1024x1024_S1x1024x1024_0_0_0)) (View.ld x0 (Rect.unit (s := S1024x4096) ![0, 1024] S1024x1024.size inb_S1024x4096_S1024x1024_0_1024)) (View.ld x1 (Rect.unit (s := S4x1024x1024) ![1, 0, 0] S1x1024x1024.size inb_S4x1024x1024_S1x1024x1024_1_0_0)) (View.ld x0 (Rect.unit (s := S1024x4096) ![0, 2048] S1024x1024.size inb_S1024x4096_S1024x1024_0_2048)) (View.ld x1 (Rect.unit (s := S4x1024x1024) ![2, 0, 0] S1x1024x1024.size inb_S4x1024x1024_S1x1024x1024_2_0_0)) (View.ld x0 (Rect.unit (s := S1024x4096) ![0, 3072] S1024x1024.size inb_S1024x4096_S1024x1024_0_3072)) (View.ld x1 (Rect.unit (s := S4x1024x1024) ![3, 0, 0] S1x1024x1024.size inb_S4x1024x1024_S1x1024x1024_3_0_0)) a y = a y + part x0 x1 y := by
  unfold k0_pay4
  rw [shapeCast_self]
  exact congrArg (fun p : EReal => a y + p) (pay_ld x0 x1 y)

/-- At the last point of a run the block written back is the running sum. -/
theorem out_eq (c : Dev nD) (t : Fin cfg0.N) (h : t.val % 2 = 2 - 1) :
    ((outsAt0 m c t.val t.isLt).1 : S1024x1024.Idx → EReal) = (outsAt0 m c t.val t.isLt).2 := by
  rw [outsAt0_B m c t (by omega) (by omega) (by omega)]
  frame_out
  funext y
  rfl

/-- The running sum at the last point of a run: the sum of the run's products. -/
theorem acc_eq (c : Dev nD) (t : Fin cfg0.N) (h : t.val % 2 = 2 - 1) (y : S1024x1024.Idx) :
    ((outsAt0 m c t.val t.isLt).2 : S1024x1024.Idx → EReal) y =
      ∑ s : Fin 2, part (iblk m c 0 ⟨2 * (t.val / 2) + s.val, Pipeline.run_point_lt_of_flush t h s⟩) (iblk m c 1 ⟨2 * (t.val / 2) + s.val, Pipeline.run_point_lt_of_flush t h s⟩) y := by
  refine (Pipeline.eq_sum_fin_of_reset_step_apply_of_flush (M := EReal) (fun n h => (outsAt0 m c n h).2) 2 (fun _ => (0 : EReal))
    (fun t y => part (iblk m c 0 t) (iblk m c 1 t) y) (fun t h j => ?_) (fun t h j => ?_) t h y).trans (zero_add _)
  · show (outsAt0 m c t.val t.isLt).2 j = _
    rw [outsAt0_A m c t (by omega) (by omega) (by omega)]
    frame_out
    exact (pay_first _ _ j).trans (zero_add _).symm
  · show (outsAt0 m c t.val t.isLt).2 j = _
    rw [outsAt0_B m c t (by omega) (by omega) (by omega)]
    frame_out
    rw [read_unread_whole]
    exact pay_next _ _ _ j

/-- The result array, whole. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  have ht : t.val % 2 = 2 - 1 := (flush0_2 t).mp hf
  blk_simp
  rw [after0_2, out_eq m c t ht]
  refine (acc_eq m c t ht y).trans (Fin.sum_mul_add_congr fun s k hl => ?_)
  have hs : s.val < 2 := s.isLt
  have hk : k.val < 4096 := k.isLt
  have htt : t.val < 16 := t.isLt
  refine congrArg₂ (fun a b : EReal => a * b) (congrArg (m ((c : Thread nD τ).loc main_arg0)) ?_) (congrArg (m ((c : Thread nD τ).loc main_arg1)) ?_)
  · show (win0_0.blk _).view.emb (ix2 (y 0) k) = _
    blk_ext [e0 _, e2 t]
  · show (win0_1.blk _).view.emb (ix3 ⟨k.val / 1024, by omega⟩ (y 1) ⟨k.val % 1024, by omega⟩) = _
    blk_ext [e1 _, e2 t]

/-! ## The reference's side -/

/-- The reference's result is the closed form. -/
theorem ref (x0 : S4096x8192.Idx → EReal) (x1 : S8x2048x1024.Idx → EReal) : Cert.FfOneDxReferenceIdeal.Read.val_main_v7 (F := Ideal) x0 x1 = G x0 x1 := by
  funext i
  have h1 : (i 1).val < 2048 := (i 1).isLt
  simp only [Cert.FfOneDxReferenceIdeal.Read.val_main_cst_apply, Cert.FfOneDxReferenceIdeal.Read.val_main_v0_apply, Cert.FfOneDxReferenceIdeal.Read.val_main_v1_apply, Cert.FfOneDxReferenceIdeal.Read.val_main_v2_apply, Cert.FfOneDxReferenceIdeal.Read.val_main_v3_apply, Cert.FfOneDxReferenceIdeal.Read.val_main_v4_apply, Cert.FfOneDxReferenceIdeal.Read.val_main_v5_apply, Cert.FfOneDxReferenceIdeal.Read.val_main_v6_apply, Cert.FfOneDxReferenceIdeal.Read.val_main_v7_apply, Ideal.truncf_def, Ideal.extf_def]
  refine Finset.sum_congr rfl fun k _ => ?_
  have hk : k.val < 8192 := k.isLt
  refine congrArg₂ (fun a b : EReal => a * b) (congrArg x0 (funext fun b => Fin.ext ?_)) (congrArg x1 (funext fun b => Fin.ext ?_))
  · match b with
    | ⟨0, _⟩ => rfl
    | ⟨1, _⟩ => rfl
  · match b with
    | ⟨0, _⟩ => simp; omega
    | ⟨1, _⟩ => simp; omega
    | ⟨2, _⟩ => simp; omega

/-! ## The claims -/

/-- The reference runs to its end, keeps its arguments and leaves every counter at zero. -/
theorem frame_reference : Cert.quiescent_FfOneDxReferenceIdeal := fun m ρ _ =>
  (θ_run Cert.FfOneDxReferenceIdeal.defs _ _).mono
    (fun r h => ⟨fun c => (h c).2, sem_eq_zero_of_no_sems (by decide) r.2⟩)
    (Cert.FfOneDxReferenceIdeal.Value.run m ρ)

/-- From equal arguments the kernel and the reference leave the same array, and keep their arguments. -/
theorem algebraic : Cert.algebraic_FfOneDxIdeal_FfOneDxReferenceIdeal := by
  intro m ρ m' ρ' _ hagree
  refine ⟨fun c => G (m ((c.tc : Thread Cert.FfOneDxIdeal.nD Cert.FfOneDxIdeal.τ).loc Cert.FfOneDxIdeal.main_arg0)) (m ((c.tc : Thread Cert.FfOneDxIdeal.nD Cert.FfOneDxIdeal.τ).loc Cert.FfOneDxIdeal.main_arg1)), ?_, ?_⟩
  · refine (θ_run Cert.FfOneDxIdeal.defs _ _).mono (fun r h c => ?_) (Cert.FfOneDxIdeal.Value.run_blocks m ρ)
    obtain ⟨ho, hk⟩ := h c
    exact ⟨ho.trans (final m c), hk⟩
  · refine (θ_run Cert.FfOneDxReferenceIdeal.defs _ _).mono (fun r h c => ?_) (Cert.FfOneDxReferenceIdeal.Value.run m' ρ')
    obtain ⟨ho, hk⟩ := h c
    obtain ⟨a0, a1⟩ := hagree c
    refine ⟨ho.trans ?_, hk⟩
    rw [Cert.FfOneDxReferenceIdeal.Read.val_main_v7_eq, ref, a0, a1]

end Cert.Proof.FfOneDx

end
-- ==== Proof.InDwProduct.lean ====
/- The gradient of the input projection: the kernel's result array and the reference's, index by index. -/
module

public import proofs.«01_k».proof.Defs
public import proofs.«01_k».proof.Proof.Gen.InDwIdeal.Value
public import proofs.«01_k».proof.Proof.Gen.InDwReferenceIdeal.Run
public import proofs.«01_k».proof.Proof.Gen.InDwReferenceIdeal.Read
public import Idealize.ShloMosaic.PureOps.Ideal
public import Idealize.ShloMosaic.Lib.Pipeline.ValueKit
public import Idealize.ShloMosaic.Lib.IdealHost
public import Idealize.ShloMosaic.Lib.Pointwise
public import Idealize.ShloMosaic.Lib.Claim

@[expose] public section

noncomputable section

namespace Cert.Proof.InDw

open Idealize.ShloMosaic Idealize.ShloMosaic.TcCoe Idealize.SL.Sem Cert.InDwIdeal Cert.InDwIdeal.Gen
open Idealize.ShloMosaic.Pipeline (Dat)

/-- The gradient, entry by entry: a column of the product's input against a column of the cotangent. -/
def G (a : S4096x2048.Idx → EReal) (d : S4096x7168.Idx → EReal) (i : S8x2048x896.Idx) : EReal :=
  ∑ k : Fin 4096, a (ix2 k (i 1)) * d (ix2 k (⟨(i 0).val * 896 + (i 2).val, by have h0 : (i 0).val < 8 := (i 0).isLt; have h2 : (i 2).val < 896 := (i 2).isLt; omega⟩))

variable (m : (ℓ : Loc nD τ sig) → Buf (Elt Ideal) ℓ)

/-! ## Each window's block index at a grid point -/

theorem e0 : ∀ t : Fin cfg0.N, win0_0.index t = ![0, t.val / 8] := (by decide +kernel : ∀ t : Fin grid0.N, _)
theorem e1 : ∀ t : Fin cfg0.N, win0_1.index t = ![0, t.val % 8] := (by decide +kernel : ∀ t : Fin grid0.N, _)
theorem e2 : ∀ t : Fin cfg0.N, win0_2.index t = ![t.val % 8, t.val / 8, 0] := (by decide +kernel : ∀ t : Fin grid0.N, _)

/-! ## The kernel's side -/

/-- One block's entry. -/
theorem pay (v0 : S4096x1024.Idx → EReal) (v1 : S4096x896.Idx → EReal) (y : S1x1024x896.Idx) :
    k0_pay1 (F := Ideal) v0 v1 y = ∑ k : Fin 4096, v0 (ix2 k (y 1)) * v1 (ix2 k (y 2)) := by
  pointwise [k0_pay1]

/-- The result array, whole. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  refine (pay _ _ y).trans (Finset.sum_congr rfl fun k _ => ?_)
  refine congrArg₂ (fun a b : EReal => a * b) (congrArg (m ((c : Thread nD τ).loc main_arg0)) ?_) (congrArg (m ((c : Thread nD τ).loc main_arg1)) ?_)
  · show (win0_0.blk t).view.emb (ix2 k (y 1)) = _
    blk_ext [e0 t, e2 t]
  · show (win0_1.blk t).view.emb (ix2 k (y 2)) = _
    blk_ext [e1 t, e2 t]

/-! ## The reference's side -/

/-- The reference's result is the closed form. -/
theorem ref (x0 : S4096x2048.Idx → EReal) (x1 : S4096x7168.Idx → EReal) : Cert.InDwReferenceIdeal.Read.val_main_v10 (F := Ideal) x0 x1 = G x0 x1 := by
  funext i
  have h0 : (i 0).val < 8 := (i 0).isLt
  have h1 : (i 1).val < 2048 := (i 1).isLt
  have h2 : (i 2).val < 896 := (i 2).isLt
  simp only [Cert.InDwReferenceIdeal.Read.val_main_cst_apply, Cert.InDwReferenceIdeal.Read.val_main_v0_apply, Cert.InDwReferenceIdeal.Read.val_main_v1_apply, Cert.InDwReferenceIdeal.Read.val_main_v2_apply, Cert.InDwReferenceIdeal.Read.val_main_v3_apply, Cert.InDwReferenceIdeal.Read.val_main_v4_apply, Cert.InDwReferenceIdeal.Read.val_main_v5_apply, Cert.InDwReferenceIdeal.Read.val_main_v6_apply, Cert.InDwReferenceIdeal.Read.val_main_v7_apply, Cert.InDwReferenceIdeal.Read.val_main_v8_apply, Cert.InDwReferenceIdeal.Read.val_main_v9_apply, Cert.InDwReferenceIdeal.Read.val_main_v10_apply, Ideal.truncf_def, Ideal.extf_def]
  refine Finset.sum_congr rfl fun k _ => ?_
  refine ((fun a b : EReal => mul_comm a b) _ _).trans ?_
  refine congrArg₂ (fun a b : EReal => a * b) (congrArg x0 (funext fun b => Fin.ext ?_)) (congrArg x1 (funext fun b => Fin.ext ?_))
  · match b with
    | ⟨0, _⟩ => rfl
    | ⟨1, _⟩ => show _ = (i 1).val; simp; omega
  · match b with
    | ⟨0, _⟩ => rfl
    | ⟨1, _⟩ => simp; omega

/-! ## The claims -/

/-- The reference runs to its end, keeps its arguments and leaves every counter at zero. -/
theorem frame_reference : Cert.quiescent_InDwReferenceIdeal := fun m ρ _ =>
  (θ_run Cert.InDwReferenceIdeal.defs _ _).mono
    (fun r h => ⟨fun c => (h c).2, sem_eq_zero_of_no_sems (by decide) r.2⟩)
    (Cert.InDwReferenceIdeal.Value.run m ρ)

/-- From equal arguments the kernel and the reference leave the same array, and keep their arguments. -/
theorem algebraic : Cert.algebraic_InDwIdeal_InDwReferenceIdeal := by
  intro m ρ m' ρ' _ hagree
  refine ⟨fun c => G (m ((c.tc : Thread Cert.InDwIdeal.nD Cert.InDwIdeal.τ).loc Cert.InDwIdeal.main_arg0)) (m ((c.tc : Thread Cert.InDwIdeal.nD Cert.InDwIdeal.τ).loc Cert.InDwIdeal.main_arg1)), ?_, ?_⟩
  · refine (θ_run Cert.InDwIdeal.defs _ _).mono (fun r h c => ?_) (Cert.InDwIdeal.Value.run_blocks m ρ)
    obtain ⟨ho, hk⟩ := h c
    exact ⟨ho.trans (final m c), hk⟩
  · refine (θ_run Cert.InDwReferenceIdeal.defs _ _).mono (fun r h c => ?_) (Cert.InDwReferenceIdeal.Value.run m' ρ')
    obtain ⟨ho, hk⟩ := h c
    obtain ⟨a0, a1⟩ := hagree c
    refine ⟨ho.trans ?_, hk⟩
    rw [Cert.InDwReferenceIdeal.Read.val_main_v10_eq, ref, a0, a1]

end Cert.Proof.InDw

end
-- ==== Proof.InDxProduct.lean ====
/- The gradient of the input projection's input: the kernel's result array and the reference's, index by index. -/
module

public import proofs.«01_k».proof.Defs
public import proofs.«01_k».proof.Proof.Gen.InDxIdeal.Value
public import proofs.«01_k».proof.Proof.Gen.InDxReferenceIdeal.Run
public import proofs.«01_k».proof.Proof.Gen.InDxReferenceIdeal.Read
public import Idealize.ShloMosaic.PureOps.Ideal
public import Idealize.ShloMosaic.Lib.Pipeline.ValueKit
public import Idealize.ShloMosaic.Lib.IdealHost
public import Idealize.ShloMosaic.Lib.Pointwise
public import Idealize.ShloMosaic.Lib.Claim
public import Idealize.ShloMosaic.Lib.Pipeline.ReadBack
@[expose] public section

noncomputable section

namespace Cert.Proof.InDx

open Idealize.ShloMosaic Idealize.ShloMosaic.TcCoe Idealize.SL.Sem Cert.InDxIdeal Cert.InDxIdeal.Gen
open Idealize.ShloMosaic.Pipeline (Dat)

/-- The gradient, entry by entry: a row of the cotangent against a row of the matrix, which the shards hold side by side. -/
def G (d : S4096x7168.Idx → EReal) (w : S8x2048x896.Idx → EReal) (i : S4096x2048.Idx) : EReal :=
  ∑ k : Fin 7168, d (ix2 (i 0) k) * w (ix3 ⟨k.val / 896, by omega⟩ (i 1) ⟨k.val % 896, by omega⟩)

variable (m : (ℓ : Loc nD τ sig) → Buf (Elt Ideal) ℓ)

/-! ## Each window's block index at a grid point -/

theorem e0 : ∀ t : Fin cfg0.N, win0_0.index t = ![t.val / 4, t.val % 2] := (by decide +kernel : ∀ t : Fin grid0.N, _)
theorem e1 : ∀ t : Fin cfg0.N, win0_1.index t = ![t.val % 2, t.val / 2 % 2, 0] := (by decide +kernel : ∀ t : Fin grid0.N, _)
theorem e2 : ∀ t : Fin cfg0.N, win0_2.index t = ![t.val / 4, t.val / 2 % 2] := (by decide +kernel : ∀ t : Fin grid0.N, _)

/-! ## The kernel's side -/

/-- What one grid point adds: its four shards' columns of the cotangent against the same shards' columns of the matrix. -/
def part (x0 : S1024x3584.Idx → EReal) (x1 : S4x1024x896.Idx → EReal) (y : S1024x1024.Idx) : EReal :=
  ∑ l : Fin 3584, x0 (ix2 (y 0) l) * x1 (ix3 ⟨l.val / 896, by omega⟩ (y 1) ⟨l.val % 896, by omega⟩)

/-- The four shards' products, added in turn, are the product over their columns side by side. -/
theorem pay_part (x0 : S1024x3584.Idx → EReal) (x1 : S4x1024x896.Idx → EReal) (a0 a1 a2 a3 : S1024x896.Idx → EReal) (b0 b1 b2 b3 : S1x1024x896.Idx → EReal)
    (ha0 : ∀ r (k : Fin 896), a0 (ix2 r k) = x0 (ix2 r ⟨0 * 896 + k.val, by omega⟩)) (ha1 : ∀ r (k : Fin 896), a1 (ix2 r k) = x0 (ix2 r ⟨1 * 896 + k.val, by omega⟩))
    (ha2 : ∀ r (k : Fin 896), a2 (ix2 r k) = x0 (ix2 r ⟨2 * 896 + k.val, by omega⟩)) (ha3 : ∀ r (k : Fin 896), a3 (ix2 r k) = x0 (ix2 r ⟨3 * 896 + k.val, by omega⟩))
    (hb0 : ∀ r k, b0 (ix3 0 r k) = x1 (ix3 0 r k)) (hb1 : ∀ r k, b1 (ix3 0 r k) = x1 (ix3 1 r k))
    (hb2 : ∀ r k, b2 (ix3 0 r k) = x1 (ix3 2 r k)) (hb3 : ∀ r k, b3 (ix3 0 r k) = x1 (ix3 3 r k)) (y : S1024x1024.Idx) :
    k0_pay2 (F := Ideal) a0 b0 a1 b1 a2 b2 a3 b3 y = part x0 x1 y := by
  have hp : k0_pay2 (F := Ideal) a0 b0 a1 b1 a2 b2 a3 b3 y =
      (((∑ k : Fin 896, a0 (ix2 (y 0) k) * b0 (ix3 0 (y 1) k)) + ∑ k : Fin 896, a1 (ix2 (y 0) k) * b1 (ix3 0 (y 1) k))
        + ∑ k : Fin 896, a2 (ix2 (y 0) k) * b2 (ix3 0 (y 1) k)) + ∑ k : Fin 896, a3 (ix2 (y 0) k) * b3 (ix3 0 (y 1) k) := by
    pointwise [k0_pay2]
  rw [hp]
  unfold part
  refine Eq.trans ?_ (Fin.sum_mul_add_congr (S := 4) (n := 896) (F := fun s k => x0 (ix2 (y 0) ⟨s.val * 896 + k.val, by omega⟩) * x1 (ix3 s (y 1) k))
    (fun s k hl => ?_))
  · rw [Fin.sum_univ_four]
    refine congrArg₂ (· + ·) (congrArg₂ (· + ·) (congrArg₂ (· + ·) ?_ ?_) ?_) ?_ <;> refine Finset.sum_congr rfl fun k _ => ?_
    · exact congrArg₂ (fun a b : EReal => a * b) (ha0 (y 0) k) (hb0 (y 1) k)
    · exact congrArg₂ (fun a b : EReal => a * b) (ha1 (y 0) k) (hb1 (y 1) k)
    · exact congrArg₂ (fun a b : EReal => a * b) (ha2 (y 0) k) (hb2 (y 1) k)
    · exact congrArg₂ (fun a b : EReal => a * b) (ha3 (y 0) k) (hb3 (y 1) k)
  · have hs := s.isLt
    have hk := k.isLt
    refine congrArg (fun b : EReal => x0 (ix2 (y 0) ⟨s.val * 896 + k.val, hl⟩) * b) (congrArg x1 ?_)
    funext b
    match b with
    | ⟨0, _⟩ => exact Fin.ext (show s.val = (s.val * 896 + k.val) / 896 by omega)
    | ⟨1, _⟩ => rfl
    | ⟨2, _⟩ => exact Fin.ext (show k.val = (s.val * 896 + k.val) % 896 by omega)

/-- The four shards' products at a grid point, off the parts of the two blocks the body loads. -/
theorem pay_ld (x0 : Vec Ideal S1024x3584 .bf16) (x1 : Vec Ideal S4x1024x896 .bf16) (y : S1024x1024.Idx) :
    k0_pay2 (F := Ideal) (View.ld x0 (Rect.unit (s := S1024x3584) ![0, 0] S1024x896.size inb_S1024x3584_S1024x896_0_0)) (View.ld x1 (Rect.unit (s := S4x1024x896) ![0, 0, 0] S1x1024x896.size inb_S4x1024x896_S1x1024x896_0_0_0)) (View.ld x0 (Rect.unit (s := S1024x3584) ![0, 896] S1024x896.size inb_S1024x3584_S1024x896_0_896)) (View.ld x1 (Rect.unit (s := S4x1024x896) ![1, 0, 0] S1x1024x896.size inb_S4x1024x896_S1x1024x896_1_0_0)) (View.ld x0 (Rect.unit (s := S1024x3584) ![0, 1792] S1024x896.size inb_S1024x3584_S1024x896_0_1792)) (View.ld x1 (Rect.unit (s := S4x1024x896) ![2, 0, 0] S1x1024x896.size inb_S4x1024x896_S1x1024x896_2_0_0)) (View.ld x0 (Rect.unit (s := S1024x3584) ![0, 2688] S1024x896.size inb_S1024x3584_S1024x896_0_2688)) (View.ld x1 (Rect.unit (s := S4x1024x896) ![3, 0, 0] S1x1024x896.size inb_S4x1024x896_S1x1024x896_3_0_0)) y = part x0 x1 y :=
  pay_part x0 x1 _ _ _ _ _ _ _ _ (fun r k => congrArg x0 (funext fun b => Fin.ext (by match b with | ⟨0, _⟩ => exact (show 0 + 1 * r.val = r.val by omega) | ⟨1, _⟩ => exact (show 0 + 1 * k.val = 0 * 896 + k.val by omega)))) (fun r k => congrArg x0 (funext fun b => Fin.ext (by match b with | ⟨0, _⟩ => exact (show 0 + 1 * r.val = r.val by omega) | ⟨1, _⟩ => exact (show 896 + 1 * k.val = 1 * 896 + k.val by omega)))) (fun r k => congrArg x0 (funext fun b => Fin.ext (by match b with | ⟨0, _⟩ => exact (show 0 + 1 * r.val = r.val by omega) | ⟨1, _⟩ => exact (show 1792 + 1 * k.val = 2 * 896 + k.val by omega)))) (fun r k => congrArg x0 (funext fun b => Fin.ext (by match b with | ⟨0, _⟩ => exact (show 0 + 1 * r.val = r.val by omega) | ⟨1, _⟩ => exact (show 2688 + 1 * k.val = 3 * 896 + k.val by omega)))) (fun r k => congrArg x1 (funext fun b => Fin.ext (by match b with | ⟨0, _⟩ => rfl | ⟨1, _⟩ => exact (show 0 + 1 * r.val = r.val by omega) | ⟨2, _⟩ => exact (show 0 + 1 * k.val = k.val by omega)))) (fun r k => congrArg x1 (funext fun b => Fin.ext (by match b with | ⟨0, _⟩ => rfl | ⟨1, _⟩ => exact (show 0 + 1 * r.val = r.val by omega) | ⟨2, _⟩ => exact (show 0 + 1 * k.val = k.val by omega)))) (fun r k => congrArg x1 (funext fun b => Fin.ext (by match b with | ⟨0, _⟩ => rfl | ⟨1, _⟩ => exact (show 0 + 1 * r.val = r.val by omega) | ⟨2, _⟩ => exact (show 0 + 1 * k.val = k.val by omega)))) (fun r k => congrArg x1 (funext fun b => Fin.ext (by match b with | ⟨0, _⟩ => rfl | ⟨1, _⟩ => exact (show 0 + 1 * r.val = r.val by omega) | ⟨2, _⟩ => exact (show 0 + 1 * k.val = k.val by omega)))) y

/-- The first point of a run stores its product. -/
theorem pay_first (x0 : Vec Ideal S1024x3584 .bf16) (x1 : Vec Ideal S4x1024x896 .bf16) (y : S1024x1024.Idx) :
    k0_pay3 (F := Ideal) (View.ld x0 (Rect.unit (s := S1024x3584) ![0, 0] S1024x896.size inb_S1024x3584_S1024x896_0_0)) (View.ld x1 (Rect.unit (s := S4x1024x896) ![0, 0, 0] S1x1024x896.size inb_S4x1024x896_S1x1024x896_0_0_0)) (View.ld x0 (Rect.unit (s := S1024x3584) ![0, 896] S1024x896.size inb_S1024x3584_S1024x896_0_896)) (View.ld x1 (Rect.unit (s := S4x1024x896) ![1, 0, 0] S1x1024x896.size inb_S4x1024x896_S1x1024x896_1_0_0)) (View.ld x0 (Rect.unit (s := S1024x3584) ![0, 1792] S1024x896.size inb_S1024x3584_S1024x896_0_1792)) (View.ld x1 (Rect.unit (s := S4x1024x896) ![2, 0, 0] S1x1024x896.size inb_S4x1024x896_S1x1024x896_2_0_0)) (View.ld x0 (Rect.unit (s := S1024x3584) ![0, 2688] S1024x896.size inb_S1024x3584_S1024x896_0_2688)) (View.ld x1 (Rect.unit (s := S4x1024x896) ![3, 0, 0] S1x1024x896.size inb_S4x1024x896_S1x1024x896_3_0_0)) y = part x0 x1 y := by
  unfold k0_pay3
  rw [shapeCast_self]
  exact pay_ld x0 x1 y

/-- A later point adds its product. -/
theorem pay_next (x0 : Vec Ideal S1024x3584 .bf16) (x1 : Vec Ideal S4x1024x896 .bf16) (a : S1024x1024.Idx → EReal) (y : S1024x1024.Idx) :
    k0_pay4 (F := Ideal) (View.ld x0 (Rect.unit (s := S1024x3584) ![0, 0] S1024x896.size inb_S1024x3584_S1024x896_0_0)) (View.ld x1 (Rect.unit (s := S4x1024x896) ![0, 0, 0] S1x1024x896.size inb_S4x1024x896_S1x1024x896_0_0_0)) (View.ld x0 (Rect.unit (s := S1024x3584) ![0, 896] S1024x896.size inb_S1024x3584_S1024x896_0_896)) (View.ld x1 (Rect.unit (s := S4x1024x896) ![1, 0, 0] S1x1024x896.size inb_S4x1024x896_S1x1024x896_1_0_0)) (View.ld x0 (Rect.unit (s := S1024x3584) ![0, 1792] S1024x896.size inb_S1024x3584_S1024x896_0_1792)) (View.ld x1 (Rect.unit (s := S4x1024x896) ![2, 0, 0] S1x1024x896.size inb_S4x1024x896_S1x1024x896_2_0_0)) (View.ld x0 (Rect.unit (s := S1024x3584) ![0, 2688] S1024x896.size inb_S1024x3584_S1024x896_0_2688)) (View.ld x1 (Rect.unit (s := S4x1024x896) ![3, 0, 0] S1x1024x896.size inb_S4x1024x896_S1x1024x896_3_0_0)) a y = a y + part x0 x1 y := by
  unfold k0_pay4
  rw [shapeCast_self]
  exact congrArg (fun p : EReal => a y + p) (pay_ld x0 x1 y)

/-- At the last point of a run the block written back is the running sum. -/
theorem out_eq (c : Dev nD) (t : Fin cfg0.N) (h : t.val % 2 = 2 - 1) :
    ((outsAt0 m c t.val t.isLt).1 : S1024x1024.Idx → EReal) = (outsAt0 m c t.val t.isLt).2 := by
  rw [outsAt0_B m c t (by omega) (by omega) (by omega)]
  frame_out
  funext y
  rfl

/-- The running sum at the last point of a run: the sum of the run's products. -/
theorem acc_eq (c : Dev nD) (t : Fin cfg0.N) (h : t.val % 2 = 2 - 1) (y : S1024x1024.Idx) :
    ((outsAt0 m c t.val t.isLt).2 : S1024x1024.Idx → EReal) y =
      ∑ s : Fin 2, part (iblk m c 0 ⟨2 * (t.val / 2) + s.val, Pipeline.run_point_lt_of_flush t h s⟩) (iblk m c 1 ⟨2 * (t.val / 2) + s.val, Pipeline.run_point_lt_of_flush t h s⟩) y := by
  refine (Pipeline.eq_sum_fin_of_reset_step_apply_of_flush (M := EReal) (fun n h => (outsAt0 m c n h).2) 2 (fun _ => (0 : EReal))
    (fun t y => part (iblk m c 0 t) (iblk m c 1 t) y) (fun t h j => ?_) (fun t h j => ?_) t h y).trans (zero_add _)
  · show (outsAt0 m c t.val t.isLt).2 j = _
    rw [outsAt0_A m c t (by omega) (by omega) (by omega)]
    frame_out
    exact (pay_first _ _ j).trans (zero_add _).symm
  · show (outsAt0 m c t.val t.isLt).2 j = _
    rw [outsAt0_B m c t (by omega) (by omega) (by omega)]
    frame_out
    rw [read_unread_whole]
    exact pay_next _ _ _ j

/-- The result array, whole. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  have ht : t.val % 2 = 2 - 1 := (flush0_2 t).mp hf
  blk_simp
  rw [after0_2, out_eq m c t ht]
  refine (acc_eq m c t ht y).trans (Fin.sum_mul_add_congr fun s k hl => ?_)
  have hs : s.val < 2 := s.isLt
  have hk : k.val < 3584 := k.isLt
  have htt : t.val < 16 := t.isLt
  refine congrArg₂ (fun a b : EReal => a * b) (congrArg (m ((c : Thread nD τ).loc main_arg0)) ?_) (congrArg (m ((c : Thread nD τ).loc main_arg1)) ?_)
  · show (win0_0.blk _).view.emb (ix2 (y 0) k) = _
    blk_ext [e0 _, e2 t]
  · show (win0_1.blk _).view.emb (ix3 ⟨k.val / 896, by omega⟩ (y 1) ⟨k.val % 896, by omega⟩) = _
    blk_ext [e1 _, e2 t]

/-! ## The reference's side -/

/-- The reference's result is the closed form. -/
theorem ref (x0 : S4096x7168.Idx → EReal) (x1 : S8x2048x896.Idx → EReal) : Cert.InDxReferenceIdeal.Read.val_main_v7 (F := Ideal) x0 x1 = G x0 x1 := by
  funext i
  have h1 : (i 1).val < 2048 := (i 1).isLt
  simp only [Cert.InDxReferenceIdeal.Read.val_main_cst_apply, Cert.InDxReferenceIdeal.Read.val_main_v0_apply, Cert.InDxReferenceIdeal.Read.val_main_v1_apply, Cert.InDxReferenceIdeal.Read.val_main_v2_apply, Cert.InDxReferenceIdeal.Read.val_main_v3_apply, Cert.InDxReferenceIdeal.Read.val_main_v4_apply, Cert.InDxReferenceIdeal.Read.val_main_v5_apply, Cert.InDxReferenceIdeal.Read.val_main_v6_apply, Cert.InDxReferenceIdeal.Read.val_main_v7_apply, Ideal.truncf_def, Ideal.extf_def]
  refine Finset.sum_congr rfl fun k _ => ?_
  have hk : k.val < 7168 := k.isLt
  refine congrArg₂ (fun a b : EReal => a * b) (congrArg x0 (funext fun b => Fin.ext ?_)) (congrArg x1 (funext fun b => Fin.ext ?_))
  · match b with
    | ⟨0, _⟩ => rfl
    | ⟨1, _⟩ => rfl
  · match b with
    | ⟨0, _⟩ => simp; omega
    | ⟨1, _⟩ => simp; omega
    | ⟨2, _⟩ => simp; omega

/-! ## The claims -/

/-- The reference runs to its end, keeps its arguments and leaves every counter at zero. -/
theorem frame_reference : Cert.quiescent_InDxReferenceIdeal := fun m ρ _ =>
  (θ_run Cert.InDxReferenceIdeal.defs _ _).mono
    (fun r h => ⟨fun c => (h c).2, sem_eq_zero_of_no_sems (by decide) r.2⟩)
    (Cert.InDxReferenceIdeal.Value.run m ρ)

/-- From equal arguments the kernel and the reference leave the same array, and keep their arguments. -/
theorem algebraic : Cert.algebraic_InDxIdeal_InDxReferenceIdeal := by
  intro m ρ m' ρ' _ hagree
  refine ⟨fun c => G (m ((c.tc : Thread Cert.InDxIdeal.nD Cert.InDxIdeal.τ).loc Cert.InDxIdeal.main_arg0)) (m ((c.tc : Thread Cert.InDxIdeal.nD Cert.InDxIdeal.τ).loc Cert.InDxIdeal.main_arg1)), ?_, ?_⟩
  · refine (θ_run Cert.InDxIdeal.defs _ _).mono (fun r h c => ?_) (Cert.InDxIdeal.Value.run_blocks m ρ)
    obtain ⟨ho, hk⟩ := h c
    exact ⟨ho.trans (final m c), hk⟩
  · refine (θ_run Cert.InDxReferenceIdeal.defs _ _).mono (fun r h c => ?_) (Cert.InDxReferenceIdeal.Value.run m' ρ')
    obtain ⟨ho, hk⟩ := h c
    obtain ⟨a0, a1⟩ := hagree c
    refine ⟨ho.trans ?_, hk⟩
    rw [Cert.InDxReferenceIdeal.Read.val_main_v7_eq, ref, a0, a1]

end Cert.Proof.InDx

end
-- ==== Proof.AdamMath.lean ====
/- One step of the optimiser at one entry: the two moments and the update. -/
module

public import Idealize.ShloMosaic.PureOps.Ideal

@[expose] public section

noncomputable section

namespace Cert.Proof.Adam

open Idealize.ShloMosaic

/-- The first moment after a step with gradient `g`. -/
def mom (g m : EReal) : EReal := Ideal.ofBits .f32 0x3F666666#32 * m + Ideal.ofBits .f32 0x3DCCCCCD#32 * g

/-- The second moment after a step with gradient `g`. -/
def sqr (g v : EReal) : EReal := Ideal.ofBits .f32 0x3F7FBE77#32 * v + Ideal.ofBits .f32 0x3A83126F#32 * (g * g)

/-- The update of a weight `w`: the corrected first moment over the root of the corrected second, and the decay. -/
def step (w g m v : EReal) : EReal :=
  Ideal.ofBits .f32 0xBA83126F#32 * (Ideal.div (Ideal.div (mom g m) (Ideal.ofBits .f32 0x3F26BD02#32))
    (Ideal.sqrt (Ideal.div (sqr g v) (Ideal.ofBits .f32 0x3C231ACC#32)) + Ideal.ofBits .f32 0x322BCC77#32) + Ideal.ofBits .f32 0x3C23D70A#32 * w)

/-- The update, array by array. -/
def upd {s : Shape} (w g m v : s.Idx → EReal) (i : s.Idx) : EReal := step (w i) (g i) (m i) (v i)

/-- The new first moments, array by array. -/
def moms {s : Shape} (g m : s.Idx → EReal) (i : s.Idx) : EReal := mom (g i) (m i)

/-- The new second moments, array by array. -/
def sqrs {s : Shape} (g v : s.Idx → EReal) (i : s.Idx) : EReal := sqr (g i) (v i)

/-- Equal arguments give equal results. -/
theorem cong4 (f : EReal → EReal → EReal → EReal → EReal) {a a' b b' c c' d d' : EReal} (ha : a = a') (hb : b = b') (hc : c = c') (hd : d = d') :
    f a b c d = f a' b' c' d' := by rw [ha, hb, hc, hd]

end Cert.Proof.Adam

end
-- ==== Proof.AdamInClaim.lean ====
/- The optimiser's step for the input projection's matrix: the kernel's four arrays and the reference's, index by index. -/
module

public import proofs.«01_k».proof.Defs
public import proofs.«01_k».proof.Proof.AdamMath
public import proofs.«01_k».proof.Proof.Gen.AdamInIdeal.Value
public import proofs.«01_k».proof.Proof.Gen.AdamInReferenceIdeal.Run
public import proofs.«01_k».proof.Proof.Gen.AdamInReferenceIdeal.Read
public import Idealize.ShloMosaic.PureOps.Ideal
public import Idealize.ShloMosaic.Lib.Pipeline.ValueKit
public import Idealize.ShloMosaic.Lib.IdealHost
public import Idealize.ShloMosaic.Lib.Pointwise
public import Idealize.ShloMosaic.Lib.Claim

@[expose] public section

noncomputable section

namespace Cert.Proof.AdamIn

open Idealize.ShloMosaic Idealize.ShloMosaic.TcCoe Idealize.SL.Sem Cert.AdamInIdeal Cert.AdamInIdeal.Gen
open Idealize.ShloMosaic.Pipeline (Dat)
open Cert.Proof.Adam

variable (m : (ℓ : Loc nD τ sig) → Buf (Elt Ideal) ℓ)

/-- The whole gradient: what the eight devices sent, added up. -/
def G (p : S8x2048x896.Idx → EReal) (i : S2048x896.Idx) : EReal := ∑ j : Fin 8, p (ix3 j (i 0) (i 1))
/-- The update. -/
def D (p : S8x2048x896.Idx → EReal) (w m v : S2048x896.Idx → EReal) (i : S2048x896.Idx) : EReal := step (w i) (G p i) (m i) (v i)
/-- The new first moment. -/
def M (p : S8x2048x896.Idx → EReal) (m : S2048x896.Idx → EReal) (i : S2048x896.Idx) : EReal := mom (G p i) (m i)
/-- The new second moment. -/
def W (p : S8x2048x896.Idx → EReal) (v : S2048x896.Idx → EReal) (i : S2048x896.Idx) : EReal := sqr (G p i) (v i)

/-! ## Each window's block index at a grid point -/

theorem e0 : ∀ t : Fin cfg0.N, win0_0.index t = ![0, t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![t.val, 0] := (by decide +kernel : ∀ t : Fin grid0.N, _)

/-! ## The kernel's side -/

/-- One entry of a block of the gradient. -/
theorem pay4 (v0 v3 v7 v11 v15 v19 v23 v27 : S1x128x896.Idx → EReal) (y : S128x896.Idx) :
    k0_pay4 (F := Ideal) v0 v3 v7 v11 v15 v19 v23 v27 y = v0 (ix3 0 (y 0) (y 1)) + v3 (ix3 0 (y 0) (y 1)) + v7 (ix3 0 (y 0) (y 1)) + v11 (ix3 0 (y 0) (y 1)) + v15 (ix3 0 (y 0) (y 1)) + v19 (ix3 0 (y 0) (y 1)) + v23 (ix3 0 (y 0) (y 1)) + v27 (ix3 0 (y 0) (y 1)) := by
  pointwise [k0_pay4]

/-- One entry of a block of the first moment. -/
theorem pay1 (g m : S128x896.Idx → EReal) (y : S128x896.Idx) : k0_pay1 (F := Ideal) g m y = mom (g y) (m y) := by
  pointwise [k0_pay1, mom]

/-- One entry of a block of the second moment. -/
theorem pay2 (g v : S128x896.Idx → EReal) (y : S128x896.Idx) : k0_pay2 (F := Ideal) g v y = sqr (g y) (v y) := by
  pointwise [k0_pay2, sqr]

/-- One entry of a block of the update. -/
theorem pay3 (g w m v : S128x896.Idx → EReal) (y : S128x896.Idx) : k0_pay3 (F := Ideal) g w m v y = step (w y) (g y) (m y) (v y) := by
  pointwise [k0_pay3, pay1, pay2, step]

/-- One entry of the gradient the kernel forms of a point's blocks. -/
theorem grad_at (c : Dev nD) (t : Fin cfg0.N) (y : S128x896.Idx) (i : S2048x896.Idx) (hi : i = (win0_4.blk t).view.emb y) :
    k0_pay4 (F := Ideal) (View.ld (iblk m c 0 t : S8x128x896.Idx → EReal) (Rect.unit (s := S8x128x896) ![0, 0, 0] S1x128x896.size inb_S8x128x896_S1x128x896_0_0_0)) (View.ld (iblk m c 0 t : S8x128x896.Idx → EReal) (Rect.unit (s := S8x128x896) ![1, 0, 0] S1x128x896.size inb_S8x128x896_S1x128x896_1_0_0)) (View.ld (iblk m c 0 t : S8x128x896.Idx → EReal) (Rect.unit (s := S8x128x896) ![2, 0, 0] S1x128x896.size inb_S8x128x896_S1x128x896_2_0_0)) (View.ld (iblk m c 0 t : S8x128x896.Idx → EReal) (Rect.unit (s := S8x128x896) ![3, 0, 0] S1x128x896.size inb_S8x128x896_S1x128x896_3_0_0)) (View.ld (iblk m c 0 t : S8x128x896.Idx → EReal) (Rect.unit (s := S8x128x896) ![4, 0, 0] S1x128x896.size inb_S8x128x896_S1x128x896_4_0_0)) (View.ld (iblk m c 0 t : S8x128x896.Idx → EReal) (Rect.unit (s := S8x128x896) ![5, 0, 0] S1x128x896.size inb_S8x128x896_S1x128x896_5_0_0)) (View.ld (iblk m c 0 t : S8x128x896.Idx → EReal) (Rect.unit (s := S8x128x896) ![6, 0, 0] S1x128x896.size inb_S8x128x896_S1x128x896_6_0_0)) (View.ld (iblk m c 0 t : S8x128x896.Idx → EReal) (Rect.unit (s := S8x128x896) ![7, 0, 0] S1x128x896.size inb_S8x128x896_S1x128x896_7_0_0)) y = G (m ((c : Thread nD τ).loc main_arg0)) i := by
  subst hi
  refine (pay4 _ _ _ _ _ _ _ _ y).trans ?_
  unfold G
  rw [Fin.sum_univ_eight]
  have h : ∀ j : Fin 8, (win0_0.blk t).view.emb (ix3 j (y 0) (y 1)) = ix3 j ((win0_4.blk t).view.emb y 0) ((win0_4.blk t).view.emb y 1) := fun j => by
    blk_ext [e0 t, e4 t]
  refine congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (?_) ?_) ?_) ?_) ?_) ?_) ?_) ?_
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 0))
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 1))
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 2))
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 3))
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 4))
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 5))
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 6))
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 7))

/-- The result array, whole. -/
theorem finalG (c : Dev nD) : (dats m 0 c).arrAt 4 cfg0.N = G (m ((c : Thread nD τ).loc main_arg0)) := by
  refine (dats m 0 c).arrAt_eq_of_covers 4 _ (by decide +kernel) fun t hf y => ?_
  blk_simp
  rw [after0_4]
  unfold out0_4
  try frame_out
  exact grad_at m c t y _ rfl

/-- The result array, whole. -/
theorem finalD (c : Dev nD) : (dats m 0 c).arrAt 5 cfg0.N = D (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  unfold out0_5
  try frame_out
  refine (pay3 _ _ _ _ y).trans ?_
  unfold D
  refine cong4 step (congrArg (m ((c : Thread nD τ).loc main_arg1)) (show (win0_1.blk t).view.emb y = (win0_5.blk t).view.emb y by blk_ext [e1 t, e5 t])) (grad_at m c t y _ (by blk_ext [e4 t, e5 t])) (congrArg (m ((c : Thread nD τ).loc main_arg2)) (show (win0_2.blk t).view.emb y = (win0_5.blk t).view.emb y by blk_ext [e2 t, e5 t])) (congrArg (m ((c : Thread nD τ).loc main_arg3)) (show (win0_3.blk t).view.emb y = (win0_5.blk t).view.emb y by blk_ext [e3 t, e5 t]))

/-- The result array, whole. -/
theorem finalM (c : Dev nD) : (dats m 0 c).arrAt 6 cfg0.N = M (m ((c : Thread nD τ).loc main_arg0)) (m ((c : Thread nD τ).loc main_arg2)) := by
  refine (dats m 0 c).arrAt_eq_of_covers 6 _ (by decide +kernel) fun t hf y => ?_
  blk_simp
  rw [after0_6]
  unfold out0_6
  try frame_out
  refine (pay1 _ _ y).trans ?_
  unfold M
  exact congrArg₂ mom (grad_at m c t y _ (by blk_ext [e4 t, e6 t])) (congrArg (m ((c : Thread nD τ).loc main_arg2)) (show (win0_2.blk t).view.emb y = (win0_6.blk t).view.emb y by blk_ext [e2 t, e6 t]))

/-- The result array, whole. -/
theorem finalW (c : Dev nD) : (dats m 0 c).arrAt 7 cfg0.N = W (m ((c : Thread nD τ).loc main_arg0)) (m ((c : Thread nD τ).loc main_arg3)) := by
  refine (dats m 0 c).arrAt_eq_of_covers 7 _ (by decide +kernel) fun t hf y => ?_
  blk_simp
  rw [after0_7]
  unfold out0_7
  try frame_out
  refine (pay2 _ _ y).trans ?_
  unfold W
  exact congrArg₂ sqr (grad_at m c t y _ (by blk_ext [e4 t, e7 t])) (congrArg (m ((c : Thread nD τ).loc main_arg3)) (show (win0_3.blk t).view.emb y = (win0_7.blk t).view.emb y by blk_ext [e3 t, e7 t]))

/-! ## The reference's side -/

/-- The reference's gradient. -/
theorem refG (x0 : S8x2048x896.Idx → EReal) : Cert.AdamInReferenceIdeal.Read.val_main_v1 (F := Ideal) x0 = G x0 := by
  funext i
  simp only [Cert.AdamInReferenceIdeal.Read.val_main_v1_apply, Cert.AdamInReferenceIdeal.Read.val_main_cst_apply, Cert.AdamInReferenceIdeal.Read.val_main_v0_apply, Ideal.extf_def, Ideal.ofBits_def, Ideal.ofBits_zero_f32, zero_add]
  refine Finset.sum_congr rfl fun j _ => congrArg x0 (funext fun b => Fin.ext ?_)
  match b with
  | ⟨0, _⟩ => rfl
  | ⟨1, _⟩ => rfl
  | ⟨2, _⟩ => rfl

/-- The reference's result is the closed form. -/
theorem refD (x0 : S8x2048x896.Idx → EReal) (x1 x2 x3 : S2048x896.Idx → EReal) : Cert.AdamInReferenceIdeal.Read.val_main_v25 (F := Ideal) x0 x1 x2 x3 = D x0 x1 x2 x3 := by
  funext i
  simp only [Cert.AdamInReferenceIdeal.Read.val_main_cst_0_apply, Cert.AdamInReferenceIdeal.Read.val_main_v2_apply, Cert.AdamInReferenceIdeal.Read.val_main_v3_apply, Cert.AdamInReferenceIdeal.Read.val_main_cst_1_apply, Cert.AdamInReferenceIdeal.Read.val_main_v4_apply, Cert.AdamInReferenceIdeal.Read.val_main_v5_apply, Cert.AdamInReferenceIdeal.Read.val_main_v6_apply, Cert.AdamInReferenceIdeal.Read.val_main_cst_2_apply, Cert.AdamInReferenceIdeal.Read.val_main_v7_apply, Cert.AdamInReferenceIdeal.Read.val_main_v8_apply, Cert.AdamInReferenceIdeal.Read.val_main_v9_apply, Cert.AdamInReferenceIdeal.Read.val_main_cst_3_apply, Cert.AdamInReferenceIdeal.Read.val_main_v10_apply, Cert.AdamInReferenceIdeal.Read.val_main_v11_apply, Cert.AdamInReferenceIdeal.Read.val_main_v12_apply, Cert.AdamInReferenceIdeal.Read.val_main_cst_4_apply, Cert.AdamInReferenceIdeal.Read.val_main_v13_apply, Cert.AdamInReferenceIdeal.Read.val_main_v14_apply, Cert.AdamInReferenceIdeal.Read.val_main_cst_5_apply, Cert.AdamInReferenceIdeal.Read.val_main_v15_apply, Cert.AdamInReferenceIdeal.Read.val_main_v16_apply, Cert.AdamInReferenceIdeal.Read.val_main_v17_apply, Cert.AdamInReferenceIdeal.Read.val_main_cst_6_apply, Cert.AdamInReferenceIdeal.Read.val_main_v18_apply, Cert.AdamInReferenceIdeal.Read.val_main_v19_apply, Cert.AdamInReferenceIdeal.Read.val_main_v20_apply, Cert.AdamInReferenceIdeal.Read.val_main_cst_7_apply, Cert.AdamInReferenceIdeal.Read.val_main_v21_apply, Cert.AdamInReferenceIdeal.Read.val_main_v22_apply, Cert.AdamInReferenceIdeal.Read.val_main_v23_apply, Cert.AdamInReferenceIdeal.Read.val_main_cst_8_apply, Cert.AdamInReferenceIdeal.Read.val_main_v24_apply, Cert.AdamInReferenceIdeal.Read.val_main_v25_apply, refG, Ideal.truncf_def, Ideal.extf_def, Ideal.mulf_def, Ideal.addf_def, Ideal.divf_def, Ideal.sqrt_def, Ideal.hostUnary_sqrt_def, Ideal.hostDivf_def, Ideal.ofBits_def, Ideal.ofBits_zero_f32, zero_add]
  rfl

/-- The reference's result is the closed form. -/
theorem refM (x0 : S8x2048x896.Idx → EReal) (x2 : S2048x896.Idx → EReal) : Cert.AdamInReferenceIdeal.Read.val_main_v6 (F := Ideal) x0 x2 = M x0 x2 := by
  funext i
  simp only [Cert.AdamInReferenceIdeal.Read.val_main_cst_0_apply, Cert.AdamInReferenceIdeal.Read.val_main_v2_apply, Cert.AdamInReferenceIdeal.Read.val_main_v3_apply, Cert.AdamInReferenceIdeal.Read.val_main_cst_1_apply, Cert.AdamInReferenceIdeal.Read.val_main_v4_apply, Cert.AdamInReferenceIdeal.Read.val_main_v5_apply, Cert.AdamInReferenceIdeal.Read.val_main_v6_apply, Cert.AdamInReferenceIdeal.Read.val_main_cst_2_apply, Cert.AdamInReferenceIdeal.Read.val_main_v7_apply, Cert.AdamInReferenceIdeal.Read.val_main_v8_apply, Cert.AdamInReferenceIdeal.Read.val_main_v9_apply, Cert.AdamInReferenceIdeal.Read.val_main_cst_3_apply, Cert.AdamInReferenceIdeal.Read.val_main_v10_apply, Cert.AdamInReferenceIdeal.Read.val_main_v11_apply, Cert.AdamInReferenceIdeal.Read.val_main_v12_apply, Cert.AdamInReferenceIdeal.Read.val_main_cst_4_apply, Cert.AdamInReferenceIdeal.Read.val_main_v13_apply, Cert.AdamInReferenceIdeal.Read.val_main_v14_apply, Cert.AdamInReferenceIdeal.Read.val_main_cst_5_apply, Cert.AdamInReferenceIdeal.Read.val_main_v15_apply, Cert.AdamInReferenceIdeal.Read.val_main_v16_apply, Cert.AdamInReferenceIdeal.Read.val_main_v17_apply, Cert.AdamInReferenceIdeal.Read.val_main_cst_6_apply, Cert.AdamInReferenceIdeal.Read.val_main_v18_apply, Cert.AdamInReferenceIdeal.Read.val_main_v19_apply, Cert.AdamInReferenceIdeal.Read.val_main_v20_apply, Cert.AdamInReferenceIdeal.Read.val_main_cst_7_apply, Cert.AdamInReferenceIdeal.Read.val_main_v21_apply, Cert.AdamInReferenceIdeal.Read.val_main_v22_apply, Cert.AdamInReferenceIdeal.Read.val_main_v23_apply, Cert.AdamInReferenceIdeal.Read.val_main_cst_8_apply, Cert.AdamInReferenceIdeal.Read.val_main_v24_apply, Cert.AdamInReferenceIdeal.Read.val_main_v25_apply, refG, Ideal.truncf_def, Ideal.extf_def, Ideal.mulf_def, Ideal.addf_def, Ideal.divf_def, Ideal.sqrt_def, Ideal.hostUnary_sqrt_def, Ideal.hostDivf_def, Ideal.ofBits_def, Ideal.ofBits_zero_f32, zero_add]
  rfl

/-- The reference's result is the closed form. -/
theorem refW (x0 : S8x2048x896.Idx → EReal) (x3 : S2048x896.Idx → EReal) : Cert.AdamInReferenceIdeal.Read.val_main_v12 (F := Ideal) x0 x3 = W x0 x3 := by
  funext i
  simp only [Cert.AdamInReferenceIdeal.Read.val_main_cst_0_apply, Cert.AdamInReferenceIdeal.Read.val_main_v2_apply, Cert.AdamInReferenceIdeal.Read.val_main_v3_apply, Cert.AdamInReferenceIdeal.Read.val_main_cst_1_apply, Cert.AdamInReferenceIdeal.Read.val_main_v4_apply, Cert.AdamInReferenceIdeal.Read.val_main_v5_apply, Cert.AdamInReferenceIdeal.Read.val_main_v6_apply, Cert.AdamInReferenceIdeal.Read.val_main_cst_2_apply, Cert.AdamInReferenceIdeal.Read.val_main_v7_apply, Cert.AdamInReferenceIdeal.Read.val_main_v8_apply, Cert.AdamInReferenceIdeal.Read.val_main_v9_apply, Cert.AdamInReferenceIdeal.Read.val_main_cst_3_apply, Cert.AdamInReferenceIdeal.Read.val_main_v10_apply, Cert.AdamInReferenceIdeal.Read.val_main_v11_apply, Cert.AdamInReferenceIdeal.Read.val_main_v12_apply, Cert.AdamInReferenceIdeal.Read.val_main_cst_4_apply, Cert.AdamInReferenceIdeal.Read.val_main_v13_apply, Cert.AdamInReferenceIdeal.Read.val_main_v14_apply, Cert.AdamInReferenceIdeal.Read.val_main_cst_5_apply, Cert.AdamInReferenceIdeal.Read.val_main_v15_apply, Cert.AdamInReferenceIdeal.Read.val_main_v16_apply, Cert.AdamInReferenceIdeal.Read.val_main_v17_apply, Cert.AdamInReferenceIdeal.Read.val_main_cst_6_apply, Cert.AdamInReferenceIdeal.Read.val_main_v18_apply, Cert.AdamInReferenceIdeal.Read.val_main_v19_apply, Cert.AdamInReferenceIdeal.Read.val_main_v20_apply, Cert.AdamInReferenceIdeal.Read.val_main_cst_7_apply, Cert.AdamInReferenceIdeal.Read.val_main_v21_apply, Cert.AdamInReferenceIdeal.Read.val_main_v22_apply, Cert.AdamInReferenceIdeal.Read.val_main_v23_apply, Cert.AdamInReferenceIdeal.Read.val_main_cst_8_apply, Cert.AdamInReferenceIdeal.Read.val_main_v24_apply, Cert.AdamInReferenceIdeal.Read.val_main_v25_apply, refG, Ideal.truncf_def, Ideal.extf_def, Ideal.mulf_def, Ideal.addf_def, Ideal.divf_def, Ideal.sqrt_def, Ideal.hostUnary_sqrt_def, Ideal.hostDivf_def, Ideal.ofBits_def, Ideal.ofBits_zero_f32, zero_add]
  rfl

/-! ## The claims -/

/-- The reference runs to its end, keeps its arguments and leaves every counter at zero. -/
theorem frame_reference : Cert.quiescent_AdamInReferenceIdeal := fun m ρ _ =>
  (θ_run Cert.AdamInReferenceIdeal.defs _ _).mono
    (fun r h => ⟨fun c => (h c).2.2.2.2, sem_eq_zero_of_no_sems (by decide) r.2⟩)
    (Cert.AdamInReferenceIdeal.Value.run m ρ)

/-- From equal arguments the kernel and the reference leave the same arrays, and keep their arguments. -/
theorem algebraic : Cert.algebraic_AdamInIdeal_AdamInReferenceIdeal := by
  intro m ρ m' ρ' _ hagree
  refine ⟨fun c => G (m ((c.tc : Thread Cert.AdamInIdeal.nD Cert.AdamInIdeal.τ).loc Cert.AdamInIdeal.main_arg0)),
    fun c => D (m ((c.tc : Thread Cert.AdamInIdeal.nD Cert.AdamInIdeal.τ).loc Cert.AdamInIdeal.main_arg0)) (m ((c.tc : Thread Cert.AdamInIdeal.nD Cert.AdamInIdeal.τ).loc Cert.AdamInIdeal.main_arg1)) (m ((c.tc : Thread Cert.AdamInIdeal.nD Cert.AdamInIdeal.τ).loc Cert.AdamInIdeal.main_arg2)) (m ((c.tc : Thread Cert.AdamInIdeal.nD Cert.AdamInIdeal.τ).loc Cert.AdamInIdeal.main_arg3)),
    fun c => M (m ((c.tc : Thread Cert.AdamInIdeal.nD Cert.AdamInIdeal.τ).loc Cert.AdamInIdeal.main_arg0)) (m ((c.tc : Thread Cert.AdamInIdeal.nD Cert.AdamInIdeal.τ).loc Cert.AdamInIdeal.main_arg2)),
    fun c => W (m ((c.tc : Thread Cert.AdamInIdeal.nD Cert.AdamInIdeal.τ).loc Cert.AdamInIdeal.main_arg0)) (m ((c.tc : Thread Cert.AdamInIdeal.nD Cert.AdamInIdeal.τ).loc Cert.AdamInIdeal.main_arg3)), ?_, ?_⟩
  · refine (θ_run Cert.AdamInIdeal.defs _ _).mono (fun r h c => ?_) (Cert.AdamInIdeal.Value.run_blocks m ρ)
    obtain ⟨h0, h1, h2, h3, hk⟩ := h c
    exact ⟨h0.trans (finalG m c), h1.trans (finalD m c), h2.trans (finalM m c), h3.trans (finalW m c), hk⟩
  · refine (θ_run Cert.AdamInReferenceIdeal.defs _ _).mono (fun r h c => ?_) (Cert.AdamInReferenceIdeal.Value.run m' ρ')
    obtain ⟨h0, h1, h2, h3, hk⟩ := h c
    obtain ⟨a0, a1, a2, a3⟩ := hagree c
    refine ⟨h0.trans ?_, h1.trans ?_, h2.trans ?_, h3.trans ?_, hk⟩
    · rw [Cert.AdamInReferenceIdeal.Read.val_main_v1_eq, refG, a0]
    · rw [Cert.AdamInReferenceIdeal.Read.val_main_v25_eq, refD, a0, a1, a2, a3]
    · rw [Cert.AdamInReferenceIdeal.Read.val_main_v6_eq, refM, a0, a2]
    · rw [Cert.AdamInReferenceIdeal.Read.val_main_v12_eq, refW, a0, a3]

end Cert.Proof.AdamIn

end
-- ==== Proof.AdamFfOneClaim.lean ====
/- The optimiser's step for the first feed-forward matrix: the kernel's four arrays and the reference's, index by index. -/
module

public import proofs.«01_k».proof.Defs
public import proofs.«01_k».proof.Proof.AdamMath
public import proofs.«01_k».proof.Proof.Gen.AdamFfOneIdeal.Value
public import proofs.«01_k».proof.Proof.Gen.AdamFfOneReferenceIdeal.Run
public import proofs.«01_k».proof.Proof.Gen.AdamFfOneReferenceIdeal.Read
public import Idealize.ShloMosaic.PureOps.Ideal
public import Idealize.ShloMosaic.Lib.Pipeline.ValueKit
public import Idealize.ShloMosaic.Lib.IdealHost
public import Idealize.ShloMosaic.Lib.Pointwise
public import Idealize.ShloMosaic.Lib.Claim

@[expose] public section

noncomputable section

namespace Cert.Proof.AdamFfOne

open Idealize.ShloMosaic Idealize.ShloMosaic.TcCoe Idealize.SL.Sem Cert.AdamFfOneIdeal Cert.AdamFfOneIdeal.Gen
open Idealize.ShloMosaic.Pipeline (Dat)
open Cert.Proof.Adam

variable (m : (ℓ : Loc nD τ sig) → Buf (Elt Ideal) ℓ)

/-- The whole gradient: what the eight devices sent, added up. -/
def G (p : S8x2048x1024.Idx → EReal) (i : S2048x1024.Idx) : EReal := ∑ j : Fin 8, p (ix3 j (i 0) (i 1))
/-- The update. -/
def D (p : S8x2048x1024.Idx → EReal) (w m v : S2048x1024.Idx → EReal) (i : S2048x1024.Idx) : EReal := step (w i) (G p i) (m i) (v i)
/-- The new first moment. -/
def M (p : S8x2048x1024.Idx → EReal) (m : S2048x1024.Idx → EReal) (i : S2048x1024.Idx) : EReal := mom (G p i) (m i)
/-- The new second moment. -/
def W (p : S8x2048x1024.Idx → EReal) (v : S2048x1024.Idx → EReal) (i : S2048x1024.Idx) : EReal := sqr (G p i) (v i)

/-! ## Each window's block index at a grid point -/

theorem e0 : ∀ t : Fin cfg0.N, win0_0.index t = ![0, t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![t.val, 0] := (by decide +kernel : ∀ t : Fin grid0.N, _)

/-! ## The kernel's side -/

/-- One entry of a block of the gradient. -/
theorem pay4 (v0 v3 v7 v11 v15 v19 v23 v27 : S1x128x1024.Idx → EReal) (y : S128x1024.Idx) :
    k0_pay4 (F := Ideal) v0 v3 v7 v11 v15 v19 v23 v27 y = v0 (ix3 0 (y 0) (y 1)) + v3 (ix3 0 (y 0) (y 1)) + v7 (ix3 0 (y 0) (y 1)) + v11 (ix3 0 (y 0) (y 1)) + v15 (ix3 0 (y 0) (y 1)) + v19 (ix3 0 (y 0) (y 1)) + v23 (ix3 0 (y 0) (y 1)) + v27 (ix3 0 (y 0) (y 1)) := by
  pointwise [k0_pay4]

/-- One entry of a block of the first moment. -/
theorem pay1 (g m : S128x1024.Idx → EReal) (y : S128x1024.Idx) : k0_pay1 (F := Ideal) g m y = mom (g y) (m y) := by
  pointwise [k0_pay1, mom]

/-- One entry of a block of the second moment. -/
theorem pay2 (g v : S128x1024.Idx → EReal) (y : S128x1024.Idx) : k0_pay2 (F := Ideal) g v y = sqr (g y) (v y) := by
  pointwise [k0_pay2, sqr]

/-- One entry of a block of the update. -/
theorem pay3 (g w m v : S128x1024.Idx → EReal) (y : S128x1024.Idx) : k0_pay3 (F := Ideal) g w m v y = step (w y) (g y) (m y) (v y) := by
  pointwise [k0_pay3, pay1, pay2, step]

/-- One entry of the gradient the kernel forms of a point's blocks. -/
theorem grad_at (c : Dev nD) (t : Fin cfg0.N) (y : S128x1024.Idx) (i : S2048x1024.Idx) (hi : i = (win0_4.blk t).view.emb y) :
    k0_pay4 (F := Ideal) (View.ld (iblk m c 0 t : S8x128x1024.Idx → EReal) (Rect.unit (s := S8x128x1024) ![0, 0, 0] S1x128x1024.size inb_S8x128x1024_S1x128x1024_0_0_0)) (View.ld (iblk m c 0 t : S8x128x1024.Idx → EReal) (Rect.unit (s := S8x128x1024) ![1, 0, 0] S1x128x1024.size inb_S8x128x1024_S1x128x1024_1_0_0)) (View.ld (iblk m c 0 t : S8x128x1024.Idx → EReal) (Rect.unit (s := S8x128x1024) ![2, 0, 0] S1x128x1024.size inb_S8x128x1024_S1x128x1024_2_0_0)) (View.ld (iblk m c 0 t : S8x128x1024.Idx → EReal) (Rect.unit (s := S8x128x1024) ![3, 0, 0] S1x128x1024.size inb_S8x128x1024_S1x128x1024_3_0_0)) (View.ld (iblk m c 0 t : S8x128x1024.Idx → EReal) (Rect.unit (s := S8x128x1024) ![4, 0, 0] S1x128x1024.size inb_S8x128x1024_S1x128x1024_4_0_0)) (View.ld (iblk m c 0 t : S8x128x1024.Idx → EReal) (Rect.unit (s := S8x128x1024) ![5, 0, 0] S1x128x1024.size inb_S8x128x1024_S1x128x1024_5_0_0)) (View.ld (iblk m c 0 t : S8x128x1024.Idx → EReal) (Rect.unit (s := S8x128x1024) ![6, 0, 0] S1x128x1024.size inb_S8x128x1024_S1x128x1024_6_0_0)) (View.ld (iblk m c 0 t : S8x128x1024.Idx → EReal) (Rect.unit (s := S8x128x1024) ![7, 0, 0] S1x128x1024.size inb_S8x128x1024_S1x128x1024_7_0_0)) y = G (m ((c : Thread nD τ).loc main_arg0)) i := by
  subst hi
  refine (pay4 _ _ _ _ _ _ _ _ y).trans ?_
  unfold G
  rw [Fin.sum_univ_eight]
  have h : ∀ j : Fin 8, (win0_0.blk t).view.emb (ix3 j (y 0) (y 1)) = ix3 j ((win0_4.blk t).view.emb y 0) ((win0_4.blk t).view.emb y 1) := fun j => by
    blk_ext [e0 t, e4 t]
  refine congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (?_) ?_) ?_) ?_) ?_) ?_) ?_) ?_
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 0))
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 1))
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 2))
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 3))
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 4))
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 5))
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 6))
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 7))

/-- The result array, whole. -/
theorem finalG (c : Dev nD) : (dats m 0 c).arrAt 4 cfg0.N = G (m ((c : Thread nD τ).loc main_arg0)) := by
  refine (dats m 0 c).arrAt_eq_of_covers 4 _ (by decide +kernel) fun t hf y => ?_
  blk_simp
  rw [after0_4]
  unfold out0_4
  try frame_out
  exact grad_at m c t y _ rfl

/-- The result array, whole. -/
theorem finalD (c : Dev nD) : (dats m 0 c).arrAt 5 cfg0.N = D (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  unfold out0_5
  try frame_out
  refine (pay3 _ _ _ _ y).trans ?_
  unfold D
  refine cong4 step (congrArg (m ((c : Thread nD τ).loc main_arg1)) (show (win0_1.blk t).view.emb y = (win0_5.blk t).view.emb y by blk_ext [e1 t, e5 t])) (grad_at m c t y _ (by blk_ext [e4 t, e5 t])) (congrArg (m ((c : Thread nD τ).loc main_arg2)) (show (win0_2.blk t).view.emb y = (win0_5.blk t).view.emb y by blk_ext [e2 t, e5 t])) (congrArg (m ((c : Thread nD τ).loc main_arg3)) (show (win0_3.blk t).view.emb y = (win0_5.blk t).view.emb y by blk_ext [e3 t, e5 t]))

/-- The result array, whole. -/
theorem finalM (c : Dev nD) : (dats m 0 c).arrAt 6 cfg0.N = M (m ((c : Thread nD τ).loc main_arg0)) (m ((c : Thread nD τ).loc main_arg2)) := by
  refine (dats m 0 c).arrAt_eq_of_covers 6 _ (by decide +kernel) fun t hf y => ?_
  blk_simp
  rw [after0_6]
  unfold out0_6
  try frame_out
  refine (pay1 _ _ y).trans ?_
  unfold M
  exact congrArg₂ mom (grad_at m c t y _ (by blk_ext [e4 t, e6 t])) (congrArg (m ((c : Thread nD τ).loc main_arg2)) (show (win0_2.blk t).view.emb y = (win0_6.blk t).view.emb y by blk_ext [e2 t, e6 t]))

/-- The result array, whole. -/
theorem finalW (c : Dev nD) : (dats m 0 c).arrAt 7 cfg0.N = W (m ((c : Thread nD τ).loc main_arg0)) (m ((c : Thread nD τ).loc main_arg3)) := by
  refine (dats m 0 c).arrAt_eq_of_covers 7 _ (by decide +kernel) fun t hf y => ?_
  blk_simp
  rw [after0_7]
  unfold out0_7
  try frame_out
  refine (pay2 _ _ y).trans ?_
  unfold W
  exact congrArg₂ sqr (grad_at m c t y _ (by blk_ext [e4 t, e7 t])) (congrArg (m ((c : Thread nD τ).loc main_arg3)) (show (win0_3.blk t).view.emb y = (win0_7.blk t).view.emb y by blk_ext [e3 t, e7 t]))

/-! ## The reference's side -/

/-- The reference's gradient. -/
theorem refG (x0 : S8x2048x1024.Idx → EReal) : Cert.AdamFfOneReferenceIdeal.Read.val_main_v1 (F := Ideal) x0 = G x0 := by
  funext i
  simp only [Cert.AdamFfOneReferenceIdeal.Read.val_main_v1_apply, Cert.AdamFfOneReferenceIdeal.Read.val_main_cst_apply, Cert.AdamFfOneReferenceIdeal.Read.val_main_v0_apply, Ideal.extf_def, Ideal.ofBits_def, Ideal.ofBits_zero_f32, zero_add]
  refine Finset.sum_congr rfl fun j _ => congrArg x0 (funext fun b => Fin.ext ?_)
  match b with
  | ⟨0, _⟩ => rfl
  | ⟨1, _⟩ => rfl
  | ⟨2, _⟩ => rfl

/-- The reference's result is the closed form. -/
theorem refD (x0 : S8x2048x1024.Idx → EReal) (x1 x2 x3 : S2048x1024.Idx → EReal) : Cert.AdamFfOneReferenceIdeal.Read.val_main_v25 (F := Ideal) x0 x1 x2 x3 = D x0 x1 x2 x3 := by
  funext i
  simp only [Cert.AdamFfOneReferenceIdeal.Read.val_main_cst_0_apply, Cert.AdamFfOneReferenceIdeal.Read.val_main_v2_apply, Cert.AdamFfOneReferenceIdeal.Read.val_main_v3_apply, Cert.AdamFfOneReferenceIdeal.Read.val_main_cst_1_apply, Cert.AdamFfOneReferenceIdeal.Read.val_main_v4_apply, Cert.AdamFfOneReferenceIdeal.Read.val_main_v5_apply, Cert.AdamFfOneReferenceIdeal.Read.val_main_v6_apply, Cert.AdamFfOneReferenceIdeal.Read.val_main_cst_2_apply, Cert.AdamFfOneReferenceIdeal.Read.val_main_v7_apply, Cert.AdamFfOneReferenceIdeal.Read.val_main_v8_apply, Cert.AdamFfOneReferenceIdeal.Read.val_main_v9_apply, Cert.AdamFfOneReferenceIdeal.Read.val_main_cst_3_apply, Cert.AdamFfOneReferenceIdeal.Read.val_main_v10_apply, Cert.AdamFfOneReferenceIdeal.Read.val_main_v11_apply, Cert.AdamFfOneReferenceIdeal.Read.val_main_v12_apply, Cert.AdamFfOneReferenceIdeal.Read.val_main_cst_4_apply, Cert.AdamFfOneReferenceIdeal.Read.val_main_v13_apply, Cert.AdamFfOneReferenceIdeal.Read.val_main_v14_apply, Cert.AdamFfOneReferenceIdeal.Read.val_main_cst_5_apply, Cert.AdamFfOneReferenceIdeal.Read.val_main_v15_apply, Cert.AdamFfOneReferenceIdeal.Read.val_main_v16_apply, Cert.AdamFfOneReferenceIdeal.Read.val_main_v17_apply, Cert.AdamFfOneReferenceIdeal.Read.val_main_cst_6_apply, Cert.AdamFfOneReferenceIdeal.Read.val_main_v18_apply, Cert.AdamFfOneReferenceIdeal.Read.val_main_v19_apply, Cert.AdamFfOneReferenceIdeal.Read.val_main_v20_apply, Cert.AdamFfOneReferenceIdeal.Read.val_main_cst_7_apply, Cert.AdamFfOneReferenceIdeal.Read.val_main_v21_apply, Cert.AdamFfOneReferenceIdeal.Read.val_main_v22_apply, Cert.AdamFfOneReferenceIdeal.Read.val_main_v23_apply, Cert.AdamFfOneReferenceIdeal.Read.val_main_cst_8_apply, Cert.AdamFfOneReferenceIdeal.Read.val_main_v24_apply, Cert.AdamFfOneReferenceIdeal.Read.val_main_v25_apply, refG, Ideal.truncf_def, Ideal.extf_def, Ideal.mulf_def, Ideal.addf_def, Ideal.divf_def, Ideal.sqrt_def, Ideal.hostUnary_sqrt_def, Ideal.hostDivf_def, Ideal.ofBits_def, Ideal.ofBits_zero_f32, zero_add]
  rfl

/-- The reference's result is the closed form. -/
theorem refM (x0 : S8x2048x1024.Idx → EReal) (x2 : S2048x1024.Idx → EReal) : Cert.AdamFfOneReferenceIdeal.Read.val_main_v6 (F := Ideal) x0 x2 = M x0 x2 := by
  funext i
  simp only [Cert.AdamFfOneReferenceIdeal.Read.val_main_cst_0_apply, Cert.AdamFfOneReferenceIdeal.Read.val_main_v2_apply, Cert.AdamFfOneReferenceIdeal.Read.val_main_v3_apply, Cert.AdamFfOneReferenceIdeal.Read.val_main_cst_1_apply, Cert.AdamFfOneReferenceIdeal.Read.val_main_v4_apply, Cert.AdamFfOneReferenceIdeal.Read.val_main_v5_apply, Cert.AdamFfOneReferenceIdeal.Read.val_main_v6_apply, Cert.AdamFfOneReferenceIdeal.Read.val_main_cst_2_apply, Cert.AdamFfOneReferenceIdeal.Read.val_main_v7_apply, Cert.AdamFfOneReferenceIdeal.Read.val_main_v8_apply, Cert.AdamFfOneReferenceIdeal.Read.val_main_v9_apply, Cert.AdamFfOneReferenceIdeal.Read.val_main_cst_3_apply, Cert.AdamFfOneReferenceIdeal.Read.val_main_v10_apply, Cert.AdamFfOneReferenceIdeal.Read.val_main_v11_apply, Cert.AdamFfOneReferenceIdeal.Read.val_main_v12_apply, Cert.AdamFfOneReferenceIdeal.Read.val_main_cst_4_apply, Cert.AdamFfOneReferenceIdeal.Read.val_main_v13_apply, Cert.AdamFfOneReferenceIdeal.Read.val_main_v14_apply, Cert.AdamFfOneReferenceIdeal.Read.val_main_cst_5_apply, Cert.AdamFfOneReferenceIdeal.Read.val_main_v15_apply, Cert.AdamFfOneReferenceIdeal.Read.val_main_v16_apply, Cert.AdamFfOneReferenceIdeal.Read.val_main_v17_apply, Cert.AdamFfOneReferenceIdeal.Read.val_main_cst_6_apply, Cert.AdamFfOneReferenceIdeal.Read.val_main_v18_apply, Cert.AdamFfOneReferenceIdeal.Read.val_main_v19_apply, Cert.AdamFfOneReferenceIdeal.Read.val_main_v20_apply, Cert.AdamFfOneReferenceIdeal.Read.val_main_cst_7_apply, Cert.AdamFfOneReferenceIdeal.Read.val_main_v21_apply, Cert.AdamFfOneReferenceIdeal.Read.val_main_v22_apply, Cert.AdamFfOneReferenceIdeal.Read.val_main_v23_apply, Cert.AdamFfOneReferenceIdeal.Read.val_main_cst_8_apply, Cert.AdamFfOneReferenceIdeal.Read.val_main_v24_apply, Cert.AdamFfOneReferenceIdeal.Read.val_main_v25_apply, refG, Ideal.truncf_def, Ideal.extf_def, Ideal.mulf_def, Ideal.addf_def, Ideal.divf_def, Ideal.sqrt_def, Ideal.hostUnary_sqrt_def, Ideal.hostDivf_def, Ideal.ofBits_def, Ideal.ofBits_zero_f32, zero_add]
  rfl

/-- The reference's result is the closed form. -/
theorem refW (x0 : S8x2048x1024.Idx → EReal) (x3 : S2048x1024.Idx → EReal) : Cert.AdamFfOneReferenceIdeal.Read.val_main_v12 (F := Ideal) x0 x3 = W x0 x3 := by
  funext i
  simp only [Cert.AdamFfOneReferenceIdeal.Read.val_main_cst_0_apply, Cert.AdamFfOneReferenceIdeal.Read.val_main_v2_apply, Cert.AdamFfOneReferenceIdeal.Read.val_main_v3_apply, Cert.AdamFfOneReferenceIdeal.Read.val_main_cst_1_apply, Cert.AdamFfOneReferenceIdeal.Read.val_main_v4_apply, Cert.AdamFfOneReferenceIdeal.Read.val_main_v5_apply, Cert.AdamFfOneReferenceIdeal.Read.val_main_v6_apply, Cert.AdamFfOneReferenceIdeal.Read.val_main_cst_2_apply, Cert.AdamFfOneReferenceIdeal.Read.val_main_v7_apply, Cert.AdamFfOneReferenceIdeal.Read.val_main_v8_apply, Cert.AdamFfOneReferenceIdeal.Read.val_main_v9_apply, Cert.AdamFfOneReferenceIdeal.Read.val_main_cst_3_apply, Cert.AdamFfOneReferenceIdeal.Read.val_main_v10_apply, Cert.AdamFfOneReferenceIdeal.Read.val_main_v11_apply, Cert.AdamFfOneReferenceIdeal.Read.val_main_v12_apply, Cert.AdamFfOneReferenceIdeal.Read.val_main_cst_4_apply, Cert.AdamFfOneReferenceIdeal.Read.val_main_v13_apply, Cert.AdamFfOneReferenceIdeal.Read.val_main_v14_apply, Cert.AdamFfOneReferenceIdeal.Read.val_main_cst_5_apply, Cert.AdamFfOneReferenceIdeal.Read.val_main_v15_apply, Cert.AdamFfOneReferenceIdeal.Read.val_main_v16_apply, Cert.AdamFfOneReferenceIdeal.Read.val_main_v17_apply, Cert.AdamFfOneReferenceIdeal.Read.val_main_cst_6_apply, Cert.AdamFfOneReferenceIdeal.Read.val_main_v18_apply, Cert.AdamFfOneReferenceIdeal.Read.val_main_v19_apply, Cert.AdamFfOneReferenceIdeal.Read.val_main_v20_apply, Cert.AdamFfOneReferenceIdeal.Read.val_main_cst_7_apply, Cert.AdamFfOneReferenceIdeal.Read.val_main_v21_apply, Cert.AdamFfOneReferenceIdeal.Read.val_main_v22_apply, Cert.AdamFfOneReferenceIdeal.Read.val_main_v23_apply, Cert.AdamFfOneReferenceIdeal.Read.val_main_cst_8_apply, Cert.AdamFfOneReferenceIdeal.Read.val_main_v24_apply, Cert.AdamFfOneReferenceIdeal.Read.val_main_v25_apply, refG, Ideal.truncf_def, Ideal.extf_def, Ideal.mulf_def, Ideal.addf_def, Ideal.divf_def, Ideal.sqrt_def, Ideal.hostUnary_sqrt_def, Ideal.hostDivf_def, Ideal.ofBits_def, Ideal.ofBits_zero_f32, zero_add]
  rfl

/-! ## The claims -/

/-- The reference runs to its end, keeps its arguments and leaves every counter at zero. -/
theorem frame_reference : Cert.quiescent_AdamFfOneReferenceIdeal := fun m ρ _ =>
  (θ_run Cert.AdamFfOneReferenceIdeal.defs _ _).mono
    (fun r h => ⟨fun c => (h c).2.2.2.2, sem_eq_zero_of_no_sems (by decide) r.2⟩)
    (Cert.AdamFfOneReferenceIdeal.Value.run m ρ)

/-- From equal arguments the kernel and the reference leave the same arrays, and keep their arguments. -/
theorem algebraic : Cert.algebraic_AdamFfOneIdeal_AdamFfOneReferenceIdeal := by
  intro m ρ m' ρ' _ hagree
  refine ⟨fun c => G (m ((c.tc : Thread Cert.AdamFfOneIdeal.nD Cert.AdamFfOneIdeal.τ).loc Cert.AdamFfOneIdeal.main_arg0)),
    fun c => D (m ((c.tc : Thread Cert.AdamFfOneIdeal.nD Cert.AdamFfOneIdeal.τ).loc Cert.AdamFfOneIdeal.main_arg0)) (m ((c.tc : Thread Cert.AdamFfOneIdeal.nD Cert.AdamFfOneIdeal.τ).loc Cert.AdamFfOneIdeal.main_arg1)) (m ((c.tc : Thread Cert.AdamFfOneIdeal.nD Cert.AdamFfOneIdeal.τ).loc Cert.AdamFfOneIdeal.main_arg2)) (m ((c.tc : Thread Cert.AdamFfOneIdeal.nD Cert.AdamFfOneIdeal.τ).loc Cert.AdamFfOneIdeal.main_arg3)),
    fun c => M (m ((c.tc : Thread Cert.AdamFfOneIdeal.nD Cert.AdamFfOneIdeal.τ).loc Cert.AdamFfOneIdeal.main_arg0)) (m ((c.tc : Thread Cert.AdamFfOneIdeal.nD Cert.AdamFfOneIdeal.τ).loc Cert.AdamFfOneIdeal.main_arg2)),
    fun c => W (m ((c.tc : Thread Cert.AdamFfOneIdeal.nD Cert.AdamFfOneIdeal.τ).loc Cert.AdamFfOneIdeal.main_arg0)) (m ((c.tc : Thread Cert.AdamFfOneIdeal.nD Cert.AdamFfOneIdeal.τ).loc Cert.AdamFfOneIdeal.main_arg3)), ?_, ?_⟩
  · refine (θ_run Cert.AdamFfOneIdeal.defs _ _).mono (fun r h c => ?_) (Cert.AdamFfOneIdeal.Value.run_blocks m ρ)
    obtain ⟨h0, h1, h2, h3, hk⟩ := h c
    exact ⟨h0.trans (finalG m c), h1.trans (finalD m c), h2.trans (finalM m c), h3.trans (finalW m c), hk⟩
  · refine (θ_run Cert.AdamFfOneReferenceIdeal.defs _ _).mono (fun r h c => ?_) (Cert.AdamFfOneReferenceIdeal.Value.run m' ρ')
    obtain ⟨h0, h1, h2, h3, hk⟩ := h c
    obtain ⟨a0, a1, a2, a3⟩ := hagree c
    refine ⟨h0.trans ?_, h1.trans ?_, h2.trans ?_, h3.trans ?_, hk⟩
    · rw [Cert.AdamFfOneReferenceIdeal.Read.val_main_v1_eq, refG, a0]
    · rw [Cert.AdamFfOneReferenceIdeal.Read.val_main_v25_eq, refD, a0, a1, a2, a3]
    · rw [Cert.AdamFfOneReferenceIdeal.Read.val_main_v6_eq, refM, a0, a2]
    · rw [Cert.AdamFfOneReferenceIdeal.Read.val_main_v12_eq, refW, a0, a3]

end Cert.Proof.AdamFfOne

end
-- ==== Proof.AdamFfTwoClaim.lean ====
/- The optimiser's step for the second feed-forward matrix: the kernel's four arrays and the reference's, index by index. -/
module

public import proofs.«01_k».proof.Defs
public import proofs.«01_k».proof.Proof.AdamMath
public import proofs.«01_k».proof.Proof.Gen.AdamFfTwoIdeal.Value
public import proofs.«01_k».proof.Proof.Gen.AdamFfTwoReferenceIdeal.Run
public import proofs.«01_k».proof.Proof.Gen.AdamFfTwoReferenceIdeal.Read
public import Idealize.ShloMosaic.PureOps.Ideal
public import Idealize.ShloMosaic.Lib.Pipeline.ValueKit
public import Idealize.ShloMosaic.Lib.IdealHost
public import Idealize.ShloMosaic.Lib.Pointwise
public import Idealize.ShloMosaic.Lib.Claim

@[expose] public section

noncomputable section

namespace Cert.Proof.AdamFfTwo

open Idealize.ShloMosaic Idealize.ShloMosaic.TcCoe Idealize.SL.Sem Cert.AdamFfTwoIdeal Cert.AdamFfTwoIdeal.Gen
open Idealize.ShloMosaic.Pipeline (Dat)
open Cert.Proof.Adam

variable (m : (ℓ : Loc nD τ sig) → Buf (Elt Ideal) ℓ)

/-- The whole gradient: what the eight devices sent, added up. -/
def G (p : S8x1024x2048.Idx → EReal) (i : S1024x2048.Idx) : EReal := ∑ j : Fin 8, p (ix3 j (i 0) (i 1))
/-- The update. -/
def D (p : S8x1024x2048.Idx → EReal) (w m v : S1024x2048.Idx → EReal) (i : S1024x2048.Idx) : EReal := step (w i) (G p i) (m i) (v i)
/-- The new first moment. -/
def M (p : S8x1024x2048.Idx → EReal) (m : S1024x2048.Idx → EReal) (i : S1024x2048.Idx) : EReal := mom (G p i) (m i)
/-- The new second moment. -/
def W (p : S8x1024x2048.Idx → EReal) (v : S1024x2048.Idx → EReal) (i : S1024x2048.Idx) : EReal := sqr (G p i) (v i)

/-! ## Each window's block index at a grid point -/

theorem e0 : ∀ t : Fin cfg0.N, win0_0.index t = ![0, t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![t.val, 0] := (by decide +kernel : ∀ t : Fin grid0.N, _)

/-! ## The kernel's side -/

/-- One entry of a block of the gradient. -/
theorem pay4 (v0 v3 v7 v11 v15 v19 v23 v27 : S1x64x2048.Idx → EReal) (y : S64x2048.Idx) :
    k0_pay4 (F := Ideal) v0 v3 v7 v11 v15 v19 v23 v27 y = v0 (ix3 0 (y 0) (y 1)) + v3 (ix3 0 (y 0) (y 1)) + v7 (ix3 0 (y 0) (y 1)) + v11 (ix3 0 (y 0) (y 1)) + v15 (ix3 0 (y 0) (y 1)) + v19 (ix3 0 (y 0) (y 1)) + v23 (ix3 0 (y 0) (y 1)) + v27 (ix3 0 (y 0) (y 1)) := by
  pointwise [k0_pay4]

/-- One entry of a block of the first moment. -/
theorem pay1 (g m : S64x2048.Idx → EReal) (y : S64x2048.Idx) : k0_pay1 (F := Ideal) g m y = mom (g y) (m y) := by
  pointwise [k0_pay1, mom]

/-- One entry of a block of the second moment. -/
theorem pay2 (g v : S64x2048.Idx → EReal) (y : S64x2048.Idx) : k0_pay2 (F := Ideal) g v y = sqr (g y) (v y) := by
  pointwise [k0_pay2, sqr]

/-- One entry of a block of the update. -/
theorem pay3 (g w m v : S64x2048.Idx → EReal) (y : S64x2048.Idx) : k0_pay3 (F := Ideal) g w m v y = step (w y) (g y) (m y) (v y) := by
  pointwise [k0_pay3, pay1, pay2, step]

/-- One entry of the gradient the kernel forms of a point's blocks. -/
theorem grad_at (c : Dev nD) (t : Fin cfg0.N) (y : S64x2048.Idx) (i : S1024x2048.Idx) (hi : i = (win0_4.blk t).view.emb y) :
    k0_pay4 (F := Ideal) (View.ld (iblk m c 0 t : S8x64x2048.Idx → EReal) (Rect.unit (s := S8x64x2048) ![0, 0, 0] S1x64x2048.size inb_S8x64x2048_S1x64x2048_0_0_0)) (View.ld (iblk m c 0 t : S8x64x2048.Idx → EReal) (Rect.unit (s := S8x64x2048) ![1, 0, 0] S1x64x2048.size inb_S8x64x2048_S1x64x2048_1_0_0)) (View.ld (iblk m c 0 t : S8x64x2048.Idx → EReal) (Rect.unit (s := S8x64x2048) ![2, 0, 0] S1x64x2048.size inb_S8x64x2048_S1x64x2048_2_0_0)) (View.ld (iblk m c 0 t : S8x64x2048.Idx → EReal) (Rect.unit (s := S8x64x2048) ![3, 0, 0] S1x64x2048.size inb_S8x64x2048_S1x64x2048_3_0_0)) (View.ld (iblk m c 0 t : S8x64x2048.Idx → EReal) (Rect.unit (s := S8x64x2048) ![4, 0, 0] S1x64x2048.size inb_S8x64x2048_S1x64x2048_4_0_0)) (View.ld (iblk m c 0 t : S8x64x2048.Idx → EReal) (Rect.unit (s := S8x64x2048) ![5, 0, 0] S1x64x2048.size inb_S8x64x2048_S1x64x2048_5_0_0)) (View.ld (iblk m c 0 t : S8x64x2048.Idx → EReal) (Rect.unit (s := S8x64x2048) ![6, 0, 0] S1x64x2048.size inb_S8x64x2048_S1x64x2048_6_0_0)) (View.ld (iblk m c 0 t : S8x64x2048.Idx → EReal) (Rect.unit (s := S8x64x2048) ![7, 0, 0] S1x64x2048.size inb_S8x64x2048_S1x64x2048_7_0_0)) y = G (m ((c : Thread nD τ).loc main_arg0)) i := by
  subst hi
  refine (pay4 _ _ _ _ _ _ _ _ y).trans ?_
  unfold G
  rw [Fin.sum_univ_eight]
  have h : ∀ j : Fin 8, (win0_0.blk t).view.emb (ix3 j (y 0) (y 1)) = ix3 j ((win0_4.blk t).view.emb y 0) ((win0_4.blk t).view.emb y 1) := fun j => by
    blk_ext [e0 t, e4 t]
  refine congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (?_) ?_) ?_) ?_) ?_) ?_) ?_) ?_
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 0))
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 1))
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 2))
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 3))
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 4))
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 5))
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 6))
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 7))

/-- The result array, whole. -/
theorem finalG (c : Dev nD) : (dats m 0 c).arrAt 4 cfg0.N = G (m ((c : Thread nD τ).loc main_arg0)) := by
  refine (dats m 0 c).arrAt_eq_of_covers 4 _ (by decide +kernel) fun t hf y => ?_
  blk_simp
  rw [after0_4]
  unfold out0_4
  try frame_out
  exact grad_at m c t y _ rfl

/-- The result array, whole. -/
theorem finalD (c : Dev nD) : (dats m 0 c).arrAt 5 cfg0.N = D (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  unfold out0_5
  try frame_out
  refine (pay3 _ _ _ _ y).trans ?_
  unfold D
  refine cong4 step (congrArg (m ((c : Thread nD τ).loc main_arg1)) (show (win0_1.blk t).view.emb y = (win0_5.blk t).view.emb y by blk_ext [e1 t, e5 t])) (grad_at m c t y _ (by blk_ext [e4 t, e5 t])) (congrArg (m ((c : Thread nD τ).loc main_arg2)) (show (win0_2.blk t).view.emb y = (win0_5.blk t).view.emb y by blk_ext [e2 t, e5 t])) (congrArg (m ((c : Thread nD τ).loc main_arg3)) (show (win0_3.blk t).view.emb y = (win0_5.blk t).view.emb y by blk_ext [e3 t, e5 t]))

/-- The result array, whole. -/
theorem finalM (c : Dev nD) : (dats m 0 c).arrAt 6 cfg0.N = M (m ((c : Thread nD τ).loc main_arg0)) (m ((c : Thread nD τ).loc main_arg2)) := by
  refine (dats m 0 c).arrAt_eq_of_covers 6 _ (by decide +kernel) fun t hf y => ?_
  blk_simp
  rw [after0_6]
  unfold out0_6
  try frame_out
  refine (pay1 _ _ y).trans ?_
  unfold M
  exact congrArg₂ mom (grad_at m c t y _ (by blk_ext [e4 t, e6 t])) (congrArg (m ((c : Thread nD τ).loc main_arg2)) (show (win0_2.blk t).view.emb y = (win0_6.blk t).view.emb y by blk_ext [e2 t, e6 t]))

/-- The result array, whole. -/
theorem finalW (c : Dev nD) : (dats m 0 c).arrAt 7 cfg0.N = W (m ((c : Thread nD τ).loc main_arg0)) (m ((c : Thread nD τ).loc main_arg3)) := by
  refine (dats m 0 c).arrAt_eq_of_covers 7 _ (by decide +kernel) fun t hf y => ?_
  blk_simp
  rw [after0_7]
  unfold out0_7
  try frame_out
  refine (pay2 _ _ y).trans ?_
  unfold W
  exact congrArg₂ sqr (grad_at m c t y _ (by blk_ext [e4 t, e7 t])) (congrArg (m ((c : Thread nD τ).loc main_arg3)) (show (win0_3.blk t).view.emb y = (win0_7.blk t).view.emb y by blk_ext [e3 t, e7 t]))

/-! ## The reference's side -/

/-- The reference's gradient. -/
theorem refG (x0 : S8x1024x2048.Idx → EReal) : Cert.AdamFfTwoReferenceIdeal.Read.val_main_v1 (F := Ideal) x0 = G x0 := by
  funext i
  simp only [Cert.AdamFfTwoReferenceIdeal.Read.val_main_v1_apply, Cert.AdamFfTwoReferenceIdeal.Read.val_main_cst_apply, Cert.AdamFfTwoReferenceIdeal.Read.val_main_v0_apply, Ideal.extf_def, Ideal.ofBits_def, Ideal.ofBits_zero_f32, zero_add]
  refine Finset.sum_congr rfl fun j _ => congrArg x0 (funext fun b => Fin.ext ?_)
  match b with
  | ⟨0, _⟩ => rfl
  | ⟨1, _⟩ => rfl
  | ⟨2, _⟩ => rfl

/-- The reference's result is the closed form. -/
theorem refD (x0 : S8x1024x2048.Idx → EReal) (x1 x2 x3 : S1024x2048.Idx → EReal) : Cert.AdamFfTwoReferenceIdeal.Read.val_main_v25 (F := Ideal) x0 x1 x2 x3 = D x0 x1 x2 x3 := by
  funext i
  simp only [Cert.AdamFfTwoReferenceIdeal.Read.val_main_cst_0_apply, Cert.AdamFfTwoReferenceIdeal.Read.val_main_v2_apply, Cert.AdamFfTwoReferenceIdeal.Read.val_main_v3_apply, Cert.AdamFfTwoReferenceIdeal.Read.val_main_cst_1_apply, Cert.AdamFfTwoReferenceIdeal.Read.val_main_v4_apply, Cert.AdamFfTwoReferenceIdeal.Read.val_main_v5_apply, Cert.AdamFfTwoReferenceIdeal.Read.val_main_v6_apply, Cert.AdamFfTwoReferenceIdeal.Read.val_main_cst_2_apply, Cert.AdamFfTwoReferenceIdeal.Read.val_main_v7_apply, Cert.AdamFfTwoReferenceIdeal.Read.val_main_v8_apply, Cert.AdamFfTwoReferenceIdeal.Read.val_main_v9_apply, Cert.AdamFfTwoReferenceIdeal.Read.val_main_cst_3_apply, Cert.AdamFfTwoReferenceIdeal.Read.val_main_v10_apply, Cert.AdamFfTwoReferenceIdeal.Read.val_main_v11_apply, Cert.AdamFfTwoReferenceIdeal.Read.val_main_v12_apply, Cert.AdamFfTwoReferenceIdeal.Read.val_main_cst_4_apply, Cert.AdamFfTwoReferenceIdeal.Read.val_main_v13_apply, Cert.AdamFfTwoReferenceIdeal.Read.val_main_v14_apply, Cert.AdamFfTwoReferenceIdeal.Read.val_main_cst_5_apply, Cert.AdamFfTwoReferenceIdeal.Read.val_main_v15_apply, Cert.AdamFfTwoReferenceIdeal.Read.val_main_v16_apply, Cert.AdamFfTwoReferenceIdeal.Read.val_main_v17_apply, Cert.AdamFfTwoReferenceIdeal.Read.val_main_cst_6_apply, Cert.AdamFfTwoReferenceIdeal.Read.val_main_v18_apply, Cert.AdamFfTwoReferenceIdeal.Read.val_main_v19_apply, Cert.AdamFfTwoReferenceIdeal.Read.val_main_v20_apply, Cert.AdamFfTwoReferenceIdeal.Read.val_main_cst_7_apply, Cert.AdamFfTwoReferenceIdeal.Read.val_main_v21_apply, Cert.AdamFfTwoReferenceIdeal.Read.val_main_v22_apply, Cert.AdamFfTwoReferenceIdeal.Read.val_main_v23_apply, Cert.AdamFfTwoReferenceIdeal.Read.val_main_cst_8_apply, Cert.AdamFfTwoReferenceIdeal.Read.val_main_v24_apply, Cert.AdamFfTwoReferenceIdeal.Read.val_main_v25_apply, refG, Ideal.truncf_def, Ideal.extf_def, Ideal.mulf_def, Ideal.addf_def, Ideal.divf_def, Ideal.sqrt_def, Ideal.hostUnary_sqrt_def, Ideal.hostDivf_def, Ideal.ofBits_def, Ideal.ofBits_zero_f32, zero_add]
  rfl

/-- The reference's result is the closed form. -/
theorem refM (x0 : S8x1024x2048.Idx → EReal) (x2 : S1024x2048.Idx → EReal) : Cert.AdamFfTwoReferenceIdeal.Read.val_main_v6 (F := Ideal) x0 x2 = M x0 x2 := by
  funext i
  simp only [Cert.AdamFfTwoReferenceIdeal.Read.val_main_cst_0_apply, Cert.AdamFfTwoReferenceIdeal.Read.val_main_v2_apply, Cert.AdamFfTwoReferenceIdeal.Read.val_main_v3_apply, Cert.AdamFfTwoReferenceIdeal.Read.val_main_cst_1_apply, Cert.AdamFfTwoReferenceIdeal.Read.val_main_v4_apply, Cert.AdamFfTwoReferenceIdeal.Read.val_main_v5_apply, Cert.AdamFfTwoReferenceIdeal.Read.val_main_v6_apply, Cert.AdamFfTwoReferenceIdeal.Read.val_main_cst_2_apply, Cert.AdamFfTwoReferenceIdeal.Read.val_main_v7_apply, Cert.AdamFfTwoReferenceIdeal.Read.val_main_v8_apply, Cert.AdamFfTwoReferenceIdeal.Read.val_main_v9_apply, Cert.AdamFfTwoReferenceIdeal.Read.val_main_cst_3_apply, Cert.AdamFfTwoReferenceIdeal.Read.val_main_v10_apply, Cert.AdamFfTwoReferenceIdeal.Read.val_main_v11_apply, Cert.AdamFfTwoReferenceIdeal.Read.val_main_v12_apply, Cert.AdamFfTwoReferenceIdeal.Read.val_main_cst_4_apply, Cert.AdamFfTwoReferenceIdeal.Read.val_main_v13_apply, Cert.AdamFfTwoReferenceIdeal.Read.val_main_v14_apply, Cert.AdamFfTwoReferenceIdeal.Read.val_main_cst_5_apply, Cert.AdamFfTwoReferenceIdeal.Read.val_main_v15_apply, Cert.AdamFfTwoReferenceIdeal.Read.val_main_v16_apply, Cert.AdamFfTwoReferenceIdeal.Read.val_main_v17_apply, Cert.AdamFfTwoReferenceIdeal.Read.val_main_cst_6_apply, Cert.AdamFfTwoReferenceIdeal.Read.val_main_v18_apply, Cert.AdamFfTwoReferenceIdeal.Read.val_main_v19_apply, Cert.AdamFfTwoReferenceIdeal.Read.val_main_v20_apply, Cert.AdamFfTwoReferenceIdeal.Read.val_main_cst_7_apply, Cert.AdamFfTwoReferenceIdeal.Read.val_main_v21_apply, Cert.AdamFfTwoReferenceIdeal.Read.val_main_v22_apply, Cert.AdamFfTwoReferenceIdeal.Read.val_main_v23_apply, Cert.AdamFfTwoReferenceIdeal.Read.val_main_cst_8_apply, Cert.AdamFfTwoReferenceIdeal.Read.val_main_v24_apply, Cert.AdamFfTwoReferenceIdeal.Read.val_main_v25_apply, refG, Ideal.truncf_def, Ideal.extf_def, Ideal.mulf_def, Ideal.addf_def, Ideal.divf_def, Ideal.sqrt_def, Ideal.hostUnary_sqrt_def, Ideal.hostDivf_def, Ideal.ofBits_def, Ideal.ofBits_zero_f32, zero_add]
  rfl

/-- The reference's result is the closed form. -/
theorem refW (x0 : S8x1024x2048.Idx → EReal) (x3 : S1024x2048.Idx → EReal) : Cert.AdamFfTwoReferenceIdeal.Read.val_main_v12 (F := Ideal) x0 x3 = W x0 x3 := by
  funext i
  simp only [Cert.AdamFfTwoReferenceIdeal.Read.val_main_cst_0_apply, Cert.AdamFfTwoReferenceIdeal.Read.val_main_v2_apply, Cert.AdamFfTwoReferenceIdeal.Read.val_main_v3_apply, Cert.AdamFfTwoReferenceIdeal.Read.val_main_cst_1_apply, Cert.AdamFfTwoReferenceIdeal.Read.val_main_v4_apply, Cert.AdamFfTwoReferenceIdeal.Read.val_main_v5_apply, Cert.AdamFfTwoReferenceIdeal.Read.val_main_v6_apply, Cert.AdamFfTwoReferenceIdeal.Read.val_main_cst_2_apply, Cert.AdamFfTwoReferenceIdeal.Read.val_main_v7_apply, Cert.AdamFfTwoReferenceIdeal.Read.val_main_v8_apply, Cert.AdamFfTwoReferenceIdeal.Read.val_main_v9_apply, Cert.AdamFfTwoReferenceIdeal.Read.val_main_cst_3_apply, Cert.AdamFfTwoReferenceIdeal.Read.val_main_v10_apply, Cert.AdamFfTwoReferenceIdeal.Read.val_main_v11_apply, Cert.AdamFfTwoReferenceIdeal.Read.val_main_v12_apply, Cert.AdamFfTwoReferenceIdeal.Read.val_main_cst_4_apply, Cert.AdamFfTwoReferenceIdeal.Read.val_main_v13_apply, Cert.AdamFfTwoReferenceIdeal.Read.val_main_v14_apply, Cert.AdamFfTwoReferenceIdeal.Read.val_main_cst_5_apply, Cert.AdamFfTwoReferenceIdeal.Read.val_main_v15_apply, Cert.AdamFfTwoReferenceIdeal.Read.val_main_v16_apply, Cert.AdamFfTwoReferenceIdeal.Read.val_main_v17_apply, Cert.AdamFfTwoReferenceIdeal.Read.val_main_cst_6_apply, Cert.AdamFfTwoReferenceIdeal.Read.val_main_v18_apply, Cert.AdamFfTwoReferenceIdeal.Read.val_main_v19_apply, Cert.AdamFfTwoReferenceIdeal.Read.val_main_v20_apply, Cert.AdamFfTwoReferenceIdeal.Read.val_main_cst_7_apply, Cert.AdamFfTwoReferenceIdeal.Read.val_main_v21_apply, Cert.AdamFfTwoReferenceIdeal.Read.val_main_v22_apply, Cert.AdamFfTwoReferenceIdeal.Read.val_main_v23_apply, Cert.AdamFfTwoReferenceIdeal.Read.val_main_cst_8_apply, Cert.AdamFfTwoReferenceIdeal.Read.val_main_v24_apply, Cert.AdamFfTwoReferenceIdeal.Read.val_main_v25_apply, refG, Ideal.truncf_def, Ideal.extf_def, Ideal.mulf_def, Ideal.addf_def, Ideal.divf_def, Ideal.sqrt_def, Ideal.hostUnary_sqrt_def, Ideal.hostDivf_def, Ideal.ofBits_def, Ideal.ofBits_zero_f32, zero_add]
  rfl

/-! ## The claims -/

/-- The reference runs to its end, keeps its arguments and leaves every counter at zero. -/
theorem frame_reference : Cert.quiescent_AdamFfTwoReferenceIdeal := fun m ρ _ =>
  (θ_run Cert.AdamFfTwoReferenceIdeal.defs _ _).mono
    (fun r h => ⟨fun c => (h c).2.2.2.2, sem_eq_zero_of_no_sems (by decide) r.2⟩)
    (Cert.AdamFfTwoReferenceIdeal.Value.run m ρ)

/-- From equal arguments the kernel and the reference leave the same arrays, and keep their arguments. -/
theorem algebraic : Cert.algebraic_AdamFfTwoIdeal_AdamFfTwoReferenceIdeal := by
  intro m ρ m' ρ' _ hagree
  refine ⟨fun c => G (m ((c.tc : Thread Cert.AdamFfTwoIdeal.nD Cert.AdamFfTwoIdeal.τ).loc Cert.AdamFfTwoIdeal.main_arg0)),
    fun c => D (m ((c.tc : Thread Cert.AdamFfTwoIdeal.nD Cert.AdamFfTwoIdeal.τ).loc Cert.AdamFfTwoIdeal.main_arg0)) (m ((c.tc : Thread Cert.AdamFfTwoIdeal.nD Cert.AdamFfTwoIdeal.τ).loc Cert.AdamFfTwoIdeal.main_arg1)) (m ((c.tc : Thread Cert.AdamFfTwoIdeal.nD Cert.AdamFfTwoIdeal.τ).loc Cert.AdamFfTwoIdeal.main_arg2)) (m ((c.tc : Thread Cert.AdamFfTwoIdeal.nD Cert.AdamFfTwoIdeal.τ).loc Cert.AdamFfTwoIdeal.main_arg3)),
    fun c => M (m ((c.tc : Thread Cert.AdamFfTwoIdeal.nD Cert.AdamFfTwoIdeal.τ).loc Cert.AdamFfTwoIdeal.main_arg0)) (m ((c.tc : Thread Cert.AdamFfTwoIdeal.nD Cert.AdamFfTwoIdeal.τ).loc Cert.AdamFfTwoIdeal.main_arg2)),
    fun c => W (m ((c.tc : Thread Cert.AdamFfTwoIdeal.nD Cert.AdamFfTwoIdeal.τ).loc Cert.AdamFfTwoIdeal.main_arg0)) (m ((c.tc : Thread Cert.AdamFfTwoIdeal.nD Cert.AdamFfTwoIdeal.τ).loc Cert.AdamFfTwoIdeal.main_arg3)), ?_, ?_⟩
  · refine (θ_run Cert.AdamFfTwoIdeal.defs _ _).mono (fun r h c => ?_) (Cert.AdamFfTwoIdeal.Value.run_blocks m ρ)
    obtain ⟨h0, h1, h2, h3, hk⟩ := h c
    exact ⟨h0.trans (finalG m c), h1.trans (finalD m c), h2.trans (finalM m c), h3.trans (finalW m c), hk⟩
  · refine (θ_run Cert.AdamFfTwoReferenceIdeal.defs _ _).mono (fun r h c => ?_) (Cert.AdamFfTwoReferenceIdeal.Value.run m' ρ')
    obtain ⟨h0, h1, h2, h3, hk⟩ := h c
    obtain ⟨a0, a1, a2, a3⟩ := hagree c
    refine ⟨h0.trans ?_, h1.trans ?_, h2.trans ?_, h3.trans ?_, hk⟩
    · rw [Cert.AdamFfTwoReferenceIdeal.Read.val_main_v1_eq, refG, a0]
    · rw [Cert.AdamFfTwoReferenceIdeal.Read.val_main_v25_eq, refD, a0, a1, a2, a3]
    · rw [Cert.AdamFfTwoReferenceIdeal.Read.val_main_v6_eq, refM, a0, a2]
    · rw [Cert.AdamFfTwoReferenceIdeal.Read.val_main_v12_eq, refW, a0, a3]

end Cert.Proof.AdamFfTwo

end
-- ==== Proof.AdamOutClaim.lean ====
/- The optimiser's step for the output projection's matrix: the kernel's four arrays and the reference's, index by index. -/
module

public import proofs.«01_k».proof.Defs
public import proofs.«01_k».proof.Proof.AdamMath
public import proofs.«01_k».proof.Proof.Gen.AdamOutIdeal.Value
public import proofs.«01_k».proof.Proof.Gen.AdamOutReferenceIdeal.Run
public import proofs.«01_k».proof.Proof.Gen.AdamOutReferenceIdeal.Read
public import Idealize.ShloMosaic.PureOps.Ideal
public import Idealize.ShloMosaic.Lib.Pipeline.ValueKit
public import Idealize.ShloMosaic.Lib.IdealHost
public import Idealize.ShloMosaic.Lib.Pointwise
public import Idealize.ShloMosaic.Lib.Claim

@[expose] public section

noncomputable section

namespace Cert.Proof.AdamOut

open Idealize.ShloMosaic Idealize.ShloMosaic.TcCoe Idealize.SL.Sem Cert.AdamOutIdeal Cert.AdamOutIdeal.Gen
open Idealize.ShloMosaic.Pipeline (Dat)
open Cert.Proof.Adam

variable (m : (ℓ : Loc nD τ sig) → Buf (Elt Ideal) ℓ)

/-- The whole gradient: what the eight devices sent, added up. -/
def G (p : S8x256x2048.Idx → EReal) (i : S256x2048.Idx) : EReal := ∑ j : Fin 8, p (ix3 j (i 0) (i 1))
/-- The update. -/
def D (p : S8x256x2048.Idx → EReal) (w m v : S256x2048.Idx → EReal) (i : S256x2048.Idx) : EReal := step (w i) (G p i) (m i) (v i)
/-- The new first moment. -/
def M (p : S8x256x2048.Idx → EReal) (m : S256x2048.Idx → EReal) (i : S256x2048.Idx) : EReal := mom (G p i) (m i)
/-- The new second moment. -/
def W (p : S8x256x2048.Idx → EReal) (v : S256x2048.Idx → EReal) (i : S256x2048.Idx) : EReal := sqr (G p i) (v i)

/-! ## Each window's block index at a grid point -/

theorem e0 : ∀ t : Fin cfg0.N, win0_0.index t = ![0, t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![t.val, 0] := (by decide +kernel : ∀ t : Fin grid0.N, _)

/-! ## The kernel's side -/

/-- One entry of a block of the gradient. -/
theorem pay4 (v0 v3 v7 v11 v15 v19 v23 v27 : S1x64x2048.Idx → EReal) (y : S64x2048.Idx) :
    k0_pay4 (F := Ideal) v0 v3 v7 v11 v15 v19 v23 v27 y = v0 (ix3 0 (y 0) (y 1)) + v3 (ix3 0 (y 0) (y 1)) + v7 (ix3 0 (y 0) (y 1)) + v11 (ix3 0 (y 0) (y 1)) + v15 (ix3 0 (y 0) (y 1)) + v19 (ix3 0 (y 0) (y 1)) + v23 (ix3 0 (y 0) (y 1)) + v27 (ix3 0 (y 0) (y 1)) := by
  pointwise [k0_pay4]

/-- One entry of a block of the first moment. -/
theorem pay1 (g m : S64x2048.Idx → EReal) (y : S64x2048.Idx) : k0_pay1 (F := Ideal) g m y = mom (g y) (m y) := by
  pointwise [k0_pay1, mom]

/-- One entry of a block of the second moment. -/
theorem pay2 (g v : S64x2048.Idx → EReal) (y : S64x2048.Idx) : k0_pay2 (F := Ideal) g v y = sqr (g y) (v y) := by
  pointwise [k0_pay2, sqr]

/-- One entry of a block of the update. -/
theorem pay3 (g w m v : S64x2048.Idx → EReal) (y : S64x2048.Idx) : k0_pay3 (F := Ideal) g w m v y = step (w y) (g y) (m y) (v y) := by
  pointwise [k0_pay3, pay1, pay2, step]

/-- One entry of the gradient the kernel forms of a point's blocks. -/
theorem grad_at (c : Dev nD) (t : Fin cfg0.N) (y : S64x2048.Idx) (i : S256x2048.Idx) (hi : i = (win0_4.blk t).view.emb y) :
    k0_pay4 (F := Ideal) (View.ld (iblk m c 0 t : S8x64x2048.Idx → EReal) (Rect.unit (s := S8x64x2048) ![0, 0, 0] S1x64x2048.size inb_S8x64x2048_S1x64x2048_0_0_0)) (View.ld (iblk m c 0 t : S8x64x2048.Idx → EReal) (Rect.unit (s := S8x64x2048) ![1, 0, 0] S1x64x2048.size inb_S8x64x2048_S1x64x2048_1_0_0)) (View.ld (iblk m c 0 t : S8x64x2048.Idx → EReal) (Rect.unit (s := S8x64x2048) ![2, 0, 0] S1x64x2048.size inb_S8x64x2048_S1x64x2048_2_0_0)) (View.ld (iblk m c 0 t : S8x64x2048.Idx → EReal) (Rect.unit (s := S8x64x2048) ![3, 0, 0] S1x64x2048.size inb_S8x64x2048_S1x64x2048_3_0_0)) (View.ld (iblk m c 0 t : S8x64x2048.Idx → EReal) (Rect.unit (s := S8x64x2048) ![4, 0, 0] S1x64x2048.size inb_S8x64x2048_S1x64x2048_4_0_0)) (View.ld (iblk m c 0 t : S8x64x2048.Idx → EReal) (Rect.unit (s := S8x64x2048) ![5, 0, 0] S1x64x2048.size inb_S8x64x2048_S1x64x2048_5_0_0)) (View.ld (iblk m c 0 t : S8x64x2048.Idx → EReal) (Rect.unit (s := S8x64x2048) ![6, 0, 0] S1x64x2048.size inb_S8x64x2048_S1x64x2048_6_0_0)) (View.ld (iblk m c 0 t : S8x64x2048.Idx → EReal) (Rect.unit (s := S8x64x2048) ![7, 0, 0] S1x64x2048.size inb_S8x64x2048_S1x64x2048_7_0_0)) y = G (m ((c : Thread nD τ).loc main_arg0)) i := by
  subst hi
  refine (pay4 _ _ _ _ _ _ _ _ y).trans ?_
  unfold G
  rw [Fin.sum_univ_eight]
  have h : ∀ j : Fin 8, (win0_0.blk t).view.emb (ix3 j (y 0) (y 1)) = ix3 j ((win0_4.blk t).view.emb y 0) ((win0_4.blk t).view.emb y 1) := fun j => by
    blk_ext [e0 t, e4 t]
  refine congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (?_) ?_) ?_) ?_) ?_) ?_) ?_) ?_
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 0))
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 1))
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 2))
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 3))
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 4))
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 5))
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 6))
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 7))

/-- The result array, whole. -/
theorem finalG (c : Dev nD) : (dats m 0 c).arrAt 4 cfg0.N = G (m ((c : Thread nD τ).loc main_arg0)) := by
  refine (dats m 0 c).arrAt_eq_of_covers 4 _ (by decide +kernel) fun t hf y => ?_
  blk_simp
  rw [after0_4]
  unfold out0_4
  try frame_out
  exact grad_at m c t y _ rfl

/-- The result array, whole. -/
theorem finalD (c : Dev nD) : (dats m 0 c).arrAt 5 cfg0.N = D (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  unfold out0_5
  try frame_out
  refine (pay3 _ _ _ _ y).trans ?_
  unfold D
  refine cong4 step (congrArg (m ((c : Thread nD τ).loc main_arg1)) (show (win0_1.blk t).view.emb y = (win0_5.blk t).view.emb y by blk_ext [e1 t, e5 t])) (grad_at m c t y _ (by blk_ext [e4 t, e5 t])) (congrArg (m ((c : Thread nD τ).loc main_arg2)) (show (win0_2.blk t).view.emb y = (win0_5.blk t).view.emb y by blk_ext [e2 t, e5 t])) (congrArg (m ((c : Thread nD τ).loc main_arg3)) (show (win0_3.blk t).view.emb y = (win0_5.blk t).view.emb y by blk_ext [e3 t, e5 t]))

/-- The result array, whole. -/
theorem finalM (c : Dev nD) : (dats m 0 c).arrAt 6 cfg0.N = M (m ((c : Thread nD τ).loc main_arg0)) (m ((c : Thread nD τ).loc main_arg2)) := by
  refine (dats m 0 c).arrAt_eq_of_covers 6 _ (by decide +kernel) fun t hf y => ?_
  blk_simp
  rw [after0_6]
  unfold out0_6
  try frame_out
  refine (pay1 _ _ y).trans ?_
  unfold M
  exact congrArg₂ mom (grad_at m c t y _ (by blk_ext [e4 t, e6 t])) (congrArg (m ((c : Thread nD τ).loc main_arg2)) (show (win0_2.blk t).view.emb y = (win0_6.blk t).view.emb y by blk_ext [e2 t, e6 t]))

/-- The result array, whole. -/
theorem finalW (c : Dev nD) : (dats m 0 c).arrAt 7 cfg0.N = W (m ((c : Thread nD τ).loc main_arg0)) (m ((c : Thread nD τ).loc main_arg3)) := by
  refine (dats m 0 c).arrAt_eq_of_covers 7 _ (by decide +kernel) fun t hf y => ?_
  blk_simp
  rw [after0_7]
  unfold out0_7
  try frame_out
  refine (pay2 _ _ y).trans ?_
  unfold W
  exact congrArg₂ sqr (grad_at m c t y _ (by blk_ext [e4 t, e7 t])) (congrArg (m ((c : Thread nD τ).loc main_arg3)) (show (win0_3.blk t).view.emb y = (win0_7.blk t).view.emb y by blk_ext [e3 t, e7 t]))

/-! ## The reference's side -/

/-- The reference's gradient. -/
theorem refG (x0 : S8x256x2048.Idx → EReal) : Cert.AdamOutReferenceIdeal.Read.val_main_v1 (F := Ideal) x0 = G x0 := by
  funext i
  simp only [Cert.AdamOutReferenceIdeal.Read.val_main_v1_apply, Cert.AdamOutReferenceIdeal.Read.val_main_cst_apply, Cert.AdamOutReferenceIdeal.Read.val_main_v0_apply, Ideal.extf_def, Ideal.ofBits_def, Ideal.ofBits_zero_f32, zero_add]
  refine Finset.sum_congr rfl fun j _ => congrArg x0 (funext fun b => Fin.ext ?_)
  match b with
  | ⟨0, _⟩ => rfl
  | ⟨1, _⟩ => rfl
  | ⟨2, _⟩ => rfl

/-- The reference's result is the closed form. -/
theorem refD (x0 : S8x256x2048.Idx → EReal) (x1 x2 x3 : S256x2048.Idx → EReal) : Cert.AdamOutReferenceIdeal.Read.val_main_v25 (F := Ideal) x0 x1 x2 x3 = D x0 x1 x2 x3 := by
  funext i
  simp only [Cert.AdamOutReferenceIdeal.Read.val_main_cst_0_apply, Cert.AdamOutReferenceIdeal.Read.val_main_v2_apply, Cert.AdamOutReferenceIdeal.Read.val_main_v3_apply, Cert.AdamOutReferenceIdeal.Read.val_main_cst_1_apply, Cert.AdamOutReferenceIdeal.Read.val_main_v4_apply, Cert.AdamOutReferenceIdeal.Read.val_main_v5_apply, Cert.AdamOutReferenceIdeal.Read.val_main_v6_apply, Cert.AdamOutReferenceIdeal.Read.val_main_cst_2_apply, Cert.AdamOutReferenceIdeal.Read.val_main_v7_apply, Cert.AdamOutReferenceIdeal.Read.val_main_v8_apply, Cert.AdamOutReferenceIdeal.Read.val_main_v9_apply, Cert.AdamOutReferenceIdeal.Read.val_main_cst_3_apply, Cert.AdamOutReferenceIdeal.Read.val_main_v10_apply, Cert.AdamOutReferenceIdeal.Read.val_main_v11_apply, Cert.AdamOutReferenceIdeal.Read.val_main_v12_apply, Cert.AdamOutReferenceIdeal.Read.val_main_cst_4_apply, Cert.AdamOutReferenceIdeal.Read.val_main_v13_apply, Cert.AdamOutReferenceIdeal.Read.val_main_v14_apply, Cert.AdamOutReferenceIdeal.Read.val_main_cst_5_apply, Cert.AdamOutReferenceIdeal.Read.val_main_v15_apply, Cert.AdamOutReferenceIdeal.Read.val_main_v16_apply, Cert.AdamOutReferenceIdeal.Read.val_main_v17_apply, Cert.AdamOutReferenceIdeal.Read.val_main_cst_6_apply, Cert.AdamOutReferenceIdeal.Read.val_main_v18_apply, Cert.AdamOutReferenceIdeal.Read.val_main_v19_apply, Cert.AdamOutReferenceIdeal.Read.val_main_v20_apply, Cert.AdamOutReferenceIdeal.Read.val_main_cst_7_apply, Cert.AdamOutReferenceIdeal.Read.val_main_v21_apply, Cert.AdamOutReferenceIdeal.Read.val_main_v22_apply, Cert.AdamOutReferenceIdeal.Read.val_main_v23_apply, Cert.AdamOutReferenceIdeal.Read.val_main_cst_8_apply, Cert.AdamOutReferenceIdeal.Read.val_main_v24_apply, Cert.AdamOutReferenceIdeal.Read.val_main_v25_apply, refG, Ideal.truncf_def, Ideal.extf_def, Ideal.mulf_def, Ideal.addf_def, Ideal.divf_def, Ideal.sqrt_def, Ideal.hostUnary_sqrt_def, Ideal.hostDivf_def, Ideal.ofBits_def, Ideal.ofBits_zero_f32, zero_add]
  rfl

/-- The reference's result is the closed form. -/
theorem refM (x0 : S8x256x2048.Idx → EReal) (x2 : S256x2048.Idx → EReal) : Cert.AdamOutReferenceIdeal.Read.val_main_v6 (F := Ideal) x0 x2 = M x0 x2 := by
  funext i
  simp only [Cert.AdamOutReferenceIdeal.Read.val_main_cst_0_apply, Cert.AdamOutReferenceIdeal.Read.val_main_v2_apply, Cert.AdamOutReferenceIdeal.Read.val_main_v3_apply, Cert.AdamOutReferenceIdeal.Read.val_main_cst_1_apply, Cert.AdamOutReferenceIdeal.Read.val_main_v4_apply, Cert.AdamOutReferenceIdeal.Read.val_main_v5_apply, Cert.AdamOutReferenceIdeal.Read.val_main_v6_apply, Cert.AdamOutReferenceIdeal.Read.val_main_cst_2_apply, Cert.AdamOutReferenceIdeal.Read.val_main_v7_apply, Cert.AdamOutReferenceIdeal.Read.val_main_v8_apply, Cert.AdamOutReferenceIdeal.Read.val_main_v9_apply, Cert.AdamOutReferenceIdeal.Read.val_main_cst_3_apply, Cert.AdamOutReferenceIdeal.Read.val_main_v10_apply, Cert.AdamOutReferenceIdeal.Read.val_main_v11_apply, Cert.AdamOutReferenceIdeal.Read.val_main_v12_apply, Cert.AdamOutReferenceIdeal.Read.val_main_cst_4_apply, Cert.AdamOutReferenceIdeal.Read.val_main_v13_apply, Cert.AdamOutReferenceIdeal.Read.val_main_v14_apply, Cert.AdamOutReferenceIdeal.Read.val_main_cst_5_apply, Cert.AdamOutReferenceIdeal.Read.val_main_v15_apply, Cert.AdamOutReferenceIdeal.Read.val_main_v16_apply, Cert.AdamOutReferenceIdeal.Read.val_main_v17_apply, Cert.AdamOutReferenceIdeal.Read.val_main_cst_6_apply, Cert.AdamOutReferenceIdeal.Read.val_main_v18_apply, Cert.AdamOutReferenceIdeal.Read.val_main_v19_apply, Cert.AdamOutReferenceIdeal.Read.val_main_v20_apply, Cert.AdamOutReferenceIdeal.Read.val_main_cst_7_apply, Cert.AdamOutReferenceIdeal.Read.val_main_v21_apply, Cert.AdamOutReferenceIdeal.Read.val_main_v22_apply, Cert.AdamOutReferenceIdeal.Read.val_main_v23_apply, Cert.AdamOutReferenceIdeal.Read.val_main_cst_8_apply, Cert.AdamOutReferenceIdeal.Read.val_main_v24_apply, Cert.AdamOutReferenceIdeal.Read.val_main_v25_apply, refG, Ideal.truncf_def, Ideal.extf_def, Ideal.mulf_def, Ideal.addf_def, Ideal.divf_def, Ideal.sqrt_def, Ideal.hostUnary_sqrt_def, Ideal.hostDivf_def, Ideal.ofBits_def, Ideal.ofBits_zero_f32, zero_add]
  rfl

/-- The reference's result is the closed form. -/
theorem refW (x0 : S8x256x2048.Idx → EReal) (x3 : S256x2048.Idx → EReal) : Cert.AdamOutReferenceIdeal.Read.val_main_v12 (F := Ideal) x0 x3 = W x0 x3 := by
  funext i
  simp only [Cert.AdamOutReferenceIdeal.Read.val_main_cst_0_apply, Cert.AdamOutReferenceIdeal.Read.val_main_v2_apply, Cert.AdamOutReferenceIdeal.Read.val_main_v3_apply, Cert.AdamOutReferenceIdeal.Read.val_main_cst_1_apply, Cert.AdamOutReferenceIdeal.Read.val_main_v4_apply, Cert.AdamOutReferenceIdeal.Read.val_main_v5_apply, Cert.AdamOutReferenceIdeal.Read.val_main_v6_apply, Cert.AdamOutReferenceIdeal.Read.val_main_cst_2_apply, Cert.AdamOutReferenceIdeal.Read.val_main_v7_apply, Cert.AdamOutReferenceIdeal.Read.val_main_v8_apply, Cert.AdamOutReferenceIdeal.Read.val_main_v9_apply, Cert.AdamOutReferenceIdeal.Read.val_main_cst_3_apply, Cert.AdamOutReferenceIdeal.Read.val_main_v10_apply, Cert.AdamOutReferenceIdeal.Read.val_main_v11_apply, Cert.AdamOutReferenceIdeal.Read.val_main_v12_apply, Cert.AdamOutReferenceIdeal.Read.val_main_cst_4_apply, Cert.AdamOutReferenceIdeal.Read.val_main_v13_apply, Cert.AdamOutReferenceIdeal.Read.val_main_v14_apply, Cert.AdamOutReferenceIdeal.Read.val_main_cst_5_apply, Cert.AdamOutReferenceIdeal.Read.val_main_v15_apply, Cert.AdamOutReferenceIdeal.Read.val_main_v16_apply, Cert.AdamOutReferenceIdeal.Read.val_main_v17_apply, Cert.AdamOutReferenceIdeal.Read.val_main_cst_6_apply, Cert.AdamOutReferenceIdeal.Read.val_main_v18_apply, Cert.AdamOutReferenceIdeal.Read.val_main_v19_apply, Cert.AdamOutReferenceIdeal.Read.val_main_v20_apply, Cert.AdamOutReferenceIdeal.Read.val_main_cst_7_apply, Cert.AdamOutReferenceIdeal.Read.val_main_v21_apply, Cert.AdamOutReferenceIdeal.Read.val_main_v22_apply, Cert.AdamOutReferenceIdeal.Read.val_main_v23_apply, Cert.AdamOutReferenceIdeal.Read.val_main_cst_8_apply, Cert.AdamOutReferenceIdeal.Read.val_main_v24_apply, Cert.AdamOutReferenceIdeal.Read.val_main_v25_apply, refG, Ideal.truncf_def, Ideal.extf_def, Ideal.mulf_def, Ideal.addf_def, Ideal.divf_def, Ideal.sqrt_def, Ideal.hostUnary_sqrt_def, Ideal.hostDivf_def, Ideal.ofBits_def, Ideal.ofBits_zero_f32, zero_add]
  rfl

/-! ## The claims -/

/-- The reference runs to its end, keeps its arguments and leaves every counter at zero. -/
theorem frame_reference : Cert.quiescent_AdamOutReferenceIdeal := fun m ρ _ =>
  (θ_run Cert.AdamOutReferenceIdeal.defs _ _).mono
    (fun r h => ⟨fun c => (h c).2.2.2.2, sem_eq_zero_of_no_sems (by decide) r.2⟩)
    (Cert.AdamOutReferenceIdeal.Value.run m ρ)

/-- From equal arguments the kernel and the reference leave the same arrays, and keep their arguments. -/
theorem algebraic : Cert.algebraic_AdamOutIdeal_AdamOutReferenceIdeal := by
  intro m ρ m' ρ' _ hagree
  refine ⟨fun c => G (m ((c.tc : Thread Cert.AdamOutIdeal.nD Cert.AdamOutIdeal.τ).loc Cert.AdamOutIdeal.main_arg0)),
    fun c => D (m ((c.tc : Thread Cert.AdamOutIdeal.nD Cert.AdamOutIdeal.τ).loc Cert.AdamOutIdeal.main_arg0)) (m ((c.tc : Thread Cert.AdamOutIdeal.nD Cert.AdamOutIdeal.τ).loc Cert.AdamOutIdeal.main_arg1)) (m ((c.tc : Thread Cert.AdamOutIdeal.nD Cert.AdamOutIdeal.τ).loc Cert.AdamOutIdeal.main_arg2)) (m ((c.tc : Thread Cert.AdamOutIdeal.nD Cert.AdamOutIdeal.τ).loc Cert.AdamOutIdeal.main_arg3)),
    fun c => M (m ((c.tc : Thread Cert.AdamOutIdeal.nD Cert.AdamOutIdeal.τ).loc Cert.AdamOutIdeal.main_arg0)) (m ((c.tc : Thread Cert.AdamOutIdeal.nD Cert.AdamOutIdeal.τ).loc Cert.AdamOutIdeal.main_arg2)),
    fun c => W (m ((c.tc : Thread Cert.AdamOutIdeal.nD Cert.AdamOutIdeal.τ).loc Cert.AdamOutIdeal.main_arg0)) (m ((c.tc : Thread Cert.AdamOutIdeal.nD Cert.AdamOutIdeal.τ).loc Cert.AdamOutIdeal.main_arg3)), ?_, ?_⟩
  · refine (θ_run Cert.AdamOutIdeal.defs _ _).mono (fun r h c => ?_) (Cert.AdamOutIdeal.Value.run_blocks m ρ)
    obtain ⟨h0, h1, h2, h3, hk⟩ := h c
    exact ⟨h0.trans (finalG m c), h1.trans (finalD m c), h2.trans (finalM m c), h3.trans (finalW m c), hk⟩
  · refine (θ_run Cert.AdamOutReferenceIdeal.defs _ _).mono (fun r h c => ?_) (Cert.AdamOutReferenceIdeal.Value.run m' ρ')
    obtain ⟨h0, h1, h2, h3, hk⟩ := h c
    obtain ⟨a0, a1, a2, a3⟩ := hagree c
    refine ⟨h0.trans ?_, h1.trans ?_, h2.trans ?_, h3.trans ?_, hk⟩
    · rw [Cert.AdamOutReferenceIdeal.Read.val_main_v1_eq, refG, a0]
    · rw [Cert.AdamOutReferenceIdeal.Read.val_main_v25_eq, refD, a0, a1, a2, a3]
    · rw [Cert.AdamOutReferenceIdeal.Read.val_main_v6_eq, refM, a0, a2]
    · rw [Cert.AdamOutReferenceIdeal.Read.val_main_v12_eq, refW, a0, a3]

end Cert.Proof.AdamOut

end
-- ==== Proof.AdamMixClaim.lean ====
/- The optimiser's step for the three matrices of the two branches: the kernel's four arrays and the reference's, index by index. -/
module

public import proofs.«01_k».proof.Defs
public import proofs.«01_k».proof.Proof.AdamMath
public import proofs.«01_k».proof.Proof.Gen.AdamMixIdeal.Value
public import proofs.«01_k».proof.Proof.Gen.AdamMixReferenceIdeal.Run
public import proofs.«01_k».proof.Proof.Gen.AdamMixReferenceIdeal.Read
public import Idealize.ShloMosaic.PureOps.Ideal
public import Idealize.ShloMosaic.Lib.Pipeline.ValueKit
public import Idealize.ShloMosaic.Lib.IdealHost
public import Idealize.ShloMosaic.Lib.Pointwise
public import Idealize.ShloMosaic.Lib.Claim

@[expose] public section

noncomputable section

namespace Cert.Proof.AdamMix

open Idealize.ShloMosaic Idealize.ShloMosaic.TcCoe Idealize.SL.Sem Cert.AdamMixIdeal Cert.AdamMixIdeal.Gen
open Idealize.ShloMosaic.Pipeline (Dat)
open Cert.Proof.Adam

variable (m : (ℓ : Loc nD τ sig) → Buf (Elt Ideal) ℓ)

/-- The whole gradient: what the eight devices sent, added up. -/
def G (p : S8x1024x256.Idx → EReal) (i : S1024x256.Idx) : EReal := ∑ j : Fin 8, p (ix3 j (i 0) (i 1))
/-- The update. -/
def D (p : S8x1024x256.Idx → EReal) (w m v : S1024x256.Idx → EReal) (i : S1024x256.Idx) : EReal := step (w i) (G p i) (m i) (v i)
/-- The new first moment. -/
def M (p : S8x1024x256.Idx → EReal) (m : S1024x256.Idx → EReal) (i : S1024x256.Idx) : EReal := mom (G p i) (m i)
/-- The new second moment. -/
def W (p : S8x1024x256.Idx → EReal) (v : S1024x256.Idx → EReal) (i : S1024x256.Idx) : EReal := sqr (G p i) (v i)

/-! ## Each window's block index at a grid point -/

theorem e0 : ∀ t : Fin cfg0.N, win0_0.index t = ![0, t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![t.val, 0] := (by decide +kernel : ∀ t : Fin grid0.N, _)

/-! ## The kernel's side -/

/-- One entry of a block of the gradient. -/
theorem pay4 (v0 v3 v7 v11 v15 v19 v23 v27 : S1x512x256.Idx → EReal) (y : S512x256.Idx) :
    k0_pay4 (F := Ideal) v0 v3 v7 v11 v15 v19 v23 v27 y = v0 (ix3 0 (y 0) (y 1)) + v3 (ix3 0 (y 0) (y 1)) + v7 (ix3 0 (y 0) (y 1)) + v11 (ix3 0 (y 0) (y 1)) + v15 (ix3 0 (y 0) (y 1)) + v19 (ix3 0 (y 0) (y 1)) + v23 (ix3 0 (y 0) (y 1)) + v27 (ix3 0 (y 0) (y 1)) := by
  pointwise [k0_pay4]

/-- One entry of a block of the first moment. -/
theorem pay1 (g m : S512x256.Idx → EReal) (y : S512x256.Idx) : k0_pay1 (F := Ideal) g m y = mom (g y) (m y) := by
  pointwise [k0_pay1, mom]

/-- One entry of a block of the second moment. -/
theorem pay2 (g v : S512x256.Idx → EReal) (y : S512x256.Idx) : k0_pay2 (F := Ideal) g v y = sqr (g y) (v y) := by
  pointwise [k0_pay2, sqr]

/-- One entry of a block of the update. -/
theorem pay3 (g w m v : S512x256.Idx → EReal) (y : S512x256.Idx) : k0_pay3 (F := Ideal) g w m v y = step (w y) (g y) (m y) (v y) := by
  pointwise [k0_pay3, pay1, pay2, step]

/-- One entry of the gradient the kernel forms of a point's blocks. -/
theorem grad_at (c : Dev nD) (t : Fin cfg0.N) (y : S512x256.Idx) (i : S1024x256.Idx) (hi : i = (win0_4.blk t).view.emb y) :
    k0_pay4 (F := Ideal) (View.ld (iblk m c 0 t : S8x512x256.Idx → EReal) (Rect.unit (s := S8x512x256) ![0, 0, 0] S1x512x256.size inb_S8x512x256_S1x512x256_0_0_0)) (View.ld (iblk m c 0 t : S8x512x256.Idx → EReal) (Rect.unit (s := S8x512x256) ![1, 0, 0] S1x512x256.size inb_S8x512x256_S1x512x256_1_0_0)) (View.ld (iblk m c 0 t : S8x512x256.Idx → EReal) (Rect.unit (s := S8x512x256) ![2, 0, 0] S1x512x256.size inb_S8x512x256_S1x512x256_2_0_0)) (View.ld (iblk m c 0 t : S8x512x256.Idx → EReal) (Rect.unit (s := S8x512x256) ![3, 0, 0] S1x512x256.size inb_S8x512x256_S1x512x256_3_0_0)) (View.ld (iblk m c 0 t : S8x512x256.Idx → EReal) (Rect.unit (s := S8x512x256) ![4, 0, 0] S1x512x256.size inb_S8x512x256_S1x512x256_4_0_0)) (View.ld (iblk m c 0 t : S8x512x256.Idx → EReal) (Rect.unit (s := S8x512x256) ![5, 0, 0] S1x512x256.size inb_S8x512x256_S1x512x256_5_0_0)) (View.ld (iblk m c 0 t : S8x512x256.Idx → EReal) (Rect.unit (s := S8x512x256) ![6, 0, 0] S1x512x256.size inb_S8x512x256_S1x512x256_6_0_0)) (View.ld (iblk m c 0 t : S8x512x256.Idx → EReal) (Rect.unit (s := S8x512x256) ![7, 0, 0] S1x512x256.size inb_S8x512x256_S1x512x256_7_0_0)) y = G (m ((c : Thread nD τ).loc main_arg0)) i := by
  subst hi
  refine (pay4 _ _ _ _ _ _ _ _ y).trans ?_
  unfold G
  rw [Fin.sum_univ_eight]
  have h : ∀ j : Fin 8, (win0_0.blk t).view.emb (ix3 j (y 0) (y 1)) = ix3 j ((win0_4.blk t).view.emb y 0) ((win0_4.blk t).view.emb y 1) := fun j => by
    blk_ext [e0 t, e4 t]
  refine congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (?_) ?_) ?_) ?_) ?_) ?_) ?_) ?_
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 0))
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 1))
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 2))
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 3))
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 4))
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 5))
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 6))
  · exact congrArg (m ((c : Thread nD τ).loc main_arg0)) ((congrArg (win0_0.blk t).view.emb (funext fun b => Fin.ext (by match b with | ⟨0, _⟩ => rfl | ⟨1, _⟩ => simp [Rect.unit] | ⟨2, _⟩ => simp [Rect.unit]))).trans (h 7))

/-- The result array, whole. -/
theorem finalG (c : Dev nD) : (dats m 0 c).arrAt 4 cfg0.N = G (m ((c : Thread nD τ).loc main_arg0)) := by
  refine (dats m 0 c).arrAt_eq_of_covers 4 _ (by decide +kernel) fun t hf y => ?_
  blk_simp
  rw [after0_4]
  unfold out0_4
  try frame_out
  exact grad_at m c t y _ rfl

/-- The result array, whole. -/
theorem finalD (c : Dev nD) : (dats m 0 c).arrAt 5 cfg0.N = D (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  unfold out0_5
  try frame_out
  refine (pay3 _ _ _ _ y).trans ?_
  unfold D
  refine cong4 step (congrArg (m ((c : Thread nD τ).loc main_arg1)) (show (win0_1.blk t).view.emb y = (win0_5.blk t).view.emb y by blk_ext [e1 t, e5 t])) (grad_at m c t y _ (by blk_ext [e4 t, e5 t])) (congrArg (m ((c : Thread nD τ).loc main_arg2)) (show (win0_2.blk t).view.emb y = (win0_5.blk t).view.emb y by blk_ext [e2 t, e5 t])) (congrArg (m ((c : Thread nD τ).loc main_arg3)) (show (win0_3.blk t).view.emb y = (win0_5.blk t).view.emb y by blk_ext [e3 t, e5 t]))

/-- The result array, whole. -/
theorem finalM (c : Dev nD) : (dats m 0 c).arrAt 6 cfg0.N = M (m ((c : Thread nD τ).loc main_arg0)) (m ((c : Thread nD τ).loc main_arg2)) := by
  refine (dats m 0 c).arrAt_eq_of_covers 6 _ (by decide +kernel) fun t hf y => ?_
  blk_simp
  rw [after0_6]
  unfold out0_6
  try frame_out
  refine (pay1 _ _ y).trans ?_
  unfold M
  exact congrArg₂ mom (grad_at m c t y _ (by blk_ext [e4 t, e6 t])) (congrArg (m ((c : Thread nD τ).loc main_arg2)) (show (win0_2.blk t).view.emb y = (win0_6.blk t).view.emb y by blk_ext [e2 t, e6 t]))

/-- The result array, whole. -/
theorem finalW (c : Dev nD) : (dats m 0 c).arrAt 7 cfg0.N = W (m ((c : Thread nD τ).loc main_arg0)) (m ((c : Thread nD τ).loc main_arg3)) := by
  refine (dats m 0 c).arrAt_eq_of_covers 7 _ (by decide +kernel) fun t hf y => ?_
  blk_simp
  rw [after0_7]
  unfold out0_7
  try frame_out
  refine (pay2 _ _ y).trans ?_
  unfold W
  exact congrArg₂ sqr (grad_at m c t y _ (by blk_ext [e4 t, e7 t])) (congrArg (m ((c : Thread nD τ).loc main_arg3)) (show (win0_3.blk t).view.emb y = (win0_7.blk t).view.emb y by blk_ext [e3 t, e7 t]))

/-! ## The reference's side -/

/-- The reference's gradient. -/
theorem refG (x0 : S8x1024x256.Idx → EReal) : Cert.AdamMixReferenceIdeal.Read.val_main_v1 (F := Ideal) x0 = G x0 := by
  funext i
  simp only [Cert.AdamMixReferenceIdeal.Read.val_main_v1_apply, Cert.AdamMixReferenceIdeal.Read.val_main_cst_apply, Cert.AdamMixReferenceIdeal.Read.val_main_v0_apply, Ideal.extf_def, Ideal.ofBits_def, Ideal.ofBits_zero_f32, zero_add]
  refine Finset.sum_congr rfl fun j _ => congrArg x0 (funext fun b => Fin.ext ?_)
  match b with
  | ⟨0, _⟩ => rfl
  | ⟨1, _⟩ => rfl
  | ⟨2, _⟩ => rfl

/-- The reference's result is the closed form. -/
theorem refD (x0 : S8x1024x256.Idx → EReal) (x1 x2 x3 : S1024x256.Idx → EReal) : Cert.AdamMixReferenceIdeal.Read.val_main_v25 (F := Ideal) x0 x1 x2 x3 = D x0 x1 x2 x3 := by
  funext i
  simp only [Cert.AdamMixReferenceIdeal.Read.val_main_cst_0_apply, Cert.AdamMixReferenceIdeal.Read.val_main_v2_apply, Cert.AdamMixReferenceIdeal.Read.val_main_v3_apply, Cert.AdamMixReferenceIdeal.Read.val_main_cst_1_apply, Cert.AdamMixReferenceIdeal.Read.val_main_v4_apply, Cert.AdamMixReferenceIdeal.Read.val_main_v5_apply, Cert.AdamMixReferenceIdeal.Read.val_main_v6_apply, Cert.AdamMixReferenceIdeal.Read.val_main_cst_2_apply, Cert.AdamMixReferenceIdeal.Read.val_main_v7_apply, Cert.AdamMixReferenceIdeal.Read.val_main_v8_apply, Cert.AdamMixReferenceIdeal.Read.val_main_v9_apply, Cert.AdamMixReferenceIdeal.Read.val_main_cst_3_apply, Cert.AdamMixReferenceIdeal.Read.val_main_v10_apply, Cert.AdamMixReferenceIdeal.Read.val_main_v11_apply, Cert.AdamMixReferenceIdeal.Read.val_main_v12_apply, Cert.AdamMixReferenceIdeal.Read.val_main_cst_4_apply, Cert.AdamMixReferenceIdeal.Read.val_main_v13_apply, Cert.AdamMixReferenceIdeal.Read.val_main_v14_apply, Cert.AdamMixReferenceIdeal.Read.val_main_cst_5_apply, Cert.AdamMixReferenceIdeal.Read.val_main_v15_apply, Cert.AdamMixReferenceIdeal.Read.val_main_v16_apply, Cert.AdamMixReferenceIdeal.Read.val_main_v17_apply, Cert.AdamMixReferenceIdeal.Read.val_main_cst_6_apply, Cert.AdamMixReferenceIdeal.Read.val_main_v18_apply, Cert.AdamMixReferenceIdeal.Read.val_main_v19_apply, Cert.AdamMixReferenceIdeal.Read.val_main_v20_apply, Cert.AdamMixReferenceIdeal.Read.val_main_cst_7_apply, Cert.AdamMixReferenceIdeal.Read.val_main_v21_apply, Cert.AdamMixReferenceIdeal.Read.val_main_v22_apply, Cert.AdamMixReferenceIdeal.Read.val_main_v23_apply, Cert.AdamMixReferenceIdeal.Read.val_main_cst_8_apply, Cert.AdamMixReferenceIdeal.Read.val_main_v24_apply, Cert.AdamMixReferenceIdeal.Read.val_main_v25_apply, refG, Ideal.truncf_def, Ideal.extf_def, Ideal.mulf_def, Ideal.addf_def, Ideal.divf_def, Ideal.sqrt_def, Ideal.hostUnary_sqrt_def, Ideal.hostDivf_def, Ideal.ofBits_def, Ideal.ofBits_zero_f32, zero_add]
  rfl

/-- The reference's result is the closed form. -/
theorem refM (x0 : S8x1024x256.Idx → EReal) (x2 : S1024x256.Idx → EReal) : Cert.AdamMixReferenceIdeal.Read.val_main_v6 (F := Ideal) x0 x2 = M x0 x2 := by
  funext i
  simp only [Cert.AdamMixReferenceIdeal.Read.val_main_cst_0_apply, Cert.AdamMixReferenceIdeal.Read.val_main_v2_apply, Cert.AdamMixReferenceIdeal.Read.val_main_v3_apply, Cert.AdamMixReferenceIdeal.Read.val_main_cst_1_apply, Cert.AdamMixReferenceIdeal.Read.val_main_v4_apply, Cert.AdamMixReferenceIdeal.Read.val_main_v5_apply, Cert.AdamMixReferenceIdeal.Read.val_main_v6_apply, Cert.AdamMixReferenceIdeal.Read.val_main_cst_2_apply, Cert.AdamMixReferenceIdeal.Read.val_main_v7_apply, Cert.AdamMixReferenceIdeal.Read.val_main_v8_apply, Cert.AdamMixReferenceIdeal.Read.val_main_v9_apply, Cert.AdamMixReferenceIdeal.Read.val_main_cst_3_apply, Cert.AdamMixReferenceIdeal.Read.val_main_v10_apply, Cert.AdamMixReferenceIdeal.Read.val_main_v11_apply, Cert.AdamMixReferenceIdeal.Read.val_main_v12_apply, Cert.AdamMixReferenceIdeal.Read.val_main_cst_4_apply, Cert.AdamMixReferenceIdeal.Read.val_main_v13_apply, Cert.AdamMixReferenceIdeal.Read.val_main_v14_apply, Cert.AdamMixReferenceIdeal.Read.val_main_cst_5_apply, Cert.AdamMixReferenceIdeal.Read.val_main_v15_apply, Cert.AdamMixReferenceIdeal.Read.val_main_v16_apply, Cert.AdamMixReferenceIdeal.Read.val_main_v17_apply, Cert.AdamMixReferenceIdeal.Read.val_main_cst_6_apply, Cert.AdamMixReferenceIdeal.Read.val_main_v18_apply, Cert.AdamMixReferenceIdeal.Read.val_main_v19_apply, Cert.AdamMixReferenceIdeal.Read.val_main_v20_apply, Cert.AdamMixReferenceIdeal.Read.val_main_cst_7_apply, Cert.AdamMixReferenceIdeal.Read.val_main_v21_apply, Cert.AdamMixReferenceIdeal.Read.val_main_v22_apply, Cert.AdamMixReferenceIdeal.Read.val_main_v23_apply, Cert.AdamMixReferenceIdeal.Read.val_main_cst_8_apply, Cert.AdamMixReferenceIdeal.Read.val_main_v24_apply, Cert.AdamMixReferenceIdeal.Read.val_main_v25_apply, refG, Ideal.truncf_def, Ideal.extf_def, Ideal.mulf_def, Ideal.addf_def, Ideal.divf_def, Ideal.sqrt_def, Ideal.hostUnary_sqrt_def, Ideal.hostDivf_def, Ideal.ofBits_def, Ideal.ofBits_zero_f32, zero_add]
  rfl

/-- The reference's result is the closed form. -/
theorem refW (x0 : S8x1024x256.Idx → EReal) (x3 : S1024x256.Idx → EReal) : Cert.AdamMixReferenceIdeal.Read.val_main_v12 (F := Ideal) x0 x3 = W x0 x3 := by
  funext i
  simp only [Cert.AdamMixReferenceIdeal.Read.val_main_cst_0_apply, Cert.AdamMixReferenceIdeal.Read.val_main_v2_apply, Cert.AdamMixReferenceIdeal.Read.val_main_v3_apply, Cert.AdamMixReferenceIdeal.Read.val_main_cst_1_apply, Cert.AdamMixReferenceIdeal.Read.val_main_v4_apply, Cert.AdamMixReferenceIdeal.Read.val_main_v5_apply, Cert.AdamMixReferenceIdeal.Read.val_main_v6_apply, Cert.AdamMixReferenceIdeal.Read.val_main_cst_2_apply, Cert.AdamMixReferenceIdeal.Read.val_main_v7_apply, Cert.AdamMixReferenceIdeal.Read.val_main_v8_apply, Cert.AdamMixReferenceIdeal.Read.val_main_v9_apply, Cert.AdamMixReferenceIdeal.Read.val_main_cst_3_apply, Cert.AdamMixReferenceIdeal.Read.val_main_v10_apply, Cert.AdamMixReferenceIdeal.Read.val_main_v11_apply, Cert.AdamMixReferenceIdeal.Read.val_main_v12_apply, Cert.AdamMixReferenceIdeal.Read.val_main_cst_4_apply, Cert.AdamMixReferenceIdeal.Read.val_main_v13_apply, Cert.AdamMixReferenceIdeal.Read.val_main_v14_apply, Cert.AdamMixReferenceIdeal.Read.val_main_cst_5_apply, Cert.AdamMixReferenceIdeal.Read.val_main_v15_apply, Cert.AdamMixReferenceIdeal.Read.val_main_v16_apply, Cert.AdamMixReferenceIdeal.Read.val_main_v17_apply, Cert.AdamMixReferenceIdeal.Read.val_main_cst_6_apply, Cert.AdamMixReferenceIdeal.Read.val_main_v18_apply, Cert.AdamMixReferenceIdeal.Read.val_main_v19_apply, Cert.AdamMixReferenceIdeal.Read.val_main_v20_apply, Cert.AdamMixReferenceIdeal.Read.val_main_cst_7_apply, Cert.AdamMixReferenceIdeal.Read.val_main_v21_apply, Cert.AdamMixReferenceIdeal.Read.val_main_v22_apply, Cert.AdamMixReferenceIdeal.Read.val_main_v23_apply, Cert.AdamMixReferenceIdeal.Read.val_main_cst_8_apply, Cert.AdamMixReferenceIdeal.Read.val_main_v24_apply, Cert.AdamMixReferenceIdeal.Read.val_main_v25_apply, refG, Ideal.truncf_def, Ideal.extf_def, Ideal.mulf_def, Ideal.addf_def, Ideal.divf_def, Ideal.sqrt_def, Ideal.hostUnary_sqrt_def, Ideal.hostDivf_def, Ideal.ofBits_def, Ideal.ofBits_zero_f32, zero_add]
  rfl

/-! ## The claims -/

/-- The reference runs to its end, keeps its arguments and leaves every counter at zero. -/
theorem frame_reference : Cert.quiescent_AdamMixReferenceIdeal := fun m ρ _ =>
  (θ_run Cert.AdamMixReferenceIdeal.defs _ _).mono
    (fun r h => ⟨fun c => (h c).2.2.2.2, sem_eq_zero_of_no_sems (by decide) r.2⟩)
    (Cert.AdamMixReferenceIdeal.Value.run m ρ)

/-- From equal arguments the kernel and the reference leave the same arrays, and keep their arguments. -/
theorem algebraic : Cert.algebraic_AdamMixIdeal_AdamMixReferenceIdeal := by
  intro m ρ m' ρ' _ hagree
  refine ⟨fun c => G (m ((c.tc : Thread Cert.AdamMixIdeal.nD Cert.AdamMixIdeal.τ).loc Cert.AdamMixIdeal.main_arg0)),
    fun c => D (m ((c.tc : Thread Cert.AdamMixIdeal.nD Cert.AdamMixIdeal.τ).loc Cert.AdamMixIdeal.main_arg0)) (m ((c.tc : Thread Cert.AdamMixIdeal.nD Cert.AdamMixIdeal.τ).loc Cert.AdamMixIdeal.main_arg1)) (m ((c.tc : Thread Cert.AdamMixIdeal.nD Cert.AdamMixIdeal.τ).loc Cert.AdamMixIdeal.main_arg2)) (m ((c.tc : Thread Cert.AdamMixIdeal.nD Cert.AdamMixIdeal.τ).loc Cert.AdamMixIdeal.main_arg3)),
    fun c => M (m ((c.tc : Thread Cert.AdamMixIdeal.nD Cert.AdamMixIdeal.τ).loc Cert.AdamMixIdeal.main_arg0)) (m ((c.tc : Thread Cert.AdamMixIdeal.nD Cert.AdamMixIdeal.τ).loc Cert.AdamMixIdeal.main_arg2)),
    fun c => W (m ((c.tc : Thread Cert.AdamMixIdeal.nD Cert.AdamMixIdeal.τ).loc Cert.AdamMixIdeal.main_arg0)) (m ((c.tc : Thread Cert.AdamMixIdeal.nD Cert.AdamMixIdeal.τ).loc Cert.AdamMixIdeal.main_arg3)), ?_, ?_⟩
  · refine (θ_run Cert.AdamMixIdeal.defs _ _).mono (fun r h c => ?_) (Cert.AdamMixIdeal.Value.run_blocks m ρ)
    obtain ⟨h0, h1, h2, h3, hk⟩ := h c
    exact ⟨h0.trans (finalG m c), h1.trans (finalD m c), h2.trans (finalM m c), h3.trans (finalW m c), hk⟩
  · refine (θ_run Cert.AdamMixReferenceIdeal.defs _ _).mono (fun r h c => ?_) (Cert.AdamMixReferenceIdeal.Value.run m' ρ')
    obtain ⟨h0, h1, h2, h3, hk⟩ := h c
    obtain ⟨a0, a1, a2, a3⟩ := hagree c
    refine ⟨h0.trans ?_, h1.trans ?_, h2.trans ?_, h3.trans ?_, hk⟩
    · rw [Cert.AdamMixReferenceIdeal.Read.val_main_v1_eq, refG, a0]
    · rw [Cert.AdamMixReferenceIdeal.Read.val_main_v25_eq, refD, a0, a1, a2, a3]
    · rw [Cert.AdamMixReferenceIdeal.Read.val_main_v6_eq, refM, a0, a2]
    · rw [Cert.AdamMixReferenceIdeal.Read.val_main_v12_eq, refW, a0, a3]

end Cert.Proof.AdamMix

end
-- ==== Proof.AdamAdaClaim.lean ====
/- The optimiser's step for the modulation's matrix: the kernel's four arrays and the reference's, index by index. -/
module

public import proofs.«01_k».proof.Defs
public import proofs.«01_k».proof.Proof.AdamMath
public import proofs.«01_k».proof.Proof.Gen.AdamAdaIdeal.Value
public import proofs.«01_k».proof.Proof.Gen.AdamAdaReferenceIdeal.Run
public import proofs.«01_k».proof.Proof.Gen.AdamAdaReferenceIdeal.Read
public import Idealize.ShloMosaic.PureOps.Ideal
public import Idealize.ShloMosaic.Lib.Pipeline.ValueKit
public import Idealize.ShloMosaic.Lib.IdealHost
public import Idealize.ShloMosaic.Lib.Pointwise
public import Idealize.ShloMosaic.Lib.Claim

@[expose] public section

noncomputable section

namespace Cert.Proof.AdamAda

open Idealize.ShloMosaic Idealize.ShloMosaic.TcCoe Idealize.SL.Sem Cert.AdamAdaIdeal Cert.AdamAdaIdeal.Gen
open Idealize.ShloMosaic.Pipeline (Dat)
open Cert.Proof.Adam

variable (m : (ℓ : Loc nD τ sig) → Buf (Elt Ideal) ℓ)

/-- The gradient: the eight sequences' conditioning against the eight sequences' cotangents. -/
def G (a : S8x2048.Idx → EReal) (d : S8x1536.Idx → EReal) (i : S2048x1536.Idx) : EReal := ∑ k : Fin 8, a (ix2 k (i 0)) * d (ix2 k (i 1))
/-- The update. -/
def D (a : S8x2048.Idx → EReal) (d : S8x1536.Idx → EReal) (w m v : S2048x1536.Idx → EReal) (i : S2048x1536.Idx) : EReal := step (w i) (G a d i) (m i) (v i)
/-- The new first moment. -/
def M (a : S8x2048.Idx → EReal) (d : S8x1536.Idx → EReal) (m : S2048x1536.Idx → EReal) (i : S2048x1536.Idx) : EReal := mom (G a d i) (m i)
/-- The new second moment. -/
def W (a : S8x2048.Idx → EReal) (d : S8x1536.Idx → EReal) (v : S2048x1536.Idx → EReal) (i : S2048x1536.Idx) : EReal := sqr (G a d i) (v i)

/-! ## Each window's block index at a grid point -/

theorem e0 : ∀ t : Fin cfg0.N, win0_0.index t = ![0, 0] := (by decide +kernel : ∀ t : Fin grid0.N, _)
theorem e1 : ∀ t : Fin cfg0.N, win0_1.index t = ![0, t.val] := (by decide +kernel : ∀ t : Fin grid0.N, _)
theorem e2 : ∀ t : Fin cfg0.N, win0_2.index t = ![0, t.val] := (by decide +kernel : ∀ t : Fin grid0.N, _)
theorem e3 : ∀ t : Fin cfg0.N, win0_3.index t = ![0, t.val] := (by decide +kernel : ∀ t : Fin grid0.N, _)
theorem e4 : ∀ t : Fin cfg0.N, win0_4.index t = ![0, t.val] := (by decide +kernel : ∀ t : Fin grid0.N, _)
theorem e5 : ∀ t : Fin cfg0.N, win0_5.index t = ![0, t.val] := (by decide +kernel : ∀ t : Fin grid0.N, _)
theorem e6 : ∀ t : Fin cfg0.N, win0_6.index t = ![0, t.val] := (by decide +kernel : ∀ t : Fin grid0.N, _)
theorem e7 : ∀ t : Fin cfg0.N, win0_7.index t = ![0, t.val] := (by decide +kernel : ∀ t : Fin grid0.N, _)
theorem e8 : ∀ t : Fin cfg0.N, win0_8.index t = ![0, t.val] := (by decide +kernel : ∀ t : Fin grid0.N, _)

/-! ## The kernel's side -/

/-- One entry of a block of the gradient. -/
theorem pay1 (a : S8x2048.Idx → EReal) (d : S8x256.Idx → EReal) (y : S2048x256.Idx) :
    k0_pay1 (F := Ideal) a d y = ∑ k : Fin 8, a (ix2 k (y 0)) * d (ix2 k (y 1)) := by
  pointwise [k0_pay1]

/-- One entry of a block of the first moment. -/
theorem pay2 (a : S8x2048.Idx → EReal) (d : S8x256.Idx → EReal) (m : S2048x256.Idx → EReal) (y : S2048x256.Idx) : k0_pay2 (F := Ideal) a d m y = mom (k0_pay1 (F := Ideal) a d y) (m y) := by
  generalize h : k0_pay1 (F := Ideal) a d = g
  pointwise [k0_pay2, h, mom]

/-- One entry of a block of the second moment. -/
theorem pay3 (a : S8x2048.Idx → EReal) (d : S8x256.Idx → EReal) (v : S2048x256.Idx → EReal) (y : S2048x256.Idx) : k0_pay3 (F := Ideal) a d v y = sqr (k0_pay1 (F := Ideal) a d y) (v y) := by
  generalize h : k0_pay1 (F := Ideal) a d = g
  pointwise [k0_pay3, h, sqr]

/-- One entry of a block of the update. -/
theorem pay4 (a : S8x2048.Idx → EReal) (d : S8x256.Idx → EReal) (w m v : S2048x256.Idx → EReal) (y : S2048x256.Idx) :
    k0_pay4 (F := Ideal) a d w m v y = step (w y) (k0_pay1 (F := Ideal) a d y) (m y) (v y) := by
  pointwise [k0_pay4, pay2, pay3, step]

/-- One entry of the gradient the kernel forms of a point's blocks. -/
theorem grad_at (c : Dev nD) (t : Fin cfg0.N) (y : S2048x256.Idx) (i : S2048x1536.Idx) (hi : i = (win0_5.blk t).view.emb y) :
    k0_pay1 (F := Ideal) (iblk m c 0 t : S8x2048.Idx → EReal) (iblk m c 1 t : S8x256.Idx → EReal) y = G (m ((c : Thread nD τ).loc main_arg0)) (m ((c : Thread nD τ).loc main_arg1)) i := by
  subst hi
  refine (pay1 _ _ y).trans (Finset.sum_congr rfl fun k _ => congrArg₂ (fun a b : EReal => a * b) (congrArg (m ((c : Thread nD τ).loc main_arg0)) ?_) (congrArg (m ((c : Thread nD τ).loc main_arg1)) ?_))
  · show (win0_0.blk t).view.emb (ix2 k (y 0)) = _
    blk_ext [e0 t, e5 t]
  · show (win0_1.blk t).view.emb (ix2 k (y 1)) = _
    blk_ext [e1 t, e5 t]

/-- The result array, whole. -/
theorem finalG (c : Dev nD) : (dats m 0 c).arrAt 5 cfg0.N = G (m ((c : Thread nD τ).loc main_arg0)) (m ((c : Thread nD τ).loc main_arg1)) := by
  refine (dats m 0 c).arrAt_eq_of_covers 5 _ (by decide +kernel) fun t hf y => ?_
  blk_simp
  rw [after0_5]
  unfold out0_5
  frame_out
  exact grad_at m c t y _ rfl

/-- The result array, whole. -/
theorem finalD (c : Dev nD) : (dats m 0 c).arrAt 6 cfg0.N = D (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  unfold out0_6
  frame_out
  refine (pay4 _ _ _ _ _ y).trans ?_
  unfold D
  refine cong4 step (congrArg (m ((c : Thread nD τ).loc main_arg2)) (show (win0_2.blk t).view.emb y = (win0_6.blk t).view.emb y by blk_ext [e2 t, e6 t])) (grad_at m c t y _ (by blk_ext [e5 t, e6 t])) (congrArg (m ((c : Thread nD τ).loc main_arg3)) (show (win0_3.blk t).view.emb y = (win0_6.blk t).view.emb y by blk_ext [e3 t, e6 t])) (congrArg (m ((c : Thread nD τ).loc main_arg4)) (show (win0_4.blk t).view.emb y = (win0_6.blk t).view.emb y by blk_ext [e4 t, e6 t]))

/-- The result array, whole. -/
theorem finalM (c : Dev nD) : (dats m 0 c).arrAt 7 cfg0.N = M (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  unfold out0_7
  frame_out
  refine (pay2 _ _ _ y).trans ?_
  unfold M
  exact congrArg₂ mom (grad_at m c t y _ (by blk_ext [e5 t, e7 t])) (congrArg (m ((c : Thread nD τ).loc main_arg3)) (show (win0_3.blk t).view.emb y = (win0_7.blk t).view.emb y by blk_ext [e3 t, e7 t]))

/-- The result array, whole. -/
theorem finalW (c : Dev nD) : (dats m 0 c).arrAt 8 cfg0.N = W (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  unfold out0_8
  frame_out
  refine (pay3 _ _ _ y).trans ?_
  unfold W
  exact congrArg₂ sqr (grad_at m c t y _ (by blk_ext [e5 t, e8 t])) (congrArg (m ((c : Thread nD τ).loc main_arg4)) (show (win0_4.blk t).view.emb y = (win0_8.blk t).view.emb y by blk_ext [e4 t, e8 t]))

/-! ## The reference's side -/

/-- The reference's gradient. -/
theorem refG (x0 : S8x2048.Idx → EReal) (x1 : S8x1536.Idx → EReal) : Cert.AdamAdaReferenceIdeal.Read.val_main_v2 (F := Ideal) x0 x1 = G x0 x1 := by
  funext i
  simp only [Cert.AdamAdaReferenceIdeal.Read.val_main_v2_apply, Cert.AdamAdaReferenceIdeal.Read.val_main_v1_apply]
  refine Finset.sum_congr rfl fun k _ => ?_
  rw [mul_comm]
  refine congrArg₂ (fun a b : EReal => a * b) (congrArg x0 (funext fun b => Fin.ext ?_)) (congrArg x1 (funext fun b => Fin.ext ?_))
  · match b with
    | ⟨0, _⟩ => rfl
    | ⟨1, _⟩ => rfl
  · match b with
    | ⟨0, _⟩ => rfl
    | ⟨1, _⟩ => rfl

/-- The reference's result is the closed form. -/
theorem refD (x0 : S8x2048.Idx → EReal) (x1 : S8x1536.Idx → EReal) (x2 x3 x4 : S2048x1536.Idx → EReal) : Cert.AdamAdaReferenceIdeal.Read.val_main_v26 (F := Ideal) x0 x1 x2 x3 x4 = D x0 x1 x2 x3 x4 := by
  funext i
  simp only [Cert.AdamAdaReferenceIdeal.Read.val_main_cst_apply, Cert.AdamAdaReferenceIdeal.Read.val_main_v3_apply, Cert.AdamAdaReferenceIdeal.Read.val_main_v4_apply, Cert.AdamAdaReferenceIdeal.Read.val_main_cst_0_apply, Cert.AdamAdaReferenceIdeal.Read.val_main_v5_apply, Cert.AdamAdaReferenceIdeal.Read.val_main_v6_apply, Cert.AdamAdaReferenceIdeal.Read.val_main_v7_apply, Cert.AdamAdaReferenceIdeal.Read.val_main_cst_1_apply, Cert.AdamAdaReferenceIdeal.Read.val_main_v8_apply, Cert.AdamAdaReferenceIdeal.Read.val_main_v9_apply, Cert.AdamAdaReferenceIdeal.Read.val_main_v10_apply, Cert.AdamAdaReferenceIdeal.Read.val_main_cst_2_apply, Cert.AdamAdaReferenceIdeal.Read.val_main_v11_apply, Cert.AdamAdaReferenceIdeal.Read.val_main_v12_apply, Cert.AdamAdaReferenceIdeal.Read.val_main_v13_apply, Cert.AdamAdaReferenceIdeal.Read.val_main_cst_3_apply, Cert.AdamAdaReferenceIdeal.Read.val_main_v14_apply, Cert.AdamAdaReferenceIdeal.Read.val_main_v15_apply, Cert.AdamAdaReferenceIdeal.Read.val_main_cst_4_apply, Cert.AdamAdaReferenceIdeal.Read.val_main_v16_apply, Cert.AdamAdaReferenceIdeal.Read.val_main_v17_apply, Cert.AdamAdaReferenceIdeal.Read.val_main_v18_apply, Cert.AdamAdaReferenceIdeal.Read.val_main_cst_5_apply, Cert.AdamAdaReferenceIdeal.Read.val_main_v19_apply, Cert.AdamAdaReferenceIdeal.Read.val_main_v20_apply, Cert.AdamAdaReferenceIdeal.Read.val_main_v21_apply, Cert.AdamAdaReferenceIdeal.Read.val_main_cst_6_apply, Cert.AdamAdaReferenceIdeal.Read.val_main_v22_apply, Cert.AdamAdaReferenceIdeal.Read.val_main_v23_apply, Cert.AdamAdaReferenceIdeal.Read.val_main_v24_apply, Cert.AdamAdaReferenceIdeal.Read.val_main_cst_7_apply, Cert.AdamAdaReferenceIdeal.Read.val_main_v25_apply, Cert.AdamAdaReferenceIdeal.Read.val_main_v26_apply, refG, Ideal.truncf_def, Ideal.extf_def, Ideal.mulf_def, Ideal.addf_def, Ideal.divf_def, Ideal.sqrt_def, Ideal.hostUnary_sqrt_def, Ideal.hostDivf_def, Ideal.ofBits_def, Ideal.ofBits_zero_f32, zero_add]
  rfl

/-- The reference's result is the closed form. -/
theorem refM (x0 : S8x2048.Idx → EReal) (x1 : S8x1536.Idx → EReal) (x3 : S2048x1536.Idx → EReal) : Cert.AdamAdaReferenceIdeal.Read.val_main_v7 (F := Ideal) x0 x1 x3 = M x0 x1 x3 := by
  funext i
  simp only [Cert.AdamAdaReferenceIdeal.Read.val_main_cst_apply, Cert.AdamAdaReferenceIdeal.Read.val_main_v3_apply, Cert.AdamAdaReferenceIdeal.Read.val_main_v4_apply, Cert.AdamAdaReferenceIdeal.Read.val_main_cst_0_apply, Cert.AdamAdaReferenceIdeal.Read.val_main_v5_apply, Cert.AdamAdaReferenceIdeal.Read.val_main_v6_apply, Cert.AdamAdaReferenceIdeal.Read.val_main_v7_apply, Cert.AdamAdaReferenceIdeal.Read.val_main_cst_1_apply, Cert.AdamAdaReferenceIdeal.Read.val_main_v8_apply, Cert.AdamAdaReferenceIdeal.Read.val_main_v9_apply, Cert.AdamAdaReferenceIdeal.Read.val_main_v10_apply, Cert.AdamAdaReferenceIdeal.Read.val_main_cst_2_apply, Cert.AdamAdaReferenceIdeal.Read.val_main_v11_apply, Cert.AdamAdaReferenceIdeal.Read.val_main_v12_apply, Cert.AdamAdaReferenceIdeal.Read.val_main_v13_apply, Cert.AdamAdaReferenceIdeal.Read.val_main_cst_3_apply, Cert.AdamAdaReferenceIdeal.Read.val_main_v14_apply, Cert.AdamAdaReferenceIdeal.Read.val_main_v15_apply, Cert.AdamAdaReferenceIdeal.Read.val_main_cst_4_apply, Cert.AdamAdaReferenceIdeal.Read.val_main_v16_apply, Cert.AdamAdaReferenceIdeal.Read.val_main_v17_apply, Cert.AdamAdaReferenceIdeal.Read.val_main_v18_apply, Cert.AdamAdaReferenceIdeal.Read.val_main_cst_5_apply, Cert.AdamAdaReferenceIdeal.Read.val_main_v19_apply, Cert.AdamAdaReferenceIdeal.Read.val_main_v20_apply, Cert.AdamAdaReferenceIdeal.Read.val_main_v21_apply, Cert.AdamAdaReferenceIdeal.Read.val_main_cst_6_apply, Cert.AdamAdaReferenceIdeal.Read.val_main_v22_apply, Cert.AdamAdaReferenceIdeal.Read.val_main_v23_apply, Cert.AdamAdaReferenceIdeal.Read.val_main_v24_apply, Cert.AdamAdaReferenceIdeal.Read.val_main_cst_7_apply, Cert.AdamAdaReferenceIdeal.Read.val_main_v25_apply, Cert.AdamAdaReferenceIdeal.Read.val_main_v26_apply, refG, Ideal.truncf_def, Ideal.extf_def, Ideal.mulf_def, Ideal.addf_def, Ideal.divf_def, Ideal.sqrt_def, Ideal.hostUnary_sqrt_def, Ideal.hostDivf_def, Ideal.ofBits_def, Ideal.ofBits_zero_f32, zero_add]
  rfl

/-- The reference's result is the closed form. -/
theorem refW (x0 : S8x2048.Idx → EReal) (x1 : S8x1536.Idx → EReal) (x4 : S2048x1536.Idx → EReal) : Cert.AdamAdaReferenceIdeal.Read.val_main_v13 (F := Ideal) x0 x1 x4 = W x0 x1 x4 := by
  funext i
  simp only [Cert.AdamAdaReferenceIdeal.Read.val_main_cst_apply, Cert.AdamAdaReferenceIdeal.Read.val_main_v3_apply, Cert.AdamAdaReferenceIdeal.Read.val_main_v4_apply, Cert.AdamAdaReferenceIdeal.Read.val_main_cst_0_apply, Cert.AdamAdaReferenceIdeal.Read.val_main_v5_apply, Cert.AdamAdaReferenceIdeal.Read.val_main_v6_apply, Cert.AdamAdaReferenceIdeal.Read.val_main_v7_apply, Cert.AdamAdaReferenceIdeal.Read.val_main_cst_1_apply, Cert.AdamAdaReferenceIdeal.Read.val_main_v8_apply, Cert.AdamAdaReferenceIdeal.Read.val_main_v9_apply, Cert.AdamAdaReferenceIdeal.Read.val_main_v10_apply, Cert.AdamAdaReferenceIdeal.Read.val_main_cst_2_apply, Cert.AdamAdaReferenceIdeal.Read.val_main_v11_apply, Cert.AdamAdaReferenceIdeal.Read.val_main_v12_apply, Cert.AdamAdaReferenceIdeal.Read.val_main_v13_apply, Cert.AdamAdaReferenceIdeal.Read.val_main_cst_3_apply, Cert.AdamAdaReferenceIdeal.Read.val_main_v14_apply, Cert.AdamAdaReferenceIdeal.Read.val_main_v15_apply, Cert.AdamAdaReferenceIdeal.Read.val_main_cst_4_apply, Cert.AdamAdaReferenceIdeal.Read.val_main_v16_apply, Cert.AdamAdaReferenceIdeal.Read.val_main_v17_apply, Cert.AdamAdaReferenceIdeal.Read.val_main_v18_apply, Cert.AdamAdaReferenceIdeal.Read.val_main_cst_5_apply, Cert.AdamAdaReferenceIdeal.Read.val_main_v19_apply, Cert.AdamAdaReferenceIdeal.Read.val_main_v20_apply, Cert.AdamAdaReferenceIdeal.Read.val_main_v21_apply, Cert.AdamAdaReferenceIdeal.Read.val_main_cst_6_apply, Cert.AdamAdaReferenceIdeal.Read.val_main_v22_apply, Cert.AdamAdaReferenceIdeal.Read.val_main_v23_apply, Cert.AdamAdaReferenceIdeal.Read.val_main_v24_apply, Cert.AdamAdaReferenceIdeal.Read.val_main_cst_7_apply, Cert.AdamAdaReferenceIdeal.Read.val_main_v25_apply, Cert.AdamAdaReferenceIdeal.Read.val_main_v26_apply, refG, Ideal.truncf_def, Ideal.extf_def, Ideal.mulf_def, Ideal.addf_def, Ideal.divf_def, Ideal.sqrt_def, Ideal.hostUnary_sqrt_def, Ideal.hostDivf_def, Ideal.ofBits_def, Ideal.ofBits_zero_f32, zero_add]
  rfl

/-! ## The claims -/

/-- The reference runs to its end, keeps its arguments and leaves every counter at zero. -/
theorem frame_reference : Cert.quiescent_AdamAdaReferenceIdeal := fun m ρ _ =>
  (θ_run Cert.AdamAdaReferenceIdeal.defs _ _).mono
    (fun r h => ⟨fun c => (h c).2.2.2.2, sem_eq_zero_of_no_sems (by decide) r.2⟩)
    (Cert.AdamAdaReferenceIdeal.Value.run m ρ)

/-- From equal arguments the kernel and the reference leave the same arrays, and keep their arguments. -/
theorem algebraic : Cert.algebraic_AdamAdaIdeal_AdamAdaReferenceIdeal := by
  intro m ρ m' ρ' _ hagree
  refine ⟨fun c => G (m ((c.tc : Thread Cert.AdamAdaIdeal.nD Cert.AdamAdaIdeal.τ).loc Cert.AdamAdaIdeal.main_arg0)) (m ((c.tc : Thread Cert.AdamAdaIdeal.nD Cert.AdamAdaIdeal.τ).loc Cert.AdamAdaIdeal.main_arg1)),
    fun c => D (m ((c.tc : Thread Cert.AdamAdaIdeal.nD Cert.AdamAdaIdeal.τ).loc Cert.AdamAdaIdeal.main_arg0)) (m ((c.tc : Thread Cert.AdamAdaIdeal.nD Cert.AdamAdaIdeal.τ).loc Cert.AdamAdaIdeal.main_arg1)) (m ((c.tc : Thread Cert.AdamAdaIdeal.nD Cert.AdamAdaIdeal.τ).loc Cert.AdamAdaIdeal.main_arg2)) (m ((c.tc : Thread Cert.AdamAdaIdeal.nD Cert.AdamAdaIdeal.τ).loc Cert.AdamAdaIdeal.main_arg3)) (m ((c.tc : Thread Cert.AdamAdaIdeal.nD Cert.AdamAdaIdeal.τ).loc Cert.AdamAdaIdeal.main_arg4)),
    fun c => M (m ((c.tc : Thread Cert.AdamAdaIdeal.nD Cert.AdamAdaIdeal.τ).loc Cert.AdamAdaIdeal.main_arg0)) (m ((c.tc : Thread Cert.AdamAdaIdeal.nD Cert.AdamAdaIdeal.τ).loc Cert.AdamAdaIdeal.main_arg1)) (m ((c.tc : Thread Cert.AdamAdaIdeal.nD Cert.AdamAdaIdeal.τ).loc Cert.AdamAdaIdeal.main_arg3)),
    fun c => W (m ((c.tc : Thread Cert.AdamAdaIdeal.nD Cert.AdamAdaIdeal.τ).loc Cert.AdamAdaIdeal.main_arg0)) (m ((c.tc : Thread Cert.AdamAdaIdeal.nD Cert.AdamAdaIdeal.τ).loc Cert.AdamAdaIdeal.main_arg1)) (m ((c.tc : Thread Cert.AdamAdaIdeal.nD Cert.AdamAdaIdeal.τ).loc Cert.AdamAdaIdeal.main_arg4)), ?_, ?_⟩
  · refine (θ_run Cert.AdamAdaIdeal.defs _ _).mono (fun r h c => ?_) (Cert.AdamAdaIdeal.Value.run_blocks m ρ)
    obtain ⟨h0, h1, h2, h3, hk⟩ := h c
    exact ⟨h0.trans (finalG m c), h1.trans (finalD m c), h2.trans (finalM m c), h3.trans (finalW m c), hk⟩
  · refine (θ_run Cert.AdamAdaReferenceIdeal.defs _ _).mono (fun r h c => ?_) (Cert.AdamAdaReferenceIdeal.Value.run m' ρ')
    obtain ⟨h0, h1, h2, h3, hk⟩ := h c
    obtain ⟨a0, a1, a2, a3, a4⟩ := hagree c
    refine ⟨h0.trans ?_, h1.trans ?_, h2.trans ?_, h3.trans ?_, hk⟩
    · rw [Cert.AdamAdaReferenceIdeal.Read.val_main_v2_eq, refG, a0, a1]
    · rw [Cert.AdamAdaReferenceIdeal.Read.val_main_v26_eq, refD, a0, a1, a2, a3, a4]
    · rw [Cert.AdamAdaReferenceIdeal.Read.val_main_v7_eq, refM, a0, a1, a3]
    · rw [Cert.AdamAdaReferenceIdeal.Read.val_main_v13_eq, refW, a0, a1, a4]

end Cert.Proof.AdamAda

end
-- ==== Proof.AdamLateClaim.lean ====
/- The optimiser's step for the modulation's bias and the first norm's gain: the kernel's arrays and the reference's, index by index. -/
module

public import proofs.«01_k».proof.Defs
public import proofs.«01_k».proof.Proof.AdamMath
public import proofs.«01_k».proof.Proof.Gen.AdamLateIdeal.Value
public import proofs.«01_k».proof.Proof.Gen.AdamLateReferenceIdeal.Run
public import proofs.«01_k».proof.Proof.Gen.AdamLateReferenceIdeal.Read
public import Idealize.ShloMosaic.PureOps.Ideal
public import Idealize.ShloMosaic.Lib.Pipeline.ValueKit
public import Idealize.ShloMosaic.Lib.IdealHost
public import Idealize.ShloMosaic.Lib.Pointwise
public import Idealize.ShloMosaic.Lib.Claim

@[expose] public section

noncomputable section

namespace Cert.Proof.AdamLate

open Idealize.ShloMosaic Idealize.ShloMosaic.TcCoe Idealize.SL.Sem Cert.AdamLateIdeal Cert.AdamLateIdeal.Gen
open Idealize.ShloMosaic.Pipeline (Dat)
open Cert.Proof.Adam

variable (m : (ℓ : Loc nD τ sig) → Buf (Elt Ideal) ℓ)

/-! ## Each window's one block is the whole array -/

theorem e0 : ∀ t : Fin cfg0.N, win0_0.index t = ![0, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![0, 0] := (by decide +kernel : ∀ t : Fin grid0.N, _)
theorem e10 : ∀ t : Fin cfg0.N, win0_10.index t = ![0, 0] := (by decide +kernel : ∀ t : Fin grid0.N, _)
theorem e11 : ∀ t : Fin cfg0.N, win0_11.index t = ![0, 0] := (by decide +kernel : ∀ t : Fin grid0.N, _)
theorem e12 : ∀ t : Fin cfg0.N, win0_12.index t = ![0, 0] := (by decide +kernel : ∀ t : Fin grid0.N, _)
theorem e13 : ∀ t : Fin cfg0.N, win0_13.index t = ![0, 0] := (by decide +kernel : ∀ t : Fin grid0.N, _)

/-! ## The kernel's side -/

/-- One entry of the array the body stores. -/
theorem pay8 (w g m v : S1x12288.Idx → EReal) (y : S1x12288.Idx) : k0_pay6 (F := Ideal) w g m v y = step (w y) (g y) (m y) (v y) := by
  pointwise [k0_pay6, k0_pay4, k0_pay5, step, mom, sqr]

/-- The result array, whole. -/
theorem final8 (c : Dev nD) : (dats m 0 c).arrAt 8 cfg0.N = upd (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp
  rw [after0_8]
  unfold out0_8
  frame_out
  refine (pay8 _ _ _ _ y).trans ?_
  exact cong4 step (congrArg (m ((c : Thread nD τ).loc main_arg0)) (show (win0_0.blk t).view.emb y = (win0_8.blk t).view.emb y by blk_ext [e0 t, e8 t])) (congrArg (m ((c : Thread nD τ).loc main_arg1)) (show (win0_1.blk t).view.emb y = (win0_8.blk t).view.emb y by blk_ext [e1 t, e8 t])) (congrArg (m ((c : Thread nD τ).loc main_arg2)) (show (win0_2.blk t).view.emb y = (win0_8.blk t).view.emb y by blk_ext [e2 t, e8 t])) (congrArg (m ((c : Thread nD τ).loc main_arg3)) (show (win0_3.blk t).view.emb y = (win0_8.blk t).view.emb y by blk_ext [e3 t, e8 t]))

/-- One entry of the array the body stores. -/
theorem pay9 (g m : S1x12288.Idx → EReal) (y : S1x12288.Idx) : k0_pay4 (F := Ideal) g m y = mom (g y) (m y) := by
  pointwise [k0_pay4, mom]

/-- The result array, whole. -/
theorem final9 (c : Dev nD) : (dats m 0 c).arrAt 9 cfg0.N = moms (m ((c : Thread nD τ).loc main_arg1)) (m ((c : Thread nD τ).loc main_arg2)) := by
  refine (dats m 0 c).arrAt_eq_of_covers 9 _ (by decide +kernel) fun t hf y => ?_
  blk_simp
  rw [after0_9]
  unfold out0_9
  frame_out
  refine (pay9 _ _ y).trans ?_
  exact congrArg₂ mom (congrArg (m ((c : Thread nD τ).loc main_arg1)) (show (win0_1.blk t).view.emb y = (win0_9.blk t).view.emb y by blk_ext [e1 t, e9 t])) (congrArg (m ((c : Thread nD τ).loc main_arg2)) (show (win0_2.blk t).view.emb y = (win0_9.blk t).view.emb y by blk_ext [e2 t, e9 t]))

/-- One entry of the array the body stores. -/
theorem pay10 (g v : S1x12288.Idx → EReal) (y : S1x12288.Idx) : k0_pay5 (F := Ideal) g v y = sqr (g y) (v y) := by
  pointwise [k0_pay5, sqr]

/-- The result array, whole. -/
theorem final10 (c : Dev nD) : (dats m 0 c).arrAt 10 cfg0.N = sqrs (m ((c : Thread nD τ).loc main_arg1)) (m ((c : Thread nD τ).loc main_arg3)) := by
  refine (dats m 0 c).arrAt_eq_of_covers 10 _ (by decide +kernel) fun t hf y => ?_
  blk_simp
  rw [after0_10]
  unfold out0_10
  frame_out
  refine (pay10 _ _ y).trans ?_
  exact congrArg₂ sqr (congrArg (m ((c : Thread nD τ).loc main_arg1)) (show (win0_1.blk t).view.emb y = (win0_10.blk t).view.emb y by blk_ext [e1 t, e10 t])) (congrArg (m ((c : Thread nD τ).loc main_arg3)) (show (win0_3.blk t).view.emb y = (win0_10.blk t).view.emb y by blk_ext [e3 t, e10 t]))

/-- One entry of the array the body stores. -/
theorem pay11 (w g m v : S1x2048.Idx → EReal) (y : S1x2048.Idx) : k0_pay3 (F := Ideal) w g m v y = step (w y) (g y) (m y) (v y) := by
  pointwise [k0_pay3, k0_pay1, k0_pay2, step, mom, sqr]

/-- The result array, whole. -/
theorem final11 (c : Dev nD) : (dats m 0 c).arrAt 11 cfg0.N = upd (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t hf y => ?_
  blk_simp
  rw [after0_11]
  unfold out0_11
  frame_out
  refine (pay11 _ _ _ _ y).trans ?_
  exact cong4 step (congrArg (m ((c : Thread nD τ).loc main_arg4)) (show (win0_4.blk t).view.emb y = (win0_11.blk t).view.emb y by blk_ext [e4 t, e11 t])) (congrArg (m ((c : Thread nD τ).loc main_arg5)) (show (win0_5.blk t).view.emb y = (win0_11.blk t).view.emb y by blk_ext [e5 t, e11 t])) (congrArg (m ((c : Thread nD τ).loc main_arg6)) (show (win0_6.blk t).view.emb y = (win0_11.blk t).view.emb y by blk_ext [e6 t, e11 t])) (congrArg (m ((c : Thread nD τ).loc main_arg7)) (show (win0_7.blk t).view.emb y = (win0_11.blk t).view.emb y by blk_ext [e7 t, e11 t]))

/-- One entry of the array the body stores. -/
theorem pay12 (g m : S1x2048.Idx → EReal) (y : S1x2048.Idx) : k0_pay1 (F := Ideal) g m y = mom (g y) (m y) := by
  pointwise [k0_pay1, mom]

/-- The result array, whole. -/
theorem final12 (c : Dev nD) : (dats m 0 c).arrAt 12 cfg0.N = moms (m ((c : Thread nD τ).loc main_arg5)) (m ((c : Thread nD τ).loc main_arg6)) := by
  refine (dats m 0 c).arrAt_eq_of_covers 12 _ (by decide +kernel) fun t hf y => ?_
  blk_simp
  rw [after0_12]
  unfold out0_12
  frame_out
  refine (pay12 _ _ y).trans ?_
  exact congrArg₂ mom (congrArg (m ((c : Thread nD τ).loc main_arg5)) (show (win0_5.blk t).view.emb y = (win0_12.blk t).view.emb y by blk_ext [e5 t, e12 t])) (congrArg (m ((c : Thread nD τ).loc main_arg6)) (show (win0_6.blk t).view.emb y = (win0_12.blk t).view.emb y by blk_ext [e6 t, e12 t]))

/-- One entry of the array the body stores. -/
theorem pay13 (g v : S1x2048.Idx → EReal) (y : S1x2048.Idx) : k0_pay2 (F := Ideal) g v y = sqr (g y) (v y) := by
  pointwise [k0_pay2, sqr]

/-- The result array, whole. -/
theorem final13 (c : Dev nD) : (dats m 0 c).arrAt 13 cfg0.N = sqrs (m ((c : Thread nD τ).loc main_arg5)) (m ((c : Thread nD τ).loc main_arg7)) := by
  refine (dats m 0 c).arrAt_eq_of_covers 13 _ (by decide +kernel) fun t hf y => ?_
  blk_simp
  rw [after0_13]
  unfold out0_13
  frame_out
  refine (pay13 _ _ y).trans ?_
  exact congrArg₂ sqr (congrArg (m ((c : Thread nD τ).loc main_arg5)) (show (win0_5.blk t).view.emb y = (win0_13.blk t).view.emb y by blk_ext [e5 t, e13 t])) (congrArg (m ((c : Thread nD τ).loc main_arg7)) (show (win0_7.blk t).view.emb y = (win0_13.blk t).view.emb y by blk_ext [e7 t, e13 t]))

/-! ## The reference's side -/

/-- The reference's result is the closed form. -/
theorem ref0 (x0 x1 x2 x3 : S1x12288.Idx → EReal) : Cert.AdamLateReferenceIdeal.Read.val_main_v23 (F := Ideal) x0 x1 x2 x3 = upd x0 x1 x2 x3 := by
  funext i
  simp only [Cert.AdamLateReferenceIdeal.Read.val_main_cst_apply, Cert.AdamLateReferenceIdeal.Read.val_main_cst_0_apply, Cert.AdamLateReferenceIdeal.Read.val_main_cst_1_apply, Cert.AdamLateReferenceIdeal.Read.val_main_cst_2_apply, Cert.AdamLateReferenceIdeal.Read.val_main_cst_3_apply, Cert.AdamLateReferenceIdeal.Read.val_main_cst_4_apply, Cert.AdamLateReferenceIdeal.Read.val_main_cst_5_apply, Cert.AdamLateReferenceIdeal.Read.val_main_cst_6_apply, Cert.AdamLateReferenceIdeal.Read.val_main_cst_7_apply, Cert.AdamLateReferenceIdeal.Read.val_main_v0_apply, Cert.AdamLateReferenceIdeal.Read.val_main_v1_apply, Cert.AdamLateReferenceIdeal.Read.val_main_v10_apply, Cert.AdamLateReferenceIdeal.Read.val_main_v11_apply, Cert.AdamLateReferenceIdeal.Read.val_main_v12_apply, Cert.AdamLateReferenceIdeal.Read.val_main_v13_apply, Cert.AdamLateReferenceIdeal.Read.val_main_v14_apply, Cert.AdamLateReferenceIdeal.Read.val_main_v15_apply, Cert.AdamLateReferenceIdeal.Read.val_main_v16_apply, Cert.AdamLateReferenceIdeal.Read.val_main_v17_apply, Cert.AdamLateReferenceIdeal.Read.val_main_v18_apply, Cert.AdamLateReferenceIdeal.Read.val_main_v19_apply, Cert.AdamLateReferenceIdeal.Read.val_main_v2_apply, Cert.AdamLateReferenceIdeal.Read.val_main_v20_apply, Cert.AdamLateReferenceIdeal.Read.val_main_v21_apply, Cert.AdamLateReferenceIdeal.Read.val_main_v22_apply, Cert.AdamLateReferenceIdeal.Read.val_main_v23_apply, Cert.AdamLateReferenceIdeal.Read.val_main_v3_apply, Cert.AdamLateReferenceIdeal.Read.val_main_v4_apply, Cert.AdamLateReferenceIdeal.Read.val_main_v5_apply, Cert.AdamLateReferenceIdeal.Read.val_main_v6_apply, Cert.AdamLateReferenceIdeal.Read.val_main_v7_apply, Cert.AdamLateReferenceIdeal.Read.val_main_v8_apply, Cert.AdamLateReferenceIdeal.Read.val_main_v9_apply, Ideal.truncf_def, Ideal.extf_def, Ideal.mulf_def, Ideal.addf_def, Ideal.divf_def, Ideal.sqrt_def, Ideal.hostUnary_sqrt_def, Ideal.hostDivf_def, Ideal.ofBits_def, Ideal.ofBits_zero_f32, zero_add]
  rfl

/-- The reference's result is the closed form. -/
theorem ref1 (x1 x2 : S1x12288.Idx → EReal) : Cert.AdamLateReferenceIdeal.Read.val_main_v4 (F := Ideal) x1 x2 = moms x1 x2 := by
  funext i
  simp only [Cert.AdamLateReferenceIdeal.Read.val_main_cst_apply, Cert.AdamLateReferenceIdeal.Read.val_main_cst_0_apply, Cert.AdamLateReferenceIdeal.Read.val_main_v0_apply, Cert.AdamLateReferenceIdeal.Read.val_main_v1_apply, Cert.AdamLateReferenceIdeal.Read.val_main_v2_apply, Cert.AdamLateReferenceIdeal.Read.val_main_v3_apply, Cert.AdamLateReferenceIdeal.Read.val_main_v4_apply, Ideal.truncf_def, Ideal.extf_def, Ideal.mulf_def, Ideal.addf_def, Ideal.divf_def, Ideal.sqrt_def, Ideal.hostUnary_sqrt_def, Ideal.hostDivf_def, Ideal.ofBits_def, Ideal.ofBits_zero_f32, zero_add]
  rfl

/-- The reference's result is the closed form. -/
theorem ref2 (x1 x3 : S1x12288.Idx → EReal) : Cert.AdamLateReferenceIdeal.Read.val_main_v10 (F := Ideal) x1 x3 = sqrs x1 x3 := by
  funext i
  simp only [Cert.AdamLateReferenceIdeal.Read.val_main_cst_1_apply, Cert.AdamLateReferenceIdeal.Read.val_main_cst_2_apply, Cert.AdamLateReferenceIdeal.Read.val_main_v10_apply, Cert.AdamLateReferenceIdeal.Read.val_main_v5_apply, Cert.AdamLateReferenceIdeal.Read.val_main_v6_apply, Cert.AdamLateReferenceIdeal.Read.val_main_v7_apply, Cert.AdamLateReferenceIdeal.Read.val_main_v8_apply, Cert.AdamLateReferenceIdeal.Read.val_main_v9_apply, Ideal.truncf_def, Ideal.extf_def, Ideal.mulf_def, Ideal.addf_def, Ideal.divf_def, Ideal.sqrt_def, Ideal.hostUnary_sqrt_def, Ideal.hostDivf_def, Ideal.ofBits_def, Ideal.ofBits_zero_f32, zero_add]
  rfl

/-- The reference's result is the closed form. -/
theorem ref3 (x4 x5 x6 x7 : S1x2048.Idx → EReal) : Cert.AdamLateReferenceIdeal.Read.val_main_v47 (F := Ideal) x4 x5 x6 x7 = upd x4 x5 x6 x7 := by
  funext i
  simp only [Cert.AdamLateReferenceIdeal.Read.val_main_cst_10_apply, Cert.AdamLateReferenceIdeal.Read.val_main_cst_11_apply, Cert.AdamLateReferenceIdeal.Read.val_main_cst_12_apply, Cert.AdamLateReferenceIdeal.Read.val_main_cst_13_apply, Cert.AdamLateReferenceIdeal.Read.val_main_cst_14_apply, Cert.AdamLateReferenceIdeal.Read.val_main_cst_15_apply, Cert.AdamLateReferenceIdeal.Read.val_main_cst_16_apply, Cert.AdamLateReferenceIdeal.Read.val_main_cst_8_apply, Cert.AdamLateReferenceIdeal.Read.val_main_cst_9_apply, Cert.AdamLateReferenceIdeal.Read.val_main_v24_apply, Cert.AdamLateReferenceIdeal.Read.val_main_v25_apply, Cert.AdamLateReferenceIdeal.Read.val_main_v26_apply, Cert.AdamLateReferenceIdeal.Read.val_main_v27_apply, Cert.AdamLateReferenceIdeal.Read.val_main_v28_apply, Cert.AdamLateReferenceIdeal.Read.val_main_v29_apply, Cert.AdamLateReferenceIdeal.Read.val_main_v30_apply, Cert.AdamLateReferenceIdeal.Read.val_main_v31_apply, Cert.AdamLateReferenceIdeal.Read.val_main_v32_apply, Cert.AdamLateReferenceIdeal.Read.val_main_v33_apply, Cert.AdamLateReferenceIdeal.Read.val_main_v34_apply, Cert.AdamLateReferenceIdeal.Read.val_main_v35_apply, Cert.AdamLateReferenceIdeal.Read.val_main_v36_apply, Cert.AdamLateReferenceIdeal.Read.val_main_v37_apply, Cert.AdamLateReferenceIdeal.Read.val_main_v38_apply, Cert.AdamLateReferenceIdeal.Read.val_main_v39_apply, Cert.AdamLateReferenceIdeal.Read.val_main_v40_apply, Cert.AdamLateReferenceIdeal.Read.val_main_v41_apply, Cert.AdamLateReferenceIdeal.Read.val_main_v42_apply, Cert.AdamLateReferenceIdeal.Read.val_main_v43_apply, Cert.AdamLateReferenceIdeal.Read.val_main_v44_apply, Cert.AdamLateReferenceIdeal.Read.val_main_v45_apply, Cert.AdamLateReferenceIdeal.Read.val_main_v46_apply, Cert.AdamLateReferenceIdeal.Read.val_main_v47_apply, Ideal.truncf_def, Ideal.extf_def, Ideal.mulf_def, Ideal.addf_def, Ideal.divf_def, Ideal.sqrt_def, Ideal.hostUnary_sqrt_def, Ideal.hostDivf_def, Ideal.ofBits_def, Ideal.ofBits_zero_f32, zero_add]
  rfl

/-- The reference's result is the closed form. -/
theorem ref4 (x5 x6 : S1x2048.Idx → EReal) : Cert.AdamLateReferenceIdeal.Read.val_main_v28 (F := Ideal) x5 x6 = moms x5 x6 := by
  funext i
  simp only [Cert.AdamLateReferenceIdeal.Read.val_main_cst_8_apply, Cert.AdamLateReferenceIdeal.Read.val_main_cst_9_apply, Cert.AdamLateReferenceIdeal.Read.val_main_v24_apply, Cert.AdamLateReferenceIdeal.Read.val_main_v25_apply, Cert.AdamLateReferenceIdeal.Read.val_main_v26_apply, Cert.AdamLateReferenceIdeal.Read.val_main_v27_apply, Cert.AdamLateReferenceIdeal.Read.val_main_v28_apply, Ideal.truncf_def, Ideal.extf_def, Ideal.mulf_def, Ideal.addf_def, Ideal.divf_def, Ideal.sqrt_def, Ideal.hostUnary_sqrt_def, Ideal.hostDivf_def, Ideal.ofBits_def, Ideal.ofBits_zero_f32, zero_add]
  rfl

/-- The reference's result is the closed form. -/
theorem ref5 (x5 x7 : S1x2048.Idx → EReal) : Cert.AdamLateReferenceIdeal.Read.val_main_v34 (F := Ideal) x5 x7 = sqrs x5 x7 := by
  funext i
  simp only [Cert.AdamLateReferenceIdeal.Read.val_main_cst_10_apply, Cert.AdamLateReferenceIdeal.Read.val_main_cst_11_apply, Cert.AdamLateReferenceIdeal.Read.val_main_v29_apply, Cert.AdamLateReferenceIdeal.Read.val_main_v30_apply, Cert.AdamLateReferenceIdeal.Read.val_main_v31_apply, Cert.AdamLateReferenceIdeal.Read.val_main_v32_apply, Cert.AdamLateReferenceIdeal.Read.val_main_v33_apply, Cert.AdamLateReferenceIdeal.Read.val_main_v34_apply, Ideal.truncf_def, Ideal.extf_def, Ideal.mulf_def, Ideal.addf_def, Ideal.divf_def, Ideal.sqrt_def, Ideal.hostUnary_sqrt_def, Ideal.hostDivf_def, Ideal.ofBits_def, Ideal.ofBits_zero_f32, zero_add]
  rfl

/-! ## The claims -/

/-- The reference runs to its end, keeps its arguments and leaves every counter at zero. -/
theorem frame_reference : Cert.quiescent_AdamLateReferenceIdeal := fun m ρ _ =>
  (θ_run Cert.AdamLateReferenceIdeal.defs _ _).mono
    (fun r h => ⟨fun c => (h c).2.2.2.2.2.2, sem_eq_zero_of_no_sems (by decide) r.2⟩)
    (Cert.AdamLateReferenceIdeal.Value.run m ρ)

/-- From equal arguments the kernel and the reference leave the same arrays, and keep their arguments. -/
theorem algebraic : Cert.algebraic_AdamLateIdeal_AdamLateReferenceIdeal := by
  intro m ρ m' ρ' _ hagree
  refine ⟨fun c => upd (m ((c.tc : Thread Cert.AdamLateIdeal.nD Cert.AdamLateIdeal.τ).loc Cert.AdamLateIdeal.main_arg0)) (m ((c.tc : Thread Cert.AdamLateIdeal.nD Cert.AdamLateIdeal.τ).loc Cert.AdamLateIdeal.main_arg1)) (m ((c.tc : Thread Cert.AdamLateIdeal.nD Cert.AdamLateIdeal.τ).loc Cert.AdamLateIdeal.main_arg2)) (m ((c.tc : Thread Cert.AdamLateIdeal.nD Cert.AdamLateIdeal.τ).loc Cert.AdamLateIdeal.main_arg3)),
    fun c => moms (m ((c.tc : Thread Cert.AdamLateIdeal.nD Cert.AdamLateIdeal.τ).loc Cert.AdamLateIdeal.main_arg1)) (m ((c.tc : Thread Cert.AdamLateIdeal.nD Cert.AdamLateIdeal.τ).loc Cert.AdamLateIdeal.main_arg2)),
    fun c => sqrs (m ((c.tc : Thread Cert.AdamLateIdeal.nD Cert.AdamLateIdeal.τ).loc Cert.AdamLateIdeal.main_arg1)) (m ((c.tc : Thread Cert.AdamLateIdeal.nD Cert.AdamLateIdeal.τ).loc Cert.AdamLateIdeal.main_arg3)),
    fun c => upd (m ((c.tc : Thread Cert.AdamLateIdeal.nD Cert.AdamLateIdeal.τ).loc Cert.AdamLateIdeal.main_arg4)) (m ((c.tc : Thread Cert.AdamLateIdeal.nD Cert.AdamLateIdeal.τ).loc Cert.AdamLateIdeal.main_arg5)) (m ((c.tc : Thread Cert.AdamLateIdeal.nD Cert.AdamLateIdeal.τ).loc Cert.AdamLateIdeal.main_arg6)) (m ((c.tc : Thread Cert.AdamLateIdeal.nD Cert.AdamLateIdeal.τ).loc Cert.AdamLateIdeal.main_arg7)),
    fun c => moms (m ((c.tc : Thread Cert.AdamLateIdeal.nD Cert.AdamLateIdeal.τ).loc Cert.AdamLateIdeal.main_arg5)) (m ((c.tc : Thread Cert.AdamLateIdeal.nD Cert.AdamLateIdeal.τ).loc Cert.AdamLateIdeal.main_arg6)),
    fun c => sqrs (m ((c.tc : Thread Cert.AdamLateIdeal.nD Cert.AdamLateIdeal.τ).loc Cert.AdamLateIdeal.main_arg5)) (m ((c.tc : Thread Cert.AdamLateIdeal.nD Cert.AdamLateIdeal.τ).loc Cert.AdamLateIdeal.main_arg7)), ?_, ?_⟩
  · refine (θ_run Cert.AdamLateIdeal.defs _ _).mono (fun r h c => ?_) (Cert.AdamLateIdeal.Value.run_blocks m ρ)
    obtain ⟨h0, h1, h2, h3, h4, h5, hk⟩ := h c
    exact ⟨h0.trans (final8 m c), h1.trans (final9 m c), h2.trans (final10 m c), h3.trans (final11 m c), h4.trans (final12 m c), h5.trans (final13 m c), hk⟩
  · refine (θ_run Cert.AdamLateReferenceIdeal.defs _ _).mono (fun r h c => ?_) (Cert.AdamLateReferenceIdeal.Value.run m' ρ')
    obtain ⟨h0, h1, h2, h3, h4, h5, hk⟩ := h c
    obtain ⟨a0, a1, a2, a3, a4, a5, a6, a7⟩ := hagree c
    refine ⟨h0.trans ?_, h1.trans ?_, h2.trans ?_, h3.trans ?_, h4.trans ?_, h5.trans ?_, hk⟩
    · rw [Cert.AdamLateReferenceIdeal.Read.val_main_v23_eq, ref0, a0, a1, a2, a3]
    · rw [Cert.AdamLateReferenceIdeal.Read.val_main_v4_eq, ref1, a1, a2]
    · rw [Cert.AdamLateReferenceIdeal.Read.val_main_v10_eq, ref2, a1, a3]
    · rw [Cert.AdamLateReferenceIdeal.Read.val_main_v47_eq, ref3, a4, a5, a6, a7]
    · rw [Cert.AdamLateReferenceIdeal.Read.val_main_v28_eq, ref4, a5, a6]
    · rw [Cert.AdamLateReferenceIdeal.Read.val_main_v34_eq, ref5, a5, a7]

end Cert.Proof.AdamLate

end
-- ==== Proof.ScanCond.lean ====
/-
The conditions of the body of the scan gradient at the points of its grid, and the buffers it is handed.
-/
module

public import proofs.«01_k».proof.Proof.Gen.ScanIdeal.Frame
public import Idealize.ShloMosaic.Lib.Tactic
public import Idealize.ShloMosaic.Lib.Pipeline.TableIdle
public import proofs.«01_k».proof.Proof.Gen.ScanIdeal.Loops
public import proofs.«01_k».proof.Proof.Gen.ScanIdeal.Skeleton

@[expose] public section

set_option maxRecDepth 16384

noncomputable section

namespace Cert.ScanIdeal

open Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The conditions of the body -/

/-- The condition of conditional 0 of the body, of the coordinates. -/
abbrev cond0 (i : grid0.Coords) : Prop := (Scalar.cmpi .ne (Scalar.extui (Scalar.cmpi .eq (BitVec.ofNat 32 (i 1).val) 0#32)) 0#32) = 1#1
/-- The condition of conditional 1 of the body, of the coordinates. -/
abbrev cond1 (i : grid0.Coords) : Prop := k0_cond2 i = 1#1
/-- The condition of conditional 2 of the body, of the coordinates. -/
abbrev cond2 (i : grid0.Coords) : Prop := k0_cond3 i = 1#1
/-- The condition of conditional 3 of the body, of the coordinates. -/
abbrev cond3 (i : grid0.Coords) : Prop := k0_cond4 i = 1#1
/-- The condition of conditional 4 of the body, of the coordinates. -/
abbrev cond4 (i : grid0.Coords) : Prop := k0_cond5 i = 1#1
/-- The condition of conditional 5 of the body, of the coordinates. -/
abbrev cond5 (i : grid0.Coords) : Prop := k0_cond6 i = 1#1
/-- The condition of conditional 6 of the body, of the coordinates. -/
abbrev cond6 (i : grid0.Coords) : Prop := k0_cond7 i = 1#1
/-- The condition of conditional 7 of the body, of the coordinates. -/
abbrev cond7 (i : grid0.Coords) : Prop := k0_cond8 i = 1#1
/-- The condition of conditional 8 of the body, of the coordinates. -/
abbrev cond8 (i : grid0.Coords) : Prop := k0_cond9 i = 1#1
/-- The condition of conditional 9 of the body, of the coordinates. -/
abbrev cond9 (i : grid0.Coords) : Prop := k0_cond10 i = 1#1
/-- The condition of conditional 10 of the body, of the coordinates. -/
abbrev cond10 (i : grid0.Coords) : Prop := k0_cond11 i = 1#1
/-- The condition of conditional 11 of the body, of the coordinates. -/
abbrev cond11 (i : grid0.Coords) : Prop := k0_cond12 i = 1#1
/-- The condition of conditional 12 of the body, of the coordinates. -/
abbrev cond12 (i : grid0.Coords) : Prop := k0_cond13 i = 1#1
/-- The condition of conditional 13 of the body, of the coordinates. -/
abbrev cond13 (i : grid0.Coords) : Prop := k0_cond14 i = 1#1
/-- The condition of conditional 14 of the body, of the coordinates. -/
abbrev cond14 (i : grid0.Coords) : Prop := k0_cond15 i = 1#1

/-- The conditions at a point of the later half of time, which the grid meets first. -/
abbrev isLate (i : grid0.Coords) : Prop := cond0 i ∧ cond1 i ∧ ¬cond2 i ∧ cond3 i ∧ ¬cond4 i ∧ cond5 i ∧ ¬cond6 i ∧ cond7 i ∧ ¬cond8 i ∧ cond9 i ∧ ¬cond10 i ∧ cond11 i ∧ ¬cond12 i ∧ cond13 i ∧ ¬cond14 i

instance isLate.dec (i : grid0.Coords) : Decidable (isLate i) :=
  @instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (inferInstance))))))))))))))

/-- The conditions at a point of the earlier half of time, which the grid meets second. -/
abbrev isEarly (i : grid0.Coords) : Prop := ¬cond0 i ∧ ¬cond1 i ∧ cond2 i ∧ ¬cond3 i ∧ cond4 i ∧ ¬cond5 i ∧ cond6 i ∧ ¬cond7 i ∧ cond8 i ∧ ¬cond9 i ∧ cond10 i ∧ ¬cond11 i ∧ cond12 i ∧ ¬cond13 i ∧ cond14 i

instance isEarly.dec (i : grid0.Coords) : Decidable (isEarly i) :=
  @instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (@instDecidableAnd _ _ inferInstance (inferInstance))))))))))))))

/-- The even points are those of the later half. -/
theorem late_at : ∀ t : Fin cfg0.N, t.val % 2 = 0 → isLate (grid0.coords t) :=
  (by decide +kernel : ∀ t : Fin grid0.N, t.val % 2 = 0 → isLate (grid0.coords t))

/-- The odd points are those of the earlier half. -/
theorem early_at : ∀ t : Fin cfg0.N, ¬t.val % 2 = 0 → isEarly (grid0.coords t) :=
  (by decide +kernel : ∀ t : Fin grid0.N, ¬t.val % 2 = 0 → isEarly (grid0.coords t))

/-! ## The windows -/

/-- Whether a buffer of a summed output holds nothing yet at a position: at the even ones. -/
def freshTab : ℕ → Bool
  | 0 => true
  | n + 1 => (0xaaaa : ℕ).testBit n

/-- Window 0 is read at every point. -/
theorem live0 : ∀ t : Fin cfg0.N, cfg0.idle 0 (grid0.coords t) = false := fun _ => rfl
/-- Window 1 is read at every point. -/
theorem live1 : ∀ t : Fin cfg0.N, cfg0.idle 1 (grid0.coords t) = false := fun _ => rfl
/-- Window 2 is read at every point. -/
theorem live2 : ∀ t : Fin cfg0.N, cfg0.idle 2 (grid0.coords t) = false := fun _ => rfl
/-- Window 3 is read at every point. -/
theorem live3 : ∀ t : Fin cfg0.N, cfg0.idle 3 (grid0.coords t) = false := fun _ => rfl
/-- Window 4 is read at every point. -/
theorem live4 : ∀ t : Fin cfg0.N, cfg0.idle 4 (grid0.coords t) = false := fun _ => rfl
/-- Window 5 is read at every point. -/
theorem live5 : ∀ t : Fin cfg0.N, cfg0.idle 5 (grid0.coords t) = false := fun _ => rfl
/-- Window 6 is read at every point. -/
theorem live6 : ∀ t : Fin cfg0.N, cfg0.idle 6 (grid0.coords t) = false := fun _ => rfl
/-- Window 7 is read at every point. -/
theorem live7 : ∀ t : Fin cfg0.N, cfg0.idle 7 (grid0.coords t) = false := fun _ => rfl
/-- Window 8 is read at every point. -/
theorem live8 : ∀ t : Fin cfg0.N, cfg0.idle 8 (grid0.coords t) = false := fun _ => rfl
/-- Window 9 is read at every point. -/
theorem live9 : ∀ t : Fin cfg0.N, cfg0.idle 9 (grid0.coords t) = false := fun _ => rfl
/-- Window 10 is read at every point. -/
theorem live10 : ∀ t : Fin cfg0.N, cfg0.idle 10 (grid0.coords t) = false := fun _ => rfl
/-- Window 11 is read at every point. -/
theorem live11 : ∀ t : Fin cfg0.N, cfg0.idle 11 (grid0.coords t) = false := fun _ => rfl
/-- Window 12 is read at every point. -/
theorem live12 : ∀ t : Fin cfg0.N, cfg0.idle 12 (grid0.coords t) = false := fun _ => rfl
/-- Window 13 is stored at every point. -/
theorem live13 : ∀ t : Fin cfg0.N, cfg0.idle 13 (grid0.coords t) = false := fun _ => rfl
/-- Window 14 is stored at every point. -/
theorem live14 : ∀ t : Fin cfg0.N, cfg0.idle 14 (grid0.coords t) = false := by decide +kernel
/-- The table above is that of window 14. -/
theorem fresh14 (t : Fin cfg0.N) : cfg0.fresh 14 t.val = freshTab t.val :=
  Pipeline.Cfg.fresh_tab cfg0 14 freshTab rfl
    (by decide +kernel : ∀ t : Fin cfg0.N, freshTab (t.val + 1)
      = ((cfg0.win 14).flush t || (cfg0.idle 14 (cfg0.grid.coords t) && freshTab t.val))) t.val (Nat.le_of_lt t.isLt)
/-- Window 15 is stored at every point. -/
theorem live15 : ∀ t : Fin cfg0.N, cfg0.idle 15 (grid0.coords t) = false := by decide +kernel
/-- The table above is that of window 15. -/
theorem fresh15 (t : Fin cfg0.N) : cfg0.fresh 15 t.val = freshTab t.val :=
  Pipeline.Cfg.fresh_tab cfg0 15 freshTab rfl
    (by decide +kernel : ∀ t : Fin cfg0.N, freshTab (t.val + 1)
      = ((cfg0.win 15).flush t || (cfg0.idle 15 (cfg0.grid.coords t) && freshTab t.val))) t.val (Nat.le_of_lt t.isLt)
/-- Window 16 is stored at every point. -/
theorem live16 : ∀ t : Fin cfg0.N, cfg0.idle 16 (grid0.coords t) = false := by decide +kernel
/-- The table above is that of window 16. -/
theorem fresh16 (t : Fin cfg0.N) : cfg0.fresh 16 t.val = freshTab t.val :=
  Pipeline.Cfg.fresh_tab cfg0 16 freshTab rfl
    (by decide +kernel : ∀ t : Fin cfg0.N, freshTab (t.val + 1)
      = ((cfg0.win 16).flush t || (cfg0.idle 16 (cfg0.grid.coords t) && freshTab t.val))) t.val (Nat.le_of_lt t.isLt)
/-- Window 17 is stored at every point. -/
theorem live17 : ∀ t : Fin cfg0.N, cfg0.idle 17 (grid0.coords t) = false := by decide +kernel
/-- The table above is that of window 17. -/
theorem fresh17 (t : Fin cfg0.N) : cfg0.fresh 17 t.val = freshTab t.val :=
  Pipeline.Cfg.fresh_tab cfg0 17 freshTab rfl
    (by decide +kernel : ∀ t : Fin cfg0.N, freshTab (t.val + 1)
      = ((cfg0.win 17).flush t || (cfg0.idle 17 (cfg0.grid.coords t) && freshTab t.val))) t.val (Nat.le_of_lt t.isLt)
/-- Window 18 is stored at every point. -/
theorem live18 : ∀ t : Fin cfg0.N, cfg0.idle 18 (grid0.coords t) = false := by decide +kernel
/-- The table above is that of window 18. -/
theorem fresh18 (t : Fin cfg0.N) : cfg0.fresh 18 t.val = freshTab t.val :=
  Pipeline.Cfg.fresh_tab cfg0 18 freshTab rfl
    (by decide +kernel : ∀ t : Fin cfg0.N, freshTab (t.val + 1)
      = ((cfg0.win 18).flush t || (cfg0.idle 18 (cfg0.grid.coords t) && freshTab t.val))) t.val (Nat.le_of_lt t.isLt)
/-- Window 19 is stored at every point. -/
theorem live19 : ∀ t : Fin cfg0.N, cfg0.idle 19 (grid0.coords t) = false := by decide +kernel
/-- The table above is that of window 19. -/
theorem fresh19 (t : Fin cfg0.N) : cfg0.fresh 19 t.val = freshTab t.val :=
  Pipeline.Cfg.fresh_tab cfg0 19 freshTab rfl
    (by decide +kernel : ∀ t : Fin cfg0.N, freshTab (t.val + 1)
      = ((cfg0.win 19).flush t || (cfg0.idle 19 (cfg0.grid.coords t) && freshTab t.val))) t.val (Nat.le_of_lt t.isLt)
/-- Window 20 is stored at every point. -/
theorem live20 : ∀ t : Fin cfg0.N, cfg0.idle 20 (grid0.coords t) = false := by decide +kernel
/-- The table above is that of window 20. -/
theorem fresh20 (t : Fin cfg0.N) : cfg0.fresh 20 t.val = freshTab t.val :=
  Pipeline.Cfg.fresh_tab cfg0 20 freshTab rfl
    (by decide +kernel : ∀ t : Fin cfg0.N, freshTab (t.val + 1)
      = ((cfg0.win 20).flush t || (cfg0.idle 20 (cfg0.grid.coords t) && freshTab t.val))) t.val (Nat.le_of_lt t.isLt)

/-- At the odd positions the buffer holds the sum so far. -/
theorem not_fresh : ∀ t : Fin cfg0.N, ¬t.val % 2 = 0 → freshTab t.val = false := by decide +kernel

/-! ## The buffers at a point -/

/-- A buffer of window 13, through which its contents are read. -/
abbrev view13 : View sig .tc .vmem S2048x128 .bf16 := (Memref.whole cc0_stg13_0 : Memref sig .tc .vmem S2048x128 .bf16).view
/-- A buffer of window 14, through which its contents are read. -/
abbrev view14 : View sig .tc .vmem S1x128 .f32 := (Memref.whole cc0_stg14_0 : Memref sig .tc .vmem S1x128 .f32).view
/-- A buffer of window 15, through which its contents are read. -/
abbrev view15 : View sig .tc .vmem S1x128x512 .f32 := (Memref.whole cc0_stg15_0 : Memref sig .tc .vmem S1x128x512 .f32).view
/-- A buffer of window 16, through which its contents are read. -/
abbrev view16 : View sig .tc .vmem S1x128x512 .f32 := (Memref.whole cc0_stg16_0 : Memref sig .tc .vmem S1x128x512 .f32).view
/-- A buffer of window 17, through which its contents are read. -/
abbrev view17 : View sig .tc .vmem S1x128x512 .f32 := (Memref.whole cc0_stg17_0 : Memref sig .tc .vmem S1x128x512 .f32).view
/-- A buffer of window 18, through which its contents are read. -/
abbrev view18 : View sig .tc .vmem S1x128x512 .f32 := (Memref.whole cc0_stg18_0 : Memref sig .tc .vmem S1x128x512 .f32).view
/-- A buffer of window 19, through which its contents are read. -/
abbrev view19 : View sig .tc .vmem S8x512 .f32 := (Memref.whole cc0_stg19_0 : Memref sig .tc .vmem S8x512 .f32).view
/-- A buffer of window 20, through which its contents are read. -/
abbrev view20 : View sig .tc .vmem S8x512 .f32 := (Memref.whole cc0_stg20_0 : Memref sig .tc .vmem S8x512 .f32).view
/-- The buffer of window 0 at a point, -/
abbrev buf0 (t : Fin cfg0.N) : Memref sig .tc .vmem S2048x128 .bf16 := win0_0.stage (cfg0.slots t 0)
/-- which is whole. -/
abbrev whole0 (t : Fin cfg0.N) : (buf0 t).IsWhole := hstage0_0 ((cfg0.slots t 0).cast nbuf0_0)
/-- The buffer of window 1 at a point, -/
abbrev buf1 (t : Fin cfg0.N) : Memref sig .tc .vmem S2048x128 .bf16 := win0_1.stage (cfg0.slots t 1)
/-- which is whole. -/
abbrev whole1 (t : Fin cfg0.N) : (buf1 t).IsWhole := hstage0_1 ((cfg0.slots t 1).cast nbuf0_1)
/-- The buffer of window 2 at a point, -/
abbrev buf2 (t : Fin cfg0.N) : Memref sig .tc .vmem S2048x128 .f32 := win0_2.stage (cfg0.slots t 2)
/-- which is whole. -/
abbrev whole2 (t : Fin cfg0.N) : (buf2 t).IsWhole := hstage0_2 ((cfg0.slots t 2).cast nbuf0_2)
/-- The buffer of window 3 at a point, -/
abbrev buf3 (t : Fin cfg0.N) : Memref sig .tc .vmem S2048x128 .f32 := win0_3.stage (cfg0.slots t 3)
/-- which is whole. -/
abbrev whole3 (t : Fin cfg0.N) : (buf3 t).IsWhole := hstage0_3 ((cfg0.slots t 3).cast nbuf0_3)
/-- The buffer of window 4 at a point, -/
abbrev buf4 (t : Fin cfg0.N) : Memref sig .tc .vmem S2048x512 .f32 := win0_4.stage (cfg0.slots t 4)
/-- which is whole. -/
abbrev whole4 (t : Fin cfg0.N) : (buf4 t).IsWhole := hstage0_4 ((cfg0.slots t 4).cast nbuf0_4)
/-- The buffer of window 5 at a point, -/
abbrev buf5 (t : Fin cfg0.N) : Memref sig .tc .vmem S2048x512 .f32 := win0_5.stage (cfg0.slots t 5)
/-- which is whole. -/
abbrev whole5 (t : Fin cfg0.N) : (buf5 t).IsWhole := hstage0_5 ((cfg0.slots t 5).cast nbuf0_5)
/-- The buffer of window 6 at a point, -/
abbrev buf6 (t : Fin cfg0.N) : Memref sig .tc .vmem S8x512 .f32 := win0_6.stage (cfg0.slots t 6)
/-- which is whole. -/
abbrev whole6 (t : Fin cfg0.N) : (buf6 t).IsWhole := hstage0_6 ((cfg0.slots t 6).cast nbuf0_6)
/-- The buffer of window 7 at a point, -/
abbrev buf7 (t : Fin cfg0.N) : Memref sig .tc .vmem S8x512 .f32 := win0_7.stage (cfg0.slots t 7)
/-- which is whole. -/
abbrev whole7 (t : Fin cfg0.N) : (buf7 t).IsWhole := hstage0_7 ((cfg0.slots t 7).cast nbuf0_7)
/-- The buffer of window 8 at a point, -/
abbrev buf8 (t : Fin cfg0.N) : Memref sig .tc .vmem S1x1024x128 .bf16 := win0_8.stage (cfg0.slots t 8)
/-- which is whole. -/
abbrev whole8 (t : Fin cfg0.N) : (buf8 t).IsWhole := hstage0_8 ((cfg0.slots t 8).cast nbuf0_8)
/-- The buffer of window 9 at a point, -/
abbrev buf9 (t : Fin cfg0.N) : Memref sig .tc .vmem S1x384x512 .bf16 := win0_9.stage (cfg0.slots t 9)
/-- which is whole. -/
abbrev whole9 (t : Fin cfg0.N) : (buf9 t).IsWhole := hstage0_9 ((cfg0.slots t 9).cast nbuf0_9)
/-- The buffer of window 10 at a point, -/
abbrev buf10 (t : Fin cfg0.N) : Memref sig .tc .vmem S1x384x512 .bf16 := win0_10.stage (cfg0.slots t 10)
/-- which is whole. -/
abbrev whole10 (t : Fin cfg0.N) : (buf10 t).IsWhole := hstage0_10 ((cfg0.slots t 10).cast nbuf0_10)
/-- The buffer of window 11 at a point, -/
abbrev buf11 (t : Fin cfg0.N) : Memref sig .tc .vmem S16x8x512 .f32 := win0_11.stage (cfg0.slots t 11)
/-- which is whole. -/
abbrev whole11 (t : Fin cfg0.N) : (buf11 t).IsWhole := hstage0_11 ((cfg0.slots t 11).cast nbuf0_11)
/-- The buffer of window 12 at a point, -/
abbrev buf12 (t : Fin cfg0.N) : Memref sig .tc .vmem S1x128 .f32 := win0_12.stage (cfg0.slots t 12)
/-- which is whole. -/
abbrev whole12 (t : Fin cfg0.N) : (buf12 t).IsWhole := hstage0_12 ((cfg0.slots t 12).cast nbuf0_12)
/-- The buffer of window 13 at a point, -/
abbrev buf13 (t : Fin cfg0.N) : Memref sig .tc .vmem S2048x128 .bf16 := win0_13.stage (cfg0.slots t 13)
/-- which is whole. -/
abbrev whole13 (t : Fin cfg0.N) : (buf13 t).IsWhole := hstage0_13 ((cfg0.slots t 13).cast nbuf0_13)
/-- The buffer of window 14 at a point, -/
abbrev buf14 (t : Fin cfg0.N) : Memref sig .tc .vmem S1x128 .f32 := win0_14.stage (cfg0.slots t 14)
/-- which is whole. -/
abbrev whole14 (t : Fin cfg0.N) : (buf14 t).IsWhole := hstage0_14 ((cfg0.slots t 14).cast nbuf0_14)
/-- The buffer of window 15 at a point, -/
abbrev buf15 (t : Fin cfg0.N) : Memref sig .tc .vmem S1x128x512 .f32 := win0_15.stage (cfg0.slots t 15)
/-- which is whole. -/
abbrev whole15 (t : Fin cfg0.N) : (buf15 t).IsWhole := hstage0_15 ((cfg0.slots t 15).cast nbuf0_15)
/-- The buffer of window 16 at a point, -/
abbrev buf16 (t : Fin cfg0.N) : Memref sig .tc .vmem S1x128x512 .f32 := win0_16.stage (cfg0.slots t 16)
/-- which is whole. -/
abbrev whole16 (t : Fin cfg0.N) : (buf16 t).IsWhole := hstage0_16 ((cfg0.slots t 16).cast nbuf0_16)
/-- The buffer of window 17 at a point, -/
abbrev buf17 (t : Fin cfg0.N) : Memref sig .tc .vmem S1x128x512 .f32 := win0_17.stage (cfg0.slots t 17)
/-- which is whole. -/
abbrev whole17 (t : Fin cfg0.N) : (buf17 t).IsWhole := hstage0_17 ((cfg0.slots t 17).cast nbuf0_17)
/-- The buffer of window 18 at a point, -/
abbrev buf18 (t : Fin cfg0.N) : Memref sig .tc .vmem S1x128x512 .f32 := win0_18.stage (cfg0.slots t 18)
/-- which is whole. -/
abbrev whole18 (t : Fin cfg0.N) : (buf18 t).IsWhole := hstage0_18 ((cfg0.slots t 18).cast nbuf0_18)
/-- The buffer of window 19 at a point, -/
abbrev buf19 (t : Fin cfg0.N) : Memref sig .tc .vmem S8x512 .f32 := win0_19.stage (cfg0.slots t 19)
/-- which is whole. -/
abbrev whole19 (t : Fin cfg0.N) : (buf19 t).IsWhole := hstage0_19 ((cfg0.slots t 19).cast nbuf0_19)
/-- The buffer of window 20 at a point, -/
abbrev buf20 (t : Fin cfg0.N) : Memref sig .tc .vmem S8x512 .f32 := win0_20.stage (cfg0.slots t 20)
/-- which is whole. -/
abbrev whole20 (t : Fin cfg0.N) : (buf20 t).IsWhole := hstage0_20 ((cfg0.slots t 20).cast nbuf0_20)
/-- Scratch buffer 0 of the kernel. -/
abbrev scr0 : Memref sig .tc .vmem S2048x512 .f32 := Memref.whole cc0_scratch0
/-- Scratch buffer 1 of the kernel. -/
abbrev scr1 : Memref sig .tc .vmem S2048x512 .f32 := Memref.whole cc0_scratch1
/-- Scratch buffer 2 of the kernel. -/
abbrev scr2 : Memref sig .tc .vmem S2056x512 .f32 := Memref.whole cc0_scratch2
/-- Scratch buffer 3 of the kernel. -/
abbrev scr3 : Memref sig .tc .vmem S2056x512 .f32 := Memref.whole cc0_scratch3
/-- Scratch buffer 4 of the kernel. -/
abbrev scr4 : Memref sig .tc .vmem S8x512 .f32 := Memref.whole cc0_scratch4
/-- The scratch buffer carried from point to point, as a view. -/
abbrev viewScr : View sig .tc .vmem S8x512 .f32 := scr4.view

/-- The scratch buffers at anything, and the generator's register. -/
theorem scratch_any (c : Dev nD) :
    (Pipeline.ΦA spec0 c : sProp 𝕄) = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d)) ∗ (∃ r, prngReg c r)) := by
  unfold Pipeline.ΦA; rw [scopedRest0_eq]; simp only [scr0, scr1, scr2, scr3, scr4, owns_whole]; try rfl

end Cert.ScanIdeal

end
-- ==== Proof.ScanRunLate.lean ====
/-
The body of the scan gradient at a point of the later half of time: it starts the sums and the carried state at zero.
-/
module

public import proofs.«01_k».proof.Proof.ScanCond

@[expose] public section

set_option maxRecDepth 16384

noncomputable section

namespace Cert.ScanIdeal

open Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A value for the part of the body the loop is handed and does not read. -/
def noUse : FVec F S2048x128 .f32 := broadcast S2048x128 (Scalar.ofBits .f32 0x00000000#32)

/-- The loop's invariant at that value. -/
@[sl_loop] def loopInvZero (𝒱 : Variants) (c : Dev nD) (bd : Option 𝒱.V) (E : Set ℕ) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S8x512 .f32) (harg8 : arg8.IsWhole) (arg9 : Memref sig .tc .vmem S8x512 .f32) (harg9 : arg9.IsWhole) (arg10 : Memref sig .tc .vmem S1x1024x128 .bf16) (harg10 : arg10.IsWhole) (arg11 : Memref sig .tc .vmem S1x384x512 .bf16) (harg11 : arg11.IsWhole) (arg12 : Memref sig .tc .vmem S1x384x512 .bf16) (harg12 : arg12.IsWhole) (arg13 : Memref sig .tc .vmem S16x8x512 .f32) (harg13 : arg13.IsWhole) (arg14 : Memref sig .tc .vmem S1x128 .f32) (harg14 : arg14.IsWhole) (arg15 : Memref sig .tc .vmem S2048x128 .bf16) (harg15 : arg15.IsWhole) (arg16 : Memref sig .tc .vmem S1x128 .f32) (harg16 : arg16.IsWhole) (arg17 : Memref sig .tc .vmem S1x128x512 .f32) (harg17 : arg17.IsWhole) (arg18 : Memref sig .tc .vmem S1x128x512 .f32) (harg18 : arg18.IsWhole) (arg19 : Memref sig .tc .vmem S1x128x512 .f32) (harg19 : arg19.IsWhole) (arg20 : Memref sig .tc .vmem S1x128x512 .f32) (harg20 : arg20.IsWhole) (arg21 : Memref sig .tc .vmem S8x512 .f32) (harg21 : arg21.IsWhole) (arg22 : Memref sig .tc .vmem S8x512 .f32) (harg22 : arg22.IsWhole) (arg23 : Memref sig .tc .vmem S2048x512 .f32) (harg23 : arg23.IsWhole) (arg24 : Memref sig .tc .vmem S2048x512 .f32) (harg24 : arg24.IsWhole) (arg25 : Memref sig .tc .vmem S2056x512 .f32) (harg25 : arg25.IsWhole) (arg26 : Memref sig .tc .vmem S2056x512 .f32) (harg26 : arg26.IsWhole) (arg27 : Memref sig .tc .vmem S8x512 .f32) (harg27 : arg27.IsWhole) (v77 : IVec S8x512 32) (X_arg13 : BufTy.Contents (Elt F) arg13.view.ty) (X_arg25 : BufTy.Contents (Elt F) arg25.view.ty) (X_arg26 : BufTy.Contents (Elt F) arg26.view.ty) (G_arg23 : BufTy.Contents (Elt F) arg23.view.ty) (G_arg24 : BufTy.Contents (Elt F) arg24.view.ty) (init : Vec F S1x512 .f32 × Vec F S1x512 .f32 × FVec F S8x512 .f32 × FVec F S8x512 .f32) :=
  loopInv_k0_t1 (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (noUse (F := F)) v77 X_arg13 X_arg25 X_arg26 G_arg23 G_arg24 init

set_option maxHeartbeats 6000000 in
/-- At a point of the later half: the stores into each output and into the carried scratch, found by running the body, with
    the proof that the body runs to them. -/
def runLate (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S8x512 .f32) (harg8 : arg8.IsWhole) (arg9 : Memref sig .tc .vmem S8x512 .f32) (harg9 : arg9.IsWhole) (arg10 : Memref sig .tc .vmem S1x1024x128 .bf16) (harg10 : arg10.IsWhole) (arg11 : Memref sig .tc .vmem S1x384x512 .bf16) (harg11 : arg11.IsWhole) (arg12 : Memref sig .tc .vmem S1x384x512 .bf16) (harg12 : arg12.IsWhole) (arg13 : Memref sig .tc .vmem S16x8x512 .f32) (harg13 : arg13.IsWhole) (arg14 : Memref sig .tc .vmem S1x128 .f32) (harg14 : arg14.IsWhole) (arg15 : Memref sig .tc .vmem S2048x128 .bf16) (harg15 : arg15.IsWhole) (arg16 : Memref sig .tc .vmem S1x128 .f32) (harg16 : arg16.IsWhole) (arg17 : Memref sig .tc .vmem S1x128x512 .f32) (harg17 : arg17.IsWhole) (arg18 : Memref sig .tc .vmem S1x128x512 .f32) (harg18 : arg18.IsWhole) (arg19 : Memref sig .tc .vmem S1x128x512 .f32) (harg19 : arg19.IsWhole) (arg20 : Memref sig .tc .vmem S1x128x512 .f32) (harg20 : arg20.IsWhole) (arg21 : Memref sig .tc .vmem S8x512 .f32) (harg21 : arg21.IsWhole) (arg22 : Memref sig .tc .vmem S8x512 .f32) (harg22 : arg22.IsWhole) (arg23 : Memref sig .tc .vmem S2048x512 .f32) (harg23 : arg23.IsWhole) (arg24 : Memref sig .tc .vmem S2048x512 .f32) (harg24 : arg24.IsWhole) (arg25 : Memref sig .tc .vmem S2056x512 .f32) (harg25 : arg25.IsWhole) (arg26 : Memref sig .tc .vmem S2056x512 .f32) (harg26 : arg26.IsWhole) (arg27 : Memref sig .tc .vmem S8x512 .f32) (harg27 : arg27.IsWhole) (hc0 : cond0 i) (hc1 : cond1 i) (hc2 : ¬cond2 i) (hc3 : cond3 i) (hc4 : ¬cond4 i) (hc5 : cond5 i) (hc6 : ¬cond6 i) (hc7 : cond7 i) (hc8 : ¬cond8 i) (hc9 : cond9 i) (hc10 : ¬cond10 i) (hc11 : cond11 i) (hc12 : ¬cond12 i) (hc13 : cond13 i) (hc14 : ¬cond14 i)
    (x0 : Vec F S2048x128 .bf16) (x1 : Vec F S2048x128 .bf16) (x2 : Vec F S2048x128 .f32) (x3 : Vec F S2048x128 .f32) (x4 : Vec F S2048x512 .f32) (x5 : Vec F S2048x512 .f32) (x6 : Vec F S8x512 .f32) (x7 : Vec F S8x512 .f32) (x8 : Vec F S1x1024x128 .bf16) (x9 : Vec F S1x384x512 .bf16) (x10 : Vec F S1x384x512 .bf16) (x11 : Vec F S16x8x512 .f32) (x12 : Vec F S1x128 .f32) :
    Σ' (L13 : List (View.Piece (Elt F) S2048x128 .bf16)), Σ' (L14 : List (View.Piece (Elt F) S1x128 .f32)), Σ' (L15 : List (View.Piece (Elt F) S1x128x512 .f32)), Σ' (L16 : List (View.Piece (Elt F) S1x128x512 .f32)), Σ' (L17 : List (View.Piece (Elt F) S1x128x512 .f32)), Σ' (L18 : List (View.Piece (Elt F) S1x128x512 .f32)), Σ' (L19 : List (View.Piece (Elt F) S8x512 .f32)), Σ' (L20 : List (View.Piece (Elt F) S8x512 .f32)), { LS4 : List (View.Piece (Elt F) S8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ f, arg27.view.loc (c : Thread nD τ) ↦[arg27.view.set]{fullShare} arg27.view.writes (Elt F) f LS4)) -∗ K ⟨⟩))
          ⊢ wp frame (wpE (defs₀ (F := F)) Variants.none c none) E (cc0_s5_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, fun E K => ?run⟩
  case run =>
    simp only [cc0_s5_bwd_eq_skeleton]; unfold cc0_s5_bwd_skel
    simp only [k0_part9_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | sl_exact hc0 | sl_exact hc1 | sl_exact hc2 | sl_exact hc3 | sl_exact hc4 | sl_exact hc5 | sl_exact hc6 | sl_exact hc7 | sl_exact hc8 | sl_exact hc9 | sl_exact hc10 | sl_exact hc11 | sl_exact hc12 | sl_exact hc13 | sl_exact hc14)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _; iexact HS4

end Cert.ScanIdeal

end
-- ==== Proof.ScanRunEarly.lean ====
/-
The body of the scan gradient at a point of the earlier half of time: it adds to the sums and goes on from the carried state.
-/
module

public import proofs.«01_k».proof.Proof.ScanRunLate

@[expose] public section

set_option maxRecDepth 16384

noncomputable section

namespace Cert.ScanIdeal

open Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 6000000 in
/-- At a point of the earlier half, over what the outputs and the carried scratch held: the stores, found by running the body,
    with the proof that the body runs to them. -/
def runEarly (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S8x512 .f32) (harg8 : arg8.IsWhole) (arg9 : Memref sig .tc .vmem S8x512 .f32) (harg9 : arg9.IsWhole) (arg10 : Memref sig .tc .vmem S1x1024x128 .bf16) (harg10 : arg10.IsWhole) (arg11 : Memref sig .tc .vmem S1x384x512 .bf16) (harg11 : arg11.IsWhole) (arg12 : Memref sig .tc .vmem S1x384x512 .bf16) (harg12 : arg12.IsWhole) (arg13 : Memref sig .tc .vmem S16x8x512 .f32) (harg13 : arg13.IsWhole) (arg14 : Memref sig .tc .vmem S1x128 .f32) (harg14 : arg14.IsWhole) (arg15 : Memref sig .tc .vmem S2048x128 .bf16) (harg15 : arg15.IsWhole) (arg16 : Memref sig .tc .vmem S1x128 .f32) (harg16 : arg16.IsWhole) (arg17 : Memref sig .tc .vmem S1x128x512 .f32) (harg17 : arg17.IsWhole) (arg18 : Memref sig .tc .vmem S1x128x512 .f32) (harg18 : arg18.IsWhole) (arg19 : Memref sig .tc .vmem S1x128x512 .f32) (harg19 : arg19.IsWhole) (arg20 : Memref sig .tc .vmem S1x128x512 .f32) (harg20 : arg20.IsWhole) (arg21 : Memref sig .tc .vmem S8x512 .f32) (harg21 : arg21.IsWhole) (arg22 : Memref sig .tc .vmem S8x512 .f32) (harg22 : arg22.IsWhole) (arg23 : Memref sig .tc .vmem S2048x512 .f32) (harg23 : arg23.IsWhole) (arg24 : Memref sig .tc .vmem S2048x512 .f32) (harg24 : arg24.IsWhole) (arg25 : Memref sig .tc .vmem S2056x512 .f32) (harg25 : arg25.IsWhole) (arg26 : Memref sig .tc .vmem S2056x512 .f32) (harg26 : arg26.IsWhole) (arg27 : Memref sig .tc .vmem S8x512 .f32) (harg27 : arg27.IsWhole) (hc0 : ¬cond0 i) (hc1 : ¬cond1 i) (hc2 : cond2 i) (hc3 : ¬cond3 i) (hc4 : cond4 i) (hc5 : ¬cond5 i) (hc6 : cond6 i) (hc7 : ¬cond7 i) (hc8 : cond8 i) (hc9 : ¬cond9 i) (hc10 : cond10 i) (hc11 : ¬cond11 i) (hc12 : cond12 i) (hc13 : ¬cond13 i) (hc14 : cond14 i)
    (x0 : Vec F S2048x128 .bf16) (x1 : Vec F S2048x128 .bf16) (x2 : Vec F S2048x128 .f32) (x3 : Vec F S2048x128 .f32) (x4 : Vec F S2048x512 .f32) (x5 : Vec F S2048x512 .f32) (x6 : Vec F S8x512 .f32) (x7 : Vec F S8x512 .f32) (x8 : Vec F S1x1024x128 .bf16) (x9 : Vec F S1x384x512 .bf16) (x10 : Vec F S1x384x512 .bf16) (x11 : Vec F S16x8x512 .f32) (x12 : Vec F S1x128 .f32) (xo14 : Vec F S1x128 .f32) (xo15 : Vec F S1x128x512 .f32) (xo16 : Vec F S1x128x512 .f32) (xo17 : Vec F S1x128x512 .f32) (xo18 : Vec F S1x128x512 .f32) (xo19 : Vec F S8x512 .f32) (xo20 : Vec F S8x512 .f32) (xs4 : Vec F S8x512 .f32) :
    Σ' (L13 : List (View.Piece (Elt F) S2048x128 .bf16)), Σ' (L14 : List (View.Piece (Elt F) S1x128 .f32)), Σ' (L15 : List (View.Piece (Elt F) S1x128x512 .f32)), Σ' (L16 : List (View.Piece (Elt F) S1x128x512 .f32)), Σ' (L17 : List (View.Piece (Elt F) S1x128x512 .f32)), Σ' (L18 : List (View.Piece (Elt F) S1x128x512 .f32)), Σ' (L19 : List (View.Piece (Elt F) S8x512 .f32)), Σ' (L20 : List (View.Piece (Elt F) S8x512 .f32)), { LS4 : List (View.Piece (Elt F) S8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ owns (c : Thread nD τ) arg16 fullShare xo14 ∗ owns (c : Thread nD τ) arg17 fullShare xo15 ∗ owns (c : Thread nD τ) arg18 fullShare xo16 ∗ owns (c : Thread nD τ) arg19 fullShare xo17 ∗ owns (c : Thread nD τ) arg20 fullShare xo18 ∗ owns (c : Thread nD τ) arg21 fullShare xo19 ∗ owns (c : Thread nD τ) arg22 fullShare xo20 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ owns (c : Thread nD τ) arg27 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (arg27.view.loc (c : Thread nD τ) ↦[arg27.view.set]{fullShare} arg27.view.writes (Elt F) (harg27.unread xs4) LS4)) -∗ K ⟨⟩))
          ⊢ wp frame (wpE (defs₀ (F := F)) Variants.none c none) E (cc0_s5_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, fun E K => ?run⟩
  case run =>
    simp only [cc0_s5_bwd_eq_skeleton]; unfold cc0_s5_bwd_skel
    simp only [k0_part9_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%ds0, %fs0, -, HS0⟩, ⟨%ds1, %fs1, -, HS1⟩, ⟨%ds2, %fs2, -, HS2⟩, ⟨%ds3, %fs3, -, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg27.eq_unread hfs4
    sl_exec (disch := first | sl_exact hc0 | sl_exact hc1 | sl_exact hc2 | sl_exact hc3 | sl_exact hc4 | sl_exact hc5 | sl_exact hc6 | sl_exact hc7 | sl_exact hc8 | sl_exact hc9 | sl_exact hc10 | sl_exact hc11 | sl_exact hc12 | sl_exact hc13 | sl_exact hc14)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexact HS4

end Cert.ScanIdeal

end
-- ==== Proof.ScanFrame.lean ====
/-
The run of the scan gradient: what its buffers hold point by point, and that its arguments end unchanged.
-/
module

public import proofs.«01_k».proof.Proof.ScanRunEarly
public import Idealize.ShloMosaic.Lib.Claim

@[expose] public section

set_option maxRecDepth 16384

noncomputable section

namespace Cert.ScanIdeal

open Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the outputs and the carried scratch hold -/

/-- The contents of the eight outputs' buffers and of the carried scratch. -/
abbrev Held (F : FTy → Type) [FloatOps F] : Type := Vec F S2048x128 .bf16 × Vec F S1x128 .f32 × Vec F S1x128x512 .f32 × Vec F S1x128x512 .f32 × Vec F S1x128x512 .f32 × Vec F S1x128x512 .f32 × Vec F S8x512 .f32 × Vec F S8x512 .f32 × Vec F S8x512 .f32

/-- The run at a point of the later half. -/
abbrev late (c : Dev nD) (t : Fin cfg0.N) (h : t.val % 2 = 0) :=
  runLate (F := F) c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf12 t) (whole12 t) (buf13 t) (whole13 t) (buf14 t) (whole14 t) (buf15 t) (whole15 t) (buf16 t) (whole16 t) (buf17 t) (whole17 t) (buf18 t) (whole18 t) (buf19 t) (whole19 t) (buf20 t) (whole20 t) scr0 (Memref.isWhole_whole _) scr1 (Memref.isWhole_whole _) scr2 (Memref.isWhole_whole _) scr3 (Memref.isWhole_whole _) scr4 (Memref.isWhole_whole _)
    (late_at t h).1 (late_at t h).2.1 (late_at t h).2.2.1 (late_at t h).2.2.2.1 (late_at t h).2.2.2.2.1 (late_at t h).2.2.2.2.2.1 (late_at t h).2.2.2.2.2.2.1 (late_at t h).2.2.2.2.2.2.2.1 (late_at t h).2.2.2.2.2.2.2.2.1 (late_at t h).2.2.2.2.2.2.2.2.2.1 (late_at t h).2.2.2.2.2.2.2.2.2.2.1 (late_at t h).2.2.2.2.2.2.2.2.2.2.2.1 (late_at t h).2.2.2.2.2.2.2.2.2.2.2.2.1 (late_at t h).2.2.2.2.2.2.2.2.2.2.2.2.2.1 (late_at t h).2.2.2.2.2.2.2.2.2.2.2.2.2.2
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- The run at a point of the earlier half, over what was held before. -/
abbrev early (c : Dev nD) (t : Fin cfg0.N) (h : ¬t.val % 2 = 0) (x : Held F) :=
  runEarly (F := F) c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf12 t) (whole12 t) (buf13 t) (whole13 t) (buf14 t) (whole14 t) (buf15 t) (whole15 t) (buf16 t) (whole16 t) (buf17 t) (whole17 t) (buf18 t) (whole18 t) (buf19 t) (whole19 t) (buf20 t) (whole20 t) scr0 (Memref.isWhole_whole _) scr1 (Memref.isWhole_whole _) scr2 (Memref.isWhole_whole _) scr3 (Memref.isWhole_whole _) scr4 (Memref.isWhole_whole _)
    (early_at t h).1 (early_at t h).2.1 (early_at t h).2.2.1 (early_at t h).2.2.2.1 (early_at t h).2.2.2.2.1 (early_at t h).2.2.2.2.2.1 (early_at t h).2.2.2.2.2.2.1 (early_at t h).2.2.2.2.2.2.2.1 (early_at t h).2.2.2.2.2.2.2.2.1 (early_at t h).2.2.2.2.2.2.2.2.2.1 (early_at t h).2.2.2.2.2.2.2.2.2.2.1 (early_at t h).2.2.2.2.2.2.2.2.2.2.2.1 (early_at t h).2.2.2.2.2.2.2.2.2.2.2.2.1 (early_at t h).2.2.2.2.2.2.2.2.2.2.2.2.2.1 (early_at t h).2.2.2.2.2.2.2.2.2.2.2.2.2.2
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    (x.2.1) (x.2.2.1) (x.2.2.2.1) (x.2.2.2.2.1) (x.2.2.2.2.2.1) (x.2.2.2.2.2.2.1) (x.2.2.2.2.2.2.2.1) (x.2.2.2.2.2.2.2.2)

/-- What a point of the later half leaves. -/
@[irreducible] def heldLate (c : Dev nD) (t : Fin cfg0.N) (h : t.val % 2 = 0) : Held F :=
  (view13.read (Elt F) (view13.writes (Elt F) view13.junk (late m c t h).1),
   view14.read (Elt F) (view14.writes (Elt F) view14.junk (late m c t h).2.1),
   view15.read (Elt F) (view15.writes (Elt F) view15.junk (late m c t h).2.2.1),
   view16.read (Elt F) (view16.writes (Elt F) view16.junk (late m c t h).2.2.2.1),
   view17.read (Elt F) (view17.writes (Elt F) view17.junk (late m c t h).2.2.2.2.1),
   view18.read (Elt F) (view18.writes (Elt F) view18.junk (late m c t h).2.2.2.2.2.1),
   view19.read (Elt F) (view19.writes (Elt F) view19.junk (late m c t h).2.2.2.2.2.2.1),
   view20.read (Elt F) (view20.writes (Elt F) view20.junk (late m c t h).2.2.2.2.2.2.2.1),
   viewScr.read (Elt F) (viewScr.writes (Elt F) viewScr.junk (late m c t h).2.2.2.2.2.2.2.2.1))

/-- What a point of the earlier half leaves over what was held before. -/
@[irreducible] def heldEarly (c : Dev nD) (t : Fin cfg0.N) (h : ¬t.val % 2 = 0) (x : Held F) : Held F :=
  (view13.read (Elt F) (view13.writes (Elt F) view13.junk (early m c t h x).1),
   view14.read (Elt F) (view14.writes (Elt F) view14.junk (early m c t h x).2.1),
   view15.read (Elt F) (view15.writes (Elt F) view15.junk (early m c t h x).2.2.1),
   view16.read (Elt F) (view16.writes (Elt F) view16.junk (early m c t h x).2.2.2.1),
   view17.read (Elt F) (view17.writes (Elt F) view17.junk (early m c t h x).2.2.2.2.1),
   view18.read (Elt F) (view18.writes (Elt F) view18.junk (early m c t h x).2.2.2.2.2.1),
   view19.read (Elt F) (view19.writes (Elt F) view19.junk (early m c t h x).2.2.2.2.2.2.1),
   view20.read (Elt F) (view20.writes (Elt F) view20.junk (early m c t h x).2.2.2.2.2.2.2.1),
   scr4.view.read (Elt F) (scr4.view.writes (Elt F) ((Memref.isWhole_whole _ : scr4.IsWhole).unread x.2.2.2.2.2.2.2.2) (early m c t h x).2.2.2.2.2.2.2.2.1))

/-- What is held after a point. -/
def held (c : Dev nD) : (n : ℕ) → n < cfg0.N → Held F
  | 0, hn => heldLate m c ⟨0, hn⟩ (Nat.zero_mod _)
  | n + 1, hn =>
    if h : (n + 1) % 2 = 0 then heldLate m c ⟨n + 1, hn⟩ h
    else heldEarly m c ⟨n + 1, hn⟩ h (held c n (by omega))

/-- After a point of the later half. -/
theorem held_late (c : Dev nD) (t : Fin cfg0.N) (h : t.val % 2 = 0) : held m c t.val t.isLt = heldLate m c t h := by
  obtain ⟨n, hn⟩ := t
  cases n with
  | zero => rfl
  | succ n => exact dif_pos h

/-- After a point of the earlier half. -/
theorem held_early (c : Dev nD) (t : Fin cfg0.N) (h : ¬t.val % 2 = 0) :
    held m c t.val t.isLt = heldEarly m c t h (held m c (t.val - 1) (by omega)) := by
  obtain ⟨n, hn⟩ := t
  cases n with
  | zero => exact absurd (Nat.zero_mod _) h
  | succ n => exact dif_neg h

/-! ## The stores cover the buffers -/

/-- The stores of the later half into output 13 cover it. -/
theorem cover_late13 (c : Dev nD) (t : Fin cfg0.N) (h : t.val % 2 = 0) (y : S2048x128.Idx) : ∃ pc ∈ (late m c t h).1, y ∈ pc.1.set :=
  View.cover_of_tiledL (late m c t h).1 S2048x128.size (by sl_kernel_rfl) y
/-- The stores of the later half into output 14 cover it. -/
theorem cover_late14 (c : Dev nD) (t : Fin cfg0.N) (h : t.val % 2 = 0) (y : S1x128.Idx) : ∃ pc ∈ (late m c t h).2.1, y ∈ pc.1.set :=
  View.cover_of_tiledL (late m c t h).2.1 S1x128.size (by sl_kernel_rfl) y
/-- The stores of the later half into output 15 cover it. -/
theorem cover_late15 (c : Dev nD) (t : Fin cfg0.N) (h : t.val % 2 = 0) (y : S1x128x512.Idx) : ∃ pc ∈ (late m c t h).2.2.1, y ∈ pc.1.set :=
  View.cover_of_tiledL (late m c t h).2.2.1 S1x128x512.size (by sl_kernel_rfl) y
/-- The stores of the later half into output 16 cover it. -/
theorem cover_late16 (c : Dev nD) (t : Fin cfg0.N) (h : t.val % 2 = 0) (y : S1x128x512.Idx) : ∃ pc ∈ (late m c t h).2.2.2.1, y ∈ pc.1.set :=
  View.cover_of_tiledL (late m c t h).2.2.2.1 S1x128x512.size (by sl_kernel_rfl) y
/-- The stores of the later half into output 17 cover it. -/
theorem cover_late17 (c : Dev nD) (t : Fin cfg0.N) (h : t.val % 2 = 0) (y : S1x128x512.Idx) : ∃ pc ∈ (late m c t h).2.2.2.2.1, y ∈ pc.1.set :=
  View.cover_of_tiledL (late m c t h).2.2.2.2.1 S1x128x512.size (by sl_kernel_rfl) y
/-- The stores of the later half into output 18 cover it. -/
theorem cover_late18 (c : Dev nD) (t : Fin cfg0.N) (h : t.val % 2 = 0) (y : S1x128x512.Idx) : ∃ pc ∈ (late m c t h).2.2.2.2.2.1, y ∈ pc.1.set :=
  View.cover_of_tiledL (late m c t h).2.2.2.2.2.1 S1x128x512.size (by sl_kernel_rfl) y
/-- The stores of the later half into output 19 cover it. -/
theorem cover_late19 (c : Dev nD) (t : Fin cfg0.N) (h : t.val % 2 = 0) (y : S8x512.Idx) : ∃ pc ∈ (late m c t h).2.2.2.2.2.2.1, y ∈ pc.1.set :=
  View.cover_of_tiledL (late m c t h).2.2.2.2.2.2.1 S8x512.size (by sl_kernel_rfl) y
/-- The stores of the later half into output 20 cover it. -/
theorem cover_late20 (c : Dev nD) (t : Fin cfg0.N) (h : t.val % 2 = 0) (y : S8x512.Idx) : ∃ pc ∈ (late m c t h).2.2.2.2.2.2.2.1, y ∈ pc.1.set :=
  View.cover_of_tiledL (late m c t h).2.2.2.2.2.2.2.1 S8x512.size (by sl_kernel_rfl) y
/-- The stores of the earlier half into output 13 cover it. -/
theorem cover_early13 (c : Dev nD) (t : Fin cfg0.N) (h : ¬t.val % 2 = 0) (x : Held F) (y : S2048x128.Idx) : ∃ pc ∈ (early m c t h x).1, y ∈ pc.1.set :=
  View.cover_of_tiledL (early m c t h x).1 S2048x128.size (by sl_kernel_rfl) y
/-- The stores of the earlier half into output 14 cover it. -/
theorem cover_early14 (c : Dev nD) (t : Fin cfg0.N) (h : ¬t.val % 2 = 0) (x : Held F) (y : S1x128.Idx) : ∃ pc ∈ (early m c t h x).2.1, y ∈ pc.1.set :=
  View.cover_of_tiledL (early m c t h x).2.1 S1x128.size (by sl_kernel_rfl) y
/-- The stores of the earlier half into output 15 cover it. -/
theorem cover_early15 (c : Dev nD) (t : Fin cfg0.N) (h : ¬t.val % 2 = 0) (x : Held F) (y : S1x128x512.Idx) : ∃ pc ∈ (early m c t h x).2.2.1, y ∈ pc.1.set :=
  View.cover_of_tiledL (early m c t h x).2.2.1 S1x128x512.size (by sl_kernel_rfl) y
/-- The stores of the earlier half into output 16 cover it. -/
theorem cover_early16 (c : Dev nD) (t : Fin cfg0.N) (h : ¬t.val % 2 = 0) (x : Held F) (y : S1x128x512.Idx) : ∃ pc ∈ (early m c t h x).2.2.2.1, y ∈ pc.1.set :=
  View.cover_of_tiledL (early m c t h x).2.2.2.1 S1x128x512.size (by sl_kernel_rfl) y
/-- The stores of the earlier half into output 17 cover it. -/
theorem cover_early17 (c : Dev nD) (t : Fin cfg0.N) (h : ¬t.val % 2 = 0) (x : Held F) (y : S1x128x512.Idx) : ∃ pc ∈ (early m c t h x).2.2.2.2.1, y ∈ pc.1.set :=
  View.cover_of_tiledL (early m c t h x).2.2.2.2.1 S1x128x512.size (by sl_kernel_rfl) y
/-- The stores of the earlier half into output 18 cover it. -/
theorem cover_early18 (c : Dev nD) (t : Fin cfg0.N) (h : ¬t.val % 2 = 0) (x : Held F) (y : S1x128x512.Idx) : ∃ pc ∈ (early m c t h x).2.2.2.2.2.1, y ∈ pc.1.set :=
  View.cover_of_tiledL (early m c t h x).2.2.2.2.2.1 S1x128x512.size (by sl_kernel_rfl) y
/-- The stores of the earlier half into output 19 cover it. -/
theorem cover_early19 (c : Dev nD) (t : Fin cfg0.N) (h : ¬t.val % 2 = 0) (x : Held F) (y : S8x512.Idx) : ∃ pc ∈ (early m c t h x).2.2.2.2.2.2.1, y ∈ pc.1.set :=
  View.cover_of_tiledL (early m c t h x).2.2.2.2.2.2.1 S8x512.size (by sl_kernel_rfl) y
/-- The stores of the earlier half into output 20 cover it. -/
theorem cover_early20 (c : Dev nD) (t : Fin cfg0.N) (h : ¬t.val % 2 = 0) (x : Held F) (y : S8x512.Idx) : ∃ pc ∈ (early m c t h x).2.2.2.2.2.2.2.1, y ∈ pc.1.set :=
  View.cover_of_tiledL (early m c t h x).2.2.2.2.2.2.2.1 S8x512.size (by sl_kernel_rfl) y
/-- The stores of the later half into the carried scratch cover it. -/
theorem cover_late_scr (c : Dev nD) (t : Fin cfg0.N) (h : t.val % 2 = 0) (y : S8x512.Idx) : ∃ pc ∈ (late m c t h).2.2.2.2.2.2.2.2.1, y ∈ pc.1.set :=
  View.cover_of_wholeMem (late m c t h).2.2.2.2.2.2.2.2.1 (by sl_whole_mem) y

/-! ## The invariant and the proof data -/

/-- Before a point: at first the scratch at anything, later the carried scratch at what the point before left. -/
def carried (c : Dev nD) : (n : ℕ) → n ≤ cfg0.N → sProp 𝕄
  | 0, _ => Pipeline.ΦA spec0 c
  | n + 1, hn => iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ owns (c : Thread nD τ) scr4 fullShare (held m c n hn).2.2.2.2.2.2.2.2) ∗ (∃ r, prngReg c r))

/-- Before the first point. -/
theorem carried_zero (c : Dev nD) (n : ℕ) (h : n ≤ cfg0.N) (hz : n = 0) : carried m c n h = Pipeline.ΦA spec0 c := by
  subst hz; rfl

/-- After a point. -/
theorem carried_succ (c : Dev nD) (n : ℕ) (hn : n < cfg0.N) :
    carried m c (n + 1) hn = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ owns (c : Thread nD τ) scr4 fullShare (held m c n hn).2.2.2.2.2.2.2.2) ∗ (∃ r, prngReg c r)) := rfl

/-- Before a point that is not the first. -/
theorem carried_pos (c : Dev nD) (n : ℕ) (h : n ≤ cfg0.N) (hz : n ≠ 0) :
    carried m c n h = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ owns (c : Thread nD τ) scr4 fullShare (held m c (n - 1) (by omega)).2.2.2.2.2.2.2.2) ∗ (∃ r, prngReg c r)) := by
  cases n with
  | zero => exact absurd rfl hz
  | succ n => rfl

/-- Before any point the carried scratch holds something. -/
theorem carried_any (c : Dev nD) (n : ℕ) (h : n ≤ cfg0.N) : carried m c n h ⊢ Pipeline.ΦA spec0 c := by
  by_cases hz : n = 0
  · rw [carried_zero m c n h hz]
    try exact Idealize.SL.BI.Entails.refl _
  · rw [carried_pos m c n h hz, scratch_any]
    iintro ⟨⟨HS0, HS1, HS2, HS3, HS4⟩, Hg⟩
    isplitl [HS0 HS1 HS2 HS3 HS4]
    · isplitl [HS0]
      · iexact HS0
      isplitl [HS1]
      · iexact HS1
      isplitl [HS2]
      · iexact HS2
      isplitl [HS3]
      · iexact HS3
      iexists _; iexact HS4
    iexact Hg

/-- The proof data: the arrays as the region finds them, each input's buffer at its block, each output's at what is held. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (held m c t.val t.isLt).1
    | ⟨14, _⟩ => (held m c t.val t.isLt).2.1
    | ⟨15, _⟩ => (held m c t.val t.isLt).2.2.1
    | ⟨16, _⟩ => (held m c t.val t.isLt).2.2.2.1
    | ⟨17, _⟩ => (held m c t.val t.isLt).2.2.2.2.1
    | ⟨18, _⟩ => (held m c t.val t.isLt).2.2.2.2.2.1
    | ⟨19, _⟩ => (held m c t.val t.isLt).2.2.2.2.2.2.1
    | ⟨20, _⟩ => (held m c t.val t.isLt).2.2.2.2.2.2.2.1
    | ⟨_ + 21, h⟩ => absurd h (Nat.not_lt.2 (Nat.le_add_left _ _))
  Φ t := carried m c t.val (Nat.le_of_lt_succ t.isLt)
  q w := Pipeline.shareOf spec0 w
  owed _ := 0

/-- The arrays of the proof data. -/
theorem arrays_eq (c : Dev nD) (w : Fin cfg0.W) : (dats m 0 c).A w = V m c (Pipeline.arrRef spec0 w) := by
  dsimp only [dats]

/-- The invariant at a point. -/
theorem carried_at (c : Dev nD) (t : Fin cfg0.N) : (dats m 0 c).Φ t.castSucc = carried m c t.val (Nat.le_of_lt t.isLt) := by
  dsimp only [dats]; exact Pipeline.Dat.Φ_castSucc (carried m c) t

/-- Window 0 after a point. -/
theorem after0 (c : Dev nD) (t : Fin cfg0.N) : (dats m 0 c).after 0 t = iblk m c 0 t := by dsimp only [dats]
/-- Window 0 is left at that. -/
theorem leaves0 (c : Dev nD) (t : Fin cfg0.N) : (dats m 0 c).leavesExact 0 t = owns (c : Thread nD τ) (buf0 t) fullShare (iblk m c 0 t) := by
  unfold Dat.leavesExact; rw [live0 t, after0]
/-- Window 0 holds its block before the body. -/
theorem before0 (c : Dev nD) (t : Fin cfg0.N) (d) : (dats m 0 c).before 0 t d = iblk m c 0 t :=
  before0_0_of m (dats m 0 c) (arrays_eq m c 0) (after0 m c) t d
/-- Window 1 after a point. -/
theorem after1 (c : Dev nD) (t : Fin cfg0.N) : (dats m 0 c).after 1 t = iblk m c 1 t := by dsimp only [dats]
/-- Window 1 is left at that. -/
theorem leaves1 (c : Dev nD) (t : Fin cfg0.N) : (dats m 0 c).leavesExact 1 t = owns (c : Thread nD τ) (buf1 t) fullShare (iblk m c 1 t) := by
  unfold Dat.leavesExact; rw [live1 t, after1]
/-- Window 1 holds its block before the body. -/
theorem before1 (c : Dev nD) (t : Fin cfg0.N) (d) : (dats m 0 c).before 1 t d = iblk m c 1 t :=
  before0_1_of m (dats m 0 c) (arrays_eq m c 1) (after1 m c) t d
/-- Window 2 after a point. -/
theorem after2 (c : Dev nD) (t : Fin cfg0.N) : (dats m 0 c).after 2 t = iblk m c 2 t := by dsimp only [dats]
/-- Window 2 is left at that. -/
theorem leaves2 (c : Dev nD) (t : Fin cfg0.N) : (dats m 0 c).leavesExact 2 t = owns (c : Thread nD τ) (buf2 t) fullShare (iblk m c 2 t) := by
  unfold Dat.leavesExact; rw [live2 t, after2]
/-- Window 2 holds its block before the body. -/
theorem before2 (c : Dev nD) (t : Fin cfg0.N) (d) : (dats m 0 c).before 2 t d = iblk m c 2 t :=
  before0_2_of m (dats m 0 c) (arrays_eq m c 2) (after2 m c) t d
/-- Window 3 after a point. -/
theorem after3 (c : Dev nD) (t : Fin cfg0.N) : (dats m 0 c).after 3 t = iblk m c 3 t := by dsimp only [dats]
/-- Window 3 is left at that. -/
theorem leaves3 (c : Dev nD) (t : Fin cfg0.N) : (dats m 0 c).leavesExact 3 t = owns (c : Thread nD τ) (buf3 t) fullShare (iblk m c 3 t) := by
  unfold Dat.leavesExact; rw [live3 t, after3]
/-- Window 3 holds its block before the body. -/
theorem before3 (c : Dev nD) (t : Fin cfg0.N) (d) : (dats m 0 c).before 3 t d = iblk m c 3 t :=
  before0_3_of m (dats m 0 c) (arrays_eq m c 3) (after3 m c) t d
/-- Window 4 after a point. -/
theorem after4 (c : Dev nD) (t : Fin cfg0.N) : (dats m 0 c).after 4 t = iblk m c 4 t := by dsimp only [dats]
/-- Window 4 is left at that. -/
theorem leaves4 (c : Dev nD) (t : Fin cfg0.N) : (dats m 0 c).leavesExact 4 t = owns (c : Thread nD τ) (buf4 t) fullShare (iblk m c 4 t) := by
  unfold Dat.leavesExact; rw [live4 t, after4]
/-- Window 4 holds its block before the body. -/
theorem before4 (c : Dev nD) (t : Fin cfg0.N) (d) : (dats m 0 c).before 4 t d = iblk m c 4 t :=
  before0_4_of m (dats m 0 c) (arrays_eq m c 4) (after4 m c) t d
/-- Window 5 after a point. -/
theorem after5 (c : Dev nD) (t : Fin cfg0.N) : (dats m 0 c).after 5 t = iblk m c 5 t := by dsimp only [dats]
/-- Window 5 is left at that. -/
theorem leaves5 (c : Dev nD) (t : Fin cfg0.N) : (dats m 0 c).leavesExact 5 t = owns (c : Thread nD τ) (buf5 t) fullShare (iblk m c 5 t) := by
  unfold Dat.leavesExact; rw [live5 t, after5]
/-- Window 5 holds its block before the body. -/
theorem before5 (c : Dev nD) (t : Fin cfg0.N) (d) : (dats m 0 c).before 5 t d = iblk m c 5 t :=
  before0_5_of m (dats m 0 c) (arrays_eq m c 5) (after5 m c) t d
/-- Window 6 after a point. -/
theorem after6 (c : Dev nD) (t : Fin cfg0.N) : (dats m 0 c).after 6 t = iblk m c 6 t := by dsimp only [dats]
/-- Window 6 is left at that. -/
theorem leaves6 (c : Dev nD) (t : Fin cfg0.N) : (dats m 0 c).leavesExact 6 t = owns (c : Thread nD τ) (buf6 t) fullShare (iblk m c 6 t) := by
  unfold Dat.leavesExact; rw [live6 t, after6]
/-- Window 6 holds its block before the body. -/
theorem before6 (c : Dev nD) (t : Fin cfg0.N) (d) : (dats m 0 c).before 6 t d = iblk m c 6 t :=
  before0_6_of m (dats m 0 c) (arrays_eq m c 6) (after6 m c) t d
/-- Window 7 after a point. -/
theorem after7 (c : Dev nD) (t : Fin cfg0.N) : (dats m 0 c).after 7 t = iblk m c 7 t := by dsimp only [dats]
/-- Window 7 is left at that. -/
theorem leaves7 (c : Dev nD) (t : Fin cfg0.N) : (dats m 0 c).leavesExact 7 t = owns (c : Thread nD τ) (buf7 t) fullShare (iblk m c 7 t) := by
  unfold Dat.leavesExact; rw [live7 t, after7]
/-- Window 7 holds its block before the body. -/
theorem before7 (c : Dev nD) (t : Fin cfg0.N) (d) : (dats m 0 c).before 7 t d = iblk m c 7 t :=
  before0_7_of m (dats m 0 c) (arrays_eq m c 7) (after7 m c) t d
/-- Window 8 after a point. -/
theorem after8 (c : Dev nD) (t : Fin cfg0.N) : (dats m 0 c).after 8 t = iblk m c 8 t := by dsimp only [dats]
/-- Window 8 is left at that. -/
theorem leaves8 (c : Dev nD) (t : Fin cfg0.N) : (dats m 0 c).leavesExact 8 t = owns (c : Thread nD τ) (buf8 t) fullShare (iblk m c 8 t) := by
  unfold Dat.leavesExact; rw [live8 t, after8]
/-- Window 8 holds its block before the body. -/
theorem before8 (c : Dev nD) (t : Fin cfg0.N) (d) : (dats m 0 c).before 8 t d = iblk m c 8 t :=
  before0_8_of m (dats m 0 c) (arrays_eq m c 8) (after8 m c) t d
/-- Window 9 after a point. -/
theorem after9 (c : Dev nD) (t : Fin cfg0.N) : (dats m 0 c).after 9 t = iblk m c 9 t := by dsimp only [dats]
/-- Window 9 is left at that. -/
theorem leaves9 (c : Dev nD) (t : Fin cfg0.N) : (dats m 0 c).leavesExact 9 t = owns (c : Thread nD τ) (buf9 t) fullShare (iblk m c 9 t) := by
  unfold Dat.leavesExact; rw [live9 t, after9]
/-- Window 9 holds its block before the body. -/
theorem before9 (c : Dev nD) (t : Fin cfg0.N) (d) : (dats m 0 c).before 9 t d = iblk m c 9 t :=
  before0_9_of m (dats m 0 c) (arrays_eq m c 9) (after9 m c) t d
/-- Window 10 after a point. -/
theorem after10 (c : Dev nD) (t : Fin cfg0.N) : (dats m 0 c).after 10 t = iblk m c 10 t := by dsimp only [dats]
/-- Window 10 is left at that. -/
theorem leaves10 (c : Dev nD) (t : Fin cfg0.N) : (dats m 0 c).leavesExact 10 t = owns (c : Thread nD τ) (buf10 t) fullShare (iblk m c 10 t) := by
  unfold Dat.leavesExact; rw [live10 t, after10]
/-- Window 10 holds its block before the body. -/
theorem before10 (c : Dev nD) (t : Fin cfg0.N) (d) : (dats m 0 c).before 10 t d = iblk m c 10 t :=
  before0_10_of m (dats m 0 c) (arrays_eq m c 10) (after10 m c) t d
/-- Window 11 after a point. -/
theorem after11 (c : Dev nD) (t : Fin cfg0.N) : (dats m 0 c).after 11 t = iblk m c 11 t := by dsimp only [dats]
/-- Window 11 is left at that. -/
theorem leaves11 (c : Dev nD) (t : Fin cfg0.N) : (dats m 0 c).leavesExact 11 t = owns (c : Thread nD τ) (buf11 t) fullShare (iblk m c 11 t) := by
  unfold Dat.leavesExact; rw [live11 t, after11]
/-- Window 11 holds its block before the body. -/
theorem before11 (c : Dev nD) (t : Fin cfg0.N) (d) : (dats m 0 c).before 11 t d = iblk m c 11 t :=
  before0_11_of m (dats m 0 c) (arrays_eq m c 11) (after11 m c) t d
/-- Window 12 after a point. -/
theorem after12 (c : Dev nD) (t : Fin cfg0.N) : (dats m 0 c).after 12 t = iblk m c 12 t := by dsimp only [dats]
/-- Window 12 is left at that. -/
theorem leaves12 (c : Dev nD) (t : Fin cfg0.N) : (dats m 0 c).leavesExact 12 t = owns (c : Thread nD τ) (buf12 t) fullShare (iblk m c 12 t) := by
  unfold Dat.leavesExact; rw [live12 t, after12]
/-- Window 12 holds its block before the body. -/
theorem before12 (c : Dev nD) (t : Fin cfg0.N) (d) : (dats m 0 c).before 12 t d = iblk m c 12 t :=
  before0_12_of m (dats m 0 c) (arrays_eq m c 12) (after12 m c) t d
/-- Window 13 after a point. -/
theorem after13 (c : Dev nD) (t : Fin cfg0.N) : (dats m 0 c).after 13 t = (held m c t.val t.isLt).1 := by dsimp only [dats]
/-- Window 13 is left at that. -/
theorem leaves13 (c : Dev nD) (t : Fin cfg0.N) : (dats m 0 c).leavesExact 13 t = owns (c : Thread nD τ) (buf13 t) fullShare ((held m c t.val t.isLt).1) := by
  unfold Dat.leavesExact; rw [live13 t, after13]
/-- Window 14 after a point. -/
theorem after14 (c : Dev nD) (t : Fin cfg0.N) : (dats m 0 c).after 14 t = (held m c t.val t.isLt).2.1 := by dsimp only [dats]
/-- Window 14 is left at that. -/
theorem leaves14 (c : Dev nD) (t : Fin cfg0.N) : (dats m 0 c).leavesExact 14 t = owns (c : Thread nD τ) (buf14 t) fullShare ((held m c t.val t.isLt).2.1) := by
  unfold Dat.leavesExact; rw [live14 t, after14]
/-- Window 14 holds the sum of the later half at a point of the earlier one. -/
theorem before14 (c : Dev nD) (t : Fin cfg0.N) (h : ¬t.val % 2 = 0) (d) :
    (dats m 0 c).before 14 t d = (held m c (t.val - 1) (Nat.lt_of_le_of_lt (Nat.sub_le _ _) t.isLt)).2.1 := by
  rw [Dat.before_out_traj _ 14 rfl (fun _ _ => rfl) (fun t _ hi _ => absurd ((live14 t).symm.trans hi) Bool.false_ne_true) t.val t rfl d,
    if_neg (by rw [fresh14 t, not_fresh t h]; exact Bool.false_ne_true)]
  dsimp only [dats]
/-- Window 15 after a point. -/
theorem after15 (c : Dev nD) (t : Fin cfg0.N) : (dats m 0 c).after 15 t = (held m c t.val t.isLt).2.2.1 := by dsimp only [dats]
/-- Window 15 is left at that. -/
theorem leaves15 (c : Dev nD) (t : Fin cfg0.N) : (dats m 0 c).leavesExact 15 t = owns (c : Thread nD τ) (buf15 t) fullShare ((held m c t.val t.isLt).2.2.1) := by
  unfold Dat.leavesExact; rw [live15 t, after15]
/-- Window 15 holds the sum of the later half at a point of the earlier one. -/
theorem before15 (c : Dev nD) (t : Fin cfg0.N) (h : ¬t.val % 2 = 0) (d) :
    (dats m 0 c).before 15 t d = (held m c (t.val - 1) (Nat.lt_of_le_of_lt (Nat.sub_le _ _) t.isLt)).2.2.1 := by
  rw [Dat.before_out_traj _ 15 rfl (fun _ _ => rfl) (fun t _ hi _ => absurd ((live15 t).symm.trans hi) Bool.false_ne_true) t.val t rfl d,
    if_neg (by rw [fresh15 t, not_fresh t h]; exact Bool.false_ne_true)]
  dsimp only [dats]
/-- Window 16 after a point. -/
theorem after16 (c : Dev nD) (t : Fin cfg0.N) : (dats m 0 c).after 16 t = (held m c t.val t.isLt).2.2.2.1 := by dsimp only [dats]
/-- Window 16 is left at that. -/
theorem leaves16 (c : Dev nD) (t : Fin cfg0.N) : (dats m 0 c).leavesExact 16 t = owns (c : Thread nD τ) (buf16 t) fullShare ((held m c t.val t.isLt).2.2.2.1) := by
  unfold Dat.leavesExact; rw [live16 t, after16]
/-- Window 16 holds the sum of the later half at a point of the earlier one. -/
theorem before16 (c : Dev nD) (t : Fin cfg0.N) (h : ¬t.val % 2 = 0) (d) :
    (dats m 0 c).before 16 t d = (held m c (t.val - 1) (Nat.lt_of_le_of_lt (Nat.sub_le _ _) t.isLt)).2.2.2.1 := by
  rw [Dat.before_out_traj _ 16 rfl (fun _ _ => rfl) (fun t _ hi _ => absurd ((live16 t).symm.trans hi) Bool.false_ne_true) t.val t rfl d,
    if_neg (by rw [fresh16 t, not_fresh t h]; exact Bool.false_ne_true)]
  dsimp only [dats]
/-- Window 17 after a point. -/
theorem after17 (c : Dev nD) (t : Fin cfg0.N) : (dats m 0 c).after 17 t = (held m c t.val t.isLt).2.2.2.2.1 := by dsimp only [dats]
/-- Window 17 is left at that. -/
theorem leaves17 (c : Dev nD) (t : Fin cfg0.N) : (dats m 0 c).leavesExact 17 t = owns (c : Thread nD τ) (buf17 t) fullShare ((held m c t.val t.isLt).2.2.2.2.1) := by
  unfold Dat.leavesExact; rw [live17 t, after17]
/-- Window 17 holds the sum of the later half at a point of the earlier one. -/
theorem before17 (c : Dev nD) (t : Fin cfg0.N) (h : ¬t.val % 2 = 0) (d) :
    (dats m 0 c).before 17 t d = (held m c (t.val - 1) (Nat.lt_of_le_of_lt (Nat.sub_le _ _) t.isLt)).2.2.2.2.1 := by
  rw [Dat.before_out_traj _ 17 rfl (fun _ _ => rfl) (fun t _ hi _ => absurd ((live17 t).symm.trans hi) Bool.false_ne_true) t.val t rfl d,
    if_neg (by rw [fresh17 t, not_fresh t h]; exact Bool.false_ne_true)]
  dsimp only [dats]
/-- Window 18 after a point. -/
theorem after18 (c : Dev nD) (t : Fin cfg0.N) : (dats m 0 c).after 18 t = (held m c t.val t.isLt).2.2.2.2.2.1 := by dsimp only [dats]
/-- Window 18 is left at that. -/
theorem leaves18 (c : Dev nD) (t : Fin cfg0.N) : (dats m 0 c).leavesExact 18 t = owns (c : Thread nD τ) (buf18 t) fullShare ((held m c t.val t.isLt).2.2.2.2.2.1) := by
  unfold Dat.leavesExact; rw [live18 t, after18]
/-- Window 18 holds the sum of the later half at a point of the earlier one. -/
theorem before18 (c : Dev nD) (t : Fin cfg0.N) (h : ¬t.val % 2 = 0) (d) :
    (dats m 0 c).before 18 t d = (held m c (t.val - 1) (Nat.lt_of_le_of_lt (Nat.sub_le _ _) t.isLt)).2.2.2.2.2.1 := by
  rw [Dat.before_out_traj _ 18 rfl (fun _ _ => rfl) (fun t _ hi _ => absurd ((live18 t).symm.trans hi) Bool.false_ne_true) t.val t rfl d,
    if_neg (by rw [fresh18 t, not_fresh t h]; exact Bool.false_ne_true)]
  dsimp only [dats]
/-- Window 19 after a point. -/
theorem after19 (c : Dev nD) (t : Fin cfg0.N) : (dats m 0 c).after 19 t = (held m c t.val t.isLt).2.2.2.2.2.2.1 := by dsimp only [dats]
/-- Window 19 is left at that. -/
theorem leaves19 (c : Dev nD) (t : Fin cfg0.N) : (dats m 0 c).leavesExact 19 t = owns (c : Thread nD τ) (buf19 t) fullShare ((held m c t.val t.isLt).2.2.2.2.2.2.1) := by
  unfold Dat.leavesExact; rw [live19 t, after19]
/-- Window 19 holds the sum of the later half at a point of the earlier one. -/
theorem before19 (c : Dev nD) (t : Fin cfg0.N) (h : ¬t.val % 2 = 0) (d) :
    (dats m 0 c).before 19 t d = (held m c (t.val - 1) (Nat.lt_of_le_of_lt (Nat.sub_le _ _) t.isLt)).2.2.2.2.2.2.1 := by
  rw [Dat.before_out_traj _ 19 rfl (fun _ _ => rfl) (fun t _ hi _ => absurd ((live19 t).symm.trans hi) Bool.false_ne_true) t.val t rfl d,
    if_neg (by rw [fresh19 t, not_fresh t h]; exact Bool.false_ne_true)]
  dsimp only [dats]
/-- Window 20 after a point. -/
theorem after20 (c : Dev nD) (t : Fin cfg0.N) : (dats m 0 c).after 20 t = (held m c t.val t.isLt).2.2.2.2.2.2.2.1 := by dsimp only [dats]
/-- Window 20 is left at that. -/
theorem leaves20 (c : Dev nD) (t : Fin cfg0.N) : (dats m 0 c).leavesExact 20 t = owns (c : Thread nD τ) (buf20 t) fullShare ((held m c t.val t.isLt).2.2.2.2.2.2.2.1) := by
  unfold Dat.leavesExact; rw [live20 t, after20]
/-- Window 20 holds the sum of the later half at a point of the earlier one. -/
theorem before20 (c : Dev nD) (t : Fin cfg0.N) (h : ¬t.val % 2 = 0) (d) :
    (dats m 0 c).before 20 t d = (held m c (t.val - 1) (Nat.lt_of_le_of_lt (Nat.sub_le _ _) t.isLt)).2.2.2.2.2.2.2.1 := by
  rw [Dat.before_out_traj _ 20 rfl (fun _ _ => rfl) (fun t _ hi _ => absurd ((live20 t).symm.trans hi) Bool.false_ne_true) t.val t rfl d,
    if_neg (by rw [fresh20 t, not_fresh t h]; exact Bool.false_ne_true)]
  dsimp only [dats]

/-! ## The body -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d))
    ∗ (∃ d, owns (c : Thread nD τ) (buf9 t) fullShare ((dats m 0 c).before 9 t d))
    ∗ (∃ d, owns (c : Thread nD τ) (buf10 t) fullShare ((dats m 0 c).before 10 t d))
    ∗ (∃ d, owns (c : Thread nD τ) (buf11 t) fullShare ((dats m 0 c).before 11 t d))
    ∗ (∃ d, owns (c : Thread nD τ) (buf12 t) fullShare ((dats m 0 c).before 12 t d))
    ∗ (∃ d, owns (c : Thread nD τ) (buf13 t) fullShare ((dats m 0 c).before 13 t d))
    ∗ (∃ d, owns (c : Thread nD τ) (buf14 t) fullShare ((dats m 0 c).before 14 t d))
    ∗ (∃ d, owns (c : Thread nD τ) (buf15 t) fullShare ((dats m 0 c).before 15 t d))
    ∗ (∃ d, owns (c : Thread nD τ) (buf16 t) fullShare ((dats m 0 c).before 16 t d))
    ∗ (∃ d, owns (c : Thread nD τ) (buf17 t) fullShare ((dats m 0 c).before 17 t d))
    ∗ (∃ d, owns (c : Thread nD τ) (buf18 t) fullShare ((dats m 0 c).before 18 t d))
    ∗ (∃ d, owns (c : Thread nD τ) (buf19 t) fullShare ((dats m 0 c).before 19 t d))
    ∗ (∃ d, owns (c : Thread nD τ) (buf20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t ∗ (dats m 0 c).leavesExact 16 t ∗ (dats m 0 c).leavesExact 17 t ∗ (dats m 0 c).leavesExact 18 t ∗ (dats m 0 c).leavesExact 19 t ∗ (dats m 0 c).leavesExact 20 t)

end Cert.ScanIdeal

end
-- ==== Proof.ScanBodyLate.lean ====
/-
The body of the scan gradient at a point of the later half.
-/
module

public import proofs.«01_k».proof.Proof.ScanFrame
public import Idealize.ShloMosaic.Lib.Claim

@[expose] public section

set_option maxRecDepth 16384

noncomputable section

namespace Cert.ScanIdeal

open Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at a point of the later half. -/
theorem body_late (c : Dev nD) (t : Fin cfg0.N) (h : t.val % 2 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).owesAt () t.succ = (dats m 0 c).owesAt () t.castSucc from rfl]
  rw [show (dats m 0 c).Φ t.succ = carried m c (t.val + 1) t.isLt from rfl, carried_succ]
  rw [leaves0, leaves1, leaves2, leaves3, leaves4, leaves5, leaves6, leaves7, leaves8, leaves9, leaves10, leaves11, leaves12, leaves13, leaves14, leaves15, leaves16, leaves17, leaves18, leaves19, leaves20]
  rw [carried_at m c t, held_late m c t h]
  refine (Laws.sep_mono_left ((carried_any m c t.val (Nat.le_of_lt t.isLt)).trans (BIBase.Entails.of_eq (scratch_any c)))).trans ?_
  unfold heldLate; dsimp only
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((late m c t h).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, HS0, HS1, HS2, HS3, ⟨%es4, HS4⟩⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      unfold owns; iexists _; isplitr
      swap; · iexact HS4
      ipureintro; exact View.read_writes_of_cover _ _ _ _ _ (cover_late_scr m c t h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact View.read_writes_of_cover _ _ _ _ _ (cover_late13 m c t h)
  isplitl [H14]
  · unfold owns; iexists _; isplitr
    swap; · iexact H14
    ipureintro; exact View.read_writes_of_cover _ _ _ _ _ (cover_late14 m c t h)
  isplitl [H15]
  · unfold owns; iexists _; isplitr
    swap; · iexact H15
    ipureintro; exact View.read_writes_of_cover _ _ _ _ _ (cover_late15 m c t h)
  isplitl [H16]
  · unfold owns; iexists _; isplitr
    swap; · iexact H16
    ipureintro; exact View.read_writes_of_cover _ _ _ _ _ (cover_late16 m c t h)
  isplitl [H17]
  · unfold owns; iexists _; isplitr
    swap; · iexact H17
    ipureintro; exact View.read_writes_of_cover _ _ _ _ _ (cover_late17 m c t h)
  isplitl [H18]
  · unfold owns; iexists _; isplitr
    swap; · iexact H18
    ipureintro; exact View.read_writes_of_cover _ _ _ _ _ (cover_late18 m c t h)
  isplitl [H19]
  · unfold owns; iexists _; isplitr
    swap; · iexact H19
    ipureintro; exact View.read_writes_of_cover _ _ _ _ _ (cover_late19 m c t h)
  unfold owns; iexists _; isplitr
  swap; · iexact H20
  ipureintro; exact View.read_writes_of_cover _ _ _ _ _ (cover_late20 m c t h)

end Cert.ScanIdeal

end
-- ==== Proof.ScanBodyEarly.lean ====
/-
The body of the scan gradient at a point of the earlier half.
-/
module

public import proofs.«01_k».proof.Proof.ScanFrame
public import Idealize.ShloMosaic.Lib.Claim

@[expose] public section

set_option maxRecDepth 16384

noncomputable section

namespace Cert.ScanIdeal

open Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at a point of the earlier half. -/
theorem body_early (c : Dev nD) (t : Fin cfg0.N) (h : ¬t.val % 2 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before14 m c t h, before15 m c t h, before16 m c t h, before17 m c t h, before18 m c t h, before19 m c t h, before20 m c t h]
  rw [show (dats m 0 c).owesAt () t.succ = (dats m 0 c).owesAt () t.castSucc from rfl]
  rw [show (dats m 0 c).Φ t.succ = carried m c (t.val + 1) t.isLt from rfl, carried_succ]
  rw [leaves0, leaves1, leaves2, leaves3, leaves4, leaves5, leaves6, leaves7, leaves8, leaves9, leaves10, leaves11, leaves12, leaves13, leaves14, leaves15, leaves16, leaves17, leaves18, leaves19, leaves20]
  rw [carried_at m c t, carried_pos m c _ _ (fun h0 => h (by rw [h0])), held_early m c t h]
  unfold heldEarly; dsimp only
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((early m c t h (held m c (t.val - 1) (by omega))).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      unfold owns; iexists _; isplitr
      swap; · iexact HS4
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact View.read_writes_of_cover _ _ _ _ _ (cover_early13 m c t h _)
  isplitl [H14]
  · unfold owns; iexists _; isplitr
    swap; · iexact H14
    ipureintro; exact View.read_writes_of_cover _ _ _ _ _ (cover_early14 m c t h _)
  isplitl [H15]
  · unfold owns; iexists _; isplitr
    swap; · iexact H15
    ipureintro; exact View.read_writes_of_cover _ _ _ _ _ (cover_early15 m c t h _)
  isplitl [H16]
  · unfold owns; iexists _; isplitr
    swap; · iexact H16
    ipureintro; exact View.read_writes_of_cover _ _ _ _ _ (cover_early16 m c t h _)
  isplitl [H17]
  · unfold owns; iexists _; isplitr
    swap; · iexact H17
    ipureintro; exact View.read_writes_of_cover _ _ _ _ _ (cover_early17 m c t h _)
  isplitl [H18]
  · unfold owns; iexists _; isplitr
    swap; · iexact H18
    ipureintro; exact View.read_writes_of_cover _ _ _ _ _ (cover_early18 m c t h _)
  isplitl [H19]
  · unfold owns; iexists _; isplitr
    swap; · iexact H19
    ipureintro; exact View.read_writes_of_cover _ _ _ _ _ (cover_early19 m c t h _)
  unfold owns; iexists _; isplitr
  swap; · iexact H20
  ipureintro; exact View.read_writes_of_cover _ _ _ _ _ (cover_early20 m c t h _)

end Cert.ScanIdeal

end
-- ==== Proof.ScanRun.lean ====
/-
The run of the scan gradient: what its arrays hold at the end, and that its arguments end unchanged.
-/
module

public import proofs.«01_k».proof.Proof.ScanBodyLate
public import proofs.«01_k».proof.Proof.ScanBodyEarly
public import Idealize.ShloMosaic.Lib.Claim

@[expose] public section

set_option maxRecDepth 16384

noncomputable section

namespace Cert.ScanIdeal

open Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at every point. -/
theorem body_all (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  by_cases h : t.val % 2 = 0
  · exact triple_restated (body_late m c t h) rfl .rfl fun _ => .rfl
  · exact triple_restated (body_early m c t h) rfl .rfl fun _ => .rfl

/-- The launch hands the region its invariant. -/
theorem enter (c : Dev nD) : Pipeline.ΦA spec0 c ⊢ (dats m 0 c).Φ 0 := by
  rw [show (dats m 0 c).Φ 0 = carried m c 0 (Nat.zero_le _) from rfl, carried_zero m c 0 _ rfl]
  try exact Idealize.SL.BI.Entails.refl _

/-- The region hands it back. -/
theorem leave (c : Dev nD) : (dats m 0 c).Φ (Fin.last cfg0.N) ⊢ Pipeline.ΦA spec0 c :=
  by rw [show (dats m 0 c).Φ (Fin.last cfg0.N) = carried m c cfg0.N (Nat.le_refl _) from rfl]; exact carried_any m c _ _

/-! ## The run -/

/-- Every execution ends with the arrays as the proof data say, the other buffers as the region found them,
    and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_all m c).loose) (hq := fun _ _ _ => rfl)
    (howed := fun _ _ => rfl) (hmain := hmain m Variants.none) (hA := arrays_eq m) (hin := enter m) (hout := leave m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, and every counter at zero, at any values. -/
theorem run_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) ∧ r.2.sem = fun _ => 0) :=
  θ_run_and (frame_of m ρ (dats m) (arrays_eq m) (run_main m ρ)) ((θ_run defs _ _).mono (fun _ h => h.2) (run_main_quiescent m ρ))

end Cert.ScanIdeal

end
-- ==== Proof.ScanMath.lean ====
/- The arithmetic behind the scan's gradient: the slope of the smooth gate over the reals, and the adjoint recurrence as a
   list of complex numbers. -/
module

public import Idealize.ShloMosaic.Lib.Pointwise
public import Idealize.ShloMosaic.Lib.IdealHost
public import Mathlib.Analysis.Complex.Basic
public import Mathlib.Analysis.Complex.Trigonometric

@[expose] public section

noncomputable section

namespace Cert.Proof.Scan

open Idealize.ShloMosaic

/-! ## The gate's slope -/

/-- The word of one half. -/
theorem half_word : Ideal.ofBits FTy.f32 1056964608#32 = ((1 / 2 : ℝ) : EReal) := by
  simp [Ideal.ofBits, Ideal.ieee, -EReal.coe_mul]; norm_num

/-- The word of three. -/
theorem three_word : Ideal.ofBits FTy.f32 1077936128#32 = ((3 : ℝ) : EReal) := by
  simp [Ideal.ofBits, Ideal.ieee, -EReal.coe_mul]; norm_num

/-- The rational number the word nearest to `√(2/π)` is. -/
def root : ℝ := 6693141 / 8388608

/-- That word. -/
theorem root_word : Ideal.ofBits FTy.f32 1061962282#32 = (root : EReal) := by
  unfold root
  simp [Ideal.ofBits, Ideal.ieee, -EReal.coe_mul]; norm_num

/-- The quotient of two words that is the gate's cubic coefficient. -/
theorem cubic_words : Ideal.div (Ideal.ofBits FTy.f32 1194240768#32) (Ideal.ofBits FTy.f32 1232348160#32) = ((8943 / 200000 : ℝ) : EReal) := by
  have h1 : Ideal.ofBits FTy.f32 1194240768#32 = ((44715 : ℝ) : EReal) := by
    simp [Ideal.ofBits, Ideal.ieee, -EReal.coe_mul]; norm_num
  have h2 : Ideal.ofBits FTy.f32 1232348160#32 = ((1000000 : ℝ) : EReal) := by
    simp [Ideal.ofBits, Ideal.ieee, -EReal.coe_mul]; norm_num
  rw [h1, h2]
  unfold Ideal.div
  rw [if_neg (by rw [← EReal.coe_zero]; exact fun h => by have := EReal.coe_injective h; norm_num at this), ← EReal.coe_inv, ← EReal.coe_mul]
  norm_num

/-- The gate's slope times the sum of the two cotangents, as the reference writes it. -/
def dyE (A B Y : EReal) : EReal :=
  (A + B) * (Ideal.ofBits FTy.f32 1056964608#32 * (1 + Ideal.tanh (Ideal.ofBits FTy.f32 1061962282#32 *
    (Y + Ideal.div (Ideal.ofBits FTy.f32 1194240768#32) (Ideal.ofBits FTy.f32 1232348160#32) * (Y * Y * Y))))) +
  Ideal.ofBits FTy.f32 1061962282#32 * (Ideal.ofBits FTy.f32 1056964608#32 * (Y * (A + B)) *
    ((1 + Ideal.tanh (Ideal.ofBits FTy.f32 1061962282#32 * (Y + Ideal.div (Ideal.ofBits FTy.f32 1194240768#32) (Ideal.ofBits FTy.f32 1232348160#32) * (Y * Y * Y)))) *
     (1 - Ideal.tanh (Ideal.ofBits FTy.f32 1061962282#32 * (Y + Ideal.div (Ideal.ofBits FTy.f32 1194240768#32) (Ideal.ofBits FTy.f32 1232348160#32) * (Y * Y * Y)))))) +
  Ideal.div (Ideal.ofBits FTy.f32 1194240768#32) (Ideal.ofBits FTy.f32 1232348160#32) *
    (Ideal.ofBits FTy.f32 1061962282#32 * (Ideal.ofBits FTy.f32 1056964608#32 * (Y * (A + B)) *
    ((1 + Ideal.tanh (Ideal.ofBits FTy.f32 1061962282#32 * (Y + Ideal.div (Ideal.ofBits FTy.f32 1194240768#32) (Ideal.ofBits FTy.f32 1232348160#32) * (Y * Y * Y)))) *
     (1 - Ideal.tanh (Ideal.ofBits FTy.f32 1061962282#32 * (Y + Ideal.div (Ideal.ofBits FTy.f32 1194240768#32) (Ideal.ofBits FTy.f32 1232348160#32) * (Y * Y * Y))))))) *
    (Ideal.ofBits FTy.f32 1077936128#32 * (Y * Y))

/-- The gate's argument of the hyperbolic tangent. -/
def bend (y : ℝ) : ℝ := Real.tanh (root * (y + 8943 / 200000 * (y * y * y)))

/-- The gate's slope times the sum of the two cotangents, over the reals. -/
def dyR (a b y : ℝ) : ℝ :=
  (a + b) * (1 / 2 * (1 + bend y)) + (a + b) * (1 / 2 * y * ((1 - bend y * bend y) * root) * (1 + 26829 / 200000 * (y * y)))

/-- On real numbers the reference's slope is that one. -/
theorem dyE_real (a b y : ℝ) : dyE a b y = (dyR a b y : EReal) := by
  unfold dyE
  rw [half_word, three_word, root_word, cubic_words]
  have ht : Ideal.tanh ((root : EReal) * ((y : EReal) + ((8943 / 200000 : ℝ) : EReal) * ((y : EReal) * y * y))) = (bend y : EReal) := by
    rw [← EReal.coe_mul, ← EReal.coe_mul, ← EReal.coe_mul, ← EReal.coe_add, ← EReal.coe_mul]; rfl
  rw [ht, ← EReal.coe_one]
  simp only [← EReal.coe_mul, ← EReal.coe_add, ← EReal.coe_sub]
  congr 1
  unfold dyR; ring

/-! ## The adjoint recurrence -/

/-- The recurrence's list from the last row back: its `k`-th entry is the gradient of row `4096 - k`. -/
def acc (μ : ℂ) (x : ℕ → ℂ) : ℕ → ℂ
  | 0 => 0
  | k + 1 => x (4095 - k) + μ * acc μ x k

/-- The gradient of a row's state. -/
def grad (μ : ℂ) (x : ℕ → ℂ) (t : ℕ) : ℂ := acc μ x (4096 - t)

theorem grad_last (μ : ℂ) (x : ℕ → ℂ) : grad μ x 4096 = 0 := rfl

/-- Every row's gradient is its own term and the decay times the next row's gradient. -/
theorem grad_step (μ : ℂ) (x : ℕ → ℂ) (t : ℕ) (h : t < 4096) : grad μ x t = x t + μ * grad μ x (t + 1) := by
  unfold grad
  rw [show 4096 - t = (4095 - t) + 1 by omega, show 4096 - (t + 1) = 4095 - t by omega]
  show x (4095 - (4095 - t)) + _ = _
  rw [show 4095 - (4095 - t) = t by omega]

end Cert.Proof.Scan
-- ==== Proof.ScanTruth.lean ====
/- What the scan's gradient is on real arrays: the states' gradients as a list of complex numbers, and the two results. -/
module

public import proofs.«01_k».proof.Proof.ScanMath

@[expose] public section

noncomputable section

namespace Cert.Proof.Scan

open Idealize.ShloMosaic

/-- The real numbers behind the arrays: the two cotangents, the gate's argument, the output matrices and the decay. -/
structure Data where
  a : Fin 4096 → Fin 1024 → ℝ
  b : Fin 4096 → Fin 1024 → ℝ
  y : Fin 4096 → Fin 1024 → ℝ
  cr : Fin 64 → Fin 16 → Fin 64 → ℝ
  ci : Fin 64 → Fin 16 → Fin 64 → ℝ
  lr : Fin 64 → Fin 64 → ℝ
  li : Fin 64 → Fin 64 → ℝ

/-- The channel of a group's row. -/
def chan (g : Fin 64) (h : Fin 16) : Fin 1024 := ⟨g.val * 16 + h.val, by omega⟩

/-- A channel's group. -/
def grp (q : Fin 1024) : Fin 64 := ⟨q.val / 16, by omega⟩

/-- A channel's row in its group. -/
def sub (q : Fin 1024) : Fin 16 := ⟨q.val % 16, by omega⟩

namespace Data

variable (D : Data)

/-- Arrays that hold those numbers. -/
structure Fits (x0 x1 x2 : Fin 4096 → Fin 1024 → EReal) (x8 x9 : Fin 64 → Fin 16 → Fin 64 → EReal) (x10 x11 : Fin 64 → Fin 64 → EReal) : Prop where
  h0 : ∀ t q, x0 t q = (D.a t q : EReal)
  h1 : ∀ t q, x1 t q = (D.b t q : EReal)
  h2 : ∀ t q, x2 t q = (D.y t q : EReal)
  h8 : ∀ g h p, x8 g h p = (D.cr g h p : EReal)
  h9 : ∀ g h p, x9 g h p = (D.ci g h p : EReal)
  h10 : ∀ g p, x10 g p = (D.lr g p : EReal)
  h11 : ∀ g p, x11 g p = (D.li g p : EReal)

/-- The cotangent of the state's output. -/
def dy (t : Fin 4096) (q : Fin 1024) : ℝ := dyR (D.a t q) (D.b t q) (D.y t q)

theorem Fits.slope {x0 x1 x2 : Fin 4096 → Fin 1024 → EReal} {x8 x9 : Fin 64 → Fin 16 → Fin 64 → EReal} {x10 x11 : Fin 64 → Fin 64 → EReal} (h : D.Fits x0 x1 x2 x8 x9 x10 x11)
    (t : Fin 4096) (q : Fin 1024) : dyE (x0 t q) (x1 t q) (x2 t q) = (D.dy t q : EReal) := by
  rw [h.h0, h.h1, h.h2]; exact dyE_real _ _ _

/-- The decay's conjugate. -/
def μ (g p : Fin 64) : ℂ := ⟨D.lr g p, -D.li g p⟩

/-- A row's own term of the state's gradient. -/
def row (g p : Fin 64) (t : Fin 4096) : ℂ := ⟨∑ h, D.dy t (chan g h) * D.cr g h p, -∑ h, D.dy t (chan g h) * D.ci g h p⟩

/-- The rows' terms as a list. -/
def x (g p : Fin 64) (t : ℕ) : ℂ := if h : t < 4096 then D.row g p ⟨t, h⟩ else 0

/-- The state's gradient. -/
def G (g p : Fin 64) (t : ℕ) : ℂ := grad (D.μ g p) (D.x g p) t

theorem x_fin (g p : Fin 64) (t : Fin 4096) : D.x g p t.val = D.row g p t := dif_pos t.isLt

theorem G_last (g p : Fin 64) : D.G g p 4096 = 0 := rfl

theorem G_step (g p : Fin 64) (t : ℕ) (h : t < 4096) : D.G g p t = D.x g p t + D.μ g p * D.G g p (t + 1) := grad_step _ _ t h

/-- The gradient of the scan's input. -/
def du (k : Fin 1024 → EReal) (br bi : Fin 64 → Fin 64 → Fin 16 → EReal) (t : Fin 4096) (q : Fin 1024) : EReal :=
  (D.dy t q : EReal) * k q + (∑ p, ((D.G (grp q) p t.val).im : EReal) * bi (grp q) p (sub q) + ∑ p, ((D.G (grp q) p t.val).re : EReal) * br (grp q) p (sub q))

/-- The gradient of the direct path's weights. -/
def dk (u : Fin 4096 → Fin 1024 → EReal) (q : Fin 1024) : EReal := ∑ t, (D.dy t q : EReal) * u t q

end Data

/-- A sum over eight blocks of which one counts. -/
theorem sum_block {M : Type} [AddCommMonoid M] (n : ℕ) (i : ℕ) (hi : i < 8) (f : Fin (8 * n) → M) (g : Fin n → M)
    (hz : ∀ k : Fin (8 * n), i ≠ k.val / n → f k = 0) (hf : ∀ (h : Fin n) (k : Fin (8 * n)), k.val = i * n + h.val → f k = g h) : ∑ k, f k = ∑ h, g h := by
  rw [← Fintype.sum_equiv finProdFinEquiv (fun x : Fin 8 × Fin n => f (finProdFinEquiv x)) f fun _ => rfl, Fintype.sum_prod_type]
  rw [Finset.sum_eq_single (⟨i, hi⟩ : Fin 8)]
  · refine Finset.sum_congr rfl fun h _ => hf h _ ?_
    show h.val + n * i = i * n + h.val
    rw [Nat.mul_comm, Nat.add_comm]
  · intro b _ hb
    refine Finset.sum_eq_zero fun h _ => hz _ ?_
    show i ≠ (h.val + n * b.val) / n
    have hn : 0 < n := lt_of_le_of_lt (Nat.zero_le _) h.isLt
    rw [Nat.add_mul_div_left _ _ hn, Nat.div_eq_of_lt h.isLt, Nat.zero_add]
    exact fun e => hb (Fin.ext e.symm)
  · exact fun h => absurd (Finset.mem_univ _) h

end Cert.Proof.Scan
-- ==== Proof.ScanFinite.lean ====
/- What the precondition says: the arrays it tests hold real numbers. -/
module

public import proofs.«01_k».proof.Proof.ScanTruth
public import proofs.«01_k».proof.Proof.Gen.Pre_finite
public import Idealize.ShloMosaic.Lib.ReduceAll
public import Idealize.ShloMosaic.Lib.Pointwise

@[expose] public section

noncomputable section

namespace Cert.Proof.Scan

open Idealize.ShloMosaic Cert.Pre_finite

/-- A number that less itself is zero is real. -/
theorem real_of_sub (x : EReal) (h : x - x = 0) : ∃ r : ℝ, x = (r : EReal) := by
  induction x with
  | bot => exact absurd h (by decide)
  | coe r => exact ⟨r, rfl⟩
  | top => exact absurd h (by decide)

/-- Both conjuncts of a conjunction that is one. -/
theorem both {a b : IVec S_ 1} {j : S_.Idx} (h : andi a b j = 1#1) : a j = 1#1 ∧ b j = 1#1 := IntOp.andi_eq_one.1 h

/-- An array the test passes holds real numbers. -/
theorem real_all {s : Shape} {axes : List (Fin s.rank)} (x : FVec Ideal s .f32) (hb : S_.BroadcastsInDim s (![] : Fin 0 → Fin s.rank)) (h : s.ReducesTo axes S_) (hu : 0 < S_.numel) (j : S_.Idx)
    (e : Host.reduce IntOp.andi (cmpf .oeq (subf x x) (broadcastInDim s ![] hb (constant S_ .f32 0x00000000#32))) (constantI S_ 1 1#1) h hu j = 1#1) (i : s.Idx) : ∃ r : ℝ, x i = (r : EReal) := by
  have hs : Subsingleton S_.Idx := ⟨fun a b => funext fun k => k.elim0⟩
  have k := Host.reduce_andi_all _ _ h hu j e i
  have k2 : Ideal.cmp .oeq ((x i : EReal) - x i) (Ideal.ofBits FTy.f32 0x00000000#32) = 1 := k
  rw [Ideal.ofBits_zero_f32] at k2
  exact real_of_sub _ ((Ideal.cmp_oeq_eq_one _ _).1 k2)

/-- The real numbers behind arrays that pass. -/
theorem data_of_finite [Facts] (x0 x1 : FVec Ideal S4096x1024 .bf16) (x2 : FVec Ideal S4096x1024 .f32) (x3 : FVec Ideal S4096x7168 .f32) (x4 x5 : FVec Ideal S4096x4096 .f32) (x6 x7 : FVec Ideal S64x64x16 .f32)
    (x8 x9 : FVec Ideal S64x16x64 .f32) (x10 x11 : FVec Ideal S64x64 .f32) (x12 : FVec Ideal S1x1024 .f32) (h : fn (F := Ideal) x0 x1 x2 x3 x4 x5 x6 x7 x8 x9 x10 x11 x12 = fun _ => 1#1) :
    ∃ D : Data, D.Fits (fun t q => x0 (ValueIdx.ix2 t q)) (fun t q => x1 (ValueIdx.ix2 t q)) (fun t q => x2 (ValueIdx.ix2 t q)) (fun g h p => x8 (ValueIdx.ix3 g h p)) (fun g h p => x9 (ValueIdx.ix3 g h p))
      (fun g p => x10 (ValueIdx.ix2 g p)) (fun g p => x11 (ValueIdx.ix2 g p)) := by
  have h := congrFun h (fun k : Fin 0 => k.elim0)
  unfold fn fn_part1 fn_part2 at h
  dsimp only at h
  obtain ⟨h, p11⟩ := both h
  obtain ⟨h, p10⟩ := both h
  obtain ⟨h, p9⟩ := both h
  obtain ⟨h, p8⟩ := both h
  obtain ⟨h, p2⟩ := both h
  obtain ⟨h, p1⟩ := both h
  obtain ⟨-, p0⟩ := both h
  have f0 : ∀ i, ∃ r : ℝ, (x0 i : EReal) = (r : EReal) := real_all _ _ _ _ _ p0
  have f1 : ∀ i, ∃ r : ℝ, (x1 i : EReal) = (r : EReal) := real_all _ _ _ _ _ p1
  have f2 := real_all _ _ _ _ _ p2
  have f8 := real_all _ _ _ _ _ p8
  have f9 := real_all _ _ _ _ _ p9
  have f10 := real_all _ _ _ _ _ p10
  have f11 := real_all _ _ _ _ _ p11
  choose a ha using f0
  choose b hb using f1
  choose y hy using f2
  choose cr hcr using f8
  choose ci hci using f9
  choose lr hlr using f10
  choose li hli using f11
  exact ⟨⟨fun t q => a (ValueIdx.ix2 t q), fun t q => b (ValueIdx.ix2 t q), fun t q => y (ValueIdx.ix2 t q), fun g h p => cr (ValueIdx.ix3 g h p), fun g h p => ci (ValueIdx.ix3 g h p), fun g p => lr (ValueIdx.ix2 g p), fun g p => li (ValueIdx.ix2 g p)⟩,
    ⟨fun _ _ => ha _, fun _ _ => hb _, fun _ _ => hy _, fun _ _ _ => hcr _, fun _ _ _ => hci _, fun _ _ => hlr _, fun _ _ => hli _⟩⟩

end Cert.Proof.Scan

end
-- ==== Proof.ScanBlocks.lean ====
/- The blocks a grid point of the scan's gradient reads, entry by entry of the arrays they are cut from. -/
module

public import proofs.«01_k».proof.Proof.Gen.ScanIdeal.Frame
public import proofs.«01_k».proof.Proof.ScanTruth
public import Idealize.ShloMosaic.Lib.Pipeline.ValueKit
public import Idealize.ShloMosaic.Lib.Pointwise

@[expose] public section

noncomputable section

namespace Cert.Proof.Scan

open Idealize.ShloMosaic Idealize.ShloMosaic.TcCoe Idealize.SL.Sem Cert.ScanIdeal Cert.ScanIdeal.Gen
open Idealize.ShloMosaic.Pipeline (Dat)

variable (m : (ℓ : Loc nD τ sig) → Buf (Elt Ideal) ℓ) (c : Dev nD) (t : Fin cfg0.N)

/-- The array row of a block's row: the even points take the later half. -/
def rowOf (r : Fin 2048) : Fin 4096 := ⟨(1 - t.val % 2) * 2048 + r.val, by omega⟩

/-- The channel of a block's column. -/
def colOf (q : Fin 128) : Fin 1024 := ⟨t.val / 2 * 128 + q.val, by have : t.val < 16 := t.isLt; omega⟩

/-- The block of groups. -/
def blkOf : Fin 8 := ⟨t.val / 2, by have : t.val < 16 := t.isLt; omega⟩

/-- A lane's group. -/
def grpOf (s : Fin 512) : Fin 64 := ⟨t.val / 2 * 8 + s.val / 64, by have : t.val < 16 := t.isLt; omega⟩

/-- A lane's state in its group. -/
def posOf (s : Fin 512) : Fin 64 := ⟨s.val % 64, by omega⟩

/-- The lane among all. -/
def laneOf (s : Fin 512) : Fin 4096 := ⟨t.val / 2 * 512 + s.val, by have : t.val < 16 := t.isLt; omega⟩

theorem e0 : ∀ t : Fin cfg0.N, win0_0.index t = ![1 - t.val % 2, t.val / 2] := (by decide +kernel : ∀ t : Fin grid0.N, _)
theorem e1 : ∀ t : Fin cfg0.N, win0_1.index t = ![1 - t.val % 2, t.val / 2] := (by decide +kernel : ∀ t : Fin grid0.N, _)
theorem e2 : ∀ t : Fin cfg0.N, win0_2.index t = ![1 - t.val % 2, t.val / 2] := (by decide +kernel : ∀ t : Fin grid0.N, _)
theorem e3 : ∀ t : Fin cfg0.N, win0_3.index t = ![1 - t.val % 2, 16 + t.val / 2] := (by decide +kernel : ∀ t : Fin grid0.N, _)
theorem e8 : ∀ t : Fin cfg0.N, win0_8.index t = ![t.val / 2, 0, 0] := (by decide +kernel : ∀ t : Fin grid0.N, _)
theorem e9 : ∀ t : Fin cfg0.N, win0_9.index t = ![t.val / 2, 0, 0] := (by decide +kernel : ∀ t : Fin grid0.N, _)
theorem e10 : ∀ t : Fin cfg0.N, win0_10.index t = ![t.val / 2, 0, 0] := (by decide +kernel : ∀ t : Fin grid0.N, _)
theorem e11 : ∀ t : Fin cfg0.N, win0_11.index t = ![0, 0, t.val / 2] := (by decide +kernel : ∀ t : Fin grid0.N, _)
theorem e12 : ∀ t : Fin cfg0.N, win0_12.index t = ![0, t.val / 2] := (by decide +kernel : ∀ t : Fin grid0.N, _)
theorem e13 : ∀ t : Fin cfg0.N, win0_13.index t = ![1 - t.val % 2, t.val / 2] := (by decide +kernel : ∀ t : Fin grid0.N, _)
theorem e14 : ∀ t : Fin cfg0.N, win0_14.index t = ![0, t.val / 2] := (by decide +kernel : ∀ t : Fin grid0.N, _)

/-- The first cotangent's block. -/
theorem blk0 (r : Fin 2048) (q : Fin 128) : (iblk m c 0 t : S2048x128.Idx → EReal) (ix2 r q) = m ((c : Thread nD τ).loc main_arg0) (ix2 (rowOf t r) (colOf t q)) := by
  rw [← V_main_arg0 m c]
  refine congrArg (V m c main_arg0) (show (win0_0.blk t).view.emb (ix2 r q) = _ from ?_)
  blk_ext [e0 t, rowOf, colOf]

/-- The second's. -/
theorem blk1 (r : Fin 2048) (q : Fin 128) : (iblk m c 1 t : S2048x128.Idx → EReal) (ix2 r q) = m ((c : Thread nD τ).loc main_arg1) (ix2 (rowOf t r) (colOf t q)) := by
  rw [← V_main_arg1 m c]
  refine congrArg (V m c main_arg1) (show (win0_1.blk t).view.emb (ix2 r q) = _ from ?_)
  blk_ext [e1 t, rowOf, colOf]

/-- The gate's argument's. -/
theorem blk2 (r : Fin 2048) (q : Fin 128) : (iblk m c 2 t : S2048x128.Idx → EReal) (ix2 r q) = m ((c : Thread nD τ).loc main_arg2) (ix2 (rowOf t r) (colOf t q)) := by
  rw [← V_main_arg2 m c]
  refine congrArg (V m c main_arg2) (show (win0_2.blk t).view.emb (ix2 r q) = _ from ?_)
  blk_ext [e2 t, rowOf, colOf]

/-- The scan's input's. -/
theorem blk3 (r : Fin 2048) (q : Fin 128) : (iblk m c 3 t : S2048x128.Idx → EReal) (ix2 r q) = m ((c : Thread nD τ).loc main_arg3) (ix2 (rowOf t r) ⟨2048 + (colOf t q).val, by have := (colOf t q).isLt; omega⟩) := by
  rw [← V_main_arg3 m c]
  refine congrArg (V m c main_arg3) (show (win0_3.blk t).view.emb (ix2 r q) = _ from ?_)
  blk_ext [e3 t, rowOf, colOf]

/-- Block `8` of any array. -/
theorem cut8 (X : S8x1024x128.Idx → EReal) (r : Fin 1024) (q : Fin 128) : ((win0_8.blk t).view.read (Elt Ideal) X : S1x1024x128.Idx → EReal) (ix3 0 r q) = X (ix3 (blkOf t) r q) := by
  refine congrArg X (show (win0_8.blk t).view.emb (ix3 0 r q) = _ from ?_)
  blk_ext [e8 t, blkOf]

/-- The input matrices' block. -/
theorem blk8 (r : Fin 1024) (q : Fin 128) : (iblk m c 8 t : S1x1024x128.Idx → EReal) (ix3 0 r q) = V m c main_v168 (ix3 (blkOf t) r q) :=
  cut8 t (V m c main_v168) r q

/-- Block `9` of any array. -/
theorem cut9 (X : S8x384x512.Idx → EReal) (r : Fin 384) (q : Fin 512) : ((win0_9.blk t).view.read (Elt Ideal) X : S1x384x512.Idx → EReal) (ix3 0 r q) = X (ix3 (blkOf t) r q) := by
  refine congrArg X (show (win0_9.blk t).view.emb (ix3 0 r q) = _ from ?_)
  blk_ext [e9 t, blkOf]

/-- The output matrices' block, real parts. -/
theorem blk9 (r : Fin 384) (q : Fin 512) : (iblk m c 9 t : S1x384x512.Idx → EReal) (ix3 0 r q) = V m c main_v174 (ix3 (blkOf t) r q) :=
  cut9 t (V m c main_v174) r q

/-- Block `10` of any array. -/
theorem cut10 (X : S8x384x512.Idx → EReal) (r : Fin 384) (q : Fin 512) : ((win0_10.blk t).view.read (Elt Ideal) X : S1x384x512.Idx → EReal) (ix3 0 r q) = X (ix3 (blkOf t) r q) := by
  refine congrArg X (show (win0_10.blk t).view.emb (ix3 0 r q) = _ from ?_)
  blk_ext [e10 t, blkOf]

/-- Their imaginary parts. -/
theorem blk10 (r : Fin 384) (q : Fin 512) : (iblk m c 10 t : S1x384x512.Idx → EReal) (ix3 0 r q) = V m c main_v181 (ix3 (blkOf t) r q) :=
  cut10 t (V m c main_v181) r q

/-- The tables' block. -/
theorem blk11 (j : Fin 16) (r : Fin 8) (s : Fin 512) : (iblk m c 11 t : S16x8x512.Idx → EReal) (ix3 j r s) = V m c main_v108 (ix3 j r (laneOf t s)) := by
  refine congrArg (V m c main_v108) (show (win0_11.blk t).view.emb (ix3 j r s) = _ from ?_)
  blk_ext [e11 t, laneOf]

/-- The direct path's weights. -/
theorem blk12 (q : Fin 128) : (iblk m c 12 t : S1x128.Idx → EReal) (ix2 0 q) = m ((c : Thread nD τ).loc main_arg12) (ix2 0 (colOf t q)) := by
  rw [← V_main_arg12 m c]
  refine congrArg (V m c main_arg12) (show (win0_12.blk t).view.emb (ix2 0 q) = _ from ?_)
  blk_ext [e12 t, colOf]

end Cert.Proof.Scan

end
-- ==== Proof.ScanPoint.lean ====
/- One point of the scan's gradient as plain arithmetic: the cotangent rows, the drive of the recurrence, and the block of
   the result, entry by entry. -/
module

public import proofs.«01_k».proof.Proof.Gen.ScanIdeal.Skeleton
public import proofs.«01_k».proof.Proof.ScanMath
public import Idealize.ShloMosaic.Lib.KernelVsHost
public import Idealize.ShloMosaic.Lib.ValueLayout

@[expose] public section

noncomputable section

namespace Cert.Proof.Scan

open Idealize.ShloMosaic Idealize.ShloMosaic.TcCoe Cert.ScanIdeal Cert.ScanIdeal.Gen

/-- The gate's coefficient under its name. -/
theorem named_cubic : (Named.named (F := Ideal) κ "cubic" (φ := .f32) 0x3D372713#32 : EReal) = ((8943 / 200000 : ℝ) : EReal) := rfl

/-- Three times it, under its name. -/
theorem named_cubic3 : (Named.named (F := Ideal) κ "cubic3" (φ := .f32) 0x3E095D4F#32 : EReal) = ((26829 / 200000 : ℝ) : EReal) := rfl

/-- A block of the cotangent of the state's output. -/
abbrev dyB (x0 x1 : FVec Ideal S2048x128 .bf16) (x2 : FVec Ideal S2048x128 .f32) : FVec Ideal S2048x128 .f32 :=
  mulf (k0_pay50 x0 x1) (addf (k0_pay52 x2) (k0_pay53 x2))

theorem pay51_real (x2 : FVec Ideal S2048x128 .f32) (i : S2048x128.Idx) (y : ℝ) (h : x2 i = (y : EReal)) : k0_pay51 (F := Ideal) x2 i = (bend y : EReal) := by
  have e : k0_pay51 (F := Ideal) x2 i = Ideal.tanh (Ideal.ofBits FTy.f32 1061962282#32 * (x2 i + ((Named.named (F := Ideal) κ "cubic" (φ := .f32) 0x3D372713#32 : EReal) * x2 i) * x2 i * x2 i)) := rfl
  rw [e, named_cubic, root_word, h]
  simp only [← EReal.coe_mul, ← EReal.coe_add]
  show ((Real.tanh _ : ℝ) : EReal) = _
  unfold bend
  congr 3; ring

theorem pay52_real (x2 : FVec Ideal S2048x128 .f32) (i : S2048x128.Idx) (y : ℝ) (h : x2 i = (y : EReal)) :
    k0_pay52 (F := Ideal) x2 i = ((1 / 2 * (1 + bend y) : ℝ) : EReal) := by
  have e : k0_pay52 (F := Ideal) x2 i = Ideal.ofBits FTy.f32 1056964608#32 * (Ideal.ofBits FTy.f32 0x3F800000#32 + k0_pay51 (F := Ideal) x2 i) := rfl
  rw [e, half_word, Ideal.ofBits_one_f32, pay51_real x2 i y h, ← EReal.coe_one]
  simp only [← EReal.coe_mul, ← EReal.coe_add]

theorem pay53_real (x2 : FVec Ideal S2048x128 .f32) (i : S2048x128.Idx) (y : ℝ) (h : x2 i = (y : EReal)) :
    k0_pay53 (F := Ideal) x2 i = ((1 / 2 * y * ((1 - bend y * bend y) * root) * (1 + 26829 / 200000 * (y * y)) : ℝ) : EReal) := by
  have e : k0_pay53 (F := Ideal) x2 i = ((Ideal.ofBits FTy.f32 1056964608#32 * x2 i) * (Ideal.ofBits FTy.f32 0x3F800000#32 - k0_pay51 (F := Ideal) x2 i * k0_pay51 (F := Ideal) x2 i)) * Ideal.ofBits FTy.f32 1061962282#32
      * (Ideal.ofBits FTy.f32 0x3F800000#32 + ((Named.named (F := Ideal) κ "cubic3" (φ := .f32) 0x3E095D4F#32 : EReal) * x2 i) * x2 i) := rfl
  rw [e, named_cubic3, half_word, root_word, Ideal.ofBits_one_f32, pay51_real x2 i y h, h, ← EReal.coe_one]
  simp only [← EReal.coe_mul, ← EReal.coe_add, ← EReal.coe_sub]
  congr 1; ring

/-- On real blocks an entry of the cotangent is the gate's slope times the sum of the two. -/
theorem dyB_real (x0 x1 : FVec Ideal S2048x128 .bf16) (x2 : FVec Ideal S2048x128 .f32) (i : S2048x128.Idx) (a b y : ℝ)
    (h0 : x0 i = (a : EReal)) (h1 : x1 i = (b : EReal)) (h2 : x2 i = (y : EReal)) : dyB x0 x1 x2 i = (dyR a b y : EReal) := by
  have e : dyB x0 x1 x2 i = ((x0 i : EReal) + x1 i) * (k0_pay52 (F := Ideal) x2 i + k0_pay53 (F := Ideal) x2 i) := rfl
  rw [e, pay52_real x2 i y h2, pay53_real x2 i y h2, h0, h1]
  simp only [← EReal.coe_mul, ← EReal.coe_add]
  congr 1; unfold dyR; ring

/-- The drive of the recurrence: the cotangent, its rounding's rest and it again against the three pieces of the weights. -/
abbrev driveB (d : FVec Ideal S2048x128 .f32) (w : FVec Ideal S1x384x512 .bf16) : FVec Ideal S2048x512 .f32 :=
  matmul dot_S2048x384_S384x512_S2048x512_1_0_0_1_n_n none
    (concatenate S2048x384 1 [⟨S2048x128, truncf FTy.bf16 d bitsLt_bf16_f32⟩, ⟨S2048x128, truncf FTy.bf16 (subf d (extf FTy.f32 (truncf FTy.bf16 d bitsLt_bf16_f32) bitsLt_bf16_f32)) bitsLt_bf16_f32⟩,
      ⟨S2048x128, truncf FTy.bf16 d bitsLt_bf16_f32⟩] concatenates_S2048x128_S2048x128_S2048x128_S2048x384_d1)
    (shapeCast S384x512 w shapeCasts_S1x384x512_S384x512) (constant S2048x512 FTy.f32 0#32)

/-- A sum of real numbers read in the extended reals. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A sum over three thirds. -/
theorem sum_thirds (f : Fin 384 → EReal) :
    ∑ k, f k = (∑ k : Fin 128, f ⟨k.val, by omega⟩) + (∑ k : Fin 128, f ⟨128 + k.val, by omega⟩) + ∑ k : Fin 128, f ⟨256 + k.val, by omega⟩ := by
  rw [Fin.sum_univ_add (a := 256) (b := 128) f, Fin.sum_univ_add (a := 128) (b := 128) (fun k : Fin 256 => f (Fin.castAdd 128 k))]
  rfl

/-- On real arrays an entry of the drive is the cotangent row against the weights' column. -/
theorem driveB_real (d : FVec Ideal S2048x128 .f32) (w : FVec Ideal S1x384x512 .bf16) (r : Fin 2048) (s : Fin 512) (e u : Fin 128 → ℝ)
    (hd : ∀ k, d (ix2 r k) = (e k : EReal)) (w1 : ∀ k : Fin 128, w (ix3 0 ⟨k.val, by omega⟩ s) = (u k : EReal))
    (w2 : ∀ k : Fin 128, w (ix3 0 ⟨128 + k.val, by omega⟩ s) = (u k : EReal)) (w3 : ∀ k : Fin 128, w (ix3 0 ⟨256 + k.val, by omega⟩ s) = 0) :
    driveB d w (ix2 r s) = ((∑ k, e k * u k : ℝ) : EReal) := by
  have key : driveB d w (ix2 r s) = (∑ k : Fin 128, (d (ix2 r k) : EReal) * w (ix3 0 ⟨k.val, by omega⟩ s))
      + (∑ k : Fin 128, ((d (ix2 r k) : EReal) - d (ix2 r k)) * w (ix3 0 ⟨128 + k.val, by omega⟩ s)) + ∑ k : Fin 128, (d (ix2 r k) : EReal) * w (ix3 0 ⟨256 + k.val, by omega⟩ s) := by
    pointwise
    rw [sum_thirds]
    refine congrArg₂ (fun a b : EReal => a + b) (congrArg₂ (fun a b : EReal => a + b) ?_ ?_) ?_
    · exact Finset.sum_congr rfl fun k _ => by rw [dif_pos k.isLt]
    · refine Finset.sum_congr rfl fun k _ => ?_
      rw [dif_neg (show ¬128 + k.val < 128 by omega), dif_pos (show 128 + k.val - 128 < 128 by omega)]
      simp only [Nat.add_sub_cancel_left]
    · refine Finset.sum_congr rfl fun k _ => ?_
      rw [dif_neg (show ¬256 + k.val < 128 by omega), dif_neg (show ¬256 + k.val - 128 < 128 by omega)]
      have e : (⟨256 + k.val - 128 - 128, by omega⟩ : Fin 128) = k := Fin.ext (show 256 + k.val - 128 - 128 = k.val by omega)
      rw [e]
  rw [key]
  simp only [hd, w1, w2, w3, mul_zero, Finset.sum_const_zero, add_zero, ← EReal.coe_sub, sub_self, EReal.coe_zero, zero_mul]
  rw [coe_sum]
  exact Finset.sum_congr rfl fun k _ => (EReal.coe_mul _ _).symm

/-- A block of the result: the cotangent through the direct path, and the states' gradients through the input matrices. -/
abbrev outB (d : FVec Ideal S2048x128 .f32) (x12 : FVec Ideal S1x128 .f32) (g23 g24 : FVec Ideal S2048x512 .f32) (x8 : FVec Ideal S1x1024x128 .bf16) : FVec Ideal S2048x128 .bf16 :=
  truncf FTy.bf16 (addf (mulf d (broadcastTo S2048x128 x12 broadcasts_S1x128_S2048x128))
    (matmul dot_S2048x1024_S1024x128_S2048x128_1_0_0_1_n_n none
      (concatenate S2048x1024 1 [⟨S2048x512, truncf FTy.bf16 g23 bitsLt_bf16_f32⟩, ⟨S2048x512, truncf FTy.bf16 g24 bitsLt_bf16_f32⟩] concatenates_S2048x512_S2048x512_S2048x1024_d1)
      (shapeCast S1024x128 x8 shapeCasts_S1x1024x128_S1024x128) (constant S2048x128 FTy.f32 0#32))) bitsLt_bf16_f32

theorem outB_apply (d : FVec Ideal S2048x128 .f32) (x12 : FVec Ideal S1x128 .f32) (g23 g24 : FVec Ideal S2048x512 .f32) (x8 : FVec Ideal S1x1024x128 .bf16) (r : Fin 2048) (q : Fin 128) :
    outB d x12 g23 g24 x8 (ix2 r q) = (d (ix2 r q) : EReal) * x12 (ix2 0 q) + ((∑ k : Fin 512, (g23 (ix2 r k) : EReal) * x8 (ix3 0 ⟨k.val, by omega⟩ q))
      + ∑ k : Fin 512, (g24 (ix2 r k) : EReal) * x8 (ix3 0 ⟨512 + k.val, by omega⟩ q)) := by
  pointwise

end Cert.Proof.Scan
-- ==== Proof.ScanLoads.lean ====
/-
Whole loads and stores.
-/
module

public import proofs.«01_k».proof.Proof.Gen.ScanIdeal.Frame
public import Idealize.ShloMosaic.Lib.Pipeline.ValueKit.Basic
public import Idealize.ShloMosaic.Lib.WholeRead

@[expose] public section

noncomputable section

namespace Cert.Proof.Scan

open Idealize.ShloMosaic Idealize.ShloMosaic.TcCoe Cert.ScanIdeal Cert.ScanIdeal.Gen

variable {S : Shape} {e : EltTy}

/-- A load of a whole buffer reads it. -/
theorem load_whole (M : Memref sig .tc .vmem S e) {off : Fin S.rank → ℕ} (inb : ∀ a, off a + S.size a ≤ S.size a) (f : M.view.ty.Contents (Elt Ideal)) (h : ∀ a, off a = 0) :
    View.readAt (Elt Ideal) M.view (Rect.unit (s := S) off S.size inb).toLoadRect f = M.view.read (Elt Ideal) f :=
  View.ld_unit_lit inb (M.view.read (Elt Ideal) f) h

/-- A load of a whole buffer that holds a block reads the block. -/
theorem load_back {M : Memref sig .tc .vmem S e} (hM : M.IsWhole) (X : S.Idx → Elt Ideal e) {off : Fin S.rank → ℕ} (inb : ∀ a, off a + S.size a ≤ S.size a) (h : ∀ a, off a = 0) :
    View.readAt (Elt Ideal) M.view (Rect.unit (s := S) off S.size inb).toLoadRect (hM.unread X) = X :=
  (load_whole M inb _ h).trans (hM.read_unread X)

/-- A buffer wholly stored reads what was stored. -/
theorem store_whole (M : Memref sig .tc .vmem S e) {off : Fin S.rank → ℕ} (inb : ∀ a, off a + S.size a ≤ S.size a) (w : S.Idx → Elt Ideal e) (h : ∀ a, off a = 0) :
    M.view.read (Elt Ideal) (M.view.writes (Elt Ideal) M.view.junk [⟨Rect.unit (s := S) off S.size inb, w⟩]) = w :=
  (load_whole M inb _ h).symm.trans (View.readCov_unit_lit M.view inb w h)

/-- The loop's trips. -/
theorem trips_eq : Scf.trips k0_t1_loop.lb k0_t1_loop.ub k0_t1_loop.st = 128 := by decide +kernel

/-- A block's share of the sum of the cotangent against the input. -/
abbrev sumB (d r : FVec Ideal S2048x128 .f32) : FVec Ideal S1x128 .f32 :=
  shapeCast S1x128 (multiReduction FKind.add [0] S128 (mulf d r) 0x00000000#32 reduces_S2048x128_S128 (.inl rfl) rfl) shapeCasts_S128_S1x128

end Cert.Proof.Scan

end
-- ==== Proof.ScanTile.lean ====
/- A pair of real arrays as the real and the imaginary parts of a complex one, and the tile of eight rows the scan's
   gradient solves by doubling. -/
module

public import proofs.«01_k».proof.Proof.Gen.ScanIdeal.Skeleton
public import Idealize.ShloMosaic.Lib.Pointwise
public import Idealize.ShloMosaic.Lib.KernelVsHost
public import Idealize.ShloMosaic.Lib.ValueLayout
public import Mathlib.Analysis.Complex.Basic

@[expose] public section

noncomputable section

namespace Cert.Proof.Scan

open Idealize.ShloMosaic Idealize.ShloMosaic.TcCoe Cert.ScanIdeal

/-- The arrays `a` and `b` hold the real and the imaginary parts of `z`. -/
structure Rep {h w : ℕ} (a b : (⟨2, ![h, w]⟩ : Shape).Idx → EReal) (z : Fin h → Fin w → ℂ) : Prop where
  re : ∀ r s, a (ix2 r s) = ((z r s).re : EReal)
  im : ∀ r s, b (ix2 r s) = ((z r s).im : EReal)

/-- The real part of `x + t * s`, in the order the kernel adds. -/
theorem step_re (x t s : ℂ) :
    ((x.re : EReal) + (t.re : EReal) * (s.re : EReal)) - (t.im : EReal) * (s.im : EReal) = ((x + t * s).re : EReal) := by
  rw [← EReal.coe_mul, ← EReal.coe_mul, ← EReal.coe_add, ← EReal.coe_sub, Complex.add_re, Complex.mul_re]
  congr 1; ring

/-- The imaginary part of `x + t * s`, in the order the kernel adds. -/
theorem step_im (x t s : ℂ) :
    ((x.im : EReal) + (t.re : EReal) * (s.im : EReal)) + (t.im : EReal) * (s.re : EReal) = ((x + t * s).im : EReal) := by
  rw [← EReal.coe_mul, ← EReal.coe_mul, ← EReal.coe_add, ← EReal.coe_add, Complex.add_im, Complex.mul_im]
  congr 1; ring

/-- One multiplication by a table and one addition, entry by entry. -/
theorem Rep.mulAdd {tr ti ra rb a b : FVec Ideal S8x512 .f32} {t s z : Fin 8 → Fin 512 → ℂ} (ht : Rep tr ti t) (hs : Rep ra rb s) (hz : Rep a b z) :
    Rep (subf (addf a (mulf tr ra)) (mulf ti rb)) (addf (addf b (mulf tr rb)) (mulf ti ra)) (fun r q => z r q + t r q * s r q) where
  re r q := by
    rw [ValueIdx.subf_apply, ValueIdx.addf_apply, ValueIdx.mulf_apply, ValueIdx.mulf_apply]
    exact (congrArg₂ (fun x y : EReal => x - y) (congrArg₂ (fun x y : EReal => x + y) (hz.re r q)
      (congrArg₂ (fun x y : EReal => x * y) (ht.re r q) (hs.re r q))) (congrArg₂ (fun x y : EReal => x * y) (ht.im r q) (hs.im r q))).trans (step_re _ _ _)
  im r q := by
    rw [ValueIdx.addf_apply, ValueIdx.addf_apply, ValueIdx.mulf_apply, ValueIdx.mulf_apply]
    exact (congrArg₂ (fun x y : EReal => x + y) (congrArg₂ (fun x y : EReal => x + y) (hz.im r q)
      (congrArg₂ (fun x y : EReal => x * y) (ht.re r q) (hs.im r q))) (congrArg₂ (fun x y : EReal => x * y) (ht.im r q) (hs.re r q))).trans (step_im _ _ _)

/-- A pair of arrays rolled along its rows. -/
theorem Rep.roll {a b : FVec Ideal S8x512 .f32} {z : Fin 8 → Fin 512 → ℂ} (hz : Rep a b z) (sb : BitVec 32) (d : Fin 8)
    (hd : ∀ r : Fin 8, (r.val + 8 - sb.toNat % 8) % 8 = (r + d).val) (h h' : S8x512.Rotates 0 none) :
    Rep (dynamicRotate 0 sb none a h) (dynamicRotate 0 sb none b h') (fun r q => z (r + d) q) := by
  have key : ∀ (x : FVec Ideal S8x512 .f32) (h : S8x512.Rotates 0 none) (r : Fin 8) (q : Fin 512),
      dynamicRotate 0 sb none x h (ix2 r q) = x (ix2 (r + d) q) := fun x h r q =>
    dynamicRotate_apply (0 : Fin 2) sb x h (ix2 r q) (ix2 (r + d) q) fun b => by
      match b with
      | ⟨0, _⟩ => exact (hd r).symm
      | ⟨1, _⟩ => rfl
  exact ⟨fun r q => (key a h r q).trans (hz.re _ _), fun r q => (key b h' r q).trans (hz.im _ _)⟩

/-- A pair of rows repeated down eight rows. -/
theorem Rep.spread {a b : FVec Ideal S1x512 .f32} {z : Fin 1 → Fin 512 → ℂ} (hz : Rep a b z) (h h' : S1x512.Broadcasts S8x512) :
    Rep (broadcastTo S8x512 a h) (broadcastTo S8x512 b h') (fun _ q => z 0 q) :=
  ⟨fun r q => (ValueIdx.broadcastTo_1b_ab_apply a h r q).trans (hz.re _ _), fun r q => (ValueIdx.broadcastTo_1b_ab_apply b h' r q).trans (hz.im _ _)⟩

/-- The first rows of a pair of tiles. -/
theorem Rep.head {a b : FVec Ideal S8x512 .f32} {z : Fin 8 → Fin 512 → ℂ} (hz : Rep a b z) (h h' : S8x512.Slices ![0, 0] S1x512) :
    Rep (extractStridedSlice S1x512 ![0, 0] a h) (extractStridedSlice S1x512 ![0, 0] b h') (fun _ q => z 0 q) := by
  have key : ∀ (x : FVec Ideal S8x512 .f32) (h : S8x512.Slices ![0, 0] S1x512) (r : Fin 1) (q : Fin 512),
      extractStridedSlice S1x512 ![0, 0] x h (ix2 r q) = x (ix2 0 q) := fun x h r q =>
    extractStridedSlice_apply ![0, 0] x h (ix2 r q) (ix2 0 q) fun b => by
      match b with
      | ⟨0, _⟩ => show 0 = 0 + r.val; omega
      | ⟨1, _⟩ => exact (Nat.zero_add _).symm
  exact ⟨fun r q => (key a h r q).trans (hz.re _ _), fun r q => (key b h' r q).trans (hz.im _ _)⟩

/-- Both arrays read under their own shape again. -/
theorem Rep.same {a b : FVec Ideal S8x512 .f32} {z : Fin 8 → Fin 512 → ℂ} (hz : Rep a b z) (h h' : S8x512.ShapeCasts S8x512) :
    Rep (shapeCast S8x512 a h) (shapeCast S8x512 b h') z := by
  rw [shapeCast_self, shapeCast_self]; exact hz

/-- One tile: three doubling steps of one, two and four rows, then the row carried from the tile behind. -/
def tile (T0 T1 T2 T3 y : Fin 8 → Fin 512 → ℂ) (C : Fin 512 → ℂ) : Fin 8 → Fin 512 → ℂ :=
  let y1 := fun r q => y r q + T0 r q * y (r + 1) q
  let y2 := fun r q => y1 r q + T1 r q * y1 (r + 2) q
  let y3 := fun r q => y2 r q + T2 r q * y2 (r + 4) q
  fun r q => y3 r q + T3 r q * C q

/-- The tables of one decay `μ` per lane: its powers, with zeros in the rows whose partner lies outside the tile. -/
structure Tables (μ : Fin 512 → ℂ) (T0 T1 T2 T3 : Fin 8 → Fin 512 → ℂ) : Prop where
  one : ∀ r q, T0 r q = if r.val + 1 ≤ 7 then μ q else 0
  two : ∀ r q, T1 r q = if r.val + 2 ≤ 7 then μ q ^ 2 else 0
  four : ∀ r q, T2 r q = if r.val + 4 ≤ 7 then μ q ^ 4 else 0
  carry : ∀ r q, T3 r q = μ q ^ (8 - r.val)

/-- The tile solves the recurrence: every row is its own term and the decay times the row behind it. -/
theorem tile_eq {μ : Fin 512 → ℂ} {T0 T1 T2 T3 : Fin 8 → Fin 512 → ℂ} (hT : Tables μ T0 T1 T2 T3) (y : Fin 8 → Fin 512 → ℂ) (C : Fin 512 → ℂ)
    (g : ℕ → Fin 512 → ℂ) (hC : g 8 = C) (hg : ∀ (r : Fin 8) q, g r.val q = y r q + μ q * g (r.val + 1) q) (r : Fin 8) (q : Fin 512) :
    tile T0 T1 T2 T3 y C r q = g r.val q := by
  have h0 := hg 0 q; have h1 := hg 1 q; have h2 := hg 2 q; have h3 := hg 3 q
  have h4 := hg 4 q; have h5 := hg 5 q; have h6 := hg 6 q; have h7 := hg 7 q
  have h8 : g 8 q = C q := congrFun hC q
  simp only [Fin.isValue, Fin.val_zero, Fin.val_one, Fin.val_two, Fin.reduceFinMk, zero_add, Nat.reduceAdd, show (3 : Fin 8).val = 3 from rfl, show (4 : Fin 8).val = 4 from rfl,
    show (5 : Fin 8).val = 5 from rfl, show (6 : Fin 8).val = 6 from rfl, show (7 : Fin 8).val = 7 from rfl] at h0 h1 h2 h3 h4 h5 h6 h7
  unfold tile
  simp only [hT.one, hT.two, hT.four, hT.carry]
  fin_cases r
  · show _ = g 0 q
    rw [h0, h1, h2, h3, h4, h5, h6, h7, h8]; simp [Fin.ext_iff, Fin.val_add]; ring
  · show _ = g 1 q
    rw [h1, h2, h3, h4, h5, h6, h7, h8]; simp [Fin.ext_iff, Fin.val_add]; ring
  · show _ = g 2 q
    rw [h2, h3, h4, h5, h6, h7, h8]; simp [Fin.ext_iff, Fin.val_add]; ring
  · show _ = g 3 q
    rw [h3, h4, h5, h6, h7, h8]; simp [Fin.ext_iff, Fin.val_add]; ring
  · show _ = g 4 q
    rw [h4, h5, h6, h7, h8]; simp [Fin.ext_iff, Fin.val_add]; ring
  · show _ = g 5 q
    rw [h5, h6, h7, h8]; simp [Fin.ext_iff, Fin.val_add]; ring
  · show _ = g 6 q
    rw [h6, h7, h8]; simp [Fin.ext_iff, Fin.val_add]; ring
  · show _ = g 7 q
    rw [h7, h8]; simp [Fin.ext_iff, Fin.val_add]

end Cert.Proof.Scan
-- ==== Proof.ScanTrip.lean ====
/- The loop of the scan's gradient: what one trip yields and stores, as complex arrays. -/
module

public import proofs.«01_k».proof.Proof.Gen.ScanIdeal.Loops
public import proofs.«01_k».proof.Proof.ScanTile
public import Idealize.ShloMosaic.Lib.WritesUnit
public import Idealize.ShloMosaic.Lib.VecWindow

@[expose] public section

noncomputable section

namespace Cert.Proof.Scan

open Idealize.ShloMosaic Idealize.ShloMosaic.TcCoe Idealize.SL.Sem Cert.ScanIdeal Cert.ScanIdeal.Gen

/-- What the loop carries: the row behind, real and imaginary part, and two running sums. -/
abbrev Acc := Vec Ideal S1x512 .f32 × Vec Ideal S1x512 .f32 × FVec Ideal S8x512 .f32 × FVec Ideal S8x512 .f32

/-- The loop's buffers and what they hold at its entry. -/
structure Ctx where
  c : Dev nD
  i : grid0.Coords
  arg2 : Memref sig .tc .vmem S2048x128 .bf16
  harg2 : arg2.IsWhole
  arg3 : Memref sig .tc .vmem S2048x128 .bf16
  harg3 : arg3.IsWhole
  arg4 : Memref sig .tc .vmem S2048x128 .f32
  harg4 : arg4.IsWhole
  arg5 : Memref sig .tc .vmem S2048x128 .f32
  harg5 : arg5.IsWhole
  arg6 : Memref sig .tc .vmem S2048x512 .f32
  harg6 : arg6.IsWhole
  arg7 : Memref sig .tc .vmem S2048x512 .f32
  harg7 : arg7.IsWhole
  arg8 : Memref sig .tc .vmem S8x512 .f32
  harg8 : arg8.IsWhole
  arg9 : Memref sig .tc .vmem S8x512 .f32
  harg9 : arg9.IsWhole
  arg10 : Memref sig .tc .vmem S1x1024x128 .bf16
  harg10 : arg10.IsWhole
  arg11 : Memref sig .tc .vmem S1x384x512 .bf16
  harg11 : arg11.IsWhole
  arg12 : Memref sig .tc .vmem S1x384x512 .bf16
  harg12 : arg12.IsWhole
  arg13 : Memref sig .tc .vmem S16x8x512 .f32
  harg13 : arg13.IsWhole
  arg14 : Memref sig .tc .vmem S1x128 .f32
  harg14 : arg14.IsWhole
  arg15 : Memref sig .tc .vmem S2048x128 .bf16
  harg15 : arg15.IsWhole
  arg16 : Memref sig .tc .vmem S1x128 .f32
  harg16 : arg16.IsWhole
  arg17 : Memref sig .tc .vmem S1x128x512 .f32
  harg17 : arg17.IsWhole
  arg18 : Memref sig .tc .vmem S1x128x512 .f32
  harg18 : arg18.IsWhole
  arg19 : Memref sig .tc .vmem S1x128x512 .f32
  harg19 : arg19.IsWhole
  arg20 : Memref sig .tc .vmem S1x128x512 .f32
  harg20 : arg20.IsWhole
  arg21 : Memref sig .tc .vmem S8x512 .f32
  harg21 : arg21.IsWhole
  arg22 : Memref sig .tc .vmem S8x512 .f32
  harg22 : arg22.IsWhole
  arg23 : Memref sig .tc .vmem S2048x512 .f32
  harg23 : arg23.IsWhole
  arg24 : Memref sig .tc .vmem S2048x512 .f32
  harg24 : arg24.IsWhole
  arg25 : Memref sig .tc .vmem S2056x512 .f32
  harg25 : arg25.IsWhole
  arg26 : Memref sig .tc .vmem S2056x512 .f32
  harg26 : arg26.IsWhole
  arg27 : Memref sig .tc .vmem S8x512 .f32
  harg27 : arg27.IsWhole
  v38 : FVec Ideal S2048x128 .f32
  v77 : IVec S8x512 32
  X13 : BufTy.Contents (Elt Ideal) arg13.view.ty
  X25 : BufTy.Contents (Elt Ideal) arg25.view.ty
  X26 : BufTy.Contents (Elt Ideal) arg26.view.ty
  G23 : BufTy.Contents (Elt Ideal) arg23.view.ty
  G24 : BufTy.Contents (Elt Ideal) arg24.view.ty
  init : Acc

variable (x : Ctx)

/-- The state before trip `k`. -/
def Ctx.st (k : ℕ) := st_k0_t1 (F := Ideal) Variants.none x.c none x.i x.arg2 x.harg2 x.arg3 x.harg3 x.arg4 x.harg4 x.arg5 x.harg5 x.arg6 x.harg6 x.arg7 x.harg7 x.arg8 x.harg8 x.arg9 x.harg9 x.arg10 x.harg10 x.arg11 x.harg11 x.arg12 x.harg12 x.arg13 x.harg13 x.arg14 x.harg14 x.arg15 x.harg15 x.arg16 x.harg16 x.arg17 x.harg17 x.arg18 x.harg18 x.arg19 x.harg19 x.arg20 x.harg20 x.arg21 x.harg21 x.arg22 x.harg22 x.arg23 x.harg23 x.arg24 x.harg24 x.arg25 x.harg25 x.arg26 x.harg26 x.arg27 x.harg27 x.v38 x.v77 x.X13 x.X25 x.X26 x.G23 x.G24 x.init k

/-- What trip `k` yields. -/
def Ctx.res (k : Fin k0_t1_loop.trips) := tripR_k0_t1 (F := Ideal) Variants.none x.c none x.i x.arg2 x.harg2 x.arg3 x.harg3 x.arg4 x.harg4 x.arg5 x.harg5 x.arg6 x.harg6 x.arg7 x.harg7 x.arg8 x.harg8 x.arg9 x.harg9 x.arg10 x.harg10 x.arg11 x.harg11 x.arg12 x.harg12 x.arg13 x.harg13 x.arg14 x.harg14 x.arg15 x.harg15 x.arg16 x.harg16 x.arg17 x.harg17 x.arg18 x.harg18 x.arg19 x.harg19 x.arg20 x.harg20 x.arg21 x.harg21 x.arg22 x.harg22 x.arg23 x.harg23 x.arg24 x.harg24 x.arg25 x.harg25 x.arg26 x.harg26 x.arg27 x.harg27 x.v38 x.v77 x.X13 x.X25 x.X26 k

/-- What trip `k` stores. -/
def Ctx.put (k : Fin k0_t1_loop.trips) := tripL_k0_t1 (F := Ideal) Variants.none x.c none x.i x.arg2 x.harg2 x.arg3 x.harg3 x.arg4 x.harg4 x.arg5 x.harg5 x.arg6 x.harg6 x.arg7 x.harg7 x.arg8 x.harg8 x.arg9 x.harg9 x.arg10 x.harg10 x.arg11 x.harg11 x.arg12 x.harg12 x.arg13 x.harg13 x.arg14 x.harg14 x.arg15 x.harg15 x.arg16 x.harg16 x.arg17 x.harg17 x.arg18 x.harg18 x.arg19 x.harg19 x.arg20 x.harg20 x.arg21 x.harg21 x.arg22 x.harg22 x.arg23 x.harg23 x.arg24 x.harg24 x.arg25 x.harg25 x.arg26 x.harg26 x.arg27 x.harg27 x.v38 x.v77 x.X13 x.X25 x.X26 k

/-- What the two buffers of states' gradients hold before trip `k`. -/
def Ctx.c23 (k : ℕ) := x.arg23.view.writes (Elt Ideal) x.G23 (x.st k).2.1

/-- The imaginary parts likewise. -/
def Ctx.c24 (k : ℕ) := x.arg24.view.writes (Elt Ideal) x.G24 (x.st k).2.2

theorem Ctx.st_zero : x.st 0 = (x.init, [], []) := rfl

theorem Ctx.st_succ (k : Fin k0_t1_loop.trips) :
    x.st (k.val + 1) = (x.res k (x.st k.val).1 (x.c23 k.val) (x.c24 k.val),
      (x.put k (x.st k.val).1 (x.c23 k.val) (x.c24 k.val)).1 ++ (x.st k.val).2.1,
      (x.put k (x.st k.val).1 (x.c23 k.val) (x.c24 k.val)).2 ++ (x.st k.val).2.2) :=
  st_k0_t1_succ (F := Ideal) Variants.none x.c none x.i x.arg2 x.harg2 x.arg3 x.harg3 x.arg4 x.harg4 x.arg5 x.harg5 x.arg6 x.harg6 x.arg7 x.harg7 x.arg8 x.harg8 x.arg9 x.harg9 x.arg10 x.harg10 x.arg11 x.harg11 x.arg12 x.harg12 x.arg13 x.harg13 x.arg14 x.harg14 x.arg15 x.harg15 x.arg16 x.harg16 x.arg17 x.harg17 x.arg18 x.harg18 x.arg19 x.harg19 x.arg20 x.harg20 x.arg21 x.harg21 x.arg22 x.harg22 x.arg23 x.harg23 x.arg24 x.harg24 x.arg25 x.harg25 x.arg26 x.harg26 x.arg27 x.harg27 x.v38 x.v77 x.X13 x.X25 x.X26 x.G23 x.G24 x.init k

/-- A load of eight rows. -/
abbrev load8 {sp : Space} (M : Memref sig .tc sp S2048x512 .f32) (off : Fin 2 → ℕ) (inb : ∀ a, off a + S8x512.size a ≤ S2048x512.size a)
    (f : M.view.ty.Contents (Elt Ideal)) : FVec Ideal S8x512 .f32 :=
  View.readAt (Elt Ideal) M.view (Rect.unit (s := S2048x512) off S8x512.size inb).toLoadRect f

/-- A load of one of the sixteen tables. -/
abbrev table (off : Fin 3 → ℕ) (inb : ∀ a, off a + S1x8x512.size a ≤ S16x8x512.size a) (h : S1x8x512.ShapeCasts S8x512) : FVec Ideal S8x512 .f32 :=
  shapeCast S8x512 (View.readAt (Elt Ideal) x.arg13.view (Rect.unit (s := S16x8x512) off S1x8x512.size inb).toLoadRect x.X13) h

/-- The eight tables the loop reads, as complex arrays. -/
structure Ctx.Reads (T0 T1 T2 T3 : Fin 8 → Fin 512 → ℂ) : Prop where
  t0 : Rep (table x ![8, 0, 0] inb_S16x8x512_S1x8x512_8_0_0 shapeCasts_S1x8x512_S8x512) (table x ![9, 0, 0] inb_S16x8x512_S1x8x512_9_0_0 shapeCasts_S1x8x512_S8x512) T0
  t1 : Rep (table x ![10, 0, 0] inb_S16x8x512_S1x8x512_10_0_0 shapeCasts_S1x8x512_S8x512) (table x ![11, 0, 0] inb_S16x8x512_S1x8x512_11_0_0 shapeCasts_S1x8x512_S8x512) T1
  t2 : Rep (table x ![12, 0, 0] inb_S16x8x512_S1x8x512_12_0_0 shapeCasts_S1x8x512_S8x512) (table x ![13, 0, 0] inb_S16x8x512_S1x8x512_13_0_0 shapeCasts_S1x8x512_S8x512) T2
  t3 : Rep (table x ![14, 0, 0] inb_S16x8x512_S1x8x512_14_0_0 shapeCasts_S1x8x512_S8x512) (table x ![15, 0, 0] inb_S16x8x512_S1x8x512_15_0_0 shapeCasts_S1x8x512_S8x512) T3

/-- One trip: both tiles are solved, the upper one from the carried row, the lower one from the upper one's first row, and
    the lower one's first row is carried on. -/
theorem Ctx.trip_value (k : Fin k0_t1_loop.trips) (acc : Acc) (f23 : BufTy.Contents (Elt Ideal) x.arg23.view.ty) (f24 : BufTy.Contents (Elt Ideal) x.arg24.view.ty)
    {T0 T1 T2 T3 yu yl : Fin 8 → Fin 512 → ℂ} {C : Fin 1 → Fin 512 → ℂ} (hT : x.Reads T0 T1 T2 T3)
    (hu : Rep (load8 x.arg23 (k0_off1 k) (k0_off1_inb k) f23) (load8 x.arg24 (k0_off1 k) (k0_off1_inb k) f24) yu)
    (hl : Rep (load8 x.arg23 (k0_off2 k) (k0_off2_inb k) f23) (load8 x.arg24 (k0_off2 k) (k0_off2_inb k) f24) yl)
    (hC : Rep acc.1 acc.2.1 C) :
    ∃ u23 l23 u24 l24 : FVec Ideal S8x512 .f32,
      x.put k acc f23 f24 = ([⟨Rect.unit (s := S2048x512) (k0_off1 k) S8x512.size (k0_off1_inb k), u23⟩, ⟨Rect.unit (s := S2048x512) (k0_off2 k) S8x512.size (k0_off2_inb k), l23⟩],
        [⟨Rect.unit (s := S2048x512) (k0_off1 k) S8x512.size (k0_off1_inb k), u24⟩, ⟨Rect.unit (s := S2048x512) (k0_off2 k) S8x512.size (k0_off2_inb k), l24⟩])
      ∧ Rep u23 u24 (tile T0 T1 T2 T3 yu (C 0))
      ∧ Rep l23 l24 (tile T0 T1 T2 T3 yl (tile T0 T1 T2 T3 yu (C 0) 0))
      ∧ Rep (x.res k acc f23 f24).1 (x.res k acc f23 f24).2.1 (fun _ => tile T0 T1 T2 T3 yl (tile T0 T1 T2 T3 yu (C 0) 0) 0) := by
  have r1 : ∀ r : Fin 8, (r.val + 8 - (7#32 : BitVec 32).toNat % 8) % 8 = (r + 1).val := by decide
  have r2 : ∀ r : Fin 8, (r.val + 8 - (6#32 : BitVec 32).toNat % 8) % 8 = (r + 2).val := by decide
  have r4 : ∀ r : Fin 8, (r.val + 8 - (4#32 : BitVec 32).toNat % 8) % 8 = (r + 4).val := by decide
  have R := rotates_S8x512_d0
  have B := broadcasts_S1x512_S8x512
  have E := slices_S8x512_o0_0_S1x512
  have u1 := hT.t0.mulAdd (hu.roll 7#32 1 r1 R R) hu
  have u2 := hT.t1.mulAdd (u1.roll 6#32 2 r2 R R) u1
  have u3 := hT.t2.mulAdd (u2.roll 4#32 4 r4 R R) u2
  have hU := hT.t3.mulAdd (hC.spread B B) u3
  have l1 := hT.t0.mulAdd (hl.roll 7#32 1 r1 R R) hl
  have l2 := hT.t1.mulAdd (l1.roll 6#32 2 r2 R R) l1
  have l3 := hT.t2.mulAdd (l2.roll 4#32 4 r4 R R) l2
  have hL := hT.t3.mulAdd ((hU.head E E).spread B B) l3
  unfold Ctx.put Ctx.res tripL_k0_t1 tripR_k0_t1 trip_k0_t1
  exact ⟨_, _, _, _, rfl, hU.same shapeCasts_S8x512_S8x512 shapeCasts_S8x512_S8x512, hL.same shapeCasts_S8x512_S8x512 shapeCasts_S8x512_S8x512, hL.head E E⟩

end Cert.Proof.Scan
-- ==== Proof.ScanLoop.lean ====
/- The loop of the scan's gradient solves the recurrence: what its two buffers hold after the last trip. -/
module

public import proofs.«01_k».proof.Proof.ScanTrip
public import Idealize.ShloMosaic.Lib.Writes

@[expose] public section

noncomputable section

namespace Cert.Proof.Scan

open Idealize.ShloMosaic Idealize.ShloMosaic.TcCoe Idealize.SL.Sem Cert.ScanIdeal Cert.ScanIdeal.Gen

variable (x : Ctx)

/-- What the two buffers of states' gradients read before trip `k`, as a pair. -/
abbrev Ctx.rows (k : ℕ) (z : Fin 2048 → Fin 512 → ℂ) : Prop :=
  Rep (x.arg23.view.read (Elt Ideal) (x.c23 k)) (x.arg24.view.read (Elt Ideal) (x.c24 k)) z

/-- A load of eight whole rows reads those rows. -/
theorem rep_load8 (M N : Memref sig .tc .vmem S2048x512 .f32) {off : Fin 2 → ℕ} (inb : ∀ a, off a + S8x512.size a ≤ S2048x512.size a)
    (f : M.view.ty.Contents (Elt Ideal)) (g : N.view.ty.Contents (Elt Ideal)) {z : Fin 2048 → Fin 512 → ℂ} {o : ℕ} (ho : off = ![o, 0]) (hb : o + 8 ≤ 2048)
    (h : Rep (M.view.read (Elt Ideal) f) (N.view.read (Elt Ideal) g) z) :
    Rep (load8 M off inb f) (load8 N off inb g) (fun r q => z ⟨o + r.val, by omega⟩ q) := by
  subst ho
  have key : ∀ (r : Fin 8) (q : Fin 512), (Rect.unit (s := S2048x512) ![o, 0] S8x512.size inb).toLoadRect.idx (ix2 r q) = ix2 (⟨o + r.val, by omega⟩ : Fin 2048) q :=
    fun r q => funext fun b => Fin.ext (by
      match b with
      | ⟨0, _⟩ => show o + 1 * r.val = o + r.val; omega
      | ⟨1, _⟩ => show 0 + 1 * q.val = q.val; omega)
  constructor
  · intro r q
    show M.view.read (Elt Ideal) f ((Rect.unit (s := S2048x512) ![o, 0] S8x512.size inb).toLoadRect.idx (ix2 r q)) = _
    rw [key]; exact h.re _ _
  · intro r q
    show N.view.read (Elt Ideal) g ((Rect.unit (s := S2048x512) ![o, 0] S8x512.size inb).toLoadRect.idx (ix2 r q)) = _
    rw [key]; exact h.im _ _

/-- A buffer of rows after two tiles are stored into it. -/
theorem read_two {M : Memref sig .tc .vmem S2048x512 .f32} {off off' : Fin 2 → ℕ} (inb : ∀ a, off a + S8x512.size a ≤ S2048x512.size a) (inb' : ∀ a, off' a + S8x512.size a ≤ S2048x512.size a)
    (f : M.view.ty.Contents (Elt Ideal)) (u l : FVec Ideal S8x512 .f32) (L : List (View.Piece (Elt Ideal) S2048x512 .f32)) {o : ℕ} (ho : off = ![o + 8, 0]) (ho' : off' = ![o, 0])
    (r : Fin 2048) (q : Fin 512) :
    M.view.read (Elt Ideal) (M.view.writes (Elt Ideal) f
      (([⟨Rect.unit (s := S2048x512) off S8x512.size inb, u⟩, ⟨Rect.unit (s := S2048x512) off' S8x512.size inb', l⟩] : List (View.Piece (Elt Ideal) S2048x512 .f32)) ++ L)) (ix2 r q)
      = if h : o + 8 ≤ r.val ∧ r.val < o + 16 then u (ix2 (⟨r.val - (o + 8), by omega⟩ : Fin 8) q)
        else if h : o ≤ r.val ∧ r.val < o + 8 then l (ix2 (⟨r.val - o, by omega⟩ : Fin 8) q)
        else M.view.read (Elt Ideal) (M.view.writes (Elt Ideal) f L) (ix2 r q) := by
  by_cases h1 : o + 8 ≤ r.val ∧ r.val < o + 16
  · rw [dif_pos h1]
    exact View.read_writes_cons_rows_of_mem M.view f inb u _ (ix2 r q) (ix2 (⟨r.val - (o + 8), by omega⟩ : Fin 8) q) ho (by show r.val = o + 8 + (r.val - (o + 8)); omega) rfl
  · rw [dif_neg h1]
    refine (View.read_writes_cons_rows_of_not_mem (o := o + 8) (W := 8) M.view f inb u _ (ix2 r q) ho rfl (by show r.val < o + 8 ∨ o + 8 + 8 ≤ r.val; omega)).trans ?_
    by_cases h2 : o ≤ r.val ∧ r.val < o + 8
    · rw [dif_pos h2]
      exact View.read_writes_cons_rows_of_mem M.view f inb' l _ (ix2 r q) (ix2 (⟨r.val - o, by omega⟩ : Fin 8) q) ho' (by show r.val = o + (r.val - o); omega) rfl
    · rw [dif_neg h2]
      exact View.read_writes_cons_rows_of_not_mem (o := o) (W := 8) M.view f inb' l _ (ix2 r q) ho' rfl (by show r.val < o ∨ o + 8 ≤ r.val; omega)

/-- Before trip `k` the last `16 k` rows are solved, the others hold their own terms, and the row carried is the last one solved. -/
theorem Ctx.solved {T0 T1 T2 T3 : Fin 8 → Fin 512 → ℂ} {μ : Fin 512 → ℂ} (hT : x.Reads T0 T1 T2 T3) (hμ : Tables μ T0 T1 T2 T3) (g xx : ℕ → Fin 512 → ℂ)
    (hx : Rep (x.arg23.view.read (Elt Ideal) x.G23) (x.arg24.view.read (Elt Ideal) x.G24) (fun r => xx r.val))
    (hC : Rep x.init.1 x.init.2.1 (fun _ => g 2048)) (hg : ∀ t < 2048, ∀ q, g t q = xx t q + μ q * g (t + 1) q) :
    ∀ k ≤ 128, Rep (x.st k).1.1 (x.st k).1.2.1 (fun _ => g (2048 - 16 * k)) ∧ x.rows k (fun r q => if 2048 - 16 * k ≤ r.val then g r.val q else xx r.val q) := by
  intro k
  induction k with
  | zero =>
    refine fun _ => ⟨hC, ?_⟩
    have e : (fun (r : Fin 2048) (q : Fin 512) => if 2048 - 16 * 0 ≤ r.val then g r.val q else xx r.val q) = fun r => xx r.val :=
      funext fun r => funext fun q => if_neg (by omega)
    show Rep _ _ _
    rw [e]; exact hx
  | succ k ih =>
    intro hk
    obtain ⟨ih1, ih2⟩ := ih (by omega)
    let kk : Fin k0_t1_loop.trips := ⟨k, by show k < 128; omega⟩
    have hs : x.st (k + 1) = _ := x.st_succ kk
    have o1 : k0_off1 kk = ![2032 - 16 * k + 8, 0] := (k0_off1_eq kk).trans (by show ![2040 - 16 * k, 0] = _; congr 1; omega)
    have o2 : k0_off2 kk = ![2032 - 16 * k, 0] := k0_off2_eq kk
    obtain ⟨u23, l23, u24, l24, hput, hu, hl, hc⟩ := x.trip_value kk (x.st k).1 (x.c23 k) (x.c24 k) hT
      (rep_load8 x.arg23 x.arg24 (k0_off1_inb kk) _ _ o1 (by omega) ih2) (rep_load8 x.arg23 x.arg24 (k0_off2_inb kk) _ _ o2 (by omega) ih2) ih1
    have U : ∀ r q, tile T0 T1 T2 T3 (fun r q => if 2048 - 16 * k ≤ 2032 - 16 * k + 8 + r.val then g (2032 - 16 * k + 8 + r.val) q else xx (2032 - 16 * k + 8 + r.val) q) (g (2048 - 16 * k)) r q
        = g (2032 - 16 * k + 8 + r.val) q := fun r q =>
      tile_eq hμ _ _ (fun j => g (2032 - 16 * k + 8 + j)) (by show g (2032 - 16 * k + 8 + 8) = _; congr 1; omega)
        (fun r q => (hg _ (by omega) q).trans (by rw [if_neg (by omega)]; rfl)) r q
    have Lo : ∀ r q, tile T0 T1 T2 T3 (fun r q => if 2048 - 16 * k ≤ 2032 - 16 * k + r.val then g (2032 - 16 * k + r.val) q else xx (2032 - 16 * k + r.val) q)
        (tile T0 T1 T2 T3 (fun r q => if 2048 - 16 * k ≤ 2032 - 16 * k + 8 + r.val then g (2032 - 16 * k + 8 + r.val) q else xx (2032 - 16 * k + 8 + r.val) q) (g (2048 - 16 * k)) 0) r q
        = g (2032 - 16 * k + r.val) q := fun r q =>
      tile_eq hμ _ _ (fun j => g (2032 - 16 * k + j)) (funext fun q => (U 0 q).symm)
        (fun r q => (hg _ (by omega) q).trans (by rw [if_neg (by omega)]; rfl)) r q
    have hst : (x.st (k + 1)).1 = x.res kk (x.st k).1 (x.c23 k) (x.c24 k) := congrArg Prod.fst hs
    have h23 : (x.st (k + 1)).2.1 = (x.put kk (x.st k).1 (x.c23 k) (x.c24 k)).1 ++ (x.st k).2.1 := congrArg (fun p => p.2.1) hs
    have h24 : (x.st (k + 1)).2.2 = (x.put kk (x.st k).1 (x.c23 k) (x.c24 k)).2 ++ (x.st k).2.2 := congrArg (fun p => p.2.2) hs
    rw [hput] at h23 h24
    constructor
    · rw [hst]
      refine ⟨fun r q => (hc.re r q).trans ?_, fun r q => (hc.im r q).trans ?_⟩
      · rw [Lo 0 q]; show ((g (2032 - 16 * k + 0) q).re : EReal) = _; congr 3; omega
      · rw [Lo 0 q]; show ((g (2032 - 16 * k + 0) q).im : EReal) = _; congr 3; omega
    · constructor
      · intro r q
        show x.arg23.view.read (Elt Ideal) (x.arg23.view.writes (Elt Ideal) x.G23 (x.st (k + 1)).2.1) (ix2 r q) = _
        rw [h23]
        refine (read_two (M := x.arg23) (k0_off1_inb kk) (k0_off2_inb kk) x.G23 u23 l23 (x.st k).2.1 o1 o2 r q).trans ?_
        split
        · next h => rw [if_pos (by omega), hu.re, U]; show ((g (2032 - 16 * k + 8 + (r.val - (2032 - 16 * k + 8))) q).re : EReal) = _; congr 3; omega
        · next h =>
          split
          · next h' => rw [if_pos (by omega), hl.re, Lo]; show ((g (2032 - 16 * k + (r.val - (2032 - 16 * k))) q).re : EReal) = _; congr 3; omega
          · next h' =>
            refine (ih2.re r q).trans ?_
            by_cases hr : 2048 - 16 * k ≤ r.val
            · rw [if_pos hr, if_pos (by omega)]
            · rw [if_neg hr, if_neg (by omega)]
      · intro r q
        show x.arg24.view.read (Elt Ideal) (x.arg24.view.writes (Elt Ideal) x.G24 (x.st (k + 1)).2.2) (ix2 r q) = _
        rw [h24]
        refine (read_two (M := x.arg24) (k0_off1_inb kk) (k0_off2_inb kk) x.G24 u24 l24 (x.st k).2.2 o1 o2 r q).trans ?_
        split
        · next h => rw [if_pos (by omega), hu.im, U]; show ((g (2032 - 16 * k + 8 + (r.val - (2032 - 16 * k + 8))) q).im : EReal) = _; congr 3; omega
        · next h =>
          split
          · next h' => rw [if_pos (by omega), hl.im, Lo]; show ((g (2032 - 16 * k + (r.val - (2032 - 16 * k))) q).im : EReal) = _; congr 3; omega
          · next h' =>
            refine (ih2.im r q).trans ?_
            by_cases hr : 2048 - 16 * k ≤ r.val
            · rw [if_pos hr, if_pos (by omega)]
            · rw [if_neg hr, if_neg (by omega)]

end Cert.Proof.Scan
-- ==== Proof.ScanWordsLate.lean ====
/-
The words of the body at a point of the later half, over its blocks.
-/
module

public import proofs.«01_k».proof.Proof.ScanRunLate
public import proofs.«01_k».proof.Proof.ScanPoint
public import proofs.«01_k».proof.Proof.ScanLoads
public import proofs.«01_k».proof.Proof.ScanLoop

@[expose] public section

set_option maxRecDepth 16384

noncomputable section

namespace Cert.Proof.ScanLate

open Idealize.ShloMosaic Idealize.ShloMosaic.TcCoe Cert.ScanIdeal Cert.ScanIdeal.Gen Cert.Proof.Scan

variable (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S8x512 .f32) (harg8 : arg8.IsWhole) (arg9 : Memref sig .tc .vmem S8x512 .f32) (harg9 : arg9.IsWhole) (arg10 : Memref sig .tc .vmem S1x1024x128 .bf16) (harg10 : arg10.IsWhole) (arg11 : Memref sig .tc .vmem S1x384x512 .bf16) (harg11 : arg11.IsWhole) (arg12 : Memref sig .tc .vmem S1x384x512 .bf16) (harg12 : arg12.IsWhole) (arg13 : Memref sig .tc .vmem S16x8x512 .f32) (harg13 : arg13.IsWhole) (arg14 : Memref sig .tc .vmem S1x128 .f32) (harg14 : arg14.IsWhole) (arg15 : Memref sig .tc .vmem S2048x128 .bf16) (harg15 : arg15.IsWhole) (arg16 : Memref sig .tc .vmem S1x128 .f32) (harg16 : arg16.IsWhole) (arg17 : Memref sig .tc .vmem S1x128x512 .f32) (harg17 : arg17.IsWhole) (arg18 : Memref sig .tc .vmem S1x128x512 .f32) (harg18 : arg18.IsWhole) (arg19 : Memref sig .tc .vmem S1x128x512 .f32) (harg19 : arg19.IsWhole) (arg20 : Memref sig .tc .vmem S1x128x512 .f32) (harg20 : arg20.IsWhole) (arg21 : Memref sig .tc .vmem S8x512 .f32) (harg21 : arg21.IsWhole) (arg22 : Memref sig .tc .vmem S8x512 .f32) (harg22 : arg22.IsWhole) (arg23 : Memref sig .tc .vmem S2048x512 .f32) (harg23 : arg23.IsWhole) (arg24 : Memref sig .tc .vmem S2048x512 .f32) (harg24 : arg24.IsWhole) (arg25 : Memref sig .tc .vmem S2056x512 .f32) (harg25 : arg25.IsWhole) (arg26 : Memref sig .tc .vmem S2056x512 .f32) (harg26 : arg26.IsWhole) (arg27 : Memref sig .tc .vmem S8x512 .f32) (harg27 : arg27.IsWhole)
  (x0 : Vec Ideal S2048x128 .bf16) (x1 : Vec Ideal S2048x128 .bf16) (x2 : Vec Ideal S2048x128 .f32) (x3 : Vec Ideal S2048x128 .f32) (x4 : Vec Ideal S2048x512 .f32) (x5 : Vec Ideal S2048x512 .f32) (x6 : Vec Ideal S8x512 .f32) (x7 : Vec Ideal S8x512 .f32) (x8 : Vec Ideal S1x1024x128 .bf16) (x9 : Vec Ideal S1x384x512 .bf16) (x10 : Vec Ideal S1x384x512 .bf16) (x11 : Vec Ideal S16x8x512 .f32) (x12 : Vec Ideal S1x128 .f32)

/-- The loop at such a point. -/
def ctx : Ctx :=
  { c := c, i := i, arg2 := arg2, harg2 := harg2, arg3 := arg3, harg3 := harg3, arg4 := arg4, harg4 := harg4, arg5 := arg5, harg5 := harg5, arg6 := arg6, harg6 := harg6, arg7 := arg7, harg7 := harg7, arg8 := arg8, harg8 := harg8, arg9 := arg9, harg9 := harg9, arg10 := arg10, harg10 := harg10, arg11 := arg11, harg11 := harg11, arg12 := arg12, harg12 := harg12, arg13 := arg13, harg13 := harg13, arg14 := arg14, harg14 := harg14, arg15 := arg15, harg15 := harg15, arg16 := arg16, harg16 := harg16, arg17 := arg17, harg17 := harg17, arg18 := arg18, harg18 := harg18, arg19 := arg19, harg19 := harg19, arg20 := arg20, harg20 := harg20, arg21 := arg21, harg21 := harg21, arg22 := arg22, harg22 := harg22, arg23 := arg23, harg23 := harg23, arg24 := arg24, harg24 := harg24, arg25 := arg25, harg25 := harg25, arg26 := arg26, harg26 := harg26, arg27 := arg27, harg27 := harg27,
    v38 := noUse (F := Ideal), v77 := runLate.sl.v77, X13 := harg13.unread x11,
    X25 := arg25.view.writes (Elt Ideal) arg25.view.junk (runLate.sl.HS2_2 (F := Ideal) c i arg6 harg6 arg8 harg8 x4 x6),
    X26 := arg26.view.writes (Elt Ideal) arg26.view.junk (runLate.sl.HS3_2 (F := Ideal) c i arg7 harg7 arg9 harg9 x5 x7),
    G23 := arg23.view.writes (Elt Ideal) arg23.view.junk (runLate.sl.HS0_1 (F := Ideal) c arg2 harg2 arg3 harg3 arg4 harg4 arg11 harg11 x0 x1 x2 x9),
    G24 := arg24.view.writes (Elt Ideal) arg24.view.junk (runLate.sl.HS1_1 (F := Ideal) c arg2 harg2 arg3 harg3 arg4 harg4 arg12 harg12 x0 x1 x2 x10),
    init := (runLate.sl.v79 c arg27, runLate.sl.v80 c arg27, runLate.sl.v78, runLate.sl.v78) }

/-- The cotangent of the state's output. -/
theorem dy_word : runLate.sl.v38 (F := Ideal) c arg2 harg2 arg3 harg3 arg4 harg4 x0 x1 x2 = dyB x0 x1 x2 := by
  unfold runLate.sl.v38 runLate.sl.r_1 runLate.sl.v37 runLate.sl.r_2 runLate.sl.r_3
  rw [load_back harg2 x0 _ (by decide), load_back harg3 x1 _ (by decide), load_back harg4 x2 _ (by decide)]

/-- The real parts of the drive. -/
theorem drive_re_word : runLate.sl.v46 (F := Ideal) c arg2 harg2 arg3 harg3 arg4 harg4 arg11 harg11 x0 x1 x2 x9 = driveB (dyB x0 x1 x2) x9 := by
  unfold runLate.sl.v46 runLate.sl.v43 runLate.sl.v45 runLate.sl.v42 runLate.sl.v41 runLate.sl.v40 runLate.sl.v39
  rw [dy_word, load_back harg11 x9 _ (by decide)]
  rfl

/-- The imaginary parts. -/
theorem drive_im_word : runLate.sl.v52 (F := Ideal) c arg2 harg2 arg3 harg3 arg4 harg4 arg12 harg12 x0 x1 x2 x10 = driveB (dyB x0 x1 x2) x10 := by
  unfold runLate.sl.v52 runLate.sl.v43 runLate.sl.v51 runLate.sl.v42 runLate.sl.v41 runLate.sl.v40 runLate.sl.v39
  rw [dy_word, load_back harg12 x10 _ (by decide)]
  rfl

/-- The loop starts from the drive's real parts. -/
theorem start_re : arg23.view.read (Elt Ideal) (ctx c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x4 x5 x6 x7 x9 x10 x11).G23 = driveB (dyB x0 x1 x2) x9 := by
  unfold ctx
  dsimp only
  unfold runLate.sl.HS0_1
  rw [store_whole arg23 _ _ (by decide)]
  unfold runLate.sl.v49
  rw [drive_re_word, shapeCast_self]

/-- And the imaginary ones. -/
theorem start_im : arg24.view.read (Elt Ideal) (ctx c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x4 x5 x6 x7 x9 x10 x11).G24 = driveB (dyB x0 x1 x2) x10 := by
  unfold ctx
  dsimp only
  unfold runLate.sl.HS1_1
  rw [store_whole arg24 _ _ (by decide)]
  unfold runLate.sl.v55
  rw [drive_im_word, shapeCast_self]

/-- The block of the first result. -/
theorem out_word : runLate.sl.v101 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x4 x5 x6 x7 x8 x9 x10 x11 x12
    = outB (dyB x0 x1 x2) x12 (arg23.view.read (Elt Ideal) ((ctx c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x4 x5 x6 x7 x9 x10 x11).c23 128)) (arg24.view.read (Elt Ideal) ((ctx c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x4 x5 x6 x7 x9 x10 x11).c24 128)) x8 := by
  have h89 : runLate.sl.v89 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x4 x5 x6 x7 x9 x10 x11 = arg23.view.read (Elt Ideal) ((ctx c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x4 x5 x6 x7 x9 x10 x11).c23 128) := by
    unfold runLate.sl.v89 Ctx.c23 Ctx.st ctx View.readCov
    dsimp only
    rw [trips_eq, load_whole arg23 _ _ (by decide), View.writes_append]
  have h91 : runLate.sl.v91 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x4 x5 x6 x7 x9 x10 x11 = arg24.view.read (Elt Ideal) ((ctx c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x4 x5 x6 x7 x9 x10 x11).c24 128) := by
    unfold runLate.sl.v91 Ctx.c24 Ctx.st ctx View.readCov
    dsimp only
    rw [trips_eq, load_whole arg24 _ _ (by decide), View.writes_append]
  unfold runLate.sl.v101 runLate.sl.v100 runLate.sl.v96 runLate.sl.v99 runLate.sl.v95 runLate.sl.v93 runLate.sl.v98 runLate.sl.v90 runLate.sl.v92
  rw [dy_word, h89, h91, load_back harg10 x8 _ (by decide), load_back harg14 x12 _ (by decide)]
  unfold runLate.sl.cst_65
  rfl

/-- The block's share of the second result. -/
theorem sum_word : runLate.sl.v107 (F := Ideal) c arg2 harg2 arg3 harg3 arg4 harg4 arg5 harg5 x0 x1 x2 x3 = sumB (dyB x0 x1 x2) x3 := by
  unfold runLate.sl.v107 runLate.sl.v106 runLate.sl.v105 runLate.sl.r
  rw [dy_word, load_back harg5 x3 _ (by decide)]

/-- The row carried out, real parts. -/
theorem row_re_word : runLate.sl.v85 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x4 x5 x6 x7 x9 x10 x11 = ((ctx c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x4 x5 x6 x7 x9 x10 x11).st 128).1.1 := by
  unfold runLate.sl.v85 Ctx.st ctx
  dsimp only
  rw [trips_eq, shapeCast_self]

/-- Imaginary parts. -/
theorem row_im_word : runLate.sl.v88 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x4 x5 x6 x7 x9 x10 x11 = ((ctx c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x4 x5 x6 x7 x9 x10 x11).st 128).1.2.1 := by
  unfold runLate.sl.v88 Ctx.st ctx
  dsimp only
  rw [trips_eq, shapeCast_self]

end Cert.Proof.ScanLate

end
-- ==== Proof.ScanWordsEarly.lean ====
/-
The words of the body at a point of the earlier half, over its blocks.
-/
module

public import proofs.«01_k».proof.Proof.ScanRunEarly
public import proofs.«01_k».proof.Proof.ScanPoint
public import proofs.«01_k».proof.Proof.ScanLoads
public import proofs.«01_k».proof.Proof.ScanLoop

@[expose] public section

set_option maxRecDepth 16384

noncomputable section

namespace Cert.Proof.ScanEarly

open Idealize.ShloMosaic Idealize.ShloMosaic.TcCoe Cert.ScanIdeal Cert.ScanIdeal.Gen Cert.Proof.Scan

variable (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S8x512 .f32) (harg8 : arg8.IsWhole) (arg9 : Memref sig .tc .vmem S8x512 .f32) (harg9 : arg9.IsWhole) (arg10 : Memref sig .tc .vmem S1x1024x128 .bf16) (harg10 : arg10.IsWhole) (arg11 : Memref sig .tc .vmem S1x384x512 .bf16) (harg11 : arg11.IsWhole) (arg12 : Memref sig .tc .vmem S1x384x512 .bf16) (harg12 : arg12.IsWhole) (arg13 : Memref sig .tc .vmem S16x8x512 .f32) (harg13 : arg13.IsWhole) (arg14 : Memref sig .tc .vmem S1x128 .f32) (harg14 : arg14.IsWhole) (arg15 : Memref sig .tc .vmem S2048x128 .bf16) (harg15 : arg15.IsWhole) (arg16 : Memref sig .tc .vmem S1x128 .f32) (harg16 : arg16.IsWhole) (arg17 : Memref sig .tc .vmem S1x128x512 .f32) (harg17 : arg17.IsWhole) (arg18 : Memref sig .tc .vmem S1x128x512 .f32) (harg18 : arg18.IsWhole) (arg19 : Memref sig .tc .vmem S1x128x512 .f32) (harg19 : arg19.IsWhole) (arg20 : Memref sig .tc .vmem S1x128x512 .f32) (harg20 : arg20.IsWhole) (arg21 : Memref sig .tc .vmem S8x512 .f32) (harg21 : arg21.IsWhole) (arg22 : Memref sig .tc .vmem S8x512 .f32) (harg22 : arg22.IsWhole) (arg23 : Memref sig .tc .vmem S2048x512 .f32) (harg23 : arg23.IsWhole) (arg24 : Memref sig .tc .vmem S2048x512 .f32) (harg24 : arg24.IsWhole) (arg25 : Memref sig .tc .vmem S2056x512 .f32) (harg25 : arg25.IsWhole) (arg26 : Memref sig .tc .vmem S2056x512 .f32) (harg26 : arg26.IsWhole) (arg27 : Memref sig .tc .vmem S8x512 .f32) (harg27 : arg27.IsWhole)
  (x0 : Vec Ideal S2048x128 .bf16) (x1 : Vec Ideal S2048x128 .bf16) (x2 : Vec Ideal S2048x128 .f32) (x3 : Vec Ideal S2048x128 .f32) (x4 : Vec Ideal S2048x512 .f32) (x5 : Vec Ideal S2048x512 .f32) (x6 : Vec Ideal S8x512 .f32) (x7 : Vec Ideal S8x512 .f32) (x8 : Vec Ideal S1x1024x128 .bf16) (x9 : Vec Ideal S1x384x512 .bf16) (x10 : Vec Ideal S1x384x512 .bf16) (x11 : Vec Ideal S16x8x512 .f32) (x12 : Vec Ideal S1x128 .f32) (xs4 : Vec Ideal S8x512 .f32) (xo14 : Vec Ideal S1x128 .f32)

/-- The loop at such a point. -/
def ctx : Ctx :=
  { c := c, i := i, arg2 := arg2, harg2 := harg2, arg3 := arg3, harg3 := harg3, arg4 := arg4, harg4 := harg4, arg5 := arg5, harg5 := harg5, arg6 := arg6, harg6 := harg6, arg7 := arg7, harg7 := harg7, arg8 := arg8, harg8 := harg8, arg9 := arg9, harg9 := harg9, arg10 := arg10, harg10 := harg10, arg11 := arg11, harg11 := harg11, arg12 := arg12, harg12 := harg12, arg13 := arg13, harg13 := harg13, arg14 := arg14, harg14 := harg14, arg15 := arg15, harg15 := harg15, arg16 := arg16, harg16 := harg16, arg17 := arg17, harg17 := harg17, arg18 := arg18, harg18 := harg18, arg19 := arg19, harg19 := harg19, arg20 := arg20, harg20 := harg20, arg21 := arg21, harg21 := harg21, arg22 := arg22, harg22 := harg22, arg23 := arg23, harg23 := harg23, arg24 := arg24, harg24 := harg24, arg25 := arg25, harg25 := harg25, arg26 := arg26, harg26 := harg26, arg27 := arg27, harg27 := harg27,
    v38 := noUse (F := Ideal), v77 := runEarly.sl.v77, X13 := harg13.unread x11,
    X25 := arg25.view.writes (Elt Ideal) arg25.view.junk (runEarly.sl.HS2_2 (F := Ideal) c i arg6 harg6 arg8 harg8 x4 x6),
    X26 := arg26.view.writes (Elt Ideal) arg26.view.junk (runEarly.sl.HS3_2 (F := Ideal) c i arg7 harg7 arg9 harg9 x5 x7),
    G23 := arg23.view.writes (Elt Ideal) arg23.view.junk (runEarly.sl.HS0_1 (F := Ideal) c arg2 harg2 arg3 harg3 arg4 harg4 arg11 harg11 x0 x1 x2 x9),
    G24 := arg24.view.writes (Elt Ideal) arg24.view.junk (runEarly.sl.HS1_1 (F := Ideal) c arg2 harg2 arg3 harg3 arg4 harg4 arg12 harg12 x0 x1 x2 x10),
    init := (View.readAt (Elt Ideal) arg27.view (Rect.unit (s := S8x512) ![0, 0] S1x512.size inb_S8x512_S1x512_0_0).toLoadRect (harg27.unread xs4),
      View.readAt (Elt Ideal) arg27.view (Rect.unit (s := S8x512) ![1, 0] S1x512.size inb_S8x512_S1x512_1_0).toLoadRect (harg27.unread xs4), runEarly.sl.v78, runEarly.sl.v78) }

/-- The cotangent of the state's output. -/
theorem dy_word : runEarly.sl.v38 (F := Ideal) c arg2 harg2 arg3 harg3 arg4 harg4 x0 x1 x2 = dyB x0 x1 x2 := by
  unfold runEarly.sl.v38 runEarly.sl.r_1 runEarly.sl.v37 runEarly.sl.r_2 runEarly.sl.r_3
  rw [load_back harg2 x0 _ (by decide), load_back harg3 x1 _ (by decide), load_back harg4 x2 _ (by decide)]

/-- The real parts of the drive. -/
theorem drive_re_word : runEarly.sl.v46 (F := Ideal) c arg2 harg2 arg3 harg3 arg4 harg4 arg11 harg11 x0 x1 x2 x9 = driveB (dyB x0 x1 x2) x9 := by
  unfold runEarly.sl.v46 runEarly.sl.v43 runEarly.sl.v45 runEarly.sl.v42 runEarly.sl.v41 runEarly.sl.v40 runEarly.sl.v39
  rw [dy_word, load_back harg11 x9 _ (by decide)]
  rfl

/-- The imaginary parts. -/
theorem drive_im_word : runEarly.sl.v52 (F := Ideal) c arg2 harg2 arg3 harg3 arg4 harg4 arg12 harg12 x0 x1 x2 x10 = driveB (dyB x0 x1 x2) x10 := by
  unfold runEarly.sl.v52 runEarly.sl.v43 runEarly.sl.v51 runEarly.sl.v42 runEarly.sl.v41 runEarly.sl.v40 runEarly.sl.v39
  rw [dy_word, load_back harg12 x10 _ (by decide)]
  rfl

/-- The loop starts from the drive's real parts. -/
theorem start_re : arg23.view.read (Elt Ideal) (ctx c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x4 x5 x6 x7 x9 x10 x11 xs4).G23 = driveB (dyB x0 x1 x2) x9 := by
  unfold ctx
  dsimp only
  unfold runEarly.sl.HS0_1
  rw [store_whole arg23 _ _ (by decide)]
  unfold runEarly.sl.v49
  rw [drive_re_word, shapeCast_self]

/-- And the imaginary ones. -/
theorem start_im : arg24.view.read (Elt Ideal) (ctx c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x4 x5 x6 x7 x9 x10 x11 xs4).G24 = driveB (dyB x0 x1 x2) x10 := by
  unfold ctx
  dsimp only
  unfold runEarly.sl.HS1_1
  rw [store_whole arg24 _ _ (by decide)]
  unfold runEarly.sl.v55
  rw [drive_im_word, shapeCast_self]

/-- The block of the first result. -/
theorem out_word : runEarly.sl.v101 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x4 x5 x6 x7 x8 x9 x10 x11 x12 xs4
    = outB (dyB x0 x1 x2) x12 (arg23.view.read (Elt Ideal) ((ctx c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x4 x5 x6 x7 x9 x10 x11 xs4).c23 128)) (arg24.view.read (Elt Ideal) ((ctx c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x4 x5 x6 x7 x9 x10 x11 xs4).c24 128)) x8 := by
  have h89 : runEarly.sl.v89 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x4 x5 x6 x7 x9 x10 x11 xs4 = arg23.view.read (Elt Ideal) ((ctx c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x4 x5 x6 x7 x9 x10 x11 xs4).c23 128) := by
    unfold runEarly.sl.v89 Ctx.c23 Ctx.st ctx View.readCov
    dsimp only
    rw [trips_eq, load_whole arg23 _ _ (by decide), View.writes_append]
  have h91 : runEarly.sl.v91 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x4 x5 x6 x7 x9 x10 x11 xs4 = arg24.view.read (Elt Ideal) ((ctx c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x4 x5 x6 x7 x9 x10 x11 xs4).c24 128) := by
    unfold runEarly.sl.v91 Ctx.c24 Ctx.st ctx View.readCov
    dsimp only
    rw [trips_eq, load_whole arg24 _ _ (by decide), View.writes_append]
  unfold runEarly.sl.v101 runEarly.sl.v100 runEarly.sl.v96 runEarly.sl.v99 runEarly.sl.v95 runEarly.sl.v93 runEarly.sl.v98 runEarly.sl.v90 runEarly.sl.v92
  rw [dy_word, h89, h91, load_back harg10 x8 _ (by decide), load_back harg14 x12 _ (by decide)]
  unfold runEarly.sl.cst_65
  rfl

/-- The block's share of the second result. -/
theorem sum_word : runEarly.sl.v107 (F := Ideal) c arg2 harg2 arg3 harg3 arg4 harg4 arg5 harg5 x0 x1 x2 x3 = sumB (dyB x0 x1 x2) x3 := by
  unfold runEarly.sl.v107 runEarly.sl.v106 runEarly.sl.v105 runEarly.sl.r
  rw [dy_word, load_back harg5 x3 _ (by decide)]

/-- With what the later half left. -/
theorem total_word : runEarly.sl.v162 (F := Ideal) c arg2 harg2 arg3 harg3 arg4 harg4 arg5 harg5 arg16 harg16 x0 x1 x2 x3 xo14 = addf xo14 (sumB (dyB x0 x1 x2) x3) := by
  unfold runEarly.sl.v162 runEarly.sl.v161
  rw [sum_word, load_back harg16 xo14 _ (by decide), shapeCast_self]

end Cert.Proof.ScanEarly

end
-- ==== Proof.ScanHeld.lean ====
/-
What a point leaves, in words: the block of the first result, the running sum of the second, and the carried row.
-/
module

public import proofs.«01_k».proof.Proof.ScanWordsLate
public import proofs.«01_k».proof.Proof.ScanWordsEarly
public import proofs.«01_k».proof.Proof.ScanFrame

@[expose] public section

set_option maxRecDepth 16384

noncomputable section

namespace Cert.Proof.Scan

open Idealize.ShloMosaic Idealize.ShloMosaic.TcCoe Cert.ScanIdeal Cert.ScanIdeal.Gen

variable (m : (ℓ : Loc nD τ sig) → Buf (Elt Ideal) ℓ) (c : Dev nD) (t : Fin cfg0.N)

/-- The cotangent's block at a point. -/
abbrev dyT : FVec Ideal S2048x128 .f32 := dyB (iblk m c 0 t) (iblk m c 1 t) (iblk m c 2 t)

/-- The loop at a point of the later half. -/
def ctxL : Ctx := ScanLate.ctx c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf12 t) (whole12 t) (buf13 t) (whole13 t) (buf14 t) (whole14 t) (buf15 t) (whole15 t) (buf16 t) (whole16 t) (buf17 t) (whole17 t) (buf18 t) (whole18 t) (buf19 t) (whole19 t) (buf20 t) (whole20 t) scr0 (Memref.isWhole_whole _) scr1 (Memref.isWhole_whole _) scr2 (Memref.isWhole_whole _) scr3 (Memref.isWhole_whole _) scr4 (Memref.isWhole_whole _) (iblk m c 0 t) (iblk m c 1 t) (iblk m c 2 t) (iblk m c 4 t) (iblk m c 5 t) (iblk m c 6 t) (iblk m c 7 t) (iblk m c 9 t) (iblk m c 10 t) (iblk m c 11 t)

/-- The loop at a point of the earlier half, over the carried scratch. -/
def ctxE (xs : Vec Ideal S8x512 .f32) : Ctx := ScanEarly.ctx c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf12 t) (whole12 t) (buf13 t) (whole13 t) (buf14 t) (whole14 t) (buf15 t) (whole15 t) (buf16 t) (whole16 t) (buf17 t) (whole17 t) (buf18 t) (whole18 t) (buf19 t) (whole19 t) (buf20 t) (whole20 t) scr0 (Memref.isWhole_whole _) scr1 (Memref.isWhole_whole _) scr2 (Memref.isWhole_whole _) scr3 (Memref.isWhole_whole _) scr4 (Memref.isWhole_whole _) (iblk m c 0 t) (iblk m c 1 t) (iblk m c 2 t) (iblk m c 4 t) (iblk m c 5 t) (iblk m c 6 t) (iblk m c 7 t) (iblk m c 9 t) (iblk m c 10 t) (iblk m c 11 t) xs

/-- The later half's loop starts from the drive. -/
theorem ctxL_start : scr0.view.read (Elt Ideal) (ctxL m c t).G23 = driveB (dyT m c t) (iblk m c 9 t)
    ∧ scr1.view.read (Elt Ideal) (ctxL m c t).G24 = driveB (dyT m c t) (iblk m c 10 t) :=
  ⟨ScanLate.start_re .., ScanLate.start_im ..⟩

/-- So does the earlier half's. -/
theorem ctxE_start (xs : Vec Ideal S8x512 .f32) : scr0.view.read (Elt Ideal) (ctxE m c t xs).G23 = driveB (dyT m c t) (iblk m c 9 t)
    ∧ scr1.view.read (Elt Ideal) (ctxE m c t xs).G24 = driveB (dyT m c t) (iblk m c 10 t) :=
  ⟨ScanEarly.start_re .., ScanEarly.start_im ..⟩

/-- The first result's block, later half. -/
theorem late_out (h : t.val % 2 = 0) : (heldLate m c t h).1
    = outB (dyT m c t) (iblk m c 12 t) (scr0.view.read (Elt Ideal) ((ctxL m c t).c23 128)) (scr1.view.read (Elt Ideal) ((ctxL m c t).c24 128)) (iblk m c 8 t) := by
  unfold heldLate
  dsimp only
  have e : (late m c t h).1 = [⟨Rect.unit (s := S2048x128) ![0, 0] S2048x128.size inb_S2048x128_S2048x128_0_0, (runLate.sl.v101 (F := Ideal) c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf12 t) (whole12 t) (buf13 t) (whole13 t) (buf14 t) (whole14 t) (buf15 t) (whole15 t) (buf16 t) (whole16 t) (buf17 t) (whole17 t) (buf18 t) (whole18 t) (buf19 t) (whole19 t) (buf20 t) (whole20 t) scr0 (Memref.isWhole_whole _) scr1 (Memref.isWhole_whole _) scr2 (Memref.isWhole_whole _) scr3 (Memref.isWhole_whole _) scr4 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) (iblk m c 11 t) (iblk m c 12 t))⟩] := rfl
  rw [e]
  refine (store_whole (Memref.whole cc0_stg13_0 : Memref sig .tc .vmem S2048x128 .bf16) _ _ (by decide)).trans ?_
  exact ScanLate.out_word ..

/-- Earlier half. -/
theorem early_out (h : ¬t.val % 2 = 0) (x : Held Ideal) : (heldEarly m c t h x).1
    = outB (dyT m c t) (iblk m c 12 t) (scr0.view.read (Elt Ideal) ((ctxE m c t x.2.2.2.2.2.2.2.2).c23 128)) (scr1.view.read (Elt Ideal) ((ctxE m c t x.2.2.2.2.2.2.2.2).c24 128)) (iblk m c 8 t) := by
  unfold heldEarly
  dsimp only
  have e : (early m c t h x).1 = [⟨Rect.unit (s := S2048x128) ![0, 0] S2048x128.size inb_S2048x128_S2048x128_0_0, (runEarly.sl.v101 (F := Ideal) c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf12 t) (whole12 t) (buf13 t) (whole13 t) (buf14 t) (whole14 t) (buf15 t) (whole15 t) (buf16 t) (whole16 t) (buf17 t) (whole17 t) (buf18 t) (whole18 t) (buf19 t) (whole19 t) (buf20 t) (whole20 t) scr0 (Memref.isWhole_whole _) scr1 (Memref.isWhole_whole _) scr2 (Memref.isWhole_whole _) scr3 (Memref.isWhole_whole _) scr4 (Memref.isWhole_whole _) (iblk m c 0 t) (iblk m c 1 t) (iblk m c 2 t) (iblk m c 4 t) (iblk m c 5 t) (iblk m c 6 t) (iblk m c 7 t) (iblk m c 8 t) (iblk m c 9 t) (iblk m c 10 t) (iblk m c 11 t) (iblk m c 12 t) x.2.2.2.2.2.2.2.2)⟩] := rfl
  rw [e]
  refine (store_whole (Memref.whole cc0_stg13_0 : Memref sig .tc .vmem S2048x128 .bf16) _ _ (by decide)).trans ?_
  exact ScanEarly.out_word ..

/-- The second result's block, later half. -/
theorem late_sum (h : t.val % 2 = 0) : (heldLate m c t h).2.1 = sumB (dyT m c t) (iblk m c 3 t) := by
  unfold heldLate
  dsimp only
  have e : (late m c t h).2.1 = [⟨Rect.unit (s := S1x128) ![0, 0] S1x128.size inb_S1x128_S1x128_0_0, runLate.sl.v107 (F := Ideal) c (buf0 t) (whole0 t) (buf1 t) (whole1 t) (buf2 t) (whole2 t) (buf3 t) (whole3 t) (iblk m c 0 t) (iblk m c 1 t) (iblk m c 2 t) (iblk m c 3 t)⟩] := rfl
  rw [e]
  refine (store_whole (Memref.whole cc0_stg14_0 : Memref sig .tc .vmem S1x128 .f32) _ _ (by decide)).trans ?_
  exact ScanLate.sum_word ..

/-- Earlier half. -/
theorem early_sum (h : ¬t.val % 2 = 0) (x : Held Ideal) : (heldEarly m c t h x).2.1 = addf x.2.1 (sumB (dyT m c t) (iblk m c 3 t)) := by
  unfold heldEarly
  dsimp only
  have e : (early m c t h x).2.1 = [⟨Rect.unit (s := S1x128) ![0, 0] S1x128.size inb_S1x128_S1x128_0_0, runEarly.sl.v162 (F := Ideal) c (buf0 t) (whole0 t) (buf1 t) (whole1 t) (buf2 t) (whole2 t) (buf3 t) (whole3 t) (buf14 t) (whole14 t) (iblk m c 0 t) (iblk m c 1 t) (iblk m c 2 t) (iblk m c 3 t) x.2.1⟩] := rfl
  rw [e]
  refine (store_whole (Memref.whole cc0_stg14_0 : Memref sig .tc .vmem S1x128 .f32) _ _ (by decide)).trans ?_
  exact ScanEarly.total_word ..

/-- The carried scratch after a point of the later half: row zero. -/
theorem late_row0 (h : t.val % 2 = 0) (q : Fin 512) : (heldLate m c t h).2.2.2.2.2.2.2.2 (ix2 0 q) = ((ctxL m c t).st 128).1.1 (ix2 0 q) := by
  unfold heldLate
  dsimp only
  have e : (late m c t h).2.2.2.2.2.2.2.2.1 = ⟨Rect.unit (s := S8x512) ![1, 0] S1x512.size inb_S8x512_S1x512_1_0, runLate.sl.v88 (F := Ideal) c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf12 t) (whole12 t) (buf13 t) (whole13 t) (buf14 t) (whole14 t) (buf15 t) (whole15 t) (buf16 t) (whole16 t) (buf17 t) (whole17 t) (buf18 t) (whole18 t) (buf19 t) (whole19 t) (buf20 t) (whole20 t) scr0 (Memref.isWhole_whole _) scr1 (Memref.isWhole_whole _) scr2 (Memref.isWhole_whole _) scr3 (Memref.isWhole_whole _) scr4 (Memref.isWhole_whole _) (iblk m c 0 t) (iblk m c 1 t) (iblk m c 2 t) (iblk m c 4 t) (iblk m c 5 t) (iblk m c 6 t) (iblk m c 7 t) (iblk m c 9 t) (iblk m c 10 t) (iblk m c 11 t)⟩
      :: ⟨Rect.unit (s := S8x512) ![0, 0] S1x512.size inb_S8x512_S1x512_0_0, runLate.sl.v85 (F := Ideal) c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf12 t) (whole12 t) (buf13 t) (whole13 t) (buf14 t) (whole14 t) (buf15 t) (whole15 t) (buf16 t) (whole16 t) (buf17 t) (whole17 t) (buf18 t) (whole18 t) (buf19 t) (whole19 t) (buf20 t) (whole20 t) scr0 (Memref.isWhole_whole _) scr1 (Memref.isWhole_whole _) scr2 (Memref.isWhole_whole _) scr3 (Memref.isWhole_whole _) scr4 (Memref.isWhole_whole _) (iblk m c 0 t) (iblk m c 1 t) (iblk m c 2 t) (iblk m c 4 t) (iblk m c 5 t) (iblk m c 6 t) (iblk m c 7 t) (iblk m c 9 t) (iblk m c 10 t) (iblk m c 11 t)⟩ :: runLate.sl.HS4_1 := rfl
  rw [e]
  refine (View.read_writes_cons_rows_of_not_mem (o := 1) (W := 1) viewScr viewScr.junk inb_S8x512_S1x512_1_0 _ _ (ix2 (0 : Fin 8) q) rfl rfl (Or.inl (show 0 < 1 by decide))).trans ?_
  refine (View.read_writes_cons_rows_of_mem viewScr viewScr.junk inb_S8x512_S1x512_0_0 _ _ (ix2 (0 : Fin 8) q) (ix2 (0 : Fin 1) q) rfl (show (0 : ℕ) = 0 + 0 by rfl) rfl).trans ?_
  exact congrFun (ScanLate.row_re_word ..) _

/-- Row one. -/
theorem late_row1 (h : t.val % 2 = 0) (q : Fin 512) : (heldLate m c t h).2.2.2.2.2.2.2.2 (ix2 1 q) = ((ctxL m c t).st 128).1.2.1 (ix2 0 q) := by
  unfold heldLate
  dsimp only
  have e : (late m c t h).2.2.2.2.2.2.2.2.1 = ⟨Rect.unit (s := S8x512) ![1, 0] S1x512.size inb_S8x512_S1x512_1_0, runLate.sl.v88 (F := Ideal) c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf12 t) (whole12 t) (buf13 t) (whole13 t) (buf14 t) (whole14 t) (buf15 t) (whole15 t) (buf16 t) (whole16 t) (buf17 t) (whole17 t) (buf18 t) (whole18 t) (buf19 t) (whole19 t) (buf20 t) (whole20 t) scr0 (Memref.isWhole_whole _) scr1 (Memref.isWhole_whole _) scr2 (Memref.isWhole_whole _) scr3 (Memref.isWhole_whole _) scr4 (Memref.isWhole_whole _) (iblk m c 0 t) (iblk m c 1 t) (iblk m c 2 t) (iblk m c 4 t) (iblk m c 5 t) (iblk m c 6 t) (iblk m c 7 t) (iblk m c 9 t) (iblk m c 10 t) (iblk m c 11 t)⟩
      :: ⟨Rect.unit (s := S8x512) ![0, 0] S1x512.size inb_S8x512_S1x512_0_0, runLate.sl.v85 (F := Ideal) c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) (buf12 t) (whole12 t) (buf13 t) (whole13 t) (buf14 t) (whole14 t) (buf15 t) (whole15 t) (buf16 t) (whole16 t) (buf17 t) (whole17 t) (buf18 t) (whole18 t) (buf19 t) (whole19 t) (buf20 t) (whole20 t) scr0 (Memref.isWhole_whole _) scr1 (Memref.isWhole_whole _) scr2 (Memref.isWhole_whole _) scr3 (Memref.isWhole_whole _) scr4 (Memref.isWhole_whole _) (iblk m c 0 t) (iblk m c 1 t) (iblk m c 2 t) (iblk m c 4 t) (iblk m c 5 t) (iblk m c 6 t) (iblk m c 7 t) (iblk m c 9 t) (iblk m c 10 t) (iblk m c 11 t)⟩ :: runLate.sl.HS4_1 := rfl
  rw [e]
  refine (View.read_writes_cons_rows_of_mem viewScr viewScr.junk inb_S8x512_S1x512_1_0 _ _ (ix2 (1 : Fin 8) q) (ix2 (0 : Fin 1) q) rfl (show (1 : ℕ) = 1 + 0 by rfl) rfl).trans ?_
  exact congrFun (ScanLate.row_im_word ..) _

/-- The later half starts from a zero row. -/
theorem ctxL_init : Rep (ctxL m c t).init.1 (ctxL m c t).init.2.1 (fun _ _ => 0) := by
  have z : ∀ i, k0_pay49 (F := Ideal) i = (0 : EReal) := fun i => Ideal.ofBits_zero_f32
  have w : ∀ y, (scr4.view.read (Elt Ideal) (scr4.view.writes (Elt Ideal) scr4.view.junk (runLate.sl.HS4_1 (F := Ideal)))) y = (0 : EReal) := fun y => by
    unfold runLate.sl.HS4_1
    rw [store_whole scr4 _ _ (by decide)]
    exact z y
  unfold ctxL ScanLate.ctx
  dsimp only
  unfold runLate.sl.v79 runLate.sl.v80 View.readCov
  exact ⟨fun r s => (w _).trans (by simp), fun r s => (w _).trans (by simp)⟩

/-- The earlier half starts from the carried rows. -/
theorem ctxE_init (xs : Vec Ideal S8x512 .f32) (z : Fin 512 → ℂ) (h0 : ∀ q, xs (ix2 0 q) = ((z q).re : EReal)) (h1 : ∀ q, xs (ix2 1 q) = ((z q).im : EReal)) :
    Rep (ctxE m c t xs).init.1 (ctxE m c t xs).init.2.1 (fun _ => z) := by
  have key : ∀ (o : ℕ) (ho : o < 8) (inb : ∀ a, (![o, 0] : Fin 2 → ℕ) a + S1x512.size a ≤ S8x512.size a) (r : Fin 1) (q : Fin 512),
      View.readAt (Elt Ideal) scr4.view (Rect.unit (s := S8x512) ![o, 0] S1x512.size inb).toLoadRect ((Memref.isWhole_whole _ : scr4.IsWhole).unread xs) (ix2 r q) = xs (ix2 (⟨o, ho⟩ : Fin 8) q) := fun o ho inb r q => by
    refine ((Memref.isWhole_whole _ : scr4.IsWhole).readAt_unread xs _ _).trans (congrArg xs (funext fun b => Fin.ext ?_))
    match b with
    | ⟨0, _⟩ => show o + 1 * r.val = o; omega
    | ⟨1, _⟩ => show 0 + 1 * q.val = q.val; omega
  unfold ctxE ScanEarly.ctx
  dsimp only
  exact ⟨fun r s => (key 0 (by decide) _ r s).trans (h0 s), fun r s => (key 1 (by decide) _ r s).trans (h1 s)⟩

end Cert.Proof.Scan

end
-- ==== Proof.ScanHostA.lean ====
/- What the host hands the scan's gradient: the block diagonal weights, cut in three pieces, and the tables of the decay's powers,
   entry by entry. -/
module

public import proofs.«01_k».proof.Proof.Gen.ScanIdeal.Frame
public import proofs.«01_k».proof.Proof.ScanMath
public import Idealize.ShloMosaic.Lib.Pointwise
public import Idealize.ShloMosaic.Lib.StableHlo.ReadAt

@[expose] public section

set_option maxHeartbeats 400000

noncomputable section

namespace Cert.Proof.Scan

open Idealize.ShloMosaic Idealize.ShloMosaic.TcCoe Idealize.SL.Sem Cert.ScanIdeal Cert.ScanIdeal.Gen
open Idealize.ShloMosaic.StableHlo

variable (m : (ℓ : Loc nD τ sig) → Buf (Elt Ideal) ℓ) (c : Dev nD)

/-- One on a group's own block, zero on the others. -/
def own (i j : ℕ) : EReal := if i = j then 1 else 0

/-- The word the host computes for it. -/
theorem own_word (i j : ℕ) (hi : i < 8) (hj : j < 8) :
    (FloatOps.uitofp (F := Ideal) FTy.f32 (IntOp.cmpi CmpIPredicate.eq (IntOp.addi (BitVec.ofNat 32 i) 0#32) (BitVec.ofNat 32 j)) : EReal) = own i j := by
  have key : ∀ i j : Fin 8, (IntOp.cmpi CmpIPredicate.eq (IntOp.addi (BitVec.ofNat 32 i.val) 0#32) (BitVec.ofNat 32 j.val)) = if i.val = j.val then 1#1 else 0#1 := by decide +kernel
  rw [key ⟨i, hi⟩ ⟨j, hj⟩]
  unfold own
  by_cases h : i = j
  · rw [if_pos h, if_pos h]; show ((((1#1 : BitVec 1).toNat : ℕ) : ℝ) : EReal) = 1; simp
  · rw [if_neg h, if_neg h]; show ((((0#1 : BitVec 1).toNat : ℕ) : ℝ) : EReal) = 0; simp

/-- The input matrices' real parts. -/
abbrev bRe (g p : Fin 64) (h : Fin 16) : EReal := m ((c : Thread nD τ).loc main_arg6) (ix3 g p h)

/-- Their imaginary parts. -/
abbrev bIm (g p : Fin 64) (h : Fin 16) : EReal := m ((c : Thread nD τ).loc main_arg7) (ix3 g p h)

/-- The output matrices' real parts. -/
abbrev cRe (g : Fin 64) (h : Fin 16) (p : Fin 64) : EReal := m ((c : Thread nD τ).loc main_arg8) (ix3 g h p)

/-- Their imaginary parts. -/
abbrev cIm (g : Fin 64) (h : Fin 16) (p : Fin 64) : EReal := m ((c : Thread nD τ).loc main_arg9) (ix3 g h p)

/-- The decay's powers, real and imaginary part, as the host multiplies them up. -/
def pw (L I : EReal) : ℕ → EReal × EReal
  | 0 => (L, I)
  | k + 1 => ((pw L I k).1 * L - (pw L I k).2 * I, (pw L I k).1 * I + (pw L I k).2 * L)

/-- They are the powers. -/
theorem pw_real (l : ℂ) (k : ℕ) : pw (l.re : EReal) (l.im : EReal) k = (((l ^ (k + 1)).re : EReal), ((l ^ (k + 1)).im : EReal)) := by
  induction k with
  | zero => rw [zero_add, pow_one]; rfl
  | succ k ih =>
    show ((pw _ _ k).1 * _ - (pw _ _ k).2 * _, (pw _ _ k).1 * _ + (pw _ _ k).2 * _) = _
    rw [ih, pow_succ l (k + 1), Complex.mul_re, Complex.mul_im]
    simp only [← EReal.coe_mul, ← EReal.coe_add, ← EReal.coe_sub]

/-- A lane's decay, real part. -/
abbrev lamRe (s : Fin 4096) : EReal := m ((c : Thread nD τ).loc main_arg10) (ix2 ⟨s.val / 64, by omega⟩ ⟨s.val % 64, by omega⟩)

/-- A lane's decay, imaginary part. -/
abbrev lamIm (s : Fin 4096) : EReal := m ((c : Thread nD τ).loc main_arg11) (ix2 ⟨s.val / 64, by omega⟩ ⟨s.val % 64, by omega⟩)
end Cert.Proof.Scan

end
-- ==== Proof.ScanHostB.lean ====
/- What the host hands the scan's gradient: the block diagonal weights, cut in three pieces, and the tables of the decay's powers,
   entry by entry. -/
module

public import proofs.«01_k».proof.Proof.Gen.ScanIdeal.Frame
public import proofs.«01_k».proof.Proof.ScanHostA
public import Idealize.ShloMosaic.Lib.Pointwise
public import Idealize.ShloMosaic.Lib.StableHlo.ReadAt

@[expose] public section

set_option maxHeartbeats 400000

noncomputable section

namespace Cert.Proof.Scan

open Idealize.ShloMosaic Idealize.ShloMosaic.TcCoe Idealize.SL.Sem Cert.ScanIdeal Cert.ScanIdeal.Gen
open Idealize.ShloMosaic.StableHlo

variable (m : (ℓ : Loc nD τ sig) → Buf (Elt Ideal) ℓ) (c : Dev nD)

/-- The input matrices' real parts, transposed: the first half of the rows. -/
theorem bdt_re_row (b : Fin 8) (r : Fin 1024) (k : Fin 512) (hk : k.val = r.val - 0) (hlo : 0 ≤ r.val) (hhi : r.val < 512) (q : Fin 128) : V m c main_v168 (ix3 b r q)
    = ((bRe m c ⟨b.val * 8 + q.val / 16, by omega⟩ ⟨k.val % 64, by omega⟩ ⟨q.val % 16, by omega⟩ : EReal) * own (q.val / 16) (k.val / 64) : EReal) := by
  unfold V; after_reads_at
  rw [dif_pos hhi]
  after_reads_at
  obtain ⟨k, hk'⟩ := k
  obtain rfl : k = r.val - 0 := hk
  exact congrArg (fun x : EReal => bRe m c ⟨b.val * 8 + q.val / 16, by omega⟩ ⟨(r.val - 0) % 64, by omega⟩ ⟨q.val % 16, by omega⟩ * x) (own_word (q.val / 16) ((r.val - 0) / 64) (by omega) (by omega))

/-- Their imaginary parts: the second half. -/
theorem bdt_im_row (b : Fin 8) (r : Fin 1024) (k : Fin 512) (hk : k.val = r.val - 512) (hlo : 512 ≤ r.val) (hhi : r.val < 1024) (q : Fin 128) : V m c main_v168 (ix3 b r q)
    = ((bIm m c ⟨b.val * 8 + q.val / 16, by omega⟩ ⟨k.val % 64, by omega⟩ ⟨q.val % 16, by omega⟩ : EReal) * own (q.val / 16) (k.val / 64) : EReal) := by
  unfold V; after_reads_at
  rw [dif_neg (show ¬r.val < 512 by omega)]
  after_reads_at
  obtain ⟨k, hk'⟩ := k
  obtain rfl : k = r.val - 512 := hk
  exact congrArg (fun x : EReal => bIm m c ⟨b.val * 8 + q.val / 16, by omega⟩ ⟨(r.val - 512) % 64, by omega⟩ ⟨q.val % 16, by omega⟩ * x) (own_word (q.val / 16) ((r.val - 512) / 64) (by omega) (by omega))

/-- The output matrices' real parts, transposed: the first third of the rows. -/
theorem cdr_one_row (b : Fin 8) (r : Fin 384) (k : Fin 128) (hk : k.val = r.val - 0) (hlo : 0 ≤ r.val) (hhi : r.val < 128) (s : Fin 512) : V m c main_v174 (ix3 b r s)
    = (((cRe m c ⟨b.val * 8 + s.val / 64, by omega⟩ ⟨k.val % 16, by omega⟩ ⟨s.val % 64, by omega⟩ : EReal) * own (s.val / 64) (k.val / 16)) : EReal) := by
  unfold V; after_reads_at
  rw [dif_pos (show r.val < 128 by omega)]
  after_reads_at
  obtain ⟨k, hk'⟩ := k
  obtain rfl : k = r.val - 0 := hk
  exact congrArg (fun x : EReal => cRe m c ⟨b.val * 8 + s.val / 64, by omega⟩ ⟨(r.val - 0) % 16, by omega⟩ ⟨s.val % 64, by omega⟩ * x) (own_word (s.val / 64) ((r.val - 0) / 16) (by omega) (by omega))

/-- Their imaginary parts, negated: the first third of the rows. -/
theorem cdi_one_row (b : Fin 8) (r : Fin 384) (k : Fin 128) (hk : k.val = r.val - 0) (hlo : 0 ≤ r.val) (hhi : r.val < 128) (s : Fin 512) : V m c main_v181 (ix3 b r s)
    = ((-((cIm m c ⟨b.val * 8 + s.val / 64, by omega⟩ ⟨k.val % 16, by omega⟩ ⟨s.val % 64, by omega⟩ : EReal) * own (s.val / 64) (k.val / 16))) : EReal) := by
  unfold V; after_reads_at
  rw [dif_pos (show r.val < 128 by omega)]
  after_reads_at
  obtain ⟨k, hk'⟩ := k
  obtain rfl : k = r.val - 0 := hk
  exact congrArg (fun x : EReal => -(cIm m c ⟨b.val * 8 + s.val / 64, by omega⟩ ⟨(r.val - 0) % 16, by omega⟩ ⟨s.val % 64, by omega⟩ * x)) (own_word (s.val / 64) ((r.val - 0) / 16) (by omega) (by omega))

/-- The output matrices' real parts, transposed: the second third. -/
theorem cdr_two_row (b : Fin 8) (r : Fin 384) (k : Fin 128) (hk : k.val = r.val - 128) (hlo : 128 ≤ r.val) (hhi : r.val < 256) (s : Fin 512) : V m c main_v174 (ix3 b r s)
    = (((cRe m c ⟨b.val * 8 + s.val / 64, by omega⟩ ⟨k.val % 16, by omega⟩ ⟨s.val % 64, by omega⟩ : EReal) * own (s.val / 64) (k.val / 16)) : EReal) := by
  unfold V; after_reads_at
  rw [dif_neg (show ¬r.val < 128 by omega), dif_pos (show r.val - 128 < 128 by omega)]
  after_reads_at
  obtain ⟨k, hk'⟩ := k
  obtain rfl : k = r.val - 128 := hk
  exact congrArg (fun x : EReal => cRe m c ⟨b.val * 8 + s.val / 64, by omega⟩ ⟨(r.val - 128) % 16, by omega⟩ ⟨s.val % 64, by omega⟩ * x) (own_word (s.val / 64) ((r.val - 128) / 16) (by omega) (by omega))

/-- Their imaginary parts, negated: the second third. -/
theorem cdi_two_row (b : Fin 8) (r : Fin 384) (k : Fin 128) (hk : k.val = r.val - 128) (hlo : 128 ≤ r.val) (hhi : r.val < 256) (s : Fin 512) : V m c main_v181 (ix3 b r s)
    = ((-((cIm m c ⟨b.val * 8 + s.val / 64, by omega⟩ ⟨k.val % 16, by omega⟩ ⟨s.val % 64, by omega⟩ : EReal) * own (s.val / 64) (k.val / 16))) : EReal) := by
  unfold V; after_reads_at
  rw [dif_neg (show ¬r.val < 128 by omega), dif_pos (show r.val - 128 < 128 by omega)]
  after_reads_at
  obtain ⟨k, hk'⟩ := k
  obtain rfl : k = r.val - 128 := hk
  exact congrArg (fun x : EReal => -(cIm m c ⟨b.val * 8 + s.val / 64, by omega⟩ ⟨(r.val - 128) % 16, by omega⟩ ⟨s.val % 64, by omega⟩ * x)) (own_word (s.val / 64) ((r.val - 128) / 16) (by omega) (by omega))

/-- The output matrices' real parts, transposed: the last third, what the first misses. -/
theorem cdr_rest_row (b : Fin 8) (r : Fin 384) (k : Fin 128) (hk : k.val = r.val - 256) (hlo : 256 ≤ r.val) (hhi : r.val < 384) (s : Fin 512) : V m c main_v174 (ix3 b r s)
    = (((cRe m c ⟨b.val * 8 + s.val / 64, by omega⟩ ⟨k.val % 16, by omega⟩ ⟨s.val % 64, by omega⟩ : EReal) * own (s.val / 64) (k.val / 16)) - ((cRe m c ⟨b.val * 8 + s.val / 64, by omega⟩ ⟨k.val % 16, by omega⟩ ⟨s.val % 64, by omega⟩ : EReal) * own (s.val / 64) (k.val / 16)) : EReal) := by
  unfold V; after_reads_at
  rw [dif_neg (show ¬r.val < 128 by omega), dif_neg (show ¬r.val - 128 < 128 by omega)]
  after_reads_at
  obtain ⟨k, hk'⟩ := k
  obtain rfl : k = r.val - 256 := hk
  simp only [show ∀ n : ℕ, n - 128 - 128 = n - 256 by omega]
  exact congrArg (fun x : EReal => (cRe m c ⟨b.val * 8 + s.val / 64, by omega⟩ ⟨(r.val - 256) % 16, by omega⟩ ⟨s.val % 64, by omega⟩ * x) - (cRe m c ⟨b.val * 8 + s.val / 64, by omega⟩ ⟨(r.val - 256) % 16, by omega⟩ ⟨s.val % 64, by omega⟩ * x)) (own_word (s.val / 64) ((r.val - 256) / 16) (by omega) (by omega))

/-- Their imaginary parts, negated: the last third, what the first misses. -/
theorem cdi_rest_row (b : Fin 8) (r : Fin 384) (k : Fin 128) (hk : k.val = r.val - 256) (hlo : 256 ≤ r.val) (hhi : r.val < 384) (s : Fin 512) : V m c main_v181 (ix3 b r s)
    = ((-((cIm m c ⟨b.val * 8 + s.val / 64, by omega⟩ ⟨k.val % 16, by omega⟩ ⟨s.val % 64, by omega⟩ : EReal) * own (s.val / 64) (k.val / 16))) - (-((cIm m c ⟨b.val * 8 + s.val / 64, by omega⟩ ⟨k.val % 16, by omega⟩ ⟨s.val % 64, by omega⟩ : EReal) * own (s.val / 64) (k.val / 16))) : EReal) := by
  unfold V; after_reads_at
  rw [dif_neg (show ¬r.val < 128 by omega), dif_neg (show ¬r.val - 128 < 128 by omega)]
  after_reads_at
  obtain ⟨k, hk'⟩ := k
  obtain rfl : k = r.val - 256 := hk
  simp only [show ∀ n : ℕ, n - 128 - 128 = n - 256 by omega]
  exact congrArg (fun x : EReal => (-(cIm m c ⟨b.val * 8 + s.val / 64, by omega⟩ ⟨(r.val - 256) % 16, by omega⟩ ⟨s.val % 64, by omega⟩ * x)) - (-(cIm m c ⟨b.val * 8 + s.val / 64, by omega⟩ ⟨(r.val - 256) % 16, by omega⟩ ⟨s.val % 64, by omega⟩ * x))) (own_word (s.val / 64) ((r.val - 256) / 16) (by omega) (by omega))

end Cert.Proof.Scan

end
-- ==== Proof.ScanHostC.lean ====
/- What the host hands the scan's gradient: the block diagonal weights, cut in three pieces, and the tables of the decay's powers,
   entry by entry. -/
module

public import proofs.«01_k».proof.Proof.Gen.ScanIdeal.Frame
public import proofs.«01_k».proof.Proof.ScanHostA
public import Idealize.ShloMosaic.Lib.Pointwise
public import Idealize.ShloMosaic.Lib.StableHlo.ReadAt

@[expose] public section

set_option maxHeartbeats 400000

noncomputable section

namespace Cert.Proof.Scan

open Idealize.ShloMosaic Idealize.ShloMosaic.TcCoe Idealize.SL.Sem Cert.ScanIdeal Cert.ScanIdeal.Gen
open Idealize.ShloMosaic.StableHlo

variable (m : (ℓ : Loc nD τ sig) → Buf (Elt Ideal) ℓ) (c : Dev nD)

theorem tab8 (r : Fin 8) (s : Fin 4096) : V m c main_v108 (ix3 8 r s) = if r.val < 7 then (pw (lamRe m c s) (lamIm m c s) 0).1 else (0 : EReal) := by
  unfold V; after_reads_at; after_reads_at
  split
  · after_reads_at
    rfl
  · after_reads_at
    try rfl

theorem tab9 (r : Fin 8) (s : Fin 4096) : V m c main_v108 (ix3 9 r s) = if r.val < 7 then -(pw (lamRe m c s) (lamIm m c s) 0).2 else (0 : EReal) := by
  unfold V; after_reads_at; after_reads_at
  split
  · after_reads_at
    rfl
  · after_reads_at
    try rfl

theorem tab10 (r : Fin 8) (s : Fin 4096) : V m c main_v108 (ix3 10 r s) = if r.val < 6 then (pw (lamRe m c s) (lamIm m c s) 1).1 else (0 : EReal) := by
  unfold V; after_reads_at; after_reads_at
  split
  · after_reads_at
    rfl
  · after_reads_at
    try rfl

theorem tab11 (r : Fin 8) (s : Fin 4096) : V m c main_v108 (ix3 11 r s) = if r.val < 6 then -(pw (lamRe m c s) (lamIm m c s) 1).2 else (0 : EReal) := by
  unfold V; after_reads_at; after_reads_at
  split
  · after_reads_at
    rfl
  · after_reads_at
    try rfl

theorem tab12 (r : Fin 8) (s : Fin 4096) : V m c main_v108 (ix3 12 r s) = if r.val < 4 then (pw (lamRe m c s) (lamIm m c s) 3).1 else (0 : EReal) := by
  unfold V; after_reads_at; after_reads_at
  split
  · after_reads_at
    rfl
  · after_reads_at
    try rfl

theorem tab13 (r : Fin 8) (s : Fin 4096) : V m c main_v108 (ix3 13 r s) = if r.val < 4 then -(pw (lamRe m c s) (lamIm m c s) 3).2 else (0 : EReal) := by
  unfold V; after_reads_at; after_reads_at
  split
  · after_reads_at
    rfl
  · after_reads_at
    try rfl
end Cert.Proof.Scan

end
-- ==== Proof.ScanHostD.lean ====
/- What the host hands the scan's gradient: the block diagonal weights, cut in three pieces, and the tables of the decay's powers,
   entry by entry. -/
module

public import proofs.«01_k».proof.Proof.Gen.ScanIdeal.Frame
public import proofs.«01_k».proof.Proof.ScanHostA
public import Idealize.ShloMosaic.Lib.Pointwise
public import Idealize.ShloMosaic.Lib.StableHlo.ReadAt

@[expose] public section

set_option maxHeartbeats 400000

noncomputable section

namespace Cert.Proof.Scan

open Idealize.ShloMosaic Idealize.ShloMosaic.TcCoe Idealize.SL.Sem Cert.ScanIdeal Cert.ScanIdeal.Gen
open Idealize.ShloMosaic.StableHlo

variable (m : (ℓ : Loc nD τ sig) → Buf (Elt Ideal) ℓ) (c : Dev nD)

theorem tab14_0 (s : Fin 4096) : V m c main_v108 (ix3 14 0 s) = ((pw (lamRe m c s) (lamIm m c s) 7).1 : EReal) := by
  unfold V; after_reads_at; after_reads_at; try after_reads_at
  rfl

theorem tab14_1 (s : Fin 4096) : V m c main_v108 (ix3 14 1 s) = ((pw (lamRe m c s) (lamIm m c s) 6).1 : EReal) := by
  unfold V; after_reads_at; after_reads_at; try after_reads_at
  rfl

theorem tab14_2 (s : Fin 4096) : V m c main_v108 (ix3 14 2 s) = ((pw (lamRe m c s) (lamIm m c s) 5).1 : EReal) := by
  unfold V; after_reads_at; after_reads_at; try after_reads_at
  rfl

theorem tab14_3 (s : Fin 4096) : V m c main_v108 (ix3 14 3 s) = ((pw (lamRe m c s) (lamIm m c s) 4).1 : EReal) := by
  unfold V; after_reads_at; after_reads_at; try after_reads_at
  rfl

theorem tab14_4 (s : Fin 4096) : V m c main_v108 (ix3 14 4 s) = ((pw (lamRe m c s) (lamIm m c s) 3).1 : EReal) := by
  unfold V; after_reads_at; after_reads_at; try after_reads_at
  rfl

theorem tab14_5 (s : Fin 4096) : V m c main_v108 (ix3 14 5 s) = ((pw (lamRe m c s) (lamIm m c s) 2).1 : EReal) := by
  unfold V; after_reads_at; after_reads_at; try after_reads_at
  rfl

theorem tab14_6 (s : Fin 4096) : V m c main_v108 (ix3 14 6 s) = ((pw (lamRe m c s) (lamIm m c s) 1).1 : EReal) := by
  unfold V; after_reads_at; after_reads_at; try after_reads_at
  rfl

theorem tab14_7 (s : Fin 4096) : V m c main_v108 (ix3 14 7 s) = ((pw (lamRe m c s) (lamIm m c s) 0).1 : EReal) := by
  unfold V; after_reads_at; after_reads_at; try after_reads_at
  rfl

theorem tab14 (r : Fin 8) (s : Fin 4096) : V m c main_v108 (ix3 14 r s) = ((pw (lamRe m c s) (lamIm m c s) (7 - r.val)).1 : EReal) :=
  match r with
  | 0 => tab14_0 m c s
  | 1 => tab14_1 m c s
  | 2 => tab14_2 m c s
  | 3 => tab14_3 m c s
  | 4 => tab14_4 m c s
  | 5 => tab14_5 m c s
  | 6 => tab14_6 m c s
  | 7 => tab14_7 m c s

theorem tab15_0 (s : Fin 4096) : V m c main_v108 (ix3 15 0 s) = (-(pw (lamRe m c s) (lamIm m c s) 7).2 : EReal) := by
  unfold V; after_reads_at; after_reads_at; try after_reads_at
  rfl

theorem tab15_1 (s : Fin 4096) : V m c main_v108 (ix3 15 1 s) = (-(pw (lamRe m c s) (lamIm m c s) 6).2 : EReal) := by
  unfold V; after_reads_at; after_reads_at; try after_reads_at
  rfl

theorem tab15_2 (s : Fin 4096) : V m c main_v108 (ix3 15 2 s) = (-(pw (lamRe m c s) (lamIm m c s) 5).2 : EReal) := by
  unfold V; after_reads_at; after_reads_at; try after_reads_at
  rfl

theorem tab15_3 (s : Fin 4096) : V m c main_v108 (ix3 15 3 s) = (-(pw (lamRe m c s) (lamIm m c s) 4).2 : EReal) := by
  unfold V; after_reads_at; after_reads_at; try after_reads_at
  rfl

theorem tab15_4 (s : Fin 4096) : V m c main_v108 (ix3 15 4 s) = (-(pw (lamRe m c s) (lamIm m c s) 3).2 : EReal) := by
  unfold V; after_reads_at; after_reads_at; try after_reads_at
  rfl

theorem tab15_5 (s : Fin 4096) : V m c main_v108 (ix3 15 5 s) = (-(pw (lamRe m c s) (lamIm m c s) 2).2 : EReal) := by
  unfold V; after_reads_at; after_reads_at; try after_reads_at
  rfl

theorem tab15_6 (s : Fin 4096) : V m c main_v108 (ix3 15 6 s) = (-(pw (lamRe m c s) (lamIm m c s) 1).2 : EReal) := by
  unfold V; after_reads_at; after_reads_at; try after_reads_at
  rfl

theorem tab15_7 (s : Fin 4096) : V m c main_v108 (ix3 15 7 s) = (-(pw (lamRe m c s) (lamIm m c s) 0).2 : EReal) := by
  unfold V; after_reads_at; after_reads_at; try after_reads_at
  rfl

theorem tab15 (r : Fin 8) (s : Fin 4096) : V m c main_v108 (ix3 15 r s) = (-(pw (lamRe m c s) (lamIm m c s) (7 - r.val)).2 : EReal) :=
  match r with
  | 0 => tab15_0 m c s
  | 1 => tab15_1 m c s
  | 2 => tab15_2 m c s
  | 3 => tab15_3 m c s
  | 4 => tab15_4 m c s
  | 5 => tab15_5 m c s
  | 6 => tab15_6 m c s
  | 7 => tab15_7 m c s
end Cert.Proof.Scan

end
-- ==== Proof.ScanValueA.lean ====
/- What a grid point's loop starts from on real arrays: the powers of the decay, and the drive of the recurrence. -/
module

public import proofs.«01_k».proof.Proof.ScanBlocks
public import proofs.«01_k».proof.Proof.ScanHeld
public import proofs.«01_k».proof.Proof.ScanHostA
public import proofs.«01_k».proof.Proof.ScanHostB
public import proofs.«01_k».proof.Proof.ScanHostC
public import proofs.«01_k».proof.Proof.ScanHostD

@[expose] public section

noncomputable section

namespace Cert.Proof.Scan

open Idealize.ShloMosaic Idealize.ShloMosaic.TcCoe Idealize.SL.Sem Cert.ScanIdeal Cert.ScanIdeal.Gen
open Idealize.ShloMosaic.Pipeline (Dat)

variable (m : (ℓ : Loc nD τ sig) → Buf (Elt Ideal) ℓ) (c : Dev nD) (t : Fin cfg0.N)

/-- The kernel's argument arrays hold the real numbers. -/
abbrev KerFits (D : Data) : Prop := D.Fits (fun t q => m ((c : Thread nD τ).loc main_arg0) (ix2 t q)) (fun t q => m ((c : Thread nD τ).loc main_arg1) (ix2 t q)) (fun t q => m ((c : Thread nD τ).loc main_arg2) (ix2 t q))
  (fun g h p => m ((c : Thread nD τ).loc main_arg8) (ix3 g h p)) (fun g h p => m ((c : Thread nD τ).loc main_arg9) (ix3 g h p))
  (fun g p => m ((c : Thread nD τ).loc main_arg10) (ix2 g p)) (fun g p => m ((c : Thread nD τ).loc main_arg11) (ix2 g p))

/-- One of the tables at an entry. -/
theorem table_at (x : Ctx) (w : Vec Ideal S16x8x512 .f32) (hx : x.X13 = x.harg13.unread w) (j : ℕ) (hj : j < 16) (inb : ∀ a, (![j, 0, 0] : Fin 3 → ℕ) a + S1x8x512.size a ≤ S16x8x512.size a)
    (h : S1x8x512.ShapeCasts S8x512) (r : Fin 8) (q : Fin 512) : table x ![j, 0, 0] inb h (ix2 r q) = w (ix3 (⟨j, hj⟩ : Fin 16) r q) := by
  have key : View.readAt (Elt Ideal) x.arg13.view (Rect.unit (s := S16x8x512) ![j, 0, 0] S1x8x512.size inb).toLoadRect (x.harg13.unread w) (ix3 (0 : Fin 1) r q) = w (ix3 (⟨j, hj⟩ : Fin 16) r q) := by
    refine (Memref.IsWhole.readAt_unread x.harg13 w _ _).trans ?_
    refine congrArg (α := S16x8x512.Idx) w (funext fun b => Fin.ext ?_)
    match b with
    | ⟨0, _⟩ => show j + 1 * 0 = j; omega
    | ⟨1, _⟩ => show 0 + 1 * r.val = r.val; omega
    | ⟨2, _⟩ => show 0 + 1 * q.val = q.val; omega
  unfold table
  rw [hx]
  exact (ValueIdx.shapeCast_1ab_ab_apply _ h r q).trans key

variable {D : Data} (hD : KerFits m c D)
include hD

/-- The powers of a lane's decay, conjugated. -/
theorem lane_pow (s : Fin 512) (k : ℕ) : (pw (lamRe m c (laneOf t s)) (lamIm m c (laneOf t s)) k).1 = ((D.μ (grpOf t s) (posOf s) ^ (k + 1)).re : EReal)
    ∧ -(pw (lamRe m c (laneOf t s)) (lamIm m c (laneOf t s)) k).2 = ((D.μ (grpOf t s) (posOf s) ^ (k + 1)).im : EReal) := by
  have eg : (⟨(laneOf t s).val / 64, by omega⟩ : Fin 64) = grpOf t s := Fin.ext (by show (t.val / 2 * 512 + s.val) / 64 = t.val / 2 * 8 + s.val / 64; omega)
  have ep : (⟨(laneOf t s).val % 64, by omega⟩ : Fin 64) = posOf s := Fin.ext (by show (t.val / 2 * 512 + s.val) % 64 = s.val % 64; omega)
  have e1 : lamRe m c (laneOf t s) = (D.lr (grpOf t s) (posOf s) : EReal) :=
    (congrArg₂ (fun g p => (m ((c : Thread nD τ).loc main_arg10) (ix2 g p) : EReal)) eg ep).trans (hD.h10 _ _)
  have e2 : lamIm m c (laneOf t s) = (D.li (grpOf t s) (posOf s) : EReal) :=
    (congrArg₂ (fun g p => (m ((c : Thread nD τ).loc main_arg11) (ix2 g p) : EReal)) eg ep).trans (hD.h11 _ _)
  have eμ : D.μ (grpOf t s) (posOf s) = (starRingEnd ℂ) (⟨D.lr (grpOf t s) (posOf s), D.li (grpOf t s) (posOf s)⟩ : ℂ) := rfl
  rw [e1, e2, pw_real ⟨D.lr (grpOf t s) (posOf s), D.li (grpOf t s) (posOf s)⟩ k, eμ, ← map_pow, Complex.conj_re, Complex.conj_im, EReal.coe_neg]
  exact ⟨rfl, rfl⟩

/-- The decays of a point's lanes. -/
abbrev laneμ (D : Data) (t : Fin cfg0.N) (s : Fin 512) : ℂ := D.μ (grpOf t s) (posOf s)

omit hD in
/-- A masked entry. -/
theorem mask_re (P Q : Prop) [Decidable P] [Decidable Q] (hPQ : P ↔ Q) (x : EReal) (z : ℂ) (h : x = (z.re : EReal)) : (if P then x else (0 : EReal)) = ((if Q then z else 0).re : EReal) := by
  by_cases hp : P
  · rw [if_pos hp, if_pos (hPQ.mp hp), h]
  · rw [if_neg hp, if_neg (fun q => hp (hPQ.mpr q))]; simp

omit hD in
/-- Its imaginary part. -/
theorem mask_im (P Q : Prop) [Decidable P] [Decidable Q] (hPQ : P ↔ Q) (x : EReal) (z : ℂ) (h : x = (z.im : EReal)) : (if P then x else (0 : EReal)) = ((if Q then z else 0).im : EReal) := by
  by_cases hp : P
  · rw [if_pos hp, if_pos (hPQ.mp hp), h]
  · rw [if_neg hp, if_neg (fun q => hp (hPQ.mpr q))]; simp

/-- The tables a point's loop reads are the powers of its lanes' decays. -/
theorem reads (x : Ctx) (hx : x.X13 = x.harg13.unread (iblk m c 11 t)) :
    x.Reads (fun r s => if r.val + 1 ≤ 7 then laneμ D t s ^ 1 else 0) (fun r s => if r.val + 2 ≤ 7 then laneμ D t s ^ 2 else 0) (fun r s => if r.val + 4 ≤ 7 then laneμ D t s ^ 4 else 0)
      (fun r s => laneμ D t s ^ (7 - r.val + 1)) where
  t0 := ⟨fun r s => (table_at x _ hx 8 (by decide) _ _ r s).trans ((blk11 m c t 8 r s).trans ((tab8 m c r (laneOf t s)).trans (mask_re _ _ (by omega) _ _ (lane_pow m c t hD s 0).1))),
    fun r s => (table_at x _ hx 9 (by decide) _ _ r s).trans ((blk11 m c t 9 r s).trans ((tab9 m c r (laneOf t s)).trans (mask_im _ _ (by omega) _ _ (lane_pow m c t hD s 0).2)))⟩
  t1 := ⟨fun r s => (table_at x _ hx 10 (by decide) _ _ r s).trans ((blk11 m c t 10 r s).trans ((tab10 m c r (laneOf t s)).trans (mask_re _ _ (by omega) _ _ (lane_pow m c t hD s 1).1))),
    fun r s => (table_at x _ hx 11 (by decide) _ _ r s).trans ((blk11 m c t 11 r s).trans ((tab11 m c r (laneOf t s)).trans (mask_im _ _ (by omega) _ _ (lane_pow m c t hD s 1).2)))⟩
  t2 := ⟨fun r s => (table_at x _ hx 12 (by decide) _ _ r s).trans ((blk11 m c t 12 r s).trans ((tab12 m c r (laneOf t s)).trans (mask_re _ _ (by omega) _ _ (lane_pow m c t hD s 3).1))),
    fun r s => (table_at x _ hx 13 (by decide) _ _ r s).trans ((blk11 m c t 13 r s).trans ((tab13 m c r (laneOf t s)).trans (mask_im _ _ (by omega) _ _ (lane_pow m c t hD s 3).2)))⟩
  t3 := ⟨fun r s => (table_at x _ hx 14 (by decide) _ _ r s).trans ((blk11 m c t 14 r s).trans ((tab14 m c r (laneOf t s)).trans (lane_pow m c t hD s (7 - r.val)).1)),
    fun r s => (table_at x _ hx 15 (by decide) _ _ r s).trans ((blk11 m c t 15 r s).trans ((tab15 m c r (laneOf t s)).trans (lane_pow m c t hD s (7 - r.val)).2))⟩

omit hD in
/-- They are the tables of the recurrence. -/
theorem tables : Tables (laneμ D t) (fun r s => if r.val + 1 ≤ 7 then laneμ D t s ^ 1 else 0) (fun r s => if r.val + 2 ≤ 7 then laneμ D t s ^ 2 else 0) (fun r s => if r.val + 4 ≤ 7 then laneμ D t s ^ 4 else 0)
      (fun r s => laneμ D t s ^ (7 - r.val + 1)) where
  one r s := by rw [pow_one]
  two r s := rfl
  four r s := rfl
  carry r s := by rw [show 7 - r.val + 1 = 8 - r.val by omega]

/-- A point's cotangent. -/
theorem dyT_at (r : Fin 2048) (q : Fin 128) : dyT m c t (ix2 r q) = (D.dy (rowOf t r) (colOf t q) : EReal) :=
  dyB_real _ _ _ _ _ _ _ ((blk0 m c t r q).trans (hD.h0 _ _)) ((blk1 m c t r q).trans (hD.h1 _ _)) ((blk2 m c t r q).trans (hD.h2 _ _))

omit hD in
/-- A weight against the mask of its block. -/
theorem own_real (i j : ℕ) (x : EReal) (a : ℝ) (h : x = (a : EReal)) : x * own i j = ((if i = j then a else 0 : ℝ) : EReal) := by
  subst h
  unfold own
  by_cases e : i = j
  · rw [if_pos e, if_pos e, mul_one]
  · rw [if_neg e, if_neg e, mul_zero, EReal.coe_zero]

/-- The drive's real part. -/
theorem drive_re (r : Fin 2048) (s : Fin 512) : driveB (dyT m c t) (iblk m c 9 t) (ix2 r s) = ((D.x (grpOf t s) (posOf s) (rowOf t r).val).re : EReal) := by
  have w : ∀ k : Fin 128, cRe m c ⟨(blkOf t).val * 8 + s.val / 64, by omega⟩ ⟨k.val % 16, by omega⟩ ⟨s.val % 64, by omega⟩ * own (s.val / 64) (k.val / 16)
      = ((if s.val / 64 = k.val / 16 then D.cr (grpOf t s) ⟨k.val % 16, by omega⟩ (posOf s) else 0 : ℝ) : EReal) := fun k => own_real _ _ _ _ (hD.h8 (grpOf t s) _ (posOf s))
  refine (driveB_real _ _ r s (fun k => D.dy (rowOf t r) (colOf t k)) (fun k => if s.val / 64 = k.val / 16 then D.cr (grpOf t s) ⟨k.val % 16, by omega⟩ (posOf s) else 0) (dyT_at m c t hD r)
    (fun k => (blk9 m c t _ s).trans ((cdr_one_row m c (blkOf t) _ k (by simp) (Nat.zero_le _) k.isLt s).trans (w k)))
    (fun k => (blk9 m c t _ s).trans ((cdr_two_row m c (blkOf t) _ k (by simp) (by simp) (by show 128 + k.val < 256; omega) s).trans (w k)))
    (fun k => (blk9 m c t _ s).trans ((cdr_rest_row m c (blkOf t) _ k (by simp) (by simp) (by show 256 + k.val < 384; omega) s).trans ?_))).trans ?_
  · rw [w k, ← EReal.coe_sub, sub_self, EReal.coe_zero]
  · rw [D.x_fin]
    refine congrArg _ (?_ : (∑ k : Fin 128, _) = ∑ h, D.dy (rowOf t r) (chan (grpOf t s) h) * D.cr (grpOf t s) h (posOf s))
    refine sum_block 16 (s.val / 64) (by omega) (fun k : Fin 128 => _) _ (fun k hk => ?_) (fun h k hk => ?_)
    · show _ * (if s.val / 64 = k.val / 16 then _ else (0 : ℝ)) = 0
      rw [if_neg hk, mul_zero]
    · show D.dy _ _ * (if s.val / 64 = k.val / 16 then _ else (0 : ℝ)) = _
      rw [if_pos (by omega)]
      refine congrArg₂ (fun x y : ℝ => x * y) (congrArg _ (Fin.ext ?_)) (congrArg (fun h => D.cr (grpOf t s) h (posOf s)) (Fin.ext ?_))
      · show t.val / 2 * 128 + k.val = (t.val / 2 * 8 + s.val / 64) * 16 + h.val; omega
      · show k.val % 16 = h.val; omega

/-- The drive's imaginary part. -/
theorem drive_im (r : Fin 2048) (s : Fin 512) : driveB (dyT m c t) (iblk m c 10 t) (ix2 r s) = ((D.x (grpOf t s) (posOf s) (rowOf t r).val).im : EReal) := by
  have w : ∀ k : Fin 128, -(cIm m c ⟨(blkOf t).val * 8 + s.val / 64, by omega⟩ ⟨k.val % 16, by omega⟩ ⟨s.val % 64, by omega⟩ * own (s.val / 64) (k.val / 16))
      = ((-(if s.val / 64 = k.val / 16 then D.ci (grpOf t s) ⟨k.val % 16, by omega⟩ (posOf s) else 0) : ℝ) : EReal) := fun k => (congrArg (fun x : EReal => -x) (own_real _ _ _ _ (hD.h9 (grpOf t s) _ (posOf s)))).trans (EReal.coe_neg _).symm
  refine (driveB_real _ _ r s (fun k => D.dy (rowOf t r) (colOf t k)) (fun k => -(if s.val / 64 = k.val / 16 then D.ci (grpOf t s) ⟨k.val % 16, by omega⟩ (posOf s) else 0)) (dyT_at m c t hD r)
    (fun k => (blk10 m c t _ s).trans ((cdi_one_row m c (blkOf t) _ k (by simp) (Nat.zero_le _) k.isLt s).trans (w k)))
    (fun k => (blk10 m c t _ s).trans ((cdi_two_row m c (blkOf t) _ k (by simp) (by simp) (by show 128 + k.val < 256; omega) s).trans (w k)))
    (fun k => (blk10 m c t _ s).trans ((cdi_rest_row m c (blkOf t) _ k (by simp) (by simp) (by show 256 + k.val < 384; omega) s).trans ?_))).trans ?_
  · rw [w k, ← EReal.coe_sub, sub_self, EReal.coe_zero]
  · rw [D.x_fin]
    refine congrArg _ (?_ : (∑ k : Fin 128, _) = -∑ h, D.dy (rowOf t r) (chan (grpOf t s) h) * D.ci (grpOf t s) h (posOf s))
    rw [← Finset.sum_neg_distrib]
    refine sum_block 16 (s.val / 64) (by omega) (fun k : Fin 128 => _) _ (fun k hk => ?_) (fun h k hk => ?_)
    · show _ * -(if s.val / 64 = k.val / 16 then _ else (0 : ℝ)) = 0
      rw [if_neg hk, neg_zero, mul_zero]
    · show D.dy _ _ * -(if s.val / 64 = k.val / 16 then _ else (0 : ℝ)) = _
      rw [if_pos (by omega), mul_neg]
      refine congrArg (fun x : ℝ => -x) (congrArg₂ (fun x y : ℝ => x * y) (congrArg _ (Fin.ext ?_)) (congrArg (fun h => D.ci (grpOf t s) h (posOf s)) (Fin.ext ?_)))
      · show t.val / 2 * 128 + k.val = (t.val / 2 * 8 + s.val / 64) * 16 + h.val; omega
      · show k.val % 16 = h.val; omega

end Cert.Proof.Scan

end
-- ==== Proof.ScanValueB.lean ====
/- What a grid point leaves on real arrays: the block of the first result, the carried row and the partial sums. -/
module

public import proofs.«01_k».proof.Proof.ScanValueA
public import proofs.«01_k».proof.Proof.ScanLoop

@[expose] public section

noncomputable section

namespace Cert.Proof.Scan

open Idealize.ShloMosaic Idealize.ShloMosaic.TcCoe Idealize.SL.Sem Cert.ScanIdeal Cert.ScanIdeal.Gen
open Idealize.ShloMosaic.Pipeline (Dat)

variable (m : (ℓ : Loc nD τ sig) → Buf (Elt Ideal) ℓ) (c : Dev nD) (t : Fin cfg0.N)

variable {D : Data} (hD : KerFits m c D)
include hD

/-- A point's loop solves the recurrence on its rows, given the row behind them. -/
theorem solve (x : Ctx) (hx : x.X13 = x.harg13.unread (iblk m c 11 t)) (h23 : x.arg23.view.read (Elt Ideal) x.G23 = driveB (dyT m c t) (iblk m c 9 t))
    (h24 : x.arg24.view.read (Elt Ideal) x.G24 = driveB (dyT m c t) (iblk m c 10 t))
    (hC : Rep x.init.1 x.init.2.1 (fun _ s => D.G (grpOf t s) (posOf s) ((1 - t.val % 2) * 2048 + 2048))) :
    Rep (x.st 128).1.1 (x.st 128).1.2.1 (fun _ s => D.G (grpOf t s) (posOf s) ((1 - t.val % 2) * 2048)) ∧ x.rows 128 (fun r s => D.G (grpOf t s) (posOf s) (rowOf t r).val) := by
  have key := x.solved (reads m c t hD x hx) (tables t) (fun n s => D.G (grpOf t s) (posOf s) ((1 - t.val % 2) * 2048 + n)) (fun n s => D.x (grpOf t s) (posOf s) ((1 - t.val % 2) * 2048 + n))
    ⟨fun r s => (congrFun h23 _).trans (drive_re m c t hD r s), fun r s => (congrFun h24 _).trans (drive_im m c t hD r s)⟩ hC
    (fun n hn s => D.G_step _ _ _ (by omega)) 128 (le_refl _)
  refine ⟨key.1, ?_⟩
  have e : (fun (r : Fin 2048) (s : Fin 512) => if 2048 - 16 * 128 ≤ r.val then D.G (grpOf t s) (posOf s) ((1 - t.val % 2) * 2048 + r.val) else D.x (grpOf t s) (posOf s) ((1 - t.val % 2) * 2048 + r.val))
      = fun r s => D.G (grpOf t s) (posOf s) (rowOf t r).val := funext fun r => funext fun s => if_pos (by omega)
  have k2 : x.rows 128 (fun (r : Fin 2048) (s : Fin 512) => if 2048 - 16 * 128 ≤ r.val then D.G (grpOf t s) (posOf s) ((1 - t.val % 2) * 2048 + r.val) else D.x (grpOf t s) (posOf s) ((1 - t.val % 2) * 2048 + r.val)) := key.2
  rw [e] at k2
  exact k2

/-- At a point of the later half. -/
theorem solve_late (h : t.val % 2 = 0) : Rep ((ctxL m c t).st 128).1.1 ((ctxL m c t).st 128).1.2.1 (fun _ s => D.G (grpOf t s) (posOf s) 2048)
    ∧ (ctxL m c t).rows 128 (fun r s => D.G (grpOf t s) (posOf s) (rowOf t r).val) := by
  have e : (1 - t.val % 2) * 2048 = 2048 := by rw [h]
  have key := solve m c t hD (ctxL m c t) (by unfold ctxL ScanLate.ctx; rfl) (ctxL_start m c t).1 (ctxL_start m c t).2 (by
    rw [e]; exact ctxL_init m c t)
  rw [e] at key
  exact key

/-- The row a point of the later half carries on. -/
theorem carried_row (h : t.val % 2 = 0) (s : Fin 512) : (held m c t.val t.isLt).2.2.2.2.2.2.2.2 (ix2 0 s) = ((D.G (grpOf t s) (posOf s) 2048).re : EReal)
    ∧ (held m c t.val t.isLt).2.2.2.2.2.2.2.2 (ix2 1 s) = ((D.G (grpOf t s) (posOf s) 2048).im : EReal) := by
  rw [held_late m c t h]
  exact ⟨(late_row0 m c t h s).trans ((solve_late m c t hD h).1.re 0 s), (late_row1 m c t h s).trans ((solve_late m c t hD h).1.im 0 s)⟩

/-- At a point of the earlier half, over the row its predecessor carried on. -/
theorem solve_early (h : ¬t.val % 2 = 0) : (ctxE m c t (held m c (t.val - 1) (by omega)).2.2.2.2.2.2.2.2).rows 128 (fun r s => D.G (grpOf t s) (posOf s) (rowOf t r).val) := by
  have h1 : t.val % 2 = 1 := by omega
  have e : (1 - t.val % 2) * 2048 = 0 := by rw [h1]
  have hp : (⟨t.val - 1, by omega⟩ : Fin cfg0.N).val % 2 = 0 := by show (t.val - 1) % 2 = 0; omega
  have eg : ∀ s, grpOf (⟨t.val - 1, by omega⟩ : Fin cfg0.N) s = grpOf t s := fun s => Fin.ext (by show (t.val - 1) / 2 * 8 + s.val / 64 = t.val / 2 * 8 + s.val / 64; omega)
  have carr := carried_row m c (⟨t.val - 1, by omega⟩ : Fin cfg0.N) hD hp
  simp only [eg] at carr
  refine (solve m c t hD (ctxE m c t _) (by unfold ctxE ScanEarly.ctx; rfl) (ctxE_start m c t _).1 (ctxE_start m c t _).2 ?_).2
  rw [e]
  exact ctxE_init m c t _ (fun s => D.G (grpOf t s) (posOf s) 2048) (fun s => (carr s).1) (fun s => (carr s).2)

/-- The direct path's weights. -/
abbrev kW (q : Fin 1024) : EReal := m ((c : Thread nD τ).loc main_arg12) (ix2 0 q)

/-- The scan's input. -/
abbrev uW (t : Fin 4096) (q : Fin 1024) : EReal := m ((c : Thread nD τ).loc main_arg3) (ix2 t ⟨2048 + q.val, by omega⟩)

/-- An entry of the first result's block. -/
theorem out_at (g23 g24 : FVec Ideal S2048x512 .f32) (hg : Rep g23 g24 (fun r s => D.G (grpOf t s) (posOf s) (rowOf t r).val)) (r : Fin 2048) (q : Fin 128) :
    outB (dyT m c t) (iblk m c 12 t) g23 g24 (iblk m c 8 t) (ix2 r q) = D.du (kW m c) (fun g p h => bRe m c g p h) (fun g p h => bIm m c g p h) (rowOf t r) (colOf t q) := by
  refine (outB_apply _ _ _ _ _ r q).trans ?_
  unfold Data.du
  have eg : ∀ k : Fin 512, q.val / 16 = k.val / 64 → grpOf t k = grp (colOf t q) := fun k hk => Fin.ext (by show t.val / 2 * 8 + k.val / 64 = (t.val / 2 * 128 + q.val) / 16; omega)
  refine congrArg₂ (fun x y : EReal => x + y) (congrArg₂ (fun x y : EReal => x * y) (dyT_at m c t hD r q) (blk12 m c t q)) ((add_comm _ _).trans (congrArg₂ (fun x y : EReal => x + y) ?_ ?_))
  · refine sum_block 64 (q.val / 16) (by omega) (fun k : Fin 512 => _) _ (fun k hk => ?_) (fun h k hk => ?_)
    · refine (congrArg (fun x : EReal => g24 (ix2 r k) * x) ((blk8 m c t _ q).trans ((bdt_im_row m c (blkOf t) _ k (by simp) (by simp) (by show 512 + k.val < 1024; omega) q).trans (congrArg (fun x : EReal => _ * x) (if_neg hk))))).trans ?_
      simp only [mul_zero]
    · have e1 : q.val / 16 = k.val / 64 := by omega
      have e2 : posOf k = h := Fin.ext (by show k.val % 64 = h.val; omega)
      refine congrArg₂ (fun x y : EReal => x * y) ((hg.im r k).trans ?_) ((blk8 m c t _ q).trans ((bdt_im_row m c (blkOf t) _ k (by simp) (by simp) (by show 512 + k.val < 1024; omega) q).trans ((congrArg (fun x : EReal => _ * x) (if_pos e1)).trans ((mul_one _).trans ?_))))
      · rw [eg k e1, e2]
      · refine congrArg (m ((c : Thread nD τ).loc main_arg7)) ?_
        have a1 : (⟨(blkOf t).val * 8 + q.val / 16, by omega⟩ : Fin 64) = grp (colOf t q) := Fin.ext (by show t.val / 2 * 8 + q.val / 16 = (t.val / 2 * 128 + q.val) / 16; omega)
        have a3 : (⟨q.val % 16, by omega⟩ : Fin 16) = sub (colOf t q) := Fin.ext (by show q.val % 16 = (t.val / 2 * 128 + q.val) % 16; omega)
        have a2 : (⟨k.val % 64, by omega⟩ : Fin 64) = h := e2
        rw [a1, a2, a3]
  · refine sum_block 64 (q.val / 16) (by omega) (fun k : Fin 512 => _) _ (fun k hk => ?_) (fun h k hk => ?_)
    · refine (congrArg (fun x : EReal => g23 (ix2 r k) * x) ((blk8 m c t _ q).trans ((bdt_re_row m c (blkOf t) _ k (by simp) (Nat.zero_le _) k.isLt q).trans (congrArg (fun x : EReal => _ * x) (if_neg hk))))).trans ?_
      simp only [mul_zero]
    · have e1 : q.val / 16 = k.val / 64 := by omega
      have e2 : posOf k = h := Fin.ext (by show k.val % 64 = h.val; omega)
      refine congrArg₂ (fun x y : EReal => x * y) ((hg.re r k).trans ?_) ((blk8 m c t _ q).trans ((bdt_re_row m c (blkOf t) _ k (by simp) (Nat.zero_le _) k.isLt q).trans ((congrArg (fun x : EReal => _ * x) (if_pos e1)).trans ((mul_one _).trans ?_))))
      · rw [eg k e1, e2]
      · refine congrArg (m ((c : Thread nD τ).loc main_arg6)) ?_
        have a1 : (⟨(blkOf t).val * 8 + q.val / 16, by omega⟩ : Fin 64) = grp (colOf t q) := Fin.ext (by show t.val / 2 * 8 + q.val / 16 = (t.val / 2 * 128 + q.val) / 16; omega)
        have a3 : (⟨q.val % 16, by omega⟩ : Fin 16) = sub (colOf t q) := Fin.ext (by show q.val % 16 = (t.val / 2 * 128 + q.val) % 16; omega)
        have a2 : (⟨k.val % 64, by omega⟩ : Fin 64) = h := e2
        rw [a1, a2, a3]

/-- The block of the first result a point leaves. -/
theorem held_du (r : Fin 2048) (q : Fin 128) : (held m c t.val t.isLt).1 (ix2 r q) = D.du (kW m c) (fun g p h => bRe m c g p h) (fun g p h => bIm m c g p h) (rowOf t r) (colOf t q) := by
  by_cases h : t.val % 2 = 0
  · rw [held_late m c t h, late_out m c t h]
    exact out_at m c t hD _ _ (solve_late m c t hD h).2 r q
  · rw [held_early m c t h, early_out m c t h]
    exact out_at m c t hD _ _ (solve_early m c t hD h) r q

/-- A point's own sum. -/
theorem sum_at (q : Fin 128) : sumB (dyT m c t) (iblk m c 3 t) (ix2 0 q) = ∑ r, (D.dy (rowOf t r) (colOf t q) : EReal) * uW m c (rowOf t r) (colOf t q) := by
  have e : sumB (dyT m c t) (iblk m c 3 t) (ix2 0 q) = ∑ r : Fin 2048, dyT m c t (ix2 r q) * (iblk m c 3 t : S2048x128.Idx → EReal) (ix2 r q) := by
    generalize dyT m c t = d
    generalize (iblk m c 3 t : S2048x128.Idx → EReal) = w
    unfold sumB
    pointwise
  rw [e]
  exact Finset.sum_congr rfl fun r _ => congrArg₂ (fun x y : EReal => x * y) (dyT_at m c t hD r q) (blk3 m c t r q)

/-- The second result's block after a point of the earlier half. -/
theorem held_dk (h : ¬t.val % 2 = 0) (q : Fin 128) : (held m c t.val t.isLt).2.1 (ix2 0 q) = D.dk (uW m c) (colOf t q) := by
  have hp : (⟨t.val - 1, by omega⟩ : Fin cfg0.N).val % 2 = 0 := by show (t.val - 1) % 2 = 0; omega
  have e : (held m c (t.val - 1) (by omega)).2.1 = sumB (dyT m c ⟨t.val - 1, by omega⟩) (iblk m c 3 ⟨t.val - 1, by omega⟩) :=
    (congrArg (fun x => x.2.1) (held_late m c (⟨t.val - 1, by omega⟩ : Fin cfg0.N) hp)).trans (late_sum m c _ hp)
  rw [held_early m c t h, early_sum m c t h, ValueIdx.addf_apply, e]
  refine (congrArg₂ (fun x y : EReal => x + y) (sum_at m c _ hD q) (sum_at m c t hD q)).trans ?_
  unfold Data.dk
  have hc : colOf (⟨t.val - 1, by omega⟩ : Fin cfg0.N) q = colOf t q := Fin.ext (by show (t.val - 1) / 2 * 128 + q.val = t.val / 2 * 128 + q.val; omega)
  rw [hc, add_comm]
  refine Eq.trans ?_ (Fin.sum_univ_add (a := 2048) (b := 2048) (fun i : Fin 4096 => (D.dy i (colOf t q) : EReal) * uW m c i (colOf t q))).symm
  refine congrArg₂ (fun x y : EReal => x + y) (Finset.sum_congr rfl fun r _ => ?_) (Finset.sum_congr rfl fun r _ => ?_)
  · have er : rowOf t r = Fin.castAdd 2048 r := Fin.ext (by show (1 - t.val % 2) * 2048 + r.val = r.val; omega)
    rw [er]
  · have er : rowOf (⟨t.val - 1, by omega⟩ : Fin cfg0.N) r = Fin.natAdd 2048 r := Fin.ext (by show (1 - (t.val - 1) % 2) * 2048 + r.val = 2048 + r.val; omega)
    rw [er]

omit hD in
/-- Where an entry of the first result's block stands. -/
theorem emb13 (r : Fin 2048) (q : Fin 128) : (win0_13.blk t).view.emb (ix2 r q) = ix2 (rowOf t r) (colOf t q) := by
  blk_ext [e13 t, rowOf, colOf]

omit hD in
/-- Where an entry of the second result's block stands. -/
theorem emb14 (q : Fin 128) : (win0_14.blk t).view.emb (ix2 0 q) = ix2 0 (colOf t q) := by
  blk_ext [e14 t, colOf]

omit hD in
/-- A table read where the first result's block stands. -/
theorem at13 (X : Fin 4096 → Fin 1024 → EReal) (y : S2048x128.Idx) : (fun i : S4096x1024.Idx => X (i 0) (i 1)) ((win0_13.blk t).view.emb y) = X (rowOf t (y 0)) (colOf t (y 1)) := by
  have ey : y = ix2 (y 0) (y 1) := by funext b; match b with | ⟨0, _⟩ => rfl | ⟨1, _⟩ => rfl
  exact (congrArg (fun y => (fun i : S4096x1024.Idx => X (i 0) (i 1)) ((win0_13.blk t).view.emb y)) ey).trans (congrArg (fun i : S4096x1024.Idx => X (i 0) (i 1)) (emb13 t (y 0) (y 1)))

omit hD in
/-- A table read where the second result's block stands. -/
theorem at14 (X : Fin 1024 → EReal) (y : S1x128.Idx) : (fun i : S1x1024.Idx => X (i 1)) ((win0_14.blk t).view.emb y) = X (colOf t (y 1)) := by
  have ey : y = ix2 0 (y 1) := by funext b; match b with | ⟨0, _⟩ => exact Subsingleton.elim (α := Fin 1) _ _ | ⟨1, _⟩ => rfl
  exact (congrArg (fun y => (fun i : S1x1024.Idx => X (i 1)) ((win0_14.blk t).view.emb y)) ey).trans (congrArg (fun i : S1x1024.Idx => X (i 1)) (emb14 t (y 1)))

/-- The first result's block, entry by entry. -/
theorem flushed_du (y : S2048x128.Idx) : (held m c t.val t.isLt).1 y
    = (fun i : S4096x1024.Idx => D.du (kW m c) (fun g p h => bRe m c g p h) (fun g p h => bIm m c g p h) (i 0) (i 1)) ((win0_13.blk t).view.emb y) := by
  have ey : y = ix2 (y 0) (y 1) := by funext b; match b with | ⟨0, _⟩ => rfl | ⟨1, _⟩ => rfl
  exact (congrArg (held m c t.val t.isLt).1 ey).trans ((held_du m c t hD (y 0) (y 1)).trans (at13 t (D.du (kW m c) (fun g p h => bRe m c g p h) (fun g p h => bIm m c g p h)) y).symm)

/-- The second result's block, entry by entry. -/
theorem flushed_dk (h : ¬t.val % 2 = 0) (y : S1x128.Idx) : (held m c t.val t.isLt).2.1 y
    = (fun i : S1x1024.Idx => D.dk (uW m c) (i 1)) ((win0_14.blk t).view.emb y) := by
  have ey : y = ix2 0 (y 1) := by funext b; match b with | ⟨0, _⟩ => exact Subsingleton.elim (α := Fin 1) _ _ | ⟨1, _⟩ => rfl
  exact (congrArg (held m c t.val t.isLt).2.1 ey).trans ((held_dk m c t hD h (y 1)).trans (at14 t (D.dk (uW m c)) y).symm)

set_option maxHeartbeats 2000000 in
/-- The first result. -/
theorem arr_du : (dats m 0 c).arrAt 13 cfg0.N = fun i : S4096x1024.Idx => D.du (kW m c) (fun g p h => bRe m c g p h) (fun g p h => bIm m c g p h) (i 0) (i 1) := by
  refine (dats m 0 c).arrAt_eq_of_covers 13 _ (by decide +kernel) fun t _ y => ?_
  blk_simp
  rw [after13]
  exact flushed_du m c t hD y

set_option maxHeartbeats 2000000 in
/-- The second result. -/
theorem arr_dk : (dats m 0 c).arrAt 14 cfg0.N = fun i : S1x1024.Idx => D.dk (uW m c) (i 1) := by
  refine (dats m 0 c).arrAt_eq_of_covers 14 _ (by decide +kernel) fun t hf y => ?_
  have hodd : ¬t.val % 2 = 0 := by have := (flush0_14 t).mp hf; omega
  blk_simp
  rw [after14]
  exact flushed_dk m c t hD hodd y

end Cert.Proof.Scan

end
-- ==== Proof.ScanRefLoop.lean ====
/- The adjoint recurrence on the reference's side: the host loop walks the rows of the states' gradients backwards, and
   what it leaves is the recurrence's closed list. -/
module

public import proofs.«01_k».proof.Proof.Gen.ScanReferenceIdeal.Run
public import Idealize.ShloMosaic.Lib.Pointwise
public import Idealize.ShloMosaic.Lib.StableHlo.ReadAt
public import Idealize.ShloMosaic.Lib.WordArith

@[expose] public section

noncomputable section

namespace Cert.Proof.Scan

open Idealize.ShloMosaic Idealize.ShloMosaic.TcCoe Idealize.SL.Sem Cert.ScanReferenceIdeal Cert.ScanReferenceIdeal.Gen Cert.ScanReferenceIdeal.Value
open Idealize.ShloMosaic.StableHlo

/-- Row `4095 - k`: the `k`-th the recurrence reaches. -/
def rev (k : ℕ) : Fin 4096 := ⟨4095 - k, by omega⟩

/-- What the recurrence carries after `k` rows from the last, real and imaginary part: the decay's conjugate times the sum
    of what it carried and of the next row. -/
def carry (X0 X1 : S4096x64x64.Idx → EReal) (lr li : S64x64.Idx → EReal) : ℕ → (S64x64.Idx → EReal) × (S64x64.Idx → EReal)
  | 0 => (fun _ => 0, fun _ => 0)
  | k + 1 =>
    let a : S64x64.Idx → EReal := fun y => (carry X0 X1 lr li k).1 y + X0 (ValueIdx.ix3 (rev k) (y 0) (y 1))
    let b : S64x64.Idx → EReal := fun y => (carry X0 X1 lr li k).2 y + X1 (ValueIdx.ix3 (rev k) (y 0) (y 1))
    (fun y => li y * b y + lr y * a y, fun y => lr y * b y + li y * -a y)

variable (m : (ℓ : Loc nD τ sig) → Buf (Elt Ideal) ℓ) (c : Dev nD)

/-- A buffer's contents at the loop's entry. -/
abbrev ent (b : Ref sig .tc) : (Proc.devRef .tc b : DevRef τ sig).ty.Contents (Elt Ideal) := entryContents preI m c (Proc.devRef .tc b)

/-- The recurrence's list on the loop's entry contents. -/
abbrev car (k : ℕ) := carry (ent m c main_v68_0) (ent m c main_v68_1) (ent m c main_v68_2) (ent m c main_v68_3) k

theorem at_succ (k : ℕ) (j : Ref sig .tc) (hj : j ∈ carriedRefs) : atK m (k + 1) c (Proc.devRef .tc j) = STEP (atK m k c) (Proc.devRef .tc j) :=
  trip_agree (atK m k c) j hj

theorem at_v0 (k : ℕ) : atK m k c (Proc.devRef .tc main_v68_0) = ent m c main_v68_0 := by
  induction k with
  | zero => rfl
  | succ k ih => rw [at_succ m c k _ (by decide), STEP_main_v68_0, ih]

theorem at_v1 (k : ℕ) : atK m k c (Proc.devRef .tc main_v68_1) = ent m c main_v68_1 := by
  induction k with
  | zero => rfl
  | succ k ih => rw [at_succ m c k _ (by decide), STEP_main_v68_1, ih]

theorem at_v2 (k : ℕ) : atK m k c (Proc.devRef .tc main_v68_2) = ent m c main_v68_2 := by
  induction k with
  | zero => rfl
  | succ k ih => rw [at_succ m c k _ (by decide), STEP_main_v68_2, ih]

theorem at_v3 (k : ℕ) : atK m k c (Proc.devRef .tc main_v68_3) = ent m c main_v68_3 := by
  induction k with
  | zero => rfl
  | succ k ih => rw [at_succ m c k _ (by decide), STEP_main_v68_3, ih]

/-- The row the `k`-th trip reads, as the word the program computes. -/
theorem row_word (k : ℕ) (hk : k < 4096) :
    (res_main_while0b_v85 (atK m k c) (Shape.Idx.first h_S_)).toInt = ((4095 - k : ℕ) : ℤ) := by
  have h : res_main_while0b_v85 (atK m k c) (Shape.Idx.first h_S_) = 4096#32 - Scf.iv 0#32 1#32 k - 1#32 := by
    unfold res_main_while0b_v85
    rw [atK_ctr]
    rfl
  have e : (4096#32 - Scf.iv 0#32 1#32 k - 1#32 : BitVec 32) = BitVec.ofNat 32 (4095 - k) := by
    apply BitVec.eq_of_toNat_eq
    simp only [Scf.iv, BitVec.toNat_sub, BitVec.toNat_add, BitVec.toNat_mul, BitVec.toNat_ofNat]
    omega
  rw [h, e, Idealize.ShloMosaic.WordArith.toInt_ofNat_small _ (by omega)]

/-- The start of a row's window: the row's word, and zero on the other two axes. -/
abbrev rowStart (w : S_.Idx → BitVec 32) : Fin 3 → ℤ :=
  fun k => (((![w, constantI S_ 32 0#32, constantI S_ 32 0#32] : Fin 3 → (⟨S_, .i32⟩ : BufTy).Contents (Elt Ideal))) k (Shape.Idx.first h_S_)).toInt

/-- A row cut out at a start inside the array, read at an index. -/
theorem slice_row (X : S4096x64x64.Idx → EReal) (w : S_.Idx → BitVec 32) (r : Fin 4096) (h0 : (w (Shape.Idx.first h_S_)).toInt = r.val) (y : S64x64.Idx) :
    shapeCast S64x64 (Host.dynamicSlice S1x64x64 X (rowStart w) sliceFits_S4096x64x64_S1x64x64) shapeCasts_S1x64x64_S64x64 y = X (ValueIdx.ix3 r (y 0) (y 1)) := by
  have h1 : rowStart w 1 = 0 := rfl
  have h2 : rowStart w 2 = 0 := rfl
  generalize hs : rowStart w = start at *
  have h0 : start 0 = r.val := by rw [← hs]; exact h0
  refine (shapeCast_dropUnit_apply ![64, 64] _ _ y).trans ?_
  rw [Host.dynamicSlice_apply]
  refine congrArg X (funext fun b => Fin.ext ?_)
  have hr := r.isLt
  match b with
  | ⟨0, _⟩ =>
    show Host.clampedStart S4096x64x64 S1x64x64 _ start 0 + 0 = r.val
    rw [Host.clampedStart_of_le _ _ _ r.val h0 (by show r.val + 1 ≤ 4096; omega)]; rfl
  | ⟨1, _⟩ =>
    show Host.clampedStart S4096x64x64 S1x64x64 _ start 1 + (y 0).val = (y 0).val
    rw [Host.clampedStart_of_le _ _ _ 0 h1 (by show 0 + 64 ≤ 64; omega)]; omega
  | ⟨2, _⟩ =>
    show Host.clampedStart S4096x64x64 S1x64x64 _ start 2 + (y 1).val = (y 1).val
    rw [Host.clampedStart_of_le _ _ _ 0 h2 (by show 0 + 64 ≤ 64; omega)]; omega

/-- A row written at a start inside the array, read at an index. -/
theorem update_row (X : S4096x64x64.Idx → EReal) (u : S64x64.Idx → EReal) (w : S_.Idx → BitVec 32) (r : Fin 4096) (h0 : (w (Shape.Idx.first h_S_)).toInt = r.val)
    (t : Fin 4096) (p q : Fin 64) :
    Host.dynamicUpdateSlice X (broadcastInDim S1x64x64 ![1, 2] bcast_S64x64_S1x64x64_1_2 u) (rowStart w) updateFits_S4096x64x64_S1x64x64 (ValueIdx.ix3 t p q)
      = if t = r then u (ValueIdx.ix2 p q) else X (ValueIdx.ix3 t p q) := by
  have h1 : rowStart w 1 = 0 := rfl
  have h2 : rowStart w 2 = 0 := rfl
  generalize hs : rowStart w = start at *
  have h0 : start 0 = r.val := by rw [← hs]; exact h0
  have hr := r.isLt
  have e0 : Host.clampedStart S4096x64x64 S1x64x64 updateFits_S4096x64x64_S1x64x64.1 start 0 = r.val := Host.clampedStart_of_le _ _ _ r.val h0 (by show r.val + 1 ≤ 4096; omega)
  have e1 : Host.clampedStart S4096x64x64 S1x64x64 updateFits_S4096x64x64_S1x64x64.1 start 1 = 0 := Host.clampedStart_of_le _ _ _ 0 h1 (by show 0 + 64 ≤ 64; omega)
  have e2 : Host.clampedStart S4096x64x64 S1x64x64 updateFits_S4096x64x64_S1x64x64.1 start 2 = 0 := Host.clampedStart_of_le _ _ _ 0 h2 (by show 0 + 64 ≤ 64; omega)
  rw [Host.dynamicUpdateSlice_apply]
  by_cases h : t = r
  · subst h
    have hin : ∀ a : Fin S4096x64x64.rank, Host.clampedStart S4096x64x64 S1x64x64 updateFits_S4096x64x64_S1x64x64.1 start a ≤ ((ValueIdx.ix3 t p q : S4096x64x64.Idx) a).val
        ∧ ((ValueIdx.ix3 t p q : S4096x64x64.Idx) a).val < Host.clampedStart S4096x64x64 S1x64x64 updateFits_S4096x64x64_S1x64x64.1 start a + S1x64x64.size (a.cast updateFits_S4096x64x64_S1x64x64.1.symm) := by
      intro a
      match a with
      | ⟨0, _⟩ => show _ ≤ t.val ∧ t.val < _ + 1; erw [e0]; omega
      | ⟨1, _⟩ => show _ ≤ p.val ∧ p.val < _ + 64; erw [e1]; have := p.isLt; omega
      | ⟨2, _⟩ => show _ ≤ q.val ∧ q.val < _ + 64; erw [e2]; have := q.isLt; omega
    rw [dif_pos hin, if_pos rfl]
    refine broadcastInDim_apply _ _ _ _ (ValueIdx.ix2 p q) fun a => ?_
    match a with
    | ⟨0, _⟩ => show p.val = p.val - _; erw [e1]; rfl
    | ⟨1, _⟩ => show q.val = q.val - _; erw [e2]; rfl
  · rw [if_neg h, dif_neg]
    intro hin
    have := hin 0
    rw [e0] at this
    have h3 : r.val ≤ t.val ∧ t.val < r.val + 1 := this
    exact h (Fin.ext (by omega))

/-- The loop's contents after `k` trips: what it carries, and the rows it has written. -/
theorem loop_at (h5 : ∀ y, ent m c main_v68_5 y = (0 : EReal)) (h6 : ∀ y, ent m c main_v68_6 y = (0 : EReal)) : ∀ k, k ≤ 4096 →
    (∀ y, atK m k c (Proc.devRef .tc main_v68_5) y = (car m c k).1 y)
    ∧ (∀ y, atK m k c (Proc.devRef .tc main_v68_6) y = (car m c k).2 y)
    ∧ (∀ (t : Fin 4096) (p q : Fin 64), 4096 - k ≤ t.val → atK m k c (Proc.devRef .tc main_v68_7) (ValueIdx.ix3 t p q)
        = (car m c (4095 - t.val)).1 (ValueIdx.ix2 p q) + ent m c main_v68_0 (ValueIdx.ix3 t p q))
    ∧ (∀ (t : Fin 4096) (p q : Fin 64), 4096 - k ≤ t.val → atK m k c (Proc.devRef .tc main_v68_8) (ValueIdx.ix3 t p q)
        = (car m c (4095 - t.val)).2 (ValueIdx.ix2 p q) + ent m c main_v68_1 (ValueIdx.ix3 t p q))
  | 0, _ => by
    refine ⟨fun y => ?_, fun y => ?_, fun t _ _ h => absurd t.isLt (by omega), fun t _ _ h => absurd t.isLt (by omega)⟩
    · exact h5 y
    · exact h6 y
  | k + 1, hk => by
    obtain ⟨i5, i6, i7, i8⟩ := loop_at h5 h6 k (by omega)
    have w0 := row_word m c k (by omega)
    have h88 : ∀ y, res_main_while0b_v88 (atK m k c) y = (car m c k).1 y + ent m c main_v68_0 (ValueIdx.ix3 (rev k) (y 0) (y 1)) := fun y => by
      unfold res_main_while0b_v88
      rw [addf_apply, at_v0, i5]
      exact congrArg (fun a : EReal => (car m c k).1 y + a) (slice_row _ _ (rev k) w0 y)
    have h89 : ∀ y, res_main_while0b_v89 (atK m k c) y = (car m c k).2 y + ent m c main_v68_1 (ValueIdx.ix3 (rev k) (y 0) (y 1)) := fun y => by
      unfold res_main_while0b_v89
      rw [addf_apply, at_v1, i6]
      exact congrArg (fun a : EReal => (car m c k).2 y + a) (slice_row _ _ (rev k) w0 y)
    refine ⟨fun y => ?_, fun y => ?_, fun t p q h => ?_, fun t p q h => ?_⟩
    · rw [at_succ m c k _ (by decide), STEP_main_v68_5, step_main_v68_5, id, addf_apply, mulf_apply, mulf_apply, at_v2, at_v3, h88, h89]
      rfl
    · rw [at_succ m c k _ (by decide), STEP_main_v68_6, step_main_v68_6, id, addf_apply, mulf_apply, mulf_apply, at_v2, at_v3, h89]
      have hn : Host.negf (res_main_while0b_v88 (atK m k c)) y = -((car m c k).1 y + ent m c main_v68_0 (ValueIdx.ix3 (rev k) (y 0) (y 1))) := by
        rw [← h88]; rfl
      rw [hn]
      rfl
    · rw [at_succ m c k _ (by decide), STEP_main_v68_7, step_main_v68_7, id]
      refine (update_row _ _ _ (rev k) w0 t p q).trans ?_
      by_cases ht : t = rev k
      · rw [if_pos ht, h88, ht, show 4095 - (rev k).val = k by simp only [rev]; omega]; rfl
      · rw [if_neg ht]
        exact i7 t p q (by have : t.val ≠ 4095 - k := fun e => ht (Fin.ext e)
                           omega)
    · rw [at_succ m c k _ (by decide), STEP_main_v68_8, step_main_v68_8, id]
      refine (update_row _ _ _ (rev k) w0 t p q).trans ?_
      by_cases ht : t = rev k
      · rw [if_pos ht, h89, ht, show 4095 - (rev k).val = k by simp only [rev]; omega]; rfl
      · rw [if_neg ht]
        exact i8 t p q (by have : t.val ≠ 4095 - k := fun e => ht (Fin.ext e)
                           omega)

end Cert.Proof.Scan

end
-- ==== Proof.ScanRefA.lean ====
/- What the reference's program holds at its loop's entry and at its end: the loop's starting values. -/
module

public import proofs.«01_k».proof.Proof.ScanRefLoop
public import proofs.«01_k».proof.Proof.ScanMath

@[expose] public section

set_option maxHeartbeats 1000000

noncomputable section

namespace Cert.Proof.Scan

open Idealize.ShloMosaic Idealize.ShloMosaic.TcCoe Idealize.SL.Sem Cert.ScanReferenceIdeal Cert.ScanReferenceIdeal.Gen Cert.ScanReferenceIdeal.Value
open Idealize.ShloMosaic.StableHlo

variable (m : (ℓ : Loc nD τ sig) → Buf (Elt Ideal) ℓ) (c : Dev nD)

theorem ent_v5 (y : S64x64.Idx) : ent m c main_v68_5 y = (0 : EReal) := by
  unfold ent entryContents
  simp only [afterL_cons, afterL_nil]
  after_reads_at
  exact Ideal.ofBits_zero_f32

theorem ent_v6 (y : S64x64.Idx) : ent m c main_v68_6 y = (0 : EReal) := by
  unfold ent entryContents
  simp only [afterL_cons, afterL_nil]
  after_reads_at
  exact Ideal.ofBits_zero_f32

theorem ent_v2 (y : S64x64.Idx) : ent m c main_v68_2 y = (m ((c : Thread nD τ).loc main_arg10) y : EReal) := by
  unfold ent entryContents
  simp only [afterL_cons, afterL_nil]
  after_reads_at
  rfl

theorem ent_v3 (y : S64x64.Idx) : ent m c main_v68_3 y = (m ((c : Thread nD τ).loc main_arg11) y : EReal) := by
  unfold ent entryContents
  simp only [afterL_cons, afterL_nil]
  after_reads_at
  rfl

end Cert.Proof.Scan

end
-- ==== Proof.ScanRefB.lean ====
/- What the reference's program holds at its loop's entry and at its end: the drive's real parts. -/
module

public import proofs.«01_k».proof.Proof.ScanRefLoop
public import proofs.«01_k».proof.Proof.ScanMath

@[expose] public section

set_option maxHeartbeats 1000000

noncomputable section

namespace Cert.Proof.Scan

open Idealize.ShloMosaic Idealize.ShloMosaic.TcCoe Idealize.SL.Sem Cert.ScanReferenceIdeal Cert.ScanReferenceIdeal.Gen Cert.ScanReferenceIdeal.Value
open Idealize.ShloMosaic.StableHlo

variable (m : (ℓ : Loc nD τ sig) → Buf (Elt Ideal) ℓ) (c : Dev nD)

theorem ent_v0 (t : Fin 4096) (g p : Fin 64) : ent m c main_v68_0 (ValueIdx.ix3 t g p) = ∑ h : Fin 16, dyE (m ((c : Thread nD τ).loc main_arg0) (ValueIdx.ix2 t ⟨g.val * 16 + h.val, by omega⟩)) (m ((c : Thread nD τ).loc main_arg1) (ValueIdx.ix2 t ⟨g.val * 16 + h.val, by omega⟩)) (m ((c : Thread nD τ).loc main_arg2) (ValueIdx.ix2 t ⟨g.val * 16 + h.val, by omega⟩)) * (m ((c : Thread nD τ).loc main_arg8) (ValueIdx.ix3 g h p) : EReal) := by
  unfold ent entryContents
  simp only [afterL_cons, afterL_nil]
  after_reads_at
  simp only [id_eq]
  pointwise
  rfl

end Cert.Proof.Scan

end
-- ==== Proof.ScanRefC.lean ====
/- What the reference's program holds at its loop's entry and at its end: the drive's imaginary parts. -/
module

public import proofs.«01_k».proof.Proof.ScanRefLoop
public import proofs.«01_k».proof.Proof.ScanMath

@[expose] public section

set_option maxHeartbeats 1000000

noncomputable section

namespace Cert.Proof.Scan

open Idealize.ShloMosaic Idealize.ShloMosaic.TcCoe Idealize.SL.Sem Cert.ScanReferenceIdeal Cert.ScanReferenceIdeal.Gen Cert.ScanReferenceIdeal.Value
open Idealize.ShloMosaic.StableHlo

variable (m : (ℓ : Loc nD τ sig) → Buf (Elt Ideal) ℓ) (c : Dev nD)

theorem ent_v1 (t : Fin 4096) (g p : Fin 64) : ent m c main_v68_1 (ValueIdx.ix3 t g p) = ∑ h : Fin 16, -dyE (m ((c : Thread nD τ).loc main_arg0) (ValueIdx.ix2 t ⟨g.val * 16 + h.val, by omega⟩)) (m ((c : Thread nD τ).loc main_arg1) (ValueIdx.ix2 t ⟨g.val * 16 + h.val, by omega⟩)) (m ((c : Thread nD τ).loc main_arg2) (ValueIdx.ix2 t ⟨g.val * 16 + h.val, by omega⟩)) * (m ((c : Thread nD τ).loc main_arg9) (ValueIdx.ix3 g h p) : EReal) := by
  unfold ent entryContents
  simp only [afterL_cons, afterL_nil]
  after_reads_at
  simp only [id_eq]
  pointwise
  rfl

end Cert.Proof.Scan

end
-- ==== Proof.ScanRefD.lean ====
/- What the reference's program holds at its loop's entry and at its end: the first result. -/
module

public import proofs.«01_k».proof.Proof.ScanRefLoop
public import proofs.«01_k».proof.Proof.ScanMath

@[expose] public section

set_option maxHeartbeats 1000000

noncomputable section

namespace Cert.Proof.Scan

open Idealize.ShloMosaic Idealize.ShloMosaic.TcCoe Idealize.SL.Sem Cert.ScanReferenceIdeal Cert.ScanReferenceIdeal.Gen Cert.ScanReferenceIdeal.Value
open Idealize.ShloMosaic.StableHlo

variable (m : (ℓ : Loc nD τ sig) → Buf (Elt Ideal) ℓ) (c : Dev nD)

/-- The direct path after the loop. -/
abbrev dirV (t : Fin 4096) (q : Fin 1024) : EReal := atK m 4096 c (Proc.devRef .tc main_v50) (ValueIdx.ix2 t q)

/-- The gradients of the states the loop leaves. -/
abbrev stRe (t : Fin 4096) (g p : Fin 64) : EReal := atK m 4096 c (Proc.devRef .tc main_v68_7) (ValueIdx.ix3 t g p)

/-- Their imaginary parts. -/
abbrev stIm (t : Fin 4096) (g p : Fin 64) : EReal := atK m 4096 c (Proc.devRef .tc main_v68_8) (ValueIdx.ix3 t g p)

/-- The input matrices after the loop. -/
abbrev inRe (g p : Fin 64) (h : Fin 16) : EReal := atK m 4096 c (Proc.devRef .tc main_arg6) (ValueIdx.ix3 g p h)

/-- Their imaginary parts. -/
abbrev inIm (g p : Fin 64) (h : Fin 16) : EReal := atK m 4096 c (Proc.devRef .tc main_arg7) (ValueIdx.ix3 g p h)

set_option maxRecDepth 65536 in
/-- The first result, over what the loop leaves. -/
theorem fin_v83 (t : Fin 4096) (q : Fin 1024) : finalContents condOps preI bodyI postI 4096 m c (Proc.devRef .tc main_v83) (ValueIdx.ix2 t q)
    = dirV m c t q
      + (∑ x : Fin 64, stIm m c t ⟨q.val / 16, by omega⟩ x * inIm m c ⟨q.val / 16, by omega⟩ x ⟨q.val % 16, by omega⟩
        + ∑ x : Fin 64, stRe m c t ⟨q.val / 16, by omega⟩ x * inRe m c ⟨q.val / 16, by omega⟩ x ⟨q.val % 16, by omega⟩) := by
  unfold finalContents
  simp only [afterL_cons, afterL_nil]
  after_reads_at
  rfl

end Cert.Proof.Scan

end
-- ==== Proof.ScanRefE.lean ====
/- What the reference's program holds at its loop's entry and at its end: the second result. -/
module

public import proofs.«01_k».proof.Proof.ScanRefLoop
public import proofs.«01_k».proof.Proof.ScanMath

@[expose] public section

set_option maxHeartbeats 1000000

noncomputable section

namespace Cert.Proof.Scan

open Idealize.ShloMosaic Idealize.ShloMosaic.TcCoe Idealize.SL.Sem Cert.ScanReferenceIdeal Cert.ScanReferenceIdeal.Gen Cert.ScanReferenceIdeal.Value
open Idealize.ShloMosaic.StableHlo

variable (m : (ℓ : Loc nD τ sig) → Buf (Elt Ideal) ℓ) (c : Dev nD)

theorem fin_v53 (q : Fin 1024) : finalContents condOps preI bodyI postI 4096 m c (Proc.devRef .tc main_v53) (ValueIdx.ix2 0 q) = (atK m 4096 c (Proc.devRef .tc main_v53) (ValueIdx.ix2 0 q) : EReal) := by
  unfold finalContents
  simp only [afterL_cons, afterL_nil]
  after_reads_at

end Cert.Proof.Scan

end
-- ==== Proof.ScanRefF.lean ====
/- What the reference's program holds at its loop's entry and at its end: the direct path. -/
module

public import proofs.«01_k».proof.Proof.ScanRefLoop
public import proofs.«01_k».proof.Proof.ScanMath

@[expose] public section

set_option maxHeartbeats 1000000

noncomputable section

namespace Cert.Proof.Scan

open Idealize.ShloMosaic Idealize.ShloMosaic.TcCoe Idealize.SL.Sem Cert.ScanReferenceIdeal Cert.ScanReferenceIdeal.Gen Cert.ScanReferenceIdeal.Value
open Idealize.ShloMosaic.StableHlo

variable (m : (ℓ : Loc nD τ sig) → Buf (Elt Ideal) ℓ) (c : Dev nD)

theorem ent_v50 (t : Fin 4096) (q : Fin 1024) : ent m c main_v50 (ValueIdx.ix2 t q) = dyE (m ((c : Thread nD τ).loc main_arg0) (ValueIdx.ix2 t q)) (m ((c : Thread nD τ).loc main_arg1) (ValueIdx.ix2 t q)) (m ((c : Thread nD τ).loc main_arg2) (ValueIdx.ix2 t q))  * (m ((c : Thread nD τ).loc main_arg12) (ValueIdx.ix2 0 q) : EReal) := by
  unfold ent entryContents
  simp only [afterL_cons, afterL_nil]
  after_reads_at
  refine (mul_comm (_ : EReal) _).trans ?_
  rfl

end Cert.Proof.Scan

end
-- ==== Proof.ScanRefG.lean ====
/- What the reference's program holds at its loop's entry and at its end: the direct path's weights. -/
module

public import proofs.«01_k».proof.Proof.ScanRefLoop
public import proofs.«01_k».proof.Proof.ScanMath

@[expose] public section

set_option maxHeartbeats 1000000

noncomputable section

namespace Cert.Proof.Scan

open Idealize.ShloMosaic Idealize.ShloMosaic.TcCoe Idealize.SL.Sem Cert.ScanReferenceIdeal Cert.ScanReferenceIdeal.Gen Cert.ScanReferenceIdeal.Value
open Idealize.ShloMosaic.StableHlo

variable (m : (ℓ : Loc nD τ sig) → Buf (Elt Ideal) ℓ) (c : Dev nD)

theorem ent_v53 (q : Fin 1024) : ent m c main_v53 (ValueIdx.ix2 0 q) = ∑ t : Fin 4096, dyE (m ((c : Thread nD τ).loc main_arg0) (ValueIdx.ix2 t q)) (m ((c : Thread nD τ).loc main_arg1) (ValueIdx.ix2 t q)) (m ((c : Thread nD τ).loc main_arg2) (ValueIdx.ix2 t q)) * (m ((c : Thread nD τ).loc main_arg3) (ValueIdx.ix2 t ⟨2048 + q.val, by omega⟩) : EReal) := by
  unfold ent entryContents
  simp only [afterL_cons, afterL_nil]
  after_reads_at
  rfl

end Cert.Proof.Scan

end
-- ==== Proof.ScanRefH.lean ====
/- What the reference's program holds at its loop's entry and at its end: the input matrices. -/
module

public import proofs.«01_k».proof.Proof.ScanRefLoop
public import proofs.«01_k».proof.Proof.ScanMath

@[expose] public section

set_option maxHeartbeats 1000000

noncomputable section

namespace Cert.Proof.Scan

open Idealize.ShloMosaic Idealize.ShloMosaic.TcCoe Idealize.SL.Sem Cert.ScanReferenceIdeal Cert.ScanReferenceIdeal.Gen Cert.ScanReferenceIdeal.Value
open Idealize.ShloMosaic.StableHlo

variable (m : (ℓ : Loc nD τ sig) → Buf (Elt Ideal) ℓ) (c : Dev nD)

theorem ent_arg6 : ent m c main_arg6 = m ((c : Thread nD τ).loc main_arg6) := by
  unfold ent entryContents
  simp only [afterL_cons, afterL_nil]
  after_results

theorem ent_arg7 : ent m c main_arg7 = m ((c : Thread nD τ).loc main_arg7) := by
  unfold ent entryContents
  simp only [afterL_cons, afterL_nil]
  after_results

end Cert.Proof.Scan

end
-- ==== Proof.ScanRefKeep.lean ====
/- What the reference's program holds at its loop's entry and at its end: what the loop leaves. -/
module

public import proofs.«01_k».proof.Proof.ScanRefLoop
public import proofs.«01_k».proof.Proof.ScanMath

@[expose] public section

set_option maxHeartbeats 1000000

noncomputable section

namespace Cert.Proof.Scan

open Idealize.ShloMosaic Idealize.ShloMosaic.TcCoe Idealize.SL.Sem Cert.ScanReferenceIdeal Cert.ScanReferenceIdeal.Gen Cert.ScanReferenceIdeal.Value
open Idealize.ShloMosaic.StableHlo

variable (m : (ℓ : Loc nD τ sig) → Buf (Elt Ideal) ℓ) (c : Dev nD)

set_option maxRecDepth 8192 in
/-- A trip leaves `main_v50`. -/
theorem trip_v50 (V0 : Valuation τ sig (Elt Ideal)) : afterL bodyI V0 (Proc.devRef .tc main_v50) = V0 (Proc.devRef .tc main_v50) := by
  simp only [bodyI, afterL_cons, afterL_nil, trip_windows]
  after_results
  exact (val8_keep V0 main_v50 (by decide)).trans <| (val7_keep V0 main_v50 (by decide)).trans <| (val6_keep V0 main_v50 (by decide)).trans <| (val5_keep V0 main_v50 (by decide)).trans <|
    (val4_keep V0 main_v50 (by decide)).trans <| (val3_keep V0 main_v50 (by decide)).trans <| (val2_keep V0 main_v50 (by decide)).trans (val1_keep V0 main_v50 (by decide))

/-- So does the loop. -/
theorem at_v50 (k : ℕ) : atK m k c (Proc.devRef .tc main_v50) = ent m c main_v50 := by
  induction k with
  | zero => rfl
  | succ k ih =>
    rw [show atK m (k + 1) c = afterL bodyI (after condOps (atK m k c)) from rfl, trip_v50]
    exact (after_of_writes_sub condOps _ condOps_writes (by decide)).trans ih

set_option maxRecDepth 8192 in
/-- A trip leaves `main_v53`. -/
theorem trip_v53 (V0 : Valuation τ sig (Elt Ideal)) : afterL bodyI V0 (Proc.devRef .tc main_v53) = V0 (Proc.devRef .tc main_v53) := by
  simp only [bodyI, afterL_cons, afterL_nil, trip_windows]
  after_results
  exact (val8_keep V0 main_v53 (by decide)).trans <| (val7_keep V0 main_v53 (by decide)).trans <| (val6_keep V0 main_v53 (by decide)).trans <| (val5_keep V0 main_v53 (by decide)).trans <|
    (val4_keep V0 main_v53 (by decide)).trans <| (val3_keep V0 main_v53 (by decide)).trans <| (val2_keep V0 main_v53 (by decide)).trans (val1_keep V0 main_v53 (by decide))

/-- So does the loop. -/
theorem at_v53 (k : ℕ) : atK m k c (Proc.devRef .tc main_v53) = ent m c main_v53 := by
  induction k with
  | zero => rfl
  | succ k ih =>
    rw [show atK m (k + 1) c = afterL bodyI (after condOps (atK m k c)) from rfl, trip_v53]
    exact (after_of_writes_sub condOps _ condOps_writes (by decide)).trans ih

set_option maxRecDepth 8192 in
/-- A trip leaves `main_arg6`. -/
theorem trip_arg6 (V0 : Valuation τ sig (Elt Ideal)) : afterL bodyI V0 (Proc.devRef .tc main_arg6) = V0 (Proc.devRef .tc main_arg6) := by
  simp only [bodyI, afterL_cons, afterL_nil, trip_windows]
  after_results
  exact (val8_keep V0 main_arg6 (by decide)).trans <| (val7_keep V0 main_arg6 (by decide)).trans <| (val6_keep V0 main_arg6 (by decide)).trans <| (val5_keep V0 main_arg6 (by decide)).trans <|
    (val4_keep V0 main_arg6 (by decide)).trans <| (val3_keep V0 main_arg6 (by decide)).trans <| (val2_keep V0 main_arg6 (by decide)).trans (val1_keep V0 main_arg6 (by decide))

/-- So does the loop. -/
theorem at_arg6 (k : ℕ) : atK m k c (Proc.devRef .tc main_arg6) = ent m c main_arg6 := by
  induction k with
  | zero => rfl
  | succ k ih =>
    rw [show atK m (k + 1) c = afterL bodyI (after condOps (atK m k c)) from rfl, trip_arg6]
    exact (after_of_writes_sub condOps _ condOps_writes (by decide)).trans ih

set_option maxRecDepth 8192 in
/-- A trip leaves `main_arg7`. -/
theorem trip_arg7 (V0 : Valuation τ sig (Elt Ideal)) : afterL bodyI V0 (Proc.devRef .tc main_arg7) = V0 (Proc.devRef .tc main_arg7) := by
  simp only [bodyI, afterL_cons, afterL_nil, trip_windows]
  after_results
  exact (val8_keep V0 main_arg7 (by decide)).trans <| (val7_keep V0 main_arg7 (by decide)).trans <| (val6_keep V0 main_arg7 (by decide)).trans <| (val5_keep V0 main_arg7 (by decide)).trans <|
    (val4_keep V0 main_arg7 (by decide)).trans <| (val3_keep V0 main_arg7 (by decide)).trans <| (val2_keep V0 main_arg7 (by decide)).trans (val1_keep V0 main_arg7 (by decide))

/-- So does the loop. -/
theorem at_arg7 (k : ℕ) : atK m k c (Proc.devRef .tc main_arg7) = ent m c main_arg7 := by
  induction k with
  | zero => rfl
  | succ k ih =>
    rw [show atK m (k + 1) c = afterL bodyI (after condOps (atK m k c)) from rfl, trip_arg7]
    exact (after_of_writes_sub condOps _ condOps_writes (by decide)).trans ih

end Cert.Proof.Scan

end
-- ==== Proof.ScanRefValue.lean ====
/- What the reference's program computes on real arrays. -/
module

public import proofs.«01_k».proof.Proof.ScanRefA
public import proofs.«01_k».proof.Proof.ScanRefB
public import proofs.«01_k».proof.Proof.ScanRefC
public import proofs.«01_k».proof.Proof.ScanRefD
public import proofs.«01_k».proof.Proof.ScanRefE
public import proofs.«01_k».proof.Proof.ScanRefF
public import proofs.«01_k».proof.Proof.ScanRefG
public import proofs.«01_k».proof.Proof.ScanRefH
public import proofs.«01_k».proof.Proof.ScanRefKeep
public import proofs.«01_k».proof.Proof.ScanTruth
public import proofs.«01_k».proof.Proof.ScanPoint

@[expose] public section

noncomputable section

namespace Cert.Proof.Scan

open Idealize.ShloMosaic Idealize.ShloMosaic.TcCoe Idealize.SL.Sem Cert.ScanReferenceIdeal Cert.ScanReferenceIdeal.Gen Cert.ScanReferenceIdeal.Value
open Idealize.ShloMosaic.StableHlo

/-- One step of the recurrence in parts, as the reference writes it. -/
theorem carry_step (li lr c1 c2 x0 x1 : EReal) (μ z w : ℂ) (hli : li = ((-μ.im : ℝ) : EReal)) (hlr : lr = (μ.re : EReal)) (h1 : c1 = ((μ * z).re : EReal)) (h2 : c2 = ((μ * z).im : EReal))
    (h3 : x0 = (w.re : EReal)) (h4 : x1 = (w.im : EReal)) :
    li * (c2 + x1) + lr * (c1 + x0) = ((μ * (w + μ * z)).re : EReal) ∧ lr * (c2 + x1) + li * -(c1 + x0) = ((μ * (w + μ * z)).im : EReal) := by
  subst hli hlr h1 h2 h3 h4
  simp only [← EReal.coe_add, ← EReal.coe_neg, ← EReal.coe_mul]
  constructor <;> congr 1 <;> simp only [Complex.mul_re, Complex.mul_im, Complex.add_re, Complex.add_im] <;> ring

variable (m : (ℓ : Loc nD τ sig) → Buf (Elt Ideal) ℓ) (c : Dev nD) (D : Data)

/-- The reference's argument arrays hold the real numbers. -/
abbrev RefFits : Prop := D.Fits (fun t q => m ((c : Thread nD τ).loc main_arg0) (ValueIdx.ix2 t q)) (fun t q => m ((c : Thread nD τ).loc main_arg1) (ValueIdx.ix2 t q)) (fun t q => m ((c : Thread nD τ).loc main_arg2) (ValueIdx.ix2 t q))
  (fun g h p => m ((c : Thread nD τ).loc main_arg8) (ValueIdx.ix3 g h p)) (fun g h p => m ((c : Thread nD τ).loc main_arg9) (ValueIdx.ix3 g h p))
  (fun g p => m ((c : Thread nD τ).loc main_arg10) (ValueIdx.ix2 g p)) (fun g p => m ((c : Thread nD τ).loc main_arg11) (ValueIdx.ix2 g p))

variable {D} (hD : RefFits m c D)
include hD

theorem drive0 (t : Fin 4096) (g p : Fin 64) : ent m c main_v68_0 (ValueIdx.ix3 t g p) = ((D.x g p t.val).re : EReal) := by
  rw [ent_v0, D.x_fin]
  show _ = ((∑ h, D.dy t (chan g h) * D.cr g h p : ℝ) : EReal)
  rw [coe_sum]
  refine Finset.sum_congr rfl fun h _ => ?_
  rw [EReal.coe_mul]
  exact congrArg₂ (fun x y : EReal => x * y) (Data.Fits.slope D hD t (chan g h)) (hD.h8 g h p)

theorem drive1 (t : Fin 4096) (g p : Fin 64) : ent m c main_v68_1 (ValueIdx.ix3 t g p) = ((D.x g p t.val).im : EReal) := by
  rw [ent_v1, D.x_fin]
  show _ = ((-∑ h, D.dy t (chan g h) * D.ci g h p : ℝ) : EReal)
  rw [← Finset.sum_neg_distrib, coe_sum]
  refine Finset.sum_congr rfl fun h _ => ?_
  rw [← neg_mul, EReal.coe_mul, EReal.coe_neg]
  exact congrArg₂ (fun x y : EReal => -x * y) (Data.Fits.slope D hD t (chan g h)) (hD.h9 g h p)

theorem car_real (g p : Fin 64) : ∀ k, (car m c k).1 (ValueIdx.ix2 g p) = ((D.μ g p * acc (D.μ g p) (D.x g p) k).re : EReal)
    ∧ (car m c k).2 (ValueIdx.ix2 g p) = ((D.μ g p * acc (D.μ g p) (D.x g p) k).im : EReal)
  | 0 => by
    show (0 : EReal) = _ ∧ (0 : EReal) = _
    simp [acc]
  | k + 1 => by
    obtain ⟨i1, i2⟩ := car_real g p k
    exact carry_step (ent m c main_v68_3 (ValueIdx.ix2 g p)) (ent m c main_v68_2 (ValueIdx.ix2 g p)) _ _ _ _ (D.μ g p) _ (D.x g p (rev k).val)
      ((ent_v3 m c _).trans ((hD.h11 g p).trans (by simp [Data.μ]))) ((ent_v2 m c _).trans (hD.h10 g p)) i1 i2 (drive0 m c hD (rev k) g p) (drive1 m c hD (rev k) g p)

/-- The states' gradients the loop leaves. -/
theorem state_at (t : Fin 4096) (g p : Fin 64) : atK m 4096 c (Proc.devRef .tc main_v68_7) (ValueIdx.ix3 t g p) = ((D.G g p t.val).re : EReal)
    ∧ atK m 4096 c (Proc.devRef .tc main_v68_8) (ValueIdx.ix3 t g p) = ((D.G g p t.val).im : EReal) := by
  obtain ⟨-, -, l7, l8⟩ := loop_at m c (ent_v5 m c) (ent_v6 m c) 4096 (le_refl _)
  obtain ⟨c1, c2⟩ := car_real m c hD g p (4095 - t.val)
  have e : D.G g p t.val = D.x g p t.val + D.μ g p * acc (D.μ g p) (D.x g p) (4095 - t.val) := by
    rw [D.G_step g p _ t.isLt]
    show _ + _ * acc _ _ (4096 - (t.val + 1)) = _
    rw [show 4096 - (t.val + 1) = 4095 - t.val by omega]
  rw [e, Complex.add_re, Complex.add_im, EReal.coe_add, EReal.coe_add, add_comm ((D.x g p t.val).re : EReal), add_comm ((D.x g p t.val).im : EReal)]
  exact ⟨(l7 t g p (by omega)).trans (congrArg₂ (fun x y : EReal => x + y) c1 (drive0 m c hD t g p)), (l8 t g p (by omega)).trans (congrArg₂ (fun x y : EReal => x + y) c2 (drive1 m c hD t g p))⟩

/-- The reference's first result. -/
theorem ref_du (t : Fin 4096) (q : Fin 1024) : finalContents condOps preI bodyI postI 4096 m c (Proc.devRef .tc main_v83) (ValueIdx.ix2 t q)
    = D.du (fun q => m ((c : Thread nD τ).loc main_arg12) (ValueIdx.ix2 0 q)) (fun g p h => m ((c : Thread nD τ).loc main_arg6) (ValueIdx.ix3 g p h)) (fun g p h => m ((c : Thread nD τ).loc main_arg7) (ValueIdx.ix3 g p h)) t q := by
  refine (fin_v83 m c t q).trans ?_
  unfold Data.du
  refine congrArg₂ (fun x y : EReal => x + y) ?_ (congrArg₂ (fun x y : EReal => x + y) (Finset.sum_congr rfl fun p _ => ?_) (Finset.sum_congr rfl fun p _ => ?_))
  · exact (congrFun (at_v50 m c 4096) _).trans ((ent_v50 m c t q).trans (congrArg (fun x : EReal => x * _) (Data.Fits.slope D hD t q)))
  · exact congrArg₂ (fun x y : EReal => x * y) (state_at m c hD t (grp q) p).2 (congrFun ((at_arg7 m c 4096).trans (ent_arg7 m c)) _)
  · exact congrArg₂ (fun x y : EReal => x * y) (state_at m c hD t (grp q) p).1 (congrFun ((at_arg6 m c 4096).trans (ent_arg6 m c)) _)

/-- The reference's second result. -/
theorem ref_dk (q : Fin 1024) : finalContents condOps preI bodyI postI 4096 m c (Proc.devRef .tc main_v53) (ValueIdx.ix2 0 q)
    = D.dk (fun t q => m ((c : Thread nD τ).loc main_arg3) (ValueIdx.ix2 t ⟨2048 + q.val, by omega⟩)) q := by
  refine (fin_v53 m c q).trans ((congrFun (at_v53 m c 4096) _).trans ((ent_v53 m c q).trans ?_))
  unfold Data.dk
  exact (Finset.sum_congr rfl fun t _ => congrArg (fun x : EReal => x * _) (Data.Fits.slope D hD t q) :
    (∑ t : Fin 4096, dyE (m ((c : Thread nD τ).loc main_arg0) (ValueIdx.ix2 t q)) (m ((c : Thread nD τ).loc main_arg1) (ValueIdx.ix2 t q)) (m ((c : Thread nD τ).loc main_arg2) (ValueIdx.ix2 t q)) * (m ((c : Thread nD τ).loc main_arg3) (ValueIdx.ix2 t ⟨2048 + q.val, by omega⟩) : EReal) : EReal) = _)

end Cert.Proof.Scan

end
-- ==== Proof.ScanRefArgs.lean ====
/- The reference keeps its arguments. -/
module

public import proofs.«01_k».proof.Proof.Gen.ScanReferenceIdeal.Run
public import Idealize.ShloMosaic.PureOps.Ideal
public import Idealize.ShloMosaic.Adequacy

@[expose] public section

noncomputable section

namespace Cert.Proof.Scan

open Idealize.ShloMosaic Idealize.ShloMosaic.TcCoe Idealize.SL.Sem Cert.ScanReferenceIdeal Cert.ScanReferenceIdeal.Gen Cert.ScanReferenceIdeal.Value
open Idealize.ShloMosaic.StableHlo

variable (m : (ℓ : Loc nD τ sig) → Buf (Elt Ideal) ℓ) (ρ : Dev nD → PrngReg)

/-- What the operations after the loop write. -/
abbrev postI_W : List (Ref sig .tc) := [main_v69, main_v70, main_v71, main_v72, main_v73, main_v74, main_v75, main_v76, main_v77, main_v78, main_v79, main_v80, main_v81, main_v82, main_v83]
theorem postI_writes : (hostOps0_1 : List (HloOp τ sig (Elt Ideal))).Forall fun op => op.writes ⊆ (postI_W.map (Proc.devRef (τ := τ) .tc)).toFinset :=
  StableHlo.forall_writes_sub_of_map rfl

/-- A trip's body leaves a buffer it does not name as a result. -/
theorem body_kept (V0 : Valuation τ sig (Elt Ideal)) (r : Ref sig .tc) (hb : r ∉ while0Ops0_W ∧ r ∉ while0Ops0_1_W ∧ r ∉ while0Ops0_2_W ∧ r ∉ while0Ops0_3_W ∧ r ∉ while0Ops0_4_W ∧ r ∉ while0Ops0_5_W ∧ r ∉ while0Ops0_6_W) :
    afterL bodyI V0 (Proc.devRef .tc r) = V0 (Proc.devRef .tc r) := by
  simp only [bodyI, afterL_cons, afterL_nil]
  exact (after_of_writes_sub while0Ops0_6 _ while0Ops0_6_writes hb.2.2.2.2.2.2).trans ((after_of_writes_sub while0Ops0_5 _ while0Ops0_5_writes hb.2.2.2.2.2.1).trans ((after_of_writes_sub while0Ops0_4 _ while0Ops0_4_writes hb.2.2.2.2.1).trans ((after_of_writes_sub while0Ops0_3 _ while0Ops0_3_writes hb.2.2.2.1).trans ((after_of_writes_sub while0Ops0_2 _ while0Ops0_2_writes hb.2.2.1).trans ((after_of_writes_sub while0Ops0_1 _ while0Ops0_1_writes hb.2.1).trans ((after_of_writes_sub while0Ops0 _ while0Ops0_writes hb.1)))))))

set_option maxRecDepth 65536 in
/-- So does the loop. -/
theorem loop_kept (c : Dev nD) (r : Ref sig .tc) (hc : r ∉ condOps_W) (hb : r ∉ while0Ops0_W ∧ r ∉ while0Ops0_1_W ∧ r ∉ while0Ops0_2_W ∧ r ∉ while0Ops0_3_W ∧ r ∉ while0Ops0_4_W ∧ r ∉ while0Ops0_5_W ∧ r ∉ while0Ops0_6_W) (k : ℕ) :
    atK m k c (Proc.devRef .tc r) = entryContents preI m c (Proc.devRef .tc r) := by
  induction k with
  | zero => rfl
  | succ k ih =>
    rw [show atK m (k + 1) c = afterL bodyI (after condOps (atK m k c)) from rfl, body_kept _ r hb]
    exact (after_of_writes_sub condOps _ condOps_writes hc).trans ih

set_option maxRecDepth 65536 in
/-- And the whole program. -/
theorem final_kept (c : Dev nD) (r : Ref sig .tc) (hp : r ∉ hostOps0_W) (hq : r ∉ postI_W) (hc : r ∉ condOps_W) (hb : r ∉ while0Ops0_W ∧ r ∉ while0Ops0_1_W ∧ r ∉ while0Ops0_2_W ∧ r ∉ while0Ops0_3_W ∧ r ∉ while0Ops0_4_W ∧ r ∉ while0Ops0_5_W ∧ r ∉ while0Ops0_6_W) :
    finalContents condOps preI bodyI postI 4096 m c (Proc.devRef .tc r) = m ((c.tc : Thread nD τ).loc r) := by
  unfold finalContents
  simp only [postI, afterL_cons, afterL_nil]
  refine (after_of_writes_sub hostOps0_1 _ postI_writes hq).trans ((after_of_writes_sub condOps _ condOps_writes hc).trans ((loop_kept m c r hc hb 4096).trans ?_))
  exact (after_of_writes_sub hostOps0 _ hostOps0_writes hp).trans rfl

/-- The same, of a buffer none of the stretches names. -/
theorem arg_kept (c : Dev nD) (r : Ref sig .tc) (h : r ∉ hostOps0_W ∧ r ∉ postI_W ∧ r ∉ condOps_W ∧ r ∉ while0Ops0_W ∧ r ∉ while0Ops0_1_W ∧ r ∉ while0Ops0_2_W ∧ r ∉ while0Ops0_3_W ∧ r ∉ while0Ops0_4_W ∧ r ∉ while0Ops0_5_W ∧ r ∉ while0Ops0_6_W) :
    finalContents condOps preI bodyI postI 4096 m c (Proc.devRef .tc r) = m ((c.tc : Thread nD τ).loc r) :=
  final_kept m c r h.1 h.2.1 h.2.2.1 h.2.2.2

/-- The reference runs to its end and keeps its arguments. -/
theorem reference_args : θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  by
  refine (θ_run defs _ _).mono (fun r h c => ?_) (run_fold (F := Ideal) m ρ)
  exact ⟨(h c main_arg0 rfl).trans (arg_kept m c main_arg0 (by decide +kernel)),
    (h c main_arg1 rfl).trans (arg_kept m c main_arg1 (by decide +kernel)),
    (h c main_arg2 rfl).trans (arg_kept m c main_arg2 (by decide +kernel)),
    (h c main_arg3 rfl).trans (arg_kept m c main_arg3 (by decide +kernel)),
    (h c main_arg4 rfl).trans (arg_kept m c main_arg4 (by decide +kernel)),
    (h c main_arg5 rfl).trans (arg_kept m c main_arg5 (by decide +kernel)),
    (h c main_arg6 rfl).trans (arg_kept m c main_arg6 (by decide +kernel)),
    (h c main_arg7 rfl).trans (arg_kept m c main_arg7 (by decide +kernel)),
    (h c main_arg8 rfl).trans (arg_kept m c main_arg8 (by decide +kernel)),
    (h c main_arg9 rfl).trans (arg_kept m c main_arg9 (by decide +kernel)),
    (h c main_arg10 rfl).trans (arg_kept m c main_arg10 (by decide +kernel)),
    (h c main_arg11 rfl).trans (arg_kept m c main_arg11 (by decide +kernel)),
    (h c main_arg12 rfl).trans (arg_kept m c main_arg12 (by decide +kernel))⟩

end Cert.Proof.Scan

end
-- ==== Proof.ScanClaim.lean ====
/- The claims about the scan's gradient. -/
module

public import proofs.«01_k».proof.Defs
public import proofs.«01_k».proof.Proof.Gen.Pre_finite
public import proofs.«01_k».proof.Proof.ScanRun
public import proofs.«01_k».proof.Proof.ScanFinite
public import proofs.«01_k».proof.Proof.ScanValueB
public import proofs.«01_k».proof.Proof.ScanRefValue
public import proofs.«01_k».proof.Proof.ScanRefArgs
public import Idealize.ShloMosaic.Adequacy

@[expose] public section

noncomputable section

namespace Cert.Proof.Scan

open Idealize.ShloMosaic Idealize.ShloMosaic.TcCoe Idealize.SL.Sem

/-- The kernel over the extended reals: it runs to its end, keeps its arguments and leaves every counter at zero. -/
theorem frame_ideal : Cert.quiescent_ScanIdeal := fun m ρ _ => Cert.ScanIdeal.run_args (F := Ideal) m ρ

/-- The same of finite arguments. -/
theorem frame_ideal_finite : Cert.quiescent_ScanIdeal_pre_finite := fun m ρ _ => Cert.ScanIdeal.run_args (F := Ideal) m ρ

/-- The reference runs to its end, keeps its arguments and leaves every counter at zero. -/
theorem frame_reference : Cert.quiescent_ScanReferenceIdeal := fun m ρ _ =>
  (θ_run Cert.ScanReferenceIdeal.defs _ _).mono (fun r h => ⟨h, sem_eq_zero_of_no_sems (by decide) r.2⟩) (reference_args m ρ)

/-- The same of finite arguments. -/
theorem frame_reference_finite : Cert.quiescent_ScanReferenceIdeal_pre_finite := fun m ρ _ =>
  (θ_run Cert.ScanReferenceIdeal.defs _ _).mono (fun r h => ⟨h, sem_eq_zero_of_no_sems (by decide) r.2⟩) (reference_args m ρ)

/-- The first result. -/
def first (D : Data) (k : Cert.ScanIdeal.S1x1024.Idx → EReal) (br bi : Cert.ScanIdeal.S64x64x16.Idx → EReal) : Cert.ScanIdeal.S4096x1024.Idx → EReal :=
  fun i => D.du (fun q => k (ValueIdx.ix2 0 q)) (fun g p h => br (ValueIdx.ix3 g p h)) (fun g p h => bi (ValueIdx.ix3 g p h)) (i 0) (i 1)

/-- The second result. -/
def second (D : Data) (u : Cert.ScanIdeal.S4096x7168.Idx → EReal) : Cert.ScanIdeal.S1x1024.Idx → EReal :=
  fun i => D.dk (fun t q => u (ValueIdx.ix2 t ⟨2048 + q.val, by omega⟩)) (i 1)

/-- The kernel's first array. -/
theorem kernel_first (m : (ℓ : Loc Cert.ScanIdeal.nD Cert.ScanIdeal.τ Cert.ScanIdeal.sig) → Buf (Elt Ideal) ℓ) (c : Dev Cert.ScanIdeal.nD) (D : Data) (hD : KerFits m c D) :
    (Cert.ScanIdeal.dats m 0 c).arrAt 13 Cert.ScanIdeal.cfg0.N = first D (m ((c.tc : Thread Cert.ScanIdeal.nD Cert.ScanIdeal.τ).loc Cert.ScanIdeal.main_arg12)) (m ((c.tc : Thread Cert.ScanIdeal.nD Cert.ScanIdeal.τ).loc Cert.ScanIdeal.main_arg6)) (m ((c.tc : Thread Cert.ScanIdeal.nD Cert.ScanIdeal.τ).loc Cert.ScanIdeal.main_arg7)) :=
  arr_du m c hD

/-- The kernel's second array. -/
theorem kernel_second (m : (ℓ : Loc Cert.ScanIdeal.nD Cert.ScanIdeal.τ Cert.ScanIdeal.sig) → Buf (Elt Ideal) ℓ) (c : Dev Cert.ScanIdeal.nD) (D : Data) (hD : KerFits m c D) :
    (Cert.ScanIdeal.dats m 0 c).arrAt 14 Cert.ScanIdeal.cfg0.N = second D (m ((c.tc : Thread Cert.ScanIdeal.nD Cert.ScanIdeal.τ).loc Cert.ScanIdeal.main_arg3)) :=
  arr_dk m c hD

section
open Cert.ScanReferenceIdeal Cert.ScanReferenceIdeal.Gen Cert.ScanReferenceIdeal.Value Idealize.ShloMosaic.StableHlo

variable (m : (ℓ : Loc nD τ sig) → Buf (Elt Ideal) ℓ) (c : Dev nD)

set_option maxRecDepth 65536 in
/-- The reference's first array. -/
theorem reference_first (D : Data) (hD : RefFits m c D) : finalContents condOps preI bodyI postI 4096 m c (Proc.devRef .tc main_v83)
    = first D (m ((c.tc : Thread nD τ).loc main_arg12)) (m ((c.tc : Thread nD τ).loc main_arg6)) (m ((c.tc : Thread nD τ).loc main_arg7)) := by
  refine funext fun i : Cert.ScanIdeal.S4096x1024.Idx => ?_
  have ei : i = ValueIdx.ix2 (i 0) (i 1) := by funext b; match b with | ⟨0, _⟩ => rfl | ⟨1, _⟩ => rfl
  exact (congrArg (finalContents condOps preI bodyI postI 4096 m c (Proc.devRef .tc main_v83)) ei).trans (ref_du m c hD (i 0) (i 1))

set_option maxRecDepth 65536 in
/-- The reference's second array. -/
theorem reference_second (D : Data) (hD : RefFits m c D) : finalContents condOps preI bodyI postI 4096 m c (Proc.devRef .tc main_v53)
    = second D (m ((c.tc : Thread nD τ).loc main_arg3)) := by
  refine funext fun i : Cert.ScanIdeal.S1x1024.Idx => ?_
  have ei : i = ValueIdx.ix2 0 (i 1) := by funext b; match b with | ⟨0, _⟩ => exact Subsingleton.elim (α := Fin 1) _ _ | ⟨1, _⟩ => rfl
  exact (congrArg (finalContents condOps preI bodyI postI 4096 m c (Proc.devRef .tc main_v53)) ei).trans (ref_dk m c hD (i 1))

end

set_option maxRecDepth 65536 in
/-- From equal finite arguments the kernel and the reference leave the same arrays, and keep their arguments. -/
theorem algebraic : Cert.algebraic_ScanIdeal_ScanReferenceIdeal_pre_finite := by
  intro m ρ m' ρ' hpre hagree
  have hD : ∀ c, ∃ D : Data, KerFits m c D := fun c => data_of_finite _ _ _ _ _ _ _ _ _ _ _ _ _ (hpre c)
  choose D hD using hD
  refine ⟨fun c => first (D c) (m ((c.tc : Thread Cert.ScanIdeal.nD Cert.ScanIdeal.τ).loc Cert.ScanIdeal.main_arg12)) (m ((c.tc : Thread Cert.ScanIdeal.nD Cert.ScanIdeal.τ).loc Cert.ScanIdeal.main_arg6)) (m ((c.tc : Thread Cert.ScanIdeal.nD Cert.ScanIdeal.τ).loc Cert.ScanIdeal.main_arg7)), fun c => second (D c) (m ((c.tc : Thread Cert.ScanIdeal.nD Cert.ScanIdeal.τ).loc Cert.ScanIdeal.main_arg3)), ?_, ?_⟩
  · refine (θ_run Cert.ScanIdeal.defs _ _).mono (fun r h c => ?_) (θ_run_and (Cert.ScanIdeal.run_main (F := Ideal) m ρ) (Cert.ScanIdeal.run_args (F := Ideal) m ρ))
    exact ⟨((h.1 c).1 13).trans (kernel_first m c (D c) (hD c)), ((h.1 c).1 14).trans (kernel_second m c (D c) (hD c)), h.2.1 c⟩
  · refine (θ_run Cert.ScanReferenceIdeal.defs _ _).mono (fun r h c => ?_) (θ_run_and (Cert.ScanReferenceIdeal.Value.run_fold (F := Ideal) m' ρ') (reference_args m' ρ'))
    obtain ⟨a0, a1, a2, a3, a4, a5, a6, a7, a8, a9, a10, a11, a12⟩ := hagree c
    have hR : RefFits m' c (D c) := by
      unfold RefFits
      rw [a0, a1, a2, a8, a9, a10, a11]
      exact hD c
    refine ⟨(h.1 c _ rfl).trans ((reference_first m' c (D c) hR).trans ?_), (h.1 c _ rfl).trans ((reference_second m' c (D c) hR).trans ?_), h.2 c⟩
    · rw [a12, a6, a7]
    · rw [a3]

end Cert.Proof.Scan

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InReferenceIdeal
public import proofs.«01_k».proof.Proof.Gen.FfOne
public import proofs.«01_k».proof.Proof.Gen.FfOne.Skeleton
public import proofs.«01_k».proof.Proof.Gen.FfOne.Launch
public import proofs.«01_k».proof.Proof.Gen.FfOne.Points
public import proofs.«01_k».proof.Proof.Gen.FfOne.Frame
public import proofs.«01_k».proof.Proof.Gen.FfOneIdeal
public import proofs.«01_k».proof.Proof.Gen.FfOneIdeal.Skeleton
public import proofs.«01_k».proof.Proof.Gen.FfOneIdeal.Launch
public import proofs.«01_k».proof.Proof.Gen.FfOneIdeal.Points
public import proofs.«01_k».proof.Proof.Gen.FfOneIdeal.Frame
public import proofs.«01_k».proof.Proof.Gen.FfOneReferenceIdeal
public import proofs.«01_k».proof.Proof.Gen.FfTwo
public import proofs.«01_k».proof.Proof.Gen.FfTwo.Skeleton
public import proofs.«01_k».proof.Proof.Gen.FfTwo.Launch
public import proofs.«01_k».proof.Proof.Gen.FfTwo.Points
public import proofs.«01_k».proof.Proof.Gen.FfTwo.Frame
public import proofs.«01_k».proof.Proof.Gen.FfTwoIdeal
public import proofs.«01_k».proof.Proof.Gen.FfTwoIdeal.Skeleton
public import proofs.«01_k».proof.Proof.Gen.FfTwoIdeal.Launch
public import proofs.«01_k».proof.Proof.Gen.FfTwoIdeal.Points
public import proofs.«01_k».proof.Proof.Gen.FfTwoIdeal.Frame
public import proofs.«01_k».proof.Proof.Gen.FfTwoReferenceIdeal
public import proofs.«01_k».proof.Proof.Gen.FfTwoDx
public import proofs.«01_k».proof.Proof.Gen.FfTwoDx.Skeleton
public import proofs.«01_k».proof.Proof.Gen.FfTwoDx.Launch
public import proofs.«01_k».proof.Proof.Gen.FfTwoDx.Points
public import proofs.«01_k».proof.Proof.Gen.FfTwoDx.Frame
public import proofs.«01_k».proof.Proof.Gen.FfTwoDxIdeal
public import proofs.«01_k».proof.Proof.Gen.FfTwoDxIdeal.Skeleton
public import proofs.«01_k».proof.Proof.Gen.FfTwoDxIdeal.Launch
public import proofs.«01_k».proof.Proof.Gen.FfTwoDxIdeal.Points
public import proofs.«01_k».proof.Proof.Gen.FfTwoDxIdeal.Frame
public import proofs.«01_k».proof.Proof.Gen.FfTwoDxReferenceIdeal
public import proofs.«01_k».proof.Proof.Gen.FfTwoDw
public import proofs.«01_k».proof.Proof.Gen.FfTwoDw.Skeleton
public import proofs.«01_k».proof.Proof.Gen.FfTwoDw.Launch
public import proofs.«01_k».proof.Proof.Gen.FfTwoDw.Points
public import proofs.«01_k».proof.Proof.Gen.FfTwoDw.Frame
public import proofs.«01_k».proof.Proof.Gen.FfTwoDwIdeal
public import proofs.«01_k».proof.Proof.Gen.FfTwoDwIdeal.Skeleton
public import proofs.«01_k».proof.Proof.Gen.FfTwoDwIdeal.Launch
public import proofs.«01_k».proof.Proof.Gen.FfTwoDwIdeal.Points
public import proofs.«01_k».proof.Proof.Gen.FfTwoDwIdeal.Frame
public import proofs.«01_k».proof.Proof.Gen.FfTwoDwReferenceIdeal
public import proofs.«01_k».proof.Proof.Gen.FfOneDw
public import proofs.«01_k».proof.Proof.Gen.FfOneDw.Skeleton
public import proofs.«01_k».proof.Proof.Gen.FfOneDw.Launch
public import proofs.«01_k».proof.Proof.Gen.FfOneDw.Points
public import proofs.«01_k».proof.Proof.Gen.FfOneDw.Frame
public import proofs.«01_k».proof.Proof.Gen.FfOneDwIdeal
public import proofs.«01_k».proof.Proof.Gen.FfOneDwIdeal.Skeleton
public import proofs.«01_k».proof.Proof.Gen.FfOneDwIdeal.Launch
public import proofs.«01_k».proof.Proof.Gen.FfOneDwIdeal.Points
public import proofs.«01_k».proof.Proof.Gen.FfOneDwIdeal.Frame
public import proofs.«01_k».proof.Proof.Gen.FfOneDwReferenceIdeal
public import proofs.«01_k».proof.Proof.Gen.FfOneDx
public import proofs.«01_k».proof.Proof.Gen.FfOneDx.Skeleton
public import proofs.«01_k».proof.Proof.Gen.FfOneDx.Launch
public import proofs.«01_k».proof.Proof.Gen.FfOneDx.Points
public import proofs.«01_k».proof.Proof.Gen.FfOneDx.Frame
public import proofs.«01_k».proof.Proof.Gen.FfOneDxIdeal
public import proofs.«01_k».proof.Proof.Gen.FfOneDxIdeal.Skeleton
public import proofs.«01_k».proof.Proof.Gen.FfOneDxIdeal.Launch
public import proofs.«01_k».proof.Proof.Gen.FfOneDxIdeal.Points
public import proofs.«01_k».proof.Proof.Gen.FfOneDxIdeal.Frame
public import proofs.«01_k».proof.Proof.Gen.FfOneDxReferenceIdeal
public import proofs.«01_k».proof.Proof.Gen.InDw
public import proofs.«01_k».proof.Proof.Gen.InDw.Skeleton
public import proofs.«01_k».proof.Proof.Gen.InDw.Launch
public import proofs.«01_k».proof.Proof.Gen.InDw.Points
public import proofs.«01_k».proof.Proof.Gen.InDw.Frame
public import proofs.«01_k».proof.Proof.Gen.InDwIdeal
public import proofs.«01_k».proof.Proof.Gen.InDwIdeal.Skeleton
public import proofs.«01_k».proof.Proof.Gen.InDwIdeal.Launch
public import proofs.«01_k».proof.Proof.Gen.InDwIdeal.Points
public import proofs.«01_k».proof.Proof.Gen.InDwIdeal.Frame
public import proofs.«01_k».proof.Proof.Gen.InDwReferenceIdeal
public import proofs.«01_k».proof.Proof.Gen.InDx
public import proofs.«01_k».proof.Proof.Gen.InDx.Skeleton
public import proofs.«01_k».proof.Proof.Gen.InDx.Launch
public import proofs.«01_k».proof.Proof.Gen.InDx.Points
public import proofs.«01_k».proof.Proof.Gen.InDx.Frame
public import proofs.«01_k».proof.Proof.Gen.InDxIdeal
public import proofs.«01_k».proof.Proof.Gen.InDxIdeal.Skeleton
public import proofs.«01_k».proof.Proof.Gen.InDxIdeal.Launch
public import proofs.«01_k».proof.Proof.Gen.InDxIdeal.Points
public import proofs.«01_k».proof.Proof.Gen.InDxIdeal.Frame
public import proofs.«01_k».proof.Proof.Gen.InDxReferenceIdeal
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInReferenceIdeal
public import proofs.«01_k».proof.Proof.Gen.AdamFfOne
public import proofs.«01_k».proof.Proof.Gen.AdamFfOne.Skeleton
public import proofs.«01_k».proof.Proof.Gen.AdamFfOne.Launch
public import proofs.«01_k».proof.Proof.Gen.AdamFfOne.Points
public import proofs.«01_k».proof.Proof.Gen.AdamFfOne.Frame
public import proofs.«01_k».proof.Proof.Gen.AdamFfOneIdeal
public import proofs.«01_k».proof.Proof.Gen.AdamFfOneIdeal.Skeleton
public import proofs.«01_k».proof.Proof.Gen.AdamFfOneIdeal.Launch
public import proofs.«01_k».proof.Proof.Gen.AdamFfOneIdeal.Points
public import proofs.«01_k».proof.Proof.Gen.AdamFfOneIdeal.Frame
public import proofs.«01_k».proof.Proof.Gen.AdamFfOneReferenceIdeal
public import proofs.«01_k».proof.Proof.Gen.AdamFfTwo
public import proofs.«01_k».proof.Proof.Gen.AdamFfTwo.Skeleton
public import proofs.«01_k».proof.Proof.Gen.AdamFfTwo.Launch
public import proofs.«01_k».proof.Proof.Gen.AdamFfTwo.Points
public import proofs.«01_k».proof.Proof.Gen.AdamFfTwo.Frame
public import proofs.«01_k».proof.Proof.Gen.AdamFfTwoIdeal
public import proofs.«01_k».proof.Proof.Gen.AdamFfTwoIdeal.Skeleton
public import proofs.«01_k».proof.Proof.Gen.AdamFfTwoIdeal.Launch
public import proofs.«01_k».proof.Proof.Gen.AdamFfTwoIdeal.Points
public import proofs.«01_k».proof.Proof.Gen.AdamFfTwoIdeal.Frame
public import proofs.«01_k».proof.Proof.Gen.AdamFfTwoReferenceIdeal
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutReferenceIdeal
public import proofs.«01_k».proof.Proof.Gen.AdamMix
public import proofs.«01_k».proof.Proof.Gen.AdamMix.Skeleton
public import proofs.«01_k».proof.Proof.Gen.AdamMix.Launch
public import proofs.«01_k».proof.Proof.Gen.AdamMix.Points
public import proofs.«01_k».proof.Proof.Gen.AdamMix.Frame
public import proofs.«01_k».proof.Proof.Gen.AdamMixIdeal
public import proofs.«01_k».proof.Proof.Gen.AdamMixIdeal.Skeleton
public import proofs.«01_k».proof.Proof.Gen.AdamMixIdeal.Launch
public import proofs.«01_k».proof.Proof.Gen.AdamMixIdeal.Points
public import proofs.«01_k».proof.Proof.Gen.AdamMixIdeal.Frame
public import proofs.«01_k».proof.Proof.Gen.AdamMixReferenceIdeal
public import proofs.«01_k».proof.Proof.Gen.AdamAda
public import proofs.«01_k».proof.Proof.Gen.AdamAda.Skeleton
public import proofs.«01_k».proof.Proof.Gen.AdamAda.Launch
public import proofs.«01_k».proof.Proof.Gen.AdamAda.Points
public import proofs.«01_k».proof.Proof.Gen.AdamAda.Frame
public import proofs.«01_k».proof.Proof.Gen.AdamAdaIdeal
public import proofs.«01_k».proof.Proof.Gen.AdamAdaIdeal.Skeleton
public import proofs.«01_k».proof.Proof.Gen.AdamAdaIdeal.Launch
public import proofs.«01_k».proof.Proof.Gen.AdamAdaIdeal.Points
public import proofs.«01_k».proof.Proof.Gen.AdamAdaIdeal.Frame
public import proofs.«01_k».proof.Proof.Gen.AdamAdaReferenceIdeal
public import proofs.«01_k».proof.Proof.Gen.AdamLate
public import proofs.«01_k».proof.Proof.Gen.AdamLate.Skeleton
public import proofs.«01_k».proof.Proof.Gen.AdamLate.Launch
public import proofs.«01_k».proof.Proof.Gen.AdamLate.Points
public import proofs.«01_k».proof.Proof.Gen.AdamLate.Frame
public import proofs.«01_k».proof.Proof.Gen.AdamLateIdeal
public import proofs.«01_k».proof.Proof.Gen.AdamLateIdeal.Skeleton
public import proofs.«01_k».proof.Proof.Gen.AdamLateIdeal.Launch
public import proofs.«01_k».proof.Proof.Gen.AdamLateIdeal.Points
public import proofs.«01_k».proof.Proof.Gen.AdamLateIdeal.Frame
public import proofs.«01_k».proof.Proof.Gen.AdamLateReferenceIdeal
public import proofs.«01_k».proof.Proof.Gen.ScanIdeal
public import proofs.«01_k».proof.Proof.Gen.ScanIdeal.Skeleton
public import proofs.«01_k».proof.Proof.Gen.ScanIdeal.Loops
public import proofs.«01_k».proof.Proof.Gen.ScanIdeal.Launch
public import proofs.«01_k».proof.Proof.Gen.ScanIdeal.Points
public import proofs.«01_k».proof.Proof.Gen.ScanIdeal.Frame
public import proofs.«01_k».proof.Proof.Gen.ScanReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.InIdeal.Value
public import proofs.«01_k».proof.Proof.Gen.InReferenceIdeal.Run
public import proofs.«01_k».proof.Proof.Gen.InReferenceIdeal.Read
public import proofs.«01_k».proof.Proof.Gen.FfOneIdeal.Value
public import proofs.«01_k».proof.Proof.Gen.FfOneReferenceIdeal.Run
public import proofs.«01_k».proof.Proof.Gen.FfOneReferenceIdeal.Read
public import proofs.«01_k».proof.Proof.Gen.FfTwoIdeal.Value
public import proofs.«01_k».proof.Proof.Gen.FfTwoReferenceIdeal.Run
public import proofs.«01_k».proof.Proof.Gen.FfTwoReferenceIdeal.Read
public import proofs.«01_k».proof.Proof.Gen.FfTwoDxIdeal.Value
public import proofs.«01_k».proof.Proof.Gen.FfTwoDxReferenceIdeal.Run
public import proofs.«01_k».proof.Proof.Gen.FfTwoDxReferenceIdeal.Read
public import proofs.«01_k».proof.Proof.Gen.FfTwoDwIdeal.Value
public import proofs.«01_k».proof.Proof.Gen.FfTwoDwReferenceIdeal.Run
public import proofs.«01_k».proof.Proof.Gen.FfTwoDwReferenceIdeal.Read
public import proofs.«01_k».proof.Proof.Gen.FfOneDwIdeal.Value
public import proofs.«01_k».proof.Proof.Gen.FfOneDwReferenceIdeal.Run
public import proofs.«01_k».proof.Proof.Gen.FfOneDwReferenceIdeal.Read
public import proofs.«01_k».proof.Proof.Gen.FfOneDxIdeal.Value
public import proofs.«01_k».proof.Proof.Gen.FfOneDxReferenceIdeal.Run
public import proofs.«01_k».proof.Proof.Gen.FfOneDxReferenceIdeal.Read
public import proofs.«01_k».proof.Proof.Gen.InDwIdeal.Value
public import proofs.«01_k».proof.Proof.Gen.InDwReferenceIdeal.Run
public import proofs.«01_k».proof.Proof.Gen.InDwReferenceIdeal.Read
public import proofs.«01_k».proof.Proof.Gen.InDxIdeal.Value
public import proofs.«01_k».proof.Proof.Gen.InDxReferenceIdeal.Run
public import proofs.«01_k».proof.Proof.Gen.InDxReferenceIdeal.Read
public import proofs.«01_k».proof.Proof.Gen.AdamInIdeal.Value
public import proofs.«01_k».proof.Proof.Gen.AdamInReferenceIdeal.Run
public import proofs.«01_k».proof.Proof.Gen.AdamInReferenceIdeal.Read
public import proofs.«01_k».proof.Proof.Gen.AdamFfOneIdeal.Value
public import proofs.«01_k».proof.Proof.Gen.AdamFfOneReferenceIdeal.Run
public import proofs.«01_k».proof.Proof.Gen.AdamFfOneReferenceIdeal.Read
public import proofs.«01_k».proof.Proof.Gen.AdamFfTwoIdeal.Value
public import proofs.«01_k».proof.Proof.Gen.AdamFfTwoReferenceIdeal.Run
public import proofs.«01_k».proof.Proof.Gen.AdamFfTwoReferenceIdeal.Read
public import proofs.«01_k».proof.Proof.Gen.AdamOutIdeal.Value
public import proofs.«01_k».proof.Proof.Gen.AdamOutReferenceIdeal.Run
public import proofs.«01_k».proof.Proof.Gen.AdamOutReferenceIdeal.Read
public import proofs.«01_k».proof.Proof.Gen.AdamMixIdeal.Value
public import proofs.«01_k».proof.Proof.Gen.AdamMixReferenceIdeal.Run
public import proofs.«01_k».proof.Proof.Gen.AdamMixReferenceIdeal.Read
public import proofs.«01_k».proof.Proof.Gen.AdamAdaIdeal.Value
public import proofs.«01_k».proof.Proof.Gen.AdamAdaReferenceIdeal.Run
public import proofs.«01_k».proof.Proof.Gen.AdamAdaReferenceIdeal.Read
public import proofs.«01_k».proof.Proof.Gen.AdamLateIdeal.Value
public import proofs.«01_k».proof.Proof.Gen.AdamLateReferenceIdeal.Run
public import proofs.«01_k».proof.Proof.Gen.AdamLateReferenceIdeal.Read
public import proofs.«01_k».proof.Proof.Gen.ScanReferenceIdeal.Run
public import proofs.«01_k».proof.Proof.MergeClaim
public import proofs.«01_k».proof.Proof.InProduct
public import proofs.«01_k».proof.Proof.FfOneProduct
public import proofs.«01_k».proof.Proof.FfTwoProduct
public import proofs.«01_k».proof.Proof.FfTwoDxProduct
public import proofs.«01_k».proof.Proof.FfTwoDwProduct
public import proofs.«01_k».proof.Proof.FfOneDwProduct
public import proofs.«01_k».proof.Proof.FfOneDxProduct
public import proofs.«01_k».proof.Proof.InDwProduct
public import proofs.«01_k».proof.Proof.InDxProduct
public import proofs.«01_k».proof.Proof.AdamInClaim
public import proofs.«01_k».proof.Proof.AdamFfOneClaim
public import proofs.«01_k».proof.Proof.AdamFfTwoClaim
public import proofs.«01_k».proof.Proof.AdamOutClaim
public import proofs.«01_k».proof.Proof.AdamMixClaim
public import proofs.«01_k».proof.Proof.AdamAdaClaim
public import proofs.«01_k».proof.Proof.AdamLateClaim
public import proofs.«01_k».proof.Proof.ScanClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.In.Gen.facts, Cert.InIdeal.Gen.facts, Cert.InReferenceIdeal.Gen.facts, Cert.FfOne.Gen.facts, Cert.FfOneIdeal.Gen.facts, Cert.FfOneReferenceIdeal.Gen.facts, Cert.FfTwo.Gen.facts, Cert.FfTwoIdeal.Gen.facts, Cert.FfTwoReferenceIdeal.Gen.facts, Cert.FfTwoDx.Gen.facts, Cert.FfTwoDxIdeal.Gen.facts, Cert.FfTwoDxReferenceIdeal.Gen.facts, Cert.FfTwoDw.Gen.facts, Cert.FfTwoDwIdeal.Gen.facts, Cert.FfTwoDwReferenceIdeal.Gen.facts, Cert.FfOneDw.Gen.facts, Cert.FfOneDwIdeal.Gen.facts, Cert.FfOneDwReferenceIdeal.Gen.facts, Cert.FfOneDx.Gen.facts, Cert.FfOneDxIdeal.Gen.facts, Cert.FfOneDxReferenceIdeal.Gen.facts, Cert.InDw.Gen.facts, Cert.InDwIdeal.Gen.facts, Cert.InDwReferenceIdeal.Gen.facts, Cert.InDx.Gen.facts, Cert.InDxIdeal.Gen.facts, Cert.InDxReferenceIdeal.Gen.facts, Cert.AdamIn.Gen.facts, Cert.AdamInIdeal.Gen.facts, Cert.AdamInReferenceIdeal.Gen.facts, Cert.AdamFfOne.Gen.facts, Cert.AdamFfOneIdeal.Gen.facts, Cert.AdamFfOneReferenceIdeal.Gen.facts, Cert.AdamFfTwo.Gen.facts, Cert.AdamFfTwoIdeal.Gen.facts, Cert.AdamFfTwoReferenceIdeal.Gen.facts, Cert.AdamOut.Gen.facts, Cert.AdamOutIdeal.Gen.facts, Cert.AdamOutReferenceIdeal.Gen.facts, Cert.AdamMix.Gen.facts, Cert.AdamMixIdeal.Gen.facts, Cert.AdamMixReferenceIdeal.Gen.facts, Cert.AdamAda.Gen.facts, Cert.AdamAdaIdeal.Gen.facts, Cert.AdamAdaReferenceIdeal.Gen.facts, Cert.AdamLate.Gen.facts, Cert.AdamLateIdeal.Gen.facts, Cert.AdamLateReferenceIdeal.Gen.facts, Cert.ScanIdeal.Gen.facts, Cert.ScanReferenceIdeal.Gen.facts, Cert.Pre_finite.Gen.facts,
  fun m ρ _ => Cert.Kernel.Gen.frame m ρ,
  fun m ρ _ => Cert.KernelIdeal.Gen.frame m ρ,
  Merge.frame_reference,
  fun m ρ _ => Cert.In.Gen.frame m ρ,
  fun m ρ _ => Cert.InIdeal.Gen.frame m ρ,
  In.frame_reference,
  fun m ρ _ => Cert.FfOne.Gen.frame m ρ,
  fun m ρ _ => Cert.FfOneIdeal.Gen.frame m ρ,
  FfOne.frame_reference,
  fun m ρ _ => Cert.FfTwo.Gen.frame m ρ,
  fun m ρ _ => Cert.FfTwoIdeal.Gen.frame m ρ,
  FfTwo.frame_reference,
  fun m ρ _ => Cert.FfTwoDx.Gen.frame m ρ,
  fun m ρ _ => Cert.FfTwoDxIdeal.Gen.frame m ρ,
  FfTwoDx.frame_reference,
  fun m ρ _ => Cert.FfTwoDw.Gen.frame m ρ,
  fun m ρ _ => Cert.FfTwoDwIdeal.Gen.frame m ρ,
  FfTwoDw.frame_reference,
  fun m ρ _ => Cert.FfOneDw.Gen.frame m ρ,
  fun m ρ _ => Cert.FfOneDwIdeal.Gen.frame m ρ,
  FfOneDw.frame_reference,
  fun m ρ _ => Cert.FfOneDx.Gen.frame m ρ,
  fun m ρ _ => Cert.FfOneDxIdeal.Gen.frame m ρ,
  FfOneDx.frame_reference,
  fun m ρ _ => Cert.InDw.Gen.frame m ρ,
  fun m ρ _ => Cert.InDwIdeal.Gen.frame m ρ,
  InDw.frame_reference,
  fun m ρ _ => Cert.InDx.Gen.frame m ρ,
  fun m ρ _ => Cert.InDxIdeal.Gen.frame m ρ,
  InDx.frame_reference,
  fun m ρ _ => Cert.AdamIn.Gen.frame m ρ,
  fun m ρ _ => Cert.AdamInIdeal.Gen.frame m ρ,
  AdamIn.frame_reference,
  fun m ρ _ => Cert.AdamFfOne.Gen.frame m ρ,
  fun m ρ _ => Cert.AdamFfOneIdeal.Gen.frame m ρ,
  AdamFfOne.frame_reference,
  fun m ρ _ => Cert.AdamFfTwo.Gen.frame m ρ,
  fun m ρ _ => Cert.AdamFfTwoIdeal.Gen.frame m ρ,
  AdamFfTwo.frame_reference,
  fun m ρ _ => Cert.AdamOut.Gen.frame m ρ,
  fun m ρ _ => Cert.AdamOutIdeal.Gen.frame m ρ,
  AdamOut.frame_reference,
  fun m ρ _ => Cert.AdamMix.Gen.frame m ρ,
  fun m ρ _ => Cert.AdamMixIdeal.Gen.frame m ρ,
  AdamMix.frame_reference,
  fun m ρ _ => Cert.AdamAda.Gen.frame m ρ,
  fun m ρ _ => Cert.AdamAdaIdeal.Gen.frame m ρ,
  AdamAda.frame_reference,
  fun m ρ _ => Cert.AdamLate.Gen.frame m ρ,
  fun m ρ _ => Cert.AdamLateIdeal.Gen.frame m ρ,
  AdamLate.frame_reference,
  Scan.frame_ideal,
  Scan.frame_ideal_finite,
  Scan.frame_reference,
  Scan.frame_reference_finite,
  trivial,
  Merge.algebraic,
  trivial,
  In.algebraic,
  trivial,
  FfOne.algebraic,
  trivial,
  FfTwo.algebraic,
  trivial,
  FfTwoDx.algebraic,
  trivial,
  FfTwoDw.algebraic,
  trivial,
  FfOneDw.algebraic,
  trivial,
  FfOneDx.algebraic,
  trivial,
  InDw.algebraic,
  trivial,
  InDx.algebraic,
  trivial,
  AdamIn.algebraic,
  trivial,
  AdamFfOne.algebraic,
  trivial,
  AdamFfTwo.algebraic,
  trivial,
  AdamOut.algebraic,
  trivial,
  AdamMix.algebraic,
  trivial,
  AdamAda.algebraic,
  trivial,
  AdamLate.algebraic,
  Scan.algebraic⟩

end Cert.Proof

end
